-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_flash_inputs [hPre_flash_inputs : Cert.Pre_flash_inputs.Facts] (m : (ℓ : Loc Cert.FlashIdeal.nD Cert.FlashIdeal.τ Cert.FlashIdeal.sig) → Buf (Elt Ideal) ℓ) : Prop :=
  ∀ c : Dev Cert.FlashIdeal.nD,
    (Cert.Pre_flash_inputs.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))).1 = (fun _ => 1#1)
    ∧ (Cert.Pre_flash_inputs.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))).2.1 = (fun _ => 1#1)
    ∧ (Cert.Pre_flash_inputs.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))).2.2 = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_flash_inputs [hPre_flash_inputs : Cert.Pre_flash_inputs.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_flash_inputs.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))).1 = (fun _ => 1#1)
    ∧ (Cert.Pre_flash_inputs.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))).2.1 = (fun _ => 1#1)
    ∧ (Cert.Pre_flash_inputs.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))).2.2 = (fun _ => 1#1)

def Pre_FfnPlain (m : (ℓ : Loc Cert.FfnPlain.nD Cert.FfnPlain.τ Cert.FfnPlain.sig) → Buf (Elt Bits) ℓ) : Prop :=
  True

def Pre_FfnPlainIdeal (m : (ℓ : Loc Cert.FfnPlainIdeal.nD Cert.FfnPlainIdeal.τ Cert.FfnPlainIdeal.sig) → Buf (Elt Ideal) ℓ) : Prop :=
  True

def Pre_FfnPlainRefIdeal (m : (ℓ : Loc Cert.FfnPlainRefIdeal.nD Cert.FfnPlainRefIdeal.τ Cert.FfnPlainRefIdeal.sig) → Buf (Elt Ideal) ℓ) : Prop :=
  True

def Pre_FfnAttn (m : (ℓ : Loc Cert.FfnAttn.nD Cert.FfnAttn.τ Cert.FfnAttn.sig) → Buf (Elt Bits) ℓ) : Prop :=
  True

def Pre_FfnAttnIdeal (m : (ℓ : Loc Cert.FfnAttnIdeal.nD Cert.FfnAttnIdeal.τ Cert.FfnAttnIdeal.sig) → Buf (Elt Ideal) ℓ) : Prop :=
  True

def Pre_FfnAttnRefIdeal (m : (ℓ : Loc Cert.FfnAttnRefIdeal.nD Cert.FfnAttnRefIdeal.τ Cert.FfnAttnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_inputs [hPre_proj_inputs : Cert.Pre_proj_inputs.Facts] (m : (ℓ : Loc Cert.ProjIdeal.nD Cert.ProjIdeal.τ Cert.ProjIdeal.sig) → Buf (Elt Ideal) ℓ) : Prop :=
  ∀ c : Dev Cert.ProjIdeal.nD,
    (Cert.Pre_proj_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).1 = (fun _ => 1#1)
    ∧ (Cert.Pre_proj_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2.1 = (fun _ => 1#1)
    ∧ (Cert.Pre_proj_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2.2.1 = (fun _ => 1#1)
    ∧ (Cert.Pre_proj_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2.2.2.1 = (fun _ => 1#1)
    ∧ (Cert.Pre_proj_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2.2.2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_inputs [hPre_proj_inputs : Cert.Pre_proj_inputs.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).1 = (fun _ => 1#1)
    ∧ (Cert.Pre_proj_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.1 = (fun _ => 1#1)
    ∧ (Cert.Pre_proj_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.2.1 = (fun _ => 1#1)
    ∧ (Cert.Pre_proj_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.2.2.1 = (fun _ => 1#1)
    ∧ (Cert.Pre_proj_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.2.2.2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_flash_inputs [hFlashIdeal : Cert.FlashIdeal.Facts] [hPre_flash_inputs : Cert.Pre_flash_inputs.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_flash_inputs m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_FlashRefIdeal_pre_flash_inputs [hFlashRefIdeal : Cert.FlashRefIdeal.Facts] [hPre_flash_inputs : Cert.Pre_flash_inputs.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_flash_inputs m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_FfnPlain [hFfnPlain : Cert.FfnPlain.Facts] : Prop :=
  ∀ (m : (ℓ : Loc Cert.FfnPlain.nD Cert.FfnPlain.τ Cert.FfnPlain.sig) → Buf (Elt Bits) ℓ) (g : Dev Cert.FfnPlain.nD → PrngReg), Pre_FfnPlain m →
    θ_run (Cert.FfnPlain.defs (F := Bits)) (onTc (τ := Cert.FfnPlain.τ) (Cert.FfnPlain.main (F := Bits))) ⟨m, fun _ => 0, g⟩ (fun r => (∀ c : Dev Cert.FfnPlain.nD,
      r.2.mem ((c.tc : Thread Cert.FfnPlain.nD Cert.FfnPlain.τ).loc Cert.FfnPlain.main_arg0) = m ((c.tc : Thread Cert.FfnPlain.nD Cert.FfnPlain.τ).loc Cert.FfnPlain.main_arg0)
      ∧ r.2.mem ((c.tc : Thread Cert.FfnPlain.nD Cert.FfnPlain.τ).loc Cert.FfnPlain.main_arg1) = m ((c.tc : Thread Cert.FfnPlain.nD Cert.FfnPlain.τ).loc Cert.FfnPlain.main_arg1)
      ∧ r.2.mem ((c.tc : Thread Cert.FfnPlain.nD Cert.FfnPlain.τ).loc Cert.FfnPlain.main_arg2) = m ((c.tc : Thread Cert.FfnPlain.nD Cert.FfnPlain.τ).loc Cert.FfnPlain.main_arg2)
      ∧ r.2.mem ((c.tc : Thread Cert.FfnPlain.nD Cert.FfnPlain.τ).loc Cert.FfnPlain.main_arg3) = m ((c.tc : Thread Cert.FfnPlain.nD Cert.FfnPlain.τ).loc Cert.FfnPlain.main_arg3)
      ∧ r.2.mem ((c.tc : Thread Cert.FfnPlain.nD Cert.FfnPlain.τ).loc Cert.FfnPlain.main_arg4) = m ((c.tc : Thread Cert.FfnPlain.nD Cert.FfnPlain.τ).loc Cert.FfnPlain.main_arg4))
      ∧ r.2.sem = fun _ => 0)

def quiescent_FfnPlainIdeal [hFfnPlainIdeal : Cert.FfnPlainIdeal.Facts] : Prop :=
  ∀ (m : (ℓ : Loc Cert.FfnPlainIdeal.nD Cert.FfnPlainIdeal.τ Cert.FfnPlainIdeal.sig) → Buf (Elt Ideal) ℓ) (g : Dev Cert.FfnPlainIdeal.nD → PrngReg), Pre_FfnPlainIdeal m →
    θ_run (Cert.FfnPlainIdeal.defs (F := Ideal)) (onTc (τ := Cert.FfnPlainIdeal.τ) (Cert.FfnPlainIdeal.main (F := Ideal))) ⟨m, fun _ => 0, g⟩ (fun r => (∀ c : Dev Cert.FfnPlainIdeal.nD,
      r.2.mem ((c.tc : Thread Cert.FfnPlainIdeal.nD Cert.FfnPlainIdeal.τ).loc Cert.FfnPlainIdeal.main_arg0) = m ((c.tc : Thread Cert.FfnPlainIdeal.nD Cert.FfnPlainIdeal.τ).loc Cert.FfnPlainIdeal.main_arg0)
      ∧ r.2.mem ((c.tc : Thread Cert.FfnPlainIdeal.nD Cert.FfnPlainIdeal.τ).loc Cert.FfnPlainIdeal.main_arg1) = m ((c.tc : Thread Cert.FfnPlainIdeal.nD Cert.FfnPlainIdeal.τ).loc Cert.FfnPlainIdeal.main_arg1)
      ∧ r.2.mem ((c.tc : Thread Cert.FfnPlainIdeal.nD Cert.FfnPlainIdeal.τ).loc Cert.FfnPlainIdeal.main_arg2) = m ((c.tc : Thread Cert.FfnPlainIdeal.nD Cert.FfnPlainIdeal.τ).loc Cert.FfnPlainIdeal.main_arg2)
      ∧ r.2.mem ((c.tc : Thread Cert.FfnPlainIdeal.nD Cert.FfnPlainIdeal.τ).loc Cert.FfnPlainIdeal.main_arg3) = m ((c.tc : Thread Cert.FfnPlainIdeal.nD Cert.FfnPlainIdeal.τ).loc Cert.FfnPlainIdeal.main_arg3)
      ∧ r.2.mem ((c.tc : Thread Cert.FfnPlainIdeal.nD Cert.FfnPlainIdeal.τ).loc Cert.FfnPlainIdeal.main_arg4) = m ((c.tc : Thread Cert.FfnPlainIdeal.nD Cert.FfnPlainIdeal.τ).loc Cert.FfnPlainIdeal.main_arg4))
      ∧ r.2.sem = fun _ => 0)

def quiescent_FfnPlainRefIdeal [hFfnPlainRefIdeal : Cert.FfnPlainRefIdeal.Facts] : Prop :=
  ∀ (m : (ℓ : Loc Cert.FfnPlainRefIdeal.nD Cert.FfnPlainRefIdeal.τ Cert.FfnPlainRefIdeal.sig) → Buf (Elt Ideal) ℓ) (g : Dev Cert.FfnPlainRefIdeal.nD → PrngReg), Pre_FfnPlainRefIdeal m →
    θ_run (Cert.FfnPlainRefIdeal.defs (F := Ideal)) (onTc (τ := Cert.FfnPlainRefIdeal.τ) (Cert.FfnPlainRefIdeal.main (F := Ideal))) ⟨m, fun _ => 0, g⟩ (fun r => (∀ c : Dev Cert.FfnPlainRefIdeal.nD,
      r.2.mem ((c.tc : Thread Cert.FfnPlainRefIdeal.nD Cert.FfnPlainRefIdeal.τ).loc Cert.FfnPlainRefIdeal.main_arg0) = m ((c.tc : Thread Cert.FfnPlainRefIdeal.nD Cert.FfnPlainRefIdeal.τ).loc Cert.FfnPlainRefIdeal.main_arg0)
      ∧ r.2.mem ((c.tc : Thread Cert.FfnPlainRefIdeal.nD Cert.FfnPlainRefIdeal.τ).loc Cert.FfnPlainRefIdeal.main_arg1) = m ((c.tc : Thread Cert.FfnPlainRefIdeal.nD Cert.FfnPlainRefIdeal.τ).loc Cert.FfnPlainRefIdeal.main_arg1)
      ∧ r.2.mem ((c.tc : Thread Cert.FfnPlainRefIdeal.nD Cert.FfnPlainRefIdeal.τ).loc Cert.FfnPlainRefIdeal.main_arg2) = m ((c.tc : Thread Cert.FfnPlainRefIdeal.nD Cert.FfnPlainRefIdeal.τ).loc Cert.FfnPlainRefIdeal.main_arg2)
      ∧ r.2.mem ((c.tc : Thread Cert.FfnPlainRefIdeal.nD Cert.FfnPlainRefIdeal.τ).loc Cert.FfnPlainRefIdeal.main_arg3) = m ((c.tc : Thread Cert.FfnPlainRefIdeal.nD Cert.FfnPlainRefIdeal.τ).loc Cert.FfnPlainRefIdeal.main_arg3)
      ∧ r.2.mem ((c.tc : Thread Cert.FfnPlainRefIdeal.nD Cert.FfnPlainRefIdeal.τ).loc Cert.FfnPlainRefIdeal.main_arg4) = m ((c.tc : Thread Cert.FfnPlainRefIdeal.nD Cert.FfnPlainRefIdeal.τ).loc Cert.FfnPlainRefIdeal.main_arg4))
      ∧ r.2.sem = fun _ => 0)

def quiescent_FfnAttn [hFfnAttn : Cert.FfnAttn.Facts] : Prop :=
  ∀ (m : (ℓ : Loc Cert.FfnAttn.nD Cert.FfnAttn.τ Cert.FfnAttn.sig) → Buf (Elt Bits) ℓ) (g : Dev Cert.FfnAttn.nD → PrngReg), Pre_FfnAttn m →
    θ_run (Cert.FfnAttn.defs (F := Bits)) (onTc (τ := Cert.FfnAttn.τ) (Cert.FfnAttn.main (F := Bits))) ⟨m, fun _ => 0, g⟩ (fun r => (∀ c : Dev Cert.FfnAttn.nD,
      r.2.mem ((c.tc : Thread Cert.FfnAttn.nD Cert.FfnAttn.τ).loc Cert.FfnAttn.main_arg0) = m ((c.tc : Thread Cert.FfnAttn.nD Cert.FfnAttn.τ).loc Cert.FfnAttn.main_arg0)
      ∧ r.2.mem ((c.tc : Thread Cert.FfnAttn.nD Cert.FfnAttn.τ).loc Cert.FfnAttn.main_arg1) = m ((c.tc : Thread Cert.FfnAttn.nD Cert.FfnAttn.τ).loc Cert.FfnAttn.main_arg1)
      ∧ r.2.mem ((c.tc : Thread Cert.FfnAttn.nD Cert.FfnAttn.τ).loc Cert.FfnAttn.main_arg2) = m ((c.tc : Thread Cert.FfnAttn.nD Cert.FfnAttn.τ).loc Cert.FfnAttn.main_arg2)
      ∧ r.2.mem ((c.tc : Thread Cert.FfnAttn.nD Cert.FfnAttn.τ).loc Cert.FfnAttn.main_arg3) = m ((c.tc : Thread Cert.FfnAttn.nD Cert.FfnAttn.τ).loc Cert.FfnAttn.main_arg3)
      ∧ r.2.mem ((c.tc : Thread Cert.FfnAttn.nD Cert.FfnAttn.τ).loc Cert.FfnAttn.main_arg4) = m ((c.tc : Thread Cert.FfnAttn.nD Cert.FfnAttn.τ).loc Cert.FfnAttn.main_arg4)
      ∧ r.2.mem ((c.tc : Thread Cert.FfnAttn.nD Cert.FfnAttn.τ).loc Cert.FfnAttn.main_arg5) = m ((c.tc : Thread Cert.FfnAttn.nD Cert.FfnAttn.τ).loc Cert.FfnAttn.main_arg5)
      ∧ r.2.mem ((c.tc : Thread Cert.FfnAttn.nD Cert.FfnAttn.τ).loc Cert.FfnAttn.main_arg6) = m ((c.tc : Thread Cert.FfnAttn.nD Cert.FfnAttn.τ).loc Cert.FfnAttn.main_arg6))
      ∧ r.2.sem = fun _ => 0)

def quiescent_FfnAttnIdeal [hFfnAttnIdeal : Cert.FfnAttnIdeal.Facts] : Prop :=
  ∀ (m : (ℓ : Loc Cert.FfnAttnIdeal.nD Cert.FfnAttnIdeal.τ Cert.FfnAttnIdeal.sig) → Buf (Elt Ideal) ℓ) (g : Dev Cert.FfnAttnIdeal.nD → PrngReg), Pre_FfnAttnIdeal m →
    θ_run (Cert.FfnAttnIdeal.defs (F := Ideal)) (onTc (τ := Cert.FfnAttnIdeal.τ) (Cert.FfnAttnIdeal.main (F := Ideal))) ⟨m, fun _ => 0, g⟩ (fun r => (∀ c : Dev Cert.FfnAttnIdeal.nD,
      r.2.mem ((c.tc : Thread Cert.FfnAttnIdeal.nD Cert.FfnAttnIdeal.τ).loc Cert.FfnAttnIdeal.main_arg0) = m ((c.tc : Thread Cert.FfnAttnIdeal.nD Cert.FfnAttnIdeal.τ).loc Cert.FfnAttnIdeal.main_arg0)
      ∧ r.2.mem ((c.tc : Thread Cert.FfnAttnIdeal.nD Cert.FfnAttnIdeal.τ).loc Cert.FfnAttnIdeal.main_arg1) = m ((c.tc : Thread Cert.FfnAttnIdeal.nD Cert.FfnAttnIdeal.τ).loc Cert.FfnAttnIdeal.main_arg1)
      ∧ r.2.mem ((c.tc : Thread Cert.FfnAttnIdeal.nD Cert.FfnAttnIdeal.τ).loc Cert.FfnAttnIdeal.main_arg2) = m ((c.tc : Thread Cert.FfnAttnIdeal.nD Cert.FfnAttnIdeal.τ).loc Cert.FfnAttnIdeal.main_arg2)
      ∧ r.2.mem ((c.tc : Thread Cert.FfnAttnIdeal.nD Cert.FfnAttnIdeal.τ).loc Cert.FfnAttnIdeal.main_arg3) = m ((c.tc : Thread Cert.FfnAttnIdeal.nD Cert.FfnAttnIdeal.τ).loc Cert.FfnAttnIdeal.main_arg3)
      ∧ r.2.mem ((c.tc : Thread Cert.FfnAttnIdeal.nD Cert.FfnAttnIdeal.τ).loc Cert.FfnAttnIdeal.main_arg4) = m ((c.tc : Thread Cert.FfnAttnIdeal.nD Cert.FfnAttnIdeal.τ).loc Cert.FfnAttnIdeal.main_arg4)
      ∧ r.2.mem ((c.tc : Thread Cert.FfnAttnIdeal.nD Cert.FfnAttnIdeal.τ).loc Cert.FfnAttnIdeal.main_arg5) = m ((c.tc : Thread Cert.FfnAttnIdeal.nD Cert.FfnAttnIdeal.τ).loc Cert.FfnAttnIdeal.main_arg5)
      ∧ r.2.mem ((c.tc : Thread Cert.FfnAttnIdeal.nD Cert.FfnAttnIdeal.τ).loc Cert.FfnAttnIdeal.main_arg6) = m ((c.tc : Thread Cert.FfnAttnIdeal.nD Cert.FfnAttnIdeal.τ).loc Cert.FfnAttnIdeal.main_arg6))
      ∧ r.2.sem = fun _ => 0)

def quiescent_FfnAttnRefIdeal [hFfnAttnRefIdeal : Cert.FfnAttnRefIdeal.Facts] : Prop :=
  ∀ (m : (ℓ : Loc Cert.FfnAttnRefIdeal.nD Cert.FfnAttnRefIdeal.τ Cert.FfnAttnRefIdeal.sig) → Buf (Elt Ideal) ℓ) (g : Dev Cert.FfnAttnRefIdeal.nD → PrngReg), Pre_FfnAttnRefIdeal m →
    θ_run (Cert.FfnAttnRefIdeal.defs (F := Ideal)) (onTc (τ := Cert.FfnAttnRefIdeal.τ) (Cert.FfnAttnRefIdeal.main (F := Ideal))) ⟨m, fun _ => 0, g⟩ (fun r => (∀ c : Dev Cert.FfnAttnRefIdeal.nD,
      r.2.mem ((c.tc : Thread Cert.FfnAttnRefIdeal.nD Cert.FfnAttnRefIdeal.τ).loc Cert.FfnAttnRefIdeal.main_arg0) = m ((c.tc : Thread Cert.FfnAttnRefIdeal.nD Cert.FfnAttnRefIdeal.τ).loc Cert.FfnAttnRefIdeal.main_arg0)
      ∧ r.2.mem ((c.tc : Thread Cert.FfnAttnRefIdeal.nD Cert.FfnAttnRefIdeal.τ).loc Cert.FfnAttnRefIdeal.main_arg1) = m ((c.tc : Thread Cert.FfnAttnRefIdeal.nD Cert.FfnAttnRefIdeal.τ).loc Cert.FfnAttnRefIdeal.main_arg1)
      ∧ r.2.mem ((c.tc : Thread Cert.FfnAttnRefIdeal.nD Cert.FfnAttnRefIdeal.τ).loc Cert.FfnAttnRefIdeal.main_arg2) = m ((c.tc : Thread Cert.FfnAttnRefIdeal.nD Cert.FfnAttnRefIdeal.τ).loc Cert.FfnAttnRefIdeal.main_arg2)
      ∧ r.2.mem ((c.tc : Thread Cert.FfnAttnRefIdeal.nD Cert.FfnAttnRefIdeal.τ).loc Cert.FfnAttnRefIdeal.main_arg3) = m ((c.tc : Thread Cert.FfnAttnRefIdeal.nD Cert.FfnAttnRefIdeal.τ).loc Cert.FfnAttnRefIdeal.main_arg3)
      ∧ r.2.mem ((c.tc : Thread Cert.FfnAttnRefIdeal.nD Cert.FfnAttnRefIdeal.τ).loc Cert.FfnAttnRefIdeal.main_arg4) = m ((c.tc : Thread Cert.FfnAttnRefIdeal.nD Cert.FfnAttnRefIdeal.τ).loc Cert.FfnAttnRefIdeal.main_arg4)
      ∧ r.2.mem ((c.tc : Thread Cert.FfnAttnRefIdeal.nD Cert.FfnAttnRefIdeal.τ).loc Cert.FfnAttnRefIdeal.main_arg5) = m ((c.tc : Thread Cert.FfnAttnRefIdeal.nD Cert.FfnAttnRefIdeal.τ).loc Cert.FfnAttnRefIdeal.main_arg5)
      ∧ r.2.mem ((c.tc : Thread Cert.FfnAttnRefIdeal.nD Cert.FfnAttnRefIdeal.τ).loc Cert.FfnAttnRefIdeal.main_arg6) = m ((c.tc : Thread Cert.FfnAttnRefIdeal.nD Cert.FfnAttnRefIdeal.τ).loc Cert.FfnAttnRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_proj_inputs [hProjIdeal : Cert.ProjIdeal.Facts] [hPre_proj_inputs : Cert.Pre_proj_inputs.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_inputs m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_proj_inputs [hProjRefIdeal : Cert.ProjRefIdeal.Facts] [hPre_proj_inputs : Cert.Pre_proj_inputs.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_inputs m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Flash_FlashIdeal : Prop :=
  True

def algebraic_FlashIdeal_FlashRefIdeal_pre_flash_inputs [hFlashIdeal : Cert.FlashIdeal.Facts] [hFlashRefIdeal : Cert.FlashRefIdeal.Facts] [hPre_flash_inputs : Cert.Pre_flash_inputs.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_flash_inputs m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v0)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v0) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v26) = v0 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2))

def preserves_FfnPlain_FfnPlainIdeal : Prop :=
  True

def algebraic_FfnPlainIdeal_FfnPlainRefIdeal [hFfnPlainIdeal : Cert.FfnPlainIdeal.Facts] [hFfnPlainRefIdeal : Cert.FfnPlainRefIdeal.Facts] : Prop :=
  ∀ (m : (ℓ : Loc Cert.FfnPlainIdeal.nD Cert.FfnPlainIdeal.τ Cert.FfnPlainIdeal.sig) → Buf (Elt Ideal) ℓ) (g : Dev Cert.FfnPlainIdeal.nD → PrngReg)
    (m' : (ℓ : Loc Cert.FfnPlainRefIdeal.nD Cert.FfnPlainRefIdeal.τ Cert.FfnPlainRefIdeal.sig) → Buf (Elt Ideal) ℓ) (g' : Dev Cert.FfnPlainRefIdeal.nD → PrngReg), Pre_FfnPlainIdeal m →
    (∀ c : Dev Cert.FfnPlainIdeal.nD,
      m' ((c.tc : Thread Cert.FfnPlainRefIdeal.nD Cert.FfnPlainRefIdeal.τ).loc Cert.FfnPlainRefIdeal.main_arg0) = m ((c.tc : Thread Cert.FfnPlainIdeal.nD Cert.FfnPlainIdeal.τ).loc Cert.FfnPlainIdeal.main_arg0)
      ∧ m' ((c.tc : Thread Cert.FfnPlainRefIdeal.nD Cert.FfnPlainRefIdeal.τ).loc Cert.FfnPlainRefIdeal.main_arg1) = m ((c.tc : Thread Cert.FfnPlainIdeal.nD Cert.FfnPlainIdeal.τ).loc Cert.FfnPlainIdeal.main_arg1)
      ∧ m' ((c.tc : Thread Cert.FfnPlainRefIdeal.nD Cert.FfnPlainRefIdeal.τ).loc Cert.FfnPlainRefIdeal.main_arg2) = m ((c.tc : Thread Cert.FfnPlainIdeal.nD Cert.FfnPlainIdeal.τ).loc Cert.FfnPlainIdeal.main_arg2)
      ∧ m' ((c.tc : Thread Cert.FfnPlainRefIdeal.nD Cert.FfnPlainRefIdeal.τ).loc Cert.FfnPlainRefIdeal.main_arg3) = m ((c.tc : Thread Cert.FfnPlainIdeal.nD Cert.FfnPlainIdeal.τ).loc Cert.FfnPlainIdeal.main_arg3)
      ∧ m' ((c.tc : Thread Cert.FfnPlainRefIdeal.nD Cert.FfnPlainRefIdeal.τ).loc Cert.FfnPlainRefIdeal.main_arg4) = m ((c.tc : Thread Cert.FfnPlainIdeal.nD Cert.FfnPlainIdeal.τ).loc Cert.FfnPlainIdeal.main_arg4)) →
    ∃ (v0 : (c : Dev Cert.FfnPlainIdeal.nD) → Buf (Elt Ideal) ((c.tc : Thread Cert.FfnPlainIdeal.nD Cert.FfnPlainIdeal.τ).loc Cert.FfnPlainIdeal.main_v5)),
      θ_run (Cert.FfnPlainIdeal.defs (F := Ideal)) (onTc (τ := Cert.FfnPlainIdeal.τ) (Cert.FfnPlainIdeal.main (F := Ideal))) ⟨m, fun _ => 0, g⟩ (fun r => ∀ c : Dev Cert.FfnPlainIdeal.nD,
          r.2.mem ((c.tc : Thread Cert.FfnPlainIdeal.nD Cert.FfnPlainIdeal.τ).loc Cert.FfnPlainIdeal.main_v5) = v0 c
          ∧ r.2.mem ((c.tc : Thread Cert.FfnPlainIdeal.nD Cert.FfnPlainIdeal.τ).loc Cert.FfnPlainIdeal.main_arg0) = m ((c.tc : Thread Cert.FfnPlainIdeal.nD Cert.FfnPlainIdeal.τ).loc Cert.FfnPlainIdeal.main_arg0)
          ∧ r.2.mem ((c.tc : Thread Cert.FfnPlainIdeal.nD Cert.FfnPlainIdeal.τ).loc Cert.FfnPlainIdeal.main_arg1) = m ((c.tc : Thread Cert.FfnPlainIdeal.nD Cert.FfnPlainIdeal.τ).loc Cert.FfnPlainIdeal.main_arg1)
          ∧ r.2.mem ((c.tc : Thread Cert.FfnPlainIdeal.nD Cert.FfnPlainIdeal.τ).loc Cert.FfnPlainIdeal.main_arg2) = m ((c.tc : Thread Cert.FfnPlainIdeal.nD Cert.FfnPlainIdeal.τ).loc Cert.FfnPlainIdeal.main_arg2)
          ∧ r.2.mem ((c.tc : Thread Cert.FfnPlainIdeal.nD Cert.FfnPlainIdeal.τ).loc Cert.FfnPlainIdeal.main_arg3) = m ((c.tc : Thread Cert.FfnPlainIdeal.nD Cert.FfnPlainIdeal.τ).loc Cert.FfnPlainIdeal.main_arg3)
          ∧ r.2.mem ((c.tc : Thread Cert.FfnPlainIdeal.nD Cert.FfnPlainIdeal.τ).loc Cert.FfnPlainIdeal.main_arg4) = m ((c.tc : Thread Cert.FfnPlainIdeal.nD Cert.FfnPlainIdeal.τ).loc Cert.FfnPlainIdeal.main_arg4))
      ∧ θ_run (Cert.FfnPlainRefIdeal.defs (F := Ideal)) (onTc (τ := Cert.FfnPlainRefIdeal.τ) (Cert.FfnPlainRefIdeal.main (F := Ideal))) ⟨m', fun _ => 0, g'⟩ (fun r => ∀ c : Dev Cert.FfnPlainRefIdeal.nD,
          r.2.mem ((c.tc : Thread Cert.FfnPlainRefIdeal.nD Cert.FfnPlainRefIdeal.τ).loc Cert.FfnPlainRefIdeal.main_v21) = v0 c
          ∧ r.2.mem ((c.tc : Thread Cert.FfnPlainRefIdeal.nD Cert.FfnPlainRefIdeal.τ).loc Cert.FfnPlainRefIdeal.main_arg0) = m' ((c.tc : Thread Cert.FfnPlainRefIdeal.nD Cert.FfnPlainRefIdeal.τ).loc Cert.FfnPlainRefIdeal.main_arg0)
          ∧ r.2.mem ((c.tc : Thread Cert.FfnPlainRefIdeal.nD Cert.FfnPlainRefIdeal.τ).loc Cert.FfnPlainRefIdeal.main_arg1) = m' ((c.tc : Thread Cert.FfnPlainRefIdeal.nD Cert.FfnPlainRefIdeal.τ).loc Cert.FfnPlainRefIdeal.main_arg1)
          ∧ r.2.mem ((c.tc : Thread Cert.FfnPlainRefIdeal.nD Cert.FfnPlainRefIdeal.τ).loc Cert.FfnPlainRefIdeal.main_arg2) = m' ((c.tc : Thread Cert.FfnPlainRefIdeal.nD Cert.FfnPlainRefIdeal.τ).loc Cert.FfnPlainRefIdeal.main_arg2)
          ∧ r.2.mem ((c.tc : Thread Cert.FfnPlainRefIdeal.nD Cert.FfnPlainRefIdeal.τ).loc Cert.FfnPlainRefIdeal.main_arg3) = m' ((c.tc : Thread Cert.FfnPlainRefIdeal.nD Cert.FfnPlainRefIdeal.τ).loc Cert.FfnPlainRefIdeal.main_arg3)
          ∧ r.2.mem ((c.tc : Thread Cert.FfnPlainRefIdeal.nD Cert.FfnPlainRefIdeal.τ).loc Cert.FfnPlainRefIdeal.main_arg4) = m' ((c.tc : Thread Cert.FfnPlainRefIdeal.nD Cert.FfnPlainRefIdeal.τ).loc Cert.FfnPlainRefIdeal.main_arg4))

def preserves_FfnAttn_FfnAttnIdeal : Prop :=
  True

def algebraic_FfnAttnIdeal_FfnAttnRefIdeal [hFfnAttnIdeal : Cert.FfnAttnIdeal.Facts] [hFfnAttnRefIdeal : Cert.FfnAttnRefIdeal.Facts] : Prop :=
  ∀ (m : (ℓ : Loc Cert.FfnAttnIdeal.nD Cert.FfnAttnIdeal.τ Cert.FfnAttnIdeal.sig) → Buf (Elt Ideal) ℓ) (g : Dev Cert.FfnAttnIdeal.nD → PrngReg)
    (m' : (ℓ : Loc Cert.FfnAttnRefIdeal.nD Cert.FfnAttnRefIdeal.τ Cert.FfnAttnRefIdeal.sig) → Buf (Elt Ideal) ℓ) (g' : Dev Cert.FfnAttnRefIdeal.nD → PrngReg), Pre_FfnAttnIdeal m →
    (∀ c : Dev Cert.FfnAttnIdeal.nD,
      m' ((c.tc : Thread Cert.FfnAttnRefIdeal.nD Cert.FfnAttnRefIdeal.τ).loc Cert.FfnAttnRefIdeal.main_arg0) = m ((c.tc : Thread Cert.FfnAttnIdeal.nD Cert.FfnAttnIdeal.τ).loc Cert.FfnAttnIdeal.main_arg0)
      ∧ m' ((c.tc : Thread Cert.FfnAttnRefIdeal.nD Cert.FfnAttnRefIdeal.τ).loc Cert.FfnAttnRefIdeal.main_arg1) = m ((c.tc : Thread Cert.FfnAttnIdeal.nD Cert.FfnAttnIdeal.τ).loc Cert.FfnAttnIdeal.main_arg1)
      ∧ m' ((c.tc : Thread Cert.FfnAttnRefIdeal.nD Cert.FfnAttnRefIdeal.τ).loc Cert.FfnAttnRefIdeal.main_arg2) = m ((c.tc : Thread Cert.FfnAttnIdeal.nD Cert.FfnAttnIdeal.τ).loc Cert.FfnAttnIdeal.main_arg2)
      ∧ m' ((c.tc : Thread Cert.FfnAttnRefIdeal.nD Cert.FfnAttnRefIdeal.τ).loc Cert.FfnAttnRefIdeal.main_arg3) = m ((c.tc : Thread Cert.FfnAttnIdeal.nD Cert.FfnAttnIdeal.τ).loc Cert.FfnAttnIdeal.main_arg3)
      ∧ m' ((c.tc : Thread Cert.FfnAttnRefIdeal.nD Cert.FfnAttnRefIdeal.τ).loc Cert.FfnAttnRefIdeal.main_arg4) = m ((c.tc : Thread Cert.FfnAttnIdeal.nD Cert.FfnAttnIdeal.τ).loc Cert.FfnAttnIdeal.main_arg4)
      ∧ m' ((c.tc : Thread Cert.FfnAttnRefIdeal.nD Cert.FfnAttnRefIdeal.τ).loc Cert.FfnAttnRefIdeal.main_arg5) = m ((c.tc : Thread Cert.FfnAttnIdeal.nD Cert.FfnAttnIdeal.τ).loc Cert.FfnAttnIdeal.main_arg5)
      ∧ m' ((c.tc : Thread Cert.FfnAttnRefIdeal.nD Cert.FfnAttnRefIdeal.τ).loc Cert.FfnAttnRefIdeal.main_arg6) = m ((c.tc : Thread Cert.FfnAttnIdeal.nD Cert.FfnAttnIdeal.τ).loc Cert.FfnAttnIdeal.main_arg6)) →
    ∃ (v0 : (c : Dev Cert.FfnAttnIdeal.nD) → Buf (Elt Ideal) ((c.tc : Thread Cert.FfnAttnIdeal.nD Cert.FfnAttnIdeal.τ).loc Cert.FfnAttnIdeal.main_v6)),
      θ_run (Cert.FfnAttnIdeal.defs (F := Ideal)) (onTc (τ := Cert.FfnAttnIdeal.τ) (Cert.FfnAttnIdeal.main (F := Ideal))) ⟨m, fun _ => 0, g⟩ (fun r => ∀ c : Dev Cert.FfnAttnIdeal.nD,
          r.2.mem ((c.tc : Thread Cert.FfnAttnIdeal.nD Cert.FfnAttnIdeal.τ).loc Cert.FfnAttnIdeal.main_v6) = v0 c
          ∧ r.2.mem ((c.tc : Thread Cert.FfnAttnIdeal.nD Cert.FfnAttnIdeal.τ).loc Cert.FfnAttnIdeal.main_arg0) = m ((c.tc : Thread Cert.FfnAttnIdeal.nD Cert.FfnAttnIdeal.τ).loc Cert.FfnAttnIdeal.main_arg0)
          ∧ r.2.mem ((c.tc : Thread Cert.FfnAttnIdeal.nD Cert.FfnAttnIdeal.τ).loc Cert.FfnAttnIdeal.main_arg1) = m ((c.tc : Thread Cert.FfnAttnIdeal.nD Cert.FfnAttnIdeal.τ).loc Cert.FfnAttnIdeal.main_arg1)
          ∧ r.2.mem ((c.tc : Thread Cert.FfnAttnIdeal.nD Cert.FfnAttnIdeal.τ).loc Cert.FfnAttnIdeal.main_arg2) = m ((c.tc : Thread Cert.FfnAttnIdeal.nD Cert.FfnAttnIdeal.τ).loc Cert.FfnAttnIdeal.main_arg2)
          ∧ r.2.mem ((c.tc : Thread Cert.FfnAttnIdeal.nD Cert.FfnAttnIdeal.τ).loc Cert.FfnAttnIdeal.main_arg3) = m ((c.tc : Thread Cert.FfnAttnIdeal.nD Cert.FfnAttnIdeal.τ).loc Cert.FfnAttnIdeal.main_arg3)
          ∧ r.2.mem ((c.tc : Thread Cert.FfnAttnIdeal.nD Cert.FfnAttnIdeal.τ).loc Cert.FfnAttnIdeal.main_arg4) = m ((c.tc : Thread Cert.FfnAttnIdeal.nD Cert.FfnAttnIdeal.τ).loc Cert.FfnAttnIdeal.main_arg4)
          ∧ r.2.mem ((c.tc : Thread Cert.FfnAttnIdeal.nD Cert.FfnAttnIdeal.τ).loc Cert.FfnAttnIdeal.main_arg5) = m ((c.tc : Thread Cert.FfnAttnIdeal.nD Cert.FfnAttnIdeal.τ).loc Cert.FfnAttnIdeal.main_arg5)
          ∧ r.2.mem ((c.tc : Thread Cert.FfnAttnIdeal.nD Cert.FfnAttnIdeal.τ).loc Cert.FfnAttnIdeal.main_arg6) = m ((c.tc : Thread Cert.FfnAttnIdeal.nD Cert.FfnAttnIdeal.τ).loc Cert.FfnAttnIdeal.main_arg6))
      ∧ θ_run (Cert.FfnAttnRefIdeal.defs (F := Ideal)) (onTc (τ := Cert.FfnAttnRefIdeal.τ) (Cert.FfnAttnRefIdeal.main (F := Ideal))) ⟨m', fun _ => 0, g'⟩ (fun r => ∀ c : Dev Cert.FfnAttnRefIdeal.nD,
          r.2.mem ((c.tc : Thread Cert.FfnAttnRefIdeal.nD Cert.FfnAttnRefIdeal.τ).loc Cert.FfnAttnRefIdeal.main_v25) = v0 c
          ∧ r.2.mem ((c.tc : Thread Cert.FfnAttnRefIdeal.nD Cert.FfnAttnRefIdeal.τ).loc Cert.FfnAttnRefIdeal.main_arg0) = m' ((c.tc : Thread Cert.FfnAttnRefIdeal.nD Cert.FfnAttnRefIdeal.τ).loc Cert.FfnAttnRefIdeal.main_arg0)
          ∧ r.2.mem ((c.tc : Thread Cert.FfnAttnRefIdeal.nD Cert.FfnAttnRefIdeal.τ).loc Cert.FfnAttnRefIdeal.main_arg1) = m' ((c.tc : Thread Cert.FfnAttnRefIdeal.nD Cert.FfnAttnRefIdeal.τ).loc Cert.FfnAttnRefIdeal.main_arg1)
          ∧ r.2.mem ((c.tc : Thread Cert.FfnAttnRefIdeal.nD Cert.FfnAttnRefIdeal.τ).loc Cert.FfnAttnRefIdeal.main_arg2) = m' ((c.tc : Thread Cert.FfnAttnRefIdeal.nD Cert.FfnAttnRefIdeal.τ).loc Cert.FfnAttnRefIdeal.main_arg2)
          ∧ r.2.mem ((c.tc : Thread Cert.FfnAttnRefIdeal.nD Cert.FfnAttnRefIdeal.τ).loc Cert.FfnAttnRefIdeal.main_arg3) = m' ((c.tc : Thread Cert.FfnAttnRefIdeal.nD Cert.FfnAttnRefIdeal.τ).loc Cert.FfnAttnRefIdeal.main_arg3)
          ∧ r.2.mem ((c.tc : Thread Cert.FfnAttnRefIdeal.nD Cert.FfnAttnRefIdeal.τ).loc Cert.FfnAttnRefIdeal.main_arg4) = m' ((c.tc : Thread Cert.FfnAttnRefIdeal.nD Cert.FfnAttnRefIdeal.τ).loc Cert.FfnAttnRefIdeal.main_arg4)
          ∧ r.2.mem ((c.tc : Thread Cert.FfnAttnRefIdeal.nD Cert.FfnAttnRefIdeal.τ).loc Cert.FfnAttnRefIdeal.main_arg5) = m' ((c.tc : Thread Cert.FfnAttnRefIdeal.nD Cert.FfnAttnRefIdeal.τ).loc Cert.FfnAttnRefIdeal.main_arg5)
          ∧ r.2.mem ((c.tc : Thread Cert.FfnAttnRefIdeal.nD Cert.FfnAttnRefIdeal.τ).loc Cert.FfnAttnRefIdeal.main_arg6) = m' ((c.tc : Thread Cert.FfnAttnRefIdeal.nD Cert.FfnAttnRefIdeal.τ).loc Cert.FfnAttnRefIdeal.main_arg6))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)) →
    ∃ (v0 : (c : Dev Cert.ConvIdeal.nD) → Buf (Elt Ideal) ((c.tc : Thread Cert.ConvIdeal.nD Cert.ConvIdeal.τ).loc Cert.ConvIdeal.main_v10)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v10) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v272) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v125) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Proj_ProjIdeal : Prop :=
  True

def algebraic_ProjIdeal_ProjRefIdeal_pre_proj_inputs [hProjIdeal : Cert.ProjIdeal.Facts] [hProjRefIdeal : Cert.ProjRefIdeal.Facts] [hPre_proj_inputs : Cert.Pre_proj_inputs.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_inputs m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v16_0)) (v1 : (c : Dev Cert.ProjIdeal.nD) → Buf (Elt Ideal) ((c.tc : Thread Cert.ProjIdeal.nD Cert.ProjIdeal.τ).loc Cert.ProjIdeal.main_v16_1)) (v2 : (c : Dev Cert.ProjIdeal.nD) → Buf (Elt Ideal) ((c.tc : Thread Cert.ProjIdeal.nD Cert.ProjIdeal.τ).loc Cert.ProjIdeal.main_v16_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v16_0) = v0 c
          ∧ r.2.mem ((c.tc : Thread Cert.ProjIdeal.nD Cert.ProjIdeal.τ).loc Cert.ProjIdeal.main_v16_1) = v1 c
          ∧ r.2.mem ((c.tc : Thread Cert.ProjIdeal.nD Cert.ProjIdeal.τ).loc Cert.ProjIdeal.main_v16_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v69) = v0 c
          ∧ r.2.mem ((c.tc : Thread Cert.ProjRefIdeal.nD Cert.ProjRefIdeal.τ).loc Cert.ProjRefIdeal.main_v70) = v1 c
          ∧ r.2.mem ((c.tc : Thread Cert.ProjRefIdeal.nD Cert.ProjRefIdeal.τ).loc Cert.ProjRefIdeal.main_v71) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hFfn : Cert.Ffn.Facts) (hFfnIdeal : Cert.FfnIdeal.Facts) (hFfnRefIdeal : Cert.FfnRefIdeal.Facts) (hFlash : Cert.Flash.Facts) (hFlashIdeal : Cert.FlashIdeal.Facts) (hFlashRefIdeal : Cert.FlashRefIdeal.Facts) (hFfnPlain : Cert.FfnPlain.Facts) (hFfnPlainIdeal : Cert.FfnPlainIdeal.Facts) (hFfnPlainRefIdeal : Cert.FfnPlainRefIdeal.Facts) (hFfnAttn : Cert.FfnAttn.Facts) (hFfnAttnIdeal : Cert.FfnAttnIdeal.Facts) (hFfnAttnRefIdeal : Cert.FfnAttnRefIdeal.Facts) (hConv : Cert.Conv.Facts) (hConvIdeal : Cert.ConvIdeal.Facts) (hConvRefIdeal : Cert.ConvRefIdeal.Facts) (hPool : Cert.Pool.Facts) (hPoolIdeal : Cert.PoolIdeal.Facts) (hPoolRefIdeal : Cert.PoolRefIdeal.Facts) (hProj : Cert.Proj.Facts) (hProjIdeal : Cert.ProjIdeal.Facts) (hProjRefIdeal : Cert.ProjRefIdeal.Facts) (hPre_flash_inputs : Cert.Pre_flash_inputs.Facts) (hPre_proj_inputs : Cert.Pre_proj_inputs.Facts),
    quiescent_Ffn (hFfn := hFfn)
    ∧ quiescent_FfnIdeal (hFfnIdeal := hFfnIdeal)
    ∧ quiescent_FfnRefIdeal (hFfnRefIdeal := hFfnRefIdeal)
    ∧ quiescent_Flash (hFlash := hFlash)
    ∧ quiescent_FlashIdeal (hFlashIdeal := hFlashIdeal)
    ∧ quiescent_FlashIdeal_pre_flash_inputs (hFlashIdeal := hFlashIdeal) (hPre_flash_inputs := hPre_flash_inputs)
    ∧ quiescent_FlashRefIdeal (hFlashRefIdeal := hFlashRefIdeal)
    ∧ quiescent_FlashRefIdeal_pre_flash_inputs (hFlashRefIdeal := hFlashRefIdeal) (hPre_flash_inputs := hPre_flash_inputs)
    ∧ quiescent_FfnPlain (hFfnPlain := hFfnPlain)
    ∧ quiescent_FfnPlainIdeal (hFfnPlainIdeal := hFfnPlainIdeal)
    ∧ quiescent_FfnPlainRefIdeal (hFfnPlainRefIdeal := hFfnPlainRefIdeal)
    ∧ quiescent_FfnAttn (hFfnAttn := hFfnAttn)
    ∧ quiescent_FfnAttnIdeal (hFfnAttnIdeal := hFfnAttnIdeal)
    ∧ quiescent_FfnAttnRefIdeal (hFfnAttnRefIdeal := hFfnAttnRefIdeal)
    ∧ quiescent_Conv (hConv := hConv)
    ∧ quiescent_ConvIdeal (hConvIdeal := hConvIdeal)
    ∧ quiescent_ConvRefIdeal (hConvRefIdeal := hConvRefIdeal)
    ∧ quiescent_Pool (hPool := hPool)
    ∧ quiescent_PoolIdeal (hPoolIdeal := hPoolIdeal)
    ∧ quiescent_PoolRefIdeal (hPoolRefIdeal := hPoolRefIdeal)
    ∧ quiescent_Proj (hProj := hProj)
    ∧ quiescent_ProjIdeal (hProjIdeal := hProjIdeal)
    ∧ quiescent_ProjIdeal_pre_proj_inputs (hProjIdeal := hProjIdeal) (hPre_proj_inputs := hPre_proj_inputs)
    ∧ quiescent_ProjRefIdeal (hProjRefIdeal := hProjRefIdeal)
    ∧ quiescent_ProjRefIdeal_pre_proj_inputs (hProjRefIdeal := hProjRefIdeal) (hPre_proj_inputs := hPre_proj_inputs)
    ∧ preserves_Ffn_FfnIdeal
    ∧ algebraic_FfnIdeal_FfnRefIdeal (hFfnIdeal := hFfnIdeal) (hFfnRefIdeal := hFfnRefIdeal)
    ∧ preserves_Flash_FlashIdeal
    ∧ algebraic_FlashIdeal_FlashRefIdeal_pre_flash_inputs (hFlashIdeal := hFlashIdeal) (hFlashRefIdeal := hFlashRefIdeal) (hPre_flash_inputs := hPre_flash_inputs)
    ∧ preserves_FfnPlain_FfnPlainIdeal
    ∧ algebraic_FfnPlainIdeal_FfnPlainRefIdeal (hFfnPlainIdeal := hFfnPlainIdeal) (hFfnPlainRefIdeal := hFfnPlainRefIdeal)
    ∧ preserves_FfnAttn_FfnAttnIdeal
    ∧ algebraic_FfnAttnIdeal_FfnAttnRefIdeal (hFfnAttnIdeal := hFfnAttnIdeal) (hFfnAttnRefIdeal := hFfnAttnRefIdeal)
    ∧ preserves_Conv_ConvIdeal
    ∧ algebraic_ConvIdeal_ConvRefIdeal (hConvIdeal := hConvIdeal) (hConvRefIdeal := hConvRefIdeal)
    ∧ preserves_Pool_PoolIdeal
    ∧ algebraic_PoolIdeal_PoolRefIdeal (hPoolIdeal := hPoolIdeal) (hPoolRefIdeal := hPoolRefIdeal)
    ∧ preserves_Proj_ProjIdeal
    ∧ algebraic_ProjIdeal_ProjRefIdeal_pre_proj_inputs (hProjIdeal := hProjIdeal) (hProjRefIdeal := hProjRefIdeal) (hPre_proj_inputs := hPre_proj_inputs)
-- ==== Pre_flash_inputs.lean ====
abbrev S16x16x4096x128 : Shape := ⟨4, ![16, 16, 4096, 128]⟩
abbrev S16x1280x4096 : Shape := ⟨3, ![16, 1280, 4096]⟩
abbrev S16x16x80x4096 : Shape := ⟨4, ![16, 16, 80, 4096]⟩
abbrev S16x16x1x4096 : Shape := ⟨4, ![16, 16, 1, 4096]⟩
abbrev S16x16x4096 : Shape := ⟨3, ![16, 16, 4096]⟩
abbrev S_ : Shape := ⟨0, ![]⟩

class Facts : Prop where
  shapeCasts_S16x1280x4096_S16x16x80x4096 : S16x1280x4096.ShapeCasts S16x16x80x4096
  slices_S16x16x80x4096_S16x16x1x4096_0_0_64_0 : S16x16x80x4096.Slices ![0, 0, 64, 0] S16x16x1x4096
  shapeCasts_S16x16x1x4096_S16x16x4096 : S16x16x1x4096.ShapeCasts S16x16x4096
  bcast_S_S16x16x4096x128 : S_.BroadcastsInDim S16x16x4096x128 (![] : Fin 0 → Fin S16x16x4096x128.rank)
  bcast_S_S16x16x4096 : S_.BroadcastsInDim S16x16x4096 (![] : Fin 0 → Fin S16x16x4096.rank)

variable [Facts]

def fn {F : FTy → Type} [FloatOps F] (main_arg0 : FVec F S16x16x4096x128 .bf16) (main_arg1 : FVec F S16x16x4096x128 .bf16) (main_arg2 : FVec F S16x1280x4096 .bf16) : IVec S16x16x4096x128 1 × IVec S16x16x4096x128 1 × IVec S16x16x4096 1 :=
  let main_v0 : FVec F S16x16x80x4096 .bf16 := shapeCast S16x16x80x4096 main_arg2 shapeCasts_S16x1280x4096_S16x16x80x4096
  let main_v1 : FVec F S16x16x1x4096 .bf16 := (extractStridedSlice S16x16x1x4096 ![0, 0, 64, 0] · slices_S16x16x80x4096_S16x16x1x4096_0_0_64_0) main_v0
  let main_v2 : FVec F S16x16x4096 .bf16 := shapeCast S16x16x4096 main_v1 shapeCasts_S16x16x1x4096_S16x16x4096
  let main_v3 : FVec F S16x16x4096x128 .bf16 := Host.absf main_arg0
  let main_cst : FVec F S_ .bf16 := constant S_ .bf16 0x7F80#16
  let main_v4 : FVec F S16x16x4096x128 .bf16 := broadcastInDim S16x16x4096x128 ![] bcast_S_S16x16x4096x128 main_cst
  let main_v5 : IVec S16x16x4096x128 1 := cmpf .olt main_v3 main_v4
  let main_v6 : FVec F S16x16x4096x128 .bf16 := Host.absf main_arg1
  let main_cst_0 : FVec F S_ .bf16 := constant S_ .bf16 0x7F80#16
  let main_v7 : FVec F S16x16x4096x128 .bf16 := broadcastInDim S16x16x4096x128 ![] bcast_S_S16x16x4096x128 main_cst_0
  let main_v8 : IVec S16x16x4096x128 1 := cmpf .olt main_v6 main_v7
  let main_cst_1 : FVec F S_ .bf16 := constant S_ .bf16 0x3F80#16
  let main_v9 : FVec F S16x16x4096 .bf16 := broadcastInDim S16x16x4096 ![] bcast_S_S16x16x4096 main_cst_1
  let main_v10 : IVec S16x16x4096 1 := cmpf .oeq main_v2 main_v9
  (main_v5, main_v8, main_v10)
-- ==== Pre_proj_inputs.lean ====
abbrev S16x4096x1024 : Shape := ⟨3, ![16, 4096, 1024]⟩
abbrev S1024 : Shape := ⟨1, ![1024]⟩
abbrev S1024x3088 : Shape := ⟨2, ![1024, 3088]⟩
abbrev S16 : Shape := ⟨1, ![16]⟩
abbrev S384x1024 : Shape := ⟨2, ![384, 1024]⟩
abbrev S128 : Shape := ⟨1, ![128]⟩
abbrev S128x1x1 : Shape := ⟨3, ![128, 1, 1]⟩
abbrev S8 : Shape := ⟨1, ![8]⟩
abbrev S1x8x1 : Shape := ⟨3, ![1, 8, 1]⟩
abbrev S1x1x128 : Shape := ⟨3, ![1, 1, 128]⟩
abbrev S_ : Shape := ⟨0, ![]⟩
abbrev S128x8x1 : Shape := ⟨3, ![128, 8, 1]⟩
abbrev S128x8x128 : Shape := ⟨3, ![128, 8, 128]⟩
abbrev S128x1024 : Shape := ⟨2, ![128, 1024]⟩
abbrev S1024x16 : Shape := ⟨2, ![1024, 16]⟩

class Facts : Prop where
  bcast_S128_S128x1x1_0 : S128.BroadcastsInDim S128x1x1 (![0] : Fin 1 → Fin S128x1x1.rank)
  bcast_S8_S1x8x1_1 : S8.BroadcastsInDim S1x8x1 (![1] : Fin 1 → Fin S1x8x1.rank)
  bcast_S128_S1x1x128_2 : S128.BroadcastsInDim S1x1x128 (![2] : Fin 1 → Fin S1x1x128.rank)
  bcast_S_S1x8x1 : S_.BroadcastsInDim S1x8x1 (![] : Fin 0 → Fin S1x8x1.rank)
  bcast_S128x1x1_S128x8x1_0_1_2 : S128x1x1.BroadcastsInDim S128x8x1 (![0, 1, 2] : Fin 3 → Fin S128x8x1.rank)
  bcast_S1x8x1_S128x8x1_0_1_2 : S1x8x1.BroadcastsInDim S128x8x1 (![0, 1, 2] : Fin 3 → Fin S128x8x1.rank)
  bcast_S_S1x1x128 : S_.BroadcastsInDim S1x1x128 (![] : Fin 0 → Fin S1x1x128.rank)
  bcast_S128x8x1_S128x8x128_0_1_2 : S128x8x1.BroadcastsInDim S128x8x128 (![0, 1, 2] : Fin 3 → Fin S128x8x128.rank)
  bcast_S1x1x128_S128x8x128_0_1_2 : S1x1x128.BroadcastsInDim S128x8x128 (![0, 1, 2] : Fin 3 → Fin S128x8x128.rank)
  slices_S384x1024_S128x1024_0_0 : S384x1024.Slices ![0, 0] S128x1024
  shapeCasts_S128x1024_S128x8x128 : S128x1024.ShapeCasts S128x8x128
  bcast_S_S128x8x128 : S_.BroadcastsInDim S128x8x128 (![] : Fin 0 → Fin S128x8x128.rank)
  bitsLt_bf16_f32 : FTy.bits .bf16 < FTy.bits .f32
  bcast_S_S16x4096x1024 : S_.BroadcastsInDim S16x4096x1024 (![] : Fin 0 → Fin S16x4096x1024.rank)
  bcast_S_S1024 : S_.BroadcastsInDim S1024 (![] : Fin 0 → Fin S1024.rank)
  slices_S1024x3088_S1024x16_0_3072 : S1024x3088.Slices ![0, 3072] S1024x16
  bcast_S_S1024x16 : S_.BroadcastsInDim S1024x16 (![] : Fin 0 → Fin S1024x16.rank)
  bcast_S_S16 : S_.BroadcastsInDim S16 (![] : Fin 0 → Fin S16.rank)

variable [Facts]

def fn_where {F : FTy → Type} [FloatOps F] (arg0 : IVec S128x8x128 1) (arg1 : FVec F S_ .f32) (arg2 : FVec F S_ .f32) : FVec F S128x8x128 .f32 :=
  let v0 : FVec F S128x8x128 .f32 := broadcastInDim S128x8x128 ![] bcast_S_S128x8x128 arg1
  let v1 : FVec F S128x8x128 .f32 := broadcastInDim S128x8x128 ![] bcast_S_S128x8x128 arg2
  let v2 : FVec F S128x8x128 .f32 := select arg0 v0 v1
  v2

def fn_part2 {F : FTy → Type} [FloatOps F] (main_arg0 : FVec F S16x4096x1024 .f32) (main_arg1 : FVec F S1024 .f32) (main_arg2 : FVec F S1024x3088 .f32) (main_arg3 : FVec F S16 .f32) (main_v35 : FVec F S128x8x128 .bf16) (main_v38 : FVec F S128x8x128 .bf16) : IVec S16x4096x1024 1 × IVec S1024 1 × IVec S1024x16 1 × IVec S16 1 × IVec S128x8x128 1 :=
  let main_v39 : IVec S128x8x128 1 := cmpf .oeq main_v35 main_v38
  let main_v40 : FVec F S16x4096x1024 .f32 := Host.absf main_arg0
  let main_cst_7 : FVec F S_ .f32 := constant S_ .f32 0x7F800000#32
  let main_v41 : FVec F S16x4096x1024 .f32 := broadcastInDim S16x4096x1024 ![] bcast_S_S16x4096x1024 main_cst_7
  let main_v42 : IVec S16x4096x1024 1 := cmpf .olt main_v40 main_v41
  let main_v43 : FVec F S1024 .f32 := Host.absf main_arg1
  let main_cst_8 : FVec F S_ .f32 := constant S_ .f32 0x7F800000#32
  let main_v44 : FVec F S1024 .f32 := broadcastInDim S1024 ![] bcast_S_S1024 main_cst_8
  let main_v45 : IVec S1024 1 := cmpf .olt main_v43 main_v44
  let main_v46 : FVec F S1024x16 .f32 := (extractStridedSlice S1024x16 ![0, 3072] · slices_S1024x3088_S1024x16_0_3072) main_arg2
  let main_v47 : FVec F S1024x16 .f32 := Host.absf main_v46
  let main_cst_9 : FVec F S_ .f32 := constant S_ .f32 0x7F800000#32
  let main_v48 : FVec F S1024x16 .f32 := broadcastInDim S1024x16 ![] bcast_S_S1024x16 main_cst_9
  let main_v49 : IVec S1024x16 1 := cmpf .olt main_v47 main_v48
  let main_v50 : FVec F S16 .f32 := Host.absf main_arg3
  let main_cst_10 : FVec F S_ .f32 := constant S_ .f32 0x7F800000#32
  let main_v51 : FVec F S16 .f32 := broadcastInDim S16 ![] bcast_S_S16 main_cst_10
  let main_v52 : IVec S16 1 := cmpf .olt main_v50 main_v51
  (main_v42, main_v45, main_v49, main_v52, main_v39)

def fn_part1 {F : FTy → Type} [FloatOps F] (main_arg0 : FVec F S16x4096x1024 .f32) (main_arg1 : FVec F S1024 .f32) (main_arg2 : FVec F S1024x3088 .f32) (main_arg3 : FVec F S16 .f32) (main_arg4 : FVec F S384x1024 .bf16) (main_v1 : IVec S128x1x1 32) (main_v3 : IVec S1x8x1 32) (main_v5 : IVec S1x1x128 32) (main_v18 : IVec S128x8x128 1) (main_v19 : IVec S1x8x1 32) : IVec S16x4096x1024 1 × IVec S1024 1 × IVec S1024x16 1 × IVec S16 1 × IVec S128x8x128 1 :=
  let main_v20 : IVec S1x8x1 32 := muli main_v19 main_v3
  let main_c_3 : IVec S_ 32 := constantI S_ 32 1#32
  let main_v21 : IVec S1x8x1 32 := broadcastInDim S1x8x1 ![] bcast_S_S1x8x1 main_c_3
  let main_v22 : IVec S1x8x1 32 := addi main_v20 main_v21
  let main_v23 : IVec S128x8x1 32 := broadcastInDim S128x8x1 ![0, 1, 2] bcast_S128x1x1_S128x8x1_0_1_2 main_v1
  let main_v24 : IVec S128x8x1 32 := broadcastInDim S128x8x1 ![0, 1, 2] bcast_S1x8x1_S128x8x1_0_1_2 main_v22
  let main_v25 : IVec S128x8x1 1 := cmpi .eq main_v23 main_v24
  let main_c_4 : IVec S_ 32 := constantI S_ 32 0#32
  let main_v26 : IVec S1x1x128 32 := broadcastInDim S1x1x128 ![] bcast_S_S1x1x128 main_c_4
  let main_v27 : IVec S1x1x128 1 := cmpi .eq main_v5 main_v26
  let main_c_5 : IVec S_ 32 := constantI S_ 32 3#32
  let main_v28 : IVec S1x1x128 32 := broadcastInDim S1x1x128 ![] bcast_S_S1x1x128 main_c_5
  let main_v29 : IVec S1x1x128 1 := cmpi .eq main_v5 main_v28
  let main_v30 : IVec S1x1x128 1 := ori main_v27 main_v29
  let main_v31 : IVec S128x8x128 1 := broadcastInDim S128x8x128 ![0, 1, 2] bcast_S128x8x1_S128x8x128_0_1_2 main_v25
  let main_v32 : IVec S128x8x128 1 := broadcastInDim S128x8x128 ![0, 1, 2] bcast_S1x1x128_S128x8x128_0_1_2 main_v30
  let main_v33 : IVec S128x8x128 1 := andi main_v31 main_v32
  let main_v34 : FVec F S128x1024 .bf16 := (extractStridedSlice S128x1024 ![0, 0] · slices_S384x1024_S128x1024_0_0) main_arg4
  let main_v35 : FVec F S128x8x128 .bf16 := shapeCast S128x8x128 main_v34 shapeCasts_S128x1024_S128x8x128
  let main_v36 : IVec S128x8x128 1 := ori main_v18 main_v33
  let main_cst : FVec F S_ .f32 := constant S_ .f32 0x3F800000#32
  let main_cst_6 : FVec F S_ .f32 := constant S_ .f32 0x00000000#32
  let main_v37 : FVec F S128x8x128 .f32 := fn_where (F := F) main_v36 main_cst main_cst_6
  let main_v38 : FVec F S128x8x128 .bf16 := (truncf .bf16 · bitsLt_bf16_f32) main_v37
  fn_part2 (F := F) main_arg0 main_arg1 main_arg2 main_arg3 main_v35 main_v38

def fn {F : FTy → Type} [FloatOps F] (main_arg0 : FVec F S16x4096x1024 .f32) (main_arg1 : FVec F S1024 .f32) (main_arg2 : FVec F S1024x3088 .f32) (main_arg3 : FVec F S16 .f32) (main_arg4 : FVec F S384x1024 .bf16) : IVec S16x4096x1024 1 × IVec S1024 1 × IVec S1024x16 1 × IVec S16 1 × IVec S128x8x128 1 :=
  let main_v0 : IVec S128 32 := iotaInDim S128 32 0
  let main_v1 : IVec S128x1x1 32 := broadcastInDim S128x1x1 ![0] bcast_S128_S128x1x1_0 main_v0
  let main_v2 : IVec S8 32 := iotaInDim S8 32 0
  let main_v3 : IVec S1x8x1 32 := broadcastInDim S1x8x1 ![1] bcast_S8_S1x8x1_1 main_v2
  let main_v4 : IVec S128 32 := iotaInDim S128 32 0
  let main_v5 : IVec S1x1x128 32 := broadcastInDim S1x1x128 ![2] bcast_S128_S1x1x128_2 main_v4
  let main_c : IVec S_ 32 := constantI S_ 32 2#32
  let main_v6 : IVec S1x8x1 32 := broadcastInDim S1x8x1 ![] bcast_S_S1x8x1 main_c
  let main_v7 : IVec S1x8x1 32 := muli main_v6 main_v3
  let main_v8 : IVec S128x8x1 32 := broadcastInDim S128x8x1 ![0, 1, 2] bcast_S128x1x1_S128x8x1_0_1_2 main_v1
  let main_v9 : IVec S128x8x1 32 := broadcastInDim S128x8x1 ![0, 1, 2] bcast_S1x8x1_S128x8x1_0_1_2 main_v7
  let main_v10 : IVec S128x8x1 1 := cmpi .eq main_v8 main_v9
  let main_c_0 : IVec S_ 32 := constantI S_ 32 64#32
  let main_v11 : IVec S1x1x128 32 := broadcastInDim S1x1x128 ![] bcast_S_S1x1x128 main_c_0
  let main_v12 : IVec S1x1x128 1 := cmpi .eq main_v5 main_v11
  let main_c_1 : IVec S_ 32 := constantI S_ 32 67#32
  let main_v13 : IVec S1x1x128 32 := broadcastInDim S1x1x128 ![] bcast_S_S1x1x128 main_c_1
  let main_v14 : IVec S1x1x128 1 := cmpi .eq main_v5 main_v13
  let main_v15 : IVec S1x1x128 1 := ori main_v12 main_v14
  let main_v16 : IVec S128x8x128 1 := broadcastInDim S128x8x128 ![0, 1, 2] bcast_S128x8x1_S128x8x128_0_1_2 main_v10
  let main_v17 : IVec S128x8x128 1 := broadcastInDim S128x8x128 ![0, 1, 2] bcast_S1x1x128_S128x8x128_0_1_2 main_v15
  let main_v18 : IVec S128x8x128 1 := andi main_v16 main_v17
  let main_c_2 : IVec S_ 32 := constantI S_ 32 2#32
  let main_v19 : IVec S1x8x1 32 := broadcastInDim S1x8x1 ![] bcast_S_S1x8x1 main_c_2
  fn_part1 (F := F) main_arg0 main_arg1 main_arg2 main_arg3 main_arg4 main_v1 main_v3 main_v5 main_v18 main_v19
-- ==== Ffn.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S1024x512 : Shape := ⟨2, ![1024, 512]⟩
abbrev S512x512 : Shape := ⟨2, ![512, 512]⟩

abbrev nBuf : Space → Nat
  | .hbm => 13
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S65536x1024 : Shape := ⟨2, ![65536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S16x4096x2816, .f32⟩
  | .hbm, ⟨23, _⟩ => ⟨S16x4096x2816, .f32⟩
  | .hbm, ⟨24, _⟩ => ⟨S16x4096x2816, .f32⟩
  | .hbm, ⟨25, _⟩ => ⟨S_, .f32⟩
  | .hbm, ⟨26, _⟩ => ⟨S16x4096x2816, .f32⟩
  | .hbm, ⟨27, _⟩ => ⟨S16x4096x2816, .f32⟩
  | .hbm, ⟨28, _⟩ => ⟨S_, .f32⟩
  | .hbm, ⟨29, _⟩ => ⟨S16x4096x2816, .f32⟩
  | .hbm, ⟨30, _⟩ => ⟨S16x4096x2816, .f32⟩
  | .hbm, ⟨31, _⟩ => ⟨S16x4096x2816, .f32⟩
  | .hbm, ⟨32, _⟩ => ⟨S16x4096x2816, .f32⟩
  | .hbm, ⟨33, _⟩ => ⟨S16x4096x2816, .f32⟩
  | .hbm, ⟨34, _⟩ => ⟨S16x4096x1024, .f32⟩
  | .hbm, ⟨35, _⟩ => ⟨S_, .f32⟩
  | .hbm, ⟨36, _⟩ => ⟨S16x4096x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S_, .f32⟩
  | .hbm, ⟨44, _⟩ => ⟨S16x4096x1, .f32⟩
  | .hbm, ⟨45, _⟩ => ⟨S16x4096x1, .f32⟩
  | .hbm, ⟨46, _⟩ => ⟨S_, .f32⟩
  | .hbm, ⟨47, _⟩ => ⟨S16x4096x1, .f32⟩
  | .hbm, ⟨48, _⟩ => ⟨S16x4096x1, .f32⟩
  | .hbm, ⟨49, _⟩ => ⟨S16x4096x1, .f32⟩
  | .hbm, ⟨50, _⟩ => ⟨S16x4096x1024, .f32⟩
  | .hbm, ⟨51, _⟩ => ⟨S16x4096x1024, .f32⟩
  | .hbm, ⟨52, _⟩ => ⟨S1x1x1024, .f32⟩
  | .hbm, ⟨53, _⟩ => ⟨S16x4096x1024, .f32⟩
  | .hbm, ⟨54, _⟩ => ⟨S16x4096x1024, .f32⟩
  | .hbm, ⟨55, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Flash.lean ====
abbrev S16x16x4096x128 : Shape := ⟨4, ![16, 16, 4096, 128]⟩
abbrev S16x1280x4096 : Shape := ⟨3, ![16, 1280, 4096]⟩
abbrev S16x1024x4096 : Shape := ⟨3, ![16, 1024, 4096]⟩
abbrev S1x16x512x128 : Shape := ⟨4, ![1, 16, 512, 128]⟩
abbrev S1x16x4096x128 : Shape := ⟨4, ![1, 16, 4096, 128]⟩
abbrev S1x1280x4096 : Shape := ⟨3, ![1, 1280, 4096]⟩
abbrev S1x1024x512 : Shape := ⟨3, ![1, 1024, 512]⟩
abbrev S16x8x512 : Shape := ⟨3, ![16, 8, 512]⟩
abbrev S16x80x512 : Shape := ⟨3, ![16, 80, 512]⟩
abbrev S256x512 : Shape := ⟨2, ![256, 512]⟩
abbrev S1x1x256x128 : Shape := ⟨4, ![1, 1, 256, 128]⟩
abbrev S256x128 : Shape := ⟨2, ![256, 128]⟩
abbrev S1x1x512x128 : Shape := ⟨4, ![1, 1, 512, 128]⟩
abbrev S512x128 : Shape := ⟨2, ![512, 128]⟩
abbrev S1x1x512 : Shape := ⟨3, ![1, 1, 512]⟩
abbrev S1x512 : Shape := ⟨2, ![1, 512]⟩
abbrev S512 : Shape := ⟨1, ![512]⟩
abbrev S8x512 : Shape := ⟨2, ![8, 512]⟩
abbrev S1x8x512 : Shape := ⟨3, ![1, 8, 512]⟩
abbrev S1x80x256 : Shape := ⟨3, ![1, 80, 256]⟩
abbrev S80x256 : Shape := ⟨2, ![80, 256]⟩
abbrev S1x80x512 : Shape := ⟨3, ![1, 80, 512]⟩
abbrev S80x512 : Shape := ⟨2, ![80, 512]⟩
abbrev S1x64x512 : Shape := ⟨3, ![1, 64, 512]⟩
abbrev S64x512 : Shape := ⟨2, ![64, 512]⟩

abbrev nBuf : Space → Nat
  | .hbm => 4
  | .vmem => 8
  | .smem => 0
  | _ => 0

abbrev bufTy : (tb : Table) → Fin (tcTables nBuf tb) → BufTy
  | .hbm, ⟨0, _⟩ => ⟨S16x16x4096x128, .bf16⟩
  | .hbm, ⟨1, _⟩ => ⟨S16x16x4096x128, .bf16⟩
  | .hbm, ⟨2, _⟩ => ⟨S16x1280x4096, .bf16⟩
  | .hbm, ⟨3, _⟩ => ⟨S16x1024x4096, .bf16⟩
  | .local _ .vmem, ⟨0, _⟩ => ⟨S1x16x512x128, .bf16⟩
  | .local _ .vmem, ⟨1, _⟩ => ⟨S1x16x512x128, .bf16⟩
  | .local _ .vmem, ⟨2, _⟩ => ⟨S1x16x4096x128, .bf16⟩
  | .local _ .vmem, ⟨3, _⟩ => ⟨S1x1280x4096, .bf16⟩
  | .local _ .vmem, ⟨4, _⟩ => ⟨S1x1024x512, .bf16⟩
  | .local _ .vmem, ⟨5, _⟩ => ⟨S1x1024x512, .bf16⟩
  | .local _ .vmem, ⟨6, _⟩ => ⟨S16x8x512, .f32⟩
  | .local _ .vmem, ⟨7, _⟩ => ⟨S16x80x512, .f32⟩
  | _, _ => ⟨S16x16x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  ⟨c0_i32, v15, c1_i32_7⟩
def k0_mult1 (i : grid0.Coords) (k0_t1 : Fin (k0_t1_loop i).trips) : BitVec 32 :=
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  v1434
def k0_off1 (i : grid0.Coords) (k0_t1 : Fin (k0_t1_loop i).trips) : Fin 4 → Nat :=
  let c0_949 : Index := 0#32
  let c0_950 : Index := 0#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1436 : Index := Scalar.indexCast v1435
  let c0_951 : Index := 0#32
  ![0, 0, v1436.toNat, 0]
def k0_off2 (i : grid0.Coords) (k0_t1 : Fin (k0_t1_loop i).trips) : Fin 4 → Nat :=
  let c0_957 : Index := 0#32
  let c1_958 : Index := 1#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1442 : Index := Scalar.indexCast v1435
  let c0_959 : Index := 0#32
  ![0, 1, v1442.toNat, 0]
def k0_off3 (i : grid0.Coords) (k0_t1 : Fin (k0_t1_loop i).trips) : Fin 4 → Nat :=
  let c0_965 : Index := 0#32
  let c2_966 : Index := 2#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1448 : Index := Scalar.indexCast v1435
  let c0_967 : Index := 0#32
  ![0, 2, v1448.toNat, 0]
def k0_off4 (i : grid0.Coords) (k0_t1 : Fin (k0_t1_loop i).trips) : Fin 4 → Nat :=
  let c0_973 : Index := 0#32
  let c3_974 : Index := 3#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1454 : Index := Scalar.indexCast v1435
  let c0_975 : Index := 0#32
  ![0, 3, v1454.toNat, 0]
def k0_off5 (i : grid0.Coords) (k0_t1 : Fin (k0_t1_loop i).trips) : Fin 4 → Nat :=
  let c0_981 : Index := 0#32
  let c4_982 : Index := 4#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1460 : Index := Scalar.indexCast v1435
  let c0_983 : Index := 0#32
  ![0, 4, v1460.toNat, 0]
def k0_off6 (i : grid0.Coords) (k0_t1 : Fin (k0_t1_loop i).trips) : Fin 4 → Nat :=
  let c0_989 : Index := 0#32
  let c5_990 : Index := 5#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1466 : Index := Scalar.indexCast v1435
  let c0_991 : Index := 0#32
  ![0, 5, v1466.toNat, 0]
def k0_off7 (i : grid0.Coords) (k0_t1 : Fin (k0_t1_loop i).trips) : Fin 4 → Nat :=
  let c0_997 : Index := 0#32
  let c6_998 : Index := 6#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1472 : Index := Scalar.indexCast v1435
  let c0_999 : Index := 0#32
  ![0, 6, v1472.toNat, 0]
def k0_off8 (i : grid0.Coords) (k0_t1 : Fin (k0_t1_loop i).trips) : Fin 4 → Nat :=
  let c0_1005 : Index := 0#32
  let c7_1006 : Index := 7#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1478 : Index := Scalar.indexCast v1435
  let c0_1007 : Index := 0#32
  ![0, 7, v1478.toNat, 0]
def k0_off9 (i : grid0.Coords) (k0_t1 : Fin (k0_t1_loop i).trips) : Fin 4 → Nat :=
  let c0_1013 : Index := 0#32
  let c8_1014 : Index := 8#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1484 : Index := Scalar.indexCast v1435
  let c0_1015 : Index := 0#32
  ![0, 8, v1484.toNat, 0]
def k0_off10 (i : grid0.Coords) (k0_t1 : Fin (k0_t1_loop i).trips) : Fin 4 → Nat :=
  let c0_1021 : Index := 0#32
  let c9_1022 : Index := 9#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1490 : Index := Scalar.indexCast v1435
  let c0_1023 : Index := 0#32
  ![0, 9, v1490.toNat, 0]
def k0_off11 (i : grid0.Coords) (k0_t1 : Fin (k0_t1_loop i).trips) : Fin 4 → Nat :=
  let c0_1029 : Index := 0#32
  let c10_1030 : Index := 10#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1496 : Index := Scalar.indexCast v1435
  let c0_1031 : Index := 0#32
  ![0, 10, v1496.toNat, 0]
def k0_off12 (i : grid0.Coords) (k0_t1 : Fin (k0_t1_loop i).trips) : Fin 4 → Nat :=
  let c0_1037 : Index := 0#32
  let c11_1038 : Index := 11#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1502 : Index := Scalar.indexCast v1435
  let c0_1039 : Index := 0#32
  ![0, 11, v1502.toNat, 0]
def k0_off13 (i : grid0.Coords) (k0_t1 : Fin (k0_t1_loop i).trips) : Fin 4 → Nat :=
  let c0_1045 : Index := 0#32
  let c12_1046 : Index := 12#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1508 : Index := Scalar.indexCast v1435
  let c0_1047 : Index := 0#32
  ![0, 12, v1508.toNat, 0]
def k0_off14 (i : grid0.Coords) (k0_t1 : Fin (k0_t1_loop i).trips) : Fin 4 → Nat :=
  let c0_1053 : Index := 0#32
  let c13_1054 : Index := 13#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1514 : Index := Scalar.indexCast v1435
  let c0_1055 : Index := 0#32
  ![0, 13, v1514.toNat, 0]
def k0_off15 (i : grid0.Coords) (k0_t1 : Fin (k0_t1_loop i).trips) : Fin 4 → Nat :=
  let c0_1061 : Index := 0#32
  let c14_1062 : Index := 14#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1520 : Index := Scalar.indexCast v1435
  let c0_1063 : Index := 0#32
  ![0, 14, v1520.toNat, 0]
def k0_off16 (i : grid0.Coords) (k0_t1 : Fin (k0_t1_loop i).trips) : Fin 4 → Nat :=
  let c0_1069 : Index := 0#32
  let c15_1070 : Index := 15#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1526 : Index := Scalar.indexCast v1435
  let c0_1071 : Index := 0#32
  ![0, 15, v1526.toNat, 0]
def k0_off17 (i : grid0.Coords) (k0_t1 : Fin (k0_t1_loop i).trips) : Fin 3 → Nat :=
  let c0_1189 : Index := 0#32
  let c0_1190 : Index := 0#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1788 : Index := Scalar.indexCast v1435
  ![0, 0, v1788.toNat]
def k0_off18 (i : grid0.Coords) (k0_t1 : Fin (k0_t1_loop i).trips) : Fin 3 → Nat :=
  let c0_1198 : Index := 0#32
  let c80_1199 : Index := 80#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1800 : Index := Scalar.indexCast v1435
  ![0, 80, v1800.toNat]
def k0_off19 (i : grid0.Coords) (k0_t1 : Fin (k0_t1_loop i).trips) : Fin 3 → Nat :=
  let c0_1207 : Index := 0#32
  let c160_1208 : Index := 160#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1812 : Index := Scalar.indexCast v1435
  ![0, 160, v1812.toNat]
def k0_off20 (i : grid0.Coords) (k0_t1 : Fin (k0_t1_loop i).trips) : Fin 3 → Nat :=
  let c0_1216 : Index := 0#32
  let c240_1217 : Index := 240#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1824 : Index := Scalar.indexCast v1435
  ![0, 240, v1824.toNat]
def k0_off21 (i : grid0.Coords) (k0_t1 : Fin (k0_t1_loop i).trips) : Fin 3 → Nat :=
  let c0_1225 : Index := 0#32
  let c320_1226 : Index := 320#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1836 : Index := Scalar.indexCast v1435
  ![0, 320, v1836.toNat]
def k0_off22 (i : grid0.Coords) (k0_t1 : Fin (k0_t1_loop i).trips) : Fin 3 → Nat :=
  let c0_1234 : Index := 0#32
  let c400_1235 : Index := 400#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1848 : Index := Scalar.indexCast v1435
  ![0, 400, v1848.toNat]
def k0_off23 (i : grid0.Coords) (k0_t1 : Fin (k0_t1_loop i).trips) : Fin 3 → Nat :=
  let c0_1243 : Index := 0#32
  let c480_1244 : Index := 480#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1860 : Index := Scalar.indexCast v1435
  ![0, 480, v1860.toNat]
def k0_off24 (i : grid0.Coords) (k0_t1 : Fin (k0_t1_loop i).trips) : Fin 3 → Nat :=
  let c0_1252 : Index := 0#32
  let c560_1253 : Index := 560#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1872 : Index := Scalar.indexCast v1435
  ![0, 560, v1872.toNat]
def k0_off25 (i : grid0.Coords) (k0_t1 : Fin (k0_t1_loop i).trips) : Fin 3 → Nat :=
  let c0_1261 : Index := 0#32
  let c640_1262 : Index := 640#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1884 : Index := Scalar.indexCast v1435
  ![0, 640, v1884.toNat]
def k0_off26 (i : grid0.Coords) (k0_t1 : Fin (k0_t1_loop i).trips) : Fin 3 → Nat :=
  let c0_1270 : Index := 0#32
  let c720_1271 : Index := 720#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1896 : Index := Scalar.indexCast v1435
  ![0, 720, v1896.toNat]
def k0_off27 (i : grid0.Coords) (k0_t1 : Fin (k0_t1_loop i).trips) : Fin 3 → Nat :=
  let c0_1279 : Index := 0#32
  let c800_1280 : Index := 800#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1908 : Index := Scalar.indexCast v1435
  ![0, 800, v1908.toNat]
def k0_off28 (i : grid0.Coords) (k0_t1 : Fin (k0_t1_loop i).trips) : Fin 3 → Nat :=
  let c0_1288 : Index := 0#32
  let c880_1289 : Index := 880#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1920 : Index := Scalar.indexCast v1435
  ![0, 880, v1920.toNat]
def k0_off29 (i : grid0.Coords) (k0_t1 : Fin (k0_t1_loop i).trips) : Fin 3 → Nat :=
  let c0_1297 : Index := 0#32
  let c960_1298 : Index := 960#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1932 : Index := Scalar.indexCast v1435
  ![0, 960, v1932.toNat]
def k0_off30 (i : grid0.Coords) (k0_t1 : Fin (k0_t1_loop i).trips) : Fin 3 → Nat :=
  let c0_1306 : Index := 0#32
  let c1040_1307 : Index := 1040#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1944 : Index := Scalar.indexCast v1435
  ![0, 1040, v1944.toNat]
def k0_off31 (i : grid0.Coords) (k0_t1 : Fin (k0_t1_loop i).trips) : Fin 3 → Nat :=
  let c0_1315 : Index := 0#32
  let c1120_1316 : Index := 1120#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1956 : Index := Scalar.indexCast v1435
  ![0, 1120, v1956.toNat]
def k0_off32 (i : grid0.Coords) (k0_t1 : Fin (k0_t1_loop i).trips) : Fin 3 → Nat :=
  let c0_1324 : Index := 0#32
  let c1200_1325 : Index := 1200#32
  let c0_i32 : BitVec 32 := 0#32
  let c1_i32_7 : BitVec 32 := 1#32
  let arg8 : BitVec 32 := Scf.iv c0_i32 c1_i32_7 k0_t1
  let c256_i32_948 : BitVec 32 := 256#32
  let v1434 : BitVec 32 := Scalar.muli arg8 c256_i32_948
  let v1435 : BitVec 32 := v1434
  let v1968 : Index := Scalar.indexCast v1435
  ![0, 1200, v1968.toNat]
@[reducible] def k0_t2_loop (i : grid0.Coords) : Scf.Loop 32 :=
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let v12 : BitVec 32 := Scalar.addi c0_i32 v11
  let c1_i32_8 : BitVec 32 := 1#32
  ⟨v15, v12, c1_i32_8⟩
def k0_mult2 (i : grid0.Coords) (k0_t2 : Fin (k0_t2_loop i).trips) : BitVec 32 :=
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  v1434
def k0_off33 (i : grid0.Coords) (k0_t2 : Fin (k0_t2_loop i).trips) : Fin 4 → Nat :=
  let c0_949 : Index := 0#32
  let c0_950 : Index := 0#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1436 : Index := Scalar.indexCast v1435
  let c0_951 : Index := 0#32
  ![0, 0, v1436.toNat, 0]
def k0_off34 (i : grid0.Coords) (k0_t2 : Fin (k0_t2_loop i).trips) : Fin 4 → Nat :=
  let c0_957 : Index := 0#32
  let c1_958 : Index := 1#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1442 : Index := Scalar.indexCast v1435
  let c0_959 : Index := 0#32
  ![0, 1, v1442.toNat, 0]
def k0_off35 (i : grid0.Coords) (k0_t2 : Fin (k0_t2_loop i).trips) : Fin 4 → Nat :=
  let c0_965 : Index := 0#32
  let c2_966 : Index := 2#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1448 : Index := Scalar.indexCast v1435
  let c0_967 : Index := 0#32
  ![0, 2, v1448.toNat, 0]
def k0_off36 (i : grid0.Coords) (k0_t2 : Fin (k0_t2_loop i).trips) : Fin 4 → Nat :=
  let c0_973 : Index := 0#32
  let c3_974 : Index := 3#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1454 : Index := Scalar.indexCast v1435
  let c0_975 : Index := 0#32
  ![0, 3, v1454.toNat, 0]
def k0_off37 (i : grid0.Coords) (k0_t2 : Fin (k0_t2_loop i).trips) : Fin 4 → Nat :=
  let c0_981 : Index := 0#32
  let c4_982 : Index := 4#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1460 : Index := Scalar.indexCast v1435
  let c0_983 : Index := 0#32
  ![0, 4, v1460.toNat, 0]
def k0_off38 (i : grid0.Coords) (k0_t2 : Fin (k0_t2_loop i).trips) : Fin 4 → Nat :=
  let c0_989 : Index := 0#32
  let c5_990 : Index := 5#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1466 : Index := Scalar.indexCast v1435
  let c0_991 : Index := 0#32
  ![0, 5, v1466.toNat, 0]
def k0_off39 (i : grid0.Coords) (k0_t2 : Fin (k0_t2_loop i).trips) : Fin 4 → Nat :=
  let c0_997 : Index := 0#32
  let c6_998 : Index := 6#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1472 : Index := Scalar.indexCast v1435
  let c0_999 : Index := 0#32
  ![0, 6, v1472.toNat, 0]
def k0_off40 (i : grid0.Coords) (k0_t2 : Fin (k0_t2_loop i).trips) : Fin 4 → Nat :=
  let c0_1005 : Index := 0#32
  let c7_1006 : Index := 7#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1478 : Index := Scalar.indexCast v1435
  let c0_1007 : Index := 0#32
  ![0, 7, v1478.toNat, 0]
def k0_off41 (i : grid0.Coords) (k0_t2 : Fin (k0_t2_loop i).trips) : Fin 4 → Nat :=
  let c0_1013 : Index := 0#32
  let c8_1014 : Index := 8#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1484 : Index := Scalar.indexCast v1435
  let c0_1015 : Index := 0#32
  ![0, 8, v1484.toNat, 0]
def k0_off42 (i : grid0.Coords) (k0_t2 : Fin (k0_t2_loop i).trips) : Fin 4 → Nat :=
  let c0_1021 : Index := 0#32
  let c9_1022 : Index := 9#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1490 : Index := Scalar.indexCast v1435
  let c0_1023 : Index := 0#32
  ![0, 9, v1490.toNat, 0]
def k0_off43 (i : grid0.Coords) (k0_t2 : Fin (k0_t2_loop i).trips) : Fin 4 → Nat :=
  let c0_1029 : Index := 0#32
  let c10_1030 : Index := 10#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1496 : Index := Scalar.indexCast v1435
  let c0_1031 : Index := 0#32
  ![0, 10, v1496.toNat, 0]
def k0_off44 (i : grid0.Coords) (k0_t2 : Fin (k0_t2_loop i).trips) : Fin 4 → Nat :=
  let c0_1037 : Index := 0#32
  let c11_1038 : Index := 11#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1502 : Index := Scalar.indexCast v1435
  let c0_1039 : Index := 0#32
  ![0, 11, v1502.toNat, 0]
def k0_off45 (i : grid0.Coords) (k0_t2 : Fin (k0_t2_loop i).trips) : Fin 4 → Nat :=
  let c0_1045 : Index := 0#32
  let c12_1046 : Index := 12#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1508 : Index := Scalar.indexCast v1435
  let c0_1047 : Index := 0#32
  ![0, 12, v1508.toNat, 0]
def k0_off46 (i : grid0.Coords) (k0_t2 : Fin (k0_t2_loop i).trips) : Fin 4 → Nat :=
  let c0_1053 : Index := 0#32
  let c13_1054 : Index := 13#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1514 : Index := Scalar.indexCast v1435
  let c0_1055 : Index := 0#32
  ![0, 13, v1514.toNat, 0]
def k0_off47 (i : grid0.Coords) (k0_t2 : Fin (k0_t2_loop i).trips) : Fin 4 → Nat :=
  let c0_1061 : Index := 0#32
  let c14_1062 : Index := 14#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1520 : Index := Scalar.indexCast v1435
  let c0_1063 : Index := 0#32
  ![0, 14, v1520.toNat, 0]
def k0_off48 (i : grid0.Coords) (k0_t2 : Fin (k0_t2_loop i).trips) : Fin 4 → Nat :=
  let c0_1069 : Index := 0#32
  let c15_1070 : Index := 15#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1526 : Index := Scalar.indexCast v1435
  let c0_1071 : Index := 0#32
  ![0, 15, v1526.toNat, 0]
def k0_off49 (i : grid0.Coords) (k0_t2 : Fin (k0_t2_loop i).trips) : Fin 3 → Nat :=
  let c0_1189 : Index := 0#32
  let c0_1190 : Index := 0#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1788 : Index := Scalar.indexCast v1435
  ![0, 0, v1788.toNat]
def k0_off50 (i : grid0.Coords) (k0_t2 : Fin (k0_t2_loop i).trips) : Fin 3 → Nat :=
  let c0_1198 : Index := 0#32
  let c80_1199 : Index := 80#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1800 : Index := Scalar.indexCast v1435
  ![0, 80, v1800.toNat]
def k0_off51 (i : grid0.Coords) (k0_t2 : Fin (k0_t2_loop i).trips) : Fin 3 → Nat :=
  let c0_1207 : Index := 0#32
  let c160_1208 : Index := 160#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1812 : Index := Scalar.indexCast v1435
  ![0, 160, v1812.toNat]
def k0_off52 (i : grid0.Coords) (k0_t2 : Fin (k0_t2_loop i).trips) : Fin 3 → Nat :=
  let c0_1216 : Index := 0#32
  let c240_1217 : Index := 240#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1824 : Index := Scalar.indexCast v1435
  ![0, 240, v1824.toNat]
def k0_off53 (i : grid0.Coords) (k0_t2 : Fin (k0_t2_loop i).trips) : Fin 3 → Nat :=
  let c0_1225 : Index := 0#32
  let c320_1226 : Index := 320#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1836 : Index := Scalar.indexCast v1435
  ![0, 320, v1836.toNat]
def k0_off54 (i : grid0.Coords) (k0_t2 : Fin (k0_t2_loop i).trips) : Fin 3 → Nat :=
  let c0_1234 : Index := 0#32
  let c400_1235 : Index := 400#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1848 : Index := Scalar.indexCast v1435
  ![0, 400, v1848.toNat]
def k0_off55 (i : grid0.Coords) (k0_t2 : Fin (k0_t2_loop i).trips) : Fin 3 → Nat :=
  let c0_1243 : Index := 0#32
  let c480_1244 : Index := 480#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1860 : Index := Scalar.indexCast v1435
  ![0, 480, v1860.toNat]
def k0_off56 (i : grid0.Coords) (k0_t2 : Fin (k0_t2_loop i).trips) : Fin 3 → Nat :=
  let c0_1252 : Index := 0#32
  let c560_1253 : Index := 560#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1872 : Index := Scalar.indexCast v1435
  ![0, 560, v1872.toNat]
def k0_off57 (i : grid0.Coords) (k0_t2 : Fin (k0_t2_loop i).trips) : Fin 3 → Nat :=
  let c0_1261 : Index := 0#32
  let c640_1262 : Index := 640#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1884 : Index := Scalar.indexCast v1435
  ![0, 640, v1884.toNat]
def k0_off58 (i : grid0.Coords) (k0_t2 : Fin (k0_t2_loop i).trips) : Fin 3 → Nat :=
  let c0_1270 : Index := 0#32
  let c720_1271 : Index := 720#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1896 : Index := Scalar.indexCast v1435
  ![0, 720, v1896.toNat]
def k0_off59 (i : grid0.Coords) (k0_t2 : Fin (k0_t2_loop i).trips) : Fin 3 → Nat :=
  let c0_1279 : Index := 0#32
  let c800_1280 : Index := 800#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1908 : Index := Scalar.indexCast v1435
  ![0, 800, v1908.toNat]
def k0_off60 (i : grid0.Coords) (k0_t2 : Fin (k0_t2_loop i).trips) : Fin 3 → Nat :=
  let c0_1288 : Index := 0#32
  let c880_1289 : Index := 880#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1920 : Index := Scalar.indexCast v1435
  ![0, 880, v1920.toNat]
def k0_off61 (i : grid0.Coords) (k0_t2 : Fin (k0_t2_loop i).trips) : Fin 3 → Nat :=
  let c0_1297 : Index := 0#32
  let c960_1298 : Index := 960#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1932 : Index := Scalar.indexCast v1435
  ![0, 960, v1932.toNat]
def k0_off62 (i : grid0.Coords) (k0_t2 : Fin (k0_t2_loop i).trips) : Fin 3 → Nat :=
  let c0_1306 : Index := 0#32
  let c1040_1307 : Index := 1040#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1944 : Index := Scalar.indexCast v1435
  ![0, 1040, v1944.toNat]
def k0_off63 (i : grid0.Coords) (k0_t2 : Fin (k0_t2_loop i).trips) : Fin 3 → Nat :=
  let c0_1315 : Index := 0#32
  let c1120_1316 : Index := 1120#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1956 : Index := Scalar.indexCast v1435
  ![0, 1120, v1956.toNat]
def k0_off64 (i : grid0.Coords) (k0_t2 : Fin (k0_t2_loop i).trips) : Fin 3 → Nat :=
  let c0_1324 : Index := 0#32
  let c1200_1325 : Index := 1200#32
  let c0_i32 : BitVec 32 := 0#32
  let arg1 : BitVec 32 := BitVec.ofNat 32 (i 1).val
  let c2_i32 : BitVec 32 := 2#32
  let v10 : BitVec 32 := Scalar.muli arg1 c2_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg8 : BitVec 32 := Scf.iv v15 c1_i32_8 k0_t2
  let c256_i32_948 : BitVec 32 := 256#32
  let v1434 : BitVec 32 := Scalar.muli arg8 c256_i32_948
  let v1435 : BitVec 32 := v1434
  let v1968 : Index := Scalar.indexCast v1435
  ![0, 1200, v1968.toNat]
def k0_mult3 (i : grid0.Coords) : BitVec 32 :=
  let arg1 : BitVec 32 := BitVec.ofNat 32 (i 1).val
  let c2_i32_9 : BitVec 32 := 2#32
  let v18 : BitVec 32 := Scalar.muli arg1 c2_i32_9
  let c0_i32_10 : BitVec 32 := 0#32
  let v19 : BitVec 32 := Scalar.addi v18 c0_i32_10
  let c256_i32 : BitVec 32 := 256#32
  let v20 : BitVec 32 := Scalar.muli v19 c256_i32
  v20
def k0_off65 (i : grid0.Coords) (c0_i32_10 : BitVec 32) : Fin 4 → Nat :=
  let c0_11 : Index := 0#32
  let c0_12 : Index := 0#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v22 : Index := Scalar.indexCast v21
  let c0_13 : Index := 0#32
  ![0, 0, v22.toNat, 0]
def k0_off66 (i : grid0.Coords) (c0_i32_10 : BitVec 32) : Fin 4 → Nat :=
  let c0_19 : Index := 0#32
  let c1 : Index := 1#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v28 : Index := Scalar.indexCast v21
  let c0_20 : Index := 0#32
  ![0, 1, v28.toNat, 0]
def k0_off67 (i : grid0.Coords) (c0_i32_10 : BitVec 32) : Fin 4 → Nat :=
  let c0_26 : Index := 0#32
  let c2 : Index := 2#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v34 : Index := Scalar.indexCast v21
  let c0_27 : Index := 0#32
  ![0, 2, v34.toNat, 0]
def k0_off68 (i : grid0.Coords) (c0_i32_10 : BitVec 32) : Fin 4 → Nat :=
  let c0_33 : Index := 0#32
  let c3 : Index := 3#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v40 : Index := Scalar.indexCast v21
  let c0_34 : Index := 0#32
  ![0, 3, v40.toNat, 0]
def k0_off69 (i : grid0.Coords) (c0_i32_10 : BitVec 32) : Fin 4 → Nat :=
  let c0_40 : Index := 0#32
  let c4 : Index := 4#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v46 : Index := Scalar.indexCast v21
  let c0_41 : Index := 0#32
  ![0, 4, v46.toNat, 0]
def k0_off70 (i : grid0.Coords) (c0_i32_10 : BitVec 32) : Fin 4 → Nat :=
  let c0_47 : Index := 0#32
  let c5 : Index := 5#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v52 : Index := Scalar.indexCast v21
  let c0_48 : Index := 0#32
  ![0, 5, v52.toNat, 0]
def k0_off71 (i : grid0.Coords) (c0_i32_10 : BitVec 32) : Fin 4 → Nat :=
  let c0_54 : Index := 0#32
  let c6 : Index := 6#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v58 : Index := Scalar.indexCast v21
  let c0_55 : Index := 0#32
  ![0, 6, v58.toNat, 0]
def k0_off72 (i : grid0.Coords) (c0_i32_10 : BitVec 32) : Fin 4 → Nat :=
  let c0_61 : Index := 0#32
  let c7 : Index := 7#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v64 : Index := Scalar.indexCast v21
  let c0_62 : Index := 0#32
  ![0, 7, v64.toNat, 0]
def k0_off73 (i : grid0.Coords) (c0_i32_10 : BitVec 32) : Fin 4 → Nat :=
  let c0_68 : Index := 0#32
  let c8 : Index := 8#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v70 : Index := Scalar.indexCast v21
  let c0_69 : Index := 0#32
  ![0, 8, v70.toNat, 0]
def k0_off74 (i : grid0.Coords) (c0_i32_10 : BitVec 32) : Fin 4 → Nat :=
  let c0_75 : Index := 0#32
  let c9 : Index := 9#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v76 : Index := Scalar.indexCast v21
  let c0_76 : Index := 0#32
  ![0, 9, v76.toNat, 0]
def k0_off75 (i : grid0.Coords) (c0_i32_10 : BitVec 32) : Fin 4 → Nat :=
  let c0_82 : Index := 0#32
  let c10 : Index := 10#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v82 : Index := Scalar.indexCast v21
  let c0_83 : Index := 0#32
  ![0, 10, v82.toNat, 0]
def k0_off76 (i : grid0.Coords) (c0_i32_10 : BitVec 32) : Fin 4 → Nat :=
  let c0_89 : Index := 0#32
  let c11 : Index := 11#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v88 : Index := Scalar.indexCast v21
  let c0_90 : Index := 0#32
  ![0, 11, v88.toNat, 0]
def k0_off77 (i : grid0.Coords) (c0_i32_10 : BitVec 32) : Fin 4 → Nat :=
  let c0_96 : Index := 0#32
  let c12 : Index := 12#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v94 : Index := Scalar.indexCast v21
  let c0_97 : Index := 0#32
  ![0, 12, v94.toNat, 0]
def k0_off78 (i : grid0.Coords) (c0_i32_10 : BitVec 32) : Fin 4 → Nat :=
  let c0_103 : Index := 0#32
  let c13 : Index := 13#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v100 : Index := Scalar.indexCast v21
  let c0_104 : Index := 0#32
  ![0, 13, v100.toNat, 0]
def k0_off79 (i : grid0.Coords) (c0_i32_10 : BitVec 32) : Fin 4 → Nat :=
  let c0_110 : Index := 0#32
  let c14 : Index := 14#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v106 : Index := Scalar.indexCast v21
  let c0_111 : Index := 0#32
  ![0, 14, v106.toNat, 0]
def k0_off80 (i : grid0.Coords) (c0_i32_10 : BitVec 32) : Fin 4 → Nat :=
  let c0_117 : Index := 0#32
  let c15 : Index := 15#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v112 : Index := Scalar.indexCast v21
  let c0_118 : Index := 0#32
  ![0, 15, v112.toNat, 0]
def k0_off81 (i : grid0.Coords) (c0_i32_10 : BitVec 32) : Fin 3 → Nat :=
  let c0_268 : Index := 0#32
  let c0_269 : Index := 0#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v454 : Index := Scalar.indexCast v21
  ![0, 0, v454.toNat]
def k0_off82 (i : grid0.Coords) (c0_i32_10 : BitVec 32) : Fin 3 → Nat :=
  let c0_277 : Index := 0#32
  let c80 : Index := 80#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v466 : Index := Scalar.indexCast v21
  ![0, 80, v466.toNat]
def k0_off83 (i : grid0.Coords) (c0_i32_10 : BitVec 32) : Fin 3 → Nat :=
  let c0_285 : Index := 0#32
  let c160 : Index := 160#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v478 : Index := Scalar.indexCast v21
  ![0, 160, v478.toNat]
def k0_off84 (i : grid0.Coords) (c0_i32_10 : BitVec 32) : Fin 3 → Nat :=
  let c0_293 : Index := 0#32
  let c240 : Index := 240#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v490 : Index := Scalar.indexCast v21
  ![0, 240, v490.toNat]
def k0_off85 (i : grid0.Coords) (c0_i32_10 : BitVec 32) : Fin 3 → Nat :=
  let c0_301 : Index := 0#32
  let c320 : Index := 320#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v502 : Index := Scalar.indexCast v21
  ![0, 320, v502.toNat]
def k0_off86 (i : grid0.Coords) (c0_i32_10 : BitVec 32) : Fin 3 → Nat :=
  let c0_309 : Index := 0#32
  let c400 : Index := 400#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v514 : Index := Scalar.indexCast v21
  ![0, 400, v514.toNat]
def k0_off87 (i : grid0.Coords) (c0_i32_10 : BitVec 32) : Fin 3 → Nat :=
  let c0_317 : Index := 0#32
  let c480 : Index := 480#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v526 : Index := Scalar.indexCast v21
  ![0, 480, v526.toNat]
def k0_off88 (i : grid0.Coords) (c0_i32_10 : BitVec 32) : Fin 3 → Nat :=
  let c0_325 : Index := 0#32
  let c560 : Index := 560#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v538 : Index := Scalar.indexCast v21
  ![0, 560, v538.toNat]
def k0_off89 (i : grid0.Coords) (c0_i32_10 : BitVec 32) : Fin 3 → Nat :=
  let c0_333 : Index := 0#32
  let c640 : Index := 640#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v550 : Index := Scalar.indexCast v21
  ![0, 640, v550.toNat]
def k0_off90 (i : grid0.Coords) (c0_i32_10 : BitVec 32) : Fin 3 → Nat :=
  let c0_341 : Index := 0#32
  let c720 : Index := 720#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v562 : Index := Scalar.indexCast v21
  ![0, 720, v562.toNat]
def k0_off91 (i : grid0.Coords) (c0_i32_10 : BitVec 32) : Fin 3 → Nat :=
  let c0_349 : Index := 0#32
  let c800 : Index := 800#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v574 : Index := Scalar.indexCast v21
  ![0, 800, v574.toNat]
def k0_off92 (i : grid0.Coords) (c0_i32_10 : BitVec 32) : Fin 3 → Nat :=
  let c0_357 : Index := 0#32
  let c880 : Index := 880#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v586 : Index := Scalar.indexCast v21
  ![0, 880, v586.toNat]
def k0_off93 (i : grid0.Coords) (c0_i32_10 : BitVec 32) : Fin 3 → Nat :=
  let c0_365 : Index := 0#32
  let c960 : Index := 960#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v598 : Index := Scalar.indexCast v21
  ![0, 960, v598.toNat]
def k0_off94 (i : grid0.Coords) (c0_i32_10 : BitVec 32) : Fin 3 → Nat :=
  let c0_373 : Index := 0#32
  let c1040 : Index := 1040#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v610 : Index := Scalar.indexCast v21
  ![0, 1040, v610.toNat]
def k0_off95 (i : grid0.Coords) (c0_i32_10 : BitVec 32) : Fin 3 → Nat :=
  let c0_381 : Index := 0#32
  let c1120 : Index := 1120#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v622 : Index := Scalar.indexCast v21
  ![0, 1120, v622.toNat]
def k0_off96 (i : grid0.Coords) (c0_i32_10 : BitVec 32) : Fin 3 → Nat :=
  let c0_389 : Index := 0#32
  let c1200 : Index := 1200#32
  let arg1 : BitVec 32 := BitVec.ofNat 32 (i 1).val
  let c2_i32_9 : BitVec 32 := 2#32
  let v18 : BitVec 32 := Scalar.muli arg1 c2_i32_9
  let v19 : BitVec 32 := Scalar.addi v18 c0_i32_10
  let c256_i32 : BitVec 32 := 256#32
  let v20 : BitVec 32 := Scalar.muli v19 c256_i32
  let v21 : BitVec 32 := v20
  let v634 : Index := Scalar.indexCast v21
  ![0, 1200, v634.toNat]
def k0_mult4 (i : grid0.Coords) : BitVec 32 :=
  let arg1 : BitVec 32 := BitVec.ofNat 32 (i 1).val
  let c2_i32_397 : BitVec 32 := 2#32
  let v646 : BitVec 32 := Scalar.muli arg1 c2_i32_397
  let c1_i32_398 : BitVec 32 := 1#32
  let v647 : BitVec 32 := Scalar.addi v646 c1_i32_398
  let c256_i32_399 : BitVec 32 := 256#32
  let v648 : BitVec 32 := Scalar.muli v647 c256_i32_399
  v648
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1280x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FlashRefIdeal.lean ====
abbrev S16x16x4096x128 : Shape := ⟨4, ![16, 16, 4096, 128]⟩
abbrev S16x1280x4096 : Shape := ⟨3, ![16, 1280, 4096]⟩
abbrev S16x16x80x4096 : Shape := ⟨4, ![16, 16, 80, 4096]⟩
abbrev S16x16x64x4096 : Shape := ⟨4, ![16, 16, 64, 4096]⟩
abbrev S16x16x4096x4096 : Shape := ⟨4, ![16, 16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S16x16x4096 : Shape := ⟨3, ![16, 16, 4096]⟩
abbrev S16x16x4096x1 : Shape := ⟨4, ![16, 16, 4096, 1]⟩
abbrev S16x1024x4096 : Shape := ⟨3, ![16, 1024, 4096]⟩

abbrev nBuf : Space → Nat
  | .hbm => 37
  | .vmem => 0
  | .smem => 0
  | _ => 0

abbrev bufTy : (tb : Table) → Fin (tcTables nBuf tb) → BufTy
  | .hbm, ⟨0, _⟩ => ⟨S16x16x4096x128, .bf16⟩
  | .hbm, ⟨1, _⟩ => ⟨S16x16x4096x128, .bf16⟩
  | .hbm, ⟨2, _⟩ => ⟨S16x1280x4096, .bf16⟩
  | .hbm, ⟨3, _⟩ => ⟨S16x16x80x4096, .bf16⟩
  | .hbm, ⟨4, _⟩ => ⟨S16x16x64x4096, .bf16⟩
  | .hbm, ⟨5, _⟩ => ⟨S16x16x4096x4096, .f32⟩
  | .hbm, ⟨6, _⟩ => ⟨S4096, .i32⟩
  | .hbm, ⟨7, _⟩ => ⟨S4096x1, .i32⟩
  | .hbm, ⟨8, _⟩ => ⟨S4096, .i32⟩
  | .hbm, ⟨9, _⟩ => ⟨S1x4096, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S16x16x4096x4096, .i1⟩
  | .hbm, ⟨16, _⟩ => ⟨S16x16x4096x4096, .f32⟩
  | .hbm, ⟨17, _⟩ => ⟨S16x16x4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16x16x4096, .f32⟩
  | .hbm, ⟨22, _⟩ => ⟨S16x16x4096x1, .f32⟩
  | .hbm, ⟨23, _⟩ => ⟨S16x16x4096x4096, .f32⟩
  | .hbm, ⟨24, _⟩ => ⟨S16x16x4096x4096, .f32⟩
  | .hbm, ⟨25, _⟩ => ⟨S16x16x4096x4096, .f32⟩
  | .hbm, ⟨26, _⟩ => ⟨S16x16x4096x4096, .f32⟩
  | .hbm, ⟨27, _⟩ => ⟨S16x16x4096x4096, .f32⟩
  | .hbm, ⟨28, _⟩ => ⟨S_, .f32⟩
  | .hbm, ⟨29, _⟩ => ⟨S16x16x4096, .f32⟩
  | .hbm, ⟨30, _⟩ => ⟨S16x16x4096x1, .f32⟩
  | .hbm, ⟨31, _⟩ => ⟨S16x16x4096x4096, .f32⟩
  | .hbm, ⟨32, _⟩ => ⟨S16x16x4096x4096, .f32⟩
  | .hbm, ⟨33, _⟩ => ⟨S16x16x4096x4096, .bf16⟩
  | .hbm, ⟨34, _⟩ => ⟨S16x16x64x4096, .f32⟩
  | .hbm, ⟨35, _⟩ => ⟨S16x1024x4096, .f32⟩
  | .hbm, ⟨36, _⟩ => ⟨S16x1024x4096, .bf16⟩
  | _, _ => ⟨S16x16x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== FfnPlain.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S1024x512 : Shape := ⟨2, ![1024, 512]⟩
abbrev S512x512 : Shape := ⟨2, ![512, 512]⟩

abbrev nBuf : Space → Nat
  | .hbm => 11
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnPlainRefIdeal.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S65536x1024 : Shape := ⟨2, ![65536, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S16x4096x2816, .f32⟩
  | .hbm, ⟨22, _⟩ => ⟨S16x4096x2816, .f32⟩
  | .hbm, ⟨23, _⟩ => ⟨S16x4096x2816, .f32⟩
  | .hbm, ⟨24, _⟩ => ⟨S_, .f32⟩
  | .hbm, ⟨25, _⟩ => ⟨S16x4096x2816, .f32⟩
  | .hbm, ⟨26, _⟩ => ⟨S16x4096x2816, .f32⟩
  | .hbm, ⟨27, _⟩ => ⟨S_, .f32⟩
  | .hbm, ⟨28, _⟩ => ⟨S16x4096x2816, .f32⟩
  | .hbm, ⟨29, _⟩ => ⟨S16x4096x2816, .f32⟩
  | .hbm, ⟨30, _⟩ => ⟨S16x4096x2816, .f32⟩
  | .hbm, ⟨31, _⟩ => ⟨S16x4096x2816, .f32⟩
  | .hbm, ⟨32, _⟩ => ⟨S16x4096x2816, .f32⟩
  | .hbm, ⟨33, _⟩ => ⟨S16x4096x1024, .f32⟩
  | .hbm, ⟨34, _⟩ => ⟨S_, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== FfnAttn.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S16x1024x4096 : Shape := ⟨3, ![16, 1024, 4096]⟩
abbrev S1024x1024 : Shape := ⟨2, ![1024, 1024]⟩
abbrev S65536x1024 : Shape := ⟨2, ![65536, 1024]⟩
abbrev S1x1024 : Shape := ⟨2, ![1, 1024]⟩
abbrev S512x1024 : Shape := ⟨2, ![512, 1024]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S512x512 : Shape := ⟨2, ![512, 512]⟩

abbrev nBuf : Space → Nat
  | .hbm => 14
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16x1024x4096, .bf16⟩
  | .hbm, ⟨6, _⟩ => ⟨S1024x1024, .f32⟩
  | .hbm, ⟨7, _⟩ => ⟨S65536x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1024x1024, .bf16⟩
  | .hbm, ⟨12, _⟩ => ⟨S1x1024, .f32⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnAttnRefIdeal.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S16x1024x4096 : Shape := ⟨3, ![16, 1024, 4096]⟩
abbrev S1024x1024 : Shape := ⟨2, ![1024, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S65536x1024 : Shape := ⟨2, ![65536, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16x1024x4096, .bf16⟩
  | .hbm, ⟨6, _⟩ => ⟨S1024x1024, .f32⟩
  | .hbm, ⟨7, _⟩ => ⟨S16x4096x1024, .bf16⟩
  | .hbm, ⟨8, _⟩ => ⟨S16x4096x1024, .f32⟩
  | .hbm, ⟨9, _⟩ => ⟨S16x4096x1024, .f32⟩
  | .hbm, ⟨10, _⟩ => ⟨S16x4096x1024, .f32⟩
  | .hbm, ⟨11, _⟩ => ⟨S16x4096x1024, .f32⟩
  | .hbm, ⟨12, _⟩ => ⟨S_, .f32⟩
  | .hbm, ⟨13, _⟩ => ⟨S16x4096, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S_, .f32⟩
  | .hbm, ⟨19, _⟩ => ⟨S16x4096x1, .f32⟩
  | .hbm, ⟨20, _⟩ => ⟨S16x4096x1, .f32⟩
  | .hbm, ⟨21, _⟩ => ⟨S16x4096x1, .f32⟩
  | .hbm, ⟨22, _⟩ => ⟨S16x4096x1024, .f32⟩
  | .hbm, ⟨23, _⟩ => ⟨S16x4096x1024, .f32⟩
  | .hbm, ⟨24, _⟩ => ⟨S1x1x1024, .f32⟩
  | .hbm, ⟨25, _⟩ => ⟨S16x4096x1024, .f32⟩
  | .hbm, ⟨26, _⟩ => ⟨S16x4096x1024, .f32⟩
  | .hbm, ⟨27, _⟩ => ⟨S16x4096x2816, .f32⟩
  | .hbm, ⟨28, _⟩ => ⟨S16x4096x2816, .f32⟩
  | .hbm, ⟨29, _⟩ => ⟨S16x4096x2816, .f32⟩
  | .hbm, ⟨30, _⟩ => ⟨S_, .f32⟩
  | .hbm, ⟨31, _⟩ => ⟨S16x4096x2816, .f32⟩
  | .hbm, ⟨32, _⟩ => ⟨S16x4096x2816, .f32⟩
  | .hbm, ⟨33, _⟩ => ⟨S_, .f32⟩
  | .hbm, ⟨34, _⟩ => ⟨S16x4096x2816, .f32⟩
  | .hbm, ⟨35, _⟩ => ⟨S16x4096x2816, .f32⟩
  | .hbm, ⟨36, _⟩ => ⟨S16x4096x2816, .f32⟩
  | .hbm, ⟨37, _⟩ => ⟨S16x4096x2816, .f32⟩
  | .hbm, ⟨38, _⟩ => ⟨S16x4096x2816, .f32⟩
  | .hbm, ⟨39, _⟩ => ⟨S16x4096x1024, .f32⟩
  | .hbm, ⟨40, _⟩ => ⟨S_, .f32⟩
  | .hbm, ⟨41, _⟩ => ⟨S16x4096x1024, .f32⟩
  | .hbm, ⟨42, _⟩ => ⟨S16x4096x1024, .f32⟩
  | .hbm, ⟨43, _⟩ => ⟨S16x4096x1024, .f32⟩
  | .hbm, ⟨44, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Conv.lean ====
abbrev S16x4096x1024 : Shape := ⟨3, ![16, 4096, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S_ : Shape := ⟨0, ![]⟩
abbrev S32x1024 : Shape := ⟨2, ![32, 1024]⟩
abbrev S1 : Shape := ⟨1, ![1]⟩
abbrev S1x1024 : Shape := ⟨2, ![1, 1024]⟩
abbrev S1x2048 : Shape := ⟨2, ![1, 2048]⟩
abbrev S1x256x1024 : Shape := ⟨3, ![1, 256, 1024]⟩
abbrev S288x1024 : Shape := ⟨2, ![288, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S160x128 : Shape := ⟨2, ![160, 128]⟩
abbrev S1x128 : Shape := ⟨2, ![1, 128]⟩
abbrev S128x128 : Shape := ⟨2, ![128, 128]⟩

abbrev nBuf : Space → Nat
  | .hbm => 22
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S_, .f32⟩
  | .hbm, ⟨10, _⟩ => ⟨S32x1024, .f32⟩
  | .hbm, ⟨11, _⟩ => ⟨S_, .i32⟩
  | .hbm, ⟨12, _⟩ => ⟨S1, .i32⟩
  | .hbm, ⟨13, _⟩ => ⟨S32x1024, .f32⟩
  | .hbm, ⟨14, _⟩ => ⟨S1x1024, .f32⟩
  | .hbm, ⟨15, _⟩ => ⟨S1024x2048, .bf16⟩
  | .hbm, ⟨16, _⟩ => ⟨S1x2048, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1024x1024, .bf16⟩
  | .hbm, ⟨21, _⟩ => ⟨S16x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S32x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1x256x1024, .f32⟩
  | .local _ .vmem, ⟨11, _⟩ => ⟨S1x256x1024, .f32⟩
  | .local _ .vmem, ⟨12, _⟩ => ⟨S288x1024, .f32⟩
  | .local _ .vmem, ⟨13, _⟩ => ⟨S256x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvRefIdeal.lean ====
abbrev S16x4096x1024 : Shape := ⟨3, ![16, 4096, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2048 : Shape := ⟨3, ![16, 4096, 2048]⟩
abbrev S1x1x2048 : Shape := ⟨3, ![1, 1, 2048]⟩
abbrev S16x4126x1024 : Shape := ⟨3, ![16, 4126, 1024]⟩
abbrev S1x1024 : Shape := ⟨2, ![1, 1024]⟩

abbrev nBuf : Space → Nat
  | .hbm => 303
  | .vmem => 0
  | .smem => 0
  | _ => 0

abbrev hbmTy0_0 (i : Nat) : BufTy := match i % 128 with
  | 0 => ⟨S16x4096x1024, .f32⟩
  | 1 => ⟨S1024, .f32⟩
  | 2 => ⟨S1024x2048, .f32⟩
  | 3 => ⟨S2048, .f32⟩
  | 4 => ⟨S31x1024, .f32⟩
  | 5 => ⟨S1024, .f32⟩
  | 6 => ⟨S1024, .f32⟩
  | 7 => ⟨S1024, .f32⟩
  | 8 => ⟨S1024x1024, .f32⟩
  | 9 => ⟨S16x4096x1024, .f32⟩
  | 10 => ⟨S_, .f32⟩
  | 11 => ⟨S16x4096, .f32⟩
  | 12 => ⟨S16x4096x1, .f32⟩
  | 13 => ⟨S_, .f32⟩
  | 14 => ⟨S16x4096x1, .f32⟩
  | 15 => ⟨S16x4096x1, .f32⟩
  | 16 => ⟨S_, .f32⟩
  | 17 => ⟨S16x4096x1, .f32⟩
  | 18 => ⟨S16x4096x1, .f32⟩
  | 19 => ⟨S16x4096x1, .f32⟩
  | 20 => ⟨S16x4096x1024, .f32⟩
  | 21 => ⟨S16x4096x1024, .f32⟩
  | 22 => ⟨S1x1x1024, .f32⟩
  | 23 => ⟨S16x4096x1024, .f32⟩
  | 24 => ⟨S16x4096x1024, .f32⟩
  | 25 => ⟨S16x4096x2048, .f32⟩
  | 26 => ⟨S1x1x2048, .f32⟩
  | 27 => ⟨S16x4096x2048, .f32⟩
  | 28 => ⟨S16x4096x2048, .f32⟩
  | 29 => ⟨S16x4096x1024, .f32⟩
  | 30 => ⟨S16x4096x1024, .f32⟩
  | 31 => ⟨S16x4096x1024, .f32⟩
  | 32 => ⟨S16x4096x1024, .f32⟩
  | 33 => ⟨S_, .f32⟩
  | 34 => ⟨S16x4096x1024, .f32⟩
  | 35 => ⟨S16x4096x1024, .f32⟩
  | 36 => ⟨S_, .f32⟩
  | 37 => ⟨S16x4096x1024, .f32⟩
  | 38 => ⟨S16x4096x1024, .f32⟩
  | 39 => ⟨S16x4096x1024, .f32⟩
  | 40 => ⟨S_, .i32⟩
  | 41 => ⟨S_, .f32⟩
  | 42 => ⟨S16x4126x1024, .f32⟩
  | 43 => ⟨S16x4096x1024, .f32⟩
  | 44 => ⟨S1x1024, .f32⟩
  | 45 => ⟨S1024, .f32⟩
  | 46 => ⟨S1x1x1024, .f32⟩
  | 47 => ⟨S16x4096x1024, .f32⟩
  | 48 => ⟨S16x4096x1024, .f32⟩
  | 49 => ⟨S_, .f32⟩
  | 50 => ⟨S16x4096x1024, .f32⟩
  | 51 => ⟨S16x4096x1024, .f32⟩
  | 52 => ⟨S16x4096x1024, .f32⟩
  | 53 => ⟨S1x1024, .f32⟩
  | 54 => ⟨S1024, .f32⟩
  | 55 => ⟨S1x1x1024, .f32⟩
  | 56 => ⟨S16x4096x1024, .f32⟩
  | 57 => ⟨S16x4096x1024, .f32⟩
  | 58 => ⟨S16x4096x1024, .f32⟩
  | 59 => ⟨S16x4096x1024, .f32⟩
  | 60 => ⟨S1x1024, .f32⟩
  | 61 => ⟨S1024, .f32⟩
  | 62 => ⟨S1x1x1024, .f32⟩
  | 63 => ⟨S16x4096x1024, .f32⟩
  | 64 => ⟨S16x4096x1024, .f32⟩
  | 65 => ⟨S16x4096x1024, .f32⟩
  | 66 => ⟨S16x4096x1024, .f32⟩
  | 67 => ⟨S1x1024, .f32⟩
  | 68 => ⟨S1024, .f32⟩
  | 69 => ⟨S1x1x1024, .f32⟩
  | 70 => ⟨S16x4096x1024, .f32⟩
  | 71 => ⟨S16x4096x1024, .f32⟩
  | 72 => ⟨S16x4096x1024, .f32⟩
  | 73 => ⟨S16x4096x1024, .f32⟩
  | 74 => ⟨S1x1024, .f32⟩
  | 75 => ⟨S1024, .f32⟩
  | 76 => ⟨S1x1x1024, .f32⟩
  | 77 => ⟨S16x4096x1024, .f32⟩
  | 78 => ⟨S16x4096x1024, .f32⟩
  | 79 => ⟨S16x4096x1024, .f32⟩
  | 80 => ⟨S16x4096x1024, .f32⟩
  | 81 => ⟨S1x1024, .f32⟩
  | 82 => ⟨S1024, .f32⟩
  | 83 => ⟨S1x1x1024, .f32⟩
  | 84 => ⟨S16x4096x1024, .f32⟩
  | 85 => ⟨S16x4096x1024, .f32⟩
  | 86 => ⟨S16x4096x1024, .f32⟩
  | 87 => ⟨S16x4096x1024, .f32⟩
  | 88 => ⟨S1x1024, .f32⟩
  | 89 => ⟨S1024, .f32⟩
  | 90 => ⟨S1x1x1024, .f32⟩
  | 91 => ⟨S16x4096x1024, .f32⟩
  | 92 => ⟨S16x4096x1024, .f32⟩
  | 93 => ⟨S16x4096x1024, .f32⟩
  | 94 => ⟨S16x4096x1024, .f32⟩
  | 95 => ⟨S1x1024, .f32⟩
  | 96 => ⟨S1024, .f32⟩
  | 97 => ⟨S1x1x1024, .f32⟩
  | 98 => ⟨S16x4096x1024, .f32⟩
  | 99 => ⟨S16x4096x1024, .f32⟩
  | 100 => ⟨S16x4096x1024, .f32⟩
  | 101 => ⟨S16x4096x1024, .f32⟩
  | 102 => ⟨S1x1024, .f32⟩
  | 103 => ⟨S1024, .f32⟩
  | 104 => ⟨S1x1x1024, .f32⟩
  | 105 => ⟨S16x4096x1024, .f32⟩
  | 106 => ⟨S16x4096x1024, .f32⟩
  | 107 => ⟨S16x4096x1024, .f32⟩
  | 108 => ⟨S16x4096x1024, .f32⟩
  | 109 => ⟨S1x1024, .f32⟩
  | 110 => ⟨S1024, .f32⟩
  | 111 => ⟨S1x1x1024, .f32⟩
  | 112 => ⟨S16x4096x1024, .f32⟩
  | 113 => ⟨S16x4096x1024, .f32⟩
  | 114 => ⟨S16x4096x1024, .f32⟩
  | 115 => ⟨S16x4096x1024, .f32⟩
  | 116 => ⟨S1x1024, .f32⟩
  | 117 => ⟨S1024, .f32⟩
  | 118 => ⟨S1x1x1024, .f32⟩
  | 119 => ⟨S16x4096x1024, .f32⟩
  | 120 => ⟨S16x4096x1024, .f32⟩
  | 121 => ⟨S16x4096x1024, .f32⟩
  | 122 => ⟨S16x4096x1024, .f32⟩
  | 123 => ⟨S1x1024, .f32⟩
  | 124 => ⟨S1024, .f32⟩
  | 125 => ⟨S1x1x1024, .f32⟩
  | 126 => ⟨S16x4096x1024, .f32⟩
  | 127 => ⟨S16x4096x1024, .f32⟩
  | _ => ⟨S16x4096x1024, .f32⟩

abbrev hbmTy0_1 (i : Nat) : BufTy := match i % 128 with
  | 0 => ⟨S16x4096x1024, .f32⟩
  | 1 => ⟨S16x4096x1024, .f32⟩
  | 2 => ⟨S1x1024, .f32⟩
  | 3 => ⟨S1024, .f32⟩
  | 4 => ⟨S1x1x1024, .f32⟩
  | 5 => ⟨S16x4096x1024, .f32⟩
  | 6 => ⟨S16x4096x1024, .f32⟩
  | 7 => ⟨S16x4096x1024, .f32⟩
  | 8 => ⟨S16x4096x1024, .f32⟩
  | 9 => ⟨S1x1024, .f32⟩
  | 10 => ⟨S1024, .f32⟩
  | 11 => ⟨S1x1x1024, .f32⟩
  | 12 => ⟨S16x4096x1024, .f32⟩
  | 13 => ⟨S16x4096x1024, .f32⟩
  | 14 => ⟨S16x4096x1024, .f32⟩
  | 15 => ⟨S16x4096x1024, .f32⟩
  | 16 => ⟨S1x1024, .f32⟩
  | 17 => ⟨S1024, .f32⟩
  | 18 => ⟨S1x1x1024, .f32⟩
  | 19 => ⟨S16x4096x1024, .f32⟩
  | 20 => ⟨S16x4096x1024, .f32⟩
  | 21 => ⟨S16x4096x1024, .f32⟩
  | 22 => ⟨S16x4096x1024, .f32⟩
  | 23 => ⟨S1x1024, .f32⟩
  | 24 => ⟨S1024, .f32⟩
  | 25 => ⟨S1x1x1024, .f32⟩
  | 26 => ⟨S16x4096x1024, .f32⟩
  | 27 => ⟨S16x4096x1024, .f32⟩
  | 28 => ⟨S16x4096x1024, .f32⟩
  | 29 => ⟨S16x4096x1024, .f32⟩
  | 30 => ⟨S1x1024, .f32⟩
  | 31 => ⟨S1024, .f32⟩
  | 32 => ⟨S1x1x1024, .f32⟩
  | 33 => ⟨S16x4096x1024, .f32⟩
  | 34 => ⟨S16x4096x1024, .f32⟩
  | 35 => ⟨S16x4096x1024, .f32⟩
  | 36 => ⟨S16x4096x1024, .f32⟩
  | 37 => ⟨S1x1024, .f32⟩
  | 38 => ⟨S1024, .f32⟩
  | 39 => ⟨S1x1x1024, .f32⟩
  | 40 => ⟨S16x4096x1024, .f32⟩
  | 41 => ⟨S16x4096x1024, .f32⟩
  | 42 => ⟨S16x4096x1024, .f32⟩
  | 43 => ⟨S16x4096x1024, .f32⟩
  | 44 => ⟨S1x1024, .f32⟩
  | 45 => ⟨S1024, .f32⟩
  | 46 => ⟨S1x1x1024, .f32⟩
  | 47 => ⟨S16x4096x1024, .f32⟩
  | 48 => ⟨S16x4096x1024, .f32⟩
  | 49 => ⟨S16x4096x1024, .f32⟩
  | 50 => ⟨S16x4096x1024, .f32⟩
  | 51 => ⟨S1x1024, .f32⟩
  | 52 => ⟨S1024, .f32⟩
  | 53 => ⟨S1x1x1024, .f32⟩
  | 54 => ⟨S16x4096x1024, .f32⟩
  | 55 => ⟨S16x4096x1024, .f32⟩
  | 56 => ⟨S16x4096x1024, .f32⟩
  | 57 => ⟨S16x4096x1024, .f32⟩
  | 58 => ⟨S1x1024, .f32⟩
  | 59 => ⟨S1024, .f32⟩
  | 60 => ⟨S1x1x1024, .f32⟩
  | 61 => ⟨S16x4096x1024, .f32⟩
  | 62 => ⟨S16x4096x1024, .f32⟩
  | 63 => ⟨S16x4096x1024, .f32⟩
  | 64 => ⟨S16x4096x1024, .f32⟩
  | 65 => ⟨S1x1024, .f32⟩
  | 66 => ⟨S1024, .f32⟩
  | 67 => ⟨S1x1x1024, .f32⟩
  | 68 => ⟨S16x4096x1024, .f32⟩
  | 69 => ⟨S16x4096x1024, .f32⟩
  | 70 => ⟨S16x4096x1024, .f32⟩
  | 71 => ⟨S16x4096x1024, .f32⟩
  | 72 => ⟨S1x1024, .f32⟩
  | 73 => ⟨S1024, .f32⟩
  | 74 => ⟨S1x1x1024, .f32⟩
  | 75 => ⟨S16x4096x1024, .f32⟩
  | 76 => ⟨S16x4096x1024, .f32⟩
  | 77 => ⟨S16x4096x1024, .f32⟩
  | 78 => ⟨S16x4096x1024, .f32⟩
  | 79 => ⟨S1x1024, .f32⟩
  | 80 => ⟨S1024, .f32⟩
  | 81 => ⟨S1x1x1024, .f32⟩
  | 82 => ⟨S16x4096x1024, .f32⟩
  | 83 => ⟨S16x4096x1024, .f32⟩
  | 84 => ⟨S16x4096x1024, .f32⟩
  | 85 => ⟨S16x4096x1024, .f32⟩
  | 86 => ⟨S1x1024, .f32⟩
  | 87 => ⟨S1024, .f32⟩
  | 88 => ⟨S1x1x1024, .f32⟩
  | 89 => ⟨S16x4096x1024, .f32⟩
  | 90 => ⟨S16x4096x1024, .f32⟩
  | 91 => ⟨S16x4096x1024, .f32⟩
  | 92 => ⟨S16x4096x1024, .f32⟩
  | 93 => ⟨S1x1024, .f32⟩
  | 94 => ⟨S1024, .f32⟩
  | 95 => ⟨S1x1x1024, .f32⟩
  | 96 => ⟨S16x4096x1024, .f32⟩
  | 97 => ⟨S16x4096x1024, .f32⟩
  | 98 => ⟨S16x4096x1024, .f32⟩
  | 99 => ⟨S16x4096x1024, .f32⟩
  | 100 => ⟨S1x1024, .f32⟩
  | 101 => ⟨S1024, .f32⟩
  | 102 => ⟨S1x1x1024, .f32⟩
  | 103 => ⟨S16x4096x1024, .f32⟩
  | 104 => ⟨S16x4096x1024, .f32⟩
  | 105 => ⟨S16x4096x1024, .f32⟩
  | 106 => ⟨S16x4096x1024, .f32⟩
  | 107 => ⟨S1x1024, .f32⟩
  | 108 => ⟨S1024, .f32⟩
  | 109 => ⟨S1x1x1024, .f32⟩
  | 110 => ⟨S16x4096x1024, .f32⟩
  | 111 => ⟨S16x4096x1024, .f32⟩
  | 112 => ⟨S16x4096x1024, .f32⟩
  | 113 => ⟨S16x4096x1024, .f32⟩
  | 114 => ⟨S1x1024, .f32⟩
  | 115 => ⟨S1024, .f32⟩
  | 116 => ⟨S1x1x1024, .f32⟩
  | 117 => ⟨S16x4096x1024, .f32⟩
  | 118 => ⟨S16x4096x1024, .f32⟩
  | 119 => ⟨S16x4096x1024, .f32⟩
  | 120 => ⟨S16x4096x1024, .f32⟩
  | 121 => ⟨S1x1024, .f32⟩
  | 122 => ⟨S1024, .f32⟩
  | 123 => ⟨S1x1x1024, .f32⟩
  | 124 => ⟨S16x4096x1024, .f32⟩
  | 125 => ⟨S16x4096x1024, .f32⟩
  | 126 => ⟨S16x4096x1024, .f32⟩
  | 127 => ⟨S16x4096x1024, .f32⟩
  | _ => ⟨S16x4096x1024, .f32⟩

abbrev hbmTy0_2 (i : Nat) : BufTy := match i % 128 with
  | 0 => ⟨S1x1024, .f32⟩
  | 1 => ⟨S1024, .f32⟩
  | 2 => ⟨S1x1x1024, .f32⟩
  | 3 => ⟨S16x4096x1024, .f32⟩
  | 4 => ⟨S16x4096x1024, .f32⟩
  | 5 => ⟨S16x4096x1024, .f32⟩
  | 6 => ⟨S1x1x1024, .f32⟩
  | 7 => ⟨S16x4096x1024, .f32⟩
  | 8 => ⟨S16x4096x1024, .f32⟩
  | 9 => ⟨S_, .f32⟩
  | 10 => ⟨S16x4096, .f32⟩
  | 11 => ⟨S16x4096x1, .f32⟩
  | 12 => ⟨S_, .f32⟩
  | 13 => ⟨S16x4096x1, .f32⟩
  | 14 => ⟨S16x4096x1, .f32⟩
  | 15 => ⟨S16x4096x1024, .f32⟩
  | 16 => ⟨S16x4096x1024, .f32⟩
  | 17 => ⟨S16x4096x1024, .f32⟩
  | 18 => ⟨S_, .f32⟩
  | 19 => ⟨S16x4096, .f32⟩
  | 20 => ⟨S16x4096x1, .f32⟩
  | 21 => ⟨S_, .f32⟩
  | 22 => ⟨S16x4096x1, .f32⟩
  | 23 => ⟨S16x4096x1, .f32⟩
  | 24 => ⟨S_, .f32⟩
  | 25 => ⟨S16x4096x1, .f32⟩
  | 26 => ⟨S16x4096x1, .f32⟩
  | 27 => ⟨S16x4096x1, .f32⟩
  | 28 => ⟨S16x4096x1024, .f32⟩
  | 29 => ⟨S16x4096x1024, .f32⟩
  | 30 => ⟨S1x1x1024, .f32⟩
  | 31 => ⟨S16x4096x1024, .f32⟩
  | 32 => ⟨S16x4096x1024, .f32⟩
  | 33 => ⟨S1x1x1024, .f32⟩
  | 34 => ⟨S16x4096x1024, .f32⟩
  | 35 => ⟨S16x4096x1024, .f32⟩
  | 36 => ⟨S16x4096x1024, .f32⟩
  | 37 => ⟨S16x4096x1024, .f32⟩
  | 38 => ⟨S_, .f32⟩
  | 39 => ⟨S16x4096x1024, .f32⟩
  | 40 => ⟨S16x4096x1024, .f32⟩
  | 41 => ⟨S_, .f32⟩
  | 42 => ⟨S16x4096x1024, .f32⟩
  | 43 => ⟨S16x4096x1024, .f32⟩
  | 44 => ⟨S16x4096x1024, .f32⟩
  | 45 => ⟨S16x4096x1024, .f32⟩
  | 46 => ⟨S16x4096x1024, .f32⟩
  | _ => ⟨S16x4096x1024, .f32⟩

abbrev hbmTy (i : Nat) : BufTy := match i / 128 with
  | 0 => hbmTy0_0 i
  | 1 => hbmTy0_1 i
  | 2 => hbmTy0_2 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_cst_5 : Ref sig .tc := ⟨.hbm, 265, rfl⟩
abbrev main_v248 : Ref sig .tc := ⟨.hbm, 266, rfl⟩
abbrev main_v249 : Ref sig .tc := ⟨.hbm, 267, rfl⟩
abbrev main_cst_6 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_cst_7 : Ref sig .tc := ⟨.hbm, 274, rfl⟩
abbrev main_v255 : Ref sig .tc := ⟨.hbm, 275, rfl⟩
abbrev main_v256 : Ref sig .tc := ⟨.hbm, 276, rfl⟩
abbrev main_cst_8 : Ref sig .tc := ⟨.hbm, 277, rfl⟩
abbrev main_v257 : Ref sig .tc := ⟨.hbm, 278, rfl⟩
abbrev main_v258 : Ref sig .tc := ⟨.hbm, 279, rfl⟩
abbrev main_cst_9 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_call1_v0 : Ref sig .tc := ⟨.hbm, 292, rfl⟩
abbrev main_call1_v1 : Ref sig .tc := ⟨.hbm, 293, rfl⟩
abbrev main_call1_cst : Ref sig .tc := ⟨.hbm, 294, rfl⟩
abbrev main_call1_v2 : Ref sig .tc := ⟨.hbm, 295, rfl⟩
abbrev main_call1_v3 : Ref sig .tc := ⟨.hbm, 296, rfl⟩
abbrev main_call1_cst_0 : Ref sig .tc := ⟨.hbm, 297, rfl⟩
abbrev main_call1_v4 : Ref sig .tc := ⟨.hbm, 298, rfl⟩
abbrev main_call1_v5 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩

abbrev nD : Nat := 1
abbrev τ : Topo := Topo.v7x

variable {F : FTy → Type} [FloatOps F]
-- ==== Pool.lean ====
abbrev S16x4096x1024 : Shape := ⟨3, ![16, 4096, 1024]⟩
abbrev S1024 : Shape := ⟨1, ![1024]⟩
abbrev S4x256x256 : Shape := ⟨3, ![4, 256, 256]⟩
abbrev S1x1024 : Shape := ⟨2, ![1, 1024]⟩
abbrev S1x512x1024 : Shape := ⟨3, ![1, 512, 1024]⟩
abbrev S528x1024 : Shape := ⟨2, ![528, 1024]⟩
abbrev S16x1024 : Shape := ⟨2, ![16, 1024]⟩
abbrev S512x1024 : Shape := ⟨2, ![512, 1024]⟩
abbrev S512 : Shape := ⟨1, ![512]⟩
abbrev S512x1 : Shape := ⟨2, ![512, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1x1024, .f32⟩
  | .hbm, ⟨5, _⟩ => ⟨S4x256x256, .bf16⟩
  | .hbm, ⟨6, _⟩ => ⟨S1x1024, .f32⟩
  | .hbm, ⟨7, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S4x256x256, .bf16⟩
  | .local _ .vmem, ⟨4, _⟩ => ⟨S1x1024, .f32⟩
  | .local _ .vmem, ⟨5, _⟩ => ⟨S1x512x1024, .f32⟩
  | .local _ .vmem, ⟨6, _⟩ => ⟨S1x512x1024, .f32⟩
  | .local _ .vmem, ⟨7, _⟩ => ⟨S528x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolRefIdeal.lean ====
abbrev S16x4096x1024 : Shape := ⟨3, ![16, 4096, 1024]⟩
abbrev S1024 : Shape := ⟨1, ![1024]⟩
abbrev S4x256x256 : Shape := ⟨3, ![4, 256, 256]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S4096 : Shape := ⟨1, ![4096]⟩
abbrev S1x4096x1 : Shape := ⟨3, ![1, 4096, 1]⟩
abbrev S16x4096x256 : Shape := ⟨3, ![16, 4096, 256]⟩
abbrev S16x4097x256 : Shape := ⟨3, ![16, 4097, 256]⟩
abbrev S1x256x256 : Shape := ⟨3, ![1, 256, 256]⟩
abbrev S256x256 : Shape := ⟨2, ![256, 256]⟩
abbrev S16x4099x256 : Shape := ⟨3, ![16, 4099, 256]⟩
abbrev S16x4103x256 : Shape := ⟨3, ![16, 4103, 256]⟩
abbrev S16x4111x256 : Shape := ⟨3, ![16, 4111, 256]⟩

abbrev nBuf : Space → Nat
  | .hbm => 150
  | .vmem => 0
  | .smem => 0
  | _ => 0

abbrev hbmTy0_0 (i : Nat) : BufTy := match i % 128 with
  | 0 => ⟨S16x4096x1024, .f32⟩
  | 1 => ⟨S1024, .f32⟩
  | 2 => ⟨S4x256x256, .f32⟩
  | 3 => ⟨S1024, .f32⟩
  | 4 => ⟨S16x4096x1024, .f32⟩
  | 5 => ⟨S_, .f32⟩
  | 6 => ⟨S16x4096, .f32⟩
  | 7 => ⟨S16x4096x1, .f32⟩
  | 8 => ⟨S_, .f32⟩
  | 9 => ⟨S16x4096x1, .f32⟩
  | 10 => ⟨S16x4096x1, .f32⟩
  | 11 => ⟨S_, .f32⟩
  | 12 => ⟨S16x4096x1, .f32⟩
  | 13 => ⟨S16x4096x1, .f32⟩
  | 14 => ⟨S16x4096x1, .f32⟩
  | 15 => ⟨S16x4096x1024, .f32⟩
  | 16 => ⟨S16x4096x1024, .f32⟩
  | 17 => ⟨S1x1x1024, .f32⟩
  | 18 => ⟨S16x4096x1024, .f32⟩
  | 19 => ⟨S16x4096x1024, .f32⟩
  | 20 => ⟨S4096, .f32⟩
  | 21 => ⟨S_, .f32⟩
  | 22 => ⟨S4096, .f32⟩
  | 23 => ⟨S4096, .f32⟩
  | 24 => ⟨S1x4096x1, .f32⟩
  | 25 => ⟨S16x4096x256, .f32⟩
  | 26 => ⟨S_, .i32⟩
  | 27 => ⟨S_, .f32⟩
  | 28 => ⟨S16x4097x256, .f32⟩
  | 29 => ⟨S16x4096x256, .f32⟩
  | 30 => ⟨S_, .f32⟩
  | 31 => ⟨S16x4096x256, .f32⟩
  | 32 => ⟨S16x4096x256, .f32⟩
  | 33 => ⟨S16x4096x256, .f32⟩
  | 34 => ⟨S16x4096x256, .f32⟩
  | 35 => ⟨S_, .f32⟩
  | 36 => ⟨S1x4096x1, .f32⟩
  | 37 => ⟨S1x4096x1, .f32⟩
  | 38 => ⟨S16x4096x256, .f32⟩
  | 39 => ⟨S16x4096x256, .f32⟩
  | 40 => ⟨S16x4096x256, .f32⟩
  | 41 => ⟨S1x256x256, .f32⟩
  | 42 => ⟨S256x256, .f32⟩
  | 43 => ⟨S16x4096x256, .f32⟩
  | 44 => ⟨S16x4096x256, .f32⟩
  | 45 => ⟨S_, .i32⟩
  | 46 => ⟨S_, .f32⟩
  | 47 => ⟨S16x4099x256, .f32⟩
  | 48 => ⟨S16x4096x256, .f32⟩
  | 49 => ⟨S_, .f32⟩
  | 50 => ⟨S16x4096x256, .f32⟩
  | 51 => ⟨S16x4096x256, .f32⟩
  | 52 => ⟨S16x4096x256, .f32⟩
  | 53 => ⟨S16x4096x256, .f32⟩
  | 54 => ⟨S16x4096x256, .f32⟩
  | 55 => ⟨S16x4096x256, .f32⟩
  | 56 => ⟨S16x4096x256, .f32⟩
  | 57 => ⟨S16x4096x256, .f32⟩
  | 58 => ⟨S_, .f32⟩
  | 59 => ⟨S1x4096x1, .f32⟩
  | 60 => ⟨S1x4096x1, .f32⟩
  | 61 => ⟨S16x4096x256, .f32⟩
  | 62 => ⟨S16x4096x256, .f32⟩
  | 63 => ⟨S16x4096x256, .f32⟩
  | 64 => ⟨S1x256x256, .f32⟩
  | 65 => ⟨S256x256, .f32⟩
  | 66 => ⟨S16x4096x256, .f32⟩
  | 67 => ⟨S16x4096x256, .f32⟩
  | 68 => ⟨S_, .i32⟩
  | 69 => ⟨S_, .f32⟩
  | 70 => ⟨S16x4103x256, .f32⟩
  | 71 => ⟨S16x4096x256, .f32⟩
  | 72 => ⟨S_, .f32⟩
  | 73 => ⟨S16x4096x256, .f32⟩
  | 74 => ⟨S16x4096x256, .f32⟩
  | 75 => ⟨S16x4096x256, .f32⟩
  | 76 => ⟨S16x4096x256, .f32⟩
  | 77 => ⟨S16x4096x256, .f32⟩
  | 78 => ⟨S16x4096x256, .f32⟩
  | 79 => ⟨S16x4096x256, .f32⟩
  | 80 => ⟨S16x4096x256, .f32⟩
  | 81 => ⟨S16x4096x256, .f32⟩
  | 82 => ⟨S16x4096x256, .f32⟩
  | 83 => ⟨S16x4096x256, .f32⟩
  | 84 => ⟨S16x4096x256, .f32⟩
  | 85 => ⟨S16x4096x256, .f32⟩
  | 86 => ⟨S16x4096x256, .f32⟩
  | 87 => ⟨S16x4096x256, .f32⟩
  | 88 => ⟨S16x4096x256, .f32⟩
  | 89 => ⟨S_, .f32⟩
  | 90 => ⟨S1x4096x1, .f32⟩
  | 91 => ⟨S1x4096x1, .f32⟩
  | 92 => ⟨S16x4096x256, .f32⟩
  | 93 => ⟨S16x4096x256, .f32⟩
  | 94 => ⟨S16x4096x256, .f32⟩
  | 95 => ⟨S1x256x256, .f32⟩
  | 96 => ⟨S256x256, .f32⟩
  | 97 => ⟨S16x4096x256, .f32⟩
  | 98 => ⟨S16x4096x256, .f32⟩
  | 99 => ⟨S_, .i32⟩
  | 100 => ⟨S_, .f32⟩
  | 101 => ⟨S16x4111x256, .f32⟩
  | 102 => ⟨S16x4096x256, .f32⟩
  | 103 => ⟨S_, .f32⟩
  | 104 => ⟨S16x4096x256, .f32⟩
  | 105 => ⟨S16x4096x256, .f32⟩
  | 106 => ⟨S16x4096x256, .f32⟩
  | 107 => ⟨S16x4096x256, .f32⟩
  | 108 => ⟨S16x4096x256, .f32⟩
  | 109 => ⟨S16x4096x256, .f32⟩
  | 110 => ⟨S16x4096x256, .f32⟩
  | 111 => ⟨S16x4096x256, .f32⟩
  | 112 => ⟨S16x4096x256, .f32⟩
  | 113 => ⟨S16x4096x256, .f32⟩
  | 114 => ⟨S16x4096x256, .f32⟩
  | 115 => ⟨S16x4096x256, .f32⟩
  | 116 => ⟨S16x4096x256, .f32⟩
  | 117 => ⟨S16x4096x256, .f32⟩
  | 118 => ⟨S16x4096x256, .f32⟩
  | 119 => ⟨S16x4096x256, .f32⟩
  | 120 => ⟨S16x4096x256, .f32⟩
  | 121 => ⟨S16x4096x256, .f32⟩
  | 122 => ⟨S16x4096x256, .f32⟩
  | 123 => ⟨S16x4096x256, .f32⟩
  | 124 => ⟨S16x4096x256, .f32⟩
  | 125 => ⟨S16x4096x256, .f32⟩
  | 126 => ⟨S16x4096x256, .f32⟩
  | 127 => ⟨S16x4096x256, .f32⟩
  | _ => ⟨S16x4096x1024, .f32⟩

abbrev hbmTy0_1 (i : Nat) : BufTy := match i % 128 with
  | 0 => ⟨S16x4096x256, .f32⟩
  | 1 => ⟨S16x4096x256, .f32⟩
  | 2 => ⟨S16x4096x256, .f32⟩
  | 3 => ⟨S16x4096x256, .f32⟩
  | 4 => ⟨S16x4096x256, .f32⟩
  | 5 => ⟨S16x4096x256, .f32⟩
  | 6 => ⟨S16x4096x256, .f32⟩
  | 7 => ⟨S16x4096x256, .f32⟩
  | 8 => ⟨S_, .f32⟩
  | 9 => ⟨S1x4096x1, .f32⟩
  | 10 => ⟨S1x4096x1, .f32⟩
  | 11 => ⟨S16x4096x256, .f32⟩
  | 12 => ⟨S16x4096x256, .f32⟩
  | 13 => ⟨S16x4096x256, .f32⟩
  | 14 => ⟨S1x256x256, .f32⟩
  | 15 => ⟨S256x256, .f32⟩
  | 16 => ⟨S16x4096x256, .f32⟩
  | 17 => ⟨S16x4096x1024, .f32⟩
  | 18 => ⟨S1x1x1024, .f32⟩
  | 19 => ⟨S16x4096x1024, .f32⟩
  | 20 => ⟨S16x4096x1024, .f32⟩
  | 21 => ⟨S16x4096x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_call1_v0 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_call2_v0 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_11 : Ref sig .tc := ⟨.hbm, 99, rfl⟩
abbrev main_call3_v0 : Ref sig .tc := ⟨.hbm, 100, rfl⟩
abbrev main_v79 : Ref sig .tc := ⟨.hbm, 101, rfl⟩
abbrev main_v80 : Ref sig .tc := ⟨.hbm, 102, rfl⟩
abbrev main_cst_12 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_13 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩

abbrev nD : Nat := 1
abbrev τ : Topo := Topo.v7x

variable {F : FTy → Type} [FloatOps F]
-- ==== Proj.lean ====
abbrev S16x4096x1024 : Shape := ⟨3, ![16, 4096, 1024]⟩
abbrev S1024 : Shape := ⟨1, ![1024]⟩
abbrev S1024x3088 : Shape := ⟨2, ![1024, 3088]⟩
abbrev S16 : Shape := ⟨1, ![16]⟩
abbrev S384x1024 : Shape := ⟨2, ![384, 1024]⟩
abbrev S1024x2048 : Shape := ⟨2, ![1024, 2048]⟩
abbrev S1024x1024 : Shape := ⟨2, ![1024, 1024]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S16x16x4096x128 : Shape := ⟨4, ![16, 16, 4096, 128]⟩
abbrev S16x1280x4096 : Shape := ⟨3, ![16, 1280, 4096]⟩
abbrev S1x512x1024 : Shape := ⟨3, ![1, 512, 1024]⟩
abbrev S1x16x512x128 : Shape := ⟨4, ![1, 16, 512, 128]⟩
abbrev S1x1280x512 : Shape := ⟨3, ![1, 1280, 512]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S1024x512 : Shape := ⟨2, ![1024, 512]⟩
abbrev S16x512 : Shape := ⟨2, ![16, 512]⟩
abbrev S64x512 : Shape := ⟨2, ![64, 512]⟩
abbrev S1x64x512 : Shape := ⟨3, ![1, 64, 512]⟩
abbrev S1x16x512 : Shape := ⟨3, ![1, 16, 512]⟩
abbrev S512x128 : Shape := ⟨2, ![512, 128]⟩
abbrev S512x512 : Shape := ⟨2, ![512, 512]⟩
abbrev S512x384 : Shape := ⟨2, ![512, 384]⟩
abbrev S1x1x512x128 : Shape := ⟨4, ![1, 1, 512, 128]⟩

abbrev nBuf : Space → Nat
  | .hbm => 29
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S384x1024, .bf16⟩
  | .hbm, ⟨5, _⟩ => ⟨S1024x2048, .f32⟩
  | .hbm, ⟨6, _⟩ => ⟨S1024x2048, .bf16⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S_, .f32⟩
  | .hbm, ⟨11, _⟩ => ⟨S1024x128, .f32⟩
  | .hbm, ⟨12, _⟩ => ⟨S1024x16, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S1024x128, .bf16⟩
  | .hbm, ⟨17, _⟩ => ⟨S_, .f32⟩
  | .hbm, ⟨18, _⟩ => ⟨S1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S1x1024, .f32⟩
  | .hbm, ⟨26, _⟩ => ⟨S16x16x4096x128, .bf16⟩
  | .hbm, ⟨27, _⟩ => ⟨S16x16x4096x128, .bf16⟩
  | .hbm, ⟨28, _⟩ => ⟨S16x1280x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1024, .bf16⟩
  | .local _ .vmem, ⟨5, _⟩ => ⟨S1024x128, .bf16⟩
  | .local _ .vmem, ⟨6, _⟩ => ⟨S1x128, .f32⟩
  | .local _ .vmem, ⟨7, _⟩ => ⟨S384x1024, .bf16⟩
  | .local _ .vmem, ⟨8, _⟩ => ⟨S1x16x512x128, .bf16⟩
  | .local _ .vmem, ⟨9, _⟩ => ⟨S1x16x512x128, .bf16⟩
  | .local _ .vmem, ⟨10, _⟩ => ⟨S1x16x512x128, .bf16⟩
  | .local _ .vmem, ⟨11, _⟩ => ⟨S1x16x512x128, .bf16⟩
  | .local _ .vmem, ⟨12, _⟩ => ⟨S1x1280x512, .bf16⟩
  | .local _ .vmem, ⟨13, _⟩ => ⟨S1x1280x512, .bf16⟩
  | .local _ .vmem, ⟨14, _⟩ => ⟨S8x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1280x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjRefIdeal.lean ====
abbrev S16x4096x1024 : Shape := ⟨3, ![16, 4096, 1024]⟩
abbrev S1024 : Shape := ⟨1, ![1024]⟩
abbrev S1024x3088 : Shape := ⟨2, ![1024, 3088]⟩
abbrev S16 : Shape := ⟨1, ![16]⟩
abbrev S384x1024 : Shape := ⟨2, ![384, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3088 : Shape := ⟨3, ![16, 4096, 3088]⟩
abbrev S16x4096x16 : Shape := ⟨3, ![16, 4096, 16]⟩
abbrev S1x1x16 : Shape := ⟨3, ![1, 1, 16]⟩
abbrev S64 : Shape := ⟨1, ![64]⟩
abbrev S16x4096x16x1 : Shape := ⟨4, ![16, 4096, 16, 1]⟩
abbrev S16x4096x16x64 : Shape := ⟨4, ![16, 4096, 16, 64]⟩
abbrev S16x4096x8x2x64 : Shape := ⟨5, ![16, 4096, 8, 2, 64]⟩
abbrev S16x4096x8x1x64 : Shape := ⟨5, ![16, 4096, 8, 1, 64]⟩
abbrev S16x4096x8x1x128 : Shape := ⟨5, ![16, 4096, 8, 1, 128]⟩
abbrev S16x4096x8x2x128 : Shape := ⟨5, ![16, 4096, 8, 2, 128]⟩
abbrev S16x4096x16x128 : Shape := ⟨4, ![16, 4096, 16, 128]⟩
abbrev S16x16x4096x128 : Shape := ⟨4, ![16, 16, 4096, 128]⟩
abbrev S16x16x64x4096 : Shape := ⟨4, ![16, 16, 64, 4096]⟩
abbrev S16x16x16x4096 : Shape := ⟨4, ![16, 16, 16, 4096]⟩
abbrev S16x16x80x4096 : Shape := ⟨4, ![16, 16, 80, 4096]⟩
abbrev S16x1280x4096 : Shape := ⟨3, ![16, 1280, 4096]⟩

abbrev nBuf : Space → Nat
  | .hbm => 123
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S384x1024, .bf16⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S16x4096x3088, .f32⟩
  | .hbm, ⟨22, _⟩ => ⟨S16x4096x16, .f32⟩
  | .hbm, ⟨23, _⟩ => ⟨S1x1x16, .f32⟩
  | .hbm, ⟨24, _⟩ => ⟨S16x4096x16, .f32⟩
  | .hbm, ⟨25, _⟩ => ⟨S16x4096x16, .f32⟩
  | .hbm, ⟨26, _⟩ => ⟨S16x4096x16, .f32⟩
  | .hbm, ⟨27, _⟩ => ⟨S_, .f32⟩
  | .hbm, ⟨28, _⟩ => ⟨S16x4096x16, .f32⟩
  | .hbm, ⟨29, _⟩ => ⟨S16x4096x16, .f32⟩
  | .hbm, ⟨30, _⟩ => ⟨S16x4096x16, .f32⟩
  | .hbm, ⟨31, _⟩ => ⟨S16x4096x16, .f32⟩
  | .hbm, ⟨32, _⟩ => ⟨S16x4096x16, .i1⟩
  | .hbm, ⟨33, _⟩ => ⟨S16x4096x16, .f32⟩
  | .hbm, ⟨34, _⟩ => ⟨S16x4096x16, .f32⟩
  | .hbm, ⟨35, _⟩ => ⟨S16x4096x16, .f32⟩
  | .hbm, ⟨36, _⟩ => ⟨S16x4096x16, .f32⟩
  | .hbm, ⟨37, _⟩ => ⟨S16x4096x16, .f32⟩
  | .hbm, ⟨38, _⟩ => ⟨S16x4096x16, .f32⟩
  | .hbm, ⟨39, _⟩ => ⟨S16x4096x16, .f32⟩
  | .hbm, ⟨40, _⟩ => ⟨S16x4096x16, .f32⟩
  | .hbm, ⟨41, _⟩ => ⟨S16x4096x16, .f32⟩
  | .hbm, ⟨42, _⟩ => ⟨S_, .f32⟩
  | .hbm, ⟨43, _⟩ => ⟨S_, .f32⟩
  | .hbm, ⟨44, _⟩ => ⟨S16x4096x16, .f32⟩
  | .hbm, ⟨45, _⟩ => ⟨S_, .f32⟩
  | .hbm, ⟨46, _⟩ => ⟨S16x4096x16, .f32⟩
  | .hbm, ⟨47, _⟩ => ⟨S16x4096x16, .f32⟩
  | .hbm, ⟨48, _⟩ => ⟨S64, .i32⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S_, .i32⟩
  | .hbm, ⟨53, _⟩ => ⟨S64, .i32⟩
  | .hbm, ⟨54, _⟩ => ⟨S64, .i1⟩
  | .hbm, ⟨55, _⟩ => ⟨S_, .i32⟩
  | .hbm, ⟨56, _⟩ => ⟨S64, .i32⟩
  | .hbm, ⟨57, _⟩ => ⟨S64, .i1⟩
  | .hbm, ⟨58, _⟩ => ⟨S16x4096x16x1, .f32⟩
  | .hbm, ⟨59, _⟩ => ⟨S_, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S16x4096x16x64, .i1⟩
  | .hbm, ⟨69, _⟩ => ⟨S16x4096x16x64, .f32⟩
  | .hbm, ⟨70, _⟩ => ⟨S16x4096x16x64, .f32⟩
  | .hbm, ⟨71, _⟩ => ⟨S16x4096x16x64, .f32⟩
  | .hbm, ⟨72, _⟩ => ⟨S_, .i32⟩
  | .hbm, ⟨73, _⟩ => ⟨S64, .i32⟩
  | .hbm, ⟨74, _⟩ => ⟨S64, .i1⟩
  | .hbm, ⟨75, _⟩ => ⟨S_, .f32⟩
  | .hbm, ⟨76, _⟩ => ⟨S_, .f32⟩
  | .hbm, ⟨77, _⟩ => ⟨S16x4096x16x64, .i1⟩
  | .hbm, ⟨78, _⟩ => ⟨S16x4096x16x64, .f32⟩
  | .hbm, ⟨79, _⟩ => ⟨S16x4096x16x64, .f32⟩
  | .hbm, ⟨80, _⟩ => ⟨S16x4096x16x64, .f32⟩
  | .hbm, ⟨81, _⟩ => ⟨S_, .f32⟩
  | .hbm, ⟨82, _⟩ => ⟨S_, .f32⟩
  | .hbm, ⟨83, _⟩ => ⟨S16x4096x16x64, .i1⟩
  | .hbm, ⟨84, _⟩ => ⟨S16x4096x16x64, .f32⟩
  | .hbm, ⟨85, _⟩ => ⟨S16x4096x16x64, .f32⟩
  | .hbm, ⟨86, _⟩ => ⟨S16x4096x1024, .f32⟩
  | .hbm, ⟨87, _⟩ => ⟨S_, .f32⟩
  | .hbm, ⟨88, _⟩ => ⟨S16x4096x1024, .f32⟩
  | .hbm, ⟨89, _⟩ => ⟨S16x4096x1024, .f32⟩
  | .hbm, ⟨90, _⟩ => ⟨S16x4096x8x2x64, .f32⟩
  | .hbm, ⟨91, _⟩ => ⟨S16x4096x8x2x64, .f32⟩
  | .hbm, ⟨92, _⟩ => ⟨S16x4096x8x1x64, .f32⟩
  | .hbm, ⟨93, _⟩ => ⟨S16x4096x8x1x64, .f32⟩
  | .hbm, ⟨94, _⟩ => ⟨S16x4096x8x1x128, .f32⟩
  | .hbm, ⟨95, _⟩ => ⟨S16x4096x8x1x64, .f32⟩
  | .hbm, ⟨96, _⟩ => ⟨S16x4096x8x1x64, .f32⟩
  | .hbm, ⟨97, _⟩ => ⟨S16x4096x8x1x128, .f32⟩
  | .hbm, ⟨98, _⟩ => ⟨S16x4096x8x2x128, .f32⟩
  | .hbm, ⟨99, _⟩ => ⟨S16x4096x16x128, .f32⟩
  | .hbm, ⟨100, _⟩ => ⟨S16x16x4096x128, .f32⟩
  | .hbm, ⟨101, _⟩ => ⟨S16x4096x1024, .f32⟩
  | .hbm, ⟨102, _⟩ => ⟨S16x4096x8x2x64, .f32⟩
  | .hbm, ⟨103, _⟩ => ⟨S16x4096x8x2x64, .f32⟩
  | .hbm, ⟨104, _⟩ => ⟨S16x4096x8x1x64, .f32⟩
  | .hbm, ⟨105, _⟩ => ⟨S16x4096x8x1x64, .f32⟩
  | .hbm, ⟨106, _⟩ => ⟨S16x4096x8x1x128, .f32⟩
  | .hbm, ⟨107, _⟩ => ⟨S16x4096x8x1x64, .f32⟩
  | .hbm, ⟨108, _⟩ => ⟨S16x4096x8x1x64, .f32⟩
  | .hbm, ⟨109, _⟩ => ⟨S16x4096x8x1x128, .f32⟩
  | .hbm, ⟨110, _⟩ => ⟨S16x4096x8x2x128, .f32⟩
  | .hbm, ⟨111, _⟩ => ⟨S16x4096x16x128, .f32⟩
  | .hbm, ⟨112, _⟩ => ⟨S16x16x4096x128, .f32⟩
  | .hbm, ⟨113, _⟩ => ⟨S16x4096x1024, .f32⟩
  | .hbm, ⟨114, _⟩ => ⟨S16x4096x16x64, .f32⟩
  | .hbm, ⟨115, _⟩ => ⟨S16x16x64x4096, .f32⟩
  | .hbm, ⟨116, _⟩ => ⟨S_, .f32⟩
  | .hbm, ⟨117, _⟩ => ⟨S16x16x16x4096, .f32⟩
  | .hbm, ⟨118, _⟩ => ⟨S16x16x80x4096, .f32⟩
  | .hbm, ⟨119, _⟩ => ⟨S16x1280x4096, .f32⟩
  | .hbm, ⟨120, _⟩ => ⟨S16x16x4096x128, .bf16⟩
  | .hbm, ⟨121, _⟩ => ⟨S16x16x4096x128, .bf16⟩
  | .hbm, ⟨122, _⟩ => ⟨S16x1280x4096, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v18 : Ref sig .tc := ⟨.hbm, 41, rfl⟩
abbrev main_call1_call0_cst : Ref sig .tc := ⟨.hbm, 42, rfl⟩
abbrev main_call1_call0_v0 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c : Ref sig .tc := ⟨.hbm, 49, rfl⟩
abbrev main_v23 : Ref sig .tc := ⟨.hbm, 50, rfl⟩
abbrev main_v24 : Ref sig .tc := ⟨.hbm, 51, rfl⟩
abbrev main_c_3 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_5 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_v30 : Ref sig .tc := ⟨.hbm, 63, rfl⟩
abbrev main_cst_7 : Ref sig .tc := ⟨.hbm, 64, rfl⟩
abbrev main_call3_v0 : Ref sig .tc := ⟨.hbm, 65, rfl⟩
abbrev main_v31 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_v32 : Ref sig .tc := ⟨.hbm, 71, rfl⟩
abbrev main_c_8 : Ref sig .tc := ⟨.hbm, 72, rfl⟩
abbrev main_v33 : Ref sig .tc := ⟨.hbm, 73, rfl⟩
abbrev main_v34 : Ref sig .tc := ⟨.hbm, 74, rfl⟩
abbrev main_cst_9 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_v35 : Ref sig .tc := ⟨.hbm, 80, rfl⟩
abbrev main_cst_10 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_v36 : Ref sig .tc := ⟨.hbm, 85, rfl⟩
abbrev main_v37 : Ref sig .tc := ⟨.hbm, 86, rfl⟩
abbrev main_cst_11 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_12 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩

abbrev nD : Nat := 1
abbrev τ : Topo := Topo.v7x

variable {F : FTy → Type} [FloatOps F]
-- ==== Proof.FfnSpec.lean ====
/-
  The feed-forward layer as a function of one row: root-mean-square normalisation, the gated
  product with its half step, and the two facts about sums that join the four column pieces.
-/
module

public import Idealize.ShloMosaic.PureOps.Ideal
public import Idealize.ShloMosaic.Lib.Pointwise
public import Idealize.ShloMosaic.Lib.Pipeline.ValueKit

@[expose] public section

noncomputable section

namespace Cert.Ffn.Spec

open Idealize.ShloMosaic
open scoped BigOperators

/-- A row divided by the root of its mean square (plus the small constant), times the gain. -/
def rmsRow (x g : Fin 1024 → EReal) (c : Fin 1024) : EReal :=
  x c * Ideal.rsqrt (Ideal.div (∑ k, x k * x k) (Ideal.ofBits .f32 0x44800000#32)
    + Ideal.ofBits .f32 0x358637BD#32) * g c

/-- One hidden unit: `silu` of the gate's product times the other product. -/
def unit (h wg wu : Fin 1024 → EReal) : EReal :=
  (∑ k, h k * wg k) * Ideal.logistic (∑ k, h k * wg k) * ∑ k, h k * wu k

/-- The gated product of a row, at one output column. -/
def gated (h : Fin 1024 → EReal) (wg wu : Fin 1024 → Fin 2816 → EReal) (wd : Fin 2816 → EReal) : EReal :=
  ∑ j, unit h (fun k => wg k j) (fun k => wu k j) * wd j

/-- The feed-forward layer of a row: the row plus half of the gated product of the normalised row. -/
def ffnRow (x g : Fin 1024 → EReal) (wg wu : Fin 1024 → Fin 2816 → EReal) (wd : Fin 2816 → Fin 1024 → EReal)
    (c : Fin 1024) : EReal :=
  x c + Ideal.ofBits .f32 0x3F000000#32 * gated (rmsRow x g) wg wu (fun j => wd j c)

/-- A row plus a product of another row with a matrix. -/
def mixRow (x o : Fin 1024 → EReal) (w : Fin 1024 → Fin 1024 → EReal) (c : Fin 1024) : EReal := x c + ∑ e, o e * w e c

/-- Equal rows and matrices, equal sums. -/
theorem mixRow_congr {x x' o o' : Fin 1024 → EReal} {w w' : Fin 1024 → Fin 1024 → EReal} (hx : ∀ k, x k = x' k) (ho : ∀ k, o k = o' k)
    (hw : ∀ k j, w k j = w' k j) (c : Fin 1024) : mixRow x o w c = mixRow x' o' w' c := by
  rw [funext hx, funext ho, funext fun k => funext (hw k)]

/-- Equal rows and gains, equal normalised rows. -/
theorem rmsRow_congr {x x' g g' : Fin 1024 → EReal} (hx : ∀ k, x k = x' k) (hg : ∀ k, g k = g' k) (c : Fin 1024) :
    rmsRow x g c = rmsRow x' g' c := by
  rw [funext hx, funext hg]

/-- Equal rows, gains and weights, equal layers. -/
theorem ffnRow_congr {x x' g g' : Fin 1024 → EReal} {wg wg' wu wu' : Fin 1024 → Fin 2816 → EReal} {wd wd' : Fin 2816 → Fin 1024 → EReal}
    (hx : ∀ k, x k = x' k) (hg : ∀ k, g k = g' k) (h1 : ∀ k j, wg k j = wg' k j) (h2 : ∀ k j, wu k j = wu' k j)
    (h3 : ∀ k j, wd k j = wd' k j) (c : Fin 1024) : ffnRow x g wg wu wd c = ffnRow x' g' wg' wu' wd' c := by
  rw [funext hx, funext hg, funext fun k => funext (h1 k), funext fun k => funext (h2 k), funext fun k => funext (h3 k)]

/-- A sum over the 2816 hidden columns is the sum over its four pieces of 768, 768, 768 and 512. -/
theorem sum_pieces (f : Fin 2816 → EReal) :
    ∑ j, f j = (((∑ j : Fin 768, f ⟨j.val, by omega⟩) + ∑ j : Fin 768, f ⟨768 + j.val, by omega⟩)
      + ∑ j : Fin 768, f ⟨1536 + j.val, by omega⟩) + ∑ j : Fin 512, f ⟨2304 + j.val, by omega⟩ := by
  have h1 := Fin.sum_univ_add (a := 2304) (b := 512) (fun j : Fin (2304 + 512) => f (j.cast (by rfl)))
  have h2 := Fin.sum_univ_add (a := 1536) (b := 768) (fun j : Fin (1536 + 768) => f ⟨j.val, by omega⟩)
  have h3 := Fin.sum_univ_add (a := 768) (b := 768) (fun j : Fin (768 + 768) => f ⟨j.val, by omega⟩)
  exact h1.trans (congrArg (· + _) (h2.trans (congrArg (· + _) h3)))

end Cert.Ffn.Spec

end
-- ==== Proof.FfnKernel.lean ====
/-
  The feed-forward kernel with the last normalisation: what a grid point stores, row by row, and the result array.
-/
module

public import proofs.«01_k».proof.Proof.FfnSpec
public import proofs.«01_k».proof.Proof.Gen.FfnIdeal.Value

@[expose] public section

set_option maxRecDepth 16384

noncomputable section

namespace Cert.FfnIdeal.Rows

open Cert.FfnIdeal Cert.FfnIdeal.Gen Cert.Ffn.Spec Idealize.ShloMosaic Idealize.ShloMosaic.TcCoe Idealize.SL.Sem
open Idealize.ShloMosaic.Pipeline (Dat)
open scoped BigOperators

/-- The normalised row the kernel multiplies with the weights. -/
theorem norm_apply (x : Vec Ideal S512x1024 .f32) (g : Vec Ideal S1x1024 .f32) (r : Fin 512) (k : Fin 1024) :
    k0_pay3 (F := Ideal) x g (ix2 r k) = rmsRow (fun k => x (ix2 r k)) (fun k => g (ix2 0 k)) k := by
  pointwise [k0_pay3, k0_pay2, rmsRow]

/-- The first piece's hidden units. -/
theorem first_apply (x : Vec Ideal S512x1024 .f32) (g : Vec Ideal S1x1024 .f32) (wg wu : Vec Ideal S1024x768 .bf16) (wd : Vec Ideal S768x1024 .bf16) (r : Fin 512) (c : Fin 1024) :
    k0_pay4 (F := Ideal) x g wg wu wd (ix2 r c) = ∑ j : Fin 768, unit (rmsRow (fun k => x (ix2 r k)) (fun k => g (ix2 0 k))) (fun k => wg (ix2 k j)) (fun k => wu (ix2 k j)) * wd (ix2 j c) := by
  have h := norm_apply x g r
  revert h; unfold k0_pay4; generalize k0_pay3 (F := Ideal) x g = n; intro h
  pointwise [unit, ← h]

/-- The first pieces of the gated product, summed. -/
theorem rest_apply (n : FVec Ideal S512x1024 .bf16) (a : FVec Ideal S512x1024 .f32) (p : FVec Ideal S512x768 .f32) (wu1 : FVec Ideal S1024x768 .bf16) (wd1 : Vec Ideal S768x1024 .bf16)
    (wg2 wu2 : Vec Ideal S1024x768 .bf16) (wd2 : Vec Ideal S768x1024 .bf16) (wg3 wu3 : Vec Ideal S1024x512 .bf16) (wd3 : Vec Ideal S512x1024 .bf16) (r : Fin 512) (c : Fin 1024) :
    k0_pay7 (F := Ideal) n a p wu1 wd1 wg2 wu2 wd2 wg3 wu3 wd3 (ix2 r c)
      = a (ix2 r c) + (∑ j : Fin 768, (p (ix2 r j) * Ideal.logistic (p (ix2 r j)) * ∑ k, n (ix2 r k) * wu1 (ix2 k j)) * wd1 (ix2 j c))
        + (∑ j : Fin 768, unit (fun k => n (ix2 r k)) (fun k => wg2 (ix2 k j)) (fun k => wu2 (ix2 k j)) * wd2 (ix2 j c))
        + ∑ j : Fin 512, unit (fun k => n (ix2 r k)) (fun k => wg3 (ix2 k j)) (fun k => wu3 (ix2 k j)) * wd3 (ix2 j c) := by
  pointwise [k0_pay7, unit]

/-- The last normalisation. -/
theorem last_apply (x a : FVec Ideal S512x1024 .f32) (h : Ideal .f32) (g : Vec Ideal S1x1024 .f32) (r : Fin 512) (c : Fin 1024) :
    k0_pay1 (F := Ideal) x a h g (ix2 r c) = rmsRow (fun k => x (ix2 r k) + h * a (ix2 r k)) (fun k => g (ix2 0 k)) c := by
  pointwise [k0_pay1, rmsRow]

/-- What a grid point stores, over the blocks it reads: the layer's row and the last normalisation. -/
theorem tile_apply (x : Vec Ideal S512x1024 .f32) (g : Vec Ideal S1x1024 .f32) (wg wu : Vec Ideal S1024x2816 .bf16) (wd : Vec Ideal S2816x1024 .bf16)
    (fg : Vec Ideal S1x1024 .f32) (r : Fin 512) (c : Fin 1024) :
    out0_6 (F := Ideal) x g wg wu wd fg (ix2 r c)
      = rmsRow (ffnRow (fun k => x (ix2 r k)) (fun k => g (ix2 0 k)) (fun k j => wg (ix2 k j)) (fun k j => wu (ix2 k j)) (fun j c => wd (ix2 j c))) (fun k => fg (ix2 0 k)) c := by
  have e : ∀ c, (k0_pay7 (F := Ideal) (k0_pay3 x g) (k0_pay4 x g (View.ld wg r0_2) (View.ld wu r0_2) (View.ld wd r0_3)) (k0_pay5 x g (View.ld wg r0_4)) (k0_pay6 (View.ld wu r0_4)) (View.ld wd r0_5) (View.ld wg r0_6) (View.ld wu r0_6) (View.ld wd r0_7) (View.ld wg r0_8) (View.ld wu r0_8) (View.ld wd r0_9)) (ix2 r c)
      = gated (rmsRow (fun k => x (ix2 r k)) (fun k => g (ix2 0 k))) (fun k j => wg (ix2 k j)) (fun k j => wu (ix2 k j)) (fun j => wd (ix2 j c)) := by
    intro c
    rw [rest_apply, first_apply, gated, sum_pieces]
    simp only [norm_apply, unit, k0_pay6]
    pointwise [k0_pay5]
    simp only [norm_apply]
  unfold out0_6
  frame_out
  rw [last_apply]
  pointwise [k0_pay2]
  simp only [e, ffnRow]
  rfl

variable (m : (ℓ : Loc nD τ sig) → Buf (Elt Ideal) ℓ)

/-- The block each grid point reads or writes of every array. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

/-- The result, at flat row `n` and column `c`, over the arrays the windows read. -/
def G (x : Vec Ideal S65536x1024 .f32) (g : Vec Ideal S1x1024 .f32) (wg wu : Vec Ideal S1024x2816 .bf16) (wd : Vec Ideal S2816x1024 .bf16) (fg : Vec Ideal S1x1024 .f32) :
    Vec Ideal S65536x1024 .f32 := fun i =>
  rmsRow (ffnRow (fun k => x (ix2 (i 0) k)) (fun k => g (ix2 0 k)) (fun k j => wg (ix2 k j)) (fun k j => wu (ix2 k j)) (fun j c => wd (ix2 j c))) (fun k => fg (ix2 0 k)) (i 1)

/-- The result array after the run is that function of the arrays the windows read. -/
theorem final (c : Dev nD) : (dats m 0 c).arrAt 6 cfg0.N = G (V m c main_v0) (V m c main_v4) (V m c main_v1) (V m c main_v2) (V m c main_v3) (V m c main_v5) := by
  refine (dats m 0 c).arrAt_eq_of_covers 6 _ (by decide +kernel) fun t hf y => ?_
  blk_simp
  rw [after0_6]
  idx_vars y
  rw [tile_apply]
  have e0 : ∀ k, iblk m c 0 t (ix2 y0 k) = V m c main_v0 (ix2 ⟨t.val * 512 + y0.val, by have h : t.val < 128 := t.isLt; omega⟩ k) := fun k => by
    blk_ext [iblk, idx t]
  have e1 : ∀ k, iblk m c 1 t (ix2 0 k) = V m c main_v4 (ix2 0 k) := fun k => by blk_ext [iblk, idx t]
  have e2 : ∀ k j, iblk m c 2 t (ix2 k j) = V m c main_v1 (ix2 k j) := fun k j => by blk_ext [iblk, idx t]
  have e3 : ∀ k j, iblk m c 3 t (ix2 k j) = V m c main_v2 (ix2 k j) := fun k j => by blk_ext [iblk, idx t]
  have e4 : ∀ k j, iblk m c 4 t (ix2 k j) = V m c main_v3 (ix2 k j) := fun k j => by blk_ext [iblk, idx t]
  have e5 : ∀ k, iblk m c 5 t (ix2 0 k) = V m c main_v5 (ix2 0 k) := fun k => by blk_ext [iblk, idx t]
  have e6 : ((View.whole main_v6).slice (win0_6.rect t)).emb (ix2 y0 y1) = ix2 ⟨t.val * 512 + y0.val, by have h : t.val < 128 := t.isLt; omega⟩ y1 := by
    blk_ext [idx t]
  simp only [e0, e1, e2, e3, e4, e5, e6, G]
  rfl

/-- The row-major reading of the flattened input. -/
theorem V0 (c : Dev nD) (n : Fin 65536) (k : Fin 1024) : V m c main_v0 (ix2 n k)
    = m ((c : Thread nD τ).loc main_arg0) (ix3 ⟨n.val / 4096, by omega⟩ ⟨n.val % 4096, by omega⟩ k) := by
  entry_read
  refine shapeCast_apply _ _ _ _ ?_
  refine (Shape.rowMajor_val_three (d := ![16, 4096, 1024]) _).trans (Eq.trans ?_ (Shape.rowMajor_val_two (d := ![65536, 1024]) _).symm)
  show (n.val / 4096 * 4096 + n.val % 4096) * 1024 + k.val = n.val * 1024 + k.val
  omega

/-- The gain of the normalisation, as a row. -/
theorem V4 (c : Dev nD) (k : Fin 1024) : V m c main_v4 (ix2 0 k) = m ((c : Thread nD τ).loc main_arg1) (ix1 k) := by
  entry_read; pointwise

/-- The gain of the last normalisation, as a row. -/
theorem V5 (c : Dev nD) (k : Fin 1024) : V m c main_v5 (ix2 0 k) = m ((c : Thread nD τ).loc main_arg5) (ix1 k) := by
  entry_read; pointwise

/-- The gate matrix is read as given. -/
theorem V1 (c : Dev nD) (k : Fin 1024) (j : Fin 2816) : V m c main_v1 (ix2 k j) = m ((c : Thread nD τ).loc main_arg2) (ix2 k j) := by
  entry_read; pointwise

/-- The up matrix is read as given. -/
theorem V2 (c : Dev nD) (k : Fin 1024) (j : Fin 2816) : V m c main_v2 (ix2 k j) = m ((c : Thread nD τ).loc main_arg3) (ix2 k j) := by
  entry_read; pointwise

/-- The down matrix is read as given. -/
theorem V3 (c : Dev nD) (k : Fin 2816) (j : Fin 1024) : V m c main_v3 (ix2 k j) = m ((c : Thread nD τ).loc main_arg4) (ix2 k j) := by
  entry_read; pointwise

/-- The result, at flat row `n` and column `c`, over the arrays the call is given. -/
theorem final_apply (c : Dev nD) (n : Fin 65536) (k : Fin 1024) : (dats m 0 c).arrAt 6 cfg0.N (ix2 n k)
    = rmsRow (ffnRow (fun k => m ((c : Thread nD τ).loc main_arg0) (ix3 ⟨n.val / 4096, by omega⟩ ⟨n.val % 4096, by omega⟩ k)) (fun k => m ((c : Thread nD τ).loc main_arg1) (ix1 k))
        (fun k j => m ((c : Thread nD τ).loc main_arg2) (ix2 k j)) (fun k j => m ((c : Thread nD τ).loc main_arg3) (ix2 k j)) (fun k j => m ((c : Thread nD τ).loc main_arg4) (ix2 k j)))
        (fun k => m ((c : Thread nD τ).loc main_arg5) (ix1 k)) k := by
  rw [final]
  exact rmsRow_congr (fun _ => ffnRow_congr (V0 m c n) (V4 m c) (V1 m c) (V2 m c) (V3 m c) _) (V5 m c) k

end Cert.FfnIdeal.Rows

end
-- ==== Proof.FfnRef.lean ====
/-
  The reference's feed-forward layer with the last normalisation, row by row.
-/
module

public import proofs.«01_k».proof.Proof.FfnSpec
public import proofs.«01_k».proof.Proof.Gen.FfnRefIdeal.Read

@[expose] public section

set_option maxRecDepth 16384

noncomputable section

namespace Cert.FfnRefIdeal.Rows

open Cert.FfnRefIdeal Cert.FfnRefIdeal.Gen Cert.FfnRefIdeal.Read Cert.Ffn.Spec Idealize.ShloMosaic Idealize.ShloMosaic.TcCoe Idealize.SL.Sem
open scoped BigOperators

variable (x : Vec Ideal S16x4096x1024 .f32) (g : Vec Ideal S1024 .f32) (wg wu : Vec Ideal S1024x2816 .f32) (wd : Vec Ideal S2816x1024 .f32) (fg : Vec Ideal S1024 .f32)

/-- The normalised row. -/
theorem norm_apply (b : Fin 16) (s : Fin 4096) (k : Fin 1024) :
    val_main_v12 (F := Ideal) x g (ix3 b s k) = rmsRow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rmsRow]

/-- The hidden units. -/
theorem unit_apply (b : Fin 16) (s : Fin 4096) (j : Fin 2816) :
    val_main_v16 (F := Ideal) x g wg wu (ix3 b s j) = unit (rmsRow (fun k => x (ix3 b s k)) (fun k => g (ix1 k))) (fun k => wg (ix2 k j)) (fun k => wu (ix2 k j)) := by
  have h := norm_apply x g b s
  revert h
  unfold val_main_v16 val_main_v14 val_main_v15 val_main_call0_v5 val_main_call0_v3 val_main_call0_v1 val_main_call0_v0 val_main_v13
  generalize val_main_v12 (F := Ideal) x g = n
  intro h
  pointwise [val_main_call0_v4, val_main_call0_v2, val_main_call0_cst, val_main_call0_cst_0, unit, ← h, Ideal.logistic]

/-- The layer's row. -/
theorem layer_apply (b : Fin 16) (s : Fin 4096) (k : Fin 1024) :
    val_main_v20 (F := Ideal) x g wg wu wd (ix3 b s k) = ffnRow (fun k => x (ix3 b s k)) (fun k => g (ix1 k)) (fun k j => wg (ix2 k j)) (fun k j => wu (ix2 k j)) (fun k j => wd (ix2 k j)) k := by
  have h := unit_apply x g wg wu b s
  revert h
  unfold val_main_v20 val_main_v19 val_main_v17
  generalize val_main_v16 (F := Ideal) x g wg wu = n
  intro h
  pointwise [val_main_v18, val_main_cst_2, ffnRow, gated, ← h]

/-- The last normalisation. -/
theorem last_apply (b : Fin 16) (s : Fin 4096) (k : Fin 1024) :
    val_main_v33 (F := Ideal) x g wg wu wd fg (ix3 b s k) = rmsRow (ffnRow (fun k => x (ix3 b s k)) (fun k => g (ix1 k)) (fun k j => wg (ix2 k j)) (fun k j => wu (ix2 k j)) (fun k j => wd (ix2 k j))) (fun k => fg (ix1 k)) k := by
  have h := layer_apply x g wg wu wd b s
  revert h
  unfold val_main_v33 val_main_v30 val_main_v29 val_main_v28 val_main_v27 val_main_v25 val_main_v23 val_main_v22 val_main_v21
  generalize val_main_v20 (F := Ideal) x g wg wu wd = n
  intro h
  pointwise [val_main_v32, val_main_v31, val_main_v26, val_main_v24, val_main_cst_3, val_main_cst_4, val_main_cst_5, rmsRow, ← h]

/-- The result, flattened. -/
theorem result_apply (n : Fin 65536) (k : Fin 1024) :
    val_main_v34 (F := Ideal) x g wg wu wd fg (ix2 n k) = rmsRow (ffnRow (fun k => x (ix3 ⟨n.val / 4096, by omega⟩ ⟨n.val % 4096, by omega⟩ k)) (fun k => g (ix1 k)) (fun k j => wg (ix2 k j)) (fun k j => wu (ix2 k j)) (fun k j => wd (ix2 k j))) (fun k => fg (ix1 k)) k := by
  rw [val_main_v34_apply, ← last_apply]
  congr 1
  funext a
  match a with
  | ⟨0, _⟩ => refine Fin.ext ?_; show (n.val * 1024 + k.val) / 4194304 = n.val / 4096; omega
  | ⟨1, _⟩ => refine Fin.ext ?_; show (n.val * 1024 + k.val) / 1024 % 4096 = n.val % 4096; omega
  | ⟨2, _⟩ => refine Fin.ext ?_; show (n.val * 1024 + k.val) % 1024 = k.val; omega

end Cert.FfnRefIdeal.Rows

end
-- ==== Proof.FlashSpec.lean ====
/-
  The running form of a softmax average in powers of two: the largest score so far, the weighted sum
  taken against it, how one more tile of keys changes both, and what their quotient is at the end.
-/
module

public import Idealize.ShloMosaic.PureOps.Ideal
public import Idealize.ShloMosaic.Lib.Pointwise
public import Idealize.ShloMosaic.Lib.Pipeline.ValueKit

@[expose] public section

noncomputable section

namespace Cert.Flash.Spec

open Idealize.ShloMosaic
open scoped BigOperators

/-- The largest of the first `n` scores (`⊥` before the first). -/
def best (S : ℕ → EReal) (n : ℕ) : EReal := (Finset.range n).sup S

/-- The sum of the first `n` weights, each times two to its score less the largest score. -/
def mass (S w : ℕ → EReal) (n : ℕ) : EReal := ∑ j ∈ Finset.range n, w j * Ideal.exp2 (S j - best S n)

/-- Scores of a query: none is `⊤`, and the first key is visible. -/
structure Scores (S : ℕ → EReal) : Prop where
  lt : ∀ j, S j ≠ ⊤
  first : S 0 ≠ ⊥

/-- The largest score after a further tile of `b` keys. -/
theorem best_add (S : ℕ → EReal) (n b : ℕ) :
    best S (n + b) = max (best S n) (Finset.univ.fold max ⊥ fun j : Fin b => S (n + j.val)) := by
  have h : (Finset.univ.fold max ⊥ fun j : Fin b => S (n + j.val)) = Finset.univ.sup fun j : Fin b => S (n + j.val) := rfl
  rw [h]
  apply le_antisymm
  · refine Finset.sup_le fun j hj => ?_
    by_cases hn : j < n
    · exact le_max_of_le_left (Finset.le_sup (f := S) (Finset.mem_range.2 hn))
    · have hj' := Finset.mem_range.1 hj
      refine le_max_of_le_right ?_
      have := Finset.le_sup (f := fun j : Fin b => S (n + j.val)) (Finset.mem_univ (⟨j - n, by omega⟩ : Fin b))
      simpa [Nat.add_sub_cancel' (not_lt.1 hn)] using this
  · refine max_le (Finset.sup_mono (Finset.range_mono (Nat.le_add_right n b))) (Finset.sup_le fun j _ => ?_)
    exact Finset.le_sup (f := S) (Finset.mem_range.2 (by omega))

/-- After at least one key the largest score is a real number. -/
theorem Scores.best_real {S : ℕ → EReal} (h : Scores S) {n : ℕ} (hn : 0 < n) : ∃ r : ℝ, best S n = r := by
  have ht : best S n ≠ ⊤ := by
    refine ne_of_lt ((Finset.sup_lt_iff (by exact bot_lt_top)).2 fun j _ => lt_top_iff_ne_top.2 (h.lt j))
  have hb : best S n ≠ ⊥ := fun e => h.first (le_bot_iff.1 (e ▸ Finset.le_sup (f := S) (Finset.mem_range.2 hn)))
  exact ⟨_, (EReal.coe_toReal ht hb).symm⟩

/-- Powers of two are nonnegative. -/
theorem exp2_nonneg (x : EReal) : 0 ≤ Ideal.exp2 x := by
  induction x using EReal.rec with
  | bot => simp
  | top => simp
  | coe r => rw [Ideal.exp2_coe]; exact_mod_cast (Real.rpow_nonneg (by norm_num) r)

/-- Two to a real number. -/
theorem exp2_sub_real (s : EReal) (hs : s ≠ ⊤) (M : ℝ) : Ideal.exp2 (s - M) ≠ ⊤ := by
  induction s using EReal.rec with
  | bot => simp
  | top => exact absurd rfl hs
  | coe r => rw [← EReal.coe_sub, Ideal.exp2_coe]; exact EReal.coe_ne_top _

/-- Changing the reference score multiplies the power of two. -/
theorem exp2_shift (s : EReal) (hs : s ≠ ⊤) (M M' : ℝ) :
    Ideal.exp2 ((M : EReal) - M') * Ideal.exp2 (s - M) = Ideal.exp2 (s - M') := by
  induction s using EReal.rec with
  | bot => simp
  | top => exact absurd rfl hs
  | coe r =>
    rw [← EReal.coe_sub, ← EReal.coe_sub, ← EReal.coe_sub, Ideal.exp2_coe, Ideal.exp2_coe, Ideal.exp2_coe, ← EReal.coe_mul]
    have := Real.rpow_add (show (0 : ℝ) < 2 by norm_num) (M - M') (r - M)
    rw [show M - M' + (r - M) = r - M' by ring] at this
    exact congrArg _ this.symm

/-- A nonnegative real number distributes over a sum of extended reals. -/
theorem mul_sum_of_nonneg {ι : Type*} (c : EReal) (h0 : 0 ≤ c) (ht : c ≠ ⊤) (s : Finset ι) (f : ι → EReal) :
    c * ∑ j ∈ s, f j = ∑ j ∈ s, c * f j := by
  classical
  induction s using Finset.induction_on with
  | empty => simp
  | insert a s ha ih => rw [Finset.sum_insert ha, Finset.sum_insert ha, EReal.left_distrib_of_nonneg_of_ne_top h0 ht, ih]

/-- The weighted sum after a further tile of `b` keys: the old one rescaled, and the tile's own sum. -/
theorem mass_add {S : ℕ → EReal} (h : Scores S) (w : ℕ → EReal) (n b : ℕ) (hb : 0 < n + b) :
    mass S w (n + b) = Ideal.exp2 (best S n - best S (n + b)) * mass S w n
      + ∑ j : Fin b, w (n + j.val) * Ideal.exp2 (S (n + j.val) - best S (n + b)) := by
  obtain ⟨M', hM'⟩ := h.best_real hb
  unfold mass
  rw [Finset.sum_range_add, Finset.sum_range (fun j => w (n + j) * _)]
  congr 1
  rcases Nat.eq_zero_or_pos n with rfl | hn
  · simp
  obtain ⟨M, hM⟩ := h.best_real hn
  rw [hM, hM']
  have h0 := exp2_nonneg ((M : EReal) - M')
  have ht : Ideal.exp2 ((M : EReal) - M') ≠ ⊤ := exp2_sub_real _ (EReal.coe_ne_top M) M'
  rw [mul_sum_of_nonneg _ h0 ht]
  refine Finset.sum_congr rfl fun j _ => ?_
  rw [← exp2_shift (S j) (h.lt j) M M']
  rw [← mul_assoc, ← mul_assoc, mul_comm (w j)]

/-- Keys that are not visible change neither the largest score … -/
theorem best_of_hidden {S : ℕ → EReal} {n N : ℕ} (hN : n ≤ N) (hS : ∀ j, n ≤ j → S j = ⊥) : best S N = best S n := by
  apply le_antisymm
  · refine Finset.sup_le fun j _ => ?_
    by_cases hj : j < n
    · exact Finset.le_sup (f := S) (Finset.mem_range.2 hj)
    · rw [hS j (not_lt.1 hj)]; exact bot_le
  · exact Finset.sup_mono (Finset.range_mono hN)

/-- … nor the weighted sum. -/
theorem mass_of_hidden {S : ℕ → EReal} (w : ℕ → EReal) {n N : ℕ} (hN : n ≤ N) (hS : ∀ j, n ≤ j → S j = ⊥) :
    mass S w N = mass S w n := by
  unfold mass
  rw [best_of_hidden hN hS]
  refine (Finset.sum_subset (Finset.range_mono hN) fun j _ hj => ?_).symm
  rw [hS j (by simpa using hj)]
  simp

/-- The quotient of the weighted sum and the sum of the powers is the average with the normalised powers. -/
theorem mass_div {S : ℕ → EReal} (h : Scores S) (w : ℕ → EReal) {n N : ℕ} (hn : 0 < n) (hN : n ≤ N) (hS : ∀ j, n ≤ j → S j = ⊥) :
    Ideal.div (mass S w n) (mass S (fun _ => 1) n)
      = ∑ j : Fin N, Ideal.div (Ideal.exp2 (S j.val - Finset.univ.fold max ⊥ fun k : Fin N => S k.val))
          (∑ k : Fin N, Ideal.exp2 (S k.val - Finset.univ.fold max ⊥ fun k : Fin N => S k.val)) * w j.val := by
  have hb : (Finset.univ.fold max ⊥ fun k : Fin N => S k.val) = best S N := by
    have := best_add S 0 N
    simp only [Nat.zero_add] at this
    rw [this]; simp [best]
  rw [hb, ← mass_of_hidden w hN hS, ← mass_of_hidden (fun _ => 1) hN hS]
  have hN0 : 0 < N := lt_of_lt_of_le hn hN
  obtain ⟨M, hM⟩ := h.best_real hN0
  have hL : (∑ k : Fin N, Ideal.exp2 (S k.val - best S N)) = mass S (fun _ => 1) N := by
    unfold mass; rw [Finset.sum_range (fun j => (1 : EReal) * _)]; simp
  rw [hL]
  -- the sum of the powers is a positive real number
  have hpos : 0 < mass S (fun _ => 1) N := by
    unfold mass
    refine lt_of_lt_of_le ?_ (Finset.single_le_sum (f := fun j => (1 : EReal) * Ideal.exp2 (S j - best S N))
      (fun j _ => by rw [one_mul]; exact exp2_nonneg _) (Finset.mem_range.2 hN0))
    have h0 := h.lt 0
    have h1 := h.first
    rw [one_mul, hM]
    generalize S 0 = s at h0 h1
    induction s using EReal.rec with
    | bot => exact absurd rfl h1
    | top => exact absurd rfl h0
    | coe r => rw [← EReal.coe_sub, Ideal.exp2_coe]; exact_mod_cast Real.rpow_pos_of_pos (by norm_num) _
  have hne : mass S (fun _ => 1) N ≠ 0 := ne_of_gt hpos
  have hinv0 : 0 ≤ (mass S (fun _ => 1) N)⁻¹ := EReal.inv_nonneg_of_nonneg hpos.le
  have hinvt : (mass S (fun _ => 1) N)⁻¹ ≠ ⊤ := by
    generalize mass S (fun _ => 1) N = L at hpos hne
    induction L using EReal.rec with
    | bot => simp
    | top => simp
    | coe r => rw [← EReal.coe_inv]; exact EReal.coe_ne_top _
  unfold Ideal.div
  simp only [if_neg hne]
  rw [mul_comm, show mass S w N = ∑ j ∈ Finset.range N, w j * Ideal.exp2 (S j - best S N) from rfl, mul_sum_of_nonneg _ hinv0 hinvt,
    Finset.sum_range]
  refine Finset.sum_congr rfl fun j _ => ?_
  rw [mul_comm (w _), ← mul_assoc, mul_comm (_)⁻¹]

end Cert.Flash.Spec

end
-- ==== Proof.FlashTile.lean ====
/-
  One key tile of the attention kernel, for one head: the scores, the new maximum and the new
  weighted sums as arrays over what the tile loads, each read at an index.
-/
module

public import proofs.«01_k».proof.Proof.FlashSpec
public import proofs.«01_k».proof.Proof.Gen.FlashIdeal.Skeleton
public import Idealize.ShloMosaic.PureOps.Ideal
public import Idealize.ShloMosaic.Lib.Pointwise
public import Idealize.ShloMosaic.Lib.Pipeline.ValueKit
public import proofs.«01_k».proof.Defs

@[expose] public section

set_option maxRecDepth 16384

noncomputable section

namespace Cert.FlashIdeal.Tile

open Cert.FlashIdeal Cert.FlashIdeal.Gen Cert.Flash.Spec Idealize.ShloMosaic Idealize.ShloMosaic.TcCoe
open scoped BigOperators

/-- The tile's scores: 256 keys by 512 queries. -/
def tileS (kb : Vec Ideal S1x1x256x128 .bf16) (qb : Vec Ideal S1x1x512x128 .bf16) : FVec Ideal S256x512 .f32 := k0_pay3 (F := Ideal) kb qb

/-- The scores of a diagonal tile, whose first key is `d` after the first query: the later keys are hidden. -/
def tileD (d : BitVec 32) (s : FVec Ideal S256x512 .f32) : FVec Ideal S256x512 .f32 :=
  select (cmpi .sle (addi (iota .tc S256x512 32 [0] iota_S256x512_d0_w32) (broadcast S256x512 d)) (iota .tc S256x512 32 [1] iota_S256x512_d1_w32)) s
    (broadcast S256x512 (Scalar.ofBits (F := Ideal) .f32 0xFF800000#32))

/-- The maximum after the tile, in eight equal rows. -/
def tileM (s : FVec Ideal S256x512 .f32) (row : Vec Ideal S1x1x512 .f32) : FVec Ideal S1x8x512 .f32 := k0_pay28 (F := Ideal) s row

/-- The weighted sums after the tile. -/
def tileA (s : FVec Ideal S256x512 .f32) (row : Vec Ideal S1x1x512 .f32) (vb : Vec Ideal S1x80x256 .bf16) (acc : Vec Ideal S1x80x512 .f32) :
    FVec Ideal S1x80x512 .f32 :=
  shapeCast S1x80x512 (k0_pay368 (F := Ideal) (k0_pay29 s row) (k0_pay30 s row) vb acc) shapeCasts_S80x512_S1x80x512

/-- The quotient a head's result is: the weighted values by the sum of the weights. -/
def tileO (a : Vec Ideal S1x64x512 .f32) (l : Vec Ideal S1x1x512 .f32) : FVec Ideal S1x64x512 .bf16 := k0_pay2 (F := Ideal) a l

/-- A tile's scores: products of keys and queries. -/
theorem tileS_apply (kb : Vec Ideal S1x1x256x128 .bf16) (qb : Vec Ideal S1x1x512x128 .bf16) (j : Fin 256) (x : Fin 512) :
    tileS kb qb (ix2 j x) = ∑ l : Fin 128, kb (ix4 0 0 j l) * qb (ix4 0 0 x l) := by
  unfold tileS
  pointwise [k0_pay3]

/-- The new maximum: the old one and the tile's scores. -/
theorem tileM_apply (s : FVec Ideal S256x512 .f32) (row : Vec Ideal S1x1x512 .f32) (u : Fin 8) (x : Fin 512) :
    tileM s row (ix3 0 u x) = max (row (ix3 0 0 x)) (Finset.univ.fold max ⊥ fun j : Fin 256 => s (ix2 j x)) := by
  unfold tileM
  pointwise [k0_pay28, k0_pay27, k0_pay26]
  rfl

/-- The new weighted sum: the old one rescaled, and the tile's values weighted. -/
theorem tileA_apply (s : FVec Ideal S256x512 .f32) (row : Vec Ideal S1x1x512 .f32) (vb : Vec Ideal S1x80x256 .bf16) (acc : Vec Ideal S1x80x512 .f32)
    (r : Fin 80) (x : Fin 512) : tileA s row vb acc (ix3 0 r x)
      = Ideal.exp2 (row (ix3 0 0 x) - tileM s row (ix3 0 0 x)) * acc (ix3 0 r x)
        + ∑ j : Fin 256, vb (ix3 0 r j) * Ideal.exp2 (s (ix2 j x) - tileM s row (ix3 0 0 x)) := by
  rw [tileM_apply]
  unfold tileA
  pointwise [k0_pay368, k0_pay29, k0_pay30, k0_pay27, k0_pay26]
  rfl

/-- The output: the weighted sum divided by the weights' sum. -/
theorem tileO_apply (a : Vec Ideal S1x64x512 .f32) (l : Vec Ideal S1x1x512 .f32) (r : Fin 64) (x : Fin 512) :
    tileO a l (ix3 0 r x) = Ideal.div (a (ix3 0 r x)) (l (ix3 0 0 x)) := by
  unfold tileO
  pointwise [k0_pay2]

/-- The mask on the diagonal: keys after the query get the least score. -/
theorem tileD_apply (d : BitVec 32) (hd : d.toNat ≤ 256) (s : FVec Ideal S256x512 .f32) (j : Fin 256) (x : Fin 512) :
    tileD d s (ix2 j x) = if d.toNat + j.val ≤ x.val then s (ix2 j x) else ⊥ := by
  unfold tileD
  pointwise
  have hj := j.isLt
  have hx := x.isLt
  have e1 : (IntOp.addi (BitVec.ofNat 32 j.val) d).toInt = ((d.toNat + j.val : ℕ) : ℤ) := by
    have : (IntOp.addi (BitVec.ofNat 32 j.val) d).toNat = d.toNat + j.val := by
      simp only [IntOp.addi, BitVec.toNat_add, BitVec.toNat_ofNat]; omega
    rw [BitVec.toInt_eq_toNat_of_lt (by omega), this]
  have e2 : (BitVec.ofNat 32 x.val).toInt = (x.val : ℤ) := by
    rw [BitVec.toInt_eq_toNat_of_lt (by rw [BitVec.toNat_ofNat]; omega), BitVec.toNat_ofNat, Nat.mod_eq_of_lt (by omega)]
  by_cases h : d.toNat + j.val ≤ x.val
  · rw [if_pos h]
    have hc : IntOp.cmpi .sle (IntOp.addi (BitVec.ofNat 32 j.val) d) (BitVec.ofNat 32 x.val) = 1#1 :=
      IntOp.cmpi_sle.mpr (by rw [e1, e2]; exact_mod_cast h)
    exact if_pos hc
  · rw [if_neg h]
    have hc : ¬ IntOp.cmpi .sle (IntOp.addi (BitVec.ofNat 32 j.val) d) (BitVec.ofNat 32 x.val) = 1#1 := fun hc =>
      h (by have := IntOp.cmpi_sle.mp hc; rw [e1, e2] at this; exact_mod_cast this)
    exact if_neg hc

end Cert.FlashIdeal.Tile
-- ==== Proof.FlashState.lean ====
/-
  What the attention kernel's two scratch arrays hold after some number of keys, and the step that
  writes one head of a key tile, as a statement about the list of the writes made.
-/
module

public import proofs.«01_k».proof.Proof.FlashTile
public import Idealize.ShloMosaic.Lib.Pipeline.FrameBody

@[expose] public section

set_option maxRecDepth 16384

noncomputable section

namespace Cert.FlashIdeal.State

open Cert.FlashIdeal Cert.FlashIdeal.Gen Cert.FlashIdeal.Tile Cert.Flash.Spec Idealize.ShloMosaic Idealize.ShloMosaic.TcCoe
open scoped BigOperators

variable (q : Vec Ideal S1x16x512x128 .bf16) (k : Vec Ideal S1x16x4096x128 .bf16) (vt : Vec Ideal S1x1280x4096 .bf16) (n0 : ℕ)

/-- The score of key `j` for query `n0 + x` of head `h`: hidden if the key is later than the query. -/
def S (h : Fin 16) (x : Fin 512) (j : ℕ) : EReal :=
  if hj : j < 4096 then if j ≤ n0 + x.val then ∑ l : Fin 128, k (ix4 0 h ⟨j, hj⟩ l) * q (ix4 0 h x l) else ⊥ else ⊥

/-- Row `r` of head `h`'s values at key `j`. -/
def W (h : Fin 16) (r : Fin 80) (j : ℕ) : EReal :=
  if hj : j < 4096 then vt (ix3 0 ⟨80 * h.val + r.val, by omega⟩ ⟨j, hj⟩) else 0

/-- The running maxima after `n` keys. -/
def M (n : ℕ) : S16x8x512.Idx → EReal := fun y => best (S q k n0 (y 0) (y 2)) n

/-- The running weighted sums after `n` keys. -/
def A (n : ℕ) : S16x80x512.Idx → EReal := fun y => mass (S q k n0 (y 0) (y 2)) (W vt (y 0) (y 1)) n

/-- The writes `L` leave the maxima after `n + 256` keys in the first `h` heads, after `n` keys in the others. -/
def P6 (n h : ℕ) (L : List (View.Piece (Elt Ideal) S16x8x512 .f32)) : Prop :=
  ∀ y, View.canon L y = if (y 0).val < h then M q k n0 (n + 256) y else M q k n0 n y

/-- The same for the weighted sums. -/
def P7 (n h : ℕ) (L : List (View.Piece (Elt Ideal) S16x80x512 .f32)) : Prop :=
  ∀ y, View.canon L y = if (y 0).val < h then A q k vt n0 (n + 256) y else A q k vt n0 n y

variable {q k vt n0}

/-- All sixteen heads written is no head written of the next tile. -/
theorem P6.next {n : ℕ} {L} (h : P6 q k n0 n 16 L) : P6 q k n0 (n + 256) 0 L := fun y => by
  exact (h y).trans ((if_pos (show (y 0).val < 16 from (y 0).isLt)).trans (if_neg (Nat.not_lt_zero _)).symm)
/-- The same for the weighted sums. -/
theorem P7.next {n : ℕ} {L} (h : P7 q k vt n0 n 16 L) : P7 q k vt n0 (n + 256) 0 L := fun y => by
  exact (h y).trans ((if_pos (show (y 0).val < 16 from (y 0).isLt)).trans (if_neg (Nat.not_lt_zero _)).symm)

/-- Writing head `h`'s maxima. -/
theorem P6.step {n : ℕ} (h : ℕ) (hh : h < 16) {L} (hL : P6 q k n0 n h L) {inb}
    {w : (Rect.unit (s := S16x8x512) ![h, 0, 0] ![1, 8, 512] inb).shape.Idx → EReal}
    (hw : ∀ (u : Fin 8) (x : Fin 512), w (ix3 0 u x) = best (S q k n0 ⟨h, hh⟩ x) (n + 256)) :
    P6 q k n0 n (h + 1) (⟨Rect.unit ![h, 0, 0] ![1, 8, 512] inb, w⟩ :: L) := by
  intro y
  by_cases hy : (y 0).val = h
  · have e : y = (Rect.unit (s := S16x8x512) ![h, 0, 0] ![1, 8, 512] inb).emb (ix3 (0 : Fin 1) (y 1) (y 2)) := by
      funext a
      refine Fin.ext ?_
      rw [ValueKit.rect_emb_unit_val]
      match a with
      | ⟨0, _⟩ => exact hy
      | ⟨1, _⟩ => exact (Nat.zero_add _).symm
      | ⟨2, _⟩ => exact (Nat.zero_add _).symm
    rw [if_pos (by omega)]
    refine (congrArg _ e).trans ((View.canon_cons_emb _ _ _ _).trans ((hw _ _).trans ?_))
    show best (S q k n0 ⟨h, hh⟩ (y 2)) _ = best (S q k n0 (y 0) (y 2)) _
    rw [show (⟨h, hh⟩ : Fin 16) = y 0 from Fin.ext hy.symm]
  · rw [View.canon_cons_of_not_mem _ _ (fun hm => hy (by
      have h0 := (Rect.mem_set_unit (s := S16x8x512) (off := ![h, 0, 0]) (size := ![1, 8, 512]) (inb := inb)).mp hm 0
      have h1 : h ≤ (y 0).val := h0.1
      have h2 : (y 0).val < h + 1 := h0.2
      omega)), hL y]
    by_cases hlt : (y 0).val < h
    · rw [if_pos hlt, if_pos (by omega)]
    · rw [if_neg hlt, if_neg (by omega)]

/-- Writing head `h`'s weighted sums. -/
theorem P7.step {n : ℕ} (h : ℕ) (hh : h < 16) {L} (hL : P7 q k vt n0 n h L) {inb}
    {w : (Rect.unit (s := S16x80x512) ![h, 0, 0] ![1, 80, 512] inb).shape.Idx → EReal}
    (hw : ∀ (r : Fin 80) (x : Fin 512), w (ix3 0 r x) = mass (S q k n0 ⟨h, hh⟩ x) (W vt ⟨h, hh⟩ r) (n + 256)) :
    P7 q k vt n0 n (h + 1) (⟨Rect.unit ![h, 0, 0] ![1, 80, 512] inb, w⟩ :: L) := by
  intro y
  by_cases hy : (y 0).val = h
  · have e : y = (Rect.unit (s := S16x80x512) ![h, 0, 0] ![1, 80, 512] inb).emb (ix3 (0 : Fin 1) (y 1) (y 2)) := by
      funext a
      refine Fin.ext ?_
      rw [ValueKit.rect_emb_unit_val]
      match a with
      | ⟨0, _⟩ => exact hy
      | ⟨1, _⟩ => exact (Nat.zero_add _).symm
      | ⟨2, _⟩ => exact (Nat.zero_add _).symm
    rw [if_pos (by omega)]
    refine (congrArg _ e).trans ((View.canon_cons_emb _ _ _ _).trans ((hw _ _).trans ?_))
    show mass (S q k n0 ⟨h, hh⟩ (y 2)) (W vt ⟨h, hh⟩ (y 1)) _ = mass (S q k n0 (y 0) (y 2)) (W vt (y 0) (y 1)) _
    rw [show (⟨h, hh⟩ : Fin 16) = y 0 from Fin.ext hy.symm]
  · rw [View.canon_cons_of_not_mem _ _ (fun hm => hy (by
      have h0 := (Rect.mem_set_unit (s := S16x80x512) (off := ![h, 0, 0]) (size := ![1, 80, 512]) (inb := inb)).mp hm 0
      have h1 : h ≤ (y 0).val := h0.1
      have h2 : (y 0).val < h + 1 := h0.2
      omega)), hL y]
    by_cases hlt : (y 0).val < h
    · rw [if_pos hlt, if_pos (by omega)]
    · rw [if_neg hlt, if_neg (by omega)]

/-- A head's row of maxima, loaded before that head is written. -/
def Row (q : Vec Ideal S1x16x512x128 .bf16) (k : Vec Ideal S1x16x4096x128 .bf16) (n0 n : ℕ) (h : Fin 16) (row : Vec Ideal S1x1x512 .f32) : Prop :=
  ∀ x : Fin 512, row (ix3 0 0 x) = best (S q k n0 h x) n
/-- A head's weighted sums, loaded before that head is written. -/
def Acc (q : Vec Ideal S1x16x512x128 .bf16) (k : Vec Ideal S1x16x4096x128 .bf16) (vt : Vec Ideal S1x1280x4096 .bf16) (n0 n : ℕ) (h : Fin 16) (acc : Vec Ideal S1x80x512 .f32) : Prop :=
  ∀ (r : Fin 80) (x : Fin 512), acc (ix3 0 r x) = mass (S q k n0 h x) (W vt h r) n
/-- A head's scores of the 256 keys from `n` on. -/
def Score (q : Vec Ideal S1x16x512x128 .bf16) (k : Vec Ideal S1x16x4096x128 .bf16) (n0 n : ℕ) (h : Fin 16) (s : FVec Ideal S256x512 .f32) : Prop :=
  ∀ (j : Fin 256) (x : Fin 512), s (ix2 j x) = S q k n0 h x (n + j.val)
/-- A head's values of the 256 keys from `n` on. -/
def Vals (vt : Vec Ideal S1x1280x4096 .bf16) (n : ℕ) (h : Fin 16) (vb : Vec Ideal S1x80x256 .bf16) : Prop :=
  ∀ (r : Fin 80) (j : Fin 256), vb (ix3 0 r j) = W vt h r (n + j.val)

/-- The tile's new maximum is the best score so far. -/
theorem tileM_ok {n : ℕ} {h : Fin 16} {s row} (hs : Score q k n0 n h s) (hr : Row q k n0 n h row) (u : Fin 8) (x : Fin 512) :
    tileM s row (ix3 0 u x) = best (S q k n0 h x) (n + 256) := by
  rw [tileM_apply, hr x, best_add]
  simp only [hs _ x]

/-- The tile's new weighted sum is the sum so far. -/
theorem tileA_ok (hS : ∀ h x, Scores (S q k n0 h x)) {n : ℕ} {h : Fin 16} {s row vb acc} (hs : Score q k n0 n h s) (hr : Row q k n0 n h row) (hv : Vals vt n h vb)
    (ha : Acc q k vt n0 n h acc) (r : Fin 80) (x : Fin 512) :
    tileA s row vb acc (ix3 0 r x) = mass (S q k n0 h x) (W vt h r) (n + 256) := by
  rw [tileA_apply, tileM_ok hs hr, hr x, ha r x, mass_add (hS h x) _ _ _ (by omega)]
  simp only [hs _ x, hv r _]

/-- The row of maxima loaded from writes that have not reached head `g`. -/
theorem P6.row {n h : ℕ} {L} (hL : P6 q k n0 n h L) (g : ℕ) (hg : g < 16) (hh : h ≤ g) (v : View sig .tc .vmem S16x8x512 .f32)
    (inb : ∀ a, (![g, 0, 0] : Fin 3 → ℕ) a + S1x1x512.size a ≤ S16x8x512.size a) :
    Row q k n0 n ⟨g, hg⟩ (v.readCov L (Rect.unit (s := S16x8x512) ![g, 0, 0] S1x1x512.size inb).toLoadRect) := by
  intro x
  rw [View.readCov_eq_canon']
  have e : (Rect.unit (s := S16x8x512) ![g, 0, 0] S1x1x512.size inb).toLoadRect.idx (ix3 0 0 x) = ix3 (⟨g, hg⟩ : Fin 16) (0 : Fin 8) x := by
    funext a
    refine Fin.ext ?_
    match a with
    | ⟨0, _⟩ => show g + 1 * 0 = g; omega
    | ⟨1, _⟩ => rfl
    | ⟨2, _⟩ => show 0 + 1 * x.val = x.val; omega
  exact (congrArg (View.canon L) e).trans ((hL _).trans (if_neg (Nat.not_lt.mpr hh)))

/-- The sums loaded from writes that have not reached head `g`. -/
theorem P7.acc {n h : ℕ} {L} (hL : P7 q k vt n0 n h L) (g : ℕ) (hg : g < 16) (hh : h ≤ g) (v : View sig .tc .vmem S16x80x512 .f32)
    (inb : ∀ a, (![g, 0, 0] : Fin 3 → ℕ) a + S1x80x512.size a ≤ S16x80x512.size a) :
    Acc q k vt n0 n ⟨g, hg⟩ (v.readCov L (Rect.unit (s := S16x80x512) ![g, 0, 0] S1x80x512.size inb).toLoadRect) := by
  intro r x
  rw [View.readCov_eq_canon']
  have e : (Rect.unit (s := S16x80x512) ![g, 0, 0] S1x80x512.size inb).toLoadRect.idx (ix3 0 r x) = ix3 (⟨g, hg⟩ : Fin 16) r x := by
    funext a
    refine Fin.ext ?_
    match a with
    | ⟨0, _⟩ => show g + 1 * 0 = g; omega
    | ⟨1, _⟩ => show 0 + 1 * r.val = r.val; omega
    | ⟨2, _⟩ => show 0 + 1 * x.val = x.val; omega
  exact (congrArg (View.canon L) e).trans ((hL _).trans (if_neg (Nat.not_lt.mpr hh)))

/-- Head `h`'s maxima written by the tile. -/
theorem P6.tile {n : ℕ} {L} (h : ℕ) (hL : P6 q k n0 n h L) (hh : h < 16) {s row} (hs : Score q k n0 n ⟨h, hh⟩ s) (hr : Row q k n0 n ⟨h, hh⟩ row)
    (inb : ∀ a, (![h, 0, 0] : Fin 3 → ℕ) a + (![1, 8, 512] : Fin 3 → ℕ) a ≤ S16x8x512.size a) :
    P6 q k n0 n (h + 1) (⟨Rect.unit ![h, 0, 0] ![1, 8, 512] inb, tileM s row⟩ :: L) :=
  hL.step h hh fun u x => tileM_ok hs hr u x

/-- Head `h`'s weighted sums written by the tile. -/
theorem P7.tile (hS : ∀ h x, Scores (S q k n0 h x)) {n : ℕ} {L} (h : ℕ) (hL : P7 q k vt n0 n h L) (hh : h < 16) {s row vb acc} (hs : Score q k n0 n ⟨h, hh⟩ s)
    (hr : Row q k n0 n ⟨h, hh⟩ row) (hv : Vals vt n ⟨h, hh⟩ vb) (ha : Acc q k vt n0 n ⟨h, hh⟩ acc)
    (inb : ∀ a, (![h, 0, 0] : Fin 3 → ℕ) a + (![1, 80, 512] : Fin 3 → ℕ) a ≤ S16x80x512.size a) :
    P7 q k vt n0 n (h + 1) (⟨Rect.unit ![h, 0, 0] ![1, 80, 512] inb, tileA s row vb acc⟩ :: L) :=
  hL.step h hh fun r x => tileA_ok hS hs hr hv ha r x

/-- The scores of a tile of keys none of which is later than the first query. -/
theorem score_ok {n : ℕ} {h : Fin 16} (hn : n + 256 ≤ n0) (h0 : n0 ≤ 3584) {kb : Vec Ideal S1x1x256x128 .bf16} {qb : Vec Ideal S1x1x512x128 .bf16}
    (hk : ∀ j l, kb (ix4 0 0 j l) = if hj : n + j.val < 4096 then k (ix4 0 h ⟨n + j.val, hj⟩ l) else 0) (hq : ∀ x l, qb (ix4 0 0 x l) = q (ix4 0 h x l)) :
    Score q k n0 n h (tileS kb qb) := by
  intro j x
  rw [tileS_apply, S, dif_pos (by omega), if_pos (by omega)]
  refine Finset.sum_congr rfl fun l _ => ?_
  rw [hk, hq, dif_pos]

/-- The scores of a tile on the diagonal, the later keys hidden. -/
theorem score_diag {d : BitVec 32} {h : Fin 16} (hd : d.toNat ≤ 256) (h0 : n0 ≤ 3584) {kb : Vec Ideal S1x1x256x128 .bf16} {qb : Vec Ideal S1x1x512x128 .bf16}
    (hk : ∀ j l, kb (ix4 0 0 j l) = if hj : n0 + d.toNat + j.val < 4096 then k (ix4 0 h ⟨n0 + d.toNat + j.val, hj⟩ l) else 0) (hq : ∀ x l, qb (ix4 0 0 x l) = q (ix4 0 h x l)) :
    Score q k n0 (n0 + d.toNat) h (tileD d (tileS kb qb)) := by
  intro j x
  rw [tileD_apply d hd, tileS_apply, S, dif_pos (by omega)]
  by_cases hc : d.toNat + j.val ≤ x.val
  · rw [if_pos hc, if_pos (by omega)]
    refine Finset.sum_congr rfl fun l _ => ?_
    rw [hk, hq, dif_pos]
  · rw [if_neg hc, if_neg (by omega)]

/-- A tile of keys loaded from the block. -/
theorem keys_ok (v : Memref sig .tc .vmem S1x16x4096x128 .bf16) (hv : v.IsWhole) (k : Vec Ideal S1x16x4096x128 .bf16) {off : Fin 4 → ℕ} {inb} {h n : ℕ} (hh : h < 16)
    (e : off = ![0, h, n, 0]) (hn : n + 256 ≤ 4096) (j : Fin 256) (l : Fin 128) :
    View.readAt (Elt Ideal) v.view (Rect.unit (s := S1x16x4096x128) off S1x1x256x128.size inb).toLoadRect (hv.unread k) (ix4 0 0 j l)
      = if hj : n + j.val < 4096 then k (ix4 0 ⟨h, hh⟩ ⟨n + j.val, hj⟩ l) else 0 := by
  subst e
  rw [dif_pos (by omega), View.readAt_apply, hv.read_unread]
  refine congrArg k (funext fun a => Fin.ext ?_)
  match a with
  | ⟨0, _⟩ => rfl
  | ⟨1, _⟩ => show h + 1 * 0 = h; omega
  | ⟨2, _⟩ => show n + 1 * j.val = n + j.val; omega
  | ⟨3, _⟩ => show 0 + 1 * l.val = l.val; omega

/-- A head's queries loaded from the block. -/
theorem queries_ok (v : Memref sig .tc .vmem S1x16x512x128 .bf16) (hv : v.IsWhole) (q : Vec Ideal S1x16x512x128 .bf16) {h : ℕ} {inb : ∀ a, (![0, h, 0, 0] : Fin 4 → ℕ) a + S1x1x512x128.size a ≤ S1x16x512x128.size a} (hh : h < 16)
    (x : Fin 512) (l : Fin 128) :
    View.readAt (Elt Ideal) v.view (Rect.unit (s := S1x16x512x128) ![0, h, 0, 0] S1x1x512x128.size inb).toLoadRect (hv.unread q) (ix4 0 0 x l)
      = q (ix4 0 ⟨h, hh⟩ x l) := by
  rw [View.readAt_apply, hv.read_unread]
  refine congrArg q (funext fun a => Fin.ext ?_)
  match a with
  | ⟨0, _⟩ => rfl
  | ⟨1, _⟩ => show h + 1 * 0 = h; omega
  | ⟨2, _⟩ => show 0 + 1 * x.val = x.val; omega
  | ⟨3, _⟩ => show 0 + 1 * l.val = l.val; omega

/-- A head's values loaded from the block. -/
theorem vals_ok (v : Memref sig .tc .vmem S1x1280x4096 .bf16) (hv : v.IsWhole) (vt : Vec Ideal S1x1280x4096 .bf16) {off : Fin 3 → ℕ} {inb} {h n : ℕ} (hh : h < 16)
    {g : ℕ} (hg : g = 80 * h) (e : off = ![0, g, n]) (hn : n + 256 ≤ 4096) :
    Vals vt n ⟨h, hh⟩ (View.readAt (Elt Ideal) v.view (Rect.unit (s := S1x1280x4096) off S1x80x256.size inb).toLoadRect (hv.unread vt)) := by
  subst e; subst hg
  intro r j
  rw [W, dif_pos (by omega), View.readAt_apply, hv.read_unread]
  refine congrArg vt (funext fun a => Fin.ext ?_)
  match a with
  | ⟨0, _⟩ => rfl
  | ⟨1, _⟩ => show 80 * h + 1 * r.val = 80 * h + r.val; omega
  | ⟨2, _⟩ => show n + 1 * j.val = n + j.val; omega

end Cert.FlashIdeal.State
-- ==== Proof.FlashLoop.lean ====
/-
  The attention kernel's loop over the key tiles before the diagonal: after `t` trips the scratch
  arrays hold the maxima and the weighted sums of the first `256 * t` keys.
-/
module

public import proofs.«01_k».proof.Proof.FlashState
public import proofs.«01_k».proof.Proof.Gen.FlashIdeal.Frame
public import Idealize.ShloMosaic.Lib.LoopRemainder

@[expose] public section

set_option maxRecDepth 100000

noncomputable section

namespace Cert.FlashIdeal.Loop

open Cert.FlashIdeal Cert.FlashIdeal.Gen Cert.FlashIdeal.Tile Cert.FlashIdeal.State Cert.Flash.Spec
open Idealize.ShloMosaic Idealize.ShloMosaic.TcCoe Idealize.ShloMosaic.Tactic Idealize.SL.Sem

variable {q : Vec Ideal S1x16x512x128 .bf16} {k : Vec Ideal S1x16x4096x128 .bf16} {vt : Vec Ideal S1x1280x4096 .bf16} {n0 : ℕ}

set_option maxHeartbeats 4000000 in
/-- One trip writes all sixteen heads of its key tile, maxima and weighted sums. -/
theorem trip (𝒱 : Variants) (c : Dev nD) (bd : Option 𝒱.V) (i : grid0.Coords) (arg2 : Memref sig .tc .vmem S1x16x512x128 .bf16) (harg2 : arg2.IsWhole) (arg3 : Memref sig .tc .vmem S1x16x4096x128 .bf16) (harg3 : arg3.IsWhole) (arg4 : Memref sig .tc .vmem S1x1280x4096 .bf16) (harg4 : arg4.IsWhole) (arg5 : Memref sig .tc .vmem S1x1024x512 .bf16) (harg5 : arg5.IsWhole) (arg6 : Memref sig .tc .vmem S16x8x512 .f32) (harg6 : arg6.IsWhole) (arg7 : Memref sig .tc .vmem S16x80x512 .f32) (harg7 : arg7.IsWhole)
    (t : Fin (k0_t1_loop i).trips) (hS : ∀ h x, Scores (S q k n0 h x)) (h0 : n0 ≤ 3584) (hn : 256 * t.val + 256 ≤ n0) (v : BitVec 32)
    {L6 : List (View.Piece (Elt Ideal) S16x8x512 .f32)} {L7 : List (View.Piece (Elt Ideal) S16x80x512 .f32)}
    (h6 : P6 q k n0 (256 * t.val) 0 L6) (h7 : P7 q k vt n0 (256 * t.val) 0 L7) :
    P6 q k n0 (256 * t.val) 16 ((tripL_k0_t1 (F := Ideal) 𝒱 c bd i arg2 harg2 arg3 harg3 arg4 harg4 arg5 harg5 arg6 harg6 arg7 harg7 (harg2.unread q) (harg3.unread k) (harg4.unread vt) t v (arg6.view.writes (Elt Ideal) arg6.view.junk L6) (arg7.view.writes (Elt Ideal) arg7.view.junk L7)).1 ++ L6)
    ∧ P7 q k vt n0 (256 * t.val) 16 ((tripL_k0_t1 (F := Ideal) 𝒱 c bd i arg2 harg2 arg3 harg3 arg4 harg4 arg5 harg5 arg6 harg6 arg7 harg7 (harg2.unread q) (harg3.unread k) (harg4.unread vt) t v (arg6.view.writes (Elt Ideal) arg6.view.junk L6) (arg7.view.writes (Elt Ideal) arg7.view.junk L7)).2 ++ L7) := by
  have hk : 256 * t.val + 256 ≤ 4096 := by omega
  have s0 := score_ok (h := ⟨0, by decide⟩) hn h0 (keys_ok arg3 harg3 k (inb := k0_off1_inb i t) (by decide) (k0_off1_eq i t) hk) (queries_ok arg2 harg2 q (inb := inb_S1x16x512x128_S1x1x512x128_0_0_0_0) (by decide))
  have r0 := h6.row 0 (by decide) (Nat.zero_le _) arg6.view inb_S16x8x512_S1x1x512_0_0_0
  have v0 := vals_ok arg4 harg4 vt (inb := k0_off17_inb i t) (h := 0) (by decide) rfl (k0_off17_eq i t) hk
  have a0 := h7.acc 0 (by decide) (Nat.zero_le _) arg7.view inb_S16x80x512_S1x80x512_0_0_0
  have s1 := score_ok (h := ⟨1, by decide⟩) hn h0 (keys_ok arg3 harg3 k (inb := k0_off2_inb i t) (by decide) (k0_off2_eq i t) hk) (queries_ok arg2 harg2 q (inb := inb_S1x16x512x128_S1x1x512x128_0_1_0_0) (by decide))
  have r1 := h6.row 1 (by decide) (Nat.zero_le _) arg6.view inb_S16x8x512_S1x1x512_1_0_0
  have v1 := vals_ok arg4 harg4 vt (inb := k0_off18_inb i t) (h := 1) (by decide) rfl (k0_off18_eq i t) hk
  have a1 := h7.acc 1 (by decide) (Nat.zero_le _) arg7.view inb_S16x80x512_S1x80x512_1_0_0
  have s2 := score_ok (h := ⟨2, by decide⟩) hn h0 (keys_ok arg3 harg3 k (inb := k0_off3_inb i t) (by decide) (k0_off3_eq i t) hk) (queries_ok arg2 harg2 q (inb := inb_S1x16x512x128_S1x1x512x128_0_2_0_0) (by decide))
  have r2 := h6.row 2 (by decide) (Nat.zero_le _) arg6.view inb_S16x8x512_S1x1x512_2_0_0
  have v2 := vals_ok arg4 harg4 vt (inb := k0_off19_inb i t) (h := 2) (by decide) rfl (k0_off19_eq i t) hk
  have a2 := h7.acc 2 (by decide) (Nat.zero_le _) arg7.view inb_S16x80x512_S1x80x512_2_0_0
  have s3 := score_ok (h := ⟨3, by decide⟩) hn h0 (keys_ok arg3 harg3 k (inb := k0_off4_inb i t) (by decide) (k0_off4_eq i t) hk) (queries_ok arg2 harg2 q (inb := inb_S1x16x512x128_S1x1x512x128_0_3_0_0) (by decide))
  have r3 := h6.row 3 (by decide) (Nat.zero_le _) arg6.view inb_S16x8x512_S1x1x512_3_0_0
  have v3 := vals_ok arg4 harg4 vt (inb := k0_off20_inb i t) (h := 3) (by decide) rfl (k0_off20_eq i t) hk
  have a3 := h7.acc 3 (by decide) (Nat.zero_le _) arg7.view inb_S16x80x512_S1x80x512_3_0_0
  have s4 := score_ok (h := ⟨4, by decide⟩) hn h0 (keys_ok arg3 harg3 k (inb := k0_off5_inb i t) (by decide) (k0_off5_eq i t) hk) (queries_ok arg2 harg2 q (inb := inb_S1x16x512x128_S1x1x512x128_0_4_0_0) (by decide))
  have r4 := h6.row 4 (by decide) (Nat.zero_le _) arg6.view inb_S16x8x512_S1x1x512_4_0_0
  have v4 := vals_ok arg4 harg4 vt (inb := k0_off21_inb i t) (h := 4) (by decide) rfl (k0_off21_eq i t) hk
  have a4 := h7.acc 4 (by decide) (Nat.zero_le _) arg7.view inb_S16x80x512_S1x80x512_4_0_0
  have s5 := score_ok (h := ⟨5, by decide⟩) hn h0 (keys_ok arg3 harg3 k (inb := k0_off6_inb i t) (by decide) (k0_off6_eq i t) hk) (queries_ok arg2 harg2 q (inb := inb_S1x16x512x128_S1x1x512x128_0_5_0_0) (by decide))
  have r5 := h6.row 5 (by decide) (Nat.zero_le _) arg6.view inb_S16x8x512_S1x1x512_5_0_0
  have v5 := vals_ok arg4 harg4 vt (inb := k0_off22_inb i t) (h := 5) (by decide) rfl (k0_off22_eq i t) hk
  have a5 := h7.acc 5 (by decide) (Nat.zero_le _) arg7.view inb_S16x80x512_S1x80x512_5_0_0
  have s6 := score_ok (h := ⟨6, by decide⟩) hn h0 (keys_ok arg3 harg3 k (inb := k0_off7_inb i t) (by decide) (k0_off7_eq i t) hk) (queries_ok arg2 harg2 q (inb := inb_S1x16x512x128_S1x1x512x128_0_6_0_0) (by decide))
  have r6 := h6.row 6 (by decide) (Nat.zero_le _) arg6.view inb_S16x8x512_S1x1x512_6_0_0
  have v6 := vals_ok arg4 harg4 vt (inb := k0_off23_inb i t) (h := 6) (by decide) rfl (k0_off23_eq i t) hk
  have a6 := h7.acc 6 (by decide) (Nat.zero_le _) arg7.view inb_S16x80x512_S1x80x512_6_0_0
  have s7 := score_ok (h := ⟨7, by decide⟩) hn h0 (keys_ok arg3 harg3 k (inb := k0_off8_inb i t) (by decide) (k0_off8_eq i t) hk) (queries_ok arg2 harg2 q (inb := inb_S1x16x512x128_S1x1x512x128_0_7_0_0) (by decide))
  have r7 := h6.row 7 (by decide) (Nat.zero_le _) arg6.view inb_S16x8x512_S1x1x512_7_0_0
  have v7 := vals_ok arg4 harg4 vt (inb := k0_off24_inb i t) (h := 7) (by decide) rfl (k0_off24_eq i t) hk
  have a7 := h7.acc 7 (by decide) (Nat.zero_le _) arg7.view inb_S16x80x512_S1x80x512_7_0_0
  have s8 := score_ok (h := ⟨8, by decide⟩) hn h0 (keys_ok arg3 harg3 k (inb := k0_off9_inb i t) (by decide) (k0_off9_eq i t) hk) (queries_ok arg2 harg2 q (inb := inb_S1x16x512x128_S1x1x512x128_0_8_0_0) (by decide))
  have r8 := h6.row 8 (by decide) (Nat.zero_le _) arg6.view inb_S16x8x512_S1x1x512_8_0_0
  have v8 := vals_ok arg4 harg4 vt (inb := k0_off25_inb i t) (h := 8) (by decide) rfl (k0_off25_eq i t) hk
  have a8 := h7.acc 8 (by decide) (Nat.zero_le _) arg7.view inb_S16x80x512_S1x80x512_8_0_0
  have s9 := score_ok (h := ⟨9, by decide⟩) hn h0 (keys_ok arg3 harg3 k (inb := k0_off10_inb i t) (by decide) (k0_off10_eq i t) hk) (queries_ok arg2 harg2 q (inb := inb_S1x16x512x128_S1x1x512x128_0_9_0_0) (by decide))
  have r9 := h6.row 9 (by decide) (Nat.zero_le _) arg6.view inb_S16x8x512_S1x1x512_9_0_0
  have v9 := vals_ok arg4 harg4 vt (inb := k0_off26_inb i t) (h := 9) (by decide) rfl (k0_off26_eq i t) hk
  have a9 := h7.acc 9 (by decide) (Nat.zero_le _) arg7.view inb_S16x80x512_S1x80x512_9_0_0
  have s10 := score_ok (h := ⟨10, by decide⟩) hn h0 (keys_ok arg3 harg3 k (inb := k0_off11_inb i t) (by decide) (k0_off11_eq i t) hk) (queries_ok arg2 harg2 q (inb := inb_S1x16x512x128_S1x1x512x128_0_10_0_0) (by decide))
  have r10 := h6.row 10 (by decide) (Nat.zero_le _) arg6.view inb_S16x8x512_S1x1x512_10_0_0
  have v10 := vals_ok arg4 harg4 vt (inb := k0_off27_inb i t) (h := 10) (by decide) rfl (k0_off27_eq i t) hk
  have a10 := h7.acc 10 (by decide) (Nat.zero_le _) arg7.view inb_S16x80x512_S1x80x512_10_0_0
  have s11 := score_ok (h := ⟨11, by decide⟩) hn h0 (keys_ok arg3 harg3 k (inb := k0_off12_inb i t) (by decide) (k0_off12_eq i t) hk) (queries_ok arg2 harg2 q (inb := inb_S1x16x512x128_S1x1x512x128_0_11_0_0) (by decide))
  have r11 := h6.row 11 (by decide) (Nat.zero_le _) arg6.view inb_S16x8x512_S1x1x512_11_0_0
  have v11 := vals_ok arg4 harg4 vt (inb := k0_off28_inb i t) (h := 11) (by decide) rfl (k0_off28_eq i t) hk
  have a11 := h7.acc 11 (by decide) (Nat.zero_le _) arg7.view inb_S16x80x512_S1x80x512_11_0_0
  have s12 := score_ok (h := ⟨12, by decide⟩) hn h0 (keys_ok arg3 harg3 k (inb := k0_off13_inb i t) (by decide) (k0_off13_eq i t) hk) (queries_ok arg2 harg2 q (inb := inb_S1x16x512x128_S1x1x512x128_0_12_0_0) (by decide))
  have r12 := h6.row 12 (by decide) (Nat.zero_le _) arg6.view inb_S16x8x512_S1x1x512_12_0_0
  have v12 := vals_ok arg4 harg4 vt (inb := k0_off29_inb i t) (h := 12) (by decide) rfl (k0_off29_eq i t) hk
  have a12 := h7.acc 12 (by decide) (Nat.zero_le _) arg7.view inb_S16x80x512_S1x80x512_12_0_0
  have s13 := score_ok (h := ⟨13, by decide⟩) hn h0 (keys_ok arg3 harg3 k (inb := k0_off14_inb i t) (by decide) (k0_off14_eq i t) hk) (queries_ok arg2 harg2 q (inb := inb_S1x16x512x128_S1x1x512x128_0_13_0_0) (by decide))
  have r13 := h6.row 13 (by decide) (Nat.zero_le _) arg6.view inb_S16x8x512_S1x1x512_13_0_0
  have v13 := vals_ok arg4 harg4 vt (inb := k0_off30_inb i t) (h := 13) (by decide) rfl (k0_off30_eq i t) hk
  have a13 := h7.acc 13 (by decide) (Nat.zero_le _) arg7.view inb_S16x80x512_S1x80x512_13_0_0
  have s14 := score_ok (h := ⟨14, by decide⟩) hn h0 (keys_ok arg3 harg3 k (inb := k0_off15_inb i t) (by decide) (k0_off15_eq i t) hk) (queries_ok arg2 harg2 q (inb := inb_S1x16x512x128_S1x1x512x128_0_14_0_0) (by decide))
  have r14 := h6.row 14 (by decide) (Nat.zero_le _) arg6.view inb_S16x8x512_S1x1x512_14_0_0
  have v14 := vals_ok arg4 harg4 vt (inb := k0_off31_inb i t) (h := 14) (by decide) rfl (k0_off31_eq i t) hk
  have a14 := h7.acc 14 (by decide) (Nat.zero_le _) arg7.view inb_S16x80x512_S1x80x512_14_0_0
  have s15 := score_ok (h := ⟨15, by decide⟩) hn h0 (keys_ok arg3 harg3 k (inb := k0_off16_inb i t) (by decide) (k0_off16_eq i t) hk) (queries_ok arg2 harg2 q (inb := inb_S1x16x512x128_S1x1x512x128_0_15_0_0) (by decide))
  have r15 := h6.row 15 (by decide) (Nat.zero_le _) arg6.view inb_S16x8x512_S1x1x512_15_0_0
  have v15 := vals_ok arg4 harg4 vt (inb := k0_off32_inb i t) (h := 15) (by decide) rfl (k0_off32_eq i t) hk
  have a15 := h7.acc 15 (by decide) (Nat.zero_le _) arg7.view inb_S16x80x512_S1x80x512_15_0_0
  have m0 := h6.tile 0 (by decide) s0 r0 inb_S16x8x512_S1x8x512_0_0_0
  have w0 := h7.tile hS 0 (by decide) s0 r0 v0 a0 inb_S16x80x512_S1x80x512_0_0_0
  have m1 := m0.tile 1 (by decide) s1 r1 inb_S16x8x512_S1x8x512_1_0_0
  have w1 := w0.tile hS 1 (by decide) s1 r1 v1 a1 inb_S16x80x512_S1x80x512_1_0_0
  have m2 := m1.tile 2 (by decide) s2 r2 inb_S16x8x512_S1x8x512_2_0_0
  have w2 := w1.tile hS 2 (by decide) s2 r2 v2 a2 inb_S16x80x512_S1x80x512_2_0_0
  have m3 := m2.tile 3 (by decide) s3 r3 inb_S16x8x512_S1x8x512_3_0_0
  have w3 := w2.tile hS 3 (by decide) s3 r3 v3 a3 inb_S16x80x512_S1x80x512_3_0_0
  have m4 := m3.tile 4 (by decide) s4 r4 inb_S16x8x512_S1x8x512_4_0_0
  have w4 := w3.tile hS 4 (by decide) s4 r4 v4 a4 inb_S16x80x512_S1x80x512_4_0_0
  have m5 := m4.tile 5 (by decide) s5 r5 inb_S16x8x512_S1x8x512_5_0_0
  have w5 := w4.tile hS 5 (by decide) s5 r5 v5 a5 inb_S16x80x512_S1x80x512_5_0_0
  have m6 := m5.tile 6 (by decide) s6 r6 inb_S16x8x512_S1x8x512_6_0_0
  have w6 := w5.tile hS 6 (by decide) s6 r6 v6 a6 inb_S16x80x512_S1x80x512_6_0_0
  have m7 := m6.tile 7 (by decide) s7 r7 inb_S16x8x512_S1x8x512_7_0_0
  have w7 := w6.tile hS 7 (by decide) s7 r7 v7 a7 inb_S16x80x512_S1x80x512_7_0_0
  have m8 := m7.tile 8 (by decide) s8 r8 inb_S16x8x512_S1x8x512_8_0_0
  have w8 := w7.tile hS 8 (by decide) s8 r8 v8 a8 inb_S16x80x512_S1x80x512_8_0_0
  have m9 := m8.tile 9 (by decide) s9 r9 inb_S16x8x512_S1x8x512_9_0_0
  have w9 := w8.tile hS 9 (by decide) s9 r9 v9 a9 inb_S16x80x512_S1x80x512_9_0_0
  have m10 := m9.tile 10 (by decide) s10 r10 inb_S16x8x512_S1x8x512_10_0_0
  have w10 := w9.tile hS 10 (by decide) s10 r10 v10 a10 inb_S16x80x512_S1x80x512_10_0_0
  have m11 := m10.tile 11 (by decide) s11 r11 inb_S16x8x512_S1x8x512_11_0_0
  have w11 := w10.tile hS 11 (by decide) s11 r11 v11 a11 inb_S16x80x512_S1x80x512_11_0_0
  have m12 := m11.tile 12 (by decide) s12 r12 inb_S16x8x512_S1x8x512_12_0_0
  have w12 := w11.tile hS 12 (by decide) s12 r12 v12 a12 inb_S16x80x512_S1x80x512_12_0_0
  have m13 := m12.tile 13 (by decide) s13 r13 inb_S16x8x512_S1x8x512_13_0_0
  have w13 := w12.tile hS 13 (by decide) s13 r13 v13 a13 inb_S16x80x512_S1x80x512_13_0_0
  have m14 := m13.tile 14 (by decide) s14 r14 inb_S16x8x512_S1x8x512_14_0_0
  have w14 := w13.tile hS 14 (by decide) s14 r14 v14 a14 inb_S16x80x512_S1x80x512_14_0_0
  have m15 := m14.tile 15 (by decide) s15 r15 inb_S16x8x512_S1x8x512_15_0_0
  have w15 := w14.tile hS 15 (by decide) s15 r15 v15 a15 inb_S16x80x512_S1x80x512_15_0_0
  unfold tripL_k0_t1; unfold trip_k0_t1; dsimp only
  sl_unfold_run_names
  exact ⟨m15, w15⟩

/-- The number of trips before the diagonal: two for each earlier block of queries. -/
theorem trips_eq : ∀ i : grid0.Coords, (k0_t1_loop i).trips = 2 * (i 1).val := by
  have h : ∀ a : Fin 8, (k0_t1_loop (fun | 0 => (0 : Fin 16) | 1 => a)).trips = 2 * a.val := by decide +kernel
  intro i
  exact h (i 1)

/-- The state after `t` trips, over the writes made before the loop. -/
theorem loop (𝒱 : Variants) (c : Dev nD) (bd : Option 𝒱.V) (i : grid0.Coords) (arg2 : Memref sig .tc .vmem S1x16x512x128 .bf16) (harg2 : arg2.IsWhole) (arg3 : Memref sig .tc .vmem S1x16x4096x128 .bf16) (harg3 : arg3.IsWhole) (arg4 : Memref sig .tc .vmem S1x1280x4096 .bf16) (harg4 : arg4.IsWhole) (arg5 : Memref sig .tc .vmem S1x1024x512 .bf16) (harg5 : arg5.IsWhole) (arg6 : Memref sig .tc .vmem S16x8x512 .f32) (harg6 : arg6.IsWhole) (arg7 : Memref sig .tc .vmem S16x80x512 .f32) (harg7 : arg7.IsWhole)
    (hS : ∀ h x, Scores (S q k (512 * (i 1).val) h x)) (v : BitVec 32)
    {L6 : List (View.Piece (Elt Ideal) S16x8x512 .f32)} {L7 : List (View.Piece (Elt Ideal) S16x80x512 .f32)}
    (h6 : P6 q k (512 * (i 1).val) 0 0 L6) (h7 : P7 q k vt (512 * (i 1).val) 0 0 L7) : ∀ t : ℕ, t ≤ (k0_t1_loop i).trips →
    P6 q k (512 * (i 1).val) (256 * t) 0 ((st_k0_t1 (F := Ideal) 𝒱 c bd i arg2 harg2 arg3 harg3 arg4 harg4 arg5 harg5 arg6 harg6 arg7 harg7 (harg2.unread q) (harg3.unread k) (harg4.unread vt) (arg6.view.writes (Elt Ideal) arg6.view.junk L6) (arg7.view.writes (Elt Ideal) arg7.view.junk L7) v t).2.1 ++ L6)
    ∧ P7 q k vt (512 * (i 1).val) (256 * t) 0 ((st_k0_t1 (F := Ideal) 𝒱 c bd i arg2 harg2 arg3 harg3 arg4 harg4 arg5 harg5 arg6 harg6 arg7 harg7 (harg2.unread q) (harg3.unread k) (harg4.unread vt) (arg6.view.writes (Elt Ideal) arg6.view.junk L6) (arg7.view.writes (Elt Ideal) arg7.view.junk L7) v t).2.2 ++ L7)
  | 0, _ => ⟨h6, h7⟩
  | t + 1, ht => by
    have h1 : (i 1).val < 8 := (i 1).isLt
    have h2 := trips_eq i
    have ih := loop 𝒱 c bd i arg2 harg2 arg3 harg3 arg4 harg4 arg5 harg5 arg6 harg6 arg7 harg7 hS v h6 h7 t (by omega)
    have tr := trip 𝒱 c bd i arg2 harg2 arg3 harg3 arg4 harg4 arg5 harg5 arg6 harg6 arg7 harg7 ⟨t, by omega⟩ hS (by omega) (by show 256 * t + 256 ≤ _; omega) (st_k0_t1 (F := Ideal) 𝒱 c bd i arg2 harg2 arg3 harg3 arg4 harg4 arg5 harg5 arg6 harg6 arg7 harg7 (harg2.unread q) (harg3.unread k) (harg4.unread vt) (arg6.view.writes (Elt Ideal) arg6.view.junk L6) (arg7.view.writes (Elt Ideal) arg7.view.junk L7) v t).1 ih.1 ih.2
    have e := st_k0_t1_succ (F := Ideal) 𝒱 c bd i arg2 harg2 arg3 harg3 arg4 harg4 arg5 harg5 arg6 harg6 arg7 harg7 (harg2.unread q) (harg3.unread k) (harg4.unread vt) (arg6.view.writes (Elt Ideal) arg6.view.junk L6) (arg7.view.writes (Elt Ideal) arg7.view.junk L7) v ⟨t, by omega⟩
    simp only [← View.writes_append] at e
    rw [e]
    refine ⟨?_, ?_⟩
    · have := tr.1.next
      rw [← List.append_assoc] at this
      exact this
    · have := tr.2.next
      rw [← List.append_assoc] at this
      exact this

end Cert.FlashIdeal.Loop
-- ==== Proof.FlashBody.lean ====
/-
  The attention kernel's body at one grid point: the two key tiles on the diagonal, and what the
  scratch arrays hold when the result is taken.
-/
module

public import proofs.«01_k».proof.Proof.FlashLoop

@[expose] public section

set_option maxRecDepth 100000

noncomputable section

namespace Cert.FlashIdeal.Body

open Cert.FlashIdeal Cert.FlashIdeal.Gen Cert.FlashIdeal.Gen.kernelRun0_A Cert.FlashIdeal.Tile Cert.FlashIdeal.State Cert.Flash.Spec
open Idealize.ShloMosaic Idealize.ShloMosaic.TcCoe Idealize.ShloMosaic.Tactic Idealize.SL.Sem

/-- Before any key the maxima are all `-∞`. -/
theorem first6 (q : Vec Ideal S1x16x512x128 .bf16) (k : Vec Ideal S1x16x4096x128 .bf16) (n0 : ℕ) : P6 q k n0 0 0 (sl.HS0_1 (F := Ideal)) := by
  intro y
  rw [if_neg (Nat.not_lt_zero _)]
  refine (congrFun (View.canon_cons_unit_zero (by funext a; fin_cases a <;> rfl) _ _ _) y).trans ?_
  show Ideal.ofBits .f32 0xFF800000#32 = ⊥
  simp [Ideal.ofBits, Ideal.ieee]

/-- Before any key the weighted sums are all zero. -/
theorem first7 (q : Vec Ideal S1x16x512x128 .bf16) (k : Vec Ideal S1x16x4096x128 .bf16) (vt : Vec Ideal S1x1280x4096 .bf16) (n0 : ℕ) :
    P7 q k vt n0 0 0 (sl.HS1_1 (F := Ideal)) := by
  intro y
  rw [if_neg (Nat.not_lt_zero _)]
  refine (congrFun (View.canon_cons_unit_zero (by funext a; fin_cases a <;> rfl) _ _ _) y).trans ?_
  show Ideal.ofBits .f32 0x00000000#32 = 0
  simp [Ideal.ofBits, Ideal.ieee]

/-- The second loop makes no trip. -/
theorem rest_trips (i : grid0.Coords) : Scf.trips (k0_t2_loop i).lb (k0_t2_loop i).ub (k0_t2_loop i).st = 0 := Nat.le_zero.mp (k0_t2_abs i).2.1

/-- Before the diagonal tiles the scratch arrays hold the maxima and sums of all the keys before them. -/
theorem start (c : Dev nD) (i : grid0.Coords) (arg2 : Memref sig .tc .vmem S1x16x512x128 .bf16) (harg2 : arg2.IsWhole) (arg3 : Memref sig .tc .vmem S1x16x4096x128 .bf16) (harg3 : arg3.IsWhole) (arg4 : Memref sig .tc .vmem S1x1280x4096 .bf16) (harg4 : arg4.IsWhole) (arg5 : Memref sig .tc .vmem S1x1024x512 .bf16) (harg5 : arg5.IsWhole) (arg6 : Memref sig .tc .vmem S16x8x512 .f32) (harg6 : arg6.IsWhole) (arg7 : Memref sig .tc .vmem S16x80x512 .f32) (harg7 : arg7.IsWhole) (q : Vec Ideal S1x16x512x128 .bf16) (k : Vec Ideal S1x16x4096x128 .bf16) (vt : Vec Ideal S1x1280x4096 .bf16)
    (hS : ∀ h x, Scores (S q k (512 * (i 1).val) h x)) :
    P6 q k (512 * (i 1).val) (512 * (i 1).val) 0 (sl.HS0_1_1 (F := Ideal) c i arg2 harg2 arg3 harg3 arg4 harg4 arg5 harg5 arg6 harg6 arg7 harg7 q k vt).tail
    ∧ P7 q k vt (512 * (i 1).val) (512 * (i 1).val) 0 (sl.HS1_1_1 (F := Ideal) c i arg2 harg2 arg3 harg3 arg4 harg4 arg5 harg5 arg6 harg6 arg7 harg7 q k vt).tail := by
  have h := Loop.loop Variants.none c none i arg2 harg2 arg3 harg3 arg4 harg4 arg5 harg5 arg6 harg6 arg7 harg7 hS 0#32 (first6 q k _) (first7 q k vt _) _ (le_refl _)
  rw [show 256 * (k0_t1_loop i).trips = 512 * (i 1).val by rw [Loop.trips_eq i]; omega] at h
  unfold sl.HS0_1_1 sl.HS1_1_1
  rw [List.tail_cons, List.tail_cons, rest_trips i]
  exact h

set_option maxHeartbeats 4000000 in
/-- After the body the second scratch array holds the weighted sums of all the keys up to the last query. -/
theorem done (c : Dev nD) (i : grid0.Coords) (arg2 : Memref sig .tc .vmem S1x16x512x128 .bf16) (harg2 : arg2.IsWhole) (arg3 : Memref sig .tc .vmem S1x16x4096x128 .bf16) (harg3 : arg3.IsWhole) (arg4 : Memref sig .tc .vmem S1x1280x4096 .bf16) (harg4 : arg4.IsWhole) (arg5 : Memref sig .tc .vmem S1x1024x512 .bf16) (harg5 : arg5.IsWhole) (arg6 : Memref sig .tc .vmem S16x8x512 .f32) (harg6 : arg6.IsWhole) (arg7 : Memref sig .tc .vmem S16x80x512 .f32) (harg7 : arg7.IsWhole) (q : Vec Ideal S1x16x512x128 .bf16) (k : Vec Ideal S1x16x4096x128 .bf16) (vt : Vec Ideal S1x1280x4096 .bf16)
    (hS : ∀ h x, Scores (S q k (512 * (i 1).val) h x)) :
    P7 q k vt (512 * (i 1).val) (512 * (i 1).val + 256) 16 (sl.HS1_32 (F := Ideal) c i arg2 harg2 arg3 harg3 arg4 harg4 arg5 harg5 arg6 harg6 arg7 harg7 q k vt) := by
  have h1 : (i 1).val < 8 := (i 1).isLt
  have h0 : 512 * (i 1).val ≤ 3584 := by omega
  obtain ⟨mt0, wt0⟩ := start c i arg2 harg2 arg3 harg3 arg4 harg4 arg5 harg5 arg6 harg6 arg7 harg7 q k vt hS
  have st0 : Score q k (512 * (i 1).val) (512 * (i 1).val) ⟨0, by decide⟩ _ := score_diag (d := 0#32) (h := ⟨0, by decide⟩) (by decide) h0 (keys_ok arg3 harg3 k (inb := k0_off65_inb i 0) (by decide) (show k0_off65 i 0#32 = ![0, 0, 512 * (i 1).val + BitVec.toNat 0#32, 0] from k0_off65_eq i 0) (by show 512 * (i 1).val + 0 + 256 ≤ 4096; omega)) (queries_ok arg2 harg2 q (inb := inb_S1x16x512x128_S1x1x512x128_0_0_0_0) (by decide))
  have vt0 : Vals vt (512 * (i 1).val) ⟨0, by decide⟩ _ := vals_ok arg4 harg4 vt (inb := k0_off81_inb i 0) (h := 0) (by decide) rfl (show k0_off81 i 0#32 = ![0, 0, (512 * (i 1).val)] from k0_off81_eq i 0) (by omega)
  have st1 : Score q k (512 * (i 1).val) (512 * (i 1).val) ⟨1, by decide⟩ _ := score_diag (d := 0#32) (h := ⟨1, by decide⟩) (by decide) h0 (keys_ok arg3 harg3 k (inb := k0_off66_inb i 0) (by decide) (show k0_off66 i 0#32 = ![0, 1, 512 * (i 1).val + BitVec.toNat 0#32, 0] from k0_off66_eq i 0) (by show 512 * (i 1).val + 0 + 256 ≤ 4096; omega)) (queries_ok arg2 harg2 q (inb := inb_S1x16x512x128_S1x1x512x128_0_1_0_0) (by decide))
  have vt1 : Vals vt (512 * (i 1).val) ⟨1, by decide⟩ _ := vals_ok arg4 harg4 vt (inb := k0_off82_inb i 0) (h := 1) (by decide) rfl (show k0_off82 i 0#32 = ![0, 80, (512 * (i 1).val)] from k0_off82_eq i 0) (by omega)
  have st2 : Score q k (512 * (i 1).val) (512 * (i 1).val) ⟨2, by decide⟩ _ := score_diag (d := 0#32) (h := ⟨2, by decide⟩) (by decide) h0 (keys_ok arg3 harg3 k (inb := k0_off67_inb i 0) (by decide) (show k0_off67 i 0#32 = ![0, 2, 512 * (i 1).val + BitVec.toNat 0#32, 0] from k0_off67_eq i 0) (by show 512 * (i 1).val + 0 + 256 ≤ 4096; omega)) (queries_ok arg2 harg2 q (inb := inb_S1x16x512x128_S1x1x512x128_0_2_0_0) (by decide))
  have vt2 : Vals vt (512 * (i 1).val) ⟨2, by decide⟩ _ := vals_ok arg4 harg4 vt (inb := k0_off83_inb i 0) (h := 2) (by decide) rfl (show k0_off83 i 0#32 = ![0, 160, (512 * (i 1).val)] from k0_off83_eq i 0) (by omega)
  have st3 : Score q k (512 * (i 1).val) (512 * (i 1).val) ⟨3, by decide⟩ _ := score_diag (d := 0#32) (h := ⟨3, by decide⟩) (by decide) h0 (keys_ok arg3 harg3 k (inb := k0_off68_inb i 0) (by decide) (show k0_off68 i 0#32 = ![0, 3, 512 * (i 1).val + BitVec.toNat 0#32, 0] from k0_off68_eq i 0) (by show 512 * (i 1).val + 0 + 256 ≤ 4096; omega)) (queries_ok arg2 harg2 q (inb := inb_S1x16x512x128_S1x1x512x128_0_3_0_0) (by decide))
  have vt3 : Vals vt (512 * (i 1).val) ⟨3, by decide⟩ _ := vals_ok arg4 harg4 vt (inb := k0_off84_inb i 0) (h := 3) (by decide) rfl (show k0_off84 i 0#32 = ![0, 240, (512 * (i 1).val)] from k0_off84_eq i 0) (by omega)
  have st4 : Score q k (512 * (i 1).val) (512 * (i 1).val) ⟨4, by decide⟩ _ := score_diag (d := 0#32) (h := ⟨4, by decide⟩) (by decide) h0 (keys_ok arg3 harg3 k (inb := k0_off69_inb i 0) (by decide) (show k0_off69 i 0#32 = ![0, 4, 512 * (i 1).val + BitVec.toNat 0#32, 0] from k0_off69_eq i 0) (by show 512 * (i 1).val + 0 + 256 ≤ 4096; omega)) (queries_ok arg2 harg2 q (inb := inb_S1x16x512x128_S1x1x512x128_0_4_0_0) (by decide))
  have vt4 : Vals vt (512 * (i 1).val) ⟨4, by decide⟩ _ := vals_ok arg4 harg4 vt (inb := k0_off85_inb i 0) (h := 4) (by decide) rfl (show k0_off85 i 0#32 = ![0, 320, (512 * (i 1).val)] from k0_off85_eq i 0) (by omega)
  have st5 : Score q k (512 * (i 1).val) (512 * (i 1).val) ⟨5, by decide⟩ _ := score_diag (d := 0#32) (h := ⟨5, by decide⟩) (by decide) h0 (keys_ok arg3 harg3 k (inb := k0_off70_inb i 0) (by decide) (show k0_off70 i 0#32 = ![0, 5, 512 * (i 1).val + BitVec.toNat 0#32, 0] from k0_off70_eq i 0) (by show 512 * (i 1).val + 0 + 256 ≤ 4096; omega)) (queries_ok arg2 harg2 q (inb := inb_S1x16x512x128_S1x1x512x128_0_5_0_0) (by decide))
  have vt5 : Vals vt (512 * (i 1).val) ⟨5, by decide⟩ _ := vals_ok arg4 harg4 vt (inb := k0_off86_inb i 0) (h := 5) (by decide) rfl (show k0_off86 i 0#32 = ![0, 400, (512 * (i 1).val)] from k0_off86_eq i 0) (by omega)
  have st6 : Score q k (512 * (i 1).val) (512 * (i 1).val) ⟨6, by decide⟩ _ := score_diag (d := 0#32) (h := ⟨6, by decide⟩) (by decide) h0 (keys_ok arg3 harg3 k (inb := k0_off71_inb i 0) (by decide) (show k0_off71 i 0#32 = ![0, 6, 512 * (i 1).val + BitVec.toNat 0#32, 0] from k0_off71_eq i 0) (by show 512 * (i 1).val + 0 + 256 ≤ 4096; omega)) (queries_ok arg2 harg2 q (inb := inb_S1x16x512x128_S1x1x512x128_0_6_0_0) (by decide))
  have vt6 : Vals vt (512 * (i 1).val) ⟨6, by decide⟩ _ := vals_ok arg4 harg4 vt (inb := k0_off87_inb i 0) (h := 6) (by decide) rfl (show k0_off87 i 0#32 = ![0, 480, (512 * (i 1).val)] from k0_off87_eq i 0) (by omega)
  have st7 : Score q k (512 * (i 1).val) (512 * (i 1).val) ⟨7, by decide⟩ _ := score_diag (d := 0#32) (h := ⟨7, by decide⟩) (by decide) h0 (keys_ok arg3 harg3 k (inb := k0_off72_inb i 0) (by decide) (show k0_off72 i 0#32 = ![0, 7, 512 * (i 1).val + BitVec.toNat 0#32, 0] from k0_off72_eq i 0) (by show 512 * (i 1).val + 0 + 256 ≤ 4096; omega)) (queries_ok arg2 harg2 q (inb := inb_S1x16x512x128_S1x1x512x128_0_7_0_0) (by decide))
  have vt7 : Vals vt (512 * (i 1).val) ⟨7, by decide⟩ _ := vals_ok arg4 harg4 vt (inb := k0_off88_inb i 0) (h := 7) (by decide) rfl (show k0_off88 i 0#32 = ![0, 560, (512 * (i 1).val)] from k0_off88_eq i 0) (by omega)
  have st8 : Score q k (512 * (i 1).val) (512 * (i 1).val) ⟨8, by decide⟩ _ := score_diag (d := 0#32) (h := ⟨8, by decide⟩) (by decide) h0 (keys_ok arg3 harg3 k (inb := k0_off73_inb i 0) (by decide) (show k0_off73 i 0#32 = ![0, 8, 512 * (i 1).val + BitVec.toNat 0#32, 0] from k0_off73_eq i 0) (by show 512 * (i 1).val + 0 + 256 ≤ 4096; omega)) (queries_ok arg2 harg2 q (inb := inb_S1x16x512x128_S1x1x512x128_0_8_0_0) (by decide))
  have vt8 : Vals vt (512 * (i 1).val) ⟨8, by decide⟩ _ := vals_ok arg4 harg4 vt (inb := k0_off89_inb i 0) (h := 8) (by decide) rfl (show k0_off89 i 0#32 = ![0, 640, (512 * (i 1).val)] from k0_off89_eq i 0) (by omega)
  have st9 : Score q k (512 * (i 1).val) (512 * (i 1).val) ⟨9, by decide⟩ _ := score_diag (d := 0#32) (h := ⟨9, by decide⟩) (by decide) h0 (keys_ok arg3 harg3 k (inb := k0_off74_inb i 0) (by decide) (show k0_off74 i 0#32 = ![0, 9, 512 * (i 1).val + BitVec.toNat 0#32, 0] from k0_off74_eq i 0) (by show 512 * (i 1).val + 0 + 256 ≤ 4096; omega)) (queries_ok arg2 harg2 q (inb := inb_S1x16x512x128_S1x1x512x128_0_9_0_0) (by decide))
  have vt9 : Vals vt (512 * (i 1).val) ⟨9, by decide⟩ _ := vals_ok arg4 harg4 vt (inb := k0_off90_inb i 0) (h := 9) (by decide) rfl (show k0_off90 i 0#32 = ![0, 720, (512 * (i 1).val)] from k0_off90_eq i 0) (by omega)
  have st10 : Score q k (512 * (i 1).val) (512 * (i 1).val) ⟨10, by decide⟩ _ := score_diag (d := 0#32) (h := ⟨10, by decide⟩) (by decide) h0 (keys_ok arg3 harg3 k (inb := k0_off75_inb i 0) (by decide) (show k0_off75 i 0#32 = ![0, 10, 512 * (i 1).val + BitVec.toNat 0#32, 0] from k0_off75_eq i 0) (by show 512 * (i 1).val + 0 + 256 ≤ 4096; omega)) (queries_ok arg2 harg2 q (inb := inb_S1x16x512x128_S1x1x512x128_0_10_0_0) (by decide))
  have vt10 : Vals vt (512 * (i 1).val) ⟨10, by decide⟩ _ := vals_ok arg4 harg4 vt (inb := k0_off91_inb i 0) (h := 10) (by decide) rfl (show k0_off91 i 0#32 = ![0, 800, (512 * (i 1).val)] from k0_off91_eq i 0) (by omega)
  have st11 : Score q k (512 * (i 1).val) (512 * (i 1).val) ⟨11, by decide⟩ _ := score_diag (d := 0#32) (h := ⟨11, by decide⟩) (by decide) h0 (keys_ok arg3 harg3 k (inb := k0_off76_inb i 0) (by decide) (show k0_off76 i 0#32 = ![0, 11, 512 * (i 1).val + BitVec.toNat 0#32, 0] from k0_off76_eq i 0) (by show 512 * (i 1).val + 0 + 256 ≤ 4096; omega)) (queries_ok arg2 harg2 q (inb := inb_S1x16x512x128_S1x1x512x128_0_11_0_0) (by decide))
  have vt11 : Vals vt (512 * (i 1).val) ⟨11, by decide⟩ _ := vals_ok arg4 harg4 vt (inb := k0_off92_inb i 0) (h := 11) (by decide) rfl (show k0_off92 i 0#32 = ![0, 880, (512 * (i 1).val)] from k0_off92_eq i 0) (by omega)
  have st12 : Score q k (512 * (i 1).val) (512 * (i 1).val) ⟨12, by decide⟩ _ := score_diag (d := 0#32) (h := ⟨12, by decide⟩) (by decide) h0 (keys_ok arg3 harg3 k (inb := k0_off77_inb i 0) (by decide) (show k0_off77 i 0#32 = ![0, 12, 512 * (i 1).val + BitVec.toNat 0#32, 0] from k0_off77_eq i 0) (by show 512 * (i 1).val + 0 + 256 ≤ 4096; omega)) (queries_ok arg2 harg2 q (inb := inb_S1x16x512x128_S1x1x512x128_0_12_0_0) (by decide))
  have vt12 : Vals vt (512 * (i 1).val) ⟨12, by decide⟩ _ := vals_ok arg4 harg4 vt (inb := k0_off93_inb i 0) (h := 12) (by decide) rfl (show k0_off93 i 0#32 = ![0, 960, (512 * (i 1).val)] from k0_off93_eq i 0) (by omega)
  have st13 : Score q k (512 * (i 1).val) (512 * (i 1).val) ⟨13, by decide⟩ _ := score_diag (d := 0#32) (h := ⟨13, by decide⟩) (by decide) h0 (keys_ok arg3 harg3 k (inb := k0_off78_inb i 0) (by decide) (show k0_off78 i 0#32 = ![0, 13, 512 * (i 1).val + BitVec.toNat 0#32, 0] from k0_off78_eq i 0) (by show 512 * (i 1).val + 0 + 256 ≤ 4096; omega)) (queries_ok arg2 harg2 q (inb := inb_S1x16x512x128_S1x1x512x128_0_13_0_0) (by decide))
  have vt13 : Vals vt (512 * (i 1).val) ⟨13, by decide⟩ _ := vals_ok arg4 harg4 vt (inb := k0_off94_inb i 0) (h := 13) (by decide) rfl (show k0_off94 i 0#32 = ![0, 1040, (512 * (i 1).val)] from k0_off94_eq i 0) (by omega)
  have st14 : Score q k (512 * (i 1).val) (512 * (i 1).val) ⟨14, by decide⟩ _ := score_diag (d := 0#32) (h := ⟨14, by decide⟩) (by decide) h0 (keys_ok arg3 harg3 k (inb := k0_off79_inb i 0) (by decide) (show k0_off79 i 0#32 = ![0, 14, 512 * (i 1).val + BitVec.toNat 0#32, 0] from k0_off79_eq i 0) (by show 512 * (i 1).val + 0 + 256 ≤ 4096; omega)) (queries_ok arg2 harg2 q (inb := inb_S1x16x512x128_S1x1x512x128_0_14_0_0) (by decide))
  have vt14 : Vals vt (512 * (i 1).val) ⟨14, by decide⟩ _ := vals_ok arg4 harg4 vt (inb := k0_off95_inb i 0) (h := 14) (by decide) rfl (show k0_off95 i 0#32 = ![0, 1120, (512 * (i 1).val)] from k0_off95_eq i 0) (by omega)
  have st15 : Score q k (512 * (i 1).val) (512 * (i 1).val) ⟨15, by decide⟩ _ := score_diag (d := 0#32) (h := ⟨15, by decide⟩) (by decide) h0 (keys_ok arg3 harg3 k (inb := k0_off80_inb i 0) (by decide) (show k0_off80 i 0#32 = ![0, 15, 512 * (i 1).val + BitVec.toNat 0#32, 0] from k0_off80_eq i 0) (by show 512 * (i 1).val + 0 + 256 ≤ 4096; omega)) (queries_ok arg2 harg2 q (inb := inb_S1x16x512x128_S1x1x512x128_0_15_0_0) (by decide))
  have vt15 : Vals vt (512 * (i 1).val) ⟨15, by decide⟩ _ := vals_ok arg4 harg4 vt (inb := k0_off96_inb i 0) (h := 15) (by decide) rfl (show k0_off96 i 0#32 = ![0, 1200, (512 * (i 1).val)] from k0_off96_eq i 0) (by omega)
  have rt0 := mt0.row 0 (by decide) (by decide) arg6.view inb_S16x8x512_S1x1x512_0_0_0
  have mt1 : P6 q k (512 * (i 1).val) (512 * (i 1).val) 1 (sl.HS0_1_1 (F := Ideal) c i arg2 harg2 arg3 harg3 arg4 harg4 arg5 harg5 arg6 harg6 arg7 harg7 q k vt) := mt0.tile 0 (by decide) st0 rt0 inb_S16x8x512_S1x8x512_0_0_0
  have rt1 := mt1.row 1 (by decide) (by decide) arg6.view inb_S16x8x512_S1x1x512_1_0_0
  have mt2 : P6 q k (512 * (i 1).val) (512 * (i 1).val) 2 (sl.HS0_2 (F := Ideal) c i arg2 harg2 arg3 harg3 arg4 harg4 arg5 harg5 arg6 harg6 arg7 harg7 q k vt) := mt1.tile 1 (by decide) st1 rt1 inb_S16x8x512_S1x8x512_1_0_0
  have rt2 := mt2.row 2 (by decide) (by decide) arg6.view inb_S16x8x512_S1x1x512_2_0_0
  have mt3 : P6 q k (512 * (i 1).val) (512 * (i 1).val) 3 (sl.HS0_3 (F := Ideal) c i arg2 harg2 arg3 harg3 arg4 harg4 arg5 harg5 arg6 harg6 arg7 harg7 q k vt) := mt2.tile 2 (by decide) st2 rt2 inb_S16x8x512_S1x8x512_2_0_0
  have rt3 := mt3.row 3 (by decide) (by decide) arg6.view inb_S16x8x512_S1x1x512_3_0_0
  have mt4 : P6 q k (512 * (i 1).val) (512 * (i 1).val) 4 (sl.HS0_4 (F := Ideal) c i arg2 harg2 arg3 harg3 arg4 harg4 arg5 harg5 arg6 harg6 arg7 harg7 q k vt) := mt3.tile 3 (by decide) st3 rt3 inb_S16x8x512_S1x8x512_3_0_0
  have rt4 := mt4.row 4 (by decide) (by decide) arg6.view inb_S16x8x512_S1x1x512_4_0_0
  have mt5 : P6 q k (512 * (i 1).val) (512 * (i 1).val) 5 (sl.HS0_5 (F := Ideal) c i arg2 harg2 arg3 harg3 arg4 harg4 arg5 harg5 arg6 harg6 arg7 harg7 q k vt) := mt4.tile 4 (by decide) st4 rt4 inb_S16x8x512_S1x8x512_4_0_0
  have rt5 := mt5.row 5 (by decide) (by decide) arg6.view inb_S16x8x512_S1x1x512_5_0_0
  have mt6 : P6 q k (512 * (i 1).val) (512 * (i 1).val) 6 (sl.HS0_6 (F := Ideal) c i arg2 harg2 arg3 harg3 arg4 harg4 arg5 harg5 arg6 harg6 arg7 harg7 q k vt) := mt5.tile 5 (by decide) st5 rt5 inb_S16x8x512_S1x8x512_5_0_0
  have rt6 := mt6.row 6 (by decide) (by decide) arg6.view inb_S16x8x512_S1x1x512_6_0_0
  have mt7 : P6 q k (512 * (i 1).val) (512 * (i 1).val) 7 (sl.HS0_7 (F := Ideal) c i arg2 harg2 arg3 harg3 arg4 harg4 arg5 harg5 arg6 harg6 arg7 harg7 q k vt) := mt6.tile 6 (by decide) st6 rt6 inb_S16x8x512_S1x8x512_6_0_0
  have rt7 := mt7.row 7 (by decide) (by decide) arg6.view inb_S16x8x512_S1x1x512_7_0_0
  have mt8 : P6 q k (512 * (i 1).val) (512 * (i 1).val) 8 (sl.HS0_8 (F := Ideal) c i arg2 harg2 arg3 harg3 arg4 harg4 arg5 harg5 arg6 harg6 arg7 harg7 q k vt) := mt7.tile 7 (by decide) st7 rt7 inb_S16x8x512_S1x8x512_7_0_0
  have rt8 := mt8.row 8 (by decide) (by decide) arg6.view inb_S16x8x512_S1x1x512_8_0_0
  have mt9 : P6 q k (512 * (i 1).val) (512 * (i 1).val) 9 (sl.HS0_9 (F := Ideal) c i arg2 harg2 arg3 harg3 arg4 harg4 arg5 harg5 arg6 harg6 arg7 harg7 q k vt) := mt8.tile 8 (by decide) st8 rt8 inb_S16x8x512_S1x8x512_8_0_0
  have rt9 := mt9.row 9 (by decide) (by decide) arg6.view inb_S16x8x512_S1x1x512_9_0_0
  have mt10 : P6 q k (512 * (i 1).val) (512 * (i 1).val) 10 (sl.HS0_10 (F := Ideal) c i arg2 harg2 arg3 harg3 arg4 harg4 arg5 harg5 arg6 harg6 arg7 harg7 q k vt) := mt9.tile 9 (by decide) st9 rt9 inb_S16x8x512_S1x8x512_9_0_0
  have rt10 := mt10.row 10 (by decide) (by decide) arg6.view inb_S16x8x512_S1x1x512_10_0_0
  have mt11 : P6 q k (512 * (i 1).val) (512 * (i 1).val) 11 (sl.HS0_11 (F := Ideal) c i arg2 harg2 arg3 harg3 arg4 harg4 arg5 harg5 arg6 harg6 arg7 harg7 q k vt) := mt10.tile 10 (by decide) st10 rt10 inb_S16x8x512_S1x8x512_10_0_0
  have rt11 := mt11.row 11 (by decide) (by decide) arg6.view inb_S16x8x512_S1x1x512_11_0_0
  have mt12 : P6 q k (512 * (i 1).val) (512 * (i 1).val) 12 (sl.HS0_12 (F := Ideal) c i arg2 harg2 arg3 harg3 arg4 harg4 arg5 harg5 arg6 harg6 arg7 harg7 q k vt) := mt11.tile 11 (by decide) st11 rt11 inb_S16x8x512_S1x8x512_11_0_0
  have rt12 := mt12.row 12 (by decide) (by decide) arg6.view inb_S16x8x512_S1x1x512_12_0_0
  have mt13 : P6 q k (512 * (i 1).val) (512 * (i 1).val) 13 (sl.HS0_13 (F := Ideal) c i arg2 harg2 arg3 harg3 arg4 harg4 arg5 harg5 arg6 harg6 arg7 harg7 q k vt) := mt12.tile 12 (by decide) st12 rt12 inb_S16x8x512_S1x8x512_12_0_0
  have rt13 := mt13.row 13 (by decide) (by decide) arg6.view inb_S16x8x512_S1x1x512_13_0_0
  have mt14 : P6 q k (512 * (i 1).val) (512 * (i 1).val) 14 (sl.HS0_14 (F := Ideal) c i arg2 harg2 arg3 harg3 arg4 harg4 arg5 harg5 arg6 harg6 arg7 harg7 q k vt) := mt13.tile 13 (by decide) st13 rt13 inb_S16x8x512_S1x8x512_13_0_0
  have rt14 := mt14.row 14 (by decide) (by decide) arg6.view inb_S16x8x512_S1x1x512_14_0_0
  have mt15 : P6 q k (512 * (i 1).val) (512 * (i 1).val) 15 (sl.HS0_15 (F := Ideal) c i arg2 harg2 arg3 harg3 arg4 harg4 arg5 harg5 arg6 harg6 arg7 harg7 q k vt) := mt14.tile 14 (by decide) st14 rt14 inb_S16x8x512_S1x8x512_14_0_0
  have rt15 := mt15.row 15 (by decide) (by decide) arg6.view inb_S16x8x512_S1x1x512_15_0_0
  have mt16 : P6 q k (512 * (i 1).val) (512 * (i 1).val) 16 (sl.HS0_16 (F := Ideal) c i arg2 harg2 arg3 harg3 arg4 harg4 arg5 harg5 arg6 harg6 arg7 harg7 q k vt) := mt15.tile 15 (by decide) st15 rt15 inb_S16x8x512_S1x8x512_15_0_0
  have at0 := wt0.acc 0 (by decide) (by decide) arg7.view inb_S16x80x512_S1x80x512_0_0_0
  have wt1 : P7 q k vt (512 * (i 1).val) (512 * (i 1).val) 1 (sl.HS1_1_1 (F := Ideal) c i arg2 harg2 arg3 harg3 arg4 harg4 arg5 harg5 arg6 harg6 arg7 harg7 q k vt) := wt0.tile hS 0 (by decide) st0 rt0 vt0 at0 inb_S16x80x512_S1x80x512_0_0_0
  have at1 := wt1.acc 1 (by decide) (by decide) arg7.view inb_S16x80x512_S1x80x512_1_0_0
  have wt2 : P7 q k vt (512 * (i 1).val) (512 * (i 1).val) 2 (sl.HS1_2 (F := Ideal) c i arg2 harg2 arg3 harg3 arg4 harg4 arg5 harg5 arg6 harg6 arg7 harg7 q k vt) := wt1.tile hS 1 (by decide) st1 rt1 vt1 at1 inb_S16x80x512_S1x80x512_1_0_0
  have at2 := wt2.acc 2 (by decide) (by decide) arg7.view inb_S16x80x512_S1x80x512_2_0_0
  have wt3 : P7 q k vt (512 * (i 1).val) (512 * (i 1).val) 3 (sl.HS1_3 (F := Ideal) c i arg2 harg2 arg3 harg3 arg4 harg4 arg5 harg5 arg6 harg6 arg7 harg7 q k vt) := wt2.tile hS 2 (by decide) st2 rt2 vt2 at2 inb_S16x80x512_S1x80x512_2_0_0
  have at3 := wt3.acc 3 (by decide) (by decide) arg7.view inb_S16x80x512_S1x80x512_3_0_0
  have wt4 : P7 q k vt (512 * (i 1).val) (512 * (i 1).val) 4 (sl.HS1_4 (F := Ideal) c i arg2 harg2 arg3 harg3 arg4 harg4 arg5 harg5 arg6 harg6 arg7 harg7 q k vt) := wt3.tile hS 3 (by decide) st3 rt3 vt3 at3 inb_S16x80x512_S1x80x512_3_0_0
  have at4 := wt4.acc 4 (by decide) (by decide) arg7.view inb_S16x80x512_S1x80x512_4_0_0
  have wt5 : P7 q k vt (512 * (i 1).val) (512 * (i 1).val) 5 (sl.HS1_5 (F := Ideal) c i arg2 harg2 arg3 harg3 arg4 harg4 arg5 harg5 arg6 harg6 arg7 harg7 q k vt) := wt4.tile hS 4 (by decide) st4 rt4 vt4 at4 inb_S16x80x512_S1x80x512_4_0_0
  have at5 := wt5.acc 5 (by decide) (by decide) arg7.view inb_S16x80x512_S1x80x512_5_0_0
  have wt6 : P7 q k vt (512 * (i 1).val) (512 * (i 1).val) 6 (sl.HS1_6 (F := Ideal) c i arg2 harg2 arg3 harg3 arg4 harg4 arg5 harg5 arg6 harg6 arg7 harg7 q k vt) := wt5.tile hS 5 (by decide) st5 rt5 vt5 at5 inb_S16x80x512_S1x80x512_5_0_0
  have at6 := wt6.acc 6 (by decide) (by decide) arg7.view inb_S16x80x512_S1x80x512_6_0_0
  have wt7 : P7 q k vt (512 * (i 1).val) (512 * (i 1).val) 7 (sl.HS1_7 (F := Ideal) c i arg2 harg2 arg3 harg3 arg4 harg4 arg5 harg5 arg6 harg6 arg7 harg7 q k vt) := wt6.tile hS 6 (by decide) st6 rt6 vt6 at6 inb_S16x80x512_S1x80x512_6_0_0
  have at7 := wt7.acc 7 (by decide) (by decide) arg7.view inb_S16x80x512_S1x80x512_7_0_0
  have wt8 : P7 q k vt (512 * (i 1).val) (512 * (i 1).val) 8 (sl.HS1_8 (F := Ideal) c i arg2 harg2 arg3 harg3 arg4 harg4 arg5 harg5 arg6 harg6 arg7 harg7 q k vt) := wt7.tile hS 7 (by decide) st7 rt7 vt7 at7 inb_S16x80x512_S1x80x512_7_0_0
  have at8 := wt8.acc 8 (by decide) (by decide) arg7.view inb_S16x80x512_S1x80x512_8_0_0
  have wt9 : P7 q k vt (512 * (i 1).val) (512 * (i 1).val) 9 (sl.HS1_9 (F := Ideal) c i arg2 harg2 arg3 harg3 arg4 harg4 arg5 harg5 arg6 harg6 arg7 harg7 q k vt) := wt8.tile hS 8 (by decide) st8 rt8 vt8 at8 inb_S16x80x512_S1x80x512_8_0_0
  have at9 := wt9.acc 9 (by decide) (by decide) arg7.view inb_S16x80x512_S1x80x512_9_0_0
  have wt10 : P7 q k vt (512 * (i 1).val) (512 * (i 1).val) 10 (sl.HS1_10 (F := Ideal) c i arg2 harg2 arg3 harg3 arg4 harg4 arg5 harg5 arg6 harg6 arg7 harg7 q k vt) := wt9.tile hS 9 (by decide) st9 rt9 vt9 at9 inb_S16x80x512_S1x80x512_9_0_0
  have at10 := wt10.acc 10 (by decide) (by decide) arg7.view inb_S16x80x512_S1x80x512_10_0_0
  have wt11 : P7 q k vt (512 * (i 1).val) (512 * (i 1).val) 11 (sl.HS1_11 (F := Ideal) c i arg2 harg2 arg3 harg3 arg4 harg4 arg5 harg5 arg6 harg6 arg7 harg7 q k vt) := wt10.tile hS 10 (by decide) st10 rt10 vt10 at10 inb_S16x80x512_S1x80x512_10_0_0
  have at11 := wt11.acc 11 (by decide) (by decide) arg7.view inb_S16x80x512_S1x80x512_11_0_0
  have wt12 : P7 q k vt (512 * (i 1).val) (512 * (i 1).val) 12 (sl.HS1_12 (F := Ideal) c i arg2 harg2 arg3 harg3 arg4 harg4 arg5 harg5 arg6 harg6 arg7 harg7 q k vt) := wt11.tile hS 11 (by decide) st11 rt11 vt11 at11 inb_S16x80x512_S1x80x512_11_0_0
  have at12 := wt12.acc 12 (by decide) (by decide) arg7.view inb_S16x80x512_S1x80x512_12_0_0
  have wt13 : P7 q k vt (512 * (i 1).val) (512 * (i 1).val) 13 (sl.HS1_13 (F := Ideal) c i arg2 harg2 arg3 harg3 arg4 harg4 arg5 harg5 arg6 harg6 arg7 harg7 q k vt) := wt12.tile hS 12 (by decide) st12 rt12 vt12 at12 inb_S16x80x512_S1x80x512_12_0_0
  have at13 := wt13.acc 13 (by decide) (by decide) arg7.view inb_S16x80x512_S1x80x512_13_0_0
  have wt14 : P7 q k vt (512 * (i 1).val) (512 * (i 1).val) 14 (sl.HS1_14 (F := Ideal) c i arg2 harg2 arg3 harg3 arg4 harg4 arg5 harg5 arg6 harg6 arg7 harg7 q k vt) := wt13.tile hS 13 (by decide) st13 rt13 vt13 at13 inb_S16x80x512_S1x80x512_13_0_0
  have at14 := wt14.acc 14 (by decide) (by decide) arg7.view inb_S16x80x512_S1x80x512_14_0_0
  have wt15 : P7 q k vt (512 * (i 1).val) (512 * (i 1).val) 15 (sl.HS1_15 (F := Ideal) c i arg2 harg2 arg3 harg3 arg4 harg4 arg5 harg5 arg6 harg6 arg7 harg7 q k vt) := wt14.tile hS 14 (by decide) st14 rt14 vt14 at14 inb_S16x80x512_S1x80x512_14_0_0
  have at15 := wt15.acc 15 (by decide) (by decide) arg7.view inb_S16x80x512_S1x80x512_15_0_0
  have wt16 : P7 q k vt (512 * (i 1).val) (512 * (i 1).val) 16 (sl.HS1_16 (F := Ideal) c i arg2 harg2 arg3 harg3 arg4 harg4 arg5 harg5 arg6 harg6 arg7 harg7 q k vt) := wt15.tile hS 15 (by decide) st15 rt15 vt15 at15 inb_S16x80x512_S1x80x512_15_0_0
  have mu0 := mt16.next
  have wu0 := wt16.next
  have su0 : Score q k (512 * (i 1).val) (512 * (i 1).val + 256) ⟨0, by decide⟩ _ := score_diag (d := 256#32) (h := ⟨0, by decide⟩) (by decide) h0 (keys_ok arg3 harg3 k (inb := k0_off65_inb i 1) (by decide) (show k0_off65 i 1#32 = ![0, 0, 512 * (i 1).val + BitVec.toNat 256#32, 0] from k0_off65_eq i 1) (by show 512 * (i 1).val + 256 + 256 ≤ 4096; omega)) (queries_ok arg2 harg2 q (inb := inb_S1x16x512x128_S1x1x512x128_0_0_0_0) (by decide))
  have vu0 : Vals vt (512 * (i 1).val + 256) ⟨0, by decide⟩ _ := vals_ok arg4 harg4 vt (inb := k0_off81_inb i 1) (h := 0) (by decide) rfl (show k0_off81 i 1#32 = ![0, 0, (512 * (i 1).val + 256)] from k0_off81_eq i 1) (by omega)
  have su1 : Score q k (512 * (i 1).val) (512 * (i 1).val + 256) ⟨1, by decide⟩ _ := score_diag (d := 256#32) (h := ⟨1, by decide⟩) (by decide) h0 (keys_ok arg3 harg3 k (inb := k0_off66_inb i 1) (by decide) (show k0_off66 i 1#32 = ![0, 1, 512 * (i 1).val + BitVec.toNat 256#32, 0] from k0_off66_eq i 1) (by show 512 * (i 1).val + 256 + 256 ≤ 4096; omega)) (queries_ok arg2 harg2 q (inb := inb_S1x16x512x128_S1x1x512x128_0_1_0_0) (by decide))
  have vu1 : Vals vt (512 * (i 1).val + 256) ⟨1, by decide⟩ _ := vals_ok arg4 harg4 vt (inb := k0_off82_inb i 1) (h := 1) (by decide) rfl (show k0_off82 i 1#32 = ![0, 80, (512 * (i 1).val + 256)] from k0_off82_eq i 1) (by omega)
  have su2 : Score q k (512 * (i 1).val) (512 * (i 1).val + 256) ⟨2, by decide⟩ _ := score_diag (d := 256#32) (h := ⟨2, by decide⟩) (by decide) h0 (keys_ok arg3 harg3 k (inb := k0_off67_inb i 1) (by decide) (show k0_off67 i 1#32 = ![0, 2, 512 * (i 1).val + BitVec.toNat 256#32, 0] from k0_off67_eq i 1) (by show 512 * (i 1).val + 256 + 256 ≤ 4096; omega)) (queries_ok arg2 harg2 q (inb := inb_S1x16x512x128_S1x1x512x128_0_2_0_0) (by decide))
  have vu2 : Vals vt (512 * (i 1).val + 256) ⟨2, by decide⟩ _ := vals_ok arg4 harg4 vt (inb := k0_off83_inb i 1) (h := 2) (by decide) rfl (show k0_off83 i 1#32 = ![0, 160, (512 * (i 1).val + 256)] from k0_off83_eq i 1) (by omega)
  have su3 : Score q k (512 * (i 1).val) (512 * (i 1).val + 256) ⟨3, by decide⟩ _ := score_diag (d := 256#32) (h := ⟨3, by decide⟩) (by decide) h0 (keys_ok arg3 harg3 k (inb := k0_off68_inb i 1) (by decide) (show k0_off68 i 1#32 = ![0, 3, 512 * (i 1).val + BitVec.toNat 256#32, 0] from k0_off68_eq i 1) (by show 512 * (i 1).val + 256 + 256 ≤ 4096; omega)) (queries_ok arg2 harg2 q (inb := inb_S1x16x512x128_S1x1x512x128_0_3_0_0) (by decide))
  have vu3 : Vals vt (512 * (i 1).val + 256) ⟨3, by decide⟩ _ := vals_ok arg4 harg4 vt (inb := k0_off84_inb i 1) (h := 3) (by decide) rfl (show k0_off84 i 1#32 = ![0, 240, (512 * (i 1).val + 256)] from k0_off84_eq i 1) (by omega)
  have su4 : Score q k (512 * (i 1).val) (512 * (i 1).val + 256) ⟨4, by decide⟩ _ := score_diag (d := 256#32) (h := ⟨4, by decide⟩) (by decide) h0 (keys_ok arg3 harg3 k (inb := k0_off69_inb i 1) (by decide) (show k0_off69 i 1#32 = ![0, 4, 512 * (i 1).val + BitVec.toNat 256#32, 0] from k0_off69_eq i 1) (by show 512 * (i 1).val + 256 + 256 ≤ 4096; omega)) (queries_ok arg2 harg2 q (inb := inb_S1x16x512x128_S1x1x512x128_0_4_0_0) (by decide))
  have vu4 : Vals vt (512 * (i 1).val + 256) ⟨4, by decide⟩ _ := vals_ok arg4 harg4 vt (inb := k0_off85_inb i 1) (h := 4) (by decide) rfl (show k0_off85 i 1#32 = ![0, 320, (512 * (i 1).val + 256)] from k0_off85_eq i 1) (by omega)
  have su5 : Score q k (512 * (i 1).val) (512 * (i 1).val + 256) ⟨5, by decide⟩ _ := score_diag (d := 256#32) (h := ⟨5, by decide⟩) (by decide) h0 (keys_ok arg3 harg3 k (inb := k0_off70_inb i 1) (by decide) (show k0_off70 i 1#32 = ![0, 5, 512 * (i 1).val + BitVec.toNat 256#32, 0] from k0_off70_eq i 1) (by show 512 * (i 1).val + 256 + 256 ≤ 4096; omega)) (queries_ok arg2 harg2 q (inb := inb_S1x16x512x128_S1x1x512x128_0_5_0_0) (by decide))
  have vu5 : Vals vt (512 * (i 1).val + 256) ⟨5, by decide⟩ _ := vals_ok arg4 harg4 vt (inb := k0_off86_inb i 1) (h := 5) (by decide) rfl (show k0_off86 i 1#32 = ![0, 400, (512 * (i 1).val + 256)] from k0_off86_eq i 1) (by omega)
  have su6 : Score q k (512 * (i 1).val) (512 * (i 1).val + 256) ⟨6, by decide⟩ _ := score_diag (d := 256#32) (h := ⟨6, by decide⟩) (by decide) h0 (keys_ok arg3 harg3 k (inb := k0_off71_inb i 1) (by decide) (show k0_off71 i 1#32 = ![0, 6, 512 * (i 1).val + BitVec.toNat 256#32, 0] from k0_off71_eq i 1) (by show 512 * (i 1).val + 256 + 256 ≤ 4096; omega)) (queries_ok arg2 harg2 q (inb := inb_S1x16x512x128_S1x1x512x128_0_6_0_0) (by decide))
  have vu6 : Vals vt (512 * (i 1).val + 256) ⟨6, by decide⟩ _ := vals_ok arg4 harg4 vt (inb := k0_off87_inb i 1) (h := 6) (by decide) rfl (show k0_off87 i 1#32 = ![0, 480, (512 * (i 1).val + 256)] from k0_off87_eq i 1) (by omega)
  have su7 : Score q k (512 * (i 1).val) (512 * (i 1).val + 256) ⟨7, by decide⟩ _ := score_diag (d := 256#32) (h := ⟨7, by decide⟩) (by decide) h0 (keys_ok arg3 harg3 k (inb := k0_off72_inb i 1) (by decide) (show k0_off72 i 1#32 = ![0, 7, 512 * (i 1).val + BitVec.toNat 256#32, 0] from k0_off72_eq i 1) (by show 512 * (i 1).val + 256 + 256 ≤ 4096; omega)) (queries_ok arg2 harg2 q (inb := inb_S1x16x512x128_S1x1x512x128_0_7_0_0) (by decide))
  have vu7 : Vals vt (512 * (i 1).val + 256) ⟨7, by decide⟩ _ := vals_ok arg4 harg4 vt (inb := k0_off88_inb i 1) (h := 7) (by decide) rfl (show k0_off88 i 1#32 = ![0, 560, (512 * (i 1).val + 256)] from k0_off88_eq i 1) (by omega)
  have su8 : Score q k (512 * (i 1).val) (512 * (i 1).val + 256) ⟨8, by decide⟩ _ := score_diag (d := 256#32) (h := ⟨8, by decide⟩) (by decide) h0 (keys_ok arg3 harg3 k (inb := k0_off73_inb i 1) (by decide) (show k0_off73 i 1#32 = ![0, 8, 512 * (i 1).val + BitVec.toNat 256#32, 0] from k0_off73_eq i 1) (by show 512 * (i 1).val + 256 + 256 ≤ 4096; omega)) (queries_ok arg2 harg2 q (inb := inb_S1x16x512x128_S1x1x512x128_0_8_0_0) (by decide))
  have vu8 : Vals vt (512 * (i 1).val + 256) ⟨8, by decide⟩ _ := vals_ok arg4 harg4 vt (inb := k0_off89_inb i 1) (h := 8) (by decide) rfl (show k0_off89 i 1#32 = ![0, 640, (512 * (i 1).val + 256)] from k0_off89_eq i 1) (by omega)
  have su9 : Score q k (512 * (i 1).val) (512 * (i 1).val + 256) ⟨9, by decide⟩ _ := score_diag (d := 256#32) (h := ⟨9, by decide⟩) (by decide) h0 (keys_ok arg3 harg3 k (inb := k0_off74_inb i 1) (by decide) (show k0_off74 i 1#32 = ![0, 9, 512 * (i 1).val + BitVec.toNat 256#32, 0] from k0_off74_eq i 1) (by show 512 * (i 1).val + 256 + 256 ≤ 4096; omega)) (queries_ok arg2 harg2 q (inb := inb_S1x16x512x128_S1x1x512x128_0_9_0_0) (by decide))
  have vu9 : Vals vt (512 * (i 1).val + 256) ⟨9, by decide⟩ _ := vals_ok arg4 harg4 vt (inb := k0_off90_inb i 1) (h := 9) (by decide) rfl (show k0_off90 i 1#32 = ![0, 720, (512 * (i 1).val + 256)] from k0_off90_eq i 1) (by omega)
  have su10 : Score q k (512 * (i 1).val) (512 * (i 1).val + 256) ⟨10, by decide⟩ _ := score_diag (d := 256#32) (h := ⟨10, by decide⟩) (by decide) h0 (keys_ok arg3 harg3 k (inb := k0_off75_inb i 1) (by decide) (show k0_off75 i 1#32 = ![0, 10, 512 * (i 1).val + BitVec.toNat 256#32, 0] from k0_off75_eq i 1) (by show 512 * (i 1).val + 256 + 256 ≤ 4096; omega)) (queries_ok arg2 harg2 q (inb := inb_S1x16x512x128_S1x1x512x128_0_10_0_0) (by decide))
  have vu10 : Vals vt (512 * (i 1).val + 256) ⟨10, by decide⟩ _ := vals_ok arg4 harg4 vt (inb := k0_off91_inb i 1) (h := 10) (by decide) rfl (show k0_off91 i 1#32 = ![0, 800, (512 * (i 1).val + 256)] from k0_off91_eq i 1) (by omega)
  have su11 : Score q k (512 * (i 1).val) (512 * (i 1).val + 256) ⟨11, by decide⟩ _ := score_diag (d := 256#32) (h := ⟨11, by decide⟩) (by decide) h0 (keys_ok arg3 harg3 k (inb := k0_off76_inb i 1) (by decide) (show k0_off76 i 1#32 = ![0, 11, 512 * (i 1).val + BitVec.toNat 256#32, 0] from k0_off76_eq i 1) (by show 512 * (i 1).val + 256 + 256 ≤ 4096; omega)) (queries_ok arg2 harg2 q (inb := inb_S1x16x512x128_S1x1x512x128_0_11_0_0) (by decide))
  have vu11 : Vals vt (512 * (i 1).val + 256) ⟨11, by decide⟩ _ := vals_ok arg4 harg4 vt (inb := k0_off92_inb i 1) (h := 11) (by decide) rfl (show k0_off92 i 1#32 = ![0, 880, (512 * (i 1).val + 256)] from k0_off92_eq i 1) (by omega)
  have su12 : Score q k (512 * (i 1).val) (512 * (i 1).val + 256) ⟨12, by decide⟩ _ := score_diag (d := 256#32) (h := ⟨12, by decide⟩) (by decide) h0 (keys_ok arg3 harg3 k (inb := k0_off77_inb i 1) (by decide) (show k0_off77 i 1#32 = ![0, 12, 512 * (i 1).val + BitVec.toNat 256#32, 0] from k0_off77_eq i 1) (by show 512 * (i 1).val + 256 + 256 ≤ 4096; omega)) (queries_ok arg2 harg2 q (inb := inb_S1x16x512x128_S1x1x512x128_0_12_0_0) (by decide))
  have vu12 : Vals vt (512 * (i 1).val + 256) ⟨12, by decide⟩ _ := vals_ok arg4 harg4 vt (inb := k0_off93_inb i 1) (h := 12) (by decide) rfl (show k0_off93 i 1#32 = ![0, 960, (512 * (i 1).val + 256)] from k0_off93_eq i 1) (by omega)
  have su13 : Score q k (512 * (i 1).val) (512 * (i 1).val + 256) ⟨13, by decide⟩ _ := score_diag (d := 256#32) (h := ⟨13, by decide⟩) (by decide) h0 (keys_ok arg3 harg3 k (inb := k0_off78_inb i 1) (by decide) (show k0_off78 i 1#32 = ![0, 13, 512 * (i 1).val + BitVec.toNat 256#32, 0] from k0_off78_eq i 1) (by show 512 * (i 1).val + 256 + 256 ≤ 4096; omega)) (queries_ok arg2 harg2 q (inb := inb_S1x16x512x128_S1x1x512x128_0_13_0_0) (by decide))
  have vu13 : Vals vt (512 * (i 1).val + 256) ⟨13, by decide⟩ _ := vals_ok arg4 harg4 vt (inb := k0_off94_inb i 1) (h := 13) (by decide) rfl (show k0_off94 i 1#32 = ![0, 1040, (512 * (i 1).val + 256)] from k0_off94_eq i 1) (by omega)
  have su14 : Score q k (512 * (i 1).val) (512 * (i 1).val + 256) ⟨14, by decide⟩ _ := score_diag (d := 256#32) (h := ⟨14, by decide⟩) (by decide) h0 (keys_ok arg3 harg3 k (inb := k0_off79_inb i 1) (by decide) (show k0_off79 i 1#32 = ![0, 14, 512 * (i 1).val + BitVec.toNat 256#32, 0] from k0_off79_eq i 1) (by show 512 * (i 1).val + 256 + 256 ≤ 4096; omega)) (queries_ok arg2 harg2 q (inb := inb_S1x16x512x128_S1x1x512x128_0_14_0_0) (by decide))
  have vu14 : Vals vt (512 * (i 1).val + 256) ⟨14, by decide⟩ _ := vals_ok arg4 harg4 vt (inb := k0_off95_inb i 1) (h := 14) (by decide) rfl (show k0_off95 i 1#32 = ![0, 1120, (512 * (i 1).val + 256)] from k0_off95_eq i 1) (by omega)
  have su15 : Score q k (512 * (i 1).val) (512 * (i 1).val + 256) ⟨15, by decide⟩ _ := score_diag (d := 256#32) (h := ⟨15, by decide⟩) (by decide) h0 (keys_ok arg3 harg3 k (inb := k0_off80_inb i 1) (by decide) (show k0_off80 i 1#32 = ![0, 15, 512 * (i 1).val + BitVec.toNat 256#32, 0] from k0_off80_eq i 1) (by show 512 * (i 1).val + 256 + 256 ≤ 4096; omega)) (queries_ok arg2 harg2 q (inb := inb_S1x16x512x128_S1x1x512x128_0_15_0_0) (by decide))
  have vu15 : Vals vt (512 * (i 1).val + 256) ⟨15, by decide⟩ _ := vals_ok arg4 harg4 vt (inb := k0_off96_inb i 1) (h := 15) (by decide) rfl (show k0_off96 i 1#32 = ![0, 1200, (512 * (i 1).val + 256)] from k0_off96_eq i 1) (by omega)
  have ru0 := mu0.row 0 (by decide) (by decide) arg6.view inb_S16x8x512_S1x1x512_0_0_0
  have mu1 : P6 q k (512 * (i 1).val) (512 * (i 1).val + 256) 1 (sl.HS0_17 (F := Ideal) c i arg2 harg2 arg3 harg3 arg4 harg4 arg5 harg5 arg6 harg6 arg7 harg7 q k vt) := mu0.tile 0 (by decide) su0 ru0 inb_S16x8x512_S1x8x512_0_0_0
  have ru1 := mu1.row 1 (by decide) (by decide) arg6.view inb_S16x8x512_S1x1x512_1_0_0
  have mu2 : P6 q k (512 * (i 1).val) (512 * (i 1).val + 256) 2 (sl.HS0_18 (F := Ideal) c i arg2 harg2 arg3 harg3 arg4 harg4 arg5 harg5 arg6 harg6 arg7 harg7 q k vt) := mu1.tile 1 (by decide) su1 ru1 inb_S16x8x512_S1x8x512_1_0_0
  have ru2 := mu2.row 2 (by decide) (by decide) arg6.view inb_S16x8x512_S1x1x512_2_0_0
  have mu3 : P6 q k (512 * (i 1).val) (512 * (i 1).val + 256) 3 (sl.HS0_19 (F := Ideal) c i arg2 harg2 arg3 harg3 arg4 harg4 arg5 harg5 arg6 harg6 arg7 harg7 q k vt) := mu2.tile 2 (by decide) su2 ru2 inb_S16x8x512_S1x8x512_2_0_0
  have ru3 := mu3.row 3 (by decide) (by decide) arg6.view inb_S16x8x512_S1x1x512_3_0_0
  have mu4 : P6 q k (512 * (i 1).val) (512 * (i 1).val + 256) 4 (sl.HS0_20 (F := Ideal) c i arg2 harg2 arg3 harg3 arg4 harg4 arg5 harg5 arg6 harg6 arg7 harg7 q k vt) := mu3.tile 3 (by decide) su3 ru3 inb_S16x8x512_S1x8x512_3_0_0
  have ru4 := mu4.row 4 (by decide) (by decide) arg6.view inb_S16x8x512_S1x1x512_4_0_0
  have mu5 : P6 q k (512 * (i 1).val) (512 * (i 1).val + 256) 5 (sl.HS0_21 (F := Ideal) c i arg2 harg2 arg3 harg3 arg4 harg4 arg5 harg5 arg6 harg6 arg7 harg7 q k vt) := mu4.tile 4 (by decide) su4 ru4 inb_S16x8x512_S1x8x512_4_0_0
  have ru5 := mu5.row 5 (by decide) (by decide) arg6.view inb_S16x8x512_S1x1x512_5_0_0
  have mu6 : P6 q k (512 * (i 1).val) (512 * (i 1).val + 256) 6 (sl.HS0_22 (F := Ideal) c i arg2 harg2 arg3 harg3 arg4 harg4 arg5 harg5 arg6 harg6 arg7 harg7 q k vt) := mu5.tile 5 (by decide) su5 ru5 inb_S16x8x512_S1x8x512_5_0_0
  have ru6 := mu6.row 6 (by decide) (by decide) arg6.view inb_S16x8x512_S1x1x512_6_0_0
  have mu7 : P6 q k (512 * (i 1).val) (512 * (i 1).val + 256) 7 (sl.HS0_23 (F := Ideal) c i arg2 harg2 arg3 harg3 arg4 harg4 arg5 harg5 arg6 harg6 arg7 harg7 q k vt) := mu6.tile 6 (by decide) su6 ru6 inb_S16x8x512_S1x8x512_6_0_0
  have ru7 := mu7.row 7 (by decide) (by decide) arg6.view inb_S16x8x512_S1x1x512_7_0_0
  have mu8 : P6 q k (512 * (i 1).val) (512 * (i 1).val + 256) 8 (sl.HS0_24 (F := Ideal) c i arg2 harg2 arg3 harg3 arg4 harg4 arg5 harg5 arg6 harg6 arg7 harg7 q k vt) := mu7.tile 7 (by decide) su7 ru7 inb_S16x8x512_S1x8x512_7_0_0
  have ru8 := mu8.row 8 (by decide) (by decide) arg6.view inb_S16x8x512_S1x1x512_8_0_0
  have mu9 : P6 q k (512 * (i 1).val) (512 * (i 1).val + 256) 9 (sl.HS0_25 (F := Ideal) c i arg2 harg2 arg3 harg3 arg4 harg4 arg5 harg5 arg6 harg6 arg7 harg7 q k vt) := mu8.tile 8 (by decide) su8 ru8 inb_S16x8x512_S1x8x512_8_0_0
  have ru9 := mu9.row 9 (by decide) (by decide) arg6.view inb_S16x8x512_S1x1x512_9_0_0
  have mu10 : P6 q k (512 * (i 1).val) (512 * (i 1).val + 256) 10 (sl.HS0_26 (F := Ideal) c i arg2 harg2 arg3 harg3 arg4 harg4 arg5 harg5 arg6 harg6 arg7 harg7 q k vt) := mu9.tile 9 (by decide) su9 ru9 inb_S16x8x512_S1x8x512_9_0_0
  have ru10 := mu10.row 10 (by decide) (by decide) arg6.view inb_S16x8x512_S1x1x512_10_0_0
  have mu11 : P6 q k (512 * (i 1).val) (512 * (i 1).val + 256) 11 (sl.HS0_27 (F := Ideal) c i arg2 harg2 arg3 harg3 arg4 harg4 arg5 harg5 arg6 harg6 arg7 harg7 q k vt) := mu10.tile 10 (by decide) su10 ru10 inb_S16x8x512_S1x8x512_10_0_0
  have ru11 := mu11.row 11 (by decide) (by decide) arg6.view inb_S16x8x512_S1x1x512_11_0_0
  have mu12 : P6 q k (512 * (i 1).val) (512 * (i 1).val + 256) 12 (sl.HS0_28 (F := Ideal) c i arg2 harg2 arg3 harg3 arg4 harg4 arg5 harg5 arg6 harg6 arg7 harg7 q k vt) := mu11.tile 11 (by decide) su11 ru11 inb_S16x8x512_S1x8x512_11_0_0
  have ru12 := mu12.row 12 (by decide) (by decide) arg6.view inb_S16x8x512_S1x1x512_12_0_0
  have mu13 : P6 q k (512 * (i 1).val) (512 * (i 1).val + 256) 13 (sl.HS0_29 (F := Ideal) c i arg2 harg2 arg3 harg3 arg4 harg4 arg5 harg5 arg6 harg6 arg7 harg7 q k vt) := mu12.tile 12 (by decide) su12 ru12 inb_S16x8x512_S1x8x512_12_0_0
  have ru13 := mu13.row 13 (by decide) (by decide) arg6.view inb_S16x8x512_S1x1x512_13_0_0
  have mu14 : P6 q k (512 * (i 1).val) (512 * (i 1).val + 256) 14 (sl.HS0_30 (F := Ideal) c i arg2 harg2 arg3 harg3 arg4 harg4 arg5 harg5 arg6 harg6 arg7 harg7 q k vt) := mu13.tile 13 (by decide) su13 ru13 inb_S16x8x512_S1x8x512_13_0_0
  have ru14 := mu14.row 14 (by decide) (by decide) arg6.view inb_S16x8x512_S1x1x512_14_0_0
  have mu15 : P6 q k (512 * (i 1).val) (512 * (i 1).val + 256) 15 (sl.HS0_31 (F := Ideal) c i arg2 harg2 arg3 harg3 arg4 harg4 arg5 harg5 arg6 harg6 arg7 harg7 q k vt) := mu14.tile 14 (by decide) su14 ru14 inb_S16x8x512_S1x8x512_14_0_0
  have ru15 := mu15.row 15 (by decide) (by decide) arg6.view inb_S16x8x512_S1x1x512_15_0_0
  have au0 := wu0.acc 0 (by decide) (by decide) arg7.view inb_S16x80x512_S1x80x512_0_0_0
  have wu1 : P7 q k vt (512 * (i 1).val) (512 * (i 1).val + 256) 1 (sl.HS1_17 (F := Ideal) c i arg2 harg2 arg3 harg3 arg4 harg4 arg5 harg5 arg6 harg6 arg7 harg7 q k vt) := wu0.tile hS 0 (by decide) su0 ru0 vu0 au0 inb_S16x80x512_S1x80x512_0_0_0
  have au1 := wu1.acc 1 (by decide) (by decide) arg7.view inb_S16x80x512_S1x80x512_1_0_0
  have wu2 : P7 q k vt (512 * (i 1).val) (512 * (i 1).val + 256) 2 (sl.HS1_18 (F := Ideal) c i arg2 harg2 arg3 harg3 arg4 harg4 arg5 harg5 arg6 harg6 arg7 harg7 q k vt) := wu1.tile hS 1 (by decide) su1 ru1 vu1 au1 inb_S16x80x512_S1x80x512_1_0_0
  have au2 := wu2.acc 2 (by decide) (by decide) arg7.view inb_S16x80x512_S1x80x512_2_0_0
  have wu3 : P7 q k vt (512 * (i 1).val) (512 * (i 1).val + 256) 3 (sl.HS1_19 (F := Ideal) c i arg2 harg2 arg3 harg3 arg4 harg4 arg5 harg5 arg6 harg6 arg7 harg7 q k vt) := wu2.tile hS 2 (by decide) su2 ru2 vu2 au2 inb_S16x80x512_S1x80x512_2_0_0
  have au3 := wu3.acc 3 (by decide) (by decide) arg7.view inb_S16x80x512_S1x80x512_3_0_0
  have wu4 : P7 q k vt (512 * (i 1).val) (512 * (i 1).val + 256) 4 (sl.HS1_20 (F := Ideal) c i arg2 harg2 arg3 harg3 arg4 harg4 arg5 harg5 arg6 harg6 arg7 harg7 q k vt) := wu3.tile hS 3 (by decide) su3 ru3 vu3 au3 inb_S16x80x512_S1x80x512_3_0_0
  have au4 := wu4.acc 4 (by decide) (by decide) arg7.view inb_S16x80x512_S1x80x512_4_0_0
  have wu5 : P7 q k vt (512 * (i 1).val) (512 * (i 1).val + 256) 5 (sl.HS1_21 (F := Ideal) c i arg2 harg2 arg3 harg3 arg4 harg4 arg5 harg5 arg6 harg6 arg7 harg7 q k vt) := wu4.tile hS 4 (by decide) su4 ru4 vu4 au4 inb_S16x80x512_S1x80x512_4_0_0
  have au5 := wu5.acc 5 (by decide) (by decide) arg7.view inb_S16x80x512_S1x80x512_5_0_0
  have wu6 : P7 q k vt (512 * (i 1).val) (512 * (i 1).val + 256) 6 (sl.HS1_22 (F := Ideal) c i arg2 harg2 arg3 harg3 arg4 harg4 arg5 harg5 arg6 harg6 arg7 harg7 q k vt) := wu5.tile hS 5 (by decide) su5 ru5 vu5 au5 inb_S16x80x512_S1x80x512_5_0_0
  have au6 := wu6.acc 6 (by decide) (by decide) arg7.view inb_S16x80x512_S1x80x512_6_0_0
  have wu7 : P7 q k vt (512 * (i 1).val) (512 * (i 1).val + 256) 7 (sl.HS1_23 (F := Ideal) c i arg2 harg2 arg3 harg3 arg4 harg4 arg5 harg5 arg6 harg6 arg7 harg7 q k vt) := wu6.tile hS 6 (by decide) su6 ru6 vu6 au6 inb_S16x80x512_S1x80x512_6_0_0
  have au7 := wu7.acc 7 (by decide) (by decide) arg7.view inb_S16x80x512_S1x80x512_7_0_0
  have wu8 : P7 q k vt (512 * (i 1).val) (512 * (i 1).val + 256) 8 (sl.HS1_24 (F := Ideal) c i arg2 harg2 arg3 harg3 arg4 harg4 arg5 harg5 arg6 harg6 arg7 harg7 q k vt) := wu7.tile hS 7 (by decide) su7 ru7 vu7 au7 inb_S16x80x512_S1x80x512_7_0_0
  have au8 := wu8.acc 8 (by decide) (by decide) arg7.view inb_S16x80x512_S1x80x512_8_0_0
  have wu9 : P7 q k vt (512 * (i 1).val) (512 * (i 1).val + 256) 9 (sl.HS1_25 (F := Ideal) c i arg2 harg2 arg3 harg3 arg4 harg4 arg5 harg5 arg6 harg6 arg7 harg7 q k vt) := wu8.tile hS 8 (by decide) su8 ru8 vu8 au8 inb_S16x80x512_S1x80x512_8_0_0
  have au9 := wu9.acc 9 (by decide) (by decide) arg7.view inb_S16x80x512_S1x80x512_9_0_0
  have wu10 : P7 q k vt (512 * (i 1).val) (512 * (i 1).val + 256) 10 (sl.HS1_26 (F := Ideal) c i arg2 harg2 arg3 harg3 arg4 harg4 arg5 harg5 arg6 harg6 arg7 harg7 q k vt) := wu9.tile hS 9 (by decide) su9 ru9 vu9 au9 inb_S16x80x512_S1x80x512_9_0_0
  have au10 := wu10.acc 10 (by decide) (by decide) arg7.view inb_S16x80x512_S1x80x512_10_0_0
  have wu11 : P7 q k vt (512 * (i 1).val) (512 * (i 1).val + 256) 11 (sl.HS1_27 (F := Ideal) c i arg2 harg2 arg3 harg3 arg4 harg4 arg5 harg5 arg6 harg6 arg7 harg7 q k vt) := wu10.tile hS 10 (by decide) su10 ru10 vu10 au10 inb_S16x80x512_S1x80x512_10_0_0
  have au11 := wu11.acc 11 (by decide) (by decide) arg7.view inb_S16x80x512_S1x80x512_11_0_0
  have wu12 : P7 q k vt (512 * (i 1).val) (512 * (i 1).val + 256) 12 (sl.HS1_28 (F := Ideal) c i arg2 harg2 arg3 harg3 arg4 harg4 arg5 harg5 arg6 harg6 arg7 harg7 q k vt) := wu11.tile hS 11 (by decide) su11 ru11 vu11 au11 inb_S16x80x512_S1x80x512_11_0_0
  have au12 := wu12.acc 12 (by decide) (by decide) arg7.view inb_S16x80x512_S1x80x512_12_0_0
  have wu13 : P7 q k vt (512 * (i 1).val) (512 * (i 1).val + 256) 13 (sl.HS1_29 (F := Ideal) c i arg2 harg2 arg3 harg3 arg4 harg4 arg5 harg5 arg6 harg6 arg7 harg7 q k vt) := wu12.tile hS 12 (by decide) su12 ru12 vu12 au12 inb_S16x80x512_S1x80x512_12_0_0
  have au13 := wu13.acc 13 (by decide) (by decide) arg7.view inb_S16x80x512_S1x80x512_13_0_0
  have wu14 : P7 q k vt (512 * (i 1).val) (512 * (i 1).val + 256) 14 (sl.HS1_30 (F := Ideal) c i arg2 harg2 arg3 harg3 arg4 harg4 arg5 harg5 arg6 harg6 arg7 harg7 q k vt) := wu13.tile hS 13 (by decide) su13 ru13 vu13 au13 inb_S16x80x512_S1x80x512_13_0_0
  have au14 := wu14.acc 14 (by decide) (by decide) arg7.view inb_S16x80x512_S1x80x512_14_0_0
  have wu15 : P7 q k vt (512 * (i 1).val) (512 * (i 1).val + 256) 15 (sl.HS1_31 (F := Ideal) c i arg2 harg2 arg3 harg3 arg4 harg4 arg5 harg5 arg6 harg6 arg7 harg7 q k vt) := wu14.tile hS 14 (by decide) su14 ru14 vu14 au14 inb_S16x80x512_S1x80x512_14_0_0
  have au15 := wu15.acc 15 (by decide) (by decide) arg7.view inb_S16x80x512_S1x80x512_15_0_0
  have wu16 : P7 q k vt (512 * (i 1).val) (512 * (i 1).val + 256) 16 (sl.HS1_32 (F := Ideal) c i arg2 harg2 arg3 harg3 arg4 harg4 arg5 harg5 arg6 harg6 arg7 harg7 q k vt) := wu15.tile hS 15 (by decide) su15 ru15 vu15 au15 inb_S16x80x512_S1x80x512_15_0_0
  exact wu16

end Cert.FlashIdeal.Body
-- ==== Proof.FlashOut.lean ====
/-
  What the attention kernel stores at one grid point: each head's weighted sums divided by the sum of
  the weights.
-/
module

public import proofs.«01_k».proof.Proof.FlashBody

@[expose] public section

set_option maxRecDepth 100000

noncomputable section

namespace Cert.FlashIdeal.Out

open Cert.FlashIdeal Cert.FlashIdeal.Gen Cert.FlashIdeal.Gen.kernelRun0_A Cert.FlashIdeal.Tile Cert.FlashIdeal.State Cert.Flash.Spec
open Idealize.ShloMosaic Idealize.ShloMosaic.TcCoe Idealize.ShloMosaic.Tactic Idealize.SL.Sem

/-- Row `r` of head `g`'s result at query `n0 + x`, after `n` keys. -/
def O (q : Vec Ideal S1x16x512x128 .bf16) (k : Vec Ideal S1x16x4096x128 .bf16) (vt : Vec Ideal S1x1280x4096 .bf16) (n0 n : ℕ) (g : Fin 16) (r : Fin 64) (x : Fin 512) : EReal :=
  Ideal.div (mass (S q k n0 g x) (W vt g ⟨r.val, by omega⟩) n) (mass (S q k n0 g x) (W vt g 64) n)

/-- The writes `L` leave the results of the first `h` heads. -/
def PO (q : Vec Ideal S1x16x512x128 .bf16) (k : Vec Ideal S1x16x4096x128 .bf16) (vt : Vec Ideal S1x1280x4096 .bf16) (n0 n h : ℕ)
    (L : List (View.Piece (Elt Ideal) S1x1024x512 .bf16)) : Prop :=
  ∀ (g : Fin 16) (r : Fin 64) (x : Fin 512), g.val < h → View.canon L (ix3 0 ⟨64 * g.val + r.val, by omega⟩ x) = O q k vt n0 n g r x

variable {q : Vec Ideal S1x16x512x128 .bf16} {k : Vec Ideal S1x16x4096x128 .bf16} {vt : Vec Ideal S1x1280x4096 .bf16} {n0 : ℕ}

/-- A head's quotient, of what is loaded from the finished sums. -/
theorem tileO_ok {n : ℕ} {L} (hL : P7 q k vt n0 n 16 L) (g : ℕ) (hg : g < 16) (v : View sig .tc .vmem S16x80x512 .f32)
    (inb : ∀ a, (![g, 0, 0] : Fin 3 → ℕ) a + S1x64x512.size a ≤ S16x80x512.size a)
    (inb' : ∀ a, (![g, 64, 0] : Fin 3 → ℕ) a + S1x1x512.size a ≤ S16x80x512.size a) (r : Fin 64) (x : Fin 512) :
    tileO (v.readCov L (Rect.unit (s := S16x80x512) ![g, 0, 0] S1x64x512.size inb).toLoadRect)
      (v.readCov L (Rect.unit (s := S16x80x512) ![g, 64, 0] S1x1x512.size inb').toLoadRect) (ix3 0 r x) = O q k vt n0 (n + 256) ⟨g, hg⟩ r x := by
  rw [tileO_apply, View.readCov_eq_canon', View.readCov_eq_canon']
  have e : (Rect.unit (s := S16x80x512) ![g, 0, 0] S1x64x512.size inb).toLoadRect.idx (ix3 0 r x) = ix3 (⟨g, hg⟩ : Fin 16) (⟨r.val, by omega⟩ : Fin 80) x := by
    funext a
    refine Fin.ext ?_
    match a with
    | ⟨0, _⟩ => show g + 1 * 0 = g; omega
    | ⟨1, _⟩ => show 0 + 1 * r.val = r.val; omega
    | ⟨2, _⟩ => show 0 + 1 * x.val = x.val; omega
  have e' : (Rect.unit (s := S16x80x512) ![g, 64, 0] S1x1x512.size inb').toLoadRect.idx (ix3 0 0 x) = ix3 (⟨g, hg⟩ : Fin 16) (64 : Fin 80) x := by
    funext a
    refine Fin.ext ?_
    match a with
    | ⟨0, _⟩ => show g + 1 * 0 = g; omega
    | ⟨1, _⟩ => rfl
    | ⟨2, _⟩ => show 0 + 1 * x.val = x.val; omega
  refine congrArg₂ Ideal.div ((congrArg (View.canon L) e).trans ((hL _).trans (if_pos hg))) ((congrArg (View.canon L) e').trans ((hL _).trans (if_pos hg)))

/-- Storing head `h`'s result. -/
theorem PO.step {n : ℕ} (h : ℕ) (hh : h < 16) {L} (hL : PO q k vt n0 n h L) (o : ℕ) (ho : o = 64 * h) {inb}
    {w : (Rect.unit (s := S1x1024x512) ![0, o, 0] ![1, 64, 512] inb).shape.Idx → EReal}
    (hw : ∀ (r : Fin 64) (x : Fin 512), w (ix3 0 r x) = O q k vt n0 n ⟨h, hh⟩ r x) :
    PO q k vt n0 n (h + 1) (⟨Rect.unit ![0, o, 0] ![1, 64, 512] inb, w⟩ :: L) := by
  intro g r x hg
  by_cases hy : g.val = h
  · have e : (ix3 0 ⟨64 * g.val + r.val, by omega⟩ x : S1x1024x512.Idx) = (Rect.unit (s := S1x1024x512) ![0, o, 0] ![1, 64, 512] inb).emb (ix3 (0 : Fin 1) r x) := by
      funext a
      refine Fin.ext ?_
      rw [ValueKit.rect_emb_unit_val]
      match a with
      | ⟨0, _⟩ => rfl
      | ⟨1, _⟩ => show 64 * g.val + r.val = o + r.val; omega
      | ⟨2, _⟩ => exact (Nat.zero_add _).symm
    refine (congrArg _ e).trans ((View.canon_cons_emb _ _ _ _).trans ((hw _ _).trans ?_))
    rw [show (⟨h, hh⟩ : Fin 16) = g from Fin.ext hy.symm]
  · rw [View.canon_cons_of_not_mem _ _ (fun hm => hy (by
      have h0 := (Rect.mem_set_unit (s := S1x1024x512) (off := ![0, o, 0]) (size := ![1, 64, 512]) (inb := inb)).mp hm 1
      have h1 : o ≤ 64 * g.val + r.val := h0.1
      have h2 : 64 * g.val + r.val < o + 64 := h0.2
      omega)), hL g r x (by omega)]

set_option maxHeartbeats 4000000 in
/-- What the body leaves in the result block. -/
theorem stored (c : Dev nD) (i : grid0.Coords) (arg2 : Memref sig .tc .vmem S1x16x512x128 .bf16) (harg2 : arg2.IsWhole) (arg3 : Memref sig .tc .vmem S1x16x4096x128 .bf16) (harg3 : arg3.IsWhole) (arg4 : Memref sig .tc .vmem S1x1280x4096 .bf16) (harg4 : arg4.IsWhole) (arg5 : Memref sig .tc .vmem S1x1024x512 .bf16) (harg5 : arg5.IsWhole) (arg6 : Memref sig .tc .vmem S16x8x512 .f32) (harg6 : arg6.IsWhole) (arg7 : Memref sig .tc .vmem S16x80x512 .f32) (harg7 : arg7.IsWhole) (q : Vec Ideal S1x16x512x128 .bf16) (k : Vec Ideal S1x16x4096x128 .bf16) (vt : Vec Ideal S1x1280x4096 .bf16)
    (hS : ∀ h x, Scores (S q k (512 * (i 1).val) h x)) :
    PO q k vt (512 * (i 1).val) (512 * (i 1).val + 256 + 256) 16 (kernelRun0_A (F := Ideal) c i arg2 harg2 arg3 harg3 arg4 harg4 arg5 harg5 arg6 harg6 arg7 harg7 q k vt).1 := by
  have hL := Body.done c i arg2 harg2 arg3 harg3 arg4 harg4 arg5 harg5 arg6 harg6 arg7 harg7 q k vt hS
  have p0 : PO q k vt (512 * (i 1).val) (512 * (i 1).val + 256 + 256) 0 [] := fun g r x h => absurd h (Nat.not_lt_zero _)
  have p1 := p0.step 0 (by decide) 0 rfl (inb := inb_S1x1024x512_S1x64x512_0_0_0) (tileO_ok hL 0 (by decide) arg7.view inb_S16x80x512_S1x64x512_0_0_0 inb_S16x80x512_S1x1x512_0_64_0)
  have p2 := p1.step 1 (by decide) 64 rfl (inb := inb_S1x1024x512_S1x64x512_0_64_0) (tileO_ok hL 1 (by decide) arg7.view inb_S16x80x512_S1x64x512_1_0_0 inb_S16x80x512_S1x1x512_1_64_0)
  have p3 := p2.step 2 (by decide) 128 rfl (inb := inb_S1x1024x512_S1x64x512_0_128_0) (tileO_ok hL 2 (by decide) arg7.view inb_S16x80x512_S1x64x512_2_0_0 inb_S16x80x512_S1x1x512_2_64_0)
  have p4 := p3.step 3 (by decide) 192 rfl (inb := inb_S1x1024x512_S1x64x512_0_192_0) (tileO_ok hL 3 (by decide) arg7.view inb_S16x80x512_S1x64x512_3_0_0 inb_S16x80x512_S1x1x512_3_64_0)
  have p5 := p4.step 4 (by decide) 256 rfl (inb := inb_S1x1024x512_S1x64x512_0_256_0) (tileO_ok hL 4 (by decide) arg7.view inb_S16x80x512_S1x64x512_4_0_0 inb_S16x80x512_S1x1x512_4_64_0)
  have p6 := p5.step 5 (by decide) 320 rfl (inb := inb_S1x1024x512_S1x64x512_0_320_0) (tileO_ok hL 5 (by decide) arg7.view inb_S16x80x512_S1x64x512_5_0_0 inb_S16x80x512_S1x1x512_5_64_0)
  have p7 := p6.step 6 (by decide) 384 rfl (inb := inb_S1x1024x512_S1x64x512_0_384_0) (tileO_ok hL 6 (by decide) arg7.view inb_S16x80x512_S1x64x512_6_0_0 inb_S16x80x512_S1x1x512_6_64_0)
  have p8 := p7.step 7 (by decide) 448 rfl (inb := inb_S1x1024x512_S1x64x512_0_448_0) (tileO_ok hL 7 (by decide) arg7.view inb_S16x80x512_S1x64x512_7_0_0 inb_S16x80x512_S1x1x512_7_64_0)
  have p9 := p8.step 8 (by decide) 512 rfl (inb := inb_S1x1024x512_S1x64x512_0_512_0) (tileO_ok hL 8 (by decide) arg7.view inb_S16x80x512_S1x64x512_8_0_0 inb_S16x80x512_S1x1x512_8_64_0)
  have p10 := p9.step 9 (by decide) 576 rfl (inb := inb_S1x1024x512_S1x64x512_0_576_0) (tileO_ok hL 9 (by decide) arg7.view inb_S16x80x512_S1x64x512_9_0_0 inb_S16x80x512_S1x1x512_9_64_0)
  have p11 := p10.step 10 (by decide) 640 rfl (inb := inb_S1x1024x512_S1x64x512_0_640_0) (tileO_ok hL 10 (by decide) arg7.view inb_S16x80x512_S1x64x512_10_0_0 inb_S16x80x512_S1x1x512_10_64_0)
  have p12 := p11.step 11 (by decide) 704 rfl (inb := inb_S1x1024x512_S1x64x512_0_704_0) (tileO_ok hL 11 (by decide) arg7.view inb_S16x80x512_S1x64x512_11_0_0 inb_S16x80x512_S1x1x512_11_64_0)
  have p13 := p12.step 12 (by decide) 768 rfl (inb := inb_S1x1024x512_S1x64x512_0_768_0) (tileO_ok hL 12 (by decide) arg7.view inb_S16x80x512_S1x64x512_12_0_0 inb_S16x80x512_S1x1x512_12_64_0)
  have p14 := p13.step 13 (by decide) 832 rfl (inb := inb_S1x1024x512_S1x64x512_0_832_0) (tileO_ok hL 13 (by decide) arg7.view inb_S16x80x512_S1x64x512_13_0_0 inb_S16x80x512_S1x1x512_13_64_0)
  have p15 := p14.step 14 (by decide) 896 rfl (inb := inb_S1x1024x512_S1x64x512_0_896_0) (tileO_ok hL 14 (by decide) arg7.view inb_S16x80x512_S1x64x512_14_0_0 inb_S16x80x512_S1x1x512_14_64_0)
  have p16 := p15.step 15 (by decide) 960 rfl (inb := inb_S1x1024x512_S1x64x512_0_960_0) (tileO_ok hL 15 (by decide) arg7.view inb_S16x80x512_S1x64x512_15_0_0 inb_S16x80x512_S1x1x512_15_64_0)
  unfold kernelRun0_A
  exact p16

end Cert.FlashIdeal.Out
-- ==== Proof.FlashTarget.lean ====
/-
  Causal attention of one query, as sums over the keys: what both the kernel and the reference compute.
-/
module

public import proofs.«01_k».proof.Proof.FlashSpec

@[expose] public section

noncomputable section

namespace Cert.Flash.Spec

open Idealize.ShloMosaic
open scoped BigOperators

/-- The score of key `j` for query `i`: the product of the two rows, `-∞` if the key is later. -/
def score (kr : Fin 4096 → Fin 128 → EReal) (qr : Fin 128 → EReal) (i j : ℕ) : EReal :=
  if hj : j < 4096 then if j ≤ i then ∑ l : Fin 128, kr ⟨j, hj⟩ l * qr l else ⊥ else ⊥

/-- A row of values, zero past the last key. -/
def vals (vr : Fin 4096 → EReal) (j : ℕ) : EReal := if hj : j < 4096 then vr ⟨j, hj⟩ else 0

/-- The mean of the values, weighted by the softmax to base two of the scores. -/
def attn (T w : ℕ → EReal) : EReal :=
  ∑ j : Fin 4096, Ideal.div (Ideal.exp2 (T j.val - Finset.univ.fold max ⊥ fun k : Fin 4096 => T k.val))
    (∑ k : Fin 4096, Ideal.exp2 (T k.val - Finset.univ.fold max ⊥ fun k : Fin 4096 => T k.val)) * w j.val

/-- A sum of products of finite numbers is finite. -/
theorem dot_real {n : ℕ} {a b : Fin n → EReal} (ha : ∀ l, a l ≠ ⊥ ∧ a l ≠ ⊤) (hb : ∀ l, b l ≠ ⊥ ∧ b l ≠ ⊤) :
    ∃ r : ℝ, ∑ l, a l * b l = r := by
  refine ⟨∑ l, (a l).toReal * (b l).toReal, ?_⟩
  have e : ∀ l, a l * b l = (((a l).toReal * (b l).toReal : ℝ) : EReal) := fun l => by
    rw [EReal.coe_mul, EReal.coe_toReal (ha l).2 (ha l).1, EReal.coe_toReal (hb l).2 (hb l).1]
  simp only [e]
  induction (Finset.univ : Finset (Fin n)) using Finset.cons_induction with
  | empty => simp
  | cons x s hx ih => rw [Finset.sum_cons, Finset.sum_cons, EReal.coe_add, ih]

/-- Finite queries and keys give scores none of which is `+∞`, the first one finite. -/
theorem score_scores {kr : Fin 4096 → Fin 128 → EReal} {qr : Fin 128 → EReal} (hk : ∀ j l, kr j l ≠ ⊥ ∧ kr j l ≠ ⊤) (hq : ∀ l, qr l ≠ ⊥ ∧ qr l ≠ ⊤)
    (i : ℕ) : Scores (score kr qr i) where
  lt j := by
    unfold score
    split
    · split
      · obtain ⟨r, hr⟩ := dot_real (hk ⟨j, by assumption⟩) hq
        rw [hr]; exact EReal.coe_ne_top r
      · exact bot_ne_top
    · exact bot_ne_top
  first := by
    obtain ⟨r, hr⟩ := dot_real (hk ⟨0, by decide⟩) hq
    unfold score
    rw [dif_pos (by decide), if_pos (Nat.zero_le _), hr]
    exact EReal.coe_ne_bot r

/-- The weighted sum over the keys up to the query, divided by the sum of the weights, is attention. -/
theorem attn_of_mass {kr : Fin 4096 → Fin 128 → EReal} {qr : Fin 128 → EReal} (hk : ∀ j l, kr j l ≠ ⊥ ∧ kr j l ≠ ⊤) (hq : ∀ l, qr l ≠ ⊥ ∧ qr l ≠ ⊤)
    (i n : ℕ) (hi : i < n) (hn : n ≤ 4096) (w : ℕ → EReal) (ones : Fin 4096 → EReal) (h1 : ∀ j, ones j = 1) :
    Ideal.div (mass (score kr qr i) w n) (mass (score kr qr i) (vals ones) n) = attn (score kr qr i) w := by
  have e : mass (score kr qr i) (vals ones) n = mass (score kr qr i) (fun _ => 1) n := by
    unfold mass
    refine Finset.sum_congr rfl fun j hj => ?_
    have : vals ones j = 1 := by unfold vals; rw [dif_pos (by first | exact lt_of_lt_of_le (Finset.mem_range.mp hj) hn | omega), h1]
    rw [this]
  rw [e, mass_div (score_scores hk hq i) w (by omega : 0 < n) hn]
  · rfl
  · intro j hj
    unfold score
    split
    · exact if_neg (by omega)
    · rfl

end Cert.Flash.Spec
-- ==== Proof.FlashKernel.lean ====
/-
  The attention kernel's result array: every grid point stores one batch's block of 512 queries.
-/
module

public import proofs.«01_k».proof.Proof.FlashOut
public import proofs.«01_k».proof.Proof.FlashTarget
public import proofs.«01_k».proof.Proof.Gen.FlashIdeal.Value

@[expose] public section

set_option maxRecDepth 16384

noncomputable section

namespace Cert.FlashIdeal.Rows

open Cert.FlashIdeal Cert.FlashIdeal.Gen Cert.FlashIdeal.State Cert.Flash.Spec Idealize.ShloMosaic Idealize.ShloMosaic.TcCoe Idealize.SL.Sem
open Idealize.ShloMosaic.Pipeline (Dat)
open scoped BigOperators

/-- One entry of the result: batch `b`, head `g`, row `r` of its values, query `i`. -/
def R (q k : Vec Ideal S16x16x4096x128 .bf16) (vt : Vec Ideal S16x1280x4096 .bf16) (b g : Fin 16) (r : Fin 64) (i : Fin 4096) : EReal :=
  attn (score (fun j l => k (ix4 b g j l)) (fun l => q (ix4 b g i l)) i.val) (vals fun j => vt (ix3 b ⟨80 * g.val + r.val, by omega⟩ j))

/-- The result array. -/
def G (q k : Vec Ideal S16x16x4096x128 .bf16) (vt : Vec Ideal S16x1280x4096 .bf16) : Vec Ideal S16x1024x4096 .bf16 := fun y =>
  R q k vt (y 0) ⟨(y 1).val / 64, by have h : (y 1).val < 1024 := (y 1).isLt; omega⟩ ⟨(y 1).val % 64, Nat.mod_lt _ (by decide)⟩ (y 2)

/-- Every entry is a real number. -/
def Real4 (q : S16x16x4096x128.Idx → EReal) : Prop := ∀ y, q y ≠ ⊥ ∧ q y ≠ ⊤

/-- Where a grid point's blocks lie. -/
theorem idx : ∀ t : Fin cfg0.N, win0_0.index t = ![t.val / 8, 0, t.val % 8, 0] ∧ win0_1.index t = ![t.val / 8, 0, 0, 0] ∧ win0_2.index t = ![t.val / 8, 0, 0]
    ∧ win0_3.index t = ![t.val / 8, 0, t.val % 8] :=
  (by decide +kernel : ∀ t : Fin grid0.N, _)

/-- A grid point's block of queries. -/
theorem coord : ∀ t : Fin cfg0.N, ((grid0.coords t) 1).val = t.val % 8 :=
  (by decide +kernel : ∀ t : Fin grid0.N, _)

variable (m : (ℓ : Loc nD τ sig) → Buf (Elt Ideal) ℓ)

/-- What a grid point stores, over the arrays. -/
theorem tile_apply (c : Dev nD) (hq : Real4 (V m c main_arg0)) (hk : Real4 (V m c main_arg1))
    (h1 : ∀ (b g : Fin 16) (j : Fin 4096), V m c main_arg2 (ix3 b ⟨80 * g.val + 64, by omega⟩ j) = (1 : EReal))
    (t : Fin cfg0.N) (g : Fin 16) (r : Fin 64) (x : Fin 512) :
    outsAt0 m c t (ix3 0 ⟨64 * g.val + r.val, by omega⟩ x)
      = R (V m c main_arg0) (V m c main_arg1) (V m c main_arg2) ⟨t.val / 8, by have h : t.val < 128 := t.isLt; omega⟩ g r ⟨512 * (t.val % 8) + x.val, by omega⟩ := by
  have ht : t.val < 128 := t.isLt
  have e0 : ∀ h x l, iblk m c 0 t (ix4 0 h x l) = V m c main_arg0 (ix4 ⟨t.val / 8, by omega⟩ h ⟨512 * (t.val % 8) + x.val, by omega⟩ l) := fun h x l => by
    blk_ext [iblk, idx t]
  have e1 : ∀ h j l, iblk m c 1 t (ix4 0 h j l) = V m c main_arg1 (ix4 ⟨t.val / 8, by omega⟩ h j l) := fun h j l => by
    blk_ext [iblk, idx t]
  have e2 : ∀ u j, iblk m c 2 t (ix3 0 u j) = V m c main_arg2 (ix3 ⟨t.val / 8, by omega⟩ u j) := fun u j => by
    blk_ext [iblk, idx t]
  have eS : ∀ h x, S (iblk m c 0 t) (iblk m c 1 t) (512 * ((grid0.coords t) 1).val) h x
      = score (fun j l => V m c main_arg1 (ix4 ⟨t.val / 8, by omega⟩ h j l)) (fun l => V m c main_arg0 (ix4 ⟨t.val / 8, by omega⟩ h ⟨512 * (t.val % 8) + x.val, by omega⟩ l))
        (512 * (t.val % 8) + x.val) := fun h x => by
    funext j
    unfold S score
    simp only [e0, e1, coord t]
  have eW : ∀ (h : Fin 16) (u : Fin 80), W (iblk m c 2 t) h u = vals fun j => V m c main_arg2 (ix3 ⟨t.val / 8, by omega⟩ ⟨80 * h.val + u.val, by omega⟩ j) := fun h u => by
    funext j
    unfold W vals
    simp only [e2]
  have st := Out.stored c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (iblk m c 0 t) (iblk m c 1 t) (iblk m c 2 t) (fun h x => by rw [eS]; exact score_scores (fun _ _ => hk _) (fun _ => hq _) _) g r x g.isLt
  unfold outsAt0 out0_A_3
  rw [View.read_writes_junk_apply_eq_canon, st]
  unfold Out.O
  rw [eS, eW, eW, coord t]
  exact attn_of_mass (fun _ _ => hk _) (fun _ => hq _) _ _ (by omega) (by omega) _ _ (h1 _ g)

/-- The result array after the run is that function of the arguments. -/
theorem final (c : Dev nD) (hq : Real4 (V m c main_arg0)) (hk : Real4 (V m c main_arg1))
    (h1 : ∀ (b g : Fin 16) (j : Fin 4096), V m c main_arg2 (ix3 b ⟨80 * g.val + 64, by omega⟩ j) = (1 : EReal)) :
    (dats m 0 c).arrAt 3 cfg0.N = G (V m c main_arg0) (V m c main_arg1) (V m c main_arg2) := by
  refine (dats m 0 c).arrAt_eq_of_covers 3 _ (by decide +kernel) fun t hf y => ?_
  blk_simp
  rw [after0_3]
  idx_vars y
  have ht : t.val < 128 := t.isLt
  have h0 : y0 = 0 := Subsingleton.elim _ _
  subst h0
  have e6 : ((View.whole main_v0).slice (win0_3.rect t)).emb (ix3 0 y1 y2) = ix3 ⟨t.val / 8, by omega⟩ y1 ⟨512 * (t.val % 8) + y2.val, by omega⟩ := by
    blk_ext [idx t]
  have e : y1 = ⟨64 * (y1.val / 64) + y1.val % 64, by omega⟩ := Fin.ext (by show y1.val = 64 * (y1.val / 64) + y1.val % 64; omega)
  rw [e6]
  have h := tile_apply m c hq hk h1 t ⟨y1.val / 64, by omega⟩ ⟨y1.val % 64, Nat.mod_lt _ (by decide)⟩ y2
  rw [← e] at h
  exact h

end Cert.FlashIdeal.Rows
-- ==== Proof.FlashRef.lean ====
/-
  The reference's attention, entry by entry.
-/
module

public import proofs.«01_k».proof.Proof.FlashTarget
public import proofs.«01_k».proof.Proof.Gen.FlashRefIdeal.Read

@[expose] public section

set_option maxRecDepth 16384

noncomputable section

namespace Cert.FlashRefIdeal.Rows

open Cert.FlashRefIdeal Cert.FlashRefIdeal.Gen Cert.FlashRefIdeal.Read Cert.Flash.Spec Idealize.ShloMosaic Idealize.ShloMosaic.TcCoe Idealize.SL.Sem
open scoped BigOperators

variable (q k : Vec Ideal S16x16x4096x128 .bf16) (vt : Vec Ideal S16x1280x4096 .bf16)

/-- The causal mask. -/
theorem mask_apply (i j : Fin 4096) : val_main_v9 (F := Ideal) (ix2 i j) = 1#1 ↔ j.val ≤ i.val := by
  rw [val_main_v9_apply, IntOp.cmpi_sge, val_main_v7_apply, val_main_v8_apply, val_main_v4_apply, val_main_v6_apply, val_main_v3_apply, val_main_v5_apply]
  show (BitVec.ofNat 32 j.val).toInt ≤ (BitVec.ofNat 32 i.val).toInt ↔ _
  have e : ∀ n : Fin 4096, (BitVec.ofNat 32 n.val).toInt = n.val := fun n => by
    have h : (BitVec.ofNat 32 n.val).toNat = n.val := by rw [BitVec.toNat_ofNat]; exact Nat.mod_eq_of_lt (by omega)
    rw [BitVec.toInt_eq_toNat_of_lt (by rw [h]; omega), h]
  rw [e, e]
  exact Int.ofNat_le

/-- The scores of a query. -/
theorem score_apply (b h : Fin 16) (i j : Fin 4096) : val_main_v10 (F := Ideal) q k (ix4 b h i j)
    = score (fun j l => k (ix4 b h j l)) (fun l => q (ix4 b h i l)) i.val j.val := by
  rw [val_main_v10_apply, val_main_call0_v1_apply, val_main_call0_v2_apply, val_main_v2_apply]
  have e : (idx_main_call0_v1 (ix4 b h i j)) = ix2 i j := by funext a; match a with | ⟨0, _⟩ => rfl | ⟨1, _⟩ => rfl
  unfold Scalar.select score
  rw [e, dif_pos j.isLt]
  refine if_congr (mask_apply i j) (Finset.sum_congr rfl fun l _ => ?_) rfl
  rw [mul_comm]
  refine congrArg₂ (· * ·) (congrArg k ?_) (congrArg q ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- Two to a power, as the exponential of the logarithm of two times it. -/
theorem exp_log_two (x : EReal) : Ideal.exp (Ideal.log (Ideal.ofBits .f32 0x40000000#32) * x) = Ideal.exp2 x := by
  have e : Ideal.ofBits .f32 0x40000000#32 = ((2 : ℝ) : EReal) := by
    simp [Ideal.ofBits, Ideal.ieee, -EReal.coe_mul]; norm_num
  have hp : 0 < Real.log 2 := Real.log_pos (by norm_num)
  rw [e, Ideal.log_coe, if_neg (by norm_num)]
  induction x with
  | bot => rw [EReal.coe_mul_bot_of_pos hp, Ideal.exp_bot, Ideal.exp2_bot]
  | top => rw [EReal.coe_mul_top_of_pos hp, Ideal.exp_top, Ideal.exp2_top]
  | coe r =>
    rw [← EReal.coe_mul, Ideal.exp_coe, Ideal.exp2_coe, Real.exp_mul, Real.exp_log (by norm_num)]
    rfl

/-- The largest score of a query. -/
theorem max_apply (b h : Fin 16) (i : Fin 4096) : val_main_v12 (F := Ideal) q k (ix3 b h i)
    = Finset.univ.fold max ⊥ fun j : Fin 4096 => score (fun j l => k (ix4 b h j l)) (fun l => q (ix4 b h i l)) i.val j.val := by
  have e := score_apply q k b h i
  revert e
  unfold val_main_v12
  generalize val_main_v10 (F := Ideal) q k = s
  intro e
  simp only [← e]
  pointwise [val_main_cst_1]
  rfl

/-- Two to a score less the largest. -/
theorem exp_apply (b h : Fin 16) (i j : Fin 4096) : val_main_v18 (F := Ideal) q k (ix4 b h i j)
    = Ideal.exp2 (score (fun j l => k (ix4 b h j l)) (fun l => q (ix4 b h i l)) i.val j.val
      - Finset.univ.fold max ⊥ fun j : Fin 4096 => score (fun j l => k (ix4 b h j l)) (fun l => q (ix4 b h i l)) i.val j.val) := by
  rw [val_main_v18_apply, val_main_v17_apply, val_main_v16_apply, val_main_v11_apply, val_main_v15_apply, val_main_v14_apply, val_main_v13_apply, score_apply,
    ← max_apply]
  refine (exp_log_two _).trans (congrArg (fun z => Ideal.exp2 (_ - val_main_v12 (F := Ideal) q k z)) ?_)
  funext a; match a with | ⟨0, _⟩ => rfl | ⟨1, _⟩ => rfl | ⟨2, _⟩ => rfl

/-- The sum of a query's weights. -/
theorem sum_apply (b h : Fin 16) (i : Fin 4096) : val_main_v19 (F := Ideal) q k (ix3 b h i)
    = ∑ j : Fin 4096, Ideal.exp2 (score (fun j l => k (ix4 b h j l)) (fun l => q (ix4 b h i l)) i.val j.val
      - Finset.univ.fold max ⊥ fun j : Fin 4096 => score (fun j l => k (ix4 b h j l)) (fun l => q (ix4 b h i l)) i.val j.val) := by
  rw [val_main_v19_apply]
  have e : (val_main_cst_2 (F := Ideal)) (Shape.Idx.first h_S_) = (0 : EReal) := by
    show Ideal.ofBits .f32 0x00000000#32 = 0
    simp [Ideal.ofBits, Ideal.ieee]
  rw [e, zero_add]
  refine Finset.sum_congr rfl fun j _ => (congrArg _ ?_).trans (exp_apply q k b h i j)
  funext a; match a with | ⟨0, _⟩ => rfl | ⟨1, _⟩ => rfl | ⟨2, _⟩ => rfl | ⟨3, _⟩ => rfl

/-- A query's attention weights. -/
theorem weight_apply (b h : Fin 16) (i j : Fin 4096) : val_main_v23 (F := Ideal) q k (ix4 b h i j)
    = Ideal.div (val_main_v18 (F := Ideal) q k (ix4 b h i j)) (val_main_v19 (F := Ideal) q k (ix3 b h i)) := by
  rw [val_main_v23_apply, val_main_v22_apply, val_main_v21_apply, val_main_v20_apply]
  refine congrArg (fun z => Ideal.div _ (val_main_v19 (F := Ideal) q k z)) ?_
  funext a; match a with | ⟨0, _⟩ => rfl | ⟨1, _⟩ => rfl | ⟨2, _⟩ => rfl

/-- The values of a head. -/
theorem vals_apply (b h : Fin 16) (r : Fin 64) (j : Fin 4096) : val_main_v1 (F := Ideal) vt (ix4 b h r j) = vt (ix3 b ⟨80 * h.val + r.val, by omega⟩ j) := by
  rw [val_main_v1_apply, val_main_v0_apply]
  refine congrArg vt ?_
  funext a
  match a with
  | ⟨0, _⟩ => refine Fin.ext ?_; show (((b.val * 16 + h.val) * 80 + r.val) * 4096 + j.val) / 5242880 = b.val; omega
  | ⟨1, _⟩ => refine Fin.ext ?_; show (((b.val * 16 + h.val) * 80 + r.val) * 4096 + j.val) / 4096 % 1280 = 80 * h.val + r.val; omega
  | ⟨2, _⟩ => refine Fin.ext ?_; show (((b.val * 16 + h.val) * 80 + r.val) * 4096 + j.val) % 4096 = j.val; omega

/-- A head's result. -/
theorem head_apply (b h : Fin 16) (r : Fin 64) (i : Fin 4096) : val_main_v24 (F := Ideal) q k vt (ix4 b h r i)
    = attn (score (fun j l => k (ix4 b h j l)) (fun l => q (ix4 b h i l)) i.val) (vals fun j => vt (ix3 b ⟨80 * h.val + r.val, by omega⟩ j)) := by
  rw [val_main_v24_apply]
  unfold attn
  refine Finset.sum_congr rfl fun j _ => ?_
  rw [mul_comm]
  refine congrArg₂ (· * ·) ?_ ?_
  · rw [← exp_apply, ← sum_apply, ← weight_apply]
    refine congrArg _ ?_
    funext a; match a with | ⟨0, _⟩ => rfl | ⟨1, _⟩ => rfl | ⟨2, _⟩ => rfl | ⟨3, _⟩ => rfl
  · unfold vals
    rw [dif_pos j.isLt]
    refine Eq.trans (congrArg _ ?_) (vals_apply vt b h r j)
    funext a; match a with | ⟨0, _⟩ => rfl | ⟨1, _⟩ => rfl | ⟨2, _⟩ => rfl | ⟨3, _⟩ => rfl

/-- The result array, at batch `b`, row `n` and query `i`. -/
theorem result_apply (b : Fin 16) (n : Fin 1024) (i : Fin 4096) : val_main_v26 (F := Ideal) q k vt (ix3 b n i)
    = attn (score (fun j l => k (ix4 b ⟨n.val / 64, by omega⟩ j l)) (fun l => q (ix4 b ⟨n.val / 64, by omega⟩ i l)) i.val)
      (vals fun j => vt (ix3 b ⟨80 * (n.val / 64) + n.val % 64, by omega⟩ j)) := by
  refine Eq.trans ?_ (head_apply q k vt b ⟨n.val / 64, by omega⟩ ⟨n.val % 64, Nat.mod_lt _ (by decide)⟩ i)
  rw [val_main_v26_apply]
  refine (val_main_v25_apply q k vt _).trans (congrArg _ ?_)
  funext a
  match a with
  | ⟨0, _⟩ => refine Fin.ext ?_; show ((b.val * 1024 + n.val) * 4096 + i.val) / 4194304 = b.val; omega
  | ⟨1, _⟩ => refine Fin.ext ?_; show ((b.val * 1024 + n.val) * 4096 + i.val) / 262144 % 16 = n.val / 64; omega
  | ⟨2, _⟩ => refine Fin.ext ?_; show ((b.val * 1024 + n.val) * 4096 + i.val) / 4096 % 64 = n.val % 64; omega
  | ⟨3, _⟩ => refine Fin.ext ?_; show ((b.val * 1024 + n.val) * 4096 + i.val) % 4096 = i.val; omega

end Cert.FlashRefIdeal.Rows
-- ==== Proof.FlashPre.lean ====
/-
  What the precondition of the attention call says entry by entry: finite queries and keys, and ones in
  the row below each head's values.
-/
module

public import proofs.«01_k».proof.Pre_flash_inputs
public import Idealize.ShloMosaic.PureOps.Ideal
public import Idealize.ShloMosaic.Lib.Pointwise
public import Idealize.ShloMosaic.Lib.WordCmp

@[expose] public section

set_option maxRecDepth 16384

noncomputable section

namespace Cert.Pre_flash_inputs

open Idealize.ShloMosaic

/-- The precondition's side conditions on shapes. -/
instance facts : Facts where
  shapeCasts_S16x1280x4096_S16x16x80x4096 := by decide
  slices_S16x16x80x4096_S16x16x1x4096_0_0_64_0 := by decide
  shapeCasts_S16x16x1x4096_S16x16x4096 := by decide
  bcast_S_S16x16x4096x128 := by decide
  bcast_S_S16x16x4096 := by decide

/-- The bound the absolute values are compared with is infinity. -/
theorem infinity : Ideal.ofBits .bf16 0x7F80#16 = ⊤ := by
  simp [Ideal.ofBits, Ideal.ieee]

/-- The number the ones are compared with is one. -/
theorem one : Ideal.ofBits .bf16 0x3F80#16 = 1 := by
  simp [Ideal.ofBits, Ideal.ieee, -EReal.coe_mul]; norm_num

/-- An absolute value below infinity is that of a real number. -/
theorem real_of_abs (x : EReal) (h : max x (-x) < ⊤) : x ≠ ⊥ ∧ x ≠ ⊤ := by
  constructor
  · rintro rfl; simp at h
  · rintro rfl; simp at h

/-- The comparison of an absolute value with infinity. -/
theorem real_of_cmp (x : EReal) (h : Ideal.cmp .olt (max x (-x)) (Ideal.ofBits .bf16 0x7F80#16) = 1#1) : x ≠ ⊥ ∧ x ≠ ⊤ := by
  rw [infinity] at h
  refine real_of_abs x ?_
  exact of_decide_eq_true ((WordCmp.ofBool_eq_one_iff _).mp h)

variable (q k : FVec Ideal S16x16x4096x128 .bf16) (vt : FVec Ideal S16x1280x4096 .bf16)

/-- The queries are finite. -/
theorem queries (h : (fn (F := Ideal) q k vt).1 = fun _ => 1#1) (y) : (show EReal from q y) ≠ ⊥ ∧ (show EReal from q y) ≠ ⊤ :=
  real_of_cmp _ (congrFun h y)

/-- The keys are finite. -/
theorem keys (h : (fn (F := Ideal) q k vt).2.1 = fun _ => 1#1) (y) : (show EReal from k y) ≠ ⊥ ∧ (show EReal from k y) ≠ ⊤ :=
  real_of_cmp _ (congrFun h y)

/-- The row below each head's values holds ones. -/
theorem ones (h : (fn (F := Ideal) q k vt).2.2 = fun _ => 1#1) (b g : Fin 16) (j : Fin 4096) :
    vt (ix3 b ⟨80 * g.val + 64, by omega⟩ j) = (1 : EReal) := by
  have e : Ideal.cmp .oeq ((shapeCast S16x16x4096 (extractStridedSlice S16x16x1x4096 ![0, 0, 64, 0] (shapeCast S16x16x80x4096 vt facts.1) facts.2) facts.3) (ix3 b g j))
      (Ideal.ofBits .bf16 0x3F80#16) = 1#1 := congrFun h (ix3 b g j)
  rw [one] at e
  have e' : (shapeCast S16x16x4096 (extractStridedSlice S16x16x1x4096 ![0, 0, 64, 0] (shapeCast S16x16x80x4096 vt facts.1) facts.2) facts.3) (ix3 b g j) = (1 : EReal) := by
    exact of_decide_eq_true ((WordCmp.ofBool_eq_one_iff _).mp e)
  rw [← e']
  refine Eq.symm ?_
  refine (shapeCast_apply _ _ _ (ix4 b g 0 j) ?_).trans ?_
  · refine (Shape.rowMajor_val_four (d := ![16, 16, 1, 4096]) _).trans (Eq.trans ?_ (Shape.rowMajor_val_three (d := ![16, 16, 4096]) _).symm)
    show ((b.val * 16 + g.val) * 1 + 0) * 4096 + j.val = (b.val * 16 + g.val) * 4096 + j.val
    omega
  refine (extractStridedSlice_apply _ _ _ _ (ix4 b g 64 j) ?_).trans ?_
  · intro a
    match a with
    | ⟨0, _⟩ => show b.val = 0 + b.val; omega
    | ⟨1, _⟩ => show g.val = 0 + g.val; omega
    | ⟨2, _⟩ => rfl
    | ⟨3, _⟩ => show j.val = 0 + j.val; omega
  refine shapeCast_apply _ _ _ _ ?_
  refine (Shape.rowMajor_val_three (d := ![16, 1280, 4096]) _).trans (Eq.trans ?_ (Shape.rowMajor_val_four (d := ![16, 16, 80, 4096]) _).symm)
  show (b.val * 1280 + (80 * g.val + 64)) * 4096 + j.val = ((b.val * 16 + g.val) * 80 + 64) * 4096 + j.val
  omega

end Cert.Pre_flash_inputs
-- ==== Proof.FfnPlainKernel.lean ====
/-
  The feed-forward kernel without the last normalisation: what a grid point stores, row by row, and the result array.
-/
module

public import proofs.«01_k».proof.Proof.FfnSpec
public import proofs.«01_k».proof.Proof.Gen.FfnPlainIdeal.Value

@[expose] public section

set_option maxRecDepth 16384

noncomputable section

namespace Cert.FfnPlainIdeal.Rows

open Cert.FfnPlainIdeal Cert.FfnPlainIdeal.Gen Cert.Ffn.Spec Idealize.ShloMosaic Idealize.ShloMosaic.TcCoe Idealize.SL.Sem
open Idealize.ShloMosaic.Pipeline (Dat)
open scoped BigOperators

/-- The normalised row the kernel multiplies with the weights. -/
theorem norm_apply (x : Vec Ideal S512x1024 .f32) (g : Vec Ideal S1x1024 .f32) (r : Fin 512) (k : Fin 1024) :
    k0_pay3 (F := Ideal) x g (ix2 r k) = rmsRow (fun k => x (ix2 r k)) (fun k => g (ix2 0 k)) k := by
  pointwise [k0_pay3, k0_pay2, rmsRow]

/-- The first piece's hidden units. -/
theorem first_apply (x : Vec Ideal S512x1024 .f32) (g : Vec Ideal S1x1024 .f32) (wg wu : Vec Ideal S1024x768 .bf16) (wd : Vec Ideal S768x1024 .bf16) (r : Fin 512) (c : Fin 1024) :
    k0_pay4 (F := Ideal) x g wg wu wd (ix2 r c) = ∑ j : Fin 768, unit (rmsRow (fun k => x (ix2 r k)) (fun k => g (ix2 0 k))) (fun k => wg (ix2 k j)) (fun k => wu (ix2 k j)) * wd (ix2 j c) := by
  have h := norm_apply x g r
  revert h; unfold k0_pay4; generalize k0_pay3 (F := Ideal) x g = n; intro h
  pointwise [unit, ← h]

/-- The first pieces of the gated product, summed. -/
theorem rest_apply (n : FVec Ideal S512x1024 .bf16) (a : FVec Ideal S512x1024 .f32) (p : FVec Ideal S512x768 .f32) (wu1 : FVec Ideal S1024x768 .bf16) (wd1 : Vec Ideal S768x1024 .bf16)
    (wg2 wu2 : Vec Ideal S1024x768 .bf16) (wd2 : Vec Ideal S768x1024 .bf16) (wg3 wu3 : Vec Ideal S1024x512 .bf16) (wd3 : Vec Ideal S512x1024 .bf16) (r : Fin 512) (c : Fin 1024) :
    k0_pay7 (F := Ideal) n a p wu1 wd1 wg2 wu2 wd2 wg3 wu3 wd3 (ix2 r c)
      = a (ix2 r c) + (∑ j : Fin 768, (p (ix2 r j) * Ideal.logistic (p (ix2 r j)) * ∑ k, n (ix2 r k) * wu1 (ix2 k j)) * wd1 (ix2 j c))
        + (∑ j : Fin 768, unit (fun k => n (ix2 r k)) (fun k => wg2 (ix2 k j)) (fun k => wu2 (ix2 k j)) * wd2 (ix2 j c))
        + ∑ j : Fin 512, unit (fun k => n (ix2 r k)) (fun k => wg3 (ix2 k j)) (fun k => wu3 (ix2 k j)) * wd3 (ix2 j c) := by
  pointwise [k0_pay7, unit]

/-- The last step: the row plus half of the gated product. -/
theorem last_apply (x a : FVec Ideal S512x1024 .f32) (h : Ideal .f32) (r : Fin 512) (c : Fin 1024) :
    k0_pay1 (F := Ideal) x a h (ix2 r c) = x (ix2 r c) + h * a (ix2 r c) := by
  pointwise [k0_pay1]

/-- What a grid point stores, over the blocks it reads: the layer's row. -/
theorem tile_apply (x : Vec Ideal S512x1024 .f32) (g : Vec Ideal S1x1024 .f32) (wg wu : Vec Ideal S1024x2816 .bf16) (wd : Vec Ideal S2816x1024 .bf16)
    (r : Fin 512) (c : Fin 1024) :
    out0_5 (F := Ideal) x g wg wu wd (ix2 r c)
      = ffnRow (fun k => x (ix2 r k)) (fun k => g (ix2 0 k)) (fun k j => wg (ix2 k j)) (fun k j => wu (ix2 k j)) (fun j c => wd (ix2 j c)) c := by
  have e : ∀ c, (k0_pay7 (F := Ideal) (k0_pay3 x g) (k0_pay4 x g (View.ld wg r0_2) (View.ld wu r0_2) (View.ld wd r0_3)) (k0_pay5 x g (View.ld wg r0_4)) (k0_pay6 (View.ld wu r0_4)) (View.ld wd r0_5) (View.ld wg r0_6) (View.ld wu r0_6) (View.ld wd r0_7) (View.ld wg r0_8) (View.ld wu r0_8) (View.ld wd r0_9)) (ix2 r c)
      = gated (rmsRow (fun k => x (ix2 r k)) (fun k => g (ix2 0 k))) (fun k j => wg (ix2 k j)) (fun k j => wu (ix2 k j)) (fun j => wd (ix2 j c)) := by
    intro c
    rw [rest_apply, first_apply, gated, sum_pieces]
    simp only [norm_apply, unit, k0_pay6]
    pointwise [k0_pay5]
    simp only [norm_apply]
  unfold out0_5
  frame_out
  rw [last_apply]
  pointwise [k0_pay2]
  simp only [e, ffnRow]

variable (m : (ℓ : Loc nD τ sig) → Buf (Elt Ideal) ℓ)

/-- The block each grid point reads or writes of every array. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] :=
  (by decide +kernel : ∀ t : Fin grid0.N, _)

/-- The result, at flat row `n` and column `c`, over the arrays the windows read. -/
def G (x : Vec Ideal S65536x1024 .f32) (g : Vec Ideal S1x1024 .f32) (wg wu : Vec Ideal S1024x2816 .bf16) (wd : Vec Ideal S2816x1024 .bf16) :
    Vec Ideal S65536x1024 .f32 := fun i =>
  ffnRow (fun k => x (ix2 (i 0) k)) (fun k => g (ix2 0 k)) (fun k j => wg (ix2 k j)) (fun k j => wu (ix2 k j)) (fun j c => wd (ix2 j c)) (i 1)

/-- The result array after the run is that function of the arrays the windows read. -/
theorem final (c : Dev nD) : (dats m 0 c).arrAt 5 cfg0.N = G (V m c main_v0) (V m c main_v4) (V m c main_v1) (V m c main_v2) (V m c main_v3) := by
  refine (dats m 0 c).arrAt_eq_of_covers 5 _ (by decide +kernel) fun t hf y => ?_
  blk_simp
  rw [after0_5]
  idx_vars y
  rw [tile_apply]
  have e0 : ∀ k, iblk m c 0 t (ix2 y0 k) = V m c main_v0 (ix2 ⟨t.val * 512 + y0.val, by have h : t.val < 128 := t.isLt; omega⟩ k) := fun k => by
    blk_ext [iblk, idx t]
  have e1 : ∀ k, iblk m c 1 t (ix2 0 k) = V m c main_v4 (ix2 0 k) := fun k => by blk_ext [iblk, idx t]
  have e2 : ∀ k j, iblk m c 2 t (ix2 k j) = V m c main_v1 (ix2 k j) := fun k j => by blk_ext [iblk, idx t]
  have e3 : ∀ k j, iblk m c 3 t (ix2 k j) = V m c main_v2 (ix2 k j) := fun k j => by blk_ext [iblk, idx t]
  have e4 : ∀ k j, iblk m c 4 t (ix2 k j) = V m c main_v3 (ix2 k j) := fun k j => by blk_ext [iblk, idx t]
  have e6 : ((View.whole main_v5).slice (win0_5.rect t)).emb (ix2 y0 y1) = ix2 ⟨t.val * 512 + y0.val, by have h : t.val < 128 := t.isLt; omega⟩ y1 := by
    blk_ext [idx t]
  simp only [e0, e1, e2, e3, e4, e6, G]
  rfl

/-- The row-major reading of the flattened input. -/
theorem V0 (c : Dev nD) (n : Fin 65536) (k : Fin 1024) : V m c main_v0 (ix2 n k)
    = m ((c : Thread nD τ).loc main_arg0) (ix3 ⟨n.val / 4096, by omega⟩ ⟨n.val % 4096, by omega⟩ k) := by
  entry_read
  refine shapeCast_apply _ _ _ _ ?_
  refine (Shape.rowMajor_val_three (d := ![16, 4096, 1024]) _).trans (Eq.trans ?_ (Shape.rowMajor_val_two (d := ![65536, 1024]) _).symm)
  show (n.val / 4096 * 4096 + n.val % 4096) * 1024 + k.val = n.val * 1024 + k.val
  omega

/-- The gain of the normalisation, as a row. -/
theorem V4 (c : Dev nD) (k : Fin 1024) : V m c main_v4 (ix2 0 k) = m ((c : Thread nD τ).loc main_arg1) (ix1 k) := by
  entry_read; pointwise

/-- The gate matrix is read as given. -/
theorem V1 (c : Dev nD) (k : Fin 1024) (j : Fin 2816) : V m c main_v1 (ix2 k j) = m ((c : Thread nD τ).loc main_arg2) (ix2 k j) := by
  entry_read; pointwise

/-- The up matrix is read as given. -/
theorem V2 (c : Dev nD) (k : Fin 1024) (j : Fin 2816) : V m c main_v2 (ix2 k j) = m ((c : Thread nD τ).loc main_arg3) (ix2 k j) := by
  entry_read; pointwise

/-- The down matrix is read as given. -/
theorem V3 (c : Dev nD) (k : Fin 2816) (j : Fin 1024) : V m c main_v3 (ix2 k j) = m ((c : Thread nD τ).loc main_arg4) (ix2 k j) := by
  entry_read; pointwise

/-- The result, at flat row `n` and column `c`, over the arrays the call is given. -/
theorem final_apply (c : Dev nD) (n : Fin 65536) (k : Fin 1024) : (dats m 0 c).arrAt 5 cfg0.N (ix2 n k)
    = ffnRow (fun k => m ((c : Thread nD τ).loc main_arg0) (ix3 ⟨n.val / 4096, by omega⟩ ⟨n.val % 4096, by omega⟩ k)) (fun k => m ((c : Thread nD τ).loc main_arg1) (ix1 k))
        (fun k j => m ((c : Thread nD τ).loc main_arg2) (ix2 k j)) (fun k j => m ((c : Thread nD τ).loc main_arg3) (ix2 k j)) (fun k j => m ((c : Thread nD τ).loc main_arg4) (ix2 k j)) k := by
  rw [final]
  exact ffnRow_congr (V0 m c n) (V4 m c) (V1 m c) (V2 m c) (V3 m c) k

end Cert.FfnPlainIdeal.Rows

end
-- ==== Proof.FfnPlainRef.lean ====
/-
  The reference's feed-forward layer without the last normalisation, row by row.
-/
module

public import proofs.«01_k».proof.Proof.FfnSpec
public import proofs.«01_k».proof.Proof.Gen.FfnPlainRefIdeal.Read

@[expose] public section

set_option maxRecDepth 16384

noncomputable section

namespace Cert.FfnPlainRefIdeal.Rows

open Cert.FfnPlainRefIdeal Cert.FfnPlainRefIdeal.Gen Cert.FfnPlainRefIdeal.Read Cert.Ffn.Spec Idealize.ShloMosaic Idealize.ShloMosaic.TcCoe Idealize.SL.Sem
open scoped BigOperators

variable (x : Vec Ideal S16x4096x1024 .f32) (g : Vec Ideal S1024 .f32) (wg wu : Vec Ideal S1024x2816 .f32) (wd : Vec Ideal S2816x1024 .f32)

/-- The normalised row. -/
theorem norm_apply (b : Fin 16) (s : Fin 4096) (k : Fin 1024) :
    val_main_v12 (F := Ideal) x g (ix3 b s k) = rmsRow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rmsRow]

/-- The hidden units. -/
theorem unit_apply (b : Fin 16) (s : Fin 4096) (j : Fin 2816) :
    val_main_v16 (F := Ideal) x g wg wu (ix3 b s j) = unit (rmsRow (fun k => x (ix3 b s k)) (fun k => g (ix1 k))) (fun k => wg (ix2 k j)) (fun k => wu (ix2 k j)) := by
  have h := norm_apply x g b s
  revert h
  unfold val_main_v16 val_main_v14 val_main_v15 val_main_call0_v5 val_main_call0_v3 val_main_call0_v1 val_main_call0_v0 val_main_v13
  generalize val_main_v12 (F := Ideal) x g = n
  intro h
  pointwise [val_main_call0_v4, val_main_call0_v2, val_main_call0_cst, val_main_call0_cst_0, unit, ← h, Ideal.logistic]

/-- The layer's row. -/
theorem layer_apply (b : Fin 16) (s : Fin 4096) (k : Fin 1024) :
    val_main_v20 (F := Ideal) x g wg wu wd (ix3 b s k) = ffnRow (fun k => x (ix3 b s k)) (fun k => g (ix1 k)) (fun k j => wg (ix2 k j)) (fun k j => wu (ix2 k j)) (fun k j => wd (ix2 k j)) k := by
  have h := unit_apply x g wg wu b s
  revert h
  unfold val_main_v20 val_main_v19 val_main_v17
  generalize val_main_v16 (F := Ideal) x g wg wu = n
  intro h
  pointwise [val_main_v18, val_main_cst_2, ffnRow, gated, ← h]

/-- The result, flattened. -/
theorem result_apply (n : Fin 65536) (k : Fin 1024) :
    val_main_v21 (F := Ideal) x g wg wu wd (ix2 n k) = ffnRow (fun k => x (ix3 ⟨n.val / 4096, by omega⟩ ⟨n.val % 4096, by omega⟩ k)) (fun k => g (ix1 k)) (fun k j => wg (ix2 k j)) (fun k j => wu (ix2 k j)) (fun k j => wd (ix2 k j)) k := by
  rw [val_main_v21_apply, ← layer_apply]
  congr 1
  funext a
  match a with
  | ⟨0, _⟩ => refine Fin.ext ?_; show (n.val * 1024 + k.val) / 4194304 = n.val / 4096; omega
  | ⟨1, _⟩ => refine Fin.ext ?_; show (n.val * 1024 + k.val) / 1024 % 4096 = n.val % 4096; omega
  | ⟨2, _⟩ => refine Fin.ext ?_; show (n.val * 1024 + k.val) % 1024 = k.val; omega

end Cert.FfnPlainRefIdeal.Rows

end
-- ==== Proof.FfnAttnKernel.lean ====
/-
  The feed-forward kernel that first adds the attention's output product: what a grid point stores,
  row by row, and the result array.
-/
module

public import proofs.«01_k».proof.Proof.FfnSpec
public import proofs.«01_k».proof.Proof.Gen.FfnAttnIdeal.Value

@[expose] public section

set_option maxRecDepth 16384

noncomputable section

namespace Cert.FfnAttnIdeal.Rows

open Cert.FfnAttnIdeal Cert.FfnAttnIdeal.Gen Cert.Ffn.Spec Idealize.ShloMosaic Idealize.ShloMosaic.TcCoe Idealize.SL.Sem
open Idealize.ShloMosaic.Pipeline (Dat)
open scoped BigOperators

/-- The row after the attention's output product is added. -/
theorem mix_apply (x : Vec Ideal S512x1024 .f32) (o : Vec Ideal S1x1024x512 .bf16) (w : Vec Ideal S1024x1024 .bf16) (r : Fin 512) (c : Fin 1024) :
    k0_pay2 (F := Ideal) x o w (ix2 r c) = mixRow (fun k => x (ix2 r k)) (fun e => o (ix3 0 e r)) (fun e k => w (ix2 e k)) c := by
  pointwise [k0_pay2, mixRow]

/-- The normalised row the kernel multiplies with the weights. -/
theorem norm_apply (x : Vec Ideal S512x1024 .f32) (o : Vec Ideal S1x1024x512 .bf16) (w : Vec Ideal S1024x1024 .bf16) (g : Vec Ideal S1x1024 .f32) (r : Fin 512) (k : Fin 1024) :
    k0_pay3 (F := Ideal) x o w g (ix2 r k) = rmsRow (mixRow (fun k => x (ix2 r k)) (fun e => o (ix3 0 e r)) (fun e k => w (ix2 e k))) (fun k => g (ix2 0 k)) k := by
  have h := mix_apply x o w r
  revert h; unfold k0_pay3; generalize k0_pay2 (F := Ideal) x o w = y; intro h
  rw [show (mixRow (fun k => x (ix2 r k)) (fun e => o (ix3 0 e r)) (fun e k => w (ix2 e k))) = fun k => y (ix2 r k) from funext fun k => (h k).symm]
  pointwise [rmsRow]

/-- The first piece's hidden units. -/
theorem first_apply (x : Vec Ideal S512x1024 .f32) (o : Vec Ideal S1x1024x512 .bf16) (w : Vec Ideal S1024x1024 .bf16) (g : Vec Ideal S1x1024 .f32) (wg wu : Vec Ideal S1024x768 .bf16) (r : Fin 512) (j : Fin 768) :
    k0_pay5 (F := Ideal) x o w g wg wu (ix2 r j) = unit (fun k => k0_pay3 (F := Ideal) x o w g (ix2 r k)) (fun k => wg (ix2 k j)) (fun k => wu (ix2 k j)) := by
  unfold k0_pay5; generalize k0_pay3 (F := Ideal) x o w g = n
  pointwise [unit]

/-- The sum of the first three pieces. -/
theorem rest_apply (n : FVec Ideal S512x1024 .bf16) (p : FVec Ideal S512x768 .bf16) (wd1 : FVec Ideal S768x1024 .bf16)
    (wg2 wu2 : Vec Ideal S1024x768 .bf16) (wd2 : Vec Ideal S768x1024 .bf16) (wg3 wu3 : Vec Ideal S1024x768 .bf16) (wd3 : Vec Ideal S768x1024 .bf16) (r : Fin 512) (c : Fin 1024) :
    k0_pay7 (F := Ideal) n (k0_pay4 (F := Ideal)) p wd1 (constant S512x1024 .f32 0x00000000#32) wg2 wu2 wd2 wg3 wu3 wd3 (ix2 r c)
      = (∑ j : Fin 768, p (ix2 r j) * wd1 (ix2 j c))
        + (∑ j : Fin 768, unit (fun k => n (ix2 r k)) (fun k => wg2 (ix2 k j)) (fun k => wu2 (ix2 k j)) * wd2 (ix2 j c))
        + ∑ j : Fin 768, unit (fun k => n (ix2 r k)) (fun k => wg3 (ix2 k j)) (fun k => wu3 (ix2 k j)) * wd3 (ix2 j c) := by
  pointwise [k0_pay7, k0_pay4, unit]

/-- The last piece, and the half step. -/
theorem last_apply (x a : FVec Ideal S512x1024 .f32) (n : FVec Ideal S512x1024 .bf16) (wg wu : Vec Ideal S1024x512 .bf16) (wd : Vec Ideal S512x1024 .bf16) (r : Fin 512) (c : Fin 1024) :
    k0_pay1 (F := Ideal) x a (k0_pay8 n wg) (k0_pay9 n wu) wd (ix2 r c)
      = x (ix2 r c) + Ideal.ofBits .f32 0x3F000000#32 * (a (ix2 r c) + ∑ j : Fin 512, unit (fun k => n (ix2 r k)) (fun k => wg (ix2 k j)) (fun k => wu (ix2 k j)) * wd (ix2 j c)) := by
  pointwise [k0_pay1, k0_pay8, k0_pay9, unit]

/-- What a grid point stores, over the blocks it reads: the layer's row. -/
theorem tile_apply (x : Vec Ideal S512x1024 .f32) (g : Vec Ideal S1x1024 .f32) (wg wu : Vec Ideal S1024x2816 .bf16) (wd : Vec Ideal S2816x1024 .bf16) (o : Vec Ideal S1x1024x512 .bf16) (w : Vec Ideal S1024x1024 .bf16) (r : Fin 512) (c : Fin 1024) :
    out0_7 (F := Ideal) x g wg wu wd o w (ix2 r c)
      = ffnRow (mixRow (fun k => x (ix2 r k)) (fun e => o (ix3 0 e r)) (fun e k => w (ix2 e k))) (fun k => g (ix2 0 k)) (fun k j => wg (ix2 k j)) (fun k j => wu (ix2 k j)) (fun j c => wd (ix2 j c)) c := by
  unfold out0_7 k0_pay10
  frame_out
  rw [last_apply, rest_apply, mix_apply, ffnRow, gated, sum_pieces]
  simp only [first_apply, norm_apply, k0_pay6]
  pointwise []

variable (m : (ℓ : Loc nD τ sig) → Buf (Elt Ideal) ℓ)

/-- The block each grid point reads of every array. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val / 8, 0, t.val % 8]
    ∧ win0_6.index t = ![0, 0] ∧ win0_7.index t = ![t.val, 0] :=
  (by decide +kernel : ∀ t : Fin grid0.N, _)

/-- The sequence a flat row lies in. -/
def at16 (n : Fin 65536) : Fin 16 := ⟨n.val / 4096, by omega⟩

/-- A flat row's place in its sequence. -/
def at4096 (n : Fin 65536) : Fin 4096 := ⟨n.val % 4096, by omega⟩

/-- The result, at flat row `n` and column `c`, over the arrays the windows read. -/
def G (x : Vec Ideal S65536x1024 .f32) (g : Vec Ideal S1x1024 .f32) (wg wu : Vec Ideal S1024x2816 .bf16) (wd : Vec Ideal S2816x1024 .bf16)
    (o : Vec Ideal S16x1024x4096 .bf16) (w : Vec Ideal S1024x1024 .bf16) :
    Vec Ideal S65536x1024 .f32 := fun i =>
  ffnRow (mixRow (fun k => x (ix2 (i 0) k)) (fun e => o (ix3 (at16 (i 0)) e (at4096 (i 0)))) (fun e k => w (ix2 e k))) (fun k => g (ix2 0 k)) (fun k j => wg (ix2 k j)) (fun k j => wu (ix2 k j)) (fun j c => wd (ix2 j c)) (i 1)

/-- The result array after the run is that function of the arrays the windows read. -/
theorem final (c : Dev nD) : (dats m 0 c).arrAt 7 cfg0.N = G (V m c main_v0) (V m c main_v5) (V m c main_v1) (V m c main_v2) (V m c main_v3) (V m c main_arg5) (V m c main_v4) := by
  refine (dats m 0 c).arrAt_eq_of_covers 7 _ (by decide +kernel) fun t hf y => ?_
  blk_simp
  rw [after0_7]
  idx_vars y
  rw [tile_apply]
  have e0 : ∀ k, iblk m c 0 t (ix2 y0 k) = V m c main_v0 (ix2 ⟨t.val * 512 + y0.val, by have h : t.val < 128 := t.isLt; omega⟩ k) := fun k => by
    blk_ext [iblk, idx t]
  have e1 : ∀ k, iblk m c 1 t (ix2 0 k) = V m c main_v5 (ix2 0 k) := fun k => by blk_ext [iblk, idx t]
  have e2 : ∀ k j, iblk m c 2 t (ix2 k j) = V m c main_v1 (ix2 k j) := fun k j => by blk_ext [iblk, idx t]
  have e3 : ∀ k j, iblk m c 3 t (ix2 k j) = V m c main_v2 (ix2 k j) := fun k j => by blk_ext [iblk, idx t]
  have e4 : ∀ k j, iblk m c 4 t (ix2 k j) = V m c main_v3 (ix2 k j) := fun k j => by blk_ext [iblk, idx t]
  have e5 : ∀ e, iblk m c 5 t (ix3 0 e y0) = V m c main_arg5 (ix3 (at16 ⟨t.val * 512 + y0.val, by have h : t.val < 128 := t.isLt; omega⟩) e (at4096 ⟨t.val * 512 + y0.val, by have h : t.val < 128 := t.isLt; omega⟩)) := fun e => by
    have h : t.val < 128 := t.isLt
    have h1 : (at16 ⟨t.val * 512 + y0.val, by omega⟩).val = t.val / 8 := by show (t.val * 512 + y0.val) / 4096 = _; omega
    have h2 : (at4096 ⟨t.val * 512 + y0.val, by omega⟩).val = t.val % 8 * 512 + y0.val := by show (t.val * 512 + y0.val) % 4096 = _; omega
    blk_ext [iblk, idx t, h1, h2]
  have e7 : ∀ k j, iblk m c 6 t (ix2 k j) = V m c main_v4 (ix2 k j) := fun k j => by blk_ext [iblk, idx t]
  have e6 : ((View.whole main_v6).slice (win0_7.rect t)).emb (ix2 y0 y1) = ix2 ⟨t.val * 512 + y0.val, by have h : t.val < 128 := t.isLt; omega⟩ y1 := by
    blk_ext [idx t]
  simp only [e0, e1, e2, e3, e4, e5, e7, e6, G]
  rfl

/-- The row-major reading of the flattened input. -/
theorem V0 (c : Dev nD) (n : Fin 65536) (k : Fin 1024) : V m c main_v0 (ix2 n k)
    = m ((c : Thread nD τ).loc main_arg0) (ix3 ⟨n.val / 4096, by omega⟩ ⟨n.val % 4096, by omega⟩ k) := by
  entry_read
  refine shapeCast_apply _ _ _ _ ?_
  refine (Shape.rowMajor_val_three (d := ![16, 4096, 1024]) _).trans (Eq.trans ?_ (Shape.rowMajor_val_two (d := ![65536, 1024]) _).symm)
  show (n.val / 4096 * 4096 + n.val % 4096) * 1024 + k.val = n.val * 1024 + k.val
  omega

/-- The gain, as a row. -/
theorem V5 (c : Dev nD) (k : Fin 1024) : V m c main_v5 (ix2 0 k) = m ((c : Thread nD τ).loc main_arg1) (ix1 k) := by
  entry_read; pointwise

/-- The output matrix is read as given. -/
theorem V4 (c : Dev nD) (k : Fin 1024) (j : Fin 1024) : V m c main_v4 (ix2 k j) = m ((c : Thread nD τ).loc main_arg6) (ix2 k j) := by
  entry_read; pointwise

/-- The attention's result is read as given. -/
theorem VO (c : Dev nD) (b : Fin 16) (e : Fin 1024) (s : Fin 4096) : V m c main_arg5 (ix3 b e s) = m ((c : Thread nD τ).loc main_arg5) (ix3 b e s) := by
  entry_read; rfl

/-- The gate matrix is read as given. -/
theorem V1 (c : Dev nD) (k : Fin 1024) (j : Fin 2816) : V m c main_v1 (ix2 k j) = m ((c : Thread nD τ).loc main_arg2) (ix2 k j) := by
  entry_read; pointwise

/-- The up matrix is read as given. -/
theorem V2 (c : Dev nD) (k : Fin 1024) (j : Fin 2816) : V m c main_v2 (ix2 k j) = m ((c : Thread nD τ).loc main_arg3) (ix2 k j) := by
  entry_read; pointwise

/-- The down matrix is read as given. -/
theorem V3 (c : Dev nD) (k : Fin 2816) (j : Fin 1024) : V m c main_v3 (ix2 k j) = m ((c : Thread nD τ).loc main_arg4) (ix2 k j) := by
  entry_read; pointwise

/-- The result, at flat row `n` and column `c`, over the arrays the call is given. -/
theorem final_apply (c : Dev nD) (n : Fin 65536) (k : Fin 1024) : (dats m 0 c).arrAt 7 cfg0.N (ix2 n k)
    = ffnRow (mixRow (fun k => m ((c : Thread nD τ).loc main_arg0) (ix3 ⟨n.val / 4096, by omega⟩ ⟨n.val % 4096, by omega⟩ k))
          (fun e => m ((c : Thread nD τ).loc main_arg5) (ix3 ⟨n.val / 4096, by omega⟩ e ⟨n.val % 4096, by omega⟩)) (fun e k => m ((c : Thread nD τ).loc main_arg6) (ix2 e k)))
        (fun k => m ((c : Thread nD τ).loc main_arg1) (ix1 k))
        (fun k j => m ((c : Thread nD τ).loc main_arg2) (ix2 k j)) (fun k j => m ((c : Thread nD τ).loc main_arg3) (ix2 k j)) (fun k j => m ((c : Thread nD τ).loc main_arg4) (ix2 k j)) k := by
  rw [final]
  exact ffnRow_congr (mixRow_congr (V0 m c n) (fun e => VO m c _ e _) (V4 m c)) (V5 m c) (V1 m c) (V2 m c) (V3 m c) k

end Cert.FfnAttnIdeal.Rows

end
-- ==== Proof.FfnAttnRef.lean ====
/-
  The reference's feed-forward layer after the attention's output product, row by row.
-/
module

public import proofs.«01_k».proof.Proof.FfnSpec
public import proofs.«01_k».proof.Proof.Gen.FfnAttnRefIdeal.Read

@[expose] public section

set_option maxRecDepth 16384

noncomputable section

namespace Cert.FfnAttnRefIdeal.Rows

open Cert.FfnAttnRefIdeal Cert.FfnAttnRefIdeal.Gen Cert.FfnAttnRefIdeal.Read Cert.Ffn.Spec Idealize.ShloMosaic Idealize.ShloMosaic.TcCoe Idealize.SL.Sem
open scoped BigOperators

variable (x : Vec Ideal S16x4096x1024 .f32) (g : Vec Ideal S1024 .f32) (wg wu : Vec Ideal S1024x2816 .f32) (wd : Vec Ideal S2816x1024 .f32)
  (o : Vec Ideal S16x1024x4096 .bf16) (w : Vec Ideal S1024x1024 .f32)

/-- The row after the attention's output product is added. -/
theorem mix_apply (b : Fin 16) (s : Fin 4096) (k : Fin 1024) :
    val_main_v3 (F := Ideal) x o w (ix3 b s k) = mixRow (fun k => x (ix3 b s k)) (fun e => o (ix3 b e s)) (fun e k => w (ix2 e k)) k := by
  pointwise [val_main_v3, val_main_v2, val_main_v1, val_main_v0, mixRow]

/-- The normalised row. -/
theorem norm_apply (b : Fin 16) (s : Fin 4096) (k : Fin 1024) :
    val_main_v16 (F := Ideal) x g o w (ix3 b s k) = rmsRow (mixRow (fun k => x (ix3 b s k)) (fun e => o (ix3 b e s)) (fun e k => w (ix2 e k))) (fun k => g (ix1 k)) k := by
  have h := mix_apply x o w b s
  revert h
  unfold val_main_v16 val_main_v13 val_main_v12 val_main_v11 val_main_v10 val_main_v8 val_main_v6 val_main_v5 val_main_v4
  generalize val_main_v3 (F := Ideal) x o w = y
  intro h
  rw [← funext h]
  pointwise [val_main_v15, val_main_v14, val_main_v9, val_main_v7, val_main_cst, val_main_cst_0, val_main_cst_1, rmsRow]

/-- The hidden units. -/
theorem unit_apply (b : Fin 16) (s : Fin 4096) (j : Fin 2816) :
    val_main_v20 (F := Ideal) x g wg wu o w (ix3 b s j) = unit (rmsRow (mixRow (fun k => x (ix3 b s k)) (fun e => o (ix3 b e s)) (fun e k => w (ix2 e k))) (fun k => g (ix1 k))) (fun k => wg (ix2 k j)) (fun k => wu (ix2 k j)) := by
  have h := norm_apply x g o w b s
  revert h
  unfold val_main_v20 val_main_v18 val_main_v19 val_main_call0_v5 val_main_call0_v3 val_main_call0_v1 val_main_call0_v0 val_main_v17
  generalize val_main_v16 (F := Ideal) x g o w = n
  intro h
  pointwise [val_main_call0_v4, val_main_call0_v2, val_main_call0_cst, val_main_call0_cst_0, unit, ← h, Ideal.logistic]

/-- The layer's row. -/
theorem layer_apply (b : Fin 16) (s : Fin 4096) (k : Fin 1024) :
    val_main_v24 (F := Ideal) x g wg wu wd o w (ix3 b s k) = ffnRow (mixRow (fun k => x (ix3 b s k)) (fun e => o (ix3 b e s)) (fun e k => w (ix2 e k))) (fun k => g (ix1 k)) (fun k j => wg (ix2 k j)) (fun k j => wu (ix2 k j)) (fun k j => wd (ix2 k j)) k := by
  have h := unit_apply x g wg wu o w b s
  have h' := mix_apply x o w b s
  revert h h'
  unfold val_main_v24 val_main_v23 val_main_v21
  generalize val_main_v20 (F := Ideal) x g wg wu o w = n
  generalize val_main_v3 (F := Ideal) x o w = y
  intro h h'
  pointwise [val_main_v22, val_main_cst_2, ffnRow, gated, ← h, ← h']

/-- The result, flattened. -/
theorem result_apply (n : Fin 65536) (k : Fin 1024) :
    val_main_v25 (F := Ideal) x g wg wu wd o w (ix2 n k) = ffnRow (mixRow (fun k => x (ix3 ⟨n.val / 4096, by omega⟩ ⟨n.val % 4096, by omega⟩ k)) (fun e => o (ix3 ⟨n.val / 4096, by omega⟩ e ⟨n.val % 4096, by omega⟩)) (fun e k => w (ix2 e k))) (fun k => g (ix1 k)) (fun k j => wg (ix2 k j)) (fun k j => wu (ix2 k j)) (fun k j => wd (ix2 k j)) k := by
  rw [val_main_v25_apply, ← layer_apply]
  congr 1
  funext a
  match a with
  | ⟨0, _⟩ => refine Fin.ext ?_; show (n.val * 1024 + k.val) / 4194304 = n.val / 4096; omega
  | ⟨1, _⟩ => refine Fin.ext ?_; show (n.val * 1024 + k.val) / 1024 % 4096 = n.val % 4096; omega
  | ⟨2, _⟩ => refine Fin.ext ?_; show (n.val * 1024 + k.val) % 1024 = k.val; omega

end Cert.FfnAttnRefIdeal.Rows

end
-- ==== Proof.ConvSpec.lean ====
/-
  The convolution mixer as a function of one sequence: the gated input row, the causal sum of 31 taps
  over the rows before, layer normalisation with `silu`, and the output product.
-/
module

public import proofs.«01_k».proof.Proof.FfnSpec
public import Idealize.ShloMosaic.PureOps.Ideal
public import Idealize.ShloMosaic.Lib.Pointwise
public import Idealize.ShloMosaic.Lib.Pipeline.ValueKit

@[expose] public section

noncomputable section

namespace Cert.Conv.Spec

open Idealize.ShloMosaic Cert.Ffn.Spec
open scoped BigOperators

/-- A row's product with the input matrix plus the bias, at column `c`. -/
def proj (n : Fin 1024 → EReal) (w : Fin 1024 → Fin 2048 → EReal) (b : Fin 2048 → EReal) (c : Fin 2048) : EReal :=
  (∑ k, n k * w k c) + b c

/-- The gated input: one half of the product times the logistic function of the other. -/
def glu (n : Fin 1024 → EReal) (w : Fin 1024 → Fin 2048 → EReal) (b : Fin 2048 → EReal) (c : Fin 1024) : EReal :=
  proj n w b ⟨c.val, by omega⟩ * Ideal.logistic (proj n w b ⟨1024 + c.val, by omega⟩)

/-- A sequence's gated rows, 32 rows late, with zeros before its start. -/
def late (x : ℕ → Fin 1024 → EReal) (g : Fin 1024 → EReal) (w : Fin 1024 → Fin 2048 → EReal) (b : Fin 2048 → EReal) (r : ℕ) (c : Fin 1024) : EReal :=
  if r < 32 then 0 else glu (rmsRow (x (r - 32)) g) w b c

/-- A sequence of 4096 rows, with zeros after it. -/
def seq (x : Fin 4096 → Fin 1024 → EReal) (n : ℕ) (k : Fin 1024) : EReal := if h : n < 4096 then x ⟨n, h⟩ k else 0

/-- A row of the sequence. -/
theorem seq_apply (x : Fin 4096 → Fin 1024 → EReal) (s : Fin 4096) : seq x s.val = x s := by
  funext k
  exact dif_pos s.isLt

/-- The taps of position `s` over the late rows, plus the bias. -/
def conv (u : ℕ → Fin 1024 → EReal) (d : Fin 31 → Fin 1024 → EReal) (b : Fin 1024 → EReal) (s : ℕ) (c : Fin 1024) : EReal :=
  b c + ∑ k : Fin 31, d k c * u (s + 2 + k.val) c

/-- A row less its mean. -/
def centred (y : Fin 1024 → EReal) (c : Fin 1024) : EReal := y c - Ideal.div (∑ k, y k) (Ideal.ofBits .f32 0x44800000#32)

/-- A centred row divided by the root of its mean square (plus the small constant), scaled and shifted. -/
def lnRow (y g b : Fin 1024 → EReal) (c : Fin 1024) : EReal :=
  centred y c * Ideal.rsqrt (Ideal.div (∑ k, centred y k * centred y k) (Ideal.ofBits .f32 0x44800000#32) + Ideal.ofBits .f32 0x3727C5AC#32) * g c + b c

/-- The mixer's row: the row plus `silu` of the normalised convolution times the output matrix. -/
def outRow (x y g b : Fin 1024 → EReal) (w : Fin 1024 → Fin 1024 → EReal) (c : Fin 1024) : EReal :=
  mixRow x (fun k => lnRow y g b k * Ideal.logistic (lnRow y g b k)) w c

/-- The mixer of a sequence at position `s`. -/
def mixer (x : ℕ → Fin 1024 → EReal) (g : Fin 1024 → EReal) (w : Fin 1024 → Fin 2048 → EReal) (b : Fin 2048 → EReal) (d : Fin 31 → Fin 1024 → EReal)
    (db lg lb : Fin 1024 → EReal) (wo : Fin 1024 → Fin 1024 → EReal) (s : ℕ) (c : Fin 1024) : EReal :=
  outRow (x s) (conv (late x g w b) d db s) lg lb wo c

/-- Equal rows, equal mixers' rows. -/
theorem outRow_congr {x x' y y' g g' b b' : Fin 1024 → EReal} {w w' : Fin 1024 → Fin 1024 → EReal} (hx : ∀ k, x k = x' k) (hy : ∀ k, y k = y' k)
    (hg : ∀ k, g k = g' k) (hb : ∀ k, b k = b' k) (hw : ∀ k j, w k j = w' k j) (c : Fin 1024) : outRow x y g b w c = outRow x' y' g' b' w' c := by
  rw [funext hx, funext hy, funext hg, funext hb, funext fun k => funext (hw k)]

/-- Equal arguments, equal mixers. -/
theorem mixer_congr {x x' : Fin 4096 → Fin 1024 → EReal} {g g' : Fin 1024 → EReal} {w w' : Fin 1024 → Fin 2048 → EReal} {b b' : Fin 2048 → EReal} {d d' : Fin 31 → Fin 1024 → EReal}
    {db db' lg lg' lb lb' : Fin 1024 → EReal} {wo wo' : Fin 1024 → Fin 1024 → EReal} (hx : ∀ s k, x s k = x' s k) (hg : ∀ k, g k = g' k) (hw : ∀ k j, w k j = w' k j) (hb : ∀ j, b j = b' j)
    (hd : ∀ k j, d k j = d' k j) (hdb : ∀ k, db k = db' k) (hlg : ∀ k, lg k = lg' k) (hlb : ∀ k, lb k = lb' k) (hwo : ∀ k j, wo k j = wo' k j) (s : ℕ) (c : Fin 1024) :
    mixer (seq x) g w b d db lg lb wo s c = mixer (seq x') g' w' b' d' db' lg' lb' wo' s c := by
  rw [funext fun s => funext (hx s), funext hg, funext fun k => funext (hw k), funext hb, funext fun k => funext (hd k), funext hdb, funext hlg, funext hlb, funext fun k => funext (hwo k)]

/-- Equal late rows and taps, equal convolutions. -/
theorem conv_congr {u u' : ℕ → Fin 1024 → EReal} {d d' : Fin 31 → Fin 1024 → EReal} {b b' : Fin 1024 → EReal} {s s' : ℕ}
    (hu : ∀ (k : Fin 31) (c : Fin 1024), u (s + 2 + k.val) c = u' (s' + 2 + k.val) c) (hd : ∀ k c, d k c = d' k c) (hb : ∀ c, b c = b' c) (c : Fin 1024) :
    conv u d b s c = conv u' d' b' s' c := by
  unfold conv
  rw [hb c]
  congr 1
  exact Finset.sum_congr rfl fun k _ => by rw [hu k c, hd k c]

/-- The 31 taps added one after another, those whose rows lie 8 apart together, are their sum. -/
theorem taps_sum (b : EReal) (t : Fin 31 → EReal) :
    b + t 6 + t 14 + t 22 + t 30 + t 7 + t 15 + t 23 + t 0 + t 8 + t 16 + t 24 + t 1 + t 9 + t 17 + t 25 + t 2 + t 10 + t 18 + t 26
      + t 3 + t 11 + t 19 + t 27 + t 4 + t 12 + t 20 + t 28 + t 5 + t 13 + t 21 + t 29 = b + ∑ k, t k := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc, Fin.sum_univ_eight]
  show _ = b + (t 0 + t 1 + t 2 + t 3 + t 4 + t 5 + t 6 + t 7 + t 8 + t 9 + t 10 + t 11 + t 12 + t 13 + t 14 + t 15 + t 16 + t 17 + t 18 + t 19 + t 20
    + t 21 + t 22 + t 23 + t 24 + t 25 + t 26 + t 27 + t 28 + t 29 + t 30)
  ac_rfl

end Cert.Conv.Spec

end
-- ==== Proof.ConvTile.lean ====
/-
  One tile of the convolution, 128 rows by 128 columns: the 31 taps added one after another, as an
  array over what the tile loads, and its value at an index. The sixteen tiles are all this array.
-/
module

public import proofs.«01_k».proof.Proof.ConvSpec
public import proofs.«01_k».proof.Proof.Gen.ConvIdeal.Skeleton
public import Idealize.ShloMosaic.Lib.KernelVsHost
public import proofs.«01_k».proof.Defs

@[expose] public section

set_option maxRecDepth 100000

noncomputable section

namespace Cert.ConvIdeal.Tile

open Cert.ConvIdeal Cert.ConvIdeal.Gen Cert.Conv.Spec Cert.Ffn.Spec Idealize.ShloMosaic Idealize.ShloMosaic.TcCoe
open scoped BigOperators

/-- The rows moved up by `160 - n`, around the end. -/
def up (v : Vec Ideal S160x128 .f32) (n : BitVec 32) : FVec Ideal S160x128 .f32 := dynamicRotate 0 n none v rotates_S160x128_d0

/-- A row of weights, the same in every row. -/
def rows (d : Vec Ideal S1x128 .f32) : FVec Ideal S128x128 .f32 :=
  broadcastTo S128x128 (shapeCast S1x128 d shapeCasts_S1x128_S1x128) broadcasts_S1x128_S128x128

/-- One tap added: a row of weights times the 128 rows from `o` on. -/
def tap (a : FVec Ideal S128x128 .f32) (d : Vec Ideal S1x128 .f32) (o : Fin 2 → ℕ) (h : S160x128.Slices o S128x128) (v : FVec Ideal S160x128 .f32) :
    FVec Ideal S128x128 .f32 := addf a (mulf (rows d) (extractStridedSlice S128x128 o v h))

/-- The tile: the bias and the 31 taps, those whose rows lie 8 apart together. -/
def taps (v : Vec Ideal S160x128 .f32) (b : Vec Ideal S1x128 .f32) (d : Fin 31 → Vec Ideal S1x128 .f32) : FVec Ideal S128x128 .f32 :=
  shapeCast S128x128 (tap (tap (tap (tap (tap (tap (tap (tap (tap (tap (tap (tap (tap (tap (tap (tap (tap (tap (tap (tap (tap (tap (tap (tap (tap (tap (tap (tap (tap (tap (tap (rows (shapeCast S1x128 b shapeCasts_S1x128_S1x128)) (d 6) ![8, 0] slices_S160x128_o8_0_S128x128 v) (d 14) ![16, 0] slices_S160x128_o16_0_S128x128 v) (d 22) ![24, 0] slices_S160x128_o24_0_S128x128 v) (d 30) ![32, 0] slices_S160x128_o32_0_S128x128 v) (d 7) ![8, 0] slices_S160x128_o8_0_S128x128 (up v 159#32)) (d 15) ![16, 0] slices_S160x128_o16_0_S128x128 (up v 159#32)) (d 23) ![24, 0] slices_S160x128_o24_0_S128x128 (up v 159#32)) (d 0) ![0, 0] slices_S160x128_o0_0_S128x128 (up v 158#32)) (d 8) ![8, 0] slices_S160x128_o8_0_S128x128 (up v 158#32)) (d 16) ![16, 0] slices_S160x128_o16_0_S128x128 (up v 158#32)) (d 24) ![24, 0] slices_S160x128_o24_0_S128x128 (up v 158#32)) (d 1) ![0, 0] slices_S160x128_o0_0_S128x128 (up v 157#32)) (d 9) ![8, 0] slices_S160x128_o8_0_S128x128 (up v 157#32)) (d 17) ![16, 0] slices_S160x128_o16_0_S128x128 (up v 157#32)) (d 25) ![24, 0] slices_S160x128_o24_0_S128x128 (up v 157#32)) (d 2) ![0, 0] slices_S160x128_o0_0_S128x128 (up v 156#32)) (d 10) ![8, 0] slices_S160x128_o8_0_S128x128 (up v 156#32)) (d 18) ![16, 0] slices_S160x128_o16_0_S128x128 (up v 156#32)) (d 26) ![24, 0] slices_S160x128_o24_0_S128x128 (up v 156#32)) (d 3) ![0, 0] slices_S160x128_o0_0_S128x128 (up v 155#32)) (d 11) ![8, 0] slices_S160x128_o8_0_S128x128 (up v 155#32)) (d 19) ![16, 0] slices_S160x128_o16_0_S128x128 (up v 155#32)) (d 27) ![24, 0] slices_S160x128_o24_0_S128x128 (up v 155#32)) (d 4) ![0, 0] slices_S160x128_o0_0_S128x128 (up v 154#32)) (d 12) ![8, 0] slices_S160x128_o8_0_S128x128 (up v 154#32)) (d 20) ![16, 0] slices_S160x128_o16_0_S128x128 (up v 154#32)) (d 28) ![24, 0] slices_S160x128_o24_0_S128x128 (up v 154#32)) (d 5) ![0, 0] slices_S160x128_o0_0_S128x128 (up v 153#32)) (d 13) ![8, 0] slices_S160x128_o8_0_S128x128 (up v 153#32)) (d 21) ![16, 0] slices_S160x128_o16_0_S128x128 (up v 153#32)) (d 29) ![24, 0] slices_S160x128_o24_0_S128x128 (up v 153#32)) shapeCasts_S128x128_S128x128

/-- A row repeated, at an entry. -/
theorem rows_apply (d : Vec Ideal S1x128 .f32) (i j : Fin 128) : rows d (ix2 i j) = d (ix2 0 j) := by
  unfold rows; pointwise []

/-- Rows moved up by `n`, below the end, are the rows `n` later. -/
theorem up_apply (v : Vec Ideal S160x128 .f32) (n : ℕ) (m : BitVec 32) (hm : m.toNat + n = 160) (hn : 0 < n) (i : Fin 160) (h : i.val + n < 160) (j : Fin 128) :
    up v m (ix2 i j) = v (ix2 ⟨i.val + n, h⟩ j) := by
  refine dynamicRotate_apply _ _ _ _ _ _ fun a => ?_
  match a with
  | ⟨0, _⟩ =>
    refine Eq.trans ?_ (if_pos rfl).symm
    show i.val + n = (i.val + 160 - m.toNat % 160) % 160
    omega
  | ⟨1, _⟩ => exact (if_neg (fun e => absurd (congrArg Fin.val e) (by show ¬ (1 = 0); decide))).symm

/-- One tap, at an index. -/
theorem tap_apply (a : FVec Ideal S128x128 .f32) (d : Vec Ideal S1x128 .f32) (o : ℕ) (h : S160x128.Slices ![o, 0] S128x128) (v : FVec Ideal S160x128 .f32)
    (ho : o ≤ 32) (i j : Fin 128) : tap a d ![o, 0] h v (ix2 i j) = a (ix2 i j) + d (ix2 0 j) * v (ix2 ⟨i.val + o, by omega⟩ j) := by
  unfold tap
  show a (ix2 i j) + rows d (ix2 i j) * extractStridedSlice S128x128 ![o, 0] v h (ix2 i j) = _
  rw [rows_apply]
  refine congrArg (fun z => a (ix2 i j) + d (ix2 0 j) * z) ?_
  refine congrArg v (funext fun k => Fin.ext ?_)
  match k with
  | ⟨0, _⟩ => show o + i.val = i.val + o; omega
  | ⟨1, _⟩ => show 0 + j.val = j.val; omega

/-- The tile at an index: the bias plus the taps of the rows from two after the row on. -/
theorem taps_apply (v : Vec Ideal S160x128 .f32) (b : Vec Ideal S1x128 .f32) (d : Fin 31 → Vec Ideal S1x128 .f32) (i j : Fin 128) :
    taps v b d (ix2 i j) = b (ix2 0 j) + ∑ k : Fin 31, d k (ix2 0 j) * v (ix2 ⟨i.val + 2 + k.val, by omega⟩ j) := by
  have hb : rows (shapeCast S1x128 b shapeCasts_S1x128_S1x128) (ix2 i j) = b (ix2 0 j) := by rw [rows_apply]; pointwise []
  rw [← taps_sum]
  unfold taps
  refine (shapeCast_apply _ _ _ (ix2 i j) rfl).trans ?_
  rw [tap_apply _ _ 24 _ _ (by decide), up_apply v 7 153#32 (by decide) (by decide) _ (by show i.val + 24 + 7 < 160; omega)]
  refine congrArg₂ (· + ·) ?_ rfl
  rw [tap_apply _ _ 16 _ _ (by decide), up_apply v 7 153#32 (by decide) (by decide) _ (by show i.val + 16 + 7 < 160; omega)]
  refine congrArg₂ (· + ·) ?_ rfl
  rw [tap_apply _ _ 8 _ _ (by decide), up_apply v 7 153#32 (by decide) (by decide) _ (by show i.val + 8 + 7 < 160; omega)]
  refine congrArg₂ (· + ·) ?_ rfl
  rw [tap_apply _ _ 0 _ _ (by decide), up_apply v 7 153#32 (by decide) (by decide) _ (by show i.val + 0 + 7 < 160; omega)]
  refine congrArg₂ (· + ·) ?_ rfl
  rw [tap_apply _ _ 24 _ _ (by decide), up_apply v 6 154#32 (by decide) (by decide) _ (by show i.val + 24 + 6 < 160; omega)]
  refine congrArg₂ (· + ·) ?_ rfl
  rw [tap_apply _ _ 16 _ _ (by decide), up_apply v 6 154#32 (by decide) (by decide) _ (by show i.val + 16 + 6 < 160; omega)]
  refine congrArg₂ (· + ·) ?_ rfl
  rw [tap_apply _ _ 8 _ _ (by decide), up_apply v 6 154#32 (by decide) (by decide) _ (by show i.val + 8 + 6 < 160; omega)]
  refine congrArg₂ (· + ·) ?_ rfl
  rw [tap_apply _ _ 0 _ _ (by decide), up_apply v 6 154#32 (by decide) (by decide) _ (by show i.val + 0 + 6 < 160; omega)]
  refine congrArg₂ (· + ·) ?_ rfl
  rw [tap_apply _ _ 24 _ _ (by decide), up_apply v 5 155#32 (by decide) (by decide) _ (by show i.val + 24 + 5 < 160; omega)]
  refine congrArg₂ (· + ·) ?_ rfl
  rw [tap_apply _ _ 16 _ _ (by decide), up_apply v 5 155#32 (by decide) (by decide) _ (by show i.val + 16 + 5 < 160; omega)]
  refine congrArg₂ (· + ·) ?_ rfl
  rw [tap_apply _ _ 8 _ _ (by decide), up_apply v 5 155#32 (by decide) (by decide) _ (by show i.val + 8 + 5 < 160; omega)]
  refine congrArg₂ (· + ·) ?_ rfl
  rw [tap_apply _ _ 0 _ _ (by decide), up_apply v 5 155#32 (by decide) (by decide) _ (by show i.val + 0 + 5 < 160; omega)]
  refine congrArg₂ (· + ·) ?_ rfl
  rw [tap_apply _ _ 24 _ _ (by decide), up_apply v 4 156#32 (by decide) (by decide) _ (by show i.val + 24 + 4 < 160; omega)]
  refine congrArg₂ (· + ·) ?_ rfl
  rw [tap_apply _ _ 16 _ _ (by decide), up_apply v 4 156#32 (by decide) (by decide) _ (by show i.val + 16 + 4 < 160; omega)]
  refine congrArg₂ (· + ·) ?_ rfl
  rw [tap_apply _ _ 8 _ _ (by decide), up_apply v 4 156#32 (by decide) (by decide) _ (by show i.val + 8 + 4 < 160; omega)]
  refine congrArg₂ (· + ·) ?_ rfl
  rw [tap_apply _ _ 0 _ _ (by decide), up_apply v 4 156#32 (by decide) (by decide) _ (by show i.val + 0 + 4 < 160; omega)]
  refine congrArg₂ (· + ·) ?_ rfl
  rw [tap_apply _ _ 24 _ _ (by decide), up_apply v 3 157#32 (by decide) (by decide) _ (by show i.val + 24 + 3 < 160; omega)]
  refine congrArg₂ (· + ·) ?_ rfl
  rw [tap_apply _ _ 16 _ _ (by decide), up_apply v 3 157#32 (by decide) (by decide) _ (by show i.val + 16 + 3 < 160; omega)]
  refine congrArg₂ (· + ·) ?_ rfl
  rw [tap_apply _ _ 8 _ _ (by decide), up_apply v 3 157#32 (by decide) (by decide) _ (by show i.val + 8 + 3 < 160; omega)]
  refine congrArg₂ (· + ·) ?_ rfl
  rw [tap_apply _ _ 0 _ _ (by decide), up_apply v 3 157#32 (by decide) (by decide) _ (by show i.val + 0 + 3 < 160; omega)]
  refine congrArg₂ (· + ·) ?_ rfl
  rw [tap_apply _ _ 24 _ _ (by decide), up_apply v 2 158#32 (by decide) (by decide) _ (by show i.val + 24 + 2 < 160; omega)]
  refine congrArg₂ (· + ·) ?_ rfl
  rw [tap_apply _ _ 16 _ _ (by decide), up_apply v 2 158#32 (by decide) (by decide) _ (by show i.val + 16 + 2 < 160; omega)]
  refine congrArg₂ (· + ·) ?_ rfl
  rw [tap_apply _ _ 8 _ _ (by decide), up_apply v 2 158#32 (by decide) (by decide) _ (by show i.val + 8 + 2 < 160; omega)]
  refine congrArg₂ (· + ·) ?_ rfl
  rw [tap_apply _ _ 0 _ _ (by decide), up_apply v 2 158#32 (by decide) (by decide) _ (by show i.val + 0 + 2 < 160; omega)]
  refine congrArg₂ (· + ·) ?_ rfl
  rw [tap_apply _ _ 24 _ _ (by decide), up_apply v 1 159#32 (by decide) (by decide) _ (by show i.val + 24 + 1 < 160; omega)]
  refine congrArg₂ (· + ·) ?_ rfl
  rw [tap_apply _ _ 16 _ _ (by decide), up_apply v 1 159#32 (by decide) (by decide) _ (by show i.val + 16 + 1 < 160; omega)]
  refine congrArg₂ (· + ·) ?_ rfl
  rw [tap_apply _ _ 8 _ _ (by decide), up_apply v 1 159#32 (by decide) (by decide) _ (by show i.val + 8 + 1 < 160; omega)]
  refine congrArg₂ (· + ·) ?_ rfl
  rw [tap_apply _ _ 32 _ _ (by decide)]
  refine congrArg₂ (· + ·) ?_ rfl
  rw [tap_apply _ _ 24 _ _ (by decide)]
  refine congrArg₂ (· + ·) ?_ rfl
  rw [tap_apply _ _ 16 _ _ (by decide)]
  refine congrArg₂ (· + ·) ?_ rfl
  rw [tap_apply _ _ 8 _ _ (by decide)]
  refine congrArg₂ (· + ·) ?_ rfl
  exact hb

/-- Tile 0 is that array. -/
theorem tile0 (v : Vec Ideal S160x128 .f32) (b : Vec Ideal S1x128 .f32) (d : Fin 31 → Vec Ideal S1x128 .f32) :
    k0_pay21 (k0_pay17 v (k0_pay13 v) (k0_pay14 v (k0_pay9 v) (k0_pay10 v (k0_pay6 v b (d 6) (d 14) (d 22) (d 30) (d 7) (d 15)) (k0_pay7 v) (k0_pay8 (d 23)) (d 0) (d 8) (d 16) (d 24) (d 1) (d 9)) (k0_pay11 v) (k0_pay12 (d 17)) (d 25) (d 2) (d 10) (d 18) (d 26) (d 3)) (k0_pay15 v) (k0_pay16 (d 11)) (d 19) (d 27) (d 4) (d 12) (d 20) (d 28)) (k0_pay18 v) (k0_pay19 v) (k0_pay20 (d 5)) (d 13) (d 21) (d 29) = taps v b d := rfl

/-- Tile 1 is that array. -/
theorem tile1 (v : Vec Ideal S160x128 .f32) (b : Vec Ideal S1x128 .f32) (d : Fin 31 → Vec Ideal S1x128 .f32) :
    k0_pay33 (k0_pay30 v (k0_pay27 v (k0_pay25 v) (k0_pay26 v (k0_pay23 v) (k0_pay24 v (k0_pay22 v b (d 6) (d 14)) (d 22) (d 30) (d 7) (d 15) (d 23) (d 0) (d 8)) (d 16) (d 24) (d 1) (d 9) (d 17) (d 25) (d 2)) (d 10) (d 18) (d 26) (d 3) (d 11) (d 19) (d 27)) (k0_pay28 v) (d 4) (d 12) (d 20) (d 28) (d 5) (d 13) (d 21)) (k0_pay31 (d 29)) (k0_pay32 v) = taps v b d := rfl

/-- Tile 2 is that array. -/
theorem tile2 (v : Vec Ideal S160x128 .f32) (b : Vec Ideal S1x128 .f32) (d : Fin 31 → Vec Ideal S1x128 .f32) :
    k0_pay42 v (k0_pay40 v) (k0_pay41 v (k0_pay38 v (k0_pay36 v) (k0_pay37 v (k0_pay34 v) (k0_pay35 v b (d 6) (d 14) (d 22) (d 30) (d 7)) (d 15) (d 23) (d 0) (d 8) (d 16) (d 24) (d 1)) (d 9) (d 17) (d 25) (d 2) (d 10) (d 18) (d 26)) (k0_pay39 v) (d 3) (d 11) (d 19) (d 27) (d 4) (d 12) (d 20)) (d 28) (d 5) (d 13) (d 21) (d 29) = taps v b d := rfl

/-- Tile 3 is that array. -/
theorem tile3 (v : Vec Ideal S160x128 .f32) (b : Vec Ideal S1x128 .f32) (d : Fin 31 → Vec Ideal S1x128 .f32) :
    k0_pay59 (k0_pay56 v) (k0_pay57 v (k0_pay53 v) (k0_pay54 v (k0_pay51 v (k0_pay46 v (k0_pay43 b) (k0_pay44 (d 6)) (k0_pay45 v) (d 14) (d 22) (d 30) (d 7) (d 15) (d 23)) (k0_pay47 v) (k0_pay48 (d 0)) (k0_pay49 v) (d 8) (d 16) (d 24) (d 1) (d 9) (d 17)) (k0_pay52 v (d 25)) (d 2) (d 10) (d 18) (d 26) (d 3) (d 11)) (k0_pay55 v (d 19)) (d 27) (d 4) (d 12) (d 20) (d 28) (d 5)) (k0_pay58 v (d 13)) (d 21) (d 29) = taps v b d := rfl

/-- Tile 4 is that array. -/
theorem tile4 (v : Vec Ideal S160x128 .f32) (b : Vec Ideal S1x128 .f32) (d : Fin 31 → Vec Ideal S1x128 .f32) :
    k0_pay71 v (k0_pay68 v) (k0_pay69 v (k0_pay65 v) (k0_pay66 v (k0_pay62 v) (k0_pay63 v (k0_pay60 v b (d 6) (d 14) (d 22)) (k0_pay61 (d 30)) (d 7) (d 15) (d 23) (d 0) (d 8) (d 16)) (k0_pay64 (d 24)) (d 1) (d 9) (d 17) (d 25) (d 2) (d 10)) (k0_pay67 (d 18)) (d 26) (d 3) (d 11) (d 19) (d 27) (d 4)) (k0_pay70 (d 12)) (d 20) (d 28) (d 5) (d 13) (d 21) (d 29) = taps v b d := rfl

/-- Tile 5 is that array. -/
theorem tile5 (v : Vec Ideal S160x128 .f32) (b : Vec Ideal S1x128 .f32) (d : Fin 31 → Vec Ideal S1x128 .f32) :
    k0_pay80 (k0_pay78 v (k0_pay76 v) (k0_pay77 v (k0_pay74 v) (k0_pay75 v (k0_pay72 v) (k0_pay73 v b (d 6) (d 14) (d 22) (d 30) (d 7) (d 15)) (d 23) (d 0) (d 8) (d 16) (d 24) (d 1) (d 9)) (d 17) (d 25) (d 2) (d 10) (d 18) (d 26) (d 3)) (d 11) (d 19) (d 27) (d 4) (d 12) (d 20) (d 28)) (k0_pay79 v) (d 5) (d 13) (d 21) (d 29) = taps v b d := rfl

/-- Tile 6 is that array. -/
theorem tile6 (v : Vec Ideal S160x128 .f32) (b : Vec Ideal S1x128 .f32) (d : Fin 31 → Vec Ideal S1x128 .f32) :
    k0_pay95 (k0_pay93 v) (k0_pay94 v (k0_pay92 v (k0_pay88 v (k0_pay84 v) (k0_pay85 v (k0_pay81 v b (d 6)) (k0_pay82 v) (k0_pay83 (d 14)) (d 22) (d 30) (d 7) (d 15) (d 23) (d 0)) (k0_pay86 v) (k0_pay87 (d 8)) (d 16) (d 24) (d 1) (d 9) (d 17) (d 25)) (k0_pay89 v) (k0_pay90 v) (k0_pay91 (d 2)) (d 10) (d 18) (d 26) (d 3) (d 11) (d 19) (d 27)) (d 4) (d 12) (d 20) (d 28) (d 5) (d 13) (d 21)) (d 29) = taps v b d := rfl

/-- Tile 7 is that array. -/
theorem tile7 (v : Vec Ideal S160x128 .f32) (b : Vec Ideal S1x128 .f32) (d : Fin 31 → Vec Ideal S1x128 .f32) :
    k0_pay108 v (k0_pay104 v) (k0_pay105 v (k0_pay101 v (k0_pay98 v (k0_pay96 v b (d 6) (d 14) (d 22) (d 30)) (k0_pay97 v) (d 7) (d 15) (d 23) (d 0) (d 8) (d 16) (d 24)) (k0_pay99 v) (d 1) (d 9) (d 17) (d 25) (d 2) (d 10) (d 18)) (k0_pay102 (d 26)) (k0_pay103 v) (d 3) (d 11) (d 19) (d 27) (d 4) (d 12)) (k0_pay106 (d 20)) (k0_pay107 v) (d 28) (d 5) (d 13) (d 21) (d 29) = taps v b d := rfl

/-- Tile 8 is that array. -/
theorem tile8 (v : Vec Ideal S160x128 .f32) (b : Vec Ideal S1x128 .f32) (d : Fin 31 → Vec Ideal S1x128 .f32) :
    k0_pay118 (k0_pay116 v) (k0_pay117 v (k0_pay114 v) (k0_pay115 v (k0_pay112 v) (k0_pay113 v (k0_pay110 v (k0_pay109 b) (d 6) (d 14) (d 22) (d 30) (d 7) (d 15) (d 23)) (k0_pay111 v) (d 0) (d 8) (d 16) (d 24) (d 1) (d 9) (d 17)) (d 25) (d 2) (d 10) (d 18) (d 26) (d 3) (d 11)) (d 19) (d 27) (d 4) (d 12) (d 20) (d 28) (d 5)) (d 13) (d 21) (d 29) = taps v b d := rfl

/-- Tile 9 is that array. -/
theorem tile9 (v : Vec Ideal S160x128 .f32) (b : Vec Ideal S1x128 .f32) (d : Fin 31 → Vec Ideal S1x128 .f32) :
    k0_pay131 (k0_pay130 v (k0_pay127 v (k0_pay124 v) (k0_pay125 v (k0_pay121 v) (k0_pay122 v (k0_pay119 v b (d 6) (d 14)) (k0_pay120 v (d 22)) (d 30) (d 7) (d 15) (d 23) (d 0) (d 8)) (k0_pay123 v (d 16)) (d 24) (d 1) (d 9) (d 17) (d 25) (d 2)) (k0_pay126 v (d 10)) (d 18) (d 26) (d 3) (d 11) (d 19) (d 27)) (k0_pay128 v) (k0_pay129 v (d 4)) (d 12) (d 20) (d 28) (d 5) (d 13) (d 21) (d 29)) = taps v b d := rfl

/-- Tile 10 is that array. -/
theorem tile10 (v : Vec Ideal S160x128 .f32) (b : Vec Ideal S1x128 .f32) (d : Fin 31 → Vec Ideal S1x128 .f32) :
    k0_pay145 v (k0_pay142 v (k0_pay138 v (k0_pay135 v) (k0_pay136 v (k0_pay132 v) (k0_pay133 v b (d 6) (d 14) (d 22) (d 30) (d 7)) (k0_pay134 (d 15)) (d 23) (d 0) (d 8) (d 16) (d 24) (d 1)) (k0_pay137 (d 9)) (d 17) (d 25) (d 2) (d 10) (d 18) (d 26)) (k0_pay139 v) (k0_pay140 (d 3)) (d 11) (d 19) (d 27) (d 4) (d 12) (d 20)) (k0_pay143 v) (k0_pay144 (d 28)) (d 5) (d 13) (d 21) (d 29) = taps v b d := rfl

/-- Tile 11 is that array. -/
theorem tile11 (v : Vec Ideal S160x128 .f32) (b : Vec Ideal S1x128 .f32) (d : Fin 31 → Vec Ideal S1x128 .f32) :
    k0_pay155 (k0_pay153 v) (k0_pay154 v (k0_pay151 v) (k0_pay152 v (k0_pay149 v (k0_pay147 v) (k0_pay148 v (k0_pay146 v b (d 6)) (d 14) (d 22) (d 30) (d 7) (d 15) (d 23) (d 0)) (d 8) (d 16) (d 24) (d 1) (d 9) (d 17) (d 25)) (k0_pay150 v) (d 2) (d 10) (d 18) (d 26) (d 3) (d 11) (d 19)) (d 27) (d 4) (d 12) (d 20) (d 28) (d 5) (d 13)) (d 21) (d 29) = taps v b d := rfl

/-- Tile 12 is that array. -/
theorem tile12 (v : Vec Ideal S160x128 .f32) (b : Vec Ideal S1x128 .f32) (d : Fin 31 → Vec Ideal S1x128 .f32) :
    k0_pay162 v (k0_pay160 v) (k0_pay161 v (k0_pay158 v) (k0_pay159 v (k0_pay157 v (k0_pay156 v b (d 6) (d 14) (d 22) (d 30)) (d 7) (d 15) (d 23) (d 0) (d 8) (d 16) (d 24)) (d 1) (d 9) (d 17) (d 25) (d 2) (d 10) (d 18)) (d 26) (d 3) (d 11) (d 19) (d 27) (d 4) (d 12)) (d 20) (d 28) (d 5) (d 13) (d 21) (d 29) = taps v b d := rfl

/-- Tile 13 is that array. -/
theorem tile13 (v : Vec Ideal S160x128 .f32) (b : Vec Ideal S1x128 .f32) (d : Fin 31 → Vec Ideal S1x128 .f32) :
    k0_pay179 (k0_pay175 v (k0_pay171 v) (k0_pay172 v (k0_pay167 v) (k0_pay168 v (k0_pay164 v b (d 6) (d 14) (d 22) (d 30) (d 7) (d 15)) (k0_pay165 (d 23)) (k0_pay166 v) (d 0) (d 8) (d 16) (d 24) (d 1) (d 9)) (k0_pay169 (d 17)) (k0_pay170 v) (d 25) (d 2) (d 10) (d 18) (d 26) (d 3)) (k0_pay173 (d 11)) (k0_pay174 v) (d 19) (d 27) (d 4) (d 12) (d 20) (d 28)) (k0_pay176 v) (k0_pay177 (d 5)) (k0_pay178 v) (d 13) (d 21) (d 29) = taps v b d := rfl

/-- Tile 14 is that array. -/
theorem tile14 (v : Vec Ideal S160x128 .f32) (b : Vec Ideal S1x128 .f32) (d : Fin 31 → Vec Ideal S1x128 .f32) :
    k0_pay190 (k0_pay187 v) (k0_pay188 v (k0_pay185 v (k0_pay183 v) (k0_pay184 v (k0_pay181 v) (k0_pay182 v (k0_pay180 v b (d 6) (d 14)) (d 22) (d 30) (d 7) (d 15) (d 23) (d 0) (d 8)) (d 16) (d 24) (d 1) (d 9) (d 17) (d 25) (d 2)) (d 10) (d 18) (d 26) (d 3) (d 11) (d 19) (d 27)) (k0_pay186 v) (d 4) (d 12) (d 20) (d 28) (d 5) (d 13) (d 21)) (k0_pay189 (d 29)) = taps v b d := rfl

/-- Tile 15 is that array. -/
theorem tile15 (v : Vec Ideal S160x128 .f32) (b : Vec Ideal S1x128 .f32) (d : Fin 31 → Vec Ideal S1x128 .f32) :
    k0_pay200 v (k0_pay198 v) (k0_pay199 v (k0_pay197 v (k0_pay194 v (k0_pay191 v b (d 6) (d 14) (d 22) (d 30)) (k0_pay192 v) (k0_pay193 v (d 7)) (d 15) (d 23) (d 0) (d 8) (d 16) (d 24)) (k0_pay195 v) (k0_pay196 v (d 1)) (d 9) (d 17) (d 25) (d 2) (d 10) (d 18) (d 26)) (155#32) (d 3) (d 11) (d 19) (d 27) (d 4) (d 12) (d 20)) (d 28) (d 5) (d 13) (d 21) (d 29) = taps v b d := rfl

end Cert.ConvIdeal.Tile

end
-- ==== Proof.ConvState.lean ====
/-
  What the convolution kernel's two scratch arrays hold at one grid point: the late rows, and the
  convolution, tile by tile, as statements about the lists of the writes made.
-/
module

public import proofs.«01_k».proof.Proof.ConvTile
public import Idealize.ShloMosaic.Lib.Pipeline.FrameBody
public import Idealize.ShloMosaic.Lib.WritesUnit
public import Idealize.ShloMosaic.Lib.WholeRead
public import Idealize.ShloMosaic.Lib.VecWindow
public import Idealize.ShloMosaic.Lib.Pipeline.Value

@[expose] public section

set_option maxRecDepth 16384

noncomputable section

namespace Cert.ConvIdeal.State

open Cert.ConvIdeal Cert.ConvIdeal.Gen Cert.ConvIdeal.Tile Cert.Conv.Spec Cert.Ffn.Spec Idealize.ShloMosaic Idealize.ShloMosaic.TcCoe
open scoped BigOperators

/-- The gated rows the kernel computes of its block. -/
theorem glu_apply (x : Vec Ideal S1x256x1024 .f32) (g : Vec Ideal S1x1024 .f32) (w : Vec Ideal S1024x2048 .bf16) (b : Vec Ideal S1x2048 .f32) (r : Fin 256) (c : Fin 1024) :
    k0_pay4 (F := Ideal) x g w b (ix2 r c)
      = glu (rmsRow (fun k => x (ix3 0 r k)) (fun k => g (ix2 0 k))) (fun k j => w (ix2 k j)) (fun j => b (ix2 0 j)) c := by
  pointwise [k0_pay4, k0_pay3, glu, proj, rmsRow]

/-- The row the kernel stores, of the convolution's row. -/
theorem out_apply (x : Vec Ideal S1x256x1024 .f32) (y : Vec Ideal S256x1024 .f32) (lg lb : Vec Ideal S1x1024 .f32) (w : Vec Ideal S1024x1024 .bf16) (r : Fin 256) (c : Fin 1024) :
    k0_pay1 (F := Ideal) (k0_pay202 (k0_pay3 x) y lg lb w) (ix3 0 r c)
      = outRow (fun k => x (ix3 0 r k)) (fun k => y (ix2 r k)) (fun k => lg (ix2 0 k)) (fun k => lb (ix2 0 k)) (fun k j => w (ix2 k j)) c := by
  pointwise [k0_pay1, k0_pay202, k0_pay3, outRow, mixRow, lnRow, centred]

/-- The rows the point reads its taps from: 32 rows left by the point before, then the block's gated rows. -/
def near (p : Fin 32 → Fin 1024 → EReal) (x : Vec Ideal S1x256x1024 .f32) (g : Vec Ideal S1x1024 .f32) (w : Vec Ideal S1024x2048 .bf16) (b : Vec Ideal S1x2048 .f32)
    (r : ℕ) (c : Fin 1024) : EReal :=
  if h : r < 32 then p ⟨r, h⟩ c else if h' : r - 32 < 256 then
    glu (rmsRow (fun k => x (ix3 0 ⟨r - 32, h'⟩ k)) (fun k => g (ix2 0 k))) (fun k j => w (ix2 k j)) (fun j => b (ix2 0 j)) c else 0

/-- The writes `L` leave the convolution in the first `h` tiles. -/
def PC (u : ℕ → Fin 1024 → EReal) (d : Fin 31 → Fin 1024 → EReal) (b : Fin 1024 → EReal) (h : ℕ) (L : List (View.Piece (Elt Ideal) S256x1024 .f32)) : Prop :=
  ∀ y : S256x1024.Idx, 8 * ((y 0).val / 128) + (y 1).val / 128 < h → View.canon L y = conv u d b (y 0).val (y 1)

variable {u : ℕ → Fin 1024 → EReal} {d : Fin 31 → Fin 1024 → EReal} {b : Fin 1024 → EReal}

/-- Writing tile `h`. -/
theorem PC.step {L} (h : ℕ) (hL : PC u d b h L) (o c0 : ℕ) (ho : o = 128 * (h / 8)) (hc : c0 = 128 * (h % 8)) (hh : h < 16) {inb}
    {w : (Rect.unit (s := S256x1024) ![o, c0] S128x128.size inb).shape.Idx → EReal}
    (hw : ∀ i j : Fin 128, w (ix2 i j) = conv u d b (o + i.val) ⟨c0 + j.val, by omega⟩) :
    PC u d b (h + 1) (⟨Rect.unit ![o, c0] S128x128.size inb, w⟩ :: L) := by
  intro y hy
  have y0 : (y 0).val < 256 := (y 0).isLt
  have y1 : (y 1).val < 1024 := (y 1).isLt
  by_cases he : 8 * ((y 0).val / 128) + (y 1).val / 128 = h
  · have e : y = (Rect.unit (s := S256x1024) ![o, c0] S128x128.size inb).emb
        (ix2 (⟨(y 0).val - o, by omega⟩ : Fin 128) (⟨(y 1).val - c0, by omega⟩ : Fin 128)) := by
      funext a
      refine Fin.ext ?_
      rw [ValueKit.rect_emb_unit_val]
      match a with
      | ⟨0, _⟩ => show (y 0).val = o + ((y 0).val - o); omega
      | ⟨1, _⟩ => show (y 1).val = c0 + ((y 1).val - c0); omega
    refine (congrArg _ e).trans ((View.canon_cons_emb _ _ _ _).trans ((hw _ _).trans ?_))
    exact congrArg₂ (conv u d b) (show o + ((y 0).val - o) = _ by omega) (Fin.ext (show c0 + ((y 1).val - c0) = _ by omega))
  · rw [View.canon_cons_of_not_mem _ _ (fun hm => he (by
      have h0 := (Rect.mem_set_unit (s := S256x1024) (off := ![o, c0]) (size := S128x128.size) (inb := inb)).mp hm 0
      have h1 := (Rect.mem_set_unit (s := S256x1024) (off := ![o, c0]) (size := S128x128.size) (inb := inb)).mp hm 1
      have a1 : o ≤ (y 0).val := h0.1
      have a2 : (y 0).val < o + 128 := h0.2
      have b1 : c0 ≤ (y 1).val := h1.1
      have b2 : (y 1).val < c0 + 128 := h1.2
      omega)), hL y (by omega)]

/-- A tile, of the rows, weights and bias it loads, is the convolution there. -/
theorem taps_ok {v : Vec Ideal S160x128 .f32} {b' : Vec Ideal S1x128 .f32} {d' : Fin 31 → Vec Ideal S1x128 .f32} (o c0 : ℕ) (hc : c0 + 128 ≤ 1024)
    (hv : ∀ (i : Fin 160) (j : Fin 128), v (ix2 i j) = u (o + i.val) ⟨c0 + j.val, by omega⟩)
    (hb : ∀ j : Fin 128, b' (ix2 0 j) = b ⟨c0 + j.val, by omega⟩)
    (hd : ∀ (k : Fin 31) (j : Fin 128), d' k (ix2 0 j) = d k ⟨c0 + j.val, by omega⟩) (i j : Fin 128) :
    taps v b' d' (ix2 i j) = conv u d b (o + i.val) ⟨c0 + j.val, by omega⟩ := by
  rw [taps_apply, hb, conv]
  refine congrArg (fun z => b ⟨c0 + j.val, by omega⟩ + z) (Finset.sum_congr rfl fun k _ => ?_)
  rw [hd, hv]
  refine congrArg (fun r => d k ⟨c0 + j.val, by omega⟩ * u r ⟨c0 + j.val, by omega⟩) ?_
  show o + (i.val + 2 + k.val) = o + i.val + 2 + k.val
  omega

/-- The weights' rows fit. -/
theorem rows_inb {c0 : ℕ} (hc : c0 + 128 ≤ 1024) (k : Fin 31) : ∀ a, (![k.val, c0] : Fin 2 → ℕ) a + S1x128.size a ≤ S32x1024.size a := fun a =>
  match a with
  | ⟨0, _⟩ => by show k.val + 1 ≤ 32; omega
  | ⟨1, _⟩ => hc

/-- The rows of weights a tile loads. -/
def wts (v : Memref sig .tc .vmem S32x1024 .f32) (hv : v.IsWhole) (x : Vec Ideal S32x1024 .f32) (c0 : ℕ) (hc : c0 + 128 ≤ 1024) (k : Fin 31) : Vec Ideal S1x128 .f32 :=
  View.readAt (Elt Ideal) v.view (Rect.unit (s := S32x1024) ![k.val, c0] S1x128.size (rows_inb hc k)).toLoadRect (hv.unread x)

/-- They are the array's. -/
theorem wts_apply (v : Memref sig .tc .vmem S32x1024 .f32) (hv : v.IsWhole) (x : Vec Ideal S32x1024 .f32) (c0 : ℕ) (hc : c0 + 128 ≤ 1024) (k : Fin 31) (j : Fin 128) :
    wts v hv x c0 hc k (ix2 0 j) = x (ix2 ⟨k.val, by omega⟩ ⟨c0 + j.val, by omega⟩) := by
  unfold wts
  rw [View.readAt_apply, hv.read_unread]
  refine congrArg x (funext fun a => Fin.ext ?_)
  match a with
  | ⟨0, _⟩ => show k.val + 1 * 0 = k.val; omega
  | ⟨1, _⟩ => show c0 + 1 * j.val = c0 + j.val; omega

/-- The bias a tile loads is the array's. -/
theorem bias_ok (v : Memref sig .tc .vmem S1x1024 .f32) (hv : v.IsWhole) (x : Vec Ideal S1x1024 .f32) (c0 : ℕ) (hc : c0 + 128 ≤ 1024) {inb} (j : Fin 128) :
    View.readAt (Elt Ideal) v.view (Rect.unit (s := S1x1024) ![0, c0] S1x128.size inb).toLoadRect (hv.unread x) (ix2 0 j) = x (ix2 0 ⟨c0 + j.val, by omega⟩) := by
  rw [View.readAt_apply, hv.read_unread]
  refine congrArg x (funext fun a => Fin.ext ?_)
  match a with
  | ⟨0, _⟩ => rfl
  | ⟨1, _⟩ => show c0 + 1 * j.val = c0 + j.val; omega

/-- Where a tile's rows lie in the scratch array. -/
theorem rows_idx {o c0 : ℕ} {inb} (i : Fin 160) (j : Fin 128) (h0 : o + i.val < 288) (h1 : c0 + j.val < 1024) :
    (Rect.unit (s := S288x1024) ![o, c0] S160x128.size inb).toLoadRect.idx (ix2 i j) = ix2 (⟨o + i.val, h0⟩ : Fin 288) (⟨c0 + j.val, h1⟩ : Fin 1024) := by
  funext a
  refine Fin.ext ?_
  match a with
  | ⟨0, _⟩ => show o + 1 * i.val = o + i.val; omega
  | ⟨1, _⟩ => show c0 + 1 * j.val = c0 + j.val; omega

/-- Rows a tile loads from the writes alone. -/
theorem rows_cov {L : List (View.Piece (Elt Ideal) S288x1024 .f32)} {u : ℕ → Fin 1024 → EReal} (m : ℕ)
    (hL : ∀ (r : Fin 288) (c : Fin 1024), m ≤ r.val → View.canon L (ix2 r c) = u r.val c) (v : View sig .tc .vmem S288x1024 .f32)
    (o c0 : ℕ) (hm : m ≤ o) (ho : o + 160 ≤ 288) (hc : c0 + 128 ≤ 1024) {inb} (i : Fin 160) (j : Fin 128) :
    v.readCov L (Rect.unit (s := S288x1024) ![o, c0] S160x128.size inb).toLoadRect (ix2 i j) = u (o + i.val) ⟨c0 + j.val, by omega⟩ := by
  rw [View.readCov_eq_canon']
  refine (congrArg (View.canon L) (rows_idx i j (by omega) (by omega))).trans (hL _ _ ?_)
  show m ≤ o + i.val
  omega

/-- Rows a tile loads from the writes over what the point before left. -/
theorem rows_over {L : List (View.Piece (Elt Ideal) S288x1024 .f32)} {u : ℕ → Fin 1024 → EReal} {v : View sig .tc .vmem S288x1024 .f32} {f : v.ty.Contents (Elt Ideal)}
    (hL : ∀ (r : Fin 288) (c : Fin 1024), v.read (Elt Ideal) (v.writes (Elt Ideal) f L) (ix2 r c) = u r.val c)
    (o c0 : ℕ) (ho : o + 160 ≤ 288) (hc : c0 + 128 ≤ 1024) {inb} (i : Fin 160) (j : Fin 128) :
    View.readAt (Elt Ideal) v (Rect.unit (s := S288x1024) ![o, c0] S160x128.size inb).toLoadRect (v.writes (Elt Ideal) f L) (ix2 i j)
      = u (o + i.val) ⟨c0 + j.val, by omega⟩ := by
  rw [View.readAt_apply]
  exact (congrArg (v.read (Elt Ideal) (v.writes (Elt Ideal) f L)) (rows_idx i j (by omega) (by omega))).trans (hL _ _)

/-- The block's gated rows, written from row 32 on, read from the writes alone. -/
theorem late_rows {L : List (View.Piece (Elt Ideal) S288x1024 .f32)} {inb} {p : Fin 32 → Fin 1024 → EReal}
    (x : Vec Ideal S1x256x1024 .f32) (g : Vec Ideal S1x1024 .f32) (w : Vec Ideal S1024x2048 .bf16) (b : Vec Ideal S1x2048 .f32) (r : Fin 288) (c : Fin 1024) (hr : 32 ≤ r.val) :
    View.canon ((⟨Rect.unit (s := S288x1024) ![32, 0] S256x1024.size inb, k0_pay4 (F := Ideal) x g w b⟩ : View.Piece (Elt Ideal) S288x1024 .f32) :: L) (ix2 r c) = near p x g w b r.val c := by
  have e : (ix2 r c : S288x1024.Idx) = (Rect.unit (s := S288x1024) ![32, 0] S256x1024.size inb).emb (ix2 (⟨r.val - 32, by omega⟩ : Fin 256) c) := by
    funext a
    refine Fin.ext ?_
    rw [ValueKit.rect_emb_unit_val]
    match a with
    | ⟨0, _⟩ => show r.val = 32 + (r.val - 32); omega
    | ⟨1, _⟩ => exact (Nat.zero_add _).symm
  refine (congrArg _ e).trans ((View.canon_cons_emb _ _ _ _).trans ((glu_apply x g w b _ c).trans ?_))
  rw [near, dif_neg (by omega), dif_pos (by omega)]

/-- All the rows from the writes alone, when zeros were written to the first 32. -/
theorem first_rows {inb inb'} (x : Vec Ideal S1x256x1024 .f32) (g : Vec Ideal S1x1024 .f32) (w : Vec Ideal S1024x2048 .bf16) (b : Vec Ideal S1x2048 .f32) (r : Fin 288) (c : Fin 1024) :
    View.canon [(⟨Rect.unit (s := S288x1024) ![32, 0] S256x1024.size inb, k0_pay4 (F := Ideal) x g w b⟩ : View.Piece (Elt Ideal) S288x1024 .f32),
      ⟨Rect.unit (s := S288x1024) ![0, 0] S32x1024.size inb', k0_pay2 (F := Ideal)⟩] (ix2 r c) = near (fun _ _ => 0) x g w b r.val c := by
  by_cases hr : 32 ≤ r.val
  · exact late_rows x g w b r c hr
  · refine (View.canon_cons_of_not_mem _ _ (fun hm => hr (by
      have h0 := (Rect.mem_set_unit (s := S288x1024) (off := ![32, 0]) (size := S256x1024.size) (inb := inb)).mp hm 0
      have h1 : 32 ≤ r.val := h0.1
      exact h1))).trans ?_
    have e : (ix2 r c : S288x1024.Idx) = (Rect.unit (s := S288x1024) ![0, 0] S32x1024.size inb').emb (ix2 (⟨r.val, by omega⟩ : Fin 32) c) := by
      funext a
      refine Fin.ext ?_
      rw [ValueKit.rect_emb_unit_val]
      match a with
      | ⟨0, _⟩ => exact (Nat.zero_add _).symm
      | ⟨1, _⟩ => exact (Nat.zero_add _).symm
    refine (congrArg _ e).trans ((View.canon_cons_emb _ _ _ _).trans ?_)
    rw [near, dif_pos (by omega)]
    pointwise [k0_pay2]

/-- All the rows, over what the point before left in the first 32. -/
theorem next_rows {inb} (v : Memref sig .tc .vmem S288x1024 .f32) (hv : v.IsWhole) (s : Vec Ideal S288x1024 .f32)
    (x : Vec Ideal S1x256x1024 .f32) (g : Vec Ideal S1x1024 .f32) (w : Vec Ideal S1024x2048 .bf16) (b : Vec Ideal S1x2048 .f32) (r : Fin 288) (c : Fin 1024) :
    v.view.read (Elt Ideal) (v.view.writes (Elt Ideal) (hv.unread s) [(⟨Rect.unit (s := S288x1024) ![32, 0] S256x1024.size inb, k0_pay4 (F := Ideal) x g w b⟩ : View.Piece (Elt Ideal) S288x1024 .f32)]) (ix2 r c)
      = near (fun r c => s (ix2 ⟨r.val, by omega⟩ c)) x g w b r.val c := by
  by_cases hr : 32 ≤ r.val
  · refine (View.read_writes_cons_unit_of_mem v.view _ inb _ _ _ (ix2 (⟨r.val - 32, by omega⟩ : Fin 256) c) rfl fun a => ?_).trans ((glu_apply x g w b _ c).trans ?_)
    · match a with
      | ⟨0, _⟩ => show r.val = 32 + (r.val - 32); omega
      | ⟨1, _⟩ => exact (Nat.zero_add _).symm
    · rw [near, dif_neg (by omega), dif_pos (by omega)]
  · refine (View.read_writes_cons_unit_of_not_mem v.view _ inb _ _ _ rfl 0 (Or.inl (show r.val < 32 by omega))).trans ?_
    show v.view.read (Elt Ideal) (hv.unread s) (ix2 r c) = _
    rw [hv.read_unread, near, dif_pos (by omega)]

/-- A load of a whole array is the array. -/
theorem full_ok {S : Shape} {e : EltTy} {v : Memref sig .tc .vmem S e} (hv : v.IsWhole) {x : Vec Ideal S e} {off : Fin S.rank → ℕ} {inb : ∀ a, off a + S.size a ≤ S.size a} :
    View.readAt (Elt Ideal) v.view (Rect.unit off S.size inb).toLoadRect (hv.unread x) = x := by
  rw [View.readAt_full, hv.read_unread]

/-- A whole load reads every index. -/
theorem whole_idx {inb} (y : S256x1024.Idx) : (Rect.unit (s := S256x1024) ![0, 0] S256x1024.size inb).toLoadRect.idx y = y := by
  funext a
  refine Fin.ext ?_
  match a with
  | ⟨0, _⟩ => show 0 + 1 * (y 0).val = (y 0).val; omega
  | ⟨1, _⟩ => show 0 + 1 * (y 1).val = (y 1).val; omega

/-- Where the last 32 rows lie. -/
theorem last_idx {inb} (r : Fin 32) (c : Fin 1024) :
    (Rect.unit (s := S288x1024) ![256, 0] S32x1024.size inb).toLoadRect.idx (ix2 r c) = ix2 (⟨256 + r.val, by omega⟩ : Fin 288) c := by
  funext a
  refine Fin.ext ?_
  match a with
  | ⟨0, _⟩ => show 256 + 1 * r.val = 256 + r.val; omega
  | ⟨1, _⟩ => show 0 + 1 * c.val = c.val; omega

/-- The rows kept for the next tile are stored as loaded. -/
theorem pay201_apply (v : Vec Ideal S32x1024 .f32) (r : Fin 32) (c : Fin 1024) : k0_pay201 (F := Ideal) v (ix2 r c) = v (ix2 r c) := by
  pointwise [k0_pay201]

/-- The first 32 rows, when they are written last. -/
theorem top_rows {inb} (w : Vec Ideal S32x1024 .f32) (L : List (View.Piece (Elt Ideal) S288x1024 .f32)) (r : Fin 32) (c : Fin 1024) :
    View.canon ((⟨Rect.unit (s := S288x1024) ![0, 0] S32x1024.size inb, w⟩ : View.Piece (Elt Ideal) S288x1024 .f32) :: L) (ix2 ⟨r.val, by omega⟩ c) = w (ix2 r c) := by
  have e : (ix2 ⟨r.val, by omega⟩ c : S288x1024.Idx) = (Rect.unit (s := S288x1024) ![0, 0] S32x1024.size inb).emb (ix2 r c) := by
    funext a
    refine Fin.ext ?_
    rw [ValueKit.rect_emb_unit_val]
    match a with
    | ⟨0, _⟩ => exact (Nat.zero_add _).symm
    | ⟨1, _⟩ => exact (Nat.zero_add _).symm
  exact (congrArg _ e).trans (View.canon_cons_emb _ _ _ _)

end Cert.ConvIdeal.State

end
-- ==== Proof.ConvFirst.lean ====
/-
  The convolution kernel's body at a sequence's first tile: what it leaves in the scratch arrays and stores.
-/
module

public import proofs.«01_k».proof.Proof.ConvState
public import proofs.«01_k».proof.Proof.Gen.ConvIdeal.Frame
public import proofs.«01_k».proof.Proof.Gen.ConvIdeal.Frame

@[expose] public section

set_option maxRecDepth 100000

noncomputable section

namespace Cert.ConvIdeal.First

open Cert.ConvIdeal Cert.ConvIdeal.Gen Cert.ConvIdeal.Gen.kernelRun0_A Cert.ConvIdeal.Tile Cert.ConvIdeal.State Cert.Conv.Spec Cert.Ffn.Spec
open Idealize.ShloMosaic Idealize.ShloMosaic.TcCoe Idealize.ShloMosaic.Tactic Idealize.SL.Sem

/-- The rows from the block's own on, from the writes alone. -/
theorem rows_own (p : Fin 32 → Fin 1024 → EReal) (c : Dev nD) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S288x1024 .f32) (harg12 : arg12.IsWhole) (arg13 : Memref sig .tc .vmem S256x1024 .f32) (harg13 : arg13.IsWhole) (x0 : Vec Ideal S1x256x1024 .f32) (x1 : Vec Ideal S1x1024 .f32) (x2 : Vec Ideal S1024x2048 .bf16) (x3 : Vec Ideal S1x2048 .f32) (x4 : Vec Ideal S32x1024 .f32) (x5 : Vec Ideal S1x1024 .f32) (x6 : Vec Ideal S1x1024 .f32) (x7 : Vec Ideal S1x1024 .f32) (x8 : Vec Ideal S1024x1024 .bf16) (r : Fin 288) (c' : Fin 1024) (hr : 32 ≤ r.val) :
    View.canon (sl.HS0_2 (F := Ideal) c arg2 harg2 arg3 harg3 arg4 harg4 arg5 harg5 x0 x1 x2 x3) (ix2 r c') = near p x0 x1 x2 x3 r.val c' := by
  unfold sl.HS0_2
  rw [late_rows (p := p) _ _ _ _ r c' hr, full_ok harg2, full_ok harg3, full_ok harg4, full_ok harg5]

/-- All the rows, from the writes alone. -/
theorem rows_all (c : Dev nD) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S288x1024 .f32) (harg12 : arg12.IsWhole) (arg13 : Memref sig .tc .vmem S256x1024 .f32) (harg13 : arg13.IsWhole) (x0 : Vec Ideal S1x256x1024 .f32) (x1 : Vec Ideal S1x1024 .f32) (x2 : Vec Ideal S1024x2048 .bf16) (x3 : Vec Ideal S1x2048 .f32) (x4 : Vec Ideal S32x1024 .f32) (x5 : Vec Ideal S1x1024 .f32) (x6 : Vec Ideal S1x1024 .f32) (x7 : Vec Ideal S1x1024 .f32) (x8 : Vec Ideal S1024x1024 .bf16) (r : Fin 288) (c' : Fin 1024) :
    View.canon (sl.HS0_2 (F := Ideal) c arg2 harg2 arg3 harg3 arg4 harg4 arg5 harg5 x0 x1 x2 x3) (ix2 r c') = (near (fun _ _ => 0) x0 x1 x2 x3) r.val c' := by
  unfold sl.HS0_2
  rw [first_rows, full_ok harg2, full_ok harg3, full_ok harg4, full_ok harg5]

set_option maxHeartbeats 4000000 in
/-- The second scratch array holds the convolution. -/
theorem done (c : Dev nD) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S288x1024 .f32) (harg12 : arg12.IsWhole) (arg13 : Memref sig .tc .vmem S256x1024 .f32) (harg13 : arg13.IsWhole) (x0 : Vec Ideal S1x256x1024 .f32) (x1 : Vec Ideal S1x1024 .f32) (x2 : Vec Ideal S1024x2048 .bf16) (x3 : Vec Ideal S1x2048 .f32) (x4 : Vec Ideal S32x1024 .f32) (x5 : Vec Ideal S1x1024 .f32) (x6 : Vec Ideal S1x1024 .f32) (x7 : Vec Ideal S1x1024 .f32) (x8 : Vec Ideal S1024x1024 .bf16) :
    PC (near (fun _ _ => 0) x0 x1 x2 x3) (fun k c => x4 (ix2 ⟨k.val, by omega⟩ c)) (fun c => x5 (ix2 0 c)) 16 (sl.HS1_16 (F := Ideal) c arg2 harg2 arg3 harg3 arg4 harg4 arg5 harg5 arg6 harg6 arg7 harg7 arg12 x0 x1 x2 x3 x4 x5) := by
  have p0 : PC (near (fun _ _ => 0) x0 x1 x2 x3) (fun k c => x4 (ix2 ⟨k.val, by omega⟩ c)) (fun c => x5 (ix2 0 c)) 0 [] := fun y h => absurd h (Nat.not_lt_zero _)
  have p1 := p0.step 0 0 0 rfl rfl (by decide) (inb := inb_S256x1024_S128x128_0_0) fun i j =>
    (congrFun (tile0 (arg12.view.readCov (sl.HS0_2 (F := Ideal) c arg2 harg2 arg3 harg3 arg4 harg4 arg5 harg5 x0 x1 x2 x3) (Rect.unit (s := S288x1024) ![0, 0] S160x128.size inb_S288x1024_S160x128_0_0).toLoadRect) (View.readAt (Elt Ideal) arg7.view (Rect.unit (s := S1x1024) ![0, 0] S1x128.size inb_S1x1024_S1x128_0_0).toLoadRect (harg7.unread x5)) (wts arg6 harg6 x4 0 (by decide))) (ix2 i j)).trans
      (taps_ok 0 0 (by decide) (rows_cov 0 (fun r c' _ => rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 r c') arg12.view 0 0 (by decide) (by decide) (by decide)) (bias_ok arg7 harg7 x5 0 (by decide)) (wts_apply arg6 harg6 x4 0 (by decide)) i j)
  have p2 := p1.step 1 0 128 rfl rfl (by decide) (inb := inb_S256x1024_S128x128_0_128) fun i j =>
    (congrFun (tile1 (arg12.view.readCov (sl.HS0_2 (F := Ideal) c arg2 harg2 arg3 harg3 arg4 harg4 arg5 harg5 x0 x1 x2 x3) (Rect.unit (s := S288x1024) ![0, 128] S160x128.size inb_S288x1024_S160x128_0_128).toLoadRect) (View.readAt (Elt Ideal) arg7.view (Rect.unit (s := S1x1024) ![0, 128] S1x128.size inb_S1x1024_S1x128_0_128).toLoadRect (harg7.unread x5)) (wts arg6 harg6 x4 128 (by decide))) (ix2 i j)).trans
      (taps_ok 0 128 (by decide) (rows_cov 0 (fun r c' _ => rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 r c') arg12.view 0 128 (by decide) (by decide) (by decide)) (bias_ok arg7 harg7 x5 128 (by decide)) (wts_apply arg6 harg6 x4 128 (by decide)) i j)
  have p3 := p2.step 2 0 256 rfl rfl (by decide) (inb := inb_S256x1024_S128x128_0_256) fun i j =>
    (congrFun (tile2 (arg12.view.readCov (sl.HS0_2 (F := Ideal) c arg2 harg2 arg3 harg3 arg4 harg4 arg5 harg5 x0 x1 x2 x3) (Rect.unit (s := S288x1024) ![0, 256] S160x128.size inb_S288x1024_S160x128_0_256).toLoadRect) (View.readAt (Elt Ideal) arg7.view (Rect.unit (s := S1x1024) ![0, 256] S1x128.size inb_S1x1024_S1x128_0_256).toLoadRect (harg7.unread x5)) (wts arg6 harg6 x4 256 (by decide))) (ix2 i j)).trans
      (taps_ok 0 256 (by decide) (rows_cov 0 (fun r c' _ => rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 r c') arg12.view 0 256 (by decide) (by decide) (by decide)) (bias_ok arg7 harg7 x5 256 (by decide)) (wts_apply arg6 harg6 x4 256 (by decide)) i j)
  have p4 := p3.step 3 0 384 rfl rfl (by decide) (inb := inb_S256x1024_S128x128_0_384) fun i j =>
    (congrFun (tile3 (arg12.view.readCov (sl.HS0_2 (F := Ideal) c arg2 harg2 arg3 harg3 arg4 harg4 arg5 harg5 x0 x1 x2 x3) (Rect.unit (s := S288x1024) ![0, 384] S160x128.size inb_S288x1024_S160x128_0_384).toLoadRect) (View.readAt (Elt Ideal) arg7.view (Rect.unit (s := S1x1024) ![0, 384] S1x128.size inb_S1x1024_S1x128_0_384).toLoadRect (harg7.unread x5)) (wts arg6 harg6 x4 384 (by decide))) (ix2 i j)).trans
      (taps_ok 0 384 (by decide) (rows_cov 0 (fun r c' _ => rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 r c') arg12.view 0 384 (by decide) (by decide) (by decide)) (bias_ok arg7 harg7 x5 384 (by decide)) (wts_apply arg6 harg6 x4 384 (by decide)) i j)
  have p5 := p4.step 4 0 512 rfl rfl (by decide) (inb := inb_S256x1024_S128x128_0_512) fun i j =>
    (congrFun (tile4 (arg12.view.readCov (sl.HS0_2 (F := Ideal) c arg2 harg2 arg3 harg3 arg4 harg4 arg5 harg5 x0 x1 x2 x3) (Rect.unit (s := S288x1024) ![0, 512] S160x128.size inb_S288x1024_S160x128_0_512).toLoadRect) (View.readAt (Elt Ideal) arg7.view (Rect.unit (s := S1x1024) ![0, 512] S1x128.size inb_S1x1024_S1x128_0_512).toLoadRect (harg7.unread x5)) (wts arg6 harg6 x4 512 (by decide))) (ix2 i j)).trans
      (taps_ok 0 512 (by decide) (rows_cov 0 (fun r c' _ => rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 r c') arg12.view 0 512 (by decide) (by decide) (by decide)) (bias_ok arg7 harg7 x5 512 (by decide)) (wts_apply arg6 harg6 x4 512 (by decide)) i j)
  have p6 := p5.step 5 0 640 rfl rfl (by decide) (inb := inb_S256x1024_S128x128_0_640) fun i j =>
    (congrFun (tile5 (arg12.view.readCov (sl.HS0_2 (F := Ideal) c arg2 harg2 arg3 harg3 arg4 harg4 arg5 harg5 x0 x1 x2 x3) (Rect.unit (s := S288x1024) ![0, 640] S160x128.size inb_S288x1024_S160x128_0_640).toLoadRect) (View.readAt (Elt Ideal) arg7.view (Rect.unit (s := S1x1024) ![0, 640] S1x128.size inb_S1x1024_S1x128_0_640).toLoadRect (harg7.unread x5)) (wts arg6 harg6 x4 640 (by decide))) (ix2 i j)).trans
      (taps_ok 0 640 (by decide) (rows_cov 0 (fun r c' _ => rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 r c') arg12.view 0 640 (by decide) (by decide) (by decide)) (bias_ok arg7 harg7 x5 640 (by decide)) (wts_apply arg6 harg6 x4 640 (by decide)) i j)
  have p7 := p6.step 6 0 768 rfl rfl (by decide) (inb := inb_S256x1024_S128x128_0_768) fun i j =>
    (congrFun (tile6 (arg12.view.readCov (sl.HS0_2 (F := Ideal) c arg2 harg2 arg3 harg3 arg4 harg4 arg5 harg5 x0 x1 x2 x3) (Rect.unit (s := S288x1024) ![0, 768] S160x128.size inb_S288x1024_S160x128_0_768).toLoadRect) (View.readAt (Elt Ideal) arg7.view (Rect.unit (s := S1x1024) ![0, 768] S1x128.size inb_S1x1024_S1x128_0_768).toLoadRect (harg7.unread x5)) (wts arg6 harg6 x4 768 (by decide))) (ix2 i j)).trans
      (taps_ok 0 768 (by decide) (rows_cov 0 (fun r c' _ => rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 r c') arg12.view 0 768 (by decide) (by decide) (by decide)) (bias_ok arg7 harg7 x5 768 (by decide)) (wts_apply arg6 harg6 x4 768 (by decide)) i j)
  have p8 := p7.step 7 0 896 rfl rfl (by decide) (inb := inb_S256x1024_S128x128_0_896) fun i j =>
    (congrFun (tile7 (arg12.view.readCov (sl.HS0_2 (F := Ideal) c arg2 harg2 arg3 harg3 arg4 harg4 arg5 harg5 x0 x1 x2 x3) (Rect.unit (s := S288x1024) ![0, 896] S160x128.size inb_S288x1024_S160x128_0_896).toLoadRect) (View.readAt (Elt Ideal) arg7.view (Rect.unit (s := S1x1024) ![0, 896] S1x128.size inb_S1x1024_S1x128_0_896).toLoadRect (harg7.unread x5)) (wts arg6 harg6 x4 896 (by decide))) (ix2 i j)).trans
      (taps_ok 0 896 (by decide) (rows_cov 0 (fun r c' _ => rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 r c') arg12.view 0 896 (by decide) (by decide) (by decide)) (bias_ok arg7 harg7 x5 896 (by decide)) (wts_apply arg6 harg6 x4 896 (by decide)) i j)
  have p9 := p8.step 8 128 0 rfl rfl (by decide) (inb := inb_S256x1024_S128x128_128_0) fun i j =>
    (congrFun (tile8 (arg12.view.readCov (sl.HS0_2 (F := Ideal) c arg2 harg2 arg3 harg3 arg4 harg4 arg5 harg5 x0 x1 x2 x3) (Rect.unit (s := S288x1024) ![128, 0] S160x128.size inb_S288x1024_S160x128_128_0).toLoadRect) (View.readAt (Elt Ideal) arg7.view (Rect.unit (s := S1x1024) ![0, 0] S1x128.size inb_S1x1024_S1x128_0_0).toLoadRect (harg7.unread x5)) (wts arg6 harg6 x4 0 (by decide))) (ix2 i j)).trans
      (taps_ok 128 0 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8) arg12.view 128 0 (by decide) (by decide) (by decide)) (bias_ok arg7 harg7 x5 0 (by decide)) (wts_apply arg6 harg6 x4 0 (by decide)) i j)
  have p10 := p9.step 9 128 128 rfl rfl (by decide) (inb := inb_S256x1024_S128x128_128_128) fun i j =>
    (congrFun (tile9 (arg12.view.readCov (sl.HS0_2 (F := Ideal) c arg2 harg2 arg3 harg3 arg4 harg4 arg5 harg5 x0 x1 x2 x3) (Rect.unit (s := S288x1024) ![128, 128] S160x128.size inb_S288x1024_S160x128_128_128).toLoadRect) (View.readAt (Elt Ideal) arg7.view (Rect.unit (s := S1x1024) ![0, 128] S1x128.size inb_S1x1024_S1x128_0_128).toLoadRect (harg7.unread x5)) (wts arg6 harg6 x4 128 (by decide))) (ix2 i j)).trans
      (taps_ok 128 128 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8) arg12.view 128 128 (by decide) (by decide) (by decide)) (bias_ok arg7 harg7 x5 128 (by decide)) (wts_apply arg6 harg6 x4 128 (by decide)) i j)
  have p11 := p10.step 10 128 256 rfl rfl (by decide) (inb := inb_S256x1024_S128x128_128_256) fun i j =>
    (congrFun (tile10 (arg12.view.readCov (sl.HS0_2 (F := Ideal) c arg2 harg2 arg3 harg3 arg4 harg4 arg5 harg5 x0 x1 x2 x3) (Rect.unit (s := S288x1024) ![128, 256] S160x128.size inb_S288x1024_S160x128_128_256).toLoadRect) (View.readAt (Elt Ideal) arg7.view (Rect.unit (s := S1x1024) ![0, 256] S1x128.size inb_S1x1024_S1x128_0_256).toLoadRect (harg7.unread x5)) (wts arg6 harg6 x4 256 (by decide))) (ix2 i j)).trans
      (taps_ok 128 256 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8) arg12.view 128 256 (by decide) (by decide) (by decide)) (bias_ok arg7 harg7 x5 256 (by decide)) (wts_apply arg6 harg6 x4 256 (by decide)) i j)
  have p12 := p11.step 11 128 384 rfl rfl (by decide) (inb := inb_S256x1024_S128x128_128_384) fun i j =>
    (congrFun (tile11 (arg12.view.readCov (sl.HS0_2 (F := Ideal) c arg2 harg2 arg3 harg3 arg4 harg4 arg5 harg5 x0 x1 x2 x3) (Rect.unit (s := S288x1024) ![128, 384] S160x128.size inb_S288x1024_S160x128_128_384).toLoadRect) (View.readAt (Elt Ideal) arg7.view (Rect.unit (s := S1x1024) ![0, 384] S1x128.size inb_S1x1024_S1x128_0_384).toLoadRect (harg7.unread x5)) (wts arg6 harg6 x4 384 (by decide))) (ix2 i j)).trans
      (taps_ok 128 384 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8) arg12.view 128 384 (by decide) (by decide) (by decide)) (bias_ok arg7 harg7 x5 384 (by decide)) (wts_apply arg6 harg6 x4 384 (by decide)) i j)
  have p13 := p12.step 12 128 512 rfl rfl (by decide) (inb := inb_S256x1024_S128x128_128_512) fun i j =>
    (congrFun (tile12 (arg12.view.readCov (sl.HS0_2 (F := Ideal) c arg2 harg2 arg3 harg3 arg4 harg4 arg5 harg5 x0 x1 x2 x3) (Rect.unit (s := S288x1024) ![128, 512] S160x128.size inb_S288x1024_S160x128_128_512).toLoadRect) (View.readAt (Elt Ideal) arg7.view (Rect.unit (s := S1x1024) ![0, 512] S1x128.size inb_S1x1024_S1x128_0_512).toLoadRect (harg7.unread x5)) (wts arg6 harg6 x4 512 (by decide))) (ix2 i j)).trans
      (taps_ok 128 512 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8) arg12.view 128 512 (by decide) (by decide) (by decide)) (bias_ok arg7 harg7 x5 512 (by decide)) (wts_apply arg6 harg6 x4 512 (by decide)) i j)
  have p14 := p13.step 13 128 640 rfl rfl (by decide) (inb := inb_S256x1024_S128x128_128_640) fun i j =>
    (congrFun (tile13 (arg12.view.readCov (sl.HS0_2 (F := Ideal) c arg2 harg2 arg3 harg3 arg4 harg4 arg5 harg5 x0 x1 x2 x3) (Rect.unit (s := S288x1024) ![128, 640] S160x128.size inb_S288x1024_S160x128_128_640).toLoadRect) (View.readAt (Elt Ideal) arg7.view (Rect.unit (s := S1x1024) ![0, 640] S1x128.size inb_S1x1024_S1x128_0_640).toLoadRect (harg7.unread x5)) (wts arg6 harg6 x4 640 (by decide))) (ix2 i j)).trans
      (taps_ok 128 640 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8) arg12.view 128 640 (by decide) (by decide) (by decide)) (bias_ok arg7 harg7 x5 640 (by decide)) (wts_apply arg6 harg6 x4 640 (by decide)) i j)
  have p15 := p14.step 14 128 768 rfl rfl (by decide) (inb := inb_S256x1024_S128x128_128_768) fun i j =>
    (congrFun (tile14 (arg12.view.readCov (sl.HS0_2 (F := Ideal) c arg2 harg2 arg3 harg3 arg4 harg4 arg5 harg5 x0 x1 x2 x3) (Rect.unit (s := S288x1024) ![128, 768] S160x128.size inb_S288x1024_S160x128_128_768).toLoadRect) (View.readAt (Elt Ideal) arg7.view (Rect.unit (s := S1x1024) ![0, 768] S1x128.size inb_S1x1024_S1x128_0_768).toLoadRect (harg7.unread x5)) (wts arg6 harg6 x4 768 (by decide))) (ix2 i j)).trans
      (taps_ok 128 768 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8) arg12.view 128 768 (by decide) (by decide) (by decide)) (bias_ok arg7 harg7 x5 768 (by decide)) (wts_apply arg6 harg6 x4 768 (by decide)) i j)
  have p16 := p15.step 15 128 896 rfl rfl (by decide) (inb := inb_S256x1024_S128x128_128_896) fun i j =>
    (congrFun (tile15 (arg12.view.readCov (sl.HS0_2 (F := Ideal) c arg2 harg2 arg3 harg3 arg4 harg4 arg5 harg5 x0 x1 x2 x3) (Rect.unit (s := S288x1024) ![128, 896] S160x128.size inb_S288x1024_S160x128_128_896).toLoadRect) (View.readAt (Elt Ideal) arg7.view (Rect.unit (s := S1x1024) ![0, 896] S1x128.size inb_S1x1024_S1x128_0_896).toLoadRect (harg7.unread x5)) (wts arg6 harg6 x4 896 (by decide))) (ix2 i j)).trans
      (taps_ok 128 896 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8) arg12.view 128 896 (by decide) (by decide) (by decide)) (bias_ok arg7 harg7 x5 896 (by decide)) (wts_apply arg6 harg6 x4 896 (by decide)) i j)
  unfold sl.HS1_16
  exact p16

/-- What the body stores. -/
theorem stored (i : grid0.Coords) (c : Dev nD) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S288x1024 .f32) (harg12 : arg12.IsWhole) (arg13 : Memref sig .tc .vmem S256x1024 .f32) (harg13 : arg13.IsWhole) (hc0 : cond0_0 i) (x0 : Vec Ideal S1x256x1024 .f32) (x1 : Vec Ideal S1x1024 .f32) (x2 : Vec Ideal S1024x2048 .bf16) (x3 : Vec Ideal S1x2048 .f32) (x4 : Vec Ideal S32x1024 .f32) (x5 : Vec Ideal S1x1024 .f32) (x6 : Vec Ideal S1x1024 .f32) (x7 : Vec Ideal S1x1024 .f32) (x8 : Vec Ideal S1024x1024 .bf16) (r : Fin 256) (c' : Fin 1024) :
    out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 r c')
      = outRow (fun k => x0 (ix3 0 r k)) (conv (near (fun _ _ => 0) x0 x1 x2 x3) (fun k c => x4 (ix2 ⟨k.val, by omega⟩ c)) (fun c => x5 (ix2 0 c)) r.val) (fun k => x6 (ix2 0 k)) (fun k => x7 (ix2 0 k)) (fun k j => x8 (ix2 k j)) c' := by
  unfold out0_A_9
  rw [View.read_writes_junk_apply_eq_canon]
  unfold kernelRun0_A
  refine (congrFun (View.canon_cons_unit_zero (S := S1x256x1024) (by funext a; fin_cases a <;> rfl) _ _ _) _).trans ?_
  unfold sl.r_183 sl.r sl.v3254
  rw [out_apply, full_ok harg2, full_ok harg8, full_ok harg9, full_ok harg10]
  refine outRow_congr (fun _ => rfl) (fun k => ?_) (fun _ => rfl) (fun _ => rfl) (fun _ _ => rfl) c'
  rw [View.readCov_eq_canon']
  refine (congrArg (View.canon _) (whole_idx _)).trans (done c arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 r k) ?_)
  show 8 * (r.val / 128) + k.val / 128 < 16
  omega

/-- What the body leaves for the next tile: the block's last 32 gated rows. -/
theorem left (p : Fin 32 → Fin 1024 → EReal) (i : grid0.Coords) (c : Dev nD) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S288x1024 .f32) (harg12 : arg12.IsWhole) (arg13 : Memref sig .tc .vmem S256x1024 .f32) (harg13 : arg13.IsWhole) (hc0 : cond0_0 i) (x0 : Vec Ideal S1x256x1024 .f32) (x1 : Vec Ideal S1x1024 .f32) (x2 : Vec Ideal S1024x2048 .bf16) (x3 : Vec Ideal S1x2048 .f32) (x4 : Vec Ideal S32x1024 .f32) (x5 : Vec Ideal S1x1024 .f32) (x6 : Vec Ideal S1x1024 .f32) (x7 : Vec Ideal S1x1024 .f32) (x8 : Vec Ideal S1024x1024 .bf16) (r : Fin 32) (c' : Fin 1024) :
    sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 ⟨r.val, by omega⟩ c') = near p x0 x1 x2 x3 (256 + r.val) c' := by
  unfold sout0_A_0
  rw [View.read_writes_junk_apply_eq_canon]
  unfold kernelRun0_A
  refine (top_rows _ _ r c').trans ?_
  unfold sl.v3250
  rw [pay201_apply, View.readCov_eq_canon']
  exact (congrArg (View.canon _) (last_idx r c')).trans (rows_own p c arg2 harg2 arg3 harg3 arg4 harg4 arg5 harg5 arg6 harg6 arg7 harg7 arg8 harg8 arg9 harg9 arg10 harg10 arg11 harg11 arg12 harg12 arg13 harg13 x0 x1 x2 x3 x4 x5 x6 x7 x8 _ c' (by show 32 ≤ 256 + r.val; omega))

end Cert.ConvIdeal.First

end
-- ==== Proof.ConvNext.lean ====
/-
  The convolution kernel's body at a later tile: what it leaves in the scratch arrays and stores.
-/
module

public import proofs.«01_k».proof.Proof.ConvState
public import proofs.«01_k».proof.Proof.Gen.ConvIdeal.Frame
public import proofs.«01_k».proof.Proof.Gen.ConvIdeal.Frame

@[expose] public section

set_option maxRecDepth 100000

noncomputable section

namespace Cert.ConvIdeal.Next

open Cert.ConvIdeal Cert.ConvIdeal.Gen Cert.ConvIdeal.Gen.kernelRun0_B Cert.ConvIdeal.Tile Cert.ConvIdeal.State Cert.Conv.Spec Cert.Ffn.Spec
open Idealize.ShloMosaic Idealize.ShloMosaic.TcCoe Idealize.ShloMosaic.Tactic Idealize.SL.Sem

/-- The rows from the block's own on, from the writes alone. -/
theorem rows_own (p : Fin 32 → Fin 1024 → EReal) (c : Dev nD) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S288x1024 .f32) (harg12 : arg12.IsWhole) (arg13 : Memref sig .tc .vmem S256x1024 .f32) (harg13 : arg13.IsWhole) (x0 : Vec Ideal S1x256x1024 .f32) (x1 : Vec Ideal S1x1024 .f32) (x2 : Vec Ideal S1024x2048 .bf16) (x3 : Vec Ideal S1x2048 .f32) (x4 : Vec Ideal S32x1024 .f32) (x5 : Vec Ideal S1x1024 .f32) (x6 : Vec Ideal S1x1024 .f32) (x7 : Vec Ideal S1x1024 .f32) (x8 : Vec Ideal S1024x1024 .bf16) (s : Vec Ideal S288x1024 .f32) (r : Fin 288) (c' : Fin 1024) (hr : 32 ≤ r.val) :
    View.canon (sl.HS0_1 (F := Ideal) c arg2 harg2 arg3 harg3 arg4 harg4 arg5 harg5 x0 x1 x2 x3) (ix2 r c') = near p x0 x1 x2 x3 r.val c' := by
  unfold sl.HS0_1
  rw [late_rows (p := p) _ _ _ _ r c' hr, full_ok harg2, full_ok harg3, full_ok harg4, full_ok harg5]

/-- All the rows, over what the point before left. -/
theorem rows_all (c : Dev nD) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S288x1024 .f32) (harg12 : arg12.IsWhole) (arg13 : Memref sig .tc .vmem S256x1024 .f32) (harg13 : arg13.IsWhole) (x0 : Vec Ideal S1x256x1024 .f32) (x1 : Vec Ideal S1x1024 .f32) (x2 : Vec Ideal S1024x2048 .bf16) (x3 : Vec Ideal S1x2048 .f32) (x4 : Vec Ideal S32x1024 .f32) (x5 : Vec Ideal S1x1024 .f32) (x6 : Vec Ideal S1x1024 .f32) (x7 : Vec Ideal S1x1024 .f32) (x8 : Vec Ideal S1024x1024 .bf16) (s : Vec Ideal S288x1024 .f32) (r : Fin 288) (c' : Fin 1024) :
    arg12.view.read (Elt Ideal) (arg12.view.writes (Elt Ideal) (harg12.unread s) (sl.HS0_1 (F := Ideal) c arg2 harg2 arg3 harg3 arg4 harg4 arg5 harg5 x0 x1 x2 x3)) (ix2 r c') = (near (fun r c => s (ix2 ⟨r.val, by omega⟩ c)) x0 x1 x2 x3) r.val c' := by
  unfold sl.HS0_1
  rw [next_rows, full_ok harg2, full_ok harg3, full_ok harg4, full_ok harg5]

set_option maxHeartbeats 4000000 in
/-- The second scratch array holds the convolution. -/
theorem done (c : Dev nD) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S288x1024 .f32) (harg12 : arg12.IsWhole) (arg13 : Memref sig .tc .vmem S256x1024 .f32) (harg13 : arg13.IsWhole) (x0 : Vec Ideal S1x256x1024 .f32) (x1 : Vec Ideal S1x1024 .f32) (x2 : Vec Ideal S1024x2048 .bf16) (x3 : Vec Ideal S1x2048 .f32) (x4 : Vec Ideal S32x1024 .f32) (x5 : Vec Ideal S1x1024 .f32) (x6 : Vec Ideal S1x1024 .f32) (x7 : Vec Ideal S1x1024 .f32) (x8 : Vec Ideal S1024x1024 .bf16) (s : Vec Ideal S288x1024 .f32) :
    PC (near (fun r c => s (ix2 ⟨r.val, by omega⟩ c)) x0 x1 x2 x3) (fun k c => x4 (ix2 ⟨k.val, by omega⟩ c)) (fun c => x5 (ix2 0 c)) 16 (sl.HS1_16 (F := Ideal) c arg2 harg2 arg3 harg3 arg4 harg4 arg5 harg5 arg6 harg6 arg7 harg7 arg12 harg12 x0 x1 x2 x3 x4 x5 s) := by
  have p0 : PC (near (fun r c => s (ix2 ⟨r.val, by omega⟩ c)) x0 x1 x2 x3) (fun k c => x4 (ix2 ⟨k.val, by omega⟩ c)) (fun c => x5 (ix2 0 c)) 0 [] := fun y h => absurd h (Nat.not_lt_zero _)
  have p1 := p0.step 0 0 0 rfl rfl (by decide) (inb := inb_S256x1024_S128x128_0_0) fun i j =>
    (congrFun (tile0 (View.readAt (Elt Ideal) arg12.view (Rect.unit (s := S288x1024) ![0, 0] S160x128.size inb_S288x1024_S160x128_0_0).toLoadRect (arg12.view.writes (Elt Ideal) (harg12.unread s) (sl.HS0_1 (F := Ideal) c arg2 harg2 arg3 harg3 arg4 harg4 arg5 harg5 x0 x1 x2 x3))) (View.readAt (Elt Ideal) arg7.view (Rect.unit (s := S1x1024) ![0, 0] S1x128.size inb_S1x1024_S1x128_0_0).toLoadRect (harg7.unread x5)) (wts arg6 harg6 x4 0 (by decide))) (ix2 i j)).trans
      (taps_ok 0 0 (by decide) (rows_over (rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) 0 0 (by decide) (by decide)) (bias_ok arg7 harg7 x5 0 (by decide)) (wts_apply arg6 harg6 x4 0 (by decide)) i j)
  have p2 := p1.step 1 0 128 rfl rfl (by decide) (inb := inb_S256x1024_S128x128_0_128) fun i j =>
    (congrFun (tile1 (View.readAt (Elt Ideal) arg12.view (Rect.unit (s := S288x1024) ![0, 128] S160x128.size inb_S288x1024_S160x128_0_128).toLoadRect (arg12.view.writes (Elt Ideal) (harg12.unread s) (sl.HS0_1 (F := Ideal) c arg2 harg2 arg3 harg3 arg4 harg4 arg5 harg5 x0 x1 x2 x3))) (View.readAt (Elt Ideal) arg7.view (Rect.unit (s := S1x1024) ![0, 128] S1x128.size inb_S1x1024_S1x128_0_128).toLoadRect (harg7.unread x5)) (wts arg6 harg6 x4 128 (by decide))) (ix2 i j)).trans
      (taps_ok 0 128 (by decide) (rows_over (rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) 0 128 (by decide) (by decide)) (bias_ok arg7 harg7 x5 128 (by decide)) (wts_apply arg6 harg6 x4 128 (by decide)) i j)
  have p3 := p2.step 2 0 256 rfl rfl (by decide) (inb := inb_S256x1024_S128x128_0_256) fun i j =>
    (congrFun (tile2 (View.readAt (Elt Ideal) arg12.view (Rect.unit (s := S288x1024) ![0, 256] S160x128.size inb_S288x1024_S160x128_0_256).toLoadRect (arg12.view.writes (Elt Ideal) (harg12.unread s) (sl.HS0_1 (F := Ideal) c arg2 harg2 arg3 harg3 arg4 harg4 arg5 harg5 x0 x1 x2 x3))) (View.readAt (Elt Ideal) arg7.view (Rect.unit (s := S1x1024) ![0, 256] S1x128.size inb_S1x1024_S1x128_0_256).toLoadRect (harg7.unread x5)) (wts arg6 harg6 x4 256 (by decide))) (ix2 i j)).trans
      (taps_ok 0 256 (by decide) (rows_over (rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) 0 256 (by decide) (by decide)) (bias_ok arg7 harg7 x5 256 (by decide)) (wts_apply arg6 harg6 x4 256 (by decide)) i j)
  have p4 := p3.step 3 0 384 rfl rfl (by decide) (inb := inb_S256x1024_S128x128_0_384) fun i j =>
    (congrFun (tile3 (View.readAt (Elt Ideal) arg12.view (Rect.unit (s := S288x1024) ![0, 384] S160x128.size inb_S288x1024_S160x128_0_384).toLoadRect (arg12.view.writes (Elt Ideal) (harg12.unread s) (sl.HS0_1 (F := Ideal) c arg2 harg2 arg3 harg3 arg4 harg4 arg5 harg5 x0 x1 x2 x3))) (View.readAt (Elt Ideal) arg7.view (Rect.unit (s := S1x1024) ![0, 384] S1x128.size inb_S1x1024_S1x128_0_384).toLoadRect (harg7.unread x5)) (wts arg6 harg6 x4 384 (by decide))) (ix2 i j)).trans
      (taps_ok 0 384 (by decide) (rows_over (rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) 0 384 (by decide) (by decide)) (bias_ok arg7 harg7 x5 384 (by decide)) (wts_apply arg6 harg6 x4 384 (by decide)) i j)
  have p5 := p4.step 4 0 512 rfl rfl (by decide) (inb := inb_S256x1024_S128x128_0_512) fun i j =>
    (congrFun (tile4 (View.readAt (Elt Ideal) arg12.view (Rect.unit (s := S288x1024) ![0, 512] S160x128.size inb_S288x1024_S160x128_0_512).toLoadRect (arg12.view.writes (Elt Ideal) (harg12.unread s) (sl.HS0_1 (F := Ideal) c arg2 harg2 arg3 harg3 arg4 harg4 arg5 harg5 x0 x1 x2 x3))) (View.readAt (Elt Ideal) arg7.view (Rect.unit (s := S1x1024) ![0, 512] S1x128.size inb_S1x1024_S1x128_0_512).toLoadRect (harg7.unread x5)) (wts arg6 harg6 x4 512 (by decide))) (ix2 i j)).trans
      (taps_ok 0 512 (by decide) (rows_over (rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) 0 512 (by decide) (by decide)) (bias_ok arg7 harg7 x5 512 (by decide)) (wts_apply arg6 harg6 x4 512 (by decide)) i j)
  have p6 := p5.step 5 0 640 rfl rfl (by decide) (inb := inb_S256x1024_S128x128_0_640) fun i j =>
    (congrFun (tile5 (View.readAt (Elt Ideal) arg12.view (Rect.unit (s := S288x1024) ![0, 640] S160x128.size inb_S288x1024_S160x128_0_640).toLoadRect (arg12.view.writes (Elt Ideal) (harg12.unread s) (sl.HS0_1 (F := Ideal) c arg2 harg2 arg3 harg3 arg4 harg4 arg5 harg5 x0 x1 x2 x3))) (View.readAt (Elt Ideal) arg7.view (Rect.unit (s := S1x1024) ![0, 640] S1x128.size inb_S1x1024_S1x128_0_640).toLoadRect (harg7.unread x5)) (wts arg6 harg6 x4 640 (by decide))) (ix2 i j)).trans
      (taps_ok 0 640 (by decide) (rows_over (rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) 0 640 (by decide) (by decide)) (bias_ok arg7 harg7 x5 640 (by decide)) (wts_apply arg6 harg6 x4 640 (by decide)) i j)
  have p7 := p6.step 6 0 768 rfl rfl (by decide) (inb := inb_S256x1024_S128x128_0_768) fun i j =>
    (congrFun (tile6 (View.readAt (Elt Ideal) arg12.view (Rect.unit (s := S288x1024) ![0, 768] S160x128.size inb_S288x1024_S160x128_0_768).toLoadRect (arg12.view.writes (Elt Ideal) (harg12.unread s) (sl.HS0_1 (F := Ideal) c arg2 harg2 arg3 harg3 arg4 harg4 arg5 harg5 x0 x1 x2 x3))) (View.readAt (Elt Ideal) arg7.view (Rect.unit (s := S1x1024) ![0, 768] S1x128.size inb_S1x1024_S1x128_0_768).toLoadRect (harg7.unread x5)) (wts arg6 harg6 x4 768 (by decide))) (ix2 i j)).trans
      (taps_ok 0 768 (by decide) (rows_over (rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) 0 768 (by decide) (by decide)) (bias_ok arg7 harg7 x5 768 (by decide)) (wts_apply arg6 harg6 x4 768 (by decide)) i j)
  have p8 := p7.step 7 0 896 rfl rfl (by decide) (inb := inb_S256x1024_S128x128_0_896) fun i j =>
    (congrFun (tile7 (View.readAt (Elt Ideal) arg12.view (Rect.unit (s := S288x1024) ![0, 896] S160x128.size inb_S288x1024_S160x128_0_896).toLoadRect (arg12.view.writes (Elt Ideal) (harg12.unread s) (sl.HS0_1 (F := Ideal) c arg2 harg2 arg3 harg3 arg4 harg4 arg5 harg5 x0 x1 x2 x3))) (View.readAt (Elt Ideal) arg7.view (Rect.unit (s := S1x1024) ![0, 896] S1x128.size inb_S1x1024_S1x128_0_896).toLoadRect (harg7.unread x5)) (wts arg6 harg6 x4 896 (by decide))) (ix2 i j)).trans
      (taps_ok 0 896 (by decide) (rows_over (rows_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) 0 896 (by decide) (by decide)) (bias_ok arg7 harg7 x5 896 (by decide)) (wts_apply arg6 harg6 x4 896 (by decide)) i j)
  have p9 := p8.step 8 128 0 rfl rfl (by decide) (inb := inb_S256x1024_S128x128_128_0) fun i j =>
    (congrFun (tile8 (arg12.view.readCov (sl.HS0_1 (F := Ideal) c arg2 harg2 arg3 harg3 arg4 harg4 arg5 harg5 x0 x1 x2 x3) (Rect.unit (s := S288x1024) ![128, 0] S160x128.size inb_S288x1024_S160x128_128_0).toLoadRect) (View.readAt (Elt Ideal) arg7.view (Rect.unit (s := S1x1024) ![0, 0] S1x128.size inb_S1x1024_S1x128_0_0).toLoadRect (harg7.unread x5)) (wts arg6 harg6 x4 0 (by decide))) (ix2 i j)).trans
      (taps_ok 128 0 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) arg12.view 128 0 (by decide) (by decide) (by decide)) (bias_ok arg7 harg7 x5 0 (by decide)) (wts_apply arg6 harg6 x4 0 (by decide)) i j)
  have p10 := p9.step 9 128 128 rfl rfl (by decide) (inb := inb_S256x1024_S128x128_128_128) fun i j =>
    (congrFun (tile9 (arg12.view.readCov (sl.HS0_1 (F := Ideal) c arg2 harg2 arg3 harg3 arg4 harg4 arg5 harg5 x0 x1 x2 x3) (Rect.unit (s := S288x1024) ![128, 128] S160x128.size inb_S288x1024_S160x128_128_128).toLoadRect) (View.readAt (Elt Ideal) arg7.view (Rect.unit (s := S1x1024) ![0, 128] S1x128.size inb_S1x1024_S1x128_0_128).toLoadRect (harg7.unread x5)) (wts arg6 harg6 x4 128 (by decide))) (ix2 i j)).trans
      (taps_ok 128 128 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) arg12.view 128 128 (by decide) (by decide) (by decide)) (bias_ok arg7 harg7 x5 128 (by decide)) (wts_apply arg6 harg6 x4 128 (by decide)) i j)
  have p11 := p10.step 10 128 256 rfl rfl (by decide) (inb := inb_S256x1024_S128x128_128_256) fun i j =>
    (congrFun (tile10 (arg12.view.readCov (sl.HS0_1 (F := Ideal) c arg2 harg2 arg3 harg3 arg4 harg4 arg5 harg5 x0 x1 x2 x3) (Rect.unit (s := S288x1024) ![128, 256] S160x128.size inb_S288x1024_S160x128_128_256).toLoadRect) (View.readAt (Elt Ideal) arg7.view (Rect.unit (s := S1x1024) ![0, 256] S1x128.size inb_S1x1024_S1x128_0_256).toLoadRect (harg7.unread x5)) (wts arg6 harg6 x4 256 (by decide))) (ix2 i j)).trans
      (taps_ok 128 256 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) arg12.view 128 256 (by decide) (by decide) (by decide)) (bias_ok arg7 harg7 x5 256 (by decide)) (wts_apply arg6 harg6 x4 256 (by decide)) i j)
  have p12 := p11.step 11 128 384 rfl rfl (by decide) (inb := inb_S256x1024_S128x128_128_384) fun i j =>
    (congrFun (tile11 (arg12.view.readCov (sl.HS0_1 (F := Ideal) c arg2 harg2 arg3 harg3 arg4 harg4 arg5 harg5 x0 x1 x2 x3) (Rect.unit (s := S288x1024) ![128, 384] S160x128.size inb_S288x1024_S160x128_128_384).toLoadRect) (View.readAt (Elt Ideal) arg7.view (Rect.unit (s := S1x1024) ![0, 384] S1x128.size inb_S1x1024_S1x128_0_384).toLoadRect (harg7.unread x5)) (wts arg6 harg6 x4 384 (by decide))) (ix2 i j)).trans
      (taps_ok 128 384 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) arg12.view 128 384 (by decide) (by decide) (by decide)) (bias_ok arg7 harg7 x5 384 (by decide)) (wts_apply arg6 harg6 x4 384 (by decide)) i j)
  have p13 := p12.step 12 128 512 rfl rfl (by decide) (inb := inb_S256x1024_S128x128_128_512) fun i j =>
    (congrFun (tile12 (arg12.view.readCov (sl.HS0_1 (F := Ideal) c arg2 harg2 arg3 harg3 arg4 harg4 arg5 harg5 x0 x1 x2 x3) (Rect.unit (s := S288x1024) ![128, 512] S160x128.size inb_S288x1024_S160x128_128_512).toLoadRect) (View.readAt (Elt Ideal) arg7.view (Rect.unit (s := S1x1024) ![0, 512] S1x128.size inb_S1x1024_S1x128_0_512).toLoadRect (harg7.unread x5)) (wts arg6 harg6 x4 512 (by decide))) (ix2 i j)).trans
      (taps_ok 128 512 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) arg12.view 128 512 (by decide) (by decide) (by decide)) (bias_ok arg7 harg7 x5 512 (by decide)) (wts_apply arg6 harg6 x4 512 (by decide)) i j)
  have p14 := p13.step 13 128 640 rfl rfl (by decide) (inb := inb_S256x1024_S128x128_128_640) fun i j =>
    (congrFun (tile13 (arg12.view.readCov (sl.HS0_1 (F := Ideal) c arg2 harg2 arg3 harg3 arg4 harg4 arg5 harg5 x0 x1 x2 x3) (Rect.unit (s := S288x1024) ![128, 640] S160x128.size inb_S288x1024_S160x128_128_640).toLoadRect) (View.readAt (Elt Ideal) arg7.view (Rect.unit (s := S1x1024) ![0, 640] S1x128.size inb_S1x1024_S1x128_0_640).toLoadRect (harg7.unread x5)) (wts arg6 harg6 x4 640 (by decide))) (ix2 i j)).trans
      (taps_ok 128 640 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) arg12.view 128 640 (by decide) (by decide) (by decide)) (bias_ok arg7 harg7 x5 640 (by decide)) (wts_apply arg6 harg6 x4 640 (by decide)) i j)
  have p15 := p14.step 14 128 768 rfl rfl (by decide) (inb := inb_S256x1024_S128x128_128_768) fun i j =>
    (congrFun (tile14 (arg12.view.readCov (sl.HS0_1 (F := Ideal) c arg2 harg2 arg3 harg3 arg4 harg4 arg5 harg5 x0 x1 x2 x3) (Rect.unit (s := S288x1024) ![128, 768] S160x128.size inb_S288x1024_S160x128_128_768).toLoadRect) (View.readAt (Elt Ideal) arg7.view (Rect.unit (s := S1x1024) ![0, 768] S1x128.size inb_S1x1024_S1x128_0_768).toLoadRect (harg7.unread x5)) (wts arg6 harg6 x4 768 (by decide))) (ix2 i j)).trans
      (taps_ok 128 768 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) arg12.view 128 768 (by decide) (by decide) (by decide)) (bias_ok arg7 harg7 x5 768 (by decide)) (wts_apply arg6 harg6 x4 768 (by decide)) i j)
  have p16 := p15.step 15 128 896 rfl rfl (by decide) (inb := inb_S256x1024_S128x128_128_896) fun i j =>
    (congrFun (tile15 (arg12.view.readCov (sl.HS0_1 (F := Ideal) c arg2 harg2 arg3 harg3 arg4 harg4 arg5 harg5 x0 x1 x2 x3) (Rect.unit (s := S288x1024) ![128, 896] S160x128.size inb_S288x1024_S160x128_128_896).toLoadRect) (View.readAt (Elt Ideal) arg7.view (Rect.unit (s := S1x1024) ![0, 896] S1x128.size inb_S1x1024_S1x128_0_896).toLoadRect (harg7.unread x5)) (wts arg6 harg6 x4 896 (by decide))) (ix2 i j)).trans
      (taps_ok 128 896 (by decide) (rows_cov 32 (rows_own _ c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s) arg12.view 128 896 (by decide) (by decide) (by decide)) (bias_ok arg7 harg7 x5 896 (by decide)) (wts_apply arg6 harg6 x4 896 (by decide)) i j)
  unfold sl.HS1_16
  exact p16

/-- What the body stores. -/
theorem stored (i : grid0.Coords) (c : Dev nD) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S288x1024 .f32) (harg12 : arg12.IsWhole) (arg13 : Memref sig .tc .vmem S256x1024 .f32) (harg13 : arg13.IsWhole) (hc0 : ¬ cond0_0 i) (x0 : Vec Ideal S1x256x1024 .f32) (x1 : Vec Ideal S1x1024 .f32) (x2 : Vec Ideal S1024x2048 .bf16) (x3 : Vec Ideal S1x2048 .f32) (x4 : Vec Ideal S32x1024 .f32) (x5 : Vec Ideal S1x1024 .f32) (x6 : Vec Ideal S1x1024 .f32) (x7 : Vec Ideal S1x1024 .f32) (x8 : Vec Ideal S1024x1024 .bf16) (s : Vec Ideal S288x1024 .f32) (r : Fin 256) (c' : Fin 1024) :
    out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 s (ix3 0 r c')
      = outRow (fun k => x0 (ix3 0 r k)) (conv (near (fun r c => s (ix2 ⟨r.val, by omega⟩ c)) x0 x1 x2 x3) (fun k c => x4 (ix2 ⟨k.val, by omega⟩ c)) (fun c => x5 (ix2 0 c)) r.val) (fun k => x6 (ix2 0 k)) (fun k => x7 (ix2 0 k)) (fun k j => x8 (ix2 k j)) c' := by
  unfold out0_B_9
  rw [View.read_writes_junk_apply_eq_canon]
  unfold kernelRun0_B
  refine (congrFun (View.canon_cons_unit_zero (S := S1x256x1024) (by funext a; fin_cases a <;> rfl) _ _ _) _).trans ?_
  unfold sl.r_183 sl.r sl.v3254
  rw [out_apply, full_ok harg2, full_ok harg8, full_ok harg9, full_ok harg10]
  refine outRow_congr (fun _ => rfl) (fun k => ?_) (fun _ => rfl) (fun _ => rfl) (fun _ _ => rfl) c'
  rw [View.readCov_eq_canon']
  refine (congrArg (View.canon _) (whole_idx _)).trans (done c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s (ix2 r k) ?_)
  show 8 * (r.val / 128) + k.val / 128 < 16
  omega

/-- What the body leaves for the next tile: the block's last 32 gated rows. -/
theorem left (p : Fin 32 → Fin 1024 → EReal) (i : grid0.Coords) (c : Dev nD) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S288x1024 .f32) (harg12 : arg12.IsWhole) (arg13 : Memref sig .tc .vmem S256x1024 .f32) (harg13 : arg13.IsWhole) (hc0 : ¬ cond0_0 i) (x0 : Vec Ideal S1x256x1024 .f32) (x1 : Vec Ideal S1x1024 .f32) (x2 : Vec Ideal S1024x2048 .bf16) (x3 : Vec Ideal S1x2048 .f32) (x4 : Vec Ideal S32x1024 .f32) (x5 : Vec Ideal S1x1024 .f32) (x6 : Vec Ideal S1x1024 .f32) (x7 : Vec Ideal S1x1024 .f32) (x8 : Vec Ideal S1024x1024 .bf16) (s : Vec Ideal S288x1024 .f32) (r : Fin 32) (c' : Fin 1024) :
    sout0_B_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 s (ix2 ⟨r.val, by omega⟩ c') = near p x0 x1 x2 x3 (256 + r.val) c' := by
  unfold sout0_B_0
  rw [View.read_writes_junk_apply_eq_canon]
  unfold kernelRun0_B
  refine (top_rows _ _ r c').trans ?_
  unfold sl.v3250
  rw [pay201_apply, View.readCov_eq_canon']
  exact (congrArg (View.canon _) (last_idx r c')).trans (rows_own p c arg2 harg2 arg3 harg3 arg4 harg4 arg5 harg5 arg6 harg6 arg7 harg7 arg8 harg8 arg9 harg9 arg10 harg10 arg11 harg11 arg12 harg12 arg13 harg13 x0 x1 x2 x3 x4 x5 x6 x7 x8 s _ c' (by show 32 ≤ 256 + r.val; omega))

end Cert.ConvIdeal.Next

end
-- ==== Proof.ConvKernel.lean ====
/-
  The convolution mixer's result array: every grid point stores 256 rows of one sequence, reading the
  32 gated rows before them from what the point before left.
-/
module

public import proofs.«01_k».proof.Proof.ConvFirst
public import proofs.«01_k».proof.Proof.ConvNext
public import proofs.«01_k».proof.Proof.Gen.ConvIdeal.Value
public import Idealize.ShloMosaic.Lib.Routing.OpsSet

@[expose] public section

set_option maxRecDepth 16384

noncomputable section

namespace Cert.ConvIdeal.Rows

open Cert.ConvIdeal Cert.ConvIdeal.Gen Cert.ConvIdeal.State Cert.Conv.Spec Cert.Ffn.Spec Idealize.ShloMosaic Idealize.ShloMosaic.TcCoe Idealize.SL.Sem
open Idealize.ShloMosaic.Pipeline (Dat)
open scoped BigOperators

variable (m : (ℓ : Loc nD τ sig) → Buf (Elt Ideal) ℓ)

/-- The block each grid point reads of every array. -/
theorem idx : ∀ t : Fin cfg0.N, win0_0.index t = ![t.val / 16, t.val % 16, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val / 16, t.val % 16, 0] :=
  (by decide +kernel : ∀ t : Fin grid0.N, _)

/-- The padded taps' block is the whole of them, for any array. -/
theorem taps_read (t : Fin cfg0.N) (f : Vec Ideal S32x1024 .f32) (k : Fin 32) (j : Fin 1024) : (win0_4.blk t).view.read (Elt Ideal) f (ix2 k j) = f (ix2 k j) := by
  blk_ext [idx t]

/-- A sequence's gated rows, 32 late, over the arrays the windows read. -/
def U (c : Dev nD) (b : Fin 16) : ℕ → Fin 1024 → EReal :=
  late (seq fun s k => V m c main_arg0 (ix3 b s k)) (fun k => V m c main_v3 (ix2 0 k)) (fun k j => V m c main_v4 (ix2 k j)) (fun j => V m c main_v5 (ix2 0 j))

/-- A grid point's sequence. -/
def bat (t : Fin cfg0.N) : Fin 16 := ⟨t.val / 16, by have h : t.val < 256 := t.isLt; omega⟩

/-- The rows a point's block holds. -/
theorem iblk0 (c : Dev nD) (t : Fin cfg0.N) (r : Fin 256) (k : Fin 1024) :
    iblk m c 0 t (ix3 0 r k) = V m c main_arg0 (ix3 (bat t) ⟨256 * (t.val % 16) + r.val, by omega⟩ k) := by
  have e : (bat t).val = t.val / 16 := rfl
  blk_ext [iblk, idx t, e]

/-- The rows a point's taps read are the sequence's late rows, when those left by the point before are. -/
theorem near_late (c : Dev nD) (t : Fin cfg0.N) (p : Fin 32 → Fin 1024 → EReal) (hp : ∀ r j, p r j = U m c (bat t) (256 * (t.val % 16) + r.val) j)
    (r : ℕ) (hr : r < 288) (j : Fin 1024) : near p (iblk m c 0 t) (iblk m c 1 t) (iblk m c 2 t) (iblk m c 3 t) r j = U m c (bat t) (256 * (t.val % 16) + r) j := by
  unfold near
  by_cases h : r < 32
  · rw [dif_pos h]
    exact hp _ _
  · have h' : r - 32 < 256 := by omega
    rw [dif_neg h, dif_pos h']
    have e1 : ∀ k, iblk m c 1 t (ix2 0 k) = V m c main_v3 (ix2 0 k) := fun k => by blk_ext [iblk, idx t]
    have e2 : ∀ k j, iblk m c 2 t (ix2 k j) = V m c main_v4 (ix2 k j) := fun k j => by blk_ext [iblk, idx t]
    have e3 : ∀ k, iblk m c 3 t (ix2 0 k) = V m c main_v5 (ix2 0 k) := fun k => by blk_ext [iblk, idx t]
    have es := seq_apply (fun s k => V m c main_arg0 (ix3 (bat t) s k)) ⟨256 * (t.val % 16) + (r - 32), by omega⟩
    have en : 256 * (t.val % 16) + r - 32 = 256 * (t.val % 16) + (r - 32) := by omega
    unfold U late
    rw [if_neg (by omega), en]
    simp only [iblk0, e1, e2, e3]
    exact congrArg (fun y => glu (rmsRow y _) _ _ j) es.symm

/-- What a point leaves for the next: the late rows it starts from. -/
theorem carried (c : Dev nD) (t : Fin cfg0.N) (r : Fin 32) (j : Fin 1024) :
    (outsAt0 m c t.val t.isLt).2 (ix2 ⟨r.val, by omega⟩ j) = U m c (bat t) (256 * (t.val % 16 + 1) + r.val) j := by
  have e : 256 * (t.val % 16 + 1) + r.val = 256 * (t.val % 16) + (256 + r.val) := by omega
  rw [e, ← near_late m c t (fun r j => U m c (bat t) (256 * (t.val % 16) + r.val) j) (fun _ _ => rfl) (256 + r.val) (by omega) j]
  by_cases h0 : t.val % 16 = 0
  · rw [outsAt0_A m c t h0]
    dsimp only
    exact First.left _ _ c _ _ _ _ _ _ _ _ _ _ _ _ _ _ _ _ _ _ _ _ _ _ _ _ _ _ _ _ _ _ _ _ _ _ r j
  · rw [outsAt0_B m c t h0]
    dsimp only
    exact Next.left _ _ c _ _ _ _ _ _ _ _ _ _ _ _ _ _ _ _ _ _ _ _ _ _ _ _ _ _ _ _ _ _ _ _ _ _ _ r j

/-- What a point stores, over the blocks and the late rows. -/
theorem point_apply (c : Dev nD) (t : Fin cfg0.N) (r : Fin 256) (j : Fin 1024) : (outsAt0 m c t.val t.isLt).1 (ix3 0 r j)
    = outRow (fun k => iblk m c 0 t (ix3 0 r k)) (conv (U m c (bat t)) (fun k j => iblk m c 4 t (ix2 ⟨k.val, by omega⟩ j)) (fun j => iblk m c 5 t (ix2 0 j)) (256 * (t.val % 16) + r.val))
      (fun k => iblk m c 6 t (ix2 0 k)) (fun k => iblk m c 7 t (ix2 0 k)) (fun k j => iblk m c 8 t (ix2 k j)) j := by
  have fin : ∀ p : Fin 32 → Fin 1024 → EReal, (∀ r j, p r j = U m c (bat t) (256 * (t.val % 16) + r.val) j) →
      outRow (fun k => iblk m c 0 t (ix3 0 r k)) (conv (near p (iblk m c 0 t) (iblk m c 1 t) (iblk m c 2 t) (iblk m c 3 t)) (fun k j => iblk m c 4 t (ix2 ⟨k.val, by omega⟩ j)) (fun j => iblk m c 5 t (ix2 0 j)) r.val)
        (fun k => iblk m c 6 t (ix2 0 k)) (fun k => iblk m c 7 t (ix2 0 k)) (fun k j => iblk m c 8 t (ix2 k j)) j
      = outRow (fun k => iblk m c 0 t (ix3 0 r k)) (conv (U m c (bat t)) (fun k j => iblk m c 4 t (ix2 ⟨k.val, by omega⟩ j)) (fun j => iblk m c 5 t (ix2 0 j)) (256 * (t.val % 16) + r.val))
        (fun k => iblk m c 6 t (ix2 0 k)) (fun k => iblk m c 7 t (ix2 0 k)) (fun k j => iblk m c 8 t (ix2 k j)) j := fun p hp => by
    refine outRow_congr (fun _ => rfl) (conv_congr (fun k j => ?_) (fun _ _ => rfl) (fun _ => rfl)) (fun _ => rfl) (fun _ => rfl) (fun _ _ => rfl) j
    rw [near_late m c t p hp _ (by omega) j]
    congr 1
    omega
  by_cases h0 : t.val % 16 = 0
  · rw [outsAt0_A m c t h0]
    dsimp only
    refine (First.stored _ c _ _ _ _ _ _ _ _ _ _ _ _ _ _ _ _ _ _ _ _ _ _ _ _ _ _ _ _ _ _ _ _ _ _ r j).trans (fin _ fun r j => ?_)
    unfold U late
    rw [if_pos (by omega)]
  · rw [outsAt0_B m c t h0]
    dsimp only
    refine (Next.stored _ c _ _ _ _ _ _ _ _ _ _ _ _ _ _ _ _ _ _ _ _ _ _ _ _ _ _ _ _ _ _ _ _ _ _ _ r j).trans (fin _ fun r j => ?_)
    have hb : bat ⟨t.val - 1, Nat.lt_of_le_of_lt (Nat.sub_le _ _) t.isLt⟩ = bat t := Fin.ext (by show (t.val - 1) / 16 = t.val / 16; omega)
    have hs : (t.val - 1) % 16 + 1 = t.val % 16 := by omega
    refine (carried m c ⟨t.val - 1, Nat.lt_of_le_of_lt (Nat.sub_le _ _) t.isLt⟩ r j).trans ?_
    rw [hb]
    show U m c (bat t) (256 * ((t.val - 1) % 16 + 1) + r.val) j = _
    rw [hs]

/-- The result, at sequence `b`, position `s` and column `k`, over the arrays the windows read. -/
def G (c : Dev nD) : Vec Ideal S16x4096x1024 .f32 := fun i =>
  mixer (seq fun s k => V m c main_arg0 (ix3 (i 0) s k)) (fun k => V m c main_v3 (ix2 0 k)) (fun k j => V m c main_v4 (ix2 k j)) (fun j => V m c main_v5 (ix2 0 j))
    (fun k j => V m c main_v2 (ix2 ⟨k.val, by omega⟩ j)) (fun k => V m c main_v6 (ix2 0 k)) (fun k => V m c main_v7 (ix2 0 k)) (fun k => V m c main_v8 (ix2 0 k)) (fun k j => V m c main_v9 (ix2 k j)) (i 1).val (i 2)

/-- The result array after the run is that function of the arrays the windows read. -/
theorem final (c : Dev nD) : (dats m 0 c).arrAt 9 cfg0.N = G m c := by
  refine (dats m 0 c).arrAt_eq_of_covers 9 _ (by decide +kernel) fun t hf y => ?_
  blk_simp
  rw [after0_9]
  idx_vars y
  have ht : t.val < 256 := t.isLt
  have h0 : y0 = 0 := Subsingleton.elim _ _
  subst h0
  have eb : (bat t).val = t.val / 16 := rfl
  have e9 : ((View.whole main_v10).slice (win0_9.rect t)).emb (ix3 0 y1 y2) = ix3 (bat t) ⟨256 * (t.val % 16) + y1.val, by omega⟩ y2 := by
    blk_ext [idx t, eb]
  have e4 : ∀ k j, iblk m c 4 t (ix2 k j) = V m c main_v2 (ix2 k j) := fun k j => taps_read t (V m c main_v2) k j
  have e5 : ∀ k, iblk m c 5 t (ix2 0 k) = V m c main_v6 (ix2 0 k) := fun k => by blk_ext [iblk, idx t]
  have e6 : ∀ k, iblk m c 6 t (ix2 0 k) = V m c main_v7 (ix2 0 k) := fun k => by blk_ext [iblk, idx t]
  have e7 : ∀ k, iblk m c 7 t (ix2 0 k) = V m c main_v8 (ix2 0 k) := fun k => by blk_ext [iblk, idx t]
  have e8 : ∀ k j, iblk m c 8 t (ix2 k j) = V m c main_v9 (ix2 k j) := fun k j => by blk_ext [iblk, idx t]
  rw [e9]
  refine (point_apply m c t y1 y2).trans ?_
  unfold G mixer
  refine outRow_congr (fun k => (iblk0 m c t y1 k).trans ?_) (conv_congr (fun _ _ => rfl) (fun k j => ?_) (fun k => ?_)) (fun k => ?_) (fun k => ?_) (fun k j => ?_) y2
  · exact (congrFun (seq_apply (fun s k => V m c main_arg0 (ix3 (bat t) s k)) ⟨256 * (t.val % 16) + y1.val, by omega⟩) k).symm
  · exact e4 _ _
  · exact e5 _
  · exact e6 _
  · exact e7 _
  · exact e8 _ _

/-- The update at row `k` and column `j` lands there. -/
theorem lands (idx : IVec S1 32) (hidx : ∀ y, idx y = 0#32) (k : Fin 31) (j : Fin 1024) (r : Fin 32) (e : Fin 1024) :
    scatter_S32x1024_S1_S31x1024_01_n_0_0.resultIdx? (ix2 k j) idx = some (ix2 r e) ↔ k.val = r.val ∧ j.val = e.val := by
  have hs : ∀ a, scatter_S32x1024_S1_S31x1024_01_n_0_0.start (ix2 k j) idx a = 0 := fun a => by
    unfold ScatterDims.start
    split
    · rw [hidx]; rfl
    · rfl
  have hw0 : scatter_S32x1024_S1_S31x1024_01_n_0_0.window (ix2 k j) 0 = k.val := rfl
  have hw1 : scatter_S32x1024_S1_S31x1024_01_n_0_0.window (ix2 k j) 1 = j.val := rfl
  refine (Routing.resultIdx?_ix2 (R := 32) (C := 1024) (si := S1) (u := S31x1024) scatter_S32x1024_S1_S31x1024_01_n_0_0 (ix2 k j) idx r e).trans ?_
  rw [hs, hs, hw0, hw1]
  omega

/-- The padded taps hold the taps in their first 31 rows. -/
theorem V2 (c : Dev nD) (k : Fin 31) (j : Fin 1024) : V m c main_v2 (ix2 ⟨k.val, by omega⟩ j) = m ((c : Thread nD τ).loc main_arg4) (ix2 k j) := by
  entry_read
  refine Routing.scatter_set_hit _ _ _ _ _ _ (fun y hy => ?_) (ix2 k j) ((lands _ (fun _ => rfl) k j ⟨k.val, by omega⟩ j).2 ⟨rfl, rfl⟩)
  idx_vars y
  have h := (lands _ (fun _ => rfl) y0 y1 ⟨k.val, by omega⟩ j).1 hy
  rw [Fin.ext h.1, Fin.ext h.2]

/-- The sequences are read as given. -/
theorem V0 (c : Dev nD) (b : Fin 16) (s : Fin 4096) (k : Fin 1024) : V m c main_arg0 (ix3 b s k) = m ((c : Thread nD τ).loc main_arg0) (ix3 b s k) := by
  entry_read; rfl

/-- The gain, as a row. -/
theorem V3 (c : Dev nD) (k : Fin 1024) : V m c main_v3 (ix2 0 k) = m ((c : Thread nD τ).loc main_arg1) (ix1 k) := by
  entry_read; pointwise

/-- The input matrix is read as given. -/
theorem V4 (c : Dev nD) (k : Fin 1024) (j : Fin 2048) : V m c main_v4 (ix2 k j) = m ((c : Thread nD τ).loc main_arg2) (ix2 k j) := by
  entry_read; pointwise

/-- The input bias, as a row. -/
theorem V5 (c : Dev nD) (k : Fin 2048) : V m c main_v5 (ix2 0 k) = m ((c : Thread nD τ).loc main_arg3) (ix1 k) := by
  entry_read; pointwise

/-- The taps' bias, as a row. -/
theorem V6 (c : Dev nD) (k : Fin 1024) : V m c main_v6 (ix2 0 k) = m ((c : Thread nD τ).loc main_arg5) (ix1 k) := by
  entry_read; pointwise

/-- The normalisation's scale, as a row. -/
theorem V7 (c : Dev nD) (k : Fin 1024) : V m c main_v7 (ix2 0 k) = m ((c : Thread nD τ).loc main_arg6) (ix1 k) := by
  entry_read; pointwise

/-- The normalisation's shift, as a row. -/
theorem V8 (c : Dev nD) (k : Fin 1024) : V m c main_v8 (ix2 0 k) = m ((c : Thread nD τ).loc main_arg7) (ix1 k) := by
  entry_read; pointwise

/-- The output matrix is read as given. -/
theorem V9 (c : Dev nD) (k j : Fin 1024) : V m c main_v9 (ix2 k j) = m ((c : Thread nD τ).loc main_arg8) (ix2 k j) := by
  entry_read; pointwise

/-- The result over the arrays the call is given. -/
theorem final_apply (c : Dev nD) (b : Fin 16) (s : Fin 4096) (k : Fin 1024) : (dats m 0 c).arrAt 9 cfg0.N (ix3 b s k)
    = mixer (seq fun s k => m ((c : Thread nD τ).loc main_arg0) (ix3 b s k)) (fun k => m ((c : Thread nD τ).loc main_arg1) (ix1 k))
        (fun k j => m ((c : Thread nD τ).loc main_arg2) (ix2 k j)) (fun j => m ((c : Thread nD τ).loc main_arg3) (ix1 j))
        (fun k j => m ((c : Thread nD τ).loc main_arg4) (ix2 k j)) (fun k => m ((c : Thread nD τ).loc main_arg5) (ix1 k))
        (fun k => m ((c : Thread nD τ).loc main_arg6) (ix1 k)) (fun k => m ((c : Thread nD τ).loc main_arg7) (ix1 k))
        (fun k j => m ((c : Thread nD τ).loc main_arg8) (ix2 k j)) s.val k := by
  rw [final]
  exact mixer_congr (V0 m c b) (V3 m c) (V4 m c) (V5 m c) (V2 m c) (V6 m c) (V7 m c) (V8 m c) (V9 m c) s.val k

end Cert.ConvIdeal.Rows

end
-- ==== Proof.ConvRef.lean ====
/-
  The reference's convolution mixer, row by row.
-/
module

public import proofs.«01_k».proof.Proof.ConvSpec
public import proofs.«01_k».proof.Proof.Gen.ConvRefIdeal.Read
public import Idealize.ShloMosaic.Lib.KernelVsHost

@[expose] public section

set_option maxRecDepth 16384

noncomputable section

namespace Cert.ConvRefIdeal.Rows

open Cert.ConvRefIdeal Cert.ConvRefIdeal.Gen Cert.ConvRefIdeal.Read Cert.Conv.Spec Cert.Ffn.Spec Idealize.ShloMosaic Idealize.ShloMosaic.TcCoe Idealize.SL.Sem
open scoped BigOperators

variable (x : Vec Ideal S16x4096x1024 .f32) (g : Vec Ideal S1024 .f32) (w : Vec Ideal S1024x2048 .f32) (bi : Vec Ideal S2048 .f32) (d : Vec Ideal S31x1024 .f32)
  (db lg lb : Vec Ideal S1024 .f32) (wo : Vec Ideal S1024x1024 .f32)

/-- The normalised row. -/
theorem norm_apply (b : Fin 16) (s : Fin 4096) (k : Fin 1024) :
    val_main_v12 (F := Ideal) x g (ix3 b s k) = rmsRow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0,
    val_main_cst, val_main_cst_0, val_main_cst_1, rmsRow]

/-- The row's product with the input matrix plus the bias. -/
theorem proj_apply (b : Fin 16) (s : Fin 4096) (j : Fin 2048) :
    val_main_v16 (F := Ideal) x g w bi (ix3 b s j) = proj (rmsRow (fun k => x (ix3 b s k)) (fun k => g (ix1 k))) (fun k j => w (ix2 k j)) (fun j => bi (ix1 j)) j := by
  have h := norm_apply x g b s
  revert h
  unfold val_main_v16 val_main_v13
  generalize val_main_v12 (F := Ideal) x g = n
  intro h
  pointwise [val_main_v15, val_main_v14, proj, ← h]

/-- The gated row. -/
theorem glu_apply (b : Fin 16) (s : Fin 4096) (j : Fin 1024) :
    val_main_v25 (F := Ideal) x g w bi (ix3 b s j) = glu (rmsRow (fun k => x (ix3 b s k)) (fun k => g (ix1 k))) (fun k j => w (ix2 k j)) (fun j => bi (ix1 j)) j := by
  have h := proj_apply x g w bi b s
  revert h
  unfold val_main_v25 val_main_v24 val_main_v22 val_main_v20 val_main_v19 val_main_v18 val_main_v17
  generalize val_main_v16 (F := Ideal) x g w bi = n
  intro h
  unfold glu
  rw [← h, ← h]
  pointwise [val_main_v23, val_main_v21, val_main_cst_2, val_main_cst_3, Ideal.logistic]

/-- A sequence's gated rows, 32 late. -/
def U (b : Fin 16) : ℕ → Fin 1024 → EReal :=
  late (seq fun s k => x (ix3 b s k)) (fun k => g (ix1 k)) (fun k j => w (ix2 k j)) (fun j => bi (ix1 j))

/-- The rows after 30 zeros are the late rows from their second on. -/
theorem padded_apply (b : Fin 16) (s : Fin 4096) (c : Fin 1024) (k : Fin 31) :
    val_main_v26 (F := Ideal) x g w bi (ix3 b ⟨s.val + k.val, by omega⟩ c) = U x g w bi b (s.val + 2 + k.val) c := by
  unfold val_main_v26 U late
  by_cases h : s.val + k.val < 30
  · rw [if_pos (by omega)]
    refine (pad_apply_of_not_inside _ _ _ _ _ _ _ _ (1 : Fin 3) (fun hi => ?_)).trans ?_
    · have h1 : 30 ≤ s.val + k.val := hi.1
      omega
    · exact sitofp_zero (φ := .f32)
  · rw [if_neg (by omega)]
    have e := seq_apply (fun s k => x (ix3 b s k)) ⟨s.val + k.val - 30, by omega⟩
    rw [show s.val + 2 + k.val - 32 = s.val + k.val - 30 by omega]
    refine (pad_apply_of_inside _ _ _ _ _ _ _ _ (ix3 b ⟨s.val + k.val - 30, by omega⟩ c) (fun a => ?_)).trans ?_
    · match a with
      | ⟨0, _⟩ => show b.val = 0 + b.val * (0 + 1); omega
      | ⟨1, _⟩ => show s.val + k.val = 30 + (s.val + k.val - 30) * (0 + 1); omega
      | ⟨2, _⟩ => show c.val = 0 + c.val * (0 + 1); omega
    · rw [glu_apply]
      exact congrArg (fun y => glu (rmsRow y _) _ _ c) e.symm

/-- Tap 0. -/
theorem tap0 (b : Fin 16) (s : Fin 4096) (c : Fin 1024) :
    val_main_v32 (F := Ideal) x g w bi d (ix3 b s c) = d (ix2 0 c) * U x g w bi b (s.val + 2 + (0 : Fin 31).val) c := by
  rw [mul_comm, ← padded_apply x g w bi b s c 0]
  unfold val_main_v32 val_main_v27
  generalize val_main_v26 (F := Ideal) x g w bi = n
  pointwise [val_main_v31, val_main_v30, val_main_v29, val_main_v28]

/-- Tap 1. -/
theorem tap1 (b : Fin 16) (s : Fin 4096) (c : Fin 1024) :
    val_main_v40 (F := Ideal) x g w bi d (ix3 b s c) = d (ix2 1 c) * U x g w bi b (s.val + 2 + (1 : Fin 31).val) c := by
  rw [mul_comm, ← padded_apply x g w bi b s c 1]
  unfold val_main_v40 val_main_v35
  generalize val_main_v26 (F := Ideal) x g w bi = n
  pointwise [val_main_v39, val_main_v38, val_main_v37, val_main_v36]
  exact congrArg (fun q => n (ix3 b q c) * d (ix2 1 c)) (Fin.ext (Nat.add_comm _ _))

/-- Tap 2. -/
theorem tap2 (b : Fin 16) (s : Fin 4096) (c : Fin 1024) :
    val_main_v47 (F := Ideal) x g w bi d (ix3 b s c) = d (ix2 2 c) * U x g w bi b (s.val + 2 + (2 : Fin 31).val) c := by
  rw [mul_comm, ← padded_apply x g w bi b s c 2]
  unfold val_main_v47 val_main_v42
  generalize val_main_v26 (F := Ideal) x g w bi = n
  pointwise [val_main_v46, val_main_v45, val_main_v44, val_main_v43]
  exact congrArg (fun q => n (ix3 b q c) * d (ix2 2 c)) (Fin.ext (Nat.add_comm _ _))

/-- Tap 3. -/
theorem tap3 (b : Fin 16) (s : Fin 4096) (c : Fin 1024) :
    val_main_v54 (F := Ideal) x g w bi d (ix3 b s c) = d (ix2 3 c) * U x g w bi b (s.val + 2 + (3 : Fin 31).val) c := by
  rw [mul_comm, ← padded_apply x g w bi b s c 3]
  unfold val_main_v54 val_main_v49
  generalize val_main_v26 (F := Ideal) x g w bi = n
  pointwise [val_main_v53, val_main_v52, val_main_v51, val_main_v50]
  exact congrArg (fun q => n (ix3 b q c) * d (ix2 3 c)) (Fin.ext (Nat.add_comm _ _))

/-- Tap 4. -/
theorem tap4 (b : Fin 16) (s : Fin 4096) (c : Fin 1024) :
    val_main_v61 (F := Ideal) x g w bi d (ix3 b s c) = d (ix2 4 c) * U x g w bi b (s.val + 2 + (4 : Fin 31).val) c := by
  rw [mul_comm, ← padded_apply x g w bi b s c 4]
  unfold val_main_v61 val_main_v56
  generalize val_main_v26 (F := Ideal) x g w bi = n
  pointwise [val_main_v60, val_main_v59, val_main_v58, val_main_v57]
  exact congrArg (fun q => n (ix3 b q c) * d (ix2 4 c)) (Fin.ext (Nat.add_comm _ _))

/-- Tap 5. -/
theorem tap5 (b : Fin 16) (s : Fin 4096) (c : Fin 1024) :
    val_main_v68 (F := Ideal) x g w bi d (ix3 b s c) = d (ix2 5 c) * U x g w bi b (s.val + 2 + (5 : Fin 31).val) c := by
  rw [mul_comm, ← padded_apply x g w bi b s c 5]
  unfold val_main_v68 val_main_v63
  generalize val_main_v26 (F := Ideal) x g w bi = n
  pointwise [val_main_v67, val_main_v66, val_main_v65, val_main_v64]
  exact congrArg (fun q => n (ix3 b q c) * d (ix2 5 c)) (Fin.ext (Nat.add_comm _ _))

/-- Tap 6. -/
theorem tap6 (b : Fin 16) (s : Fin 4096) (c : Fin 1024) :
    val_main_v75 (F := Ideal) x g w bi d (ix3 b s c) = d (ix2 6 c) * U x g w bi b (s.val + 2 + (6 : Fin 31).val) c := by
  rw [mul_comm, ← padded_apply x g w bi b s c 6]
  unfold val_main_v75 val_main_v70
  generalize val_main_v26 (F := Ideal) x g w bi = n
  pointwise [val_main_v74, val_main_v73, val_main_v72, val_main_v71]
  exact congrArg (fun q => n (ix3 b q c) * d (ix2 6 c)) (Fin.ext (Nat.add_comm _ _))

/-- Tap 7. -/
theorem tap7 (b : Fin 16) (s : Fin 4096) (c : Fin 1024) :
    val_main_v82 (F := Ideal) x g w bi d (ix3 b s c) = d (ix2 7 c) * U x g w bi b (s.val + 2 + (7 : Fin 31).val) c := by
  rw [mul_comm, ← padded_apply x g w bi b s c 7]
  unfold val_main_v82 val_main_v77
  generalize val_main_v26 (F := Ideal) x g w bi = n
  pointwise [val_main_v81, val_main_v80, val_main_v79, val_main_v78]
  exact congrArg (fun q => n (ix3 b q c) * d (ix2 7 c)) (Fin.ext (Nat.add_comm _ _))

/-- Tap 8. -/
theorem tap8 (b : Fin 16) (s : Fin 4096) (c : Fin 1024) :
    val_main_v89 (F := Ideal) x g w bi d (ix3 b s c) = d (ix2 8 c) * U x g w bi b (s.val + 2 + (8 : Fin 31).val) c := by
  rw [mul_comm, ← padded_apply x g w bi b s c 8]
  unfold val_main_v89 val_main_v84
  generalize val_main_v26 (F := Ideal) x g w bi = n
  pointwise [val_main_v88, val_main_v87, val_main_v86, val_main_v85]
  exact congrArg (fun q => n (ix3 b q c) * d (ix2 8 c)) (Fin.ext (Nat.add_comm _ _))

/-- Tap 9. -/
theorem tap9 (b : Fin 16) (s : Fin 4096) (c : Fin 1024) :
    val_main_v96 (F := Ideal) x g w bi d (ix3 b s c) = d (ix2 9 c) * U x g w bi b (s.val + 2 + (9 : Fin 31).val) c := by
  rw [mul_comm, ← padded_apply x g w bi b s c 9]
  unfold val_main_v96 val_main_v91
  generalize val_main_v26 (F := Ideal) x g w bi = n
  pointwise [val_main_v95, val_main_v94, val_main_v93, val_main_v92]
  exact congrArg (fun q => n (ix3 b q c) * d (ix2 9 c)) (Fin.ext (Nat.add_comm _ _))

/-- Tap 10. -/
theorem tap10 (b : Fin 16) (s : Fin 4096) (c : Fin 1024) :
    val_main_v103 (F := Ideal) x g w bi d (ix3 b s c) = d (ix2 10 c) * U x g w bi b (s.val + 2 + (10 : Fin 31).val) c := by
  rw [mul_comm, ← padded_apply x g w bi b s c 10]
  unfold val_main_v103 val_main_v98
  generalize val_main_v26 (F := Ideal) x g w bi = n
  pointwise [val_main_v102, val_main_v101, val_main_v100, val_main_v99]
  exact congrArg (fun q => n (ix3 b q c) * d (ix2 10 c)) (Fin.ext (Nat.add_comm _ _))

/-- Tap 11. -/
theorem tap11 (b : Fin 16) (s : Fin 4096) (c : Fin 1024) :
    val_main_v110 (F := Ideal) x g w bi d (ix3 b s c) = d (ix2 11 c) * U x g w bi b (s.val + 2 + (11 : Fin 31).val) c := by
  rw [mul_comm, ← padded_apply x g w bi b s c 11]
  unfold val_main_v110 val_main_v105
  generalize val_main_v26 (F := Ideal) x g w bi = n
  pointwise [val_main_v109, val_main_v108, val_main_v107, val_main_v106]
  exact congrArg (fun q => n (ix3 b q c) * d (ix2 11 c)) (Fin.ext (Nat.add_comm _ _))

/-- Tap 12. -/
theorem tap12 (b : Fin 16) (s : Fin 4096) (c : Fin 1024) :
    val_main_v117 (F := Ideal) x g w bi d (ix3 b s c) = d (ix2 12 c) * U x g w bi b (s.val + 2 + (12 : Fin 31).val) c := by
  rw [mul_comm, ← padded_apply x g w bi b s c 12]
  unfold val_main_v117 val_main_v112
  generalize val_main_v26 (F := Ideal) x g w bi = n
  pointwise [val_main_v116, val_main_v115, val_main_v114, val_main_v113]
  exact congrArg (fun q => n (ix3 b q c) * d (ix2 12 c)) (Fin.ext (Nat.add_comm _ _))

/-- Tap 13. -/
theorem tap13 (b : Fin 16) (s : Fin 4096) (c : Fin 1024) :
    val_main_v124 (F := Ideal) x g w bi d (ix3 b s c) = d (ix2 13 c) * U x g w bi b (s.val + 2 + (13 : Fin 31).val) c := by
  rw [mul_comm, ← padded_apply x g w bi b s c 13]
  unfold val_main_v124 val_main_v119
  generalize val_main_v26 (F := Ideal) x g w bi = n
  pointwise [val_main_v123, val_main_v122, val_main_v121, val_main_v120]
  exact congrArg (fun q => n (ix3 b q c) * d (ix2 13 c)) (Fin.ext (Nat.add_comm _ _))

/-- Tap 14. -/
theorem tap14 (b : Fin 16) (s : Fin 4096) (c : Fin 1024) :
    val_main_v131 (F := Ideal) x g w bi d (ix3 b s c) = d (ix2 14 c) * U x g w bi b (s.val + 2 + (14 : Fin 31).val) c := by
  rw [mul_comm, ← padded_apply x g w bi b s c 14]
  unfold val_main_v131 val_main_v126
  generalize val_main_v26 (F := Ideal) x g w bi = n
  pointwise [val_main_v130, val_main_v129, val_main_v128, val_main_v127]
  exact congrArg (fun q => n (ix3 b q c) * d (ix2 14 c)) (Fin.ext (Nat.add_comm _ _))

/-- Tap 15. -/
theorem tap15 (b : Fin 16) (s : Fin 4096) (c : Fin 1024) :
    val_main_v138 (F := Ideal) x g w bi d (ix3 b s c) = d (ix2 15 c) * U x g w bi b (s.val + 2 + (15 : Fin 31).val) c := by
  rw [mul_comm, ← padded_apply x g w bi b s c 15]
  unfold val_main_v138 val_main_v133
  generalize val_main_v26 (F := Ideal) x g w bi = n
  pointwise [val_main_v137, val_main_v136, val_main_v135, val_main_v134]
  exact congrArg (fun q => n (ix3 b q c) * d (ix2 15 c)) (Fin.ext (Nat.add_comm _ _))

/-- Tap 16. -/
theorem tap16 (b : Fin 16) (s : Fin 4096) (c : Fin 1024) :
    val_main_v145 (F := Ideal) x g w bi d (ix3 b s c) = d (ix2 16 c) * U x g w bi b (s.val + 2 + (16 : Fin 31).val) c := by
  rw [mul_comm, ← padded_apply x g w bi b s c 16]
  unfold val_main_v145 val_main_v140
  generalize val_main_v26 (F := Ideal) x g w bi = n
  pointwise [val_main_v144, val_main_v143, val_main_v142, val_main_v141]
  exact congrArg (fun q => n (ix3 b q c) * d (ix2 16 c)) (Fin.ext (Nat.add_comm _ _))

/-- Tap 17. -/
theorem tap17 (b : Fin 16) (s : Fin 4096) (c : Fin 1024) :
    val_main_v152 (F := Ideal) x g w bi d (ix3 b s c) = d (ix2 17 c) * U x g w bi b (s.val + 2 + (17 : Fin 31).val) c := by
  rw [mul_comm, ← padded_apply x g w bi b s c 17]
  unfold val_main_v152 val_main_v147
  generalize val_main_v26 (F := Ideal) x g w bi = n
  pointwise [val_main_v151, val_main_v150, val_main_v149, val_main_v148]
  exact congrArg (fun q => n (ix3 b q c) * d (ix2 17 c)) (Fin.ext (Nat.add_comm _ _))

/-- Tap 18. -/
theorem tap18 (b : Fin 16) (s : Fin 4096) (c : Fin 1024) :
    val_main_v159 (F := Ideal) x g w bi d (ix3 b s c) = d (ix2 18 c) * U x g w bi b (s.val + 2 + (18 : Fin 31).val) c := by
  rw [mul_comm, ← padded_apply x g w bi b s c 18]
  unfold val_main_v159 val_main_v154
  generalize val_main_v26 (F := Ideal) x g w bi = n
  pointwise [val_main_v158, val_main_v157, val_main_v156, val_main_v155]
  exact congrArg (fun q => n (ix3 b q c) * d (ix2 18 c)) (Fin.ext (Nat.add_comm _ _))

/-- Tap 19. -/
theorem tap19 (b : Fin 16) (s : Fin 4096) (c : Fin 1024) :
    val_main_v166 (F := Ideal) x g w bi d (ix3 b s c) = d (ix2 19 c) * U x g w bi b (s.val + 2 + (19 : Fin 31).val) c := by
  rw [mul_comm, ← padded_apply x g w bi b s c 19]
  unfold val_main_v166 val_main_v161
  generalize val_main_v26 (F := Ideal) x g w bi = n
  pointwise [val_main_v165, val_main_v164, val_main_v163, val_main_v162]
  exact congrArg (fun q => n (ix3 b q c) * d (ix2 19 c)) (Fin.ext (Nat.add_comm _ _))

/-- Tap 20. -/
theorem tap20 (b : Fin 16) (s : Fin 4096) (c : Fin 1024) :
    val_main_v173 (F := Ideal) x g w bi d (ix3 b s c) = d (ix2 20 c) * U x g w bi b (s.val + 2 + (20 : Fin 31).val) c := by
  rw [mul_comm, ← padded_apply x g w bi b s c 20]
  unfold val_main_v173 val_main_v168
  generalize val_main_v26 (F := Ideal) x g w bi = n
  pointwise [val_main_v172, val_main_v171, val_main_v170, val_main_v169]
  exact congrArg (fun q => n (ix3 b q c) * d (ix2 20 c)) (Fin.ext (Nat.add_comm _ _))

/-- Tap 21. -/
theorem tap21 (b : Fin 16) (s : Fin 4096) (c : Fin 1024) :
    val_main_v180 (F := Ideal) x g w bi d (ix3 b s c) = d (ix2 21 c) * U x g w bi b (s.val + 2 + (21 : Fin 31).val) c := by
  rw [mul_comm, ← padded_apply x g w bi b s c 21]
  unfold val_main_v180 val_main_v175
  generalize val_main_v26 (F := Ideal) x g w bi = n
  pointwise [val_main_v179, val_main_v178, val_main_v177, val_main_v176]
  exact congrArg (fun q => n (ix3 b q c) * d (ix2 21 c)) (Fin.ext (Nat.add_comm _ _))

/-- Tap 22. -/
theorem tap22 (b : Fin 16) (s : Fin 4096) (c : Fin 1024) :
    val_main_v187 (F := Ideal) x g w bi d (ix3 b s c) = d (ix2 22 c) * U x g w bi b (s.val + 2 + (22 : Fin 31).val) c := by
  rw [mul_comm, ← padded_apply x g w bi b s c 22]
  unfold val_main_v187 val_main_v182
  generalize val_main_v26 (F := Ideal) x g w bi = n
  pointwise [val_main_v186, val_main_v185, val_main_v184, val_main_v183]
  exact congrArg (fun q => n (ix3 b q c) * d (ix2 22 c)) (Fin.ext (Nat.add_comm _ _))

/-- Tap 23. -/
theorem tap23 (b : Fin 16) (s : Fin 4096) (c : Fin 1024) :
    val_main_v194 (F := Ideal) x g w bi d (ix3 b s c) = d (ix2 23 c) * U x g w bi b (s.val + 2 + (23 : Fin 31).val) c := by
  rw [mul_comm, ← padded_apply x g w bi b s c 23]
  unfold val_main_v194 val_main_v189
  generalize val_main_v26 (F := Ideal) x g w bi = n
  pointwise [val_main_v193, val_main_v192, val_main_v191, val_main_v190]
  exact congrArg (fun q => n (ix3 b q c) * d (ix2 23 c)) (Fin.ext (Nat.add_comm _ _))

/-- Tap 24. -/
theorem tap24 (b : Fin 16) (s : Fin 4096) (c : Fin 1024) :
    val_main_v201 (F := Ideal) x g w bi d (ix3 b s c) = d (ix2 24 c) * U x g w bi b (s.val + 2 + (24 : Fin 31).val) c := by
  rw [mul_comm, ← padded_apply x g w bi b s c 24]
  unfold val_main_v201 val_main_v196
  generalize val_main_v26 (F := Ideal) x g w bi = n
  pointwise [val_main_v200, val_main_v199, val_main_v198, val_main_v197]
  exact congrArg (fun q => n (ix3 b q c) * d (ix2 24 c)) (Fin.ext (Nat.add_comm _ _))

/-- Tap 25. -/
theorem tap25 (b : Fin 16) (s : Fin 4096) (c : Fin 1024) :
    val_main_v208 (F := Ideal) x g w bi d (ix3 b s c) = d (ix2 25 c) * U x g w bi b (s.val + 2 + (25 : Fin 31).val) c := by
  rw [mul_comm, ← padded_apply x g w bi b s c 25]
  unfold val_main_v208 val_main_v203
  generalize val_main_v26 (F := Ideal) x g w bi = n
  pointwise [val_main_v207, val_main_v206, val_main_v205, val_main_v204]
  exact congrArg (fun q => n (ix3 b q c) * d (ix2 25 c)) (Fin.ext (Nat.add_comm _ _))

/-- Tap 26. -/
theorem tap26 (b : Fin 16) (s : Fin 4096) (c : Fin 1024) :
    val_main_v215 (F := Ideal) x g w bi d (ix3 b s c) = d (ix2 26 c) * U x g w bi b (s.val + 2 + (26 : Fin 31).val) c := by
  rw [mul_comm, ← padded_apply x g w bi b s c 26]
  unfold val_main_v215 val_main_v210
  generalize val_main_v26 (F := Ideal) x g w bi = n
  pointwise [val_main_v214, val_main_v213, val_main_v212, val_main_v211]
  exact congrArg (fun q => n (ix3 b q c) * d (ix2 26 c)) (Fin.ext (Nat.add_comm _ _))

/-- Tap 27. -/
theorem tap27 (b : Fin 16) (s : Fin 4096) (c : Fin 1024) :
    val_main_v222 (F := Ideal) x g w bi d (ix3 b s c) = d (ix2 27 c) * U x g w bi b (s.val + 2 + (27 : Fin 31).val) c := by
  rw [mul_comm, ← padded_apply x g w bi b s c 27]
  unfold val_main_v222 val_main_v217
  generalize val_main_v26 (F := Ideal) x g w bi = n
  pointwise [val_main_v221, val_main_v220, val_main_v219, val_main_v218]
  exact congrArg (fun q => n (ix3 b q c) * d (ix2 27 c)) (Fin.ext (Nat.add_comm _ _))

/-- Tap 28. -/
theorem tap28 (b : Fin 16) (s : Fin 4096) (c : Fin 1024) :
    val_main_v229 (F := Ideal) x g w bi d (ix3 b s c) = d (ix2 28 c) * U x g w bi b (s.val + 2 + (28 : Fin 31).val) c := by
  rw [mul_comm, ← padded_apply x g w bi b s c 28]
  unfold val_main_v229 val_main_v224
  generalize val_main_v26 (F := Ideal) x g w bi = n
  pointwise [val_main_v228, val_main_v227, val_main_v226, val_main_v225]
  exact congrArg (fun q => n (ix3 b q c) * d (ix2 28 c)) (Fin.ext (Nat.add_comm _ _))

/-- Tap 29. -/
theorem tap29 (b : Fin 16) (s : Fin 4096) (c : Fin 1024) :
    val_main_v236 (F := Ideal) x g w bi d (ix3 b s c) = d (ix2 29 c) * U x g w bi b (s.val + 2 + (29 : Fin 31).val) c := by
  rw [mul_comm, ← padded_apply x g w bi b s c 29]
  unfold val_main_v236 val_main_v231
  generalize val_main_v26 (F := Ideal) x g w bi = n
  pointwise [val_main_v235, val_main_v234, val_main_v233, val_main_v232]
  exact congrArg (fun q => n (ix3 b q c) * d (ix2 29 c)) (Fin.ext (Nat.add_comm _ _))

/-- Tap 30. -/
theorem tap30 (b : Fin 16) (s : Fin 4096) (c : Fin 1024) :
    val_main_v243 (F := Ideal) x g w bi d (ix3 b s c) = d (ix2 30 c) * U x g w bi b (s.val + 2 + (30 : Fin 31).val) c := by
  rw [mul_comm, ← padded_apply x g w bi b s c 30]
  unfold val_main_v243 val_main_v238
  generalize val_main_v26 (F := Ideal) x g w bi = n
  pointwise [val_main_v242, val_main_v241, val_main_v240, val_main_v239]
  exact congrArg (fun q => n (ix3 b q c) * d (ix2 30 c)) (Fin.ext (Nat.add_comm _ _))

/-- A sum of 31 terms, written out. -/
theorem sum31 (t : Fin 31 → EReal) : ∑ k, t k = t 0 + t 1 + t 2 + t 3 + t 4 + t 5 + t 6 + t 7 + t 8 + t 9 + t 10 + t 11 + t 12 + t 13 + t 14 + t 15 + t 16 + t 17 + t 18 + t 19 + t 20 + t 21 + t 22 + t 23 + t 24 + t 25 + t 26 + t 27 + t 28 + t 29 + t 30 := by
  simp only [Fin.sum_univ_castSucc, Fin.sum_univ_zero, zero_add]
  rfl

/-- The taps' sum plus the bias. -/
theorem conv_apply (b : Fin 16) (s : Fin 4096) (c : Fin 1024) :
    val_main_v247 (F := Ideal) x g w bi d db (ix3 b s c) = conv (U x g w bi b) (fun k c => d (ix2 k c)) (fun c => db (ix1 c)) s.val c := by
  unfold conv
  rw [sum31]
  dsimp only
  rw [← tap0 x g w bi d b s c, ← tap1 x g w bi d b s c, ← tap2 x g w bi d b s c, ← tap3 x g w bi d b s c, ← tap4 x g w bi d b s c, ← tap5 x g w bi d b s c, ← tap6 x g w bi d b s c, ← tap7 x g w bi d b s c, ← tap8 x g w bi d b s c, ← tap9 x g w bi d b s c, ← tap10 x g w bi d b s c, ← tap11 x g w bi d b s c, ← tap12 x g w bi d b s c, ← tap13 x g w bi d b s c, ← tap14 x g w bi d b s c, ← tap15 x g w bi d b s c, ← tap16 x g w bi d b s c, ← tap17 x g w bi d b s c, ← tap18 x g w bi d b s c, ← tap19 x g w bi d b s c, ← tap20 x g w bi d b s c, ← tap21 x g w bi d b s c, ← tap22 x g w bi d b s c, ← tap23 x g w bi d b s c, ← tap24 x g w bi d b s c, ← tap25 x g w bi d b s c, ← tap26 x g w bi d b s c, ← tap27 x g w bi d b s c, ← tap28 x g w bi d b s c, ← tap29 x g w bi d b s c, ← tap30 x g w bi d b s c]
  rw [add_comm]
  unfold val_main_v247 val_main_v244 val_main_v237 val_main_v230 val_main_v223 val_main_v216 val_main_v209 val_main_v202 val_main_v195 val_main_v188 val_main_v181 val_main_v174 val_main_v167 val_main_v160 val_main_v153 val_main_v146 val_main_v139 val_main_v132 val_main_v125 val_main_v118 val_main_v111 val_main_v104 val_main_v97 val_main_v90 val_main_v83 val_main_v76 val_main_v69 val_main_v62 val_main_v55 val_main_v48 val_main_v41 val_main_v34
  generalize val_main_v32 (F := Ideal) x g w bi d = p0
  generalize val_main_v40 (F := Ideal) x g w bi d = p1
  generalize val_main_v47 (F := Ideal) x g w bi d = p2
  generalize val_main_v54 (F := Ideal) x g w bi d = p3
  generalize val_main_v61 (F := Ideal) x g w bi d = p4
  generalize val_main_v68 (F := Ideal) x g w bi d = p5
  generalize val_main_v75 (F := Ideal) x g w bi d = p6
  generalize val_main_v82 (F := Ideal) x g w bi d = p7
  generalize val_main_v89 (F := Ideal) x g w bi d = p8
  generalize val_main_v96 (F := Ideal) x g w bi d = p9
  generalize val_main_v103 (F := Ideal) x g w bi d = p10
  generalize val_main_v110 (F := Ideal) x g w bi d = p11
  generalize val_main_v117 (F := Ideal) x g w bi d = p12
  generalize val_main_v124 (F := Ideal) x g w bi d = p13
  generalize val_main_v131 (F := Ideal) x g w bi d = p14
  generalize val_main_v138 (F := Ideal) x g w bi d = p15
  generalize val_main_v145 (F := Ideal) x g w bi d = p16
  generalize val_main_v152 (F := Ideal) x g w bi d = p17
  generalize val_main_v159 (F := Ideal) x g w bi d = p18
  generalize val_main_v166 (F := Ideal) x g w bi d = p19
  generalize val_main_v173 (F := Ideal) x g w bi d = p20
  generalize val_main_v180 (F := Ideal) x g w bi d = p21
  generalize val_main_v187 (F := Ideal) x g w bi d = p22
  generalize val_main_v194 (F := Ideal) x g w bi d = p23
  generalize val_main_v201 (F := Ideal) x g w bi d = p24
  generalize val_main_v208 (F := Ideal) x g w bi d = p25
  generalize val_main_v215 (F := Ideal) x g w bi d = p26
  generalize val_main_v222 (F := Ideal) x g w bi d = p27
  generalize val_main_v229 (F := Ideal) x g w bi d = p28
  generalize val_main_v236 (F := Ideal) x g w bi d = p29
  generalize val_main_v243 (F := Ideal) x g w bi d = p30
  pointwise [val_main_v246, val_main_v245, val_main_v33, val_main_cst_4]

/-- The normalised convolution. -/
theorem ln_apply (b : Fin 16) (s : Fin 4096) (k : Fin 1024) :
    val_main_v269 (F := Ideal) x g w bi d db lg lb (ix3 b s k)
      = lnRow (conv (U x g w bi b) (fun k c => d (ix2 k c)) (fun c => db (ix1 c)) s.val) (fun k => lg (ix1 k)) (fun k => lb (ix1 k)) k := by
  have h := conv_apply x g w bi d db b s
  revert h
  unfold val_main_v269 val_main_v266 val_main_v263 val_main_v262 val_main_v261 val_main_v260 val_main_v258 val_main_v256 val_main_v255 val_main_v254 val_main_v253 val_main_v252 val_main_v251 val_main_v249 val_main_v248
  generalize val_main_v247 (F := Ideal) x g w bi d db = n
  intro h
  rw [← funext h]
  pointwise [val_main_v268, val_main_v267, val_main_v265, val_main_v264, val_main_v259, val_main_v257, val_main_v250, val_main_cst_5, val_main_cst_6, val_main_cst_7, val_main_cst_8, val_main_cst_9,
    lnRow, centred]

/-- The reference's row. -/
theorem result_apply (b : Fin 16) (s : Fin 4096) (k : Fin 1024) :
    val_main_v272 (F := Ideal) x g w bi d db lg lb wo (ix3 b s k) = mixer (seq fun s k => x (ix3 b s k)) (fun k => g (ix1 k)) (fun k j => w (ix2 k j)) (fun j => bi (ix1 j))
      (fun k c => d (ix2 k c)) (fun c => db (ix1 c)) (fun k => lg (ix1 k)) (fun k => lb (ix1 k)) (fun k j => wo (ix2 k j)) s.val k := by
  have h := ln_apply x g w bi d db lg lb b s
  unfold mixer outRow
  rw [seq_apply (fun s k => x (ix3 b s k)) s]
  revert h
  unfold U val_main_v272 val_main_v271 val_main_v270 val_main_call1_v5 val_main_call1_v3 val_main_call1_v1 val_main_call1_v0
  generalize val_main_v269 (F := Ideal) x g w bi d db lg lb = n
  intro h
  rw [← funext h]
  pointwise [val_main_call1_v4, val_main_call1_v2, val_main_call1_cst, val_main_call1_cst_0, mixRow, Ideal.logistic]

end Cert.ConvRefIdeal.Rows

end
-- ==== Proof.PoolSpec.lean ====
/-
  The pooling mixer as a function of one sequence: four groups of columns, each the mean of the last
  2, 4, 8 or 16 normalised rows less the row itself, times the group's matrix.
-/
module

public import proofs.«01_k».proof.Proof.ConvSpec

@[expose] public section

noncomputable section

namespace Cert.Pool.Spec

open Idealize.ShloMosaic Cert.Ffn.Spec Cert.Conv.Spec
open scoped BigOperators

/-- A sequence's normalised rows, 16 rows late, with zeros before its start. -/
def behind (x : ℕ → Fin 1024 → EReal) (g : Fin 1024 → EReal) (r : ℕ) (c : Fin 1024) : EReal :=
  if r < 16 then 0 else rmsRow (x (r - 16)) g c

/-- The sum of the `n` entries that end at `r`. -/
def trail (f : ℕ → EReal) (n r : ℕ) : EReal := ∑ k : Fin n, f (r + 1 - n + k.val)

/-- One entry. -/
theorem trail_one (f : ℕ → EReal) (r : ℕ) : trail f 1 r = f r := by
  unfold trail
  rw [Fin.sum_univ_one]
  exact congrArg f (show r + 1 - 1 + 0 = r by omega)

/-- Two sums of `n` entries, one ending `n` before the other, are the sum of `n + n`. -/
theorem trail_double (f : ℕ → EReal) (n r : ℕ) (h : n + n ≤ r + 1) : trail f n r + trail f n (r - n) = trail f (n + n) r := by
  unfold trail
  rw [Fin.sum_univ_add, add_comm]
  refine congrArg₂ (· + ·) (Finset.sum_congr rfl fun k _ => congrArg f ?_) (Finset.sum_congr rfl fun k _ => congrArg f ?_)
  · show r - n + 1 - n + k.val = r + 1 - (n + n) + k.val
    omega
  · show r + 1 - n + k.val = r + 1 - (n + n) + (n + k.val)
    omega

/-- Equal entries, equal sums. -/
theorem trail_congr {f f' : ℕ → EReal} {n r r' : ℕ} (h : ∀ k : Fin n, f (r + 1 - n + k.val) = f' (r' + 1 - n + k.val)) : trail f n r = trail f' n r' :=
  Finset.sum_congr rfl fun k _ => h k

/-- Column `j` of group `q`. -/
def col (q : Fin 4) (j : Fin 256) : Fin 1024 := ⟨256 * q.val + j.val, by omega⟩

/-- Every column is one of a group. -/
theorem exists_col (c : Fin 1024) : ∃ (q : Fin 4) (j : Fin 256), c = col q j :=
  ⟨⟨c.val / 256, by omega⟩, ⟨c.val % 256, by omega⟩, Fin.ext (Nat.div_add_mod _ _).symm⟩

/-- The number of rows a group looks back. -/
def win (q : Fin 4) : ℕ := match q with
  | ⟨0, _⟩ => 2
  | ⟨1, _⟩ => 4
  | ⟨2, _⟩ => 8
  | ⟨3, _⟩ => 16

/-- That number, as the program writes it. -/
def cap (q : Fin 4) : EReal := match q with
  | ⟨0, _⟩ => Ideal.ofBits .f32 0x40000000#32
  | ⟨1, _⟩ => Ideal.ofBits .f32 0x40800000#32
  | ⟨2, _⟩ => Ideal.ofBits .f32 0x41000000#32
  | ⟨3, _⟩ => Ideal.ofBits .f32 0x41800000#32

/-- At most 16 rows. -/
theorem win_le (q : Fin 4) : win q ≤ 16 := by
  match q with
  | ⟨0, _⟩ => show 2 ≤ 16; decide
  | ⟨1, _⟩ => show 4 ≤ 16; decide
  | ⟨2, _⟩ => show 8 ≤ 16; decide
  | ⟨3, _⟩ => show 16 ≤ 16; decide

/-- The mean of the last rows, of which there are `p` in all, less the row. -/
def lessMean (u : ℕ → Fin 1024 → EReal) (p : EReal) (q : Fin 4) (r : ℕ) (k : Fin 256) : EReal :=
  Ideal.div (trail (fun r => u r (col q k)) (win q) r) (min p (cap q)) - u r (col q k)

/-- The mixer's row: the row plus each group's product, scaled. -/
def poolRow (x sc : Fin 1024 → EReal) (w : Fin 4 → Fin 256 → Fin 256 → EReal) (u : ℕ → Fin 1024 → EReal) (p : EReal) (r : ℕ) (q : Fin 4) (j : Fin 256) : EReal :=
  x (col q j) + (∑ k, lessMean u p q r k * w q k j) * sc (col q j)

/-- The number of rows up to position `s`. -/
def upTo (s : ℕ) : EReal := (((s + 1 : ℕ) : ℝ) : EReal)

/-- The mixer of a sequence at position `s`. -/
def pool (x : ℕ → Fin 1024 → EReal) (g sc : Fin 1024 → EReal) (w : Fin 4 → Fin 256 → Fin 256 → EReal) (s : ℕ) (q : Fin 4) (j : Fin 256) : EReal :=
  poolRow (x s) sc w (behind x g) (upTo s) (s + 16) q j

/-- Equal rows, equal mixers' rows. -/
theorem poolRow_congr {x x' sc sc' : Fin 1024 → EReal} {w w' : Fin 4 → Fin 256 → Fin 256 → EReal} {u u' : ℕ → Fin 1024 → EReal} {p p' : EReal} {r r' : ℕ}
    (hx : ∀ k, x k = x' k) (hs : ∀ k, sc k = sc' k) (hw : ∀ q k j, w q k j = w' q k j) (hp : p = p') (hr : 16 ≤ r + 1) (hr' : 16 ≤ r' + 1)
    (hu : ∀ (n : ℕ) (c : Fin 1024), n < 16 → u (r - n) c = u' (r' - n) c) (q : Fin 4) (j : Fin 256) :
    poolRow x sc w u p r q j = poolRow x' sc' w' u' p' r' q j := by
  have hq := win_le q
  have e : ∀ k, lessMean u p q r k = lessMean u' p' q r' k := fun k => by
    have h0 := hu 0 (col q k) (by decide)
    unfold lessMean
    rw [hp]
    refine congrArg₂ (fun a b => Ideal.div a (min p' (cap q)) - b) (trail_congr fun i => ?_) h0
    have h := hu (win q - 1 - i.val) (col q k) (by omega)
    rwa [show r - (win q - 1 - i.val) = r + 1 - win q + i.val by omega, show r' - (win q - 1 - i.val) = r' + 1 - win q + i.val by omega] at h
  unfold poolRow
  rw [hx, hs]
  simp only [e, hw]

/-- Equal arguments, equal mixers. -/
theorem pool_congr {x x' : Fin 4096 → Fin 1024 → EReal} {g g' sc sc' : Fin 1024 → EReal} {w w' : Fin 4 → Fin 256 → Fin 256 → EReal} (hx : ∀ s k, x s k = x' s k)
    (hg : ∀ k, g k = g' k) (hs : ∀ k, sc k = sc' k) (hw : ∀ q k j, w q k j = w' q k j) (s : ℕ) (q : Fin 4) (j : Fin 256) :
    pool (seq x) g sc w s q j = pool (seq x') g' sc' w' s q j := by
  rw [funext fun s => funext (hx s), funext hg, funext hs, funext fun q => funext fun k => funext (hw q k)]

end Cert.Pool.Spec

end
-- ==== Proof.PoolState.lean ====
/-
  The pooling kernel's arithmetic at one grid point: the running sums by doubling rotations, the four
  groups' products, and the row stored; and what its scratch array holds.
-/
module

public import proofs.«01_k».proof.Proof.PoolSpec
public import proofs.«01_k».proof.Proof.Gen.PoolIdeal.Frame
public import Idealize.ShloMosaic.Lib.Pipeline.FrameBody
public import Idealize.ShloMosaic.Lib.WritesUnit
public import Idealize.ShloMosaic.Lib.WholeRead
public import Idealize.ShloMosaic.Lib.VecWindow
public import Idealize.ShloMosaic.Lib.KernelVsHost
public import Idealize.ShloMosaic.Lib.Pipeline.Value

@[expose] public section

set_option maxRecDepth 16384

noncomputable section

namespace Cert.PoolIdeal.State

open Cert.PoolIdeal Cert.PoolIdeal.Gen Cert.Pool.Spec Cert.Ffn.Spec Idealize.ShloMosaic Idealize.ShloMosaic.TcCoe
open scoped BigOperators

/-- The normalised rows the kernel computes of its block. -/
theorem norm_apply (x : Vec Ideal S1x512x1024 .f32) (g : Vec Ideal S1x1024 .f32) (r : Fin 512) (c : Fin 1024) :
    k0_pay4 (F := Ideal) x g (ix2 r c) = rmsRow (fun k => x (ix3 0 r k)) (fun k => g (ix2 0 k)) c := by
  pointwise [k0_pay4, k0_pay3, rmsRow]

/-- The number of rows up to the block's row `r`. -/
theorem count_apply (i : grid0.Coords) (r : Fin 512) : k0_pay5 (F := Ideal) i (ix2 r 0) = upTo (512 * (i 1).val + r.val) := by
  have hi : (i 1).val < 8 := (i 1).isLt
  have e : (BitVec.ofNat 32 (i 1).val * 512#32 + 1#32 + BitVec.ofNat 32 r.val) = BitVec.ofNat 32 (512 * (i 1).val + r.val + 1) := by
    apply BitVec.eq_of_toNat_eq
    simp only [BitVec.toNat_add, BitVec.toNat_mul, BitVec.toNat_ofNat]
    omega
  have h : (BitVec.ofNat 32 (512 * (i 1).val + r.val + 1)).toInt = ((512 * (i 1).val + r.val + 1 : ℕ) : ℤ) := by
    rw [BitVec.toInt_eq_toNat_of_lt]
    · rw [BitVec.toNat_ofNat]
      omega
    · rw [BitVec.toNat_ofNat]
      omega
  show (((BitVec.ofNat 32 (i 1).val * 512#32 + 1#32 + iota .tc S512x1 32 [0] iota_S512x1_d0_w32 (ix2 r 0)).toInt : ℝ) : EReal) = _
  rw [iota_single_apply]
  show (((BitVec.ofNat 32 (i 1).val * 512#32 + 1#32 + BitVec.ofNat 32 r.val).toInt : ℝ) : EReal) = _
  rw [e, h]
  rfl

/-- An array plus itself with its rows moved down by `n`, around the end. -/
def twice (v : FVec Ideal S528x256 .f32) (n : BitVec 32) : FVec Ideal S528x256 .f32 := addf v (dynamicRotate 0 n none v rotates_S528x256_d0)

/-- It doubles the number of rows summed. -/
theorem twice_apply {v : FVec Ideal S528x256 .f32} {f : Fin 256 → ℕ → EReal} {n : ℕ} {b : BitVec 32} (hb : b.toNat = n) (h0 : 0 < n) (h1 : n ≤ 16)
    (hv : ∀ (r : Fin 528) (j : Fin 256), n ≤ r.val + 1 → v (ix2 r j) = trail (f j) n r.val) (r : Fin 528) (j : Fin 256) (hr : n + n ≤ r.val + 1) :
    twice v b (ix2 r j) = trail (f j) (n + n) r.val := by
  rw [← trail_double _ _ _ hr, ← hv r j (by omega)]
  have h := hv ⟨r.val - n, by omega⟩ j (by show n ≤ r.val - n + 1; omega)
  refine congrArg (fun z => v (ix2 r j) + z) (Eq.trans ?_ h)
  refine dynamicRotate_apply _ _ _ _ _ _ fun a => ?_
  match a with
  | ⟨0, _⟩ =>
    refine Eq.trans ?_ (if_pos rfl).symm
    show r.val - n = (r.val + 528 - b.toNat % 528) % 528
    omega
  | ⟨1, _⟩ => exact (if_neg (fun e => absurd (congrArg Fin.val e) (by show ¬ (1 = 0); decide))).symm

/-- The sums' rows from 16 on. -/
def lower (v : FVec Ideal S528x256 .f32) : FVec Ideal S512x256 .f32 := extractStridedSlice S512x256 ![16, 0] v slices_S528x256_o16_0_S512x256

/-- Row `r` of them is row `16 + r`. -/
theorem lower_apply (v : FVec Ideal S528x256 .f32) (r : Fin 512) (j : Fin 256) : lower v (ix2 r j) = v (ix2 ⟨16 + r.val, by omega⟩ j) := by
  unfold lower
  refine congrArg v (funext fun k => Fin.ext ?_)
  match k with
  | ⟨0, _⟩ => rfl
  | ⟨1, _⟩ => show 0 + j.val = j.val; omega

/-- The number of rows, at most `b`, in every column. -/
def least (v : FVec Ideal S512x1 .f32) (b : BitVec 32) : FVec Ideal S512x256 .f32 :=
  broadcastTo S512x256 (minimumf v (broadcast S512x1 (Scalar.ofBits .f32 b))) broadcasts_S512x1_S512x256

/-- Its entries. -/
theorem least_apply (v : FVec Ideal S512x1 .f32) (b : BitVec 32) (r : Fin 512) (j : Fin 256) : least v b (ix2 r j) = min (v (ix2 r 0)) (Ideal.ofBits .f32 b) := by
  unfold least
  pointwise []

/-- A group's mean less the row. -/
def less (s m c : FVec Ideal S512x256 .f32) : FVec Ideal S512x256 .bf16 := truncf .bf16 (subf (divf s m) c) bitsLt_bf16_f32

/-- Its entries. -/
theorem less_apply (s m c : FVec Ideal S512x256 .f32) (r : Fin 512) (j : Fin 256) : less s m c (ix2 r j) = Ideal.div (s (ix2 r j)) (m (ix2 r j)) - c (ix2 r j) := by
  unfold less
  pointwise []

/-- A group's product with its matrix. -/
def times (d : FVec Ideal S512x256 .bf16) (w : Vec Ideal S1x256x256 .bf16) : FVec Ideal S512x256 .f32 :=
  matmul (φ₂ := .bf16) dot_S512x256_S256x256_S512x256_1_0_0_1_n_n none d (shapeCast S256x256 w shapeCasts_S1x256x256_S256x256) (constant S512x256 .f32 0x00000000#32)

/-- Its entries. -/
theorem times_apply (d : FVec Ideal S512x256 .bf16) (w : Vec Ideal S1x256x256 .bf16) (r : Fin 512) (j : Fin 256) :
    times d w (ix2 r j) = ∑ k : Fin 256, d (ix2 r k) * w (ix3 0 k j) := by
  unfold times
  pointwise []

/-- The block stored, of what the body loads. -/
def body (i : grid0.Coords) (x : Vec Ideal S1x512x1024 .f32) (sc : Vec Ideal S1x1024 .f32) (a0 a1 a2 a3 : Vec Ideal S528x256 .f32) (c0 c1 c2 c3 : Vec Ideal S512x256 .f32)
    (w0 w1 w2 w3 : Vec Ideal S1x256x256 .bf16) : FVec Ideal S1x512x1024 .f32 :=
  k0_pay1 (k0_pay12 (k0_pay3 x) (k0_pay5 i) (k0_pay8 c0 (k0_pay6 a0) (k0_pay7 i) w0) (k0_pay9 (k0_pay5 i) a1 c1 w1) (k0_pay10 (k0_pay5 i) a2 c2) w2 a3 c3 w3 sc)

/-- Four groups side by side, scaled and added to the rows. -/
def join (x : Vec Ideal S1x512x1024 .f32) (sc : Vec Ideal S1x1024 .f32) (p0 p1 p2 p3 : FVec Ideal S512x256 .f32) : FVec Ideal S1x512x1024 .f32 :=
  shapeCast S1x512x1024 (addf (shapeCast S512x1024 x shapeCasts_S1x512x1024_S512x1024)
    (mulf (concatenate S512x1024 1 [⟨S512x256, p0⟩, ⟨S512x256, p1⟩, ⟨S512x256, p2⟩, ⟨S512x256, p3⟩] concatenates_S512x256_S512x256_S512x256_S512x256_S512x1024_d1)
      (broadcastTo S512x1024 (shapeCast S1x1024 sc shapeCasts_S1x1024_S1x1024) broadcasts_S1x1024_S512x1024))) shapeCasts_S512x1024_S1x512x1024

/-- Its entries, over the joined groups. -/
theorem join_of (x : Vec Ideal S1x512x1024 .f32) (sc : Vec Ideal S1x1024 .f32) (p0 p1 p2 p3 : FVec Ideal S512x256 .f32) (r : Fin 512) (c : Fin 1024) :
    join x sc p0 p1 p2 p3 (ix3 0 r c) = x (ix3 0 r c)
      + concatenate S512x1024 1 [⟨S512x256, p0⟩, ⟨S512x256, p1⟩, ⟨S512x256, p2⟩, ⟨S512x256, p3⟩] concatenates_S512x256_S512x256_S512x256_S512x256_S512x1024_d1 (ix2 r c) * sc (ix2 0 c) := by
  unfold join
  generalize concatenate S512x1024 1 [⟨S512x256, p0⟩, ⟨S512x256, p1⟩, ⟨S512x256, p2⟩, ⟨S512x256, p3⟩] concatenates_S512x256_S512x256_S512x256_S512x256_S512x1024_d1 = z
  pointwise []

/-- The joined groups at a group's column. -/
theorem groups_apply (p : Fin 4 → FVec Ideal S512x256 .f32) (r : Fin 512) (q : Fin 4) (j : Fin 256) :
    concatenate S512x1024 1 [⟨S512x256, p 0⟩, ⟨S512x256, p 1⟩, ⟨S512x256, p 2⟩, ⟨S512x256, p 3⟩] concatenates_S512x256_S512x256_S512x256_S512x256_S512x1024_d1 (ix2 r (col q j))
      = p q (ix2 r j) := by
  refine concatenate_apply_piece (t := S512x1024) 1 [⟨S512x256, p 0⟩, ⟨S512x256, p 1⟩, ⟨S512x256, p 2⟩, ⟨S512x256, p 3⟩] _ (ix2 r (col q j)) q.val q.isLt S512x256 (p q) ?_ rfl (256 * q.val) ?_ (ix2 r j) (fun a ha => ?_) rfl
  · match q with
    | ⟨0, _⟩ => rfl
    | ⟨1, _⟩ => rfl
    | ⟨2, _⟩ => rfl
    | ⟨3, _⟩ => rfl
  · match q with
    | ⟨0, _⟩ => rfl
    | ⟨1, _⟩ => rfl
    | ⟨2, _⟩ => rfl
    | ⟨3, _⟩ => rfl
  · match a with
    | ⟨0, _⟩ => rfl
    | ⟨1, _⟩ => exact absurd rfl ha

/-- The groups, as the body computes them. -/
def part (i : grid0.Coords) (a : Fin 4 → Vec Ideal S528x256 .f32) (c : Fin 4 → Vec Ideal S512x256 .f32) (w : Fin 4 → Vec Ideal S1x256x256 .bf16) (q : Fin 4) : FVec Ideal S512x256 .f32 :=
  match q with
  | ⟨0, _⟩ => times (less (lower (twice (a 0) 1#32)) (least (k0_pay5 i) 0x40000000#32) (c 0)) (w 0)
  | ⟨1, _⟩ => times (less (lower (twice (twice (a 1) 1#32) 2#32)) (least (k0_pay5 i) 0x40800000#32) (c 1)) (w 1)
  | ⟨2, _⟩ => times (less (lower (twice (twice (twice (a 2) 1#32) 2#32) 4#32)) (least (k0_pay5 i) 0x41000000#32) (c 2)) (w 2)
  | ⟨3, _⟩ => times (less (lower (twice (twice (twice (twice (a 3) 1#32) 2#32) 4#32) 8#32)) (least (k0_pay5 i) 0x41800000#32) (c 3)) (w 3)

/-- The block is the four groups joined. -/
theorem body_eq (i : grid0.Coords) (x : Vec Ideal S1x512x1024 .f32) (sc : Vec Ideal S1x1024 .f32) (a : Fin 4 → Vec Ideal S528x256 .f32) (c : Fin 4 → Vec Ideal S512x256 .f32)
    (w : Fin 4 → Vec Ideal S1x256x256 .bf16) :
    body i x sc (a 0) (a 1) (a 2) (a 3) (c 0) (c 1) (c 2) (c 3) (w 0) (w 1) (w 2) (w 3) = join x sc (part i a c w 0) (part i a c w 1) (part i a c w 2) (part i a c w 3) := rfl

variable {u : ℕ → Fin 1024 → EReal} {W : Fin 4 → Fin 256 → Fin 256 → EReal}

/-- A group's entries. -/
theorem part_apply (i : grid0.Coords) {a : Fin 4 → Vec Ideal S528x256 .f32} {c : Fin 4 → Vec Ideal S512x256 .f32} {w : Fin 4 → Vec Ideal S1x256x256 .bf16}
    (ha : ∀ q (r : Fin 528) (j : Fin 256), a q (ix2 r j) = u r.val (col q j)) (hc : ∀ q (r : Fin 512) (j : Fin 256), c q (ix2 r j) = u (16 + r.val) (col q j))
    (hw : ∀ q (k j : Fin 256), w q (ix3 0 k j) = W q k j) (q : Fin 4) (r : Fin 512) (j : Fin 256) :
    part i a c w q (ix2 r j) = ∑ k, lessMean u (upTo (512 * (i 1).val + r.val)) q (16 + r.val) k * W q k j := by
  have h1 : ∀ q (r : Fin 528) (j : Fin 256), 1 ≤ r.val + 1 → a q (ix2 r j) = trail (fun r => u r (col q j)) 1 r.val := fun q r j _ => by
    rw [trail_one, ha]
  have h2 := fun q => twice_apply (b := 1#32) rfl (by decide) (by decide) (h1 q)
  have h4 := fun q => twice_apply (b := 2#32) rfl (by decide) (by decide) (h2 q)
  have h8 := fun q => twice_apply (b := 4#32) rfl (by decide) (by decide) (h4 q)
  have h16 := fun q => twice_apply (b := 8#32) rfl (by decide) (by decide) (h8 q)
  match q with
  | ⟨0, _⟩ =>
    refine (times_apply _ _ r j).trans (Finset.sum_congr rfl fun k _ => ?_)
    rw [less_apply, lower_apply, least_apply, count_apply, h2 0 _ k (by show 2 ≤ 16 + r.val + 1; omega), hc, hw]
    rfl
  | ⟨1, _⟩ =>
    refine (times_apply _ _ r j).trans (Finset.sum_congr rfl fun k _ => ?_)
    rw [less_apply, lower_apply, least_apply, count_apply, h4 1 _ k (by show 4 ≤ 16 + r.val + 1; omega), hc, hw]
    rfl
  | ⟨2, _⟩ =>
    refine (times_apply _ _ r j).trans (Finset.sum_congr rfl fun k _ => ?_)
    rw [less_apply, lower_apply, least_apply, count_apply, h8 2 _ k (by show 8 ≤ 16 + r.val + 1; omega), hc, hw]
    rfl
  | ⟨3, _⟩ =>
    refine (times_apply _ _ r j).trans (Finset.sum_congr rfl fun k _ => ?_)
    rw [less_apply, lower_apply, least_apply, count_apply, h16 3 _ k (by show 16 ≤ 16 + r.val + 1; omega), hc, hw]
    rfl

/-- The row stored. -/
theorem body_apply (i : grid0.Coords) (x : Vec Ideal S1x512x1024 .f32) (sc : Vec Ideal S1x1024 .f32) {a : Fin 4 → Vec Ideal S528x256 .f32} {c : Fin 4 → Vec Ideal S512x256 .f32}
    {w : Fin 4 → Vec Ideal S1x256x256 .bf16}
    (ha : ∀ q (r : Fin 528) (j : Fin 256), a q (ix2 r j) = u r.val (col q j)) (hc : ∀ q (r : Fin 512) (j : Fin 256), c q (ix2 r j) = u (16 + r.val) (col q j))
    (hw : ∀ q (k j : Fin 256), w q (ix3 0 k j) = W q k j) (r : Fin 512) (q : Fin 4) (j : Fin 256) :
    body i x sc (a 0) (a 1) (a 2) (a 3) (c 0) (c 1) (c 2) (c 3) (w 0) (w 1) (w 2) (w 3) (ix3 0 r (col q j))
      = poolRow (fun k => x (ix3 0 r k)) (fun k => sc (ix2 0 k)) W u (upTo (512 * (i 1).val + r.val)) (16 + r.val) q j := by
  rw [body_eq, join_of, groups_apply (fun q => part i a c w q), part_apply i ha hc hw]
  rfl

/-- Four things, by group. -/
def pick {α : Type} (a0 a1 a2 a3 : α) (q : Fin 4) : α :=
  match q with
  | ⟨0, _⟩ => a0
  | ⟨1, _⟩ => a1
  | ⟨2, _⟩ => a2
  | ⟨3, _⟩ => a3

/-- What holds of each holds of the one picked. -/
theorem pick_all {α : Type} {P : Fin 4 → α → Prop} {a0 a1 a2 a3 : α} (h0 : P 0 a0) (h1 : P 1 a1) (h2 : P 2 a2) (h3 : P 3 a3) (q : Fin 4) : P q (pick a0 a1 a2 a3 q) := by
  match q with
  | ⟨0, _⟩ => exact h0
  | ⟨1, _⟩ => exact h1
  | ⟨2, _⟩ => exact h2
  | ⟨3, _⟩ => exact h3

/-- A load of a group's columns. -/
def Tall (u : ℕ → Fin 1024 → EReal) (q : Fin 4) (a : Vec Ideal S528x256 .f32) : Prop := ∀ (r : Fin 528) (j : Fin 256), a (ix2 r j) = u r.val (col q j)

/-- A load of a group's columns from row 16 on. -/
def Low (u : ℕ → Fin 1024 → EReal) (q : Fin 4) (a : Vec Ideal S512x256 .f32) : Prop := ∀ (r : Fin 512) (j : Fin 256), a (ix2 r j) = u (16 + r.val) (col q j)

/-- A load of a group's matrix. -/
def Mat (W : Fin 4 → Fin 256 → Fin 256 → EReal) (q : Fin 4) (a : Vec Ideal S1x256x256 .bf16) : Prop := ∀ k j : Fin 256, a (ix3 0 k j) = W q k j

/-- The row stored, over the loads one by one. -/
theorem stored_of (i : grid0.Coords) (x : Vec Ideal S1x512x1024 .f32) (sc : Vec Ideal S1x1024 .f32) {a0 a1 a2 a3 : Vec Ideal S528x256 .f32} {c0 c1 c2 c3 : Vec Ideal S512x256 .f32}
    {w0 w1 w2 w3 : Vec Ideal S1x256x256 .bf16} (ha0 : Tall u 0 a0) (ha1 : Tall u 1 a1) (ha2 : Tall u 2 a2) (ha3 : Tall u 3 a3)
    (hc0 : Low u 0 c0) (hc1 : Low u 1 c1) (hc2 : Low u 2 c2) (hc3 : Low u 3 c3) (hw0 : Mat W 0 w0) (hw1 : Mat W 1 w1) (hw2 : Mat W 2 w2) (hw3 : Mat W 3 w3)
    (r : Fin 512) (q : Fin 4) (j : Fin 256) :
    k0_pay1 (F := Ideal) (k0_pay12 (k0_pay3 x) (k0_pay5 i) (k0_pay8 c0 (k0_pay6 a0) (k0_pay7 i) w0) (k0_pay9 (k0_pay5 i) a1 c1 w1) (k0_pay10 (k0_pay5 i) a2 c2) w2 a3 c3 w3 sc) (ix3 0 r (col q j))
      = poolRow (fun k => x (ix3 0 r k)) (fun k => sc (ix2 0 k)) W u (upTo (512 * (i 1).val + r.val)) (16 + r.val) q j :=
  body_apply i x sc (a := pick a0 a1 a2 a3) (c := pick c0 c1 c2 c3) (w := pick w0 w1 w2 w3)
    (pick_all (P := Tall u) ha0 ha1 ha2 ha3) (pick_all (P := Low u) hc0 hc1 hc2 hc3) (pick_all (P := Mat W) hw0 hw1 hw2 hw3) r q j

/-- Where a group's columns lie, from row `o` on. -/
theorem group_idx {n o c0 : ℕ} {inb} (q : Fin 4) (hc : c0 = 256 * q.val) (r : Fin n) (j : Fin 256) (h : o + r.val < 528) :
    (Rect.unit (s := S528x1024) ![o, c0] (⟨2, ![n, 256]⟩ : Shape).size inb).toLoadRect.idx (ix2 r j) = ix2 (⟨o + r.val, h⟩ : Fin 528) (col q j) := by
  funext a
  refine Fin.ext ?_
  match a with
  | ⟨0, _⟩ => show o + 1 * r.val = o + r.val; omega
  | ⟨1, _⟩ => show c0 + 1 * j.val = 256 * q.val + j.val; omega

/-- A tall load of the writes alone. -/
theorem tall_cov {L : List (View.Piece (Elt Ideal) S528x1024 .f32)} (hL : ∀ (r : Fin 528) (c : Fin 1024), View.canon L (ix2 r c) = u r.val c)
    (v : View sig .tc .vmem S528x1024 .f32) (q : Fin 4) {c0 : ℕ} (hc : c0 = 256 * q.val) {inb} :
    Tall u q (v.readCov L (Rect.unit (s := S528x1024) ![0, c0] S528x256.size inb).toLoadRect) := fun r j => by
  rw [View.readCov_eq_canon']
  refine (congrArg (View.canon L) (group_idx q hc r j (by omega))).trans ((hL _ _).trans ?_)
  exact congrArg (fun n => u n (col q j)) (Nat.zero_add _)

/-- A tall load of the writes over what was there. -/
theorem tall_over {v : View sig .tc .vmem S528x1024 .f32} {f : v.ty.Contents (Elt Ideal)} (hf : ∀ (r : Fin 528) (c : Fin 1024), v.read (Elt Ideal) f (ix2 r c) = u r.val c)
    (q : Fin 4) {c0 : ℕ} (hc : c0 = 256 * q.val) {inb} :
    Tall u q (View.readAt (Elt Ideal) v (Rect.unit (s := S528x1024) ![0, c0] S528x256.size inb).toLoadRect f) := fun r j => by
  rw [View.readAt_apply]
  refine (congrArg (v.read (Elt Ideal) f) (group_idx q hc r j (by omega))).trans ((hf _ _).trans ?_)
  exact congrArg (fun n => u n (col q j)) (Nat.zero_add _)

/-- A load from row 16 on. -/
theorem low_cov {L : List (View.Piece (Elt Ideal) S528x1024 .f32)} (hL : ∀ (r : Fin 528) (c : Fin 1024), 16 ≤ r.val → View.canon L (ix2 r c) = u r.val c)
    (v : View sig .tc .vmem S528x1024 .f32) (q : Fin 4) {c0 : ℕ} (hc : c0 = 256 * q.val) {inb} :
    Low u q (v.readCov L (Rect.unit (s := S528x1024) ![16, c0] S512x256.size inb).toLoadRect) := fun r j => by
  rw [View.readCov_eq_canon']
  exact (congrArg (View.canon L) (group_idx q hc r j (by omega))).trans (hL _ _ (Nat.le_add_right _ _))

/-- The rows the point sums: 16 rows left by the point before, then the block's normalised rows. -/
def near (p : Fin 16 → Fin 1024 → EReal) (x : Vec Ideal S1x512x1024 .f32) (g : Vec Ideal S1x1024 .f32) (r : ℕ) (c : Fin 1024) : EReal :=
  if h : r < 16 then p ⟨r, h⟩ c else if h' : r - 16 < 512 then rmsRow (fun k => x (ix3 0 ⟨r - 16, h'⟩ k)) (fun k => g (ix2 0 k)) c else 0

/-- The block's normalised rows, written from row 16 on, read from the writes alone. -/
theorem own_rows {L : List (View.Piece (Elt Ideal) S528x1024 .f32)} {inb} {p : Fin 16 → Fin 1024 → EReal}
    (x : Vec Ideal S1x512x1024 .f32) (g : Vec Ideal S1x1024 .f32) (r : Fin 528) (c : Fin 1024) (hr : 16 ≤ r.val) :
    View.canon ((⟨Rect.unit (s := S528x1024) ![16, 0] S512x1024.size inb, k0_pay4 (F := Ideal) x g⟩ : View.Piece (Elt Ideal) S528x1024 .f32) :: L) (ix2 r c) = near p x g r.val c := by
  have e : (ix2 r c : S528x1024.Idx) = (Rect.unit (s := S528x1024) ![16, 0] S512x1024.size inb).emb (ix2 (⟨r.val - 16, by omega⟩ : Fin 512) c) := by
    funext a
    refine Fin.ext ?_
    rw [ValueKit.rect_emb_unit_val]
    match a with
    | ⟨0, _⟩ => show r.val = 16 + (r.val - 16); omega
    | ⟨1, _⟩ => exact (Nat.zero_add _).symm
  refine (congrArg _ e).trans ((View.canon_cons_emb _ _ _ _).trans ((norm_apply x g _ c).trans ?_))
  rw [near, dif_neg (by omega), dif_pos (by omega)]

/-- All the rows from the writes alone, when zeros were written to the first 16. -/
theorem first_rows {inb inb'} (x : Vec Ideal S1x512x1024 .f32) (g : Vec Ideal S1x1024 .f32) (r : Fin 528) (c : Fin 1024) :
    View.canon [(⟨Rect.unit (s := S528x1024) ![16, 0] S512x1024.size inb, k0_pay4 (F := Ideal) x g⟩ : View.Piece (Elt Ideal) S528x1024 .f32),
      ⟨Rect.unit (s := S528x1024) ![0, 0] S16x1024.size inb', k0_pay2 (F := Ideal)⟩] (ix2 r c) = near (fun _ _ => 0) x g r.val c := by
  by_cases hr : 16 ≤ r.val
  · exact own_rows x g r c hr
  · refine (View.canon_cons_of_not_mem _ _ (fun hm => hr (by
      have h0 := (Rect.mem_set_unit (s := S528x1024) (off := ![16, 0]) (size := S512x1024.size) (inb := inb)).mp hm 0
      have h1 : 16 ≤ r.val := h0.1
      exact h1))).trans ?_
    have e : (ix2 r c : S528x1024.Idx) = (Rect.unit (s := S528x1024) ![0, 0] S16x1024.size inb').emb (ix2 (⟨r.val, by omega⟩ : Fin 16) c) := by
      funext a
      refine Fin.ext ?_
      rw [ValueKit.rect_emb_unit_val]
      match a with
      | ⟨0, _⟩ => exact (Nat.zero_add _).symm
      | ⟨1, _⟩ => exact (Nat.zero_add _).symm
    refine (congrArg _ e).trans ((View.canon_cons_emb _ _ _ _).trans ?_)
    rw [near, dif_pos (by omega)]
    pointwise [k0_pay2]

/-- All the rows, over what the point before left in the first 16. -/
theorem next_rows {inb} (v : Memref sig .tc .vmem S528x1024 .f32) (hv : v.IsWhole) (s : Vec Ideal S528x1024 .f32)
    (x : Vec Ideal S1x512x1024 .f32) (g : Vec Ideal S1x1024 .f32) (r : Fin 528) (c : Fin 1024) :
    v.view.read (Elt Ideal) (v.view.writes (Elt Ideal) (hv.unread s) [(⟨Rect.unit (s := S528x1024) ![16, 0] S512x1024.size inb, k0_pay4 (F := Ideal) x g⟩ : View.Piece (Elt Ideal) S528x1024 .f32)]) (ix2 r c)
      = near (fun r c => s (ix2 ⟨r.val, by omega⟩ c)) x g r.val c := by
  by_cases hr : 16 ≤ r.val
  · refine (View.read_writes_cons_unit_of_mem v.view _ inb _ _ _ (ix2 (⟨r.val - 16, by omega⟩ : Fin 512) c) rfl fun a => ?_).trans ((norm_apply x g _ c).trans ?_)
    · match a with
      | ⟨0, _⟩ => show r.val = 16 + (r.val - 16); omega
      | ⟨1, _⟩ => exact (Nat.zero_add _).symm
    · rw [near, dif_neg (by omega), dif_pos (by omega)]
  · refine (View.read_writes_cons_unit_of_not_mem v.view _ inb _ _ _ rfl 0 (Or.inl (show r.val < 16 by omega))).trans ?_
    show v.view.read (Elt Ideal) (hv.unread s) (ix2 r c) = _
    rw [hv.read_unread, near, dif_pos (by omega)]

/-- A load of a whole array is the array. -/
theorem full_ok {S : Shape} {e : EltTy} {v : Memref sig .tc .vmem S e} (hv : v.IsWhole) {x : Vec Ideal S e} {off : Fin S.rank → ℕ} {inb : ∀ a, off a + S.size a ≤ S.size a} :
    View.readAt (Elt Ideal) v.view (Rect.unit off S.size inb).toLoadRect (hv.unread x) = x := by
  rw [View.readAt_full, hv.read_unread]

/-- A group's matrix, as loaded. -/
theorem mat_ok (v : Memref sig .tc .vmem S4x256x256 .bf16) (hv : v.IsWhole) (x : Vec Ideal S4x256x256 .bf16) (q : Fin 4) {o : ℕ} (ho : o = q.val) {inb} (k j : Fin 256) :
    View.readAt (Elt Ideal) v.view (Rect.unit (s := S4x256x256) ![o, 0, 0] S1x256x256.size inb).toLoadRect (hv.unread x) (ix3 0 k j) = x (ix3 q k j) := by
  rw [View.readAt_apply, hv.read_unread]
  refine congrArg x (funext fun a => Fin.ext ?_)
  match a with
  | ⟨0, _⟩ => show o + 1 * 0 = q.val; omega
  | ⟨1, _⟩ => show 0 + 1 * k.val = k.val; omega
  | ⟨2, _⟩ => show 0 + 1 * j.val = j.val; omega

/-- Where the last 16 rows lie. -/
theorem last_idx {inb} (r : Fin 16) (c : Fin 1024) :
    (Rect.unit (s := S528x1024) ![512, 0] S16x1024.size inb).toLoadRect.idx (ix2 r c) = ix2 (⟨512 + r.val, by omega⟩ : Fin 528) c := by
  funext a
  refine Fin.ext ?_
  match a with
  | ⟨0, _⟩ => show 512 + 1 * r.val = 512 + r.val; omega
  | ⟨1, _⟩ => show 0 + 1 * c.val = c.val; omega

/-- The rows kept for the next point are stored as loaded. -/
theorem kept_apply (v : Vec Ideal S16x1024 .f32) (r : Fin 16) (c : Fin 1024) : k0_pay11 (F := Ideal) v (ix2 r c) = v (ix2 r c) := by
  pointwise [k0_pay11]

/-- The first 16 rows, when they are written last. -/
theorem top_rows {inb} (w : Vec Ideal S16x1024 .f32) (L : List (View.Piece (Elt Ideal) S528x1024 .f32)) (r : Fin 16) (c : Fin 1024) :
    View.canon ((⟨Rect.unit (s := S528x1024) ![0, 0] S16x1024.size inb, w⟩ : View.Piece (Elt Ideal) S528x1024 .f32) :: L) (ix2 ⟨r.val, by omega⟩ c) = w (ix2 r c) := by
  have e : (ix2 ⟨r.val, by omega⟩ c : S528x1024.Idx) = (Rect.unit (s := S528x1024) ![0, 0] S16x1024.size inb).emb (ix2 r c) := by
    funext a
    refine Fin.ext ?_
    rw [ValueKit.rect_emb_unit_val]
    match a with
    | ⟨0, _⟩ => exact (Nat.zero_add _).symm
    | ⟨1, _⟩ => exact (Nat.zero_add _).symm
  exact (congrArg _ e).trans (View.canon_cons_emb _ _ _ _)

end Cert.PoolIdeal.State

end
-- ==== Proof.PoolFirst.lean ====
/-
  The pooling kernel's body at a sequence's first tile: what it stores and leaves in the scratch array.
-/
module

public import proofs.«01_k».proof.Proof.PoolState

@[expose] public section

set_option maxRecDepth 100000

noncomputable section

namespace Cert.PoolIdeal.First

open Cert.PoolIdeal Cert.PoolIdeal.Gen Cert.PoolIdeal.Gen.kernelRun0_A Cert.PoolIdeal.State Cert.Pool.Spec Cert.Ffn.Spec
open Idealize.ShloMosaic Idealize.ShloMosaic.TcCoe Idealize.ShloMosaic.Tactic Idealize.SL.Sem

/-- All the rows, from the writes alone. -/
theorem rows_all (c : Dev nD) (arg2 : Memref sig .tc .vmem S1x512x1024 .f32) (harg2 : arg2.IsWhole) (arg3 : Memref sig .tc .vmem S1x1024 .f32) (harg3 : arg3.IsWhole) (x0 : Vec Ideal S1x512x1024 .f32) (x1 : Vec Ideal S1x1024 .f32) (r : Fin 528) (c' : Fin 1024) :
    View.canon (sl.HS0_2 (F := Ideal) c arg2 harg2 arg3 harg3 x0 x1) (ix2 r c') = near (fun _ _ => 0) x0 x1 r.val c' := by
  unfold sl.HS0_2
  rw [first_rows, full_ok harg2, full_ok harg3]

/-- What the body stores. -/
theorem stored (i : grid0.Coords) (c : Dev nD) (arg2 : Memref sig .tc .vmem S1x512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S528x1024 .f32) (harg7 : arg7.IsWhole) (hc0 : cond0_0 i) (x0 : Vec Ideal S1x512x1024 .f32) (x1 : Vec Ideal S1x1024 .f32) (x2 : Vec Ideal S4x256x256 .bf16) (x3 : Vec Ideal S1x1024 .f32) (r : Fin 512) (q : Fin 4) (j : Fin 256) :
    out0_A_4 (F := Ideal) c i arg2 harg2 arg3 harg3 arg4 harg4 arg5 harg5 arg6 harg6 arg7 harg7 hc0 x0 x1 x2 x3 (ix3 0 r (col q j))
      = poolRow (fun k => x0 (ix3 0 r k)) (fun k => x3 (ix2 0 k)) (fun q k j => x2 (ix3 q k j)) (near (fun _ _ => 0) x0 x1) (upTo (512 * (i 1).val + r.val)) (16 + r.val) q j := by
  unfold out0_A_4
  rw [View.read_writes_junk_apply_eq_canon]
  unfold kernelRun0_A
  refine (congrFun (View.canon_cons_unit_zero (S := S1x512x1024) (by funext a; fin_cases a <;> rfl) _ _ _) _).trans ?_
  unfold sl.r_5 sl.r_4 sl.r_3 sl.r_2 sl.r_1 sl.r sl.v28 sl.v31 sl.v42 sl.v47 sl.v58 sl.v65 sl.v76 sl.v85
  have hx := full_ok harg2 (x := x0) (off := ![0, 0, 0]) (inb := inb_S1x512x1024_S1x512x1024_0_0_0)
  have hs := full_ok harg5 (x := x3) (off := ![0, 0]) (inb := inb_S1x1024_S1x1024_0_0)
  rw [hx, hs]
  refine stored_of (u := near (fun _ _ => 0) x0 x1) (W := fun q k j => x2 (ix3 q k j)) i x0 x3
    (tall_cov (rows_all c arg2 harg2 arg3 harg3 x0 x1) _ 0 rfl) (tall_cov (rows_all c arg2 harg2 arg3 harg3 x0 x1) _ 1 rfl) (tall_cov (rows_all c arg2 harg2 arg3 harg3 x0 x1) _ 2 rfl) (tall_cov (rows_all c arg2 harg2 arg3 harg3 x0 x1) _ 3 rfl)
    (low_cov (fun r c' _ => rows_all c arg2 harg2 arg3 harg3 x0 x1 r c') _ 0 rfl) (low_cov (fun r c' _ => rows_all c arg2 harg2 arg3 harg3 x0 x1 r c') _ 1 rfl) (low_cov (fun r c' _ => rows_all c arg2 harg2 arg3 harg3 x0 x1 r c') _ 2 rfl) (low_cov (fun r c' _ => rows_all c arg2 harg2 arg3 harg3 x0 x1 r c') _ 3 rfl)
    (mat_ok arg4 harg4 x2 0 rfl) (mat_ok arg4 harg4 x2 1 rfl) (mat_ok arg4 harg4 x2 2 rfl) (mat_ok arg4 harg4 x2 3 rfl) r q j

/-- What the body leaves for the next point. -/
theorem left (i : grid0.Coords) (c : Dev nD) (arg2 : Memref sig .tc .vmem S1x512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S528x1024 .f32) (harg7 : arg7.IsWhole) (hc0 : cond0_0 i) (x0 : Vec Ideal S1x512x1024 .f32) (x1 : Vec Ideal S1x1024 .f32) (x2 : Vec Ideal S4x256x256 .bf16) (x3 : Vec Ideal S1x1024 .f32) (r : Fin 16) (j : Fin 1024) :
    sout0_A_0 (F := Ideal) c i arg2 harg2 arg3 harg3 arg4 harg4 arg5 harg5 arg6 harg6 arg7 harg7 hc0 x0 x1 x2 x3 (ix2 ⟨r.val, by omega⟩ j) = near (fun _ _ => 0) x0 x1 (512 + r.val) j := by
  unfold sout0_A_0
  rw [View.read_writes_junk_apply_eq_canon]
  unfold kernelRun0_A
  refine (top_rows _ _ r j).trans ((kept_apply _ r j).trans ?_)
  unfold sl.v96
  rw [View.readCov_eq_canon']
  exact (congrArg _ (last_idx r j)).trans (rows_all c arg2 harg2 arg3 harg3 x0 x1 _ _)

end Cert.PoolIdeal.First

end
-- ==== Proof.PoolNext.lean ====
/-
  The pooling kernel's body at a later tile: what it stores and leaves in the scratch array.
-/
module

public import proofs.«01_k».proof.Proof.PoolState

@[expose] public section

set_option maxRecDepth 100000

noncomputable section

namespace Cert.PoolIdeal.Next

open Cert.PoolIdeal Cert.PoolIdeal.Gen Cert.PoolIdeal.Gen.kernelRun0_B Cert.PoolIdeal.State Cert.Pool.Spec Cert.Ffn.Spec
open Idealize.ShloMosaic Idealize.ShloMosaic.TcCoe Idealize.ShloMosaic.Tactic Idealize.SL.Sem

/-- The rows from 16 on, from the writes alone. -/
theorem rows_own (p : Fin 16 → Fin 1024 → EReal) (c : Dev nD) (arg2 : Memref sig .tc .vmem S1x512x1024 .f32) (harg2 : arg2.IsWhole) (arg3 : Memref sig .tc .vmem S1x1024 .f32) (harg3 : arg3.IsWhole) (x0 : Vec Ideal S1x512x1024 .f32) (x1 : Vec Ideal S1x1024 .f32) (r : Fin 528) (c' : Fin 1024) (hr : 16 ≤ r.val) :
    View.canon (sl.HS0_1 (F := Ideal) c arg2 harg2 arg3 harg3 x0 x1) (ix2 r c') = near p x0 x1 r.val c' := by
  unfold sl.HS0_1
  rw [own_rows (p := p) _ _ r c' hr, full_ok harg2, full_ok harg3]

/-- All the rows, over what the point before left. -/
theorem rows_all (c : Dev nD) (arg2 : Memref sig .tc .vmem S1x512x1024 .f32) (harg2 : arg2.IsWhole) (arg3 : Memref sig .tc .vmem S1x1024 .f32) (harg3 : arg3.IsWhole) (arg7 : Memref sig .tc .vmem S528x1024 .f32) (harg7 : arg7.IsWhole) (x0 : Vec Ideal S1x512x1024 .f32) (x1 : Vec Ideal S1x1024 .f32) (xs0 : Vec Ideal S528x1024 .f32) (r : Fin 528) (c' : Fin 1024) :
    arg7.view.read (Elt Ideal) (arg7.view.writes (Elt Ideal) (harg7.unread xs0) (sl.HS0_1 (F := Ideal) c arg2 harg2 arg3 harg3 x0 x1)) (ix2 r c') = near (fun r c => xs0 (ix2 ⟨r.val, by omega⟩ c)) x0 x1 r.val c' := by
  unfold sl.HS0_1
  rw [next_rows, full_ok harg2, full_ok harg3]

/-- What the body stores. -/
theorem stored (i : grid0.Coords) (c : Dev nD) (arg2 : Memref sig .tc .vmem S1x512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S528x1024 .f32) (harg7 : arg7.IsWhole) (hc0 : ¬cond0_0 i) (x0 : Vec Ideal S1x512x1024 .f32) (x1 : Vec Ideal S1x1024 .f32) (x2 : Vec Ideal S4x256x256 .bf16) (x3 : Vec Ideal S1x1024 .f32) (xs0 : Vec Ideal S528x1024 .f32) (r : Fin 512) (q : Fin 4) (j : Fin 256) :
    out0_B_4 (F := Ideal) c i arg2 harg2 arg3 harg3 arg4 harg4 arg5 harg5 arg6 harg6 arg7 harg7 hc0 x0 x1 x2 x3 xs0 (ix3 0 r (col q j))
      = poolRow (fun k => x0 (ix3 0 r k)) (fun k => x3 (ix2 0 k)) (fun q k j => x2 (ix3 q k j)) (near (fun r c => xs0 (ix2 ⟨r.val, by omega⟩ c)) x0 x1) (upTo (512 * (i 1).val + r.val)) (16 + r.val) q j := by
  unfold out0_B_4
  rw [View.read_writes_junk_apply_eq_canon]
  unfold kernelRun0_B
  refine (congrFun (View.canon_cons_unit_zero (S := S1x512x1024) (by funext a; fin_cases a <;> rfl) _ _ _) _).trans ?_
  unfold sl.r_5 sl.r_4 sl.r_3 sl.r_2 sl.r_1 sl.r sl.v31 sl.v47 sl.v65 sl.v85
  have hx := full_ok harg2 (x := x0) (off := ![0, 0, 0]) (inb := inb_S1x512x1024_S1x512x1024_0_0_0)
  have hs := full_ok harg5 (x := x3) (off := ![0, 0]) (inb := inb_S1x1024_S1x1024_0_0)
  rw [hx, hs]
  refine stored_of (u := near (fun r c => xs0 (ix2 ⟨r.val, by omega⟩ c)) x0 x1) (W := fun q k j => x2 (ix3 q k j)) i x0 x3
    (tall_over (rows_all c arg2 harg2 arg3 harg3 arg7 harg7 x0 x1 xs0) 0 rfl) (tall_over (rows_all c arg2 harg2 arg3 harg3 arg7 harg7 x0 x1 xs0) 1 rfl) (tall_over (rows_all c arg2 harg2 arg3 harg3 arg7 harg7 x0 x1 xs0) 2 rfl) (tall_over (rows_all c arg2 harg2 arg3 harg3 arg7 harg7 x0 x1 xs0) 3 rfl)
    (low_cov (rows_own (fun r c => xs0 (ix2 ⟨r.val, by omega⟩ c)) c arg2 harg2 arg3 harg3 x0 x1) _ 0 rfl) (low_cov (rows_own (fun r c => xs0 (ix2 ⟨r.val, by omega⟩ c)) c arg2 harg2 arg3 harg3 x0 x1) _ 1 rfl) (low_cov (rows_own (fun r c => xs0 (ix2 ⟨r.val, by omega⟩ c)) c arg2 harg2 arg3 harg3 x0 x1) _ 2 rfl) (low_cov (rows_own (fun r c => xs0 (ix2 ⟨r.val, by omega⟩ c)) c arg2 harg2 arg3 harg3 x0 x1) _ 3 rfl)
    (mat_ok arg4 harg4 x2 0 rfl) (mat_ok arg4 harg4 x2 1 rfl) (mat_ok arg4 harg4 x2 2 rfl) (mat_ok arg4 harg4 x2 3 rfl) r q j

/-- What the body leaves for the next point. -/
theorem left (i : grid0.Coords) (c : Dev nD) (arg2 : Memref sig .tc .vmem S1x512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S528x1024 .f32) (harg7 : arg7.IsWhole) (hc0 : ¬cond0_0 i) (x0 : Vec Ideal S1x512x1024 .f32) (x1 : Vec Ideal S1x1024 .f32) (x2 : Vec Ideal S4x256x256 .bf16) (x3 : Vec Ideal S1x1024 .f32) (xs0 : Vec Ideal S528x1024 .f32) (r : Fin 16) (j : Fin 1024) :
    sout0_B_0 (F := Ideal) c i arg2 harg2 arg3 harg3 arg4 harg4 arg5 harg5 arg6 harg6 arg7 harg7 hc0 x0 x1 x2 x3 xs0 (ix2 ⟨r.val, by omega⟩ j) = near (fun r c => xs0 (ix2 ⟨r.val, by omega⟩ c)) x0 x1 (512 + r.val) j := by
  unfold sout0_B_0
  rw [View.read_writes_junk_apply_eq_canon]
  unfold kernelRun0_B
  refine (top_rows _ _ r j).trans ((kept_apply _ r j).trans ?_)
  unfold sl.v96
  rw [View.readCov_eq_canon']
  exact (congrArg _ (last_idx r j)).trans (rows_own (fun r c => xs0 (ix2 ⟨r.val, by omega⟩ c)) c arg2 harg2 arg3 harg3 x0 x1 _ _ (Nat.le_trans (by decide) (Nat.le_add_right 512 r.val)))

end Cert.PoolIdeal.Next

end
-- ==== Proof.PoolKernel.lean ====
/-
  The pooling mixer's result array: every grid point stores 512 rows of one sequence, reading the 16
  normalised rows before them from what the point before left.
-/
module

public import proofs.«01_k».proof.Proof.PoolFirst
public import proofs.«01_k».proof.Proof.PoolNext
public import proofs.«01_k».proof.Proof.Gen.PoolIdeal.Value

@[expose] public section

set_option maxRecDepth 16384

noncomputable section

namespace Cert.PoolIdeal.Rows

open Cert.PoolIdeal Cert.PoolIdeal.Gen Cert.PoolIdeal.State Cert.Pool.Spec Cert.Conv.Spec Cert.Ffn.Spec Idealize.ShloMosaic Idealize.ShloMosaic.TcCoe Idealize.SL.Sem
open Idealize.ShloMosaic.Pipeline (Dat)
open scoped BigOperators

variable (m : (ℓ : Loc nD τ sig) → Buf (Elt Ideal) ℓ)

/-- The block each grid point reads of every array. -/
theorem idx : ∀ t : Fin cfg0.N, win0_0.index t = ![t.val / 8, t.val % 8, 0] ∧ win0_1.index t = ![0, 0] ∧ win0_2.index t = ![0, 0, 0] ∧ win0_3.index t = ![0, 0]
    ∧ win0_4.index t = ![t.val / 8, t.val % 8, 0] :=
  (by decide +kernel : ∀ t : Fin grid0.N, _)

/-- A point's second coordinate is its tile in the sequence. -/
theorem tile_no : ∀ t : Fin grid0.N, (grid0.coords t 1).val = t.val % 8 := by decide +kernel

/-- A sequence's normalised rows, 16 late, over the arrays the windows read. -/
def U (c : Dev nD) (b : Fin 16) : ℕ → Fin 1024 → EReal := behind (seq fun s k => V m c main_arg0 (ix3 b s k)) (fun k => V m c main_v0 (ix2 0 k))

/-- A grid point's sequence. -/
def bat (t : Fin cfg0.N) : Fin 16 := ⟨t.val / 8, by have h : t.val < 128 := t.isLt; omega⟩

/-- The rows a point's block holds. -/
theorem iblk0 (c : Dev nD) (t : Fin cfg0.N) (r : Fin 512) (k : Fin 1024) :
    iblk m c 0 t (ix3 0 r k) = V m c main_arg0 (ix3 (bat t) ⟨512 * (t.val % 8) + r.val, by omega⟩ k) := by
  have e : (bat t).val = t.val / 8 := rfl
  blk_ext [iblk, idx t, e]

/-- The rows a point sums are the sequence's late rows, when those left by the point before are. -/
theorem near_late (c : Dev nD) (t : Fin cfg0.N) (p : Fin 16 → Fin 1024 → EReal) (hp : ∀ r j, p r j = U m c (bat t) (512 * (t.val % 8) + r.val) j)
    (r : ℕ) (hr : r < 528) (j : Fin 1024) : near p (iblk m c 0 t) (iblk m c 1 t) r j = U m c (bat t) (512 * (t.val % 8) + r) j := by
  unfold near
  by_cases h : r < 16
  · rw [dif_pos h]
    exact hp _ _
  · have h' : r - 16 < 512 := by omega
    rw [dif_neg h, dif_pos h']
    have e1 : ∀ k, iblk m c 1 t (ix2 0 k) = V m c main_v0 (ix2 0 k) := fun k => by blk_ext [iblk, idx t]
    have es := seq_apply (fun s k => V m c main_arg0 (ix3 (bat t) s k)) ⟨512 * (t.val % 8) + (r - 16), by omega⟩
    have en : 512 * (t.val % 8) + r - 16 = 512 * (t.val % 8) + (r - 16) := by omega
    unfold U behind
    rw [if_neg (by omega), en]
    simp only [iblk0, e1]
    exact congrArg (fun y => rmsRow y _ j) es.symm

/-- What a point leaves for the next: the late rows it starts from. -/
theorem carried (c : Dev nD) (t : Fin cfg0.N) : ∀ (r : Fin 16) (j : Fin 1024),
    (outsAt0 m c t.val t.isLt).2 (ix2 ⟨r.val, by omega⟩ j) = U m c (bat t) (512 * (t.val % 8 + 1) + r.val) j := by
  obtain ⟨n, hn⟩ := t
  induction n with
  | zero =>
    intro r j
    have h0 : (⟨0, hn⟩ : Fin cfg0.N).val % 8 = 0 := rfl
    rw [outsAt0_A m c ⟨0, hn⟩ h0]
    dsimp only
    refine (First.left _ c _ _ _ _ _ _ _ _ _ _ _ _ _ _ _ _ _ r j).trans ((near_late m c ⟨0, hn⟩ _ (fun r j => ?_) (512 + r.val) (by omega) j).trans ?_)
    · unfold U behind
      rw [if_pos (by show 512 * (0 % 8) + r.val < 16; omega)]
    · exact congrArg (fun z => U m c (bat ⟨0, hn⟩) z j) (show 512 * (0 % 8) + (512 + r.val) = 512 * (0 % 8 + 1) + r.val by omega)
  | succ n ih =>
    intro r j
    by_cases h0 : (n + 1) % 8 = 0
    · rw [outsAt0_A m c ⟨n + 1, hn⟩ h0]
      dsimp only
      refine (First.left _ c _ _ _ _ _ _ _ _ _ _ _ _ _ _ _ _ _ r j).trans ((near_late m c ⟨n + 1, hn⟩ _ (fun r j => ?_) (512 + r.val) (by omega) j).trans ?_)
      · unfold U behind
        rw [if_pos (by show 512 * ((n + 1) % 8) + r.val < 16; omega)]
      · exact congrArg (fun z => U m c (bat ⟨n + 1, hn⟩) z j) (show 512 * ((n + 1) % 8) + (512 + r.val) = 512 * ((n + 1) % 8 + 1) + r.val by omega)
    · have hl : n < cfg0.N := Nat.lt_of_succ_lt hn
      have hb : bat ⟨n, hl⟩ = bat ⟨n + 1, hn⟩ := Fin.ext (by show n / 8 = (n + 1) / 8; omega)
      rw [outsAt0_B m c ⟨n + 1, hn⟩ h0]
      dsimp only
      refine (Next.left _ c _ _ _ _ _ _ _ _ _ _ _ _ _ _ _ _ _ _ r j).trans ((near_late m c ⟨n + 1, hn⟩ _ (fun r j => ?_) (512 + r.val) (by omega) j).trans ?_)
      · refine (ih hl r j).trans ?_
        rw [hb]
        exact congrArg (fun z => U m c (bat ⟨n + 1, hn⟩) z j) (show 512 * (n % 8 + 1) + r.val = 512 * ((n + 1) % 8) + r.val by omega)
      · exact congrArg (fun z => U m c (bat ⟨n + 1, hn⟩) z j) (show 512 * ((n + 1) % 8) + (512 + r.val) = 512 * ((n + 1) % 8 + 1) + r.val by omega)

/-- What a point stores, over the arrays the windows read. -/
theorem point_apply (c : Dev nD) (t : Fin cfg0.N) (r : Fin 512) (q : Fin 4) (j : Fin 256) : (outsAt0 m c t.val t.isLt).1 (ix3 0 r (col q j))
    = pool (seq fun s k => V m c main_arg0 (ix3 (bat t) s k)) (fun k => V m c main_v0 (ix2 0 k)) (fun k => V m c main_v2 (ix2 0 k)) (fun q k j => V m c main_v1 (ix3 q k j))
        (512 * (t.val % 8) + r.val) q j := by
  have e2 : ∀ q k j, iblk m c 2 t (ix3 q k j) = V m c main_v1 (ix3 q k j) := fun q k j => by blk_ext [iblk, idx t]
  have e3 : ∀ k, iblk m c 3 t (ix2 0 k) = V m c main_v2 (ix2 0 k) := fun k => by blk_ext [iblk, idx t]
  have fin : ∀ p : Fin 16 → Fin 1024 → EReal, (∀ r j, p r j = U m c (bat t) (512 * (t.val % 8) + r.val) j) →
      poolRow (fun k => iblk m c 0 t (ix3 0 r k)) (fun k => iblk m c 3 t (ix2 0 k)) (fun q k j => iblk m c 2 t (ix3 q k j)) (near p (iblk m c 0 t) (iblk m c 1 t))
        (upTo (512 * (grid0.coords t 1).val + r.val)) (16 + r.val) q j
      = pool (seq fun s k => V m c main_arg0 (ix3 (bat t) s k)) (fun k => V m c main_v0 (ix2 0 k)) (fun k => V m c main_v2 (ix2 0 k)) (fun q k j => V m c main_v1 (ix3 q k j))
        (512 * (t.val % 8) + r.val) q j := fun p hp => by
    unfold Cert.Pool.Spec.pool
    refine poolRow_congr (fun k => (iblk0 m c t r k).trans ?_) e3 e2 ?_ (by omega) (by omega) (fun n k hn => ?_) q j
    · exact (congrFun (seq_apply (fun s k => V m c main_arg0 (ix3 (bat t) s k)) ⟨512 * (t.val % 8) + r.val, by omega⟩) k).symm
    · rw [tile_no t]
    · rw [near_late m c t p hp _ (by omega) k]
      exact congrArg (fun z => U m c (bat t) z k) (by omega)
  by_cases h0 : t.val % 8 = 0
  · rw [outsAt0_A m c t h0]
    dsimp only
    refine (First.stored _ c _ _ _ _ _ _ _ _ _ _ _ _ _ _ _ _ _ r q j).trans (fin _ fun r j => ?_)
    unfold U behind
    rw [if_pos (by omega)]
  · rw [outsAt0_B m c t h0]
    dsimp only
    refine (Next.stored _ c _ _ _ _ _ _ _ _ _ _ _ _ _ _ _ _ _ _ r q j).trans (fin _ fun r j => ?_)
    have hb : bat ⟨t.val - 1, Nat.lt_of_le_of_lt (Nat.sub_le _ _) t.isLt⟩ = bat t := Fin.ext (by show (t.val - 1) / 8 = t.val / 8; omega)
    have hs : (t.val - 1) % 8 + 1 = t.val % 8 := by omega
    refine (carried m c ⟨t.val - 1, Nat.lt_of_le_of_lt (Nat.sub_le _ _) t.isLt⟩ r j).trans ?_
    rw [hb]
    show U m c (bat t) (512 * ((t.val - 1) % 8 + 1) + r.val) j = _
    rw [hs]

/-- The result, at sequence `b`, position `s` and a column, over the arrays the windows read. -/
def G (c : Dev nD) : Vec Ideal S16x4096x1024 .f32 := fun i =>
  pool (seq fun s k => V m c main_arg0 (ix3 (i 0) s k)) (fun k => V m c main_v0 (ix2 0 k)) (fun k => V m c main_v2 (ix2 0 k)) (fun q k j => V m c main_v1 (ix3 q k j))
    (i 1).val ⟨(i 2).val / 256, Nat.div_lt_of_lt_mul (i 2).isLt⟩ ⟨(i 2).val % 256, Nat.mod_lt _ (by decide)⟩

/-- It, at a group's column. -/
theorem G_col (c : Dev nD) (b : Fin 16) (s : Fin 4096) (q : Fin 4) (j : Fin 256) : G m c (ix3 b s (col q j))
    = pool (seq fun s k => V m c main_arg0 (ix3 b s k)) (fun k => V m c main_v0 (ix2 0 k)) (fun k => V m c main_v2 (ix2 0 k)) (fun q k j => V m c main_v1 (ix3 q k j)) s.val q j := by
  have h1 : ∀ h, (⟨(256 * q.val + j.val) / 256, h⟩ : Fin 4) = q := fun h => Fin.ext (by show (256 * q.val + j.val) / 256 = q.val; omega)
  have h2 : ∀ h, (⟨(256 * q.val + j.val) % 256, h⟩ : Fin 256) = j := fun h => Fin.ext (by show (256 * q.val + j.val) % 256 = j.val; omega)
  exact congrArg₂ (fun q j => Cert.Pool.Spec.pool (seq fun s k => V m c main_arg0 (ix3 b s k)) (fun k => V m c main_v0 (ix2 0 k)) (fun k => V m c main_v2 (ix2 0 k))
    (fun q k j => V m c main_v1 (ix3 q k j)) s.val q j) (h1 _) (h2 _)

/-- The result array after the run is that function of the arrays the windows read. -/
theorem final (c : Dev nD) : (dats m 0 c).arrAt 4 cfg0.N = G m c := by
  refine (dats m 0 c).arrAt_eq_of_covers 4 _ (by decide +kernel) fun t hf y => ?_
  blk_simp
  rw [after0_4]
  idx_vars y
  have ht : t.val < 128 := t.isLt
  have h0 : y0 = 0 := Subsingleton.elim _ _
  subst h0
  obtain ⟨q, j, rfl⟩ := exists_col y2
  have eb : (bat t).val = t.val / 8 := rfl
  have e4 : ((View.whole main_v3).slice (win0_4.rect t)).emb (ix3 0 y1 (col q j)) = ix3 (bat t) ⟨512 * (t.val % 8) + y1.val, by omega⟩ (col q j) := by
    blk_ext [idx t, eb]
  rw [e4, G_col]
  exact point_apply m c t y1 q j

/-- The sequences are read as given. -/
theorem V0 (c : Dev nD) (b : Fin 16) (s : Fin 4096) (k : Fin 1024) : V m c main_arg0 (ix3 b s k) = m ((c : Thread nD τ).loc main_arg0) (ix3 b s k) := by
  entry_read; rfl

/-- The gain, as a row. -/
theorem V1 (c : Dev nD) (k : Fin 1024) : V m c main_v0 (ix2 0 k) = m ((c : Thread nD τ).loc main_arg1) (ix1 k) := by
  entry_read; pointwise

/-- The groups' matrices are read as given. -/
theorem V2 (c : Dev nD) (q : Fin 4) (k j : Fin 256) : V m c main_v1 (ix3 q k j) = m ((c : Thread nD τ).loc main_arg2) (ix3 q k j) := by
  entry_read; pointwise

/-- The scale, as a row. -/
theorem V3 (c : Dev nD) (k : Fin 1024) : V m c main_v2 (ix2 0 k) = m ((c : Thread nD τ).loc main_arg3) (ix1 k) := by
  entry_read; pointwise

/-- The result over the arrays the call is given. -/
theorem final_apply (c : Dev nD) (b : Fin 16) (s : Fin 4096) (q : Fin 4) (j : Fin 256) : (dats m 0 c).arrAt 4 cfg0.N (ix3 b s (col q j))
    = pool (seq fun s k => m ((c : Thread nD τ).loc main_arg0) (ix3 b s k)) (fun k => m ((c : Thread nD τ).loc main_arg1) (ix1 k))
        (fun k => m ((c : Thread nD τ).loc main_arg3) (ix1 k)) (fun q k j => m ((c : Thread nD τ).loc main_arg2) (ix3 q k j)) s.val q j := by
  rw [final, G_col]
  exact pool_congr (V0 m c b) (V1 m c) (V3 m c) (V2 m c) s.val q j

end Cert.PoolIdeal.Rows

end
-- ==== Proof.PoolRef.lean ====
/-
  The pooling mixer's reference, row by row: the same function of the arrays as the kernel's result.
-/
module

public import proofs.«01_k».proof.Proof.PoolSpec
public import proofs.«01_k».proof.Proof.Gen.PoolRefIdeal.Read
public import Idealize.ShloMosaic.Lib.KernelVsHost
public import Idealize.ShloMosaic.Lib.Pipeline.Value

@[expose] public section

set_option maxRecDepth 16384

noncomputable section

namespace Cert.PoolRefIdeal.Rows

open Cert.PoolRefIdeal Cert.PoolRefIdeal.Gen Cert.PoolRefIdeal.Read Cert.Pool.Spec Cert.Conv.Spec Cert.Ffn.Spec Idealize.ShloMosaic Idealize.ShloMosaic.TcCoe Idealize.SL.Sem
open scoped BigOperators

variable (x : Vec Ideal S16x4096x1024 .f32) (g : Vec Ideal S1024 .f32) (w : Vec Ideal S4x256x256 .f32) (sc : Vec Ideal S1024 .f32)

/-- The normalised row. -/
theorem norm_apply (b : Fin 16) (s : Fin 4096) (k : Fin 1024) :
    val_main_v12 (F := Ideal) x g (ix3 b s k) = rmsRow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0,
    val_main_cst, val_main_cst_0, val_main_cst_1, rmsRow]

/-- The number of rows up to a position. -/
theorem pos_apply (s : Fin 4096) : val_main_v16 (F := Ideal) (ix3 0 s 0) = upTo s.val := by
  have h : (BitVec.ofNat 32 s.val).toInt = (s.val : ℤ) := by
    rw [BitVec.toInt_eq_toNat_of_lt]
    · rw [BitVec.toNat_ofNat]
      omega
    · rw [BitVec.toNat_ofNat]
      omega
  have h1 : val_main_v16 (F := Ideal) (ix3 0 s 0) = Ideal.ofBits .f32 0x3F800000#32 + (((BitVec.ofNat 32 s.val).toInt : ℝ) : EReal) := by
    unfold val_main_v16 val_main_v15 val_main_v14 val_main_v13 val_main_cst_2
    pointwise []
    rfl
  rw [h1, h]
  unfold upTo
  rw [Ideal.ofBits_one_f32]
  norm_cast
  rw [add_comm]

/-- A sequence's normalised rows, 16 late. -/
def U (b : Fin 16) : ℕ → Fin 1024 → EReal := behind (seq fun s k => x (ix3 b s k)) (fun k => g (ix1 k))

/-- A late row within the sequence is a normalised row. -/
theorem late_norm (b : Fin 16) (s : Fin 4096) (c : Fin 1024) (r : ℕ) (hr : r = s.val + 16) : val_main_v12 (F := Ideal) x g (ix3 b s c) = U x g b r c := by
  have e := seq_apply (fun s k => x (ix3 b s k)) s
  rw [norm_apply]
  unfold U behind
  rw [if_neg (by omega), show r - 16 = s.val by omega]
  exact congrArg (fun y => rmsRow y _ c) e.symm

/-- The first 16 late rows are zeros. -/
theorem late_zero (b : Fin 16) (c : Fin 1024) (r : ℕ) (hr : r < 16) : U x g b r c = 0 := by
  unfold U behind
  rw [if_pos hr]

/-- The sum of the rows `m` to `m + n - 1` places on, in every group column. -/
def Part (u : Fin 16 → ℕ → Fin 256 → EReal) (v : FVec Ideal S16x4096x256 .f32) (n m : ℕ) : Prop :=
  ∀ (b : Fin 16) (s : Fin 4096) (j : Fin 256), v (ix3 b s j) = ∑ k : Fin n, u b (s.val + m + k.val) j

/-- An array holding those rows from its first on. -/
def Padded (L : ℕ) (u : Fin 16 → ℕ → Fin 256 → EReal) (P : (⟨3, ![16, L, 256]⟩ : Shape).Idx → EReal) (m : ℕ) : Prop :=
  ∀ (b : Fin 16) (t : Fin L) (j : Fin 256), P (ix3 b t j) = u b (t.val + m) j

/-- Adding the rows one further on extends the sum. -/
theorem Part.step {L : ℕ} {u : Fin 16 → ℕ → Fin 256 → EReal} {v : FVec Ideal S16x4096x256 .f32} {P : (⟨3, ![16, L, 256]⟩ : Shape).Idx → EReal} {n m : ℕ} (h : Part u v n m) (hP : Padded L u P m)
    (hn : 4096 + n ≤ L) {hs} : Part u (addf v (extractStridedSlice S16x4096x256 ![0, n, 0] P hs : FVec Ideal S16x4096x256 .f32)) (n + 1) m := fun b s j => by
  have hl : s.val + n < L := by omega
  have e : extractStridedSlice S16x4096x256 ![0, n, 0] P hs (ix3 b s j) = P (ix3 b ⟨s.val + n, hl⟩ j) := by
    refine congrArg P (funext fun a => Fin.ext ?_)
    match a with
    | ⟨0, _⟩ => show 0 + b.val = b.val; omega
    | ⟨1, _⟩ => show n + s.val = s.val + n; omega
    | ⟨2, _⟩ => show 0 + j.val = j.val; omega
  rw [Fin.sum_univ_castSucc]
  refine congrArg₂ (fun p q : EReal => p + q) (h b s j) (e.trans ((hP b _ j).trans ?_))
  exact congrArg (fun z => u b z j) (show s.val + n + m = s.val + m + n by omega)

/-- The whole sum is a trailing one. -/
theorem Part.whole {u : Fin 16 → ℕ → Fin 256 → EReal} {v : FVec Ideal S16x4096x256 .f32} {n m : ℕ} (h : Part u v n m) (hn : n + m = 17) (b : Fin 16) (s : Fin 4096) (j : Fin 256) :
    v (ix3 b s j) = trail (fun r => u b r j) n (s.val + 16) :=
  (h b s j).trans (Finset.sum_congr rfl fun k _ => congrArg (fun z => u b z j) (show s.val + m + k.val = s.val + 16 + 1 - n + k.val by omega))

/-- A group's mean less the row, at an entry. -/
theorem less_apply (a d c : FVec Ideal S16x4096x256 .f32) (b : Fin 16) (s : Fin 4096) (k : Fin 256) :
    subf (Host.divf a d) c (ix3 b s k) = Ideal.div (a (ix3 b s k)) (d (ix3 b s k)) - c (ix3 b s k) := by
  pointwise []

/-- Group 0's rows. -/
theorem cols0 (b : Fin 16) (s : Fin 4096) (j : Fin 256) : val_main_v17 (F := Ideal) x g (ix3 b s j) = val_main_v12 (F := Ideal) x g (ix3 b s (col 0 j)) := by
  unfold val_main_v17
  refine congrArg (val_main_v12 (F := Ideal) x g) (funext fun a => Fin.ext ?_)
  match a with
  | ⟨0, _⟩ => show 0 + b.val = b.val; omega
  | ⟨1, _⟩ => show 0 + s.val = s.val; omega
  | ⟨2, _⟩ => rfl

/-- Group 0's rows after 1 zeros. -/
theorem padded0 : Padded 4097 (fun b r j => U x g b r (col 0 j)) (val_main_v18 (F := Ideal) x g) 15 := fun b t j => by
  unfold val_main_v18
  by_cases h : t.val < 1
  · refine (pad_apply_of_not_inside _ _ _ _ _ _ _ _ (1 : Fin 3) (fun hi => ?_)).trans ?_
    · have h1 : 1 ≤ t.val := hi.1
      omega
    · exact (sitofp_zero (φ := .f32)).trans (late_zero x g b _ _ (by omega)).symm
  · refine (pad_apply_of_inside _ _ _ _ _ _ _ _ (ix3 b ⟨t.val - 1, by omega⟩ j) (fun a => ?_)).trans ?_
    · match a with
      | ⟨0, _⟩ => show b.val = 0 + b.val * (0 + 1); omega
      | ⟨1, _⟩ => show t.val = 1 + (t.val - 1) * (0 + 1); omega
      | ⟨2, _⟩ => show j.val = 0 + j.val * (0 + 1); omega
    · rw [cols0]
      exact late_norm x g b _ _ _ (show t.val + 15 = t.val - 1 + 16 by omega)

/-- Group 0's trailing sums. -/
theorem sums0 (b : Fin 16) (s : Fin 4096) (j : Fin 256) : val_main_v23 (F := Ideal) x g (ix3 b s j) = trail (fun r => U x g b r (col 0 j)) 2 (s.val + 16) := by
  have p : Part (fun b r j => U x g b r (col 0 j)) (val_main_v20 (F := Ideal)) 0 15 := fun b s j => by
    unfold val_main_v20 val_main_cst_3
    rw [Fin.sum_univ_zero]
    pointwise []
  have hp := padded0 x g
  have p : Part (fun b r j => U x g b r (col 0 j)) (val_main_v21 (F := Ideal) x g) 1 15 := p.step hp (by decide)
  have p : Part (fun b r j => U x g b r (col 0 j)) (val_main_v23 (F := Ideal) x g) 2 15 := p.step hp (by decide)
  exact p.whole rfl b s j

/-- Group 0's divisors. -/
theorem least0 (b : Fin 16) (s : Fin 4096) (j : Fin 256) : val_main_v26 (F := Ideal) (ix3 b s j) = min (upTo s.val) (cap 0) := by
  rw [← pos_apply]
  unfold val_main_v26 val_main_v25 val_main_v24 val_main_cst_4
  generalize val_main_v16 (F := Ideal) = n
  show _ = min (n (ix3 0 s 0)) (Ideal.ofBits .f32 0x40000000#32)
  pointwise []

/-- Group 0's means less the rows. -/
theorem less0 (b : Fin 16) (s : Fin 4096) (k : Fin 256) : val_main_v28 (F := Ideal) x g (ix3 b s k) = lessMean (U x g b) (upTo s.val) 0 (s.val + 16) k := by
  unfold val_main_v28 val_main_v27
  rw [less_apply, sums0, least0, cols0, late_norm x g b s _ _ rfl]
  rfl

/-- Group 0's product. -/
theorem group0 (b : Fin 16) (s : Fin 4096) (j : Fin 256) :
    val_main_v31 (F := Ideal) x g w (ix3 b s j) = ∑ k, lessMean (U x g b) (upTo s.val) 0 (s.val + 16) k * w (ix3 0 k j) := by
  simp only [← less0]
  unfold val_main_v31
  generalize val_main_v28 (F := Ideal) x g = n
  pointwise [val_main_v30, val_main_v29]

/-- Group 1's rows. -/
theorem cols1 (b : Fin 16) (s : Fin 4096) (j : Fin 256) : val_main_v32 (F := Ideal) x g (ix3 b s j) = val_main_v12 (F := Ideal) x g (ix3 b s (col 1 j)) := by
  unfold val_main_v32
  refine congrArg (val_main_v12 (F := Ideal) x g) (funext fun a => Fin.ext ?_)
  match a with
  | ⟨0, _⟩ => show 0 + b.val = b.val; omega
  | ⟨1, _⟩ => show 0 + s.val = s.val; omega
  | ⟨2, _⟩ => rfl

/-- Group 1's rows after 3 zeros. -/
theorem padded1 : Padded 4099 (fun b r j => U x g b r (col 1 j)) (val_main_v33 (F := Ideal) x g) 13 := fun b t j => by
  unfold val_main_v33
  by_cases h : t.val < 3
  · refine (pad_apply_of_not_inside _ _ _ _ _ _ _ _ (1 : Fin 3) (fun hi => ?_)).trans ?_
    · have h1 : 3 ≤ t.val := hi.1
      omega
    · exact (sitofp_zero (φ := .f32)).trans (late_zero x g b _ _ (by omega)).symm
  · refine (pad_apply_of_inside _ _ _ _ _ _ _ _ (ix3 b ⟨t.val - 3, by omega⟩ j) (fun a => ?_)).trans ?_
    · match a with
      | ⟨0, _⟩ => show b.val = 0 + b.val * (0 + 1); omega
      | ⟨1, _⟩ => show t.val = 3 + (t.val - 3) * (0 + 1); omega
      | ⟨2, _⟩ => show j.val = 0 + j.val * (0 + 1); omega
    · rw [cols1]
      exact late_norm x g b _ _ _ (show t.val + 13 = t.val - 3 + 16 by omega)

/-- Group 1's trailing sums. -/
theorem sums1 (b : Fin 16) (s : Fin 4096) (j : Fin 256) : val_main_v42 (F := Ideal) x g (ix3 b s j) = trail (fun r => U x g b r (col 1 j)) 4 (s.val + 16) := by
  have p : Part (fun b r j => U x g b r (col 1 j)) (val_main_v35 (F := Ideal)) 0 13 := fun b s j => by
    unfold val_main_v35 val_main_cst_6
    rw [Fin.sum_univ_zero]
    pointwise []
  have hp := padded1 x g
  have p : Part (fun b r j => U x g b r (col 1 j)) (val_main_v36 (F := Ideal) x g) 1 13 := p.step hp (by decide)
  have p : Part (fun b r j => U x g b r (col 1 j)) (val_main_v38 (F := Ideal) x g) 2 13 := p.step hp (by decide)
  have p : Part (fun b r j => U x g b r (col 1 j)) (val_main_v40 (F := Ideal) x g) 3 13 := p.step hp (by decide)
  have p : Part (fun b r j => U x g b r (col 1 j)) (val_main_v42 (F := Ideal) x g) 4 13 := p.step hp (by decide)
  exact p.whole rfl b s j

/-- Group 1's divisors. -/
theorem least1 (b : Fin 16) (s : Fin 4096) (j : Fin 256) : val_main_v45 (F := Ideal) (ix3 b s j) = min (upTo s.val) (cap 1) := by
  rw [← pos_apply]
  unfold val_main_v45 val_main_v44 val_main_v43 val_main_cst_7
  generalize val_main_v16 (F := Ideal) = n
  show _ = min (n (ix3 0 s 0)) (Ideal.ofBits .f32 0x40800000#32)
  pointwise []

/-- Group 1's means less the rows. -/
theorem less1 (b : Fin 16) (s : Fin 4096) (k : Fin 256) : val_main_v47 (F := Ideal) x g (ix3 b s k) = lessMean (U x g b) (upTo s.val) 1 (s.val + 16) k := by
  unfold val_main_v47 val_main_v46
  rw [less_apply, sums1, least1, cols1, late_norm x g b s _ _ rfl]
  rfl

/-- Group 1's product. -/
theorem group1 (b : Fin 16) (s : Fin 4096) (j : Fin 256) :
    val_main_v50 (F := Ideal) x g w (ix3 b s j) = ∑ k, lessMean (U x g b) (upTo s.val) 1 (s.val + 16) k * w (ix3 1 k j) := by
  simp only [← less1]
  unfold val_main_v50
  generalize val_main_v47 (F := Ideal) x g = n
  pointwise [val_main_v49, val_main_v48]

/-- Group 2's rows. -/
theorem cols2 (b : Fin 16) (s : Fin 4096) (j : Fin 256) : val_main_v51 (F := Ideal) x g (ix3 b s j) = val_main_v12 (F := Ideal) x g (ix3 b s (col 2 j)) := by
  unfold val_main_v51
  refine congrArg (val_main_v12 (F := Ideal) x g) (funext fun a => Fin.ext ?_)
  match a with
  | ⟨0, _⟩ => show 0 + b.val = b.val; omega
  | ⟨1, _⟩ => show 0 + s.val = s.val; omega
  | ⟨2, _⟩ => rfl

/-- Group 2's rows after 7 zeros. -/
theorem padded2 : Padded 4103 (fun b r j => U x g b r (col 2 j)) (val_main_v52 (F := Ideal) x g) 9 := fun b t j => by
  unfold val_main_v52
  by_cases h : t.val < 7
  · refine (pad_apply_of_not_inside _ _ _ _ _ _ _ _ (1 : Fin 3) (fun hi => ?_)).trans ?_
    · have h1 : 7 ≤ t.val := hi.1
      omega
    · exact (sitofp_zero (φ := .f32)).trans (late_zero x g b _ _ (by omega)).symm
  · refine (pad_apply_of_inside _ _ _ _ _ _ _ _ (ix3 b ⟨t.val - 7, by omega⟩ j) (fun a => ?_)).trans ?_
    · match a with
      | ⟨0, _⟩ => show b.val = 0 + b.val * (0 + 1); omega
      | ⟨1, _⟩ => show t.val = 7 + (t.val - 7) * (0 + 1); omega
      | ⟨2, _⟩ => show j.val = 0 + j.val * (0 + 1); omega
    · rw [cols2]
      exact late_norm x g b _ _ _ (show t.val + 9 = t.val - 7 + 16 by omega)

/-- Group 2's trailing sums. -/
theorem sums2 (b : Fin 16) (s : Fin 4096) (j : Fin 256) : val_main_v69 (F := Ideal) x g (ix3 b s j) = trail (fun r => U x g b r (col 2 j)) 8 (s.val + 16) := by
  have p : Part (fun b r j => U x g b r (col 2 j)) (val_main_v54 (F := Ideal)) 0 9 := fun b s j => by
    unfold val_main_v54 val_main_cst_9
    rw [Fin.sum_univ_zero]
    pointwise []
  have hp := padded2 x g
  have p : Part (fun b r j => U x g b r (col 2 j)) (val_main_v55 (F := Ideal) x g) 1 9 := p.step hp (by decide)
  have p : Part (fun b r j => U x g b r (col 2 j)) (val_main_v57 (F := Ideal) x g) 2 9 := p.step hp (by decide)
  have p : Part (fun b r j => U x g b r (col 2 j)) (val_main_v59 (F := Ideal) x g) 3 9 := p.step hp (by decide)
  have p : Part (fun b r j => U x g b r (col 2 j)) (val_main_v61 (F := Ideal) x g) 4 9 := p.step hp (by decide)
  have p : Part (fun b r j => U x g b r (col 2 j)) (val_main_v63 (F := Ideal) x g) 5 9 := p.step hp (by decide)
  have p : Part (fun b r j => U x g b r (col 2 j)) (val_main_v65 (F := Ideal) x g) 6 9 := p.step hp (by decide)
  have p : Part (fun b r j => U x g b r (col 2 j)) (val_main_v67 (F := Ideal) x g) 7 9 := p.step hp (by decide)
  have p : Part (fun b r j => U x g b r (col 2 j)) (val_main_v69 (F := Ideal) x g) 8 9 := p.step hp (by decide)
  exact p.whole rfl b s j

/-- Group 2's divisors. -/
theorem least2 (b : Fin 16) (s : Fin 4096) (j : Fin 256) : val_main_v72 (F := Ideal) (ix3 b s j) = min (upTo s.val) (cap 2) := by
  rw [← pos_apply]
  unfold val_main_v72 val_main_v71 val_main_v70 val_main_cst_10
  generalize val_main_v16 (F := Ideal) = n
  show _ = min (n (ix3 0 s 0)) (Ideal.ofBits .f32 0x41000000#32)
  pointwise []

/-- Group 2's means less the rows. -/
theorem less2 (b : Fin 16) (s : Fin 4096) (k : Fin 256) : val_main_v74 (F := Ideal) x g (ix3 b s k) = lessMean (U x g b) (upTo s.val) 2 (s.val + 16) k := by
  unfold val_main_v74 val_main_v73
  rw [less_apply, sums2, least2, cols2, late_norm x g b s _ _ rfl]
  rfl

/-- Group 2's product. -/
theorem group2 (b : Fin 16) (s : Fin 4096) (j : Fin 256) :
    val_main_v77 (F := Ideal) x g w (ix3 b s j) = ∑ k, lessMean (U x g b) (upTo s.val) 2 (s.val + 16) k * w (ix3 2 k j) := by
  simp only [← less2]
  unfold val_main_v77
  generalize val_main_v74 (F := Ideal) x g = n
  pointwise [val_main_v76, val_main_v75]

/-- Group 3's rows. -/
theorem cols3 (b : Fin 16) (s : Fin 4096) (j : Fin 256) : val_main_v78 (F := Ideal) x g (ix3 b s j) = val_main_v12 (F := Ideal) x g (ix3 b s (col 3 j)) := by
  unfold val_main_v78
  refine congrArg (val_main_v12 (F := Ideal) x g) (funext fun a => Fin.ext ?_)
  match a with
  | ⟨0, _⟩ => show 0 + b.val = b.val; omega
  | ⟨1, _⟩ => show 0 + s.val = s.val; omega
  | ⟨2, _⟩ => rfl

/-- Group 3's rows after 15 zeros. -/
theorem padded3 : Padded 4111 (fun b r j => U x g b r (col 3 j)) (val_main_v79 (F := Ideal) x g) 1 := fun b t j => by
  unfold val_main_v79
  by_cases h : t.val < 15
  · refine (pad_apply_of_not_inside _ _ _ _ _ _ _ _ (1 : Fin 3) (fun hi => ?_)).trans ?_
    · have h1 : 15 ≤ t.val := hi.1
      omega
    · exact (sitofp_zero (φ := .f32)).trans (late_zero x g b _ _ (by omega)).symm
  · refine (pad_apply_of_inside _ _ _ _ _ _ _ _ (ix3 b ⟨t.val - 15, by omega⟩ j) (fun a => ?_)).trans ?_
    · match a with
      | ⟨0, _⟩ => show b.val = 0 + b.val * (0 + 1); omega
      | ⟨1, _⟩ => show t.val = 15 + (t.val - 15) * (0 + 1); omega
      | ⟨2, _⟩ => show j.val = 0 + j.val * (0 + 1); omega
    · rw [cols3]
      exact late_norm x g b _ _ _ (show t.val + 1 = t.val - 15 + 16 by omega)

/-- Group 3's trailing sums. -/
theorem sums3 (b : Fin 16) (s : Fin 4096) (j : Fin 256) : val_main_v112 (F := Ideal) x g (ix3 b s j) = trail (fun r => U x g b r (col 3 j)) 16 (s.val + 16) := by
  have p : Part (fun b r j => U x g b r (col 3 j)) (val_main_v81 (F := Ideal)) 0 1 := fun b s j => by
    unfold val_main_v81 val_main_cst_12
    rw [Fin.sum_univ_zero]
    pointwise []
  have hp := padded3 x g
  have p : Part (fun b r j => U x g b r (col 3 j)) (val_main_v82 (F := Ideal) x g) 1 1 := p.step hp (by decide)
  have p : Part (fun b r j => U x g b r (col 3 j)) (val_main_v84 (F := Ideal) x g) 2 1 := p.step hp (by decide)
  have p : Part (fun b r j => U x g b r (col 3 j)) (val_main_v86 (F := Ideal) x g) 3 1 := p.step hp (by decide)
  have p : Part (fun b r j => U x g b r (col 3 j)) (val_main_v88 (F := Ideal) x g) 4 1 := p.step hp (by decide)
  have p : Part (fun b r j => U x g b r (col 3 j)) (val_main_v90 (F := Ideal) x g) 5 1 := p.step hp (by decide)
  have p : Part (fun b r j => U x g b r (col 3 j)) (val_main_v92 (F := Ideal) x g) 6 1 := p.step hp (by decide)
  have p : Part (fun b r j => U x g b r (col 3 j)) (val_main_v94 (F := Ideal) x g) 7 1 := p.step hp (by decide)
  have p : Part (fun b r j => U x g b r (col 3 j)) (val_main_v96 (F := Ideal) x g) 8 1 := p.step hp (by decide)
  have p : Part (fun b r j => U x g b r (col 3 j)) (val_main_v98 (F := Ideal) x g) 9 1 := p.step hp (by decide)
  have p : Part (fun b r j => U x g b r (col 3 j)) (val_main_v100 (F := Ideal) x g) 10 1 := p.step hp (by decide)
  have p : Part (fun b r j => U x g b r (col 3 j)) (val_main_v102 (F := Ideal) x g) 11 1 := p.step hp (by decide)
  have p : Part (fun b r j => U x g b r (col 3 j)) (val_main_v104 (F := Ideal) x g) 12 1 := p.step hp (by decide)
  have p : Part (fun b r j => U x g b r (col 3 j)) (val_main_v106 (F := Ideal) x g) 13 1 := p.step hp (by decide)
  have p : Part (fun b r j => U x g b r (col 3 j)) (val_main_v108 (F := Ideal) x g) 14 1 := p.step hp (by decide)
  have p : Part (fun b r j => U x g b r (col 3 j)) (val_main_v110 (F := Ideal) x g) 15 1 := p.step hp (by decide)
  have p : Part (fun b r j => U x g b r (col 3 j)) (val_main_v112 (F := Ideal) x g) 16 1 := p.step hp (by decide)
  exact p.whole rfl b s j

/-- Group 3's divisors. -/
theorem least3 (b : Fin 16) (s : Fin 4096) (j : Fin 256) : val_main_v115 (F := Ideal) (ix3 b s j) = min (upTo s.val) (cap 3) := by
  rw [← pos_apply]
  unfold val_main_v115 val_main_v114 val_main_v113 val_main_cst_13
  generalize val_main_v16 (F := Ideal) = n
  show _ = min (n (ix3 0 s 0)) (Ideal.ofBits .f32 0x41800000#32)
  pointwise []

/-- Group 3's means less the rows. -/
theorem less3 (b : Fin 16) (s : Fin 4096) (k : Fin 256) : val_main_v117 (F := Ideal) x g (ix3 b s k) = lessMean (U x g b) (upTo s.val) 3 (s.val + 16) k := by
  unfold val_main_v117 val_main_v116
  rw [less_apply, sums3, least3, cols3, late_norm x g b s _ _ rfl]
  rfl

/-- Group 3's product. -/
theorem group3 (b : Fin 16) (s : Fin 4096) (j : Fin 256) :
    val_main_v120 (F := Ideal) x g w (ix3 b s j) = ∑ k, lessMean (U x g b) (upTo s.val) 3 (s.val + 16) k * w (ix3 3 k j) := by
  simp only [← less3]
  unfold val_main_v120
  generalize val_main_v117 (F := Ideal) x g = n
  pointwise [val_main_v119, val_main_v118]

/-- The groups side by side. -/
theorem groups_apply (b : Fin 16) (s : Fin 4096) (q : Fin 4) (j : Fin 256) :
    val_main_v121 (F := Ideal) x g w (ix3 b s (col q j)) = ∑ k, lessMean (U x g b) (upTo s.val) q (s.val + 16) k * w (ix3 q k j) := by
  have go : ∀ (p : Fin 4 → FVec Ideal S16x4096x256 .f32) {h}, concatenate S16x4096x1024 2 [⟨S16x4096x256, p 0⟩, ⟨S16x4096x256, p 1⟩, ⟨S16x4096x256, p 2⟩, ⟨S16x4096x256, p 3⟩] h (ix3 b s (col q j))
      = p q (ix3 b s j) := fun p h => by
    refine concatenate_apply_piece (t := S16x4096x1024) 2 [⟨S16x4096x256, p 0⟩, ⟨S16x4096x256, p 1⟩, ⟨S16x4096x256, p 2⟩, ⟨S16x4096x256, p 3⟩] _ (ix3 b s (col q j)) q.val q.isLt S16x4096x256 (p q) ?_ rfl
      (256 * q.val) ?_ (ix3 b s j) (fun a ha => ?_) rfl
    · match q with
      | ⟨0, _⟩ => rfl
      | ⟨1, _⟩ => rfl
      | ⟨2, _⟩ => rfl
      | ⟨3, _⟩ => rfl
    · match q with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => exact absurd rfl ha
  unfold val_main_v121
  refine (go (fun q => match q with
    | ⟨0, _⟩ => val_main_v31 (F := Ideal) x g w
    | ⟨1, _⟩ => val_main_v50 (F := Ideal) x g w
    | ⟨2, _⟩ => val_main_v77 (F := Ideal) x g w
    | ⟨3, _⟩ => val_main_v120 (F := Ideal) x g w)).trans ?_
  match q with
  | ⟨0, _⟩ => exact group0 x g w b s j
  | ⟨1, _⟩ => exact group1 x g w b s j
  | ⟨2, _⟩ => exact group2 x g w b s j
  | ⟨3, _⟩ => exact group3 x g w b s j

/-- The reference's row. -/
theorem result_apply (b : Fin 16) (s : Fin 4096) (q : Fin 4) (j : Fin 256) :
    val_main_v125 (F := Ideal) x g w sc (ix3 b s (col q j))
      = Cert.Pool.Spec.pool (seq fun s k => x (ix3 b s k)) (fun k => g (ix1 k)) (fun k => sc (ix1 k)) (fun q k j => w (ix3 q k j)) s.val q j := by
  have h := groups_apply x g w b s q j
  unfold Cert.Pool.Spec.pool poolRow
  rw [seq_apply (fun s k => x (ix3 b s k)) s]
  refine Eq.trans ?_ (congrArg (fun z => x (ix3 b s (col q j)) + z * sc (ix1 (col q j))) h)
  unfold val_main_v125 val_main_v124
  generalize val_main_v121 (F := Ideal) x g w = n
  generalize col q j = c
  pointwise [val_main_v123, val_main_v122]

end Cert.PoolRefIdeal.Rows

end
-- ==== Proof.ProjSpec.lean ====
/-
  The projections before the attention as a function of one sequence: the products of the normalised rows,
  the running sum of the forget gates' logarithms, and where each head's block holds them.
-/
module

public import proofs.«01_k».proof.Proof.PoolSpec

@[expose] public section

noncomputable section

namespace Cert.Proj.Spec

open Idealize.ShloMosaic Cert.Ffn.Spec Cert.Conv.Spec
open scoped BigOperators

/-- The logarithm of a sigmoid. -/
def lsig (z : EReal) : EReal := min z 0 - Ideal.log1p (Ideal.exp (0 - max z (-z)))

/-- A normalised row times a column. -/
def prod (x g w : Fin 1024 → EReal) : EReal := ∑ k, rmsRow x g k * w k

/-- A forget gate's logarithm. -/
def gate (x g w : Fin 1024 → EReal) (b : EReal) : EReal := lsig (prod x g w + b)

/-- The sum of the first `n` gates' logarithms of a sequence. -/
def run (x : ℕ → Fin 1024 → EReal) (g w : Fin 1024 → EReal) (b : EReal) (n : ℕ) : EReal := ∑ i ∈ Finset.range n, gate (x i) g w b

/-- A head's lanes that hold its numbers. -/
def Dat (h : Fin 16) (l : Fin 128) : Prop := if h.val % 2 = 0 then l.val < 64 else 64 ≤ l.val

instance (h : Fin 16) (l : Fin 128) : Decidable (Dat h l) := by unfold Dat; infer_instance

/-- The number of a lane that holds no number of the head. -/
def ex (h : Fin 16) (l : Fin 128) : ℕ := if h.val % 2 = 0 then l.val - 64 else l.val

/-- The column of a lane. -/
def pairCol (h : Fin 16) (l : Fin 128) : Fin 1024 := ⟨128 * (h.val / 2) + l.val, by omega⟩

/-- A query lane, of the number and the running sum. -/
def qlane (h : Fin 16) (l : Fin 128) (p c : EReal) : EReal :=
  if Dat h l then p * Ideal.ofBits .f32 0x3E38AA3B#32 else if ex h l = 0 then c else if ex h l < 3 then 0 else if ex h l < 6 then Ideal.ofBits .f32 0xBF800000#32 else 0

/-- A key lane, of the number and the running sum. -/
def klane (h : Fin 16) (l : Fin 128) (p c : EReal) : EReal :=
  if Dat h l then p else if ex h l < 3 then 1 else if ex h l = 3 then c else 0

/-- A head's running sum at position `s`, scaled. -/
def cum (x : ℕ → Fin 1024 → EReal) (g w : Fin 1024 → EReal) (b : EReal) (s : ℕ) : EReal := run x g w b (s + 1) * Ideal.ofBits .f32 0x3FB8AA3B#32

/-- A column of the projection matrix. -/
def colAt (o : ℕ) (ho : o ≤ 2064) (c : Fin 1024) : Fin 3088 := ⟨o + c.val, by omega⟩

/-- A head's column of the gates. -/
def gateCol (h : Fin 16) : Fin 3088 := ⟨3072 + h.val, by omega⟩

/-- The queries. -/
def qEntry (x : ℕ → Fin 1024 → EReal) (g : Fin 1024 → EReal) (w : Fin 1024 → Fin 3088 → EReal) (b : Fin 16 → EReal) (h : Fin 16) (s : ℕ) (l : Fin 128) : EReal :=
  qlane h l (prod (x s) g fun k => w k (colAt 0 (by decide) (pairCol h l))) (cum x g (fun k => w k (gateCol h)) (b h) s)

/-- The keys. -/
def kEntry (x : ℕ → Fin 1024 → EReal) (g : Fin 1024 → EReal) (w : Fin 1024 → Fin 3088 → EReal) (b : Fin 16 → EReal) (h : Fin 16) (s : ℕ) (l : Fin 128) : EReal :=
  klane h l (prod (x s) g fun k => w k (colAt 1024 (by decide) (pairCol h l))) (cum x g (fun k => w k (gateCol h)) (b h) s)

/-- The values, with rows of ones below each head's. -/
def vEntry (x : ℕ → Fin 1024 → EReal) (g : Fin 1024 → EReal) (w : Fin 1024 → Fin 3088 → EReal) (h : Fin 16) (r : Fin 80) (s : ℕ) : EReal :=
  if hr : r.val < 64 then prod (x s) g fun k => w k (colAt 2048 (by decide) ⟨64 * h.val + r.val, by omega⟩) else 1

/-- A real number. -/
def Real' (x : EReal) : Prop := ∃ r : ℝ, x = r

/-- A number that is neither infinity is real. -/
theorem real_of {x : EReal} (h : x ≠ ⊥ ∧ x ≠ ⊤) : Real' x := ⟨x.toReal, (EReal.coe_toReal h.2 h.1).symm⟩

/-- Zero is real. -/
theorem Real'.zero : Real' 0 := ⟨0, rfl⟩

/-- Sums are real. -/
theorem Real'.add {x y : EReal} (hx : Real' x) (hy : Real' y) : Real' (x + y) := by
  obtain ⟨a, rfl⟩ := hx; obtain ⟨b, rfl⟩ := hy; exact ⟨a + b, (EReal.coe_add a b).symm⟩

/-- Products are real. -/
theorem Real'.mul {x y : EReal} (hx : Real' x) (hy : Real' y) : Real' (x * y) := by
  obtain ⟨a, rfl⟩ := hx; obtain ⟨b, rfl⟩ := hy; exact ⟨a * b, (EReal.coe_mul a b).symm⟩

/-- Sums of many are real. -/
theorem Real'.sum {ι : Type*} {s : Finset ι} {f : ι → EReal} (h : ∀ i, Real' (f i)) : Real' (∑ i ∈ s, f i) := by
  classical
  induction s using Finset.induction_on with
  | empty => exact ⟨0, by simp⟩
  | insert a s ha ih => rw [Finset.sum_insert ha]; exact (h a).add ih

/-- A real number less itself. -/
theorem Real'.sub_self {x : EReal} (h : Real' x) : x - x = 0 := by
  obtain ⟨a, rfl⟩ := h; rw [← EReal.coe_sub, _root_.sub_self]; rfl

/-- The row's length. -/
theorem len_val : Ideal.ofBits .f32 0x44800000#32 = ((1024 : ℝ) : EReal) := by
  simp [Ideal.ofBits, Ideal.ieee, -EReal.coe_mul]; norm_num

/-- The small constant is positive. -/
theorem eps_val : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The scale of the running sums. -/
theorem scale_real : Real' (Ideal.ofBits .f32 0x3FB8AA3B#32) := by
  refine ⟨12102203 / 8388608, ?_⟩
  simp [Ideal.ofBits, Ideal.ieee, -EReal.coe_mul]; norm_num

/-- The larger of two real numbers. -/
theorem coe_max' (a b : ℝ) : max (a : EReal) (b : EReal) = ((max a b : ℝ) : EReal) := (EReal.coe_strictMono.monotone.map_max).symm

/-- The smaller of two real numbers. -/
theorem coe_min' (a b : ℝ) : min (a : EReal) (b : EReal) = ((min a b : ℝ) : EReal) := (EReal.coe_strictMono.monotone.map_min).symm

/-- A normalised row of real numbers is real. -/
theorem rms_real {x g : Fin 1024 → EReal} (hx : ∀ k, Real' (x k)) (hg : ∀ k, Real' (g k)) (c : Fin 1024) : Real' (rmsRow x g c) := by
  choose a ha using hx
  have e : (∑ k, x k * x k : EReal) = ((∑ k, a k * a k : ℝ) : EReal) := by
    rw [show (fun k => x k * x k) = fun k => ((a k * a k : ℝ) : EReal) from funext fun k => by rw [ha k, EReal.coe_mul]]
    exact (map_sum (⟨⟨fun r : ℝ => (r : EReal), rfl⟩, EReal.coe_add⟩ : ℝ →+ EReal) _ _).symm
  obtain ⟨ε, hε, he⟩ := eps_val
  have hs : 0 ≤ ∑ k, a k * a k := Finset.sum_nonneg fun k _ => mul_self_nonneg (a k)
  unfold rmsRow
  refine (Real'.mul ⟨a c, ha c⟩ ?_).mul (hg c)
  rw [e, len_val, he, Ideal.div_coe (by norm_num), ← EReal.coe_mul, ← EReal.coe_add, Ideal.rsqrt_coe, if_neg (by positivity |> not_lt_of_ge), if_neg (by positivity)]
  exact ⟨_, rfl⟩

/-- A product of real numbers is real. -/
theorem prod_real {x g w : Fin 1024 → EReal} (hx : ∀ k, Real' (x k)) (hg : ∀ k, Real' (g k)) (hw : ∀ k, Real' (w k)) : Real' (prod x g w) :=
  Real'.sum fun k => (rms_real hx hg k).mul (hw k)

/-- Its logarithm's argument is above zero. -/
theorem log1p_exp (r : ℝ) : Ideal.log1p (Ideal.exp (r : EReal)) = ((Real.log (1 + Real.exp r) : ℝ) : EReal) := by
  have h : (1 : EReal) + ((Real.exp r : ℝ) : EReal) = ((1 + Real.exp r : ℝ) : EReal) := by rw [EReal.coe_add]; rfl
  rw [Ideal.exp_coe]
  unfold Ideal.log1p
  rw [h, Ideal.log_coe, if_neg (not_le_of_gt (by positivity))]

/-- A real number's absolute value. -/
theorem max_neg (r : ℝ) : max (r : EReal) (-(r : EReal)) = ((|r| : ℝ) : EReal) := by
  rw [← EReal.coe_neg, coe_max']
  rfl

/-- It, of a real number. -/
theorem lsig_coe (r : ℝ) : lsig (r : EReal) = ((min r 0 - Real.log (1 + Real.exp (-|r|)) : ℝ) : EReal) := by
  unfold lsig
  rw [max_neg, show (0 : EReal) - ((|r| : ℝ) : EReal) = ((-|r| : ℝ) : EReal) by rw [← EReal.coe_zero, ← EReal.coe_sub, zero_sub], log1p_exp, EReal.coe_sub, ← coe_min']
  rfl

/-- It is real. -/
theorem lsig_real {z : EReal} (h : Real' z) : Real' (lsig z) := by
  obtain ⟨r, rfl⟩ := h; exact ⟨_, lsig_coe r⟩

/-- A gate's logarithm is real. -/
theorem gate_real {x g w : Fin 1024 → EReal} {b : EReal} (hx : ∀ k, Real' (x k)) (hg : ∀ k, Real' (g k)) (hw : ∀ k, Real' (w k)) (hb : Real' b) : Real' (gate x g w b) :=
  lsig_real ((prod_real hx hg hw).add hb)

/-- The same logarithm by the softplus of the negated number. -/
theorem softplus_neg {z : EReal} (h : Real' z) : -(max (-z) 0 + Ideal.log1p (Ideal.exp (-(max (-z - 0) (-(-z - 0)))))) = lsig z := by
  obtain ⟨r, rfl⟩ := h
  rw [lsig_coe, sub_zero, ← EReal.coe_neg, max_neg, abs_neg, ← EReal.coe_neg |r|, log1p_exp, ← EReal.coe_zero, coe_max', ← EReal.coe_add, ← EReal.coe_neg]
  congr 1
  rw [neg_add, sub_eq_add_neg, ← min_neg_neg, neg_neg, neg_zero]

/-- The running sum of some more rows. -/
theorem run_add (x : ℕ → Fin 1024 → EReal) (g w : Fin 1024 → EReal) (b : EReal) (n m : ℕ) :
    run x g w b (n + m) = run x g w b n + ∑ i ∈ Finset.range m, gate (x (n + i)) g w b := Finset.sum_range_add _ n m

/-- A running sum is real. -/
theorem run_real {x : ℕ → Fin 1024 → EReal} {g w : Fin 1024 → EReal} {b : EReal} (hx : ∀ s k, Real' (x s k)) (hg : ∀ k, Real' (g k)) (hw : ∀ k, Real' (w k)) (hb : Real' b) (n : ℕ) :
    Real' (run x g w b n) := Real'.sum fun i => gate_real (hx i) hg hw hb

/-- The array that places the running sums: head `a`'s at the first and fourth of the lanes it has to spare. -/
def Placed (sel : Fin 384 → Fin 1024 → EReal) : Prop := ∀ (a : Fin 128) (t : Fin 8) (l : Fin 128),
  sel ⟨a.val, by omega⟩ ⟨128 * t.val + l.val, by omega⟩
    = if (a.val = 2 * t.val ∧ (l.val = 64 ∨ l.val = 67)) ∨ (a.val = 2 * t.val + 1 ∧ (l.val = 0 ∨ l.val = 3)) then 1 else 0

/-- It, at a lane that holds no number of the head. -/
theorem Placed.at {sel : Fin 384 → Fin 1024 → EReal} (H : Placed sel) (h : Fin 16) (l : Fin 128) (hd : ¬ Dat h l) (a : Fin 128) :
    sel ⟨a.val, by omega⟩ (pairCol h l) = if a.val = h.val ∧ (ex h l = 0 ∨ ex h l = 3) then 1 else 0 := by
  refine (H a ⟨h.val / 2, by omega⟩ l).trans (if_congr ?_ rfl rfl)
  unfold Dat at hd
  unfold ex
  dsimp only
  split_ifs at hd ⊢ with h0 <;> omega

end Cert.Proj.Spec

end
-- ==== Proof.ProjState.lean ====
/-
  The projection kernel's stores at one grid point: each head's query and key block, and the values with
  their rows of ones, as one expression of the head's number.
-/
module

public import proofs.«01_k».proof.Proof.ProjSpec
public import proofs.«01_k».proof.Proof.Gen.ProjIdeal.Frame
public import Idealize.ShloMosaic.PureOps.Ideal
public import Idealize.ShloMosaic.Lib.Pipeline.FrameBody
public import Idealize.ShloMosaic.Lib.WritesUnit
public import Idealize.ShloMosaic.Lib.WholeRead
public import Idealize.ShloMosaic.Lib.VecWindow
public import Idealize.ShloMosaic.Lib.KernelVsHost
public import Idealize.ShloMosaic.Lib.Pipeline.Value

@[expose] public section

set_option maxRecDepth 65536

noncomputable section

namespace Cert.ProjIdeal.State

open Cert.ProjIdeal Cert.ProjIdeal.Gen Cert.ProjIdeal.Gen.kernelRun0_B Cert.Ffn.Spec Cert.Proj.Spec Idealize.ShloMosaic Idealize.ShloMosaic.TcCoe
open scoped BigOperators

/-- The lanes of a head's block. -/
def lanes : IVec S1x128 32 := iota .tc S1x128 32 [1] iota_S1x128_d1_w32

/-- The lanes from `a` up to `b`. -/
def span (a b : BitVec 32) : IVec S1x128 1 := andi (cmpi .sge lanes (broadcast S1x128 a)) (cmpi .slt lanes (broadcast S1x128 b))

/-- A mask or a row, over all the block's rows. -/
def tall {α : Type} (x : S1x128.Idx → α) : S512x128.Idx → α := broadcastTo S512x128 (shapeCast S1x128 x shapeCasts_S1x128_S1x128) broadcasts_S1x128_S512x128

/-- The constants the lanes of a mask take, and zero elsewhere. -/
def ones (b : BitVec 32) (x : IVec S1x128 1) : FVec Ideal S1x128 .f32 :=
  select x (broadcast S1x128 (Scalar.ofBits .f32 b)) (broadcast S1x128 (Scalar.ofBits .f32 0x00000000#32))

/-- Where an even head's numbers lie. -/
def low : IVec S1x128 1 := cmpi .slt lanes (broadcast S1x128 64#32)

/-- Where an odd head's numbers lie. -/
def high : IVec S1x128 1 := cmpi .sge lanes (broadcast S1x128 64#32)

/-- A head's block, of its numbers and its other lanes. -/
def block (d : IVec S1x128 1) (a e : FVec Ideal S512x128 .f32) : FVec Ideal S1x1x512x128 .bf16 :=
  shapeCast S1x1x512x128 (truncf .bf16 (select (tall d) a e) bitsLt_bf16_f32) shapeCasts_S512x128_S1x1x512x128

/-- The columns of pair `j` fit in the products. -/
theorem fits (j : Fin 8) : S512x2048.Slices ![0, 128 * j.val] S512x128 := by
  revert j; decide

/-- So do its key columns. -/
theorem fits' (j : Fin 8) : S512x2048.Slices ![0, 1024 + 128 * j.val] S512x128 := by
  revert j; decide

/-- So do its columns of the running sums. -/
theorem fitsB (j : Fin 8) : S512x1024.Slices ![0, 128 * j.val] S512x128 := by
  revert j; decide

variable (p : FVec Ideal S512x2048 .f32) (b : FVec Ideal S512x1024 .f32)

/-- A pair's scaled query columns. -/
def qcol (j : Fin 8) : FVec Ideal S512x128 .f32 := mulf (extractStridedSlice S512x128 ![0, 128 * j.val] p (fits j)) (broadcast S512x128 (Scalar.ofBits .f32 0x3E38AA3B#32))

/-- A pair's key columns. -/
def kcol (j : Fin 8) : FVec Ideal S512x128 .f32 := extractStridedSlice S512x128 ![0, 1024 + 128 * j.val] p (fits' j)

/-- A pair's columns of the running sums. -/
def bcol (j : Fin 8) : FVec Ideal S512x128 .f32 := extractStridedSlice S512x128 ![0, 128 * j.val] b (fitsB j)

/-- A query block of pair `j`: its numbers in the lanes `d`, its other lanes from `z` on. -/
def qblock (j : Fin 8) (d : IVec S1x128 1) (z0 z3 z6 : BitVec 32) : FVec Ideal S1x1x512x128 .bf16 :=
  block d (qcol p j) (select (tall (span z0 z3)) (bcol b j) (tall (ones 0xBF800000#32 (span z3 z6))))

/-- A key block of pair `j`. -/
def kblock (j : Fin 8) (d : IVec S1x128 1) (z0 z3 z6 : BitVec 32) : FVec Ideal S1x1x512x128 .bf16 :=
  block d (kcol p j) (select (tall (span z3 z6)) (bcol b j) (tall (ones 0x3F800000#32 (span z0 z3))))

/-- Head `h`'s query block. -/
def qhead (h : Fin 16) : FVec Ideal S1x1x512x128 .bf16 :=
  if h.val % 2 = 0 then qblock p b ⟨h.val / 2, by omega⟩ low 64#32 67#32 70#32 else qblock p b ⟨h.val / 2, by omega⟩ high 0#32 3#32 6#32

/-- Head `h`'s key block. -/
def khead (h : Fin 16) : FVec Ideal S1x1x512x128 .bf16 :=
  if h.val % 2 = 0 then kblock p b ⟨h.val / 2, by omega⟩ low 64#32 67#32 70#32 else kblock p b ⟨h.val / 2, by omega⟩ high 0#32 3#32 6#32

/-- One head's block fits. -/
theorem fitsH (h : Fin 16) : ∀ a, (![0, h.val, 0, 0] : Fin 4 → ℕ) a + S1x1x512x128.size a ≤ S1x16x512x128.size a := by
  revert h; decide

/-- One head's store. -/
def piece (Z : Fin 16 → FVec Ideal S1x1x512x128 .bf16) (h : Fin 16) : View.Piece (Elt Ideal) S1x16x512x128 .bf16 :=
  ⟨Rect.unit ![0, h.val, 0, 0] S1x1x512x128.size (fitsH h), Z h⟩

/-- The heads' stores, the last first. -/
def pieces (Z : Fin 16 → FVec Ideal S1x1x512x128 .bf16) : List (View.Piece (Elt Ideal) S1x16x512x128 .bf16) :=
  [piece Z 15, piece Z 14, piece Z 13, piece Z 12, piece Z 11, piece Z 10, piece Z 9, piece Z 8, piece Z 7, piece Z 6, piece Z 5, piece Z 4, piece Z 3, piece Z 2, piece Z 1, piece Z 0]

/-- The products and the running sums of a block, of what is loaded and the sums before it. -/
def sums (x0 : Vec Ideal S1x512x1024 .f32) (x1 : Vec Ideal S1x1024 .f32) (x4 : Vec Ideal S1024x128 .bf16) (x5 : Vec Ideal S1x128 .f32) (x6 : Vec Ideal S384x1024 .bf16)
    (cr : Vec Ideal S1x128 .f32) : FVec Ideal S512x1024 .f32 := k0_pay43 (k0_pay42 (k0_pay39 (k0_pay3 x0 x1) x4 x5) cr) x6

/-- A load of a whole array is the array. -/
theorem full_ok {S : Shape} {e : EltTy} {v : Memref sig .tc .vmem S e} (hv : v.IsWhole) {x : Vec Ideal S e} {off : Fin S.rank → ℕ} {inb : ∀ a, off a + S.size a ≤ S.size a} :
    View.readAt (Elt Ideal) v.view (Rect.unit off S.size inb).toLoadRect (hv.unread x) = x := by
  rw [View.readAt_full, hv.read_unread]

/-- The first `n` heads' stores, the last first. -/
def upTo (Z : Fin 16 → FVec Ideal S1x1x512x128 .bf16) : (n : ℕ) → n ≤ 16 → List (View.Piece (Elt Ideal) S1x16x512x128 .bf16)
  | 0, _ => []
  | n + 1, h => piece Z ⟨n, h⟩ :: upTo Z n (Nat.le_of_succ_le h)

/-- What they leave in a head's block. -/
theorem upTo_apply (Z : Fin 16 → FVec Ideal S1x1x512x128 .bf16) (r : Fin 512) (l : Fin 128) (h : Fin 16) :
    ∀ (n : ℕ) (hn : n ≤ 16), h.val < n → View.canon (upTo Z n hn) (ix4 0 h r l) = Z h (ix4 0 0 r l) := by
  intro n
  induction n with
  | zero => intro _ h0; exact absurd h0 (Nat.not_lt_zero _)
  | succ n ih =>
    intro hn hh
    by_cases hy : h.val = n
    · subst hy
      have e : (ix4 0 h r l : S1x16x512x128.Idx) = (Rect.unit (s := S1x16x512x128) ![0, h.val, 0, 0] S1x1x512x128.size (fitsH h)).emb (ix4 (0 : Fin 1) (0 : Fin 1) r l) := by
        funext a
        refine Fin.ext ?_
        rw [ValueKit.rect_emb_unit_val]
        match a with
        | ⟨0, _⟩ => rfl
        | ⟨1, _⟩ => rfl
        | ⟨2, _⟩ => exact (Nat.zero_add _).symm
        | ⟨3, _⟩ => exact (Nat.zero_add _).symm
      exact (congrArg _ e).trans (View.canon_cons_emb _ _ _ _)
    · refine (View.canon_cons_of_not_mem _ _ (fun hm => hy ?_)).trans (ih _ (by omega))
      have h0 := (Rect.mem_set_unit (s := S1x16x512x128) (off := ![0, n, 0, 0]) (size := S1x1x512x128.size) (inb := fitsH ⟨n, hn⟩)).mp hm 1
      have h1 : n ≤ h.val := h0.1
      omega

/-- All the heads' stores. -/
theorem pieces_apply (Z : Fin 16 → FVec Ideal S1x1x512x128 .bf16) (h : Fin 16) (r : Fin 512) (l : Fin 128) :
    View.canon (pieces Z) (ix4 0 h r l) = Z h (ix4 0 0 r l) := upTo_apply Z r l h 16 (Nat.le_refl _) h.isLt

/-- Head `h`'s rows fit in the values. -/
theorem fitsV (h : Fin 16) : S1024x512.Slices ![64 * h.val, 0] S64x512 := by
  revert h; decide

/-- So do its rows in the array stored, -/
theorem fitsN (h : Fin 16) : ∀ a, (![0, 80 * h.val, 0] : Fin 3 → ℕ) a + S1x64x512.size a ≤ S1x1280x512.size a := by
  revert h; decide

/-- and its rows of ones. -/
theorem fitsO (h : Fin 16) : ∀ a, (![0, 80 * h.val + 64, 0] : Fin 3 → ℕ) a + S1x16x512.size a ≤ S1x1280x512.size a := by
  revert h; decide

/-- A head's values. -/
def vnum (v : FVec Ideal S1024x512 .bf16) (h : Fin 16) : FVec Ideal S1x64x512 .bf16 :=
  shapeCast S1x64x512 (extractStridedSlice S64x512 ![64 * h.val, 0] v (fitsV h)) shapeCasts_S64x512_S1x64x512

/-- The rows of ones. -/
def vone : FVec Ideal S1x16x512 .bf16 := shapeCast S1x16x512 (broadcast S16x512 (Scalar.ofBits .bf16 0x3F80#16)) shapeCasts_S16x512_S1x16x512

/-- The store of a head's values. -/
def pieceN (v : FVec Ideal S1024x512 .bf16) (h : Fin 16) : View.Piece (Elt Ideal) S1x1280x512 .bf16 := ⟨Rect.unit ![0, 80 * h.val, 0] S1x64x512.size (fitsN h), vnum v h⟩

/-- The store of a head's rows of ones. -/
def pieceO (h : Fin 16) : View.Piece (Elt Ideal) S1x1280x512 .bf16 := ⟨Rect.unit ![0, 80 * h.val + 64, 0] S1x16x512.size (fitsO h), vone⟩

/-- The first `n` heads' stores of values, the last first. -/
def vUpTo (v : FVec Ideal S1024x512 .bf16) : (n : ℕ) → n ≤ 16 → List (View.Piece (Elt Ideal) S1x1280x512 .bf16)
  | 0, _ => []
  | n + 1, h => pieceO ⟨n, h⟩ :: pieceN v ⟨n, h⟩ :: vUpTo v n (Nat.le_of_succ_le h)

/-- What they leave in a head's 80 rows. -/
theorem vUpTo_apply (v : FVec Ideal S1024x512 .bf16) (s : Fin 512) (h : Fin 16) (r : Fin 80) :
    ∀ (n : ℕ) (hn : n ≤ 16), h.val < n → View.canon (vUpTo v n hn) (ix3 0 ⟨80 * h.val + r.val, by omega⟩ s)
      = if hr : r.val < 64 then vnum v h (ix3 0 ⟨r.val, hr⟩ s) else vone (ix3 0 ⟨r.val - 64, by omega⟩ s) := by
  intro n
  induction n with
  | zero => intro _ h0; exact absurd h0 (Nat.not_lt_zero _)
  | succ n ih =>
    intro hn hh
    by_cases hy : h.val = n
    · subst hy
      by_cases hr : r.val < 64
      · rw [dif_pos hr]
        refine (View.canon_cons_of_not_mem _ _ (fun hm => ?_)).trans ?_
        · have h0 := (Rect.mem_set_unit (s := S1x1280x512) (off := ![0, 80 * h.val + 64, 0]) (size := S1x16x512.size) (inb := fitsO h)).mp hm 1
          have h1 : 80 * h.val + 64 ≤ 80 * h.val + r.val := h0.1
          omega
        have e : (ix3 0 ⟨80 * h.val + r.val, by omega⟩ s : S1x1280x512.Idx) = (Rect.unit (s := S1x1280x512) ![0, 80 * h.val, 0] S1x64x512.size (fitsN h)).emb (ix3 (0 : Fin 1) (⟨r.val, hr⟩ : Fin 64) s) := by
          funext a
          refine Fin.ext ?_
          rw [ValueKit.rect_emb_unit_val]
          match a with
          | ⟨0, _⟩ => rfl
          | ⟨1, _⟩ => rfl
          | ⟨2, _⟩ => exact (Nat.zero_add _).symm
        exact (congrArg _ e).trans (View.canon_cons_emb _ _ _ _)
      · rw [dif_neg hr]
        have e : (ix3 0 ⟨80 * h.val + r.val, by omega⟩ s : S1x1280x512.Idx) = (Rect.unit (s := S1x1280x512) ![0, 80 * h.val + 64, 0] S1x16x512.size (fitsO h)).emb (ix3 (0 : Fin 1) (⟨r.val - 64, by omega⟩ : Fin 16) s) := by
          funext a
          refine Fin.ext ?_
          rw [ValueKit.rect_emb_unit_val]
          match a with
          | ⟨0, _⟩ => rfl
          | ⟨1, _⟩ => show 80 * h.val + r.val = 80 * h.val + 64 + (r.val - 64); omega
          | ⟨2, _⟩ => exact (Nat.zero_add _).symm
        exact (congrArg _ e).trans (View.canon_cons_emb _ _ _ _)
    · have hlt : h.val < n := by omega
      refine (View.canon_cons_of_not_mem _ _ (fun hm => ?_)).trans ((View.canon_cons_of_not_mem _ _ (fun hm => ?_)).trans (ih _ hlt))
      · have h0 := (Rect.mem_set_unit (s := S1x1280x512) (off := ![0, 80 * n + 64, 0]) (size := S1x16x512.size) (inb := fitsO ⟨n, hn⟩)).mp hm 1
        have h1 : 80 * n + 64 ≤ 80 * h.val + r.val := h0.1
        omega
      · have h0 := (Rect.mem_set_unit (s := S1x1280x512) (off := ![0, 80 * n, 0]) (size := S1x64x512.size) (inb := fitsN ⟨n, hn⟩)).mp hm 1
        have h1 : 80 * n ≤ 80 * h.val + r.val := h0.1
        omega

/-- The lanes of an even head's numbers. -/
theorem low_apply : ∀ l : Fin 128, low (ix2 0 l) = BitVec.ofBool (decide (l.val < 64)) := by decide +kernel
/-- The lanes of an odd head's numbers. -/
theorem high_apply : ∀ l : Fin 128, high (ix2 0 l) = BitVec.ofBool (decide (64 ≤ l.val)) := by decide +kernel
/-- The first three lanes after an even head's numbers. -/
theorem s1_apply : ∀ l : Fin 128, span 64#32 67#32 (ix2 0 l) = BitVec.ofBool (decide (64 ≤ l.val ∧ l.val < 67)) := by decide +kernel
/-- The next three. -/
theorem s2_apply : ∀ l : Fin 128, span 67#32 70#32 (ix2 0 l) = BitVec.ofBool (decide (67 ≤ l.val ∧ l.val < 70)) := by decide +kernel
/-- The first three lanes of an odd head. -/
theorem s3_apply : ∀ l : Fin 128, span 0#32 3#32 (ix2 0 l) = BitVec.ofBool (decide (l.val < 3)) := by decide +kernel
/-- The next three. -/
theorem s4_apply : ∀ l : Fin 128, span 3#32 6#32 (ix2 0 l) = BitVec.ofBool (decide (3 ≤ l.val ∧ l.val < 6)) := by decide +kernel

/-- A mask or a row over all rows, at one. -/
theorem tall_apply {α : Type} (x : S1x128.Idx → α) (r : Fin 512) (l : Fin 128) : tall x (ix2 r l) = x (ix2 0 l) := by
  pointwise [tall]

/-- A head's block at a row and lane. -/
theorem block_apply (d : IVec S1x128 1) (a e : FVec Ideal S512x128 .f32) (r : Fin 512) (l : Fin 128) :
    block d a e (ix4 0 0 r l) = if d (ix2 0 l) = 1#1 then a (ix2 r l) else e (ix2 r l) := by
  have h : block d a e (ix4 0 0 r l) = select (tall d) a e (ix2 r l) := by
    pointwise [block]
  rw [h, ← tall_apply d r l]
  rfl

/-- Zeros in a row. -/
def zero : Vec Ideal S1x128 .f32 := fun _ => 0

/-- The first row of what is carried. -/
def top (x : Vec Ideal S8x128 .f32) : Vec Ideal S1x128 .f32 := fun y => x (ix2 0 (y 1))

/-- A load of the first row. -/
theorem top_ok (v : Memref sig .tc .vmem S8x128 .f32) (hv : v.IsWhole) (x : Vec Ideal S8x128 .f32) :
    View.readAt (Elt Ideal) v.view (Rect.unit (s := S8x128) ![0, 0] S1x128.size inb_S8x128_S1x128_0_0).toLoadRect (hv.unread x) = top x := by
  funext y
  rw [View.readAt_apply, hv.read_unread]
  refine congrArg x (funext fun a => Fin.ext ?_)
  match a with
  | ⟨0, _⟩ => show 0 + 1 * (y 0).val = 0; have := (y 0).isLt; change (y 0).val < 1 at this; omega
  | ⟨1, _⟩ => show 0 + 1 * (y 1).val = (y 1).val; omega

/-- A head's row of values or ones. -/
def vrow (v : FVec Ideal S1024x512 .bf16) (h : Fin 16) (r : Fin 80) (s : Fin 512) : EReal :=
  if hr : r.val < 64 then vnum v h (ix3 0 ⟨r.val, hr⟩ s) else vone (ix3 0 ⟨r.val - 64, by omega⟩ s)

end Cert.ProjIdeal.State

end
-- ==== Proof.ProjRows.lean ====
/-
  The projection kernel's arithmetic at one grid point, entry by entry.
-/
module

public import proofs.«01_k».proof.Proof.ProjState
public import Idealize.ShloMosaic.Lib.WordCmp

@[expose] public section

set_option maxRecDepth 65536

noncomputable section

namespace Cert.ProjIdeal.Rows

open Cert.ProjIdeal Cert.ProjIdeal.Gen Cert.ProjIdeal.State Cert.Ffn.Spec Cert.Proj.Spec Idealize.ShloMosaic Idealize.ShloMosaic.TcCoe
open scoped BigOperators

/-- A bit of a truth value. -/
theorem bit_if {α : Type} (p : Prop) [Decidable p] (a b : α) : (if BitVec.ofBool (decide p) = 1#1 then a else b) = if p then a else b := by
  by_cases h : p
  · rw [if_pos h, if_pos (by simp [h])]
  · rw [if_neg h, if_neg (by simp [h])]

variable (p : FVec Ideal S512x2048 .f32) (b : FVec Ideal S512x1024 .f32)

/-- A lane of a pair's query columns. -/
theorem qcol_apply (j : Fin 8) (r : Fin 512) (l : Fin 128) : qcol p j (ix2 r l) = p (ix2 r ⟨128 * j.val + l.val, by omega⟩) * Ideal.ofBits .f32 0x3E38AA3B#32 := by
  pointwise [qcol]

/-- A lane of a pair's key columns. -/
theorem kcol_apply (j : Fin 8) (r : Fin 512) (l : Fin 128) : kcol p j (ix2 r l) = p (ix2 r ⟨1024 + (128 * j.val + l.val), by omega⟩) := by
  pointwise [kcol]
  rw [show (⟨1024 + 128 * j.val + l.val, by omega⟩ : Fin 2048) = ⟨1024 + (128 * j.val + l.val), by omega⟩ from Fin.ext (by show _ + _ + _ = _ + (_ + _); omega)]

/-- A lane of a pair's placed running sums. -/
theorem bcol_apply (j : Fin 8) (r : Fin 512) (l : Fin 128) : bcol b j (ix2 r l) = b (ix2 r ⟨128 * j.val + l.val, by omega⟩) := by
  pointwise [bcol]

/-- A lane of a head's query block. -/
theorem qblock_apply (j : Fin 8) (d : IVec S1x128 1) (z0 z3 z6 : BitVec 32) (r : Fin 512) (l : Fin 128) : qblock p b j d z0 z3 z6 (ix4 0 0 r l)
    = if d (ix2 0 l) = 1#1 then p (ix2 r ⟨128 * j.val + l.val, by omega⟩) * Ideal.ofBits .f32 0x3E38AA3B#32
      else if span z0 z3 (ix2 0 l) = 1#1 then b (ix2 r ⟨128 * j.val + l.val, by omega⟩)
      else if span z3 z6 (ix2 0 l) = 1#1 then Ideal.ofBits .f32 0xBF800000#32 else 0 := by
  unfold qblock
  rw [block_apply, qcol_apply, ← bcol_apply b, ← tall_apply (span z0 z3) r l, ← tall_apply (ones 0xBF800000#32 (span z3 z6)) r l |>.trans (show ones 0xBF800000#32 (span z3 z6) (ix2 0 l) = if span z3 z6 (ix2 0 l) = 1#1 then Ideal.ofBits .f32 0xBF800000#32 else 0 by
    rw [← Ideal.ofBits_zero_f32]; rfl)]
  rfl

/-- A lane of a head's key block. -/
theorem kblock_apply (j : Fin 8) (d : IVec S1x128 1) (z0 z3 z6 : BitVec 32) (r : Fin 512) (l : Fin 128) : kblock p b j d z0 z3 z6 (ix4 0 0 r l)
    = if d (ix2 0 l) = 1#1 then p (ix2 r ⟨1024 + (128 * j.val + l.val), by omega⟩)
      else if span z3 z6 (ix2 0 l) = 1#1 then b (ix2 r ⟨128 * j.val + l.val, by omega⟩)
      else if span z0 z3 (ix2 0 l) = 1#1 then 1 else 0 := by
  unfold kblock
  rw [block_apply, kcol_apply, ← bcol_apply b, ← tall_apply (span z3 z6) r l, ← tall_apply (ones 0x3F800000#32 (span z0 z3)) r l |>.trans (show ones 0x3F800000#32 (span z0 z3) (ix2 0 l) = if span z0 z3 (ix2 0 l) = 1#1 then 1 else 0 by
    rw [← Ideal.ofBits_zero_f32, ← Ideal.ofBits_one_f32]; rfl)]
  rfl

/-- A head's query lane. -/
theorem qhead_apply (h : Fin 16) (r : Fin 512) (l : Fin 128) : qhead p b h (ix4 0 0 r l)
    = if Dat h l then p (ix2 r ⟨128 * (h.val / 2) + l.val, by omega⟩) * Ideal.ofBits .f32 0x3E38AA3B#32
      else if ex h l < 3 then b (ix2 r (pairCol h l)) else if ex h l < 6 then Ideal.ofBits .f32 0xBF800000#32 else 0 := by
  unfold qhead Dat ex pairCol
  by_cases hh : h.val % 2 = 0
  · simp only [if_pos hh]
    rw [qblock_apply, low_apply, s1_apply, s2_apply, bit_if, bit_if, bit_if]
    split_ifs <;> first | rfl | omega
  · simp only [if_neg hh]
    rw [qblock_apply, high_apply, s3_apply, s4_apply, bit_if, bit_if, bit_if]
    split_ifs <;> first | rfl | omega

/-- A head's key lane. -/
theorem khead_apply (h : Fin 16) (r : Fin 512) (l : Fin 128) : khead p b h (ix4 0 0 r l)
    = if Dat h l then p (ix2 r ⟨1024 + (128 * (h.val / 2) + l.val), by omega⟩)
      else if ex h l < 3 then 1 else if ex h l < 6 then b (ix2 r (pairCol h l)) else 0 := by
  unfold khead Dat ex pairCol
  by_cases hh : h.val % 2 = 0
  · simp only [if_pos hh]
    rw [kblock_apply, low_apply, s1_apply, s2_apply, bit_if, bit_if, bit_if]
    split_ifs <;> first | rfl | omega
  · simp only [if_neg hh]
    rw [kblock_apply, high_apply, s3_apply, s4_apply, bit_if, bit_if, bit_if]
    split_ifs <;> first | rfl | omega

/-- A head's row of values or ones. -/
theorem vrow_apply (v : FVec Ideal S1024x512 .bf16) (h : Fin 16) (r : Fin 80) (s : Fin 512) :
    vrow v h r s = if hr : r.val < 64 then v (ix2 ⟨64 * h.val + r.val, by omega⟩ s) else 1 := by
  unfold vrow
  split_ifs with hr
  · pointwise [vnum]
  · pointwise [vone]

/-- The queries' and keys' products. -/
theorem proj_apply (x0 : Vec Ideal S1x512x1024 .f32) (x1 : Vec Ideal S1x1024 .f32) (x2 : Vec Ideal S1024x2048 .bf16) (r : Fin 512) (c : Fin 2048) :
    k0_pay4 x0 x1 x2 (ix2 r c) = prod (fun k => x0 (ix3 0 r k)) (fun k => x1 (ix2 0 k)) (fun k => x2 (ix2 k c)) := by
  pointwise [k0_pay4, k0_pay3, prod, rmsRow]

/-- The values' products. -/
theorem val_apply (x0 : Vec Ideal S1x512x1024 .f32) (x1 : Vec Ideal S1x1024 .f32) (x3 : Vec Ideal S1024x1024 .bf16) (r : Fin 512) (c : Fin 1024) :
    k0_pay5 x0 x1 x3 (ix2 c r) = prod (fun k => x0 (ix3 0 r k)) (fun k => x1 (ix2 0 k)) (fun k => x3 (ix2 c k)) := by
  unfold prod
  simp only [mul_comm (rmsRow _ _ _)]
  pointwise [k0_pay5, k0_pay3, rmsRow]

/-- A gate's argument. -/
theorem arg_apply (x0 : Vec Ideal S1x512x1024 .f32) (x1 : Vec Ideal S1x1024 .f32) (x4 : Vec Ideal S1024x128 .bf16) (x5 : Vec Ideal S1x128 .f32) (r : Fin 512) (a : Fin 128) :
    k0_pay39 (k0_pay3 x0 x1) x4 x5 (ix2 r a) = prod (fun k => x0 (ix3 0 r k)) (fun k => x1 (ix2 0 k)) (fun k => x4 (ix2 k a)) + x5 (ix2 0 a) := by
  pointwise [k0_pay39, k0_pay3, prod, rmsRow]

/-- The lower triangle of ones. -/
def tri : FVec Ideal S512x512 .bf16 :=
  truncf .bf16 (select (cmpi .sle (iota .tc S512x512 32 [1] iota_S512x512_d1_w32) (iota .tc S512x512 32 [0] iota_S512x512_d0_w32))
    (broadcast S512x512 (Scalar.ofBits .f32 0x3F800000#32)) (broadcast S512x512 (Scalar.ofBits .f32 0x00000000#32))) bitsLt_bf16_f32

/-- The gates' logarithms. -/
def logs (v : FVec Ideal S512x128 .f32) : FVec Ideal S512x128 .f32 :=
  subf (minimumf v (broadcast S512x128 (Scalar.ofBits .f32 0x00000000#32))) (log1p (exp (subf (broadcast S512x128 (Scalar.ofBits .f32 0x00000000#32)) (absf v))))

/-- The triangle times an array. -/
def below (y : FVec Ideal S512x128 .bf16) : FVec Ideal S512x128 .f32 := matmul dot_S512x512_S512x128_S512x128_1_0_0_1_n_n none tri y (constant S512x128 .f32 0x00000000#32)

/-- The rows' running sums are those of the logarithms below, plus what was carried. -/
theorem pay40_eq (v : FVec Ideal S512x128 .f32) (cr : Vec Ideal S1x128 .f32) : k0_pay40 v cr
    = addf (broadcastTo S512x128 cr broadcasts_S1x128_S512x128) (addf (addf (below (truncf .bf16 (logs v) bitsLt_bf16_f32)) (below (truncf .bf16 (subf (logs v) (logs v)) bitsLt_bf16_f32)))
        (below (truncf .bf16 (subf (subf (logs v) (logs v)) (subf (logs v) (logs v))) bitsLt_bf16_f32))) := rfl

/-- A row's logarithm. -/
theorem logs_apply (v : FVec Ideal S512x128 .f32) (r : Fin 512) (a : Fin 128) : logs v (ix2 r a) = lsig (v (ix2 r a)) := by
  pointwise [logs, lsig]
  rfl

/-- The triangle of ones. -/
theorem tri_apply (r i : Fin 512) : tri (ix2 r i) = if i.val ≤ r.val then (1 : EReal) else 0 := by
  have e : tri (ix2 r i) = if (BitVec.ofBool ((BitVec.ofNat 32 i.val).sle (BitVec.ofNat 32 r.val))) = 1#1 then 1 else 0 := by
    pointwise [tri]
    rfl
  have h : (BitVec.ofNat 32 i.val).sle (BitVec.ofNat 32 r.val) = decide (i.val ≤ r.val) := by
    rw [BitVec.sle_eq_decide, BitVec.toInt_eq_toNat_of_lt, BitVec.toInt_eq_toNat_of_lt, BitVec.toNat_ofNat, BitVec.toNat_ofNat]
    · rw [Nat.mod_eq_of_lt (by omega), Nat.mod_eq_of_lt (by omega)]
      simp
    · rw [BitVec.toNat_ofNat]; omega
    · rw [BitVec.toNat_ofNat]; omega
  rw [e, h, bit_if]

/-- The triangle's product is the sum of the rows up to one. -/
theorem below_apply (y : FVec Ideal S512x128 .bf16) (r : Fin 512) (a : Fin 128) : below y (ix2 r a) = ∑ i : Fin 512, (if i.val ≤ r.val then (1 : EReal) else 0) * y (ix2 i a) := by
  simp only [← tri_apply]
  pointwise [below]

/-- The triangle's row sums the rows up to its own. -/
theorem below_range (y : FVec Ideal S512x128 .bf16) (r : Fin 512) (a : Fin 128) (f : ℕ → EReal) (hf : ∀ i : Fin 512, y (ix2 i a) = f i.val) :
    below y (ix2 r a) = ∑ i ∈ Finset.range (r.val + 1), f i := by
  rw [below_apply]
  simp only [hf]
  rw [Fin.sum_univ_eq_sum_range (fun i => (if i ≤ r.val then (1 : EReal) else 0) * f i) 512]
  simp only [ite_mul, one_mul, zero_mul]
  rw [← Finset.sum_filter]
  refine Finset.sum_congr (Finset.ext fun i => ?_) fun _ _ => rfl
  simp only [Finset.mem_filter, Finset.mem_range]
  omega

/-- The triangle times zeros. -/
theorem below_zero (y : FVec Ideal S512x128 .bf16) (r : Fin 512) (a : Fin 128) (hf : ∀ i : Fin 512, y (ix2 i a) = (0 : EReal)) : below y (ix2 r a) = (0 : EReal) := by
  rw [below_range y r a (fun _ => 0) hf, Finset.sum_const_zero]

/-- The running sums, scaled. -/
def scaled (v : FVec Ideal S512x128 .f32) (cr : Vec Ideal S1x128 .f32) : FVec Ideal S512x128 .f32 := mulf (k0_pay40 v cr) (broadcast S512x128 (Scalar.ofBits .f32 0x3FB8AA3B#32))

/-- The three parts they are split into. -/
def part (v : FVec Ideal S512x128 .f32) (cr : Vec Ideal S1x128 .f32) : Fin 3 → FVec Ideal S512x128 .bf16
  | 0 => truncf .bf16 (scaled v cr) bitsLt_bf16_f32
  | 1 => truncf .bf16 (subf (scaled v cr) (scaled v cr)) bitsLt_bf16_f32
  | 2 => truncf .bf16 (subf (subf (scaled v cr) (scaled v cr)) (subf (scaled v cr) (scaled v cr))) bitsLt_bf16_f32

/-- The parts side by side. -/
theorem pay42_eq (v : FVec Ideal S512x128 .f32) (cr : Vec Ideal S1x128 .f32) : k0_pay42 v cr
    = concatenate S512x384 1 [⟨S512x128, part v cr 0⟩, ⟨S512x128, part v cr 1⟩, ⟨S512x128, part v cr 2⟩] concatenates_S512x128_S512x128_S512x128_S512x384_d1 := rfl

/-- A part's column. -/
theorem parts_apply (v : FVec Ideal S512x128 .f32) (cr : Vec Ideal S1x128 .f32) (r : Fin 512) (q : Fin 3) (a : Fin 128) :
    k0_pay42 v cr (ix2 r ⟨128 * q.val + a.val, by omega⟩) = part v cr q (ix2 r a) := by
  rw [pay42_eq]
  refine concatenate_apply_piece (t := S512x384) 1 [⟨S512x128, part v cr 0⟩, ⟨S512x128, part v cr 1⟩, ⟨S512x128, part v cr 2⟩] _ (ix2 r ⟨128 * q.val + a.val, by omega⟩)
    q.val q.isLt S512x128 (part v cr q) ?_ rfl (128 * q.val) ?_ (ix2 r a) (fun b hb => ?_) rfl
  · match q with
    | ⟨0, _⟩ => rfl
    | ⟨1, _⟩ => rfl
    | ⟨2, _⟩ => rfl
  · match q with
    | ⟨0, _⟩ => rfl
    | ⟨1, _⟩ => rfl
    | ⟨2, _⟩ => rfl
  · match b with
    | ⟨0, _⟩ => rfl
    | ⟨1, _⟩ => exact absurd rfl hb

section point

variable (x0 : Vec Ideal S1x512x1024 .f32) (x1 : Vec Ideal S1x1024 .f32) (x2 : Vec Ideal S1024x2048 .bf16) (x4 : Vec Ideal S1024x128 .bf16) (x5 : Vec Ideal S1x128 .f32)
  (x6 : Vec Ideal S384x1024 .bf16) (cr : Vec Ideal S1x128 .f32) (X : ℕ → Fin 1024 → EReal) (n : ℕ)
  (hX : ∀ (r : Fin 512) k, x0 (ix3 0 r k) = X (n + r.val) k) (r0 : ∀ s k, Real' (X s k)) (r1 : ∀ k, Real' (x1 (ix2 0 k))) (r4 : ∀ k a, Real' (x4 (ix2 k a))) (r5 : ∀ a, Real' (x5 (ix2 0 a)))

/-- A lane's running sum over the sequence. -/
abbrev runs (a : Fin 128) (s : ℕ) : EReal := run X (fun k => x1 (ix2 0 k)) (fun k => x4 (ix2 k a)) (x5 (ix2 0 a)) s

variable (hc : ∀ a, cr (ix2 0 a) = runs x1 x4 x5 X a n)

include hX r0 r1 r4 r5 hc

/-- A point's running sums are the sequence's. -/
theorem running (r : Fin 512) (a : Fin 128) : k0_pay40 (k0_pay39 (k0_pay3 x0 x1) x4 x5) cr (ix2 r a) = runs x1 x4 x5 X a (n + r.val + 1) := by
  have el : ∀ i : Fin 512, logs (k0_pay39 (k0_pay3 x0 x1) x4 x5) (ix2 i a) = gate (X (n + i.val)) (fun k => x1 (ix2 0 k)) (fun k => x4 (ix2 k a)) (x5 (ix2 0 a)) := fun i => by
    rw [logs_apply, arg_apply]
    simp only [hX]
    rfl
  have hz : ∀ i : Fin 512, logs (k0_pay39 (k0_pay3 x0 x1) x4 x5) (ix2 i a) - logs (k0_pay39 (k0_pay3 x0 x1) x4 x5) (ix2 i a) = (0 : EReal) := fun i => by
    rw [el]
    exact (gate_real (r0 _) r1 (fun k => r4 k a) (r5 a)).sub_self
  rw [pay40_eq]
  have e2 : below (truncf .bf16 (subf (logs (k0_pay39 (k0_pay3 x0 x1) x4 x5)) (logs (k0_pay39 (k0_pay3 x0 x1) x4 x5))) bitsLt_bf16_f32) (ix2 r a) = (0 : EReal) := below_zero _ r a hz
  have e3 : below (truncf .bf16 (subf (subf (logs (k0_pay39 (k0_pay3 x0 x1) x4 x5)) (logs (k0_pay39 (k0_pay3 x0 x1) x4 x5))) (subf (logs (k0_pay39 (k0_pay3 x0 x1) x4 x5)) (logs (k0_pay39 (k0_pay3 x0 x1) x4 x5)))) bitsLt_bf16_f32) (ix2 r a) = (0 : EReal) :=
    below_zero _ r a fun i => (congrArg₂ (fun u w : EReal => u - w) (hz i) (hz i)).trans Real'.zero.sub_self
  have e1 : below (truncf .bf16 (logs (k0_pay39 (k0_pay3 x0 x1) x4 x5)) bitsLt_bf16_f32) (ix2 r a) = ∑ i ∈ Finset.range (r.val + 1), gate (X (n + i)) (fun k => x1 (ix2 0 k)) (fun k => x4 (ix2 k a)) (x5 (ix2 0 a)) :=
    below_range _ r a _ el
  have ec : broadcastTo S512x128 cr broadcasts_S1x128_S512x128 (ix2 r a) = cr (ix2 0 a) := by pointwise []
  refine (congrArg₂ (fun u w : EReal => u + w) (ec.trans (hc a)) (congrArg₂ (fun u w : EReal => u + w) (congrArg₂ (fun u w : EReal => u + w) e1 e2) e3)).trans ?_
  show runs x1 x4 x5 X a n + ((_ + 0) + 0) = _
  rw [add_zero, add_zero, Nat.add_assoc]
  exact (run_add X _ _ _ n (r.val + 1)).symm

/-- What a point leaves for the next. -/
theorem left_apply (r : Fin 8) (a : Fin 128) : k0_pay41 (k0_pay39 (k0_pay3 x0 x1) x4 x5) cr (ix2 r a) = runs x1 x4 x5 X a (n + 512) := by
  refine Eq.trans ?_ (running x0 x1 x4 x5 cr X n hX r0 r1 r4 r5 hc 511 a)
  pointwise [k0_pay41]

/-- The running sums where a head has lanes to spare. -/
theorem sums_apply (hs : Placed fun i j => x6 (ix2 i j)) (h : Fin 16) (r : Fin 512) (l : Fin 128) (hd : ¬ Dat h l) : sums x0 x1 x4 x5 x6 cr (ix2 r (pairCol h l))
    = if ex h l = 0 ∨ ex h l = 3 then cum X (fun k => x1 (ix2 0 k)) (fun k => x4 (ix2 k ⟨h.val, by omega⟩)) (x5 (ix2 0 ⟨h.val, by omega⟩)) (n + r.val) else 0 := by
  have low : ∀ a : Fin 128, k0_pay42 (k0_pay39 (k0_pay3 x0 x1) x4 x5) cr (ix2 r ⟨a.val, by omega⟩)
      = cum X (fun k => x1 (ix2 0 k)) (fun k => x4 (ix2 k a)) (x5 (ix2 0 a)) (n + r.val) := fun a => by
    have := parts_apply (k0_pay39 (k0_pay3 x0 x1) x4 x5) cr r 0 a
    rw [show (⟨128 * (0 : Fin 3).val + a.val, by omega⟩ : Fin 384) = ⟨a.val, by omega⟩ from Fin.ext (by show 128 * 0 + a.val = a.val; omega)] at this
    exact this.trans (congrArg (fun u : EReal => u * _) (running x0 x1 x4 x5 cr X n hX r0 r1 r4 r5 hc r a))
  have real : ∀ a : Fin 128, Real' (k0_pay40 (k0_pay39 (k0_pay3 x0 x1) x4 x5) cr (ix2 r a) * Ideal.ofBits .f32 0x3FB8AA3B#32 : EReal) := fun a => by
    rw [running x0 x1 x4 x5 cr X n hX r0 r1 r4 r5 hc r a]
    exact (run_real r0 r1 (fun k => r4 k a) (r5 a) _).mul scale_real
  have mid : ∀ a : Fin 128, k0_pay42 (k0_pay39 (k0_pay3 x0 x1) x4 x5) cr (ix2 r ⟨128 + a.val, by omega⟩) = (0 : EReal) := fun a =>
    (parts_apply (k0_pay39 (k0_pay3 x0 x1) x4 x5) cr r 1 a).trans (real a).sub_self
  have high : ∀ a : Fin 128, k0_pay42 (k0_pay39 (k0_pay3 x0 x1) x4 x5) cr (ix2 r ⟨256 + a.val, by omega⟩) = (0 : EReal) := fun a =>
    (parts_apply (k0_pay39 (k0_pay3 x0 x1) x4 x5) cr r 2 a).trans ((congrArg₂ (fun u w : EReal => u - w) (real a).sub_self (real a).sub_self).trans Real'.zero.sub_self)
  have e : sums x0 x1 x4 x5 x6 cr (ix2 r (pairCol h l)) = ∑ k : Fin 384, k0_pay42 (k0_pay39 (k0_pay3 x0 x1) x4 x5) cr (ix2 r k) * x6 (ix2 k (pairCol h l)) := by
    pointwise [sums, k0_pay43]
  rw [e, Finset.sum_eq_single (⟨h.val, by omega⟩ : Fin 384)]
  · rw [low ⟨h.val, by omega⟩]
    refine (congrArg (fun u : EReal => _ * u) (hs.at h l hd ⟨h.val, by omega⟩)).trans ?_
    simp only [true_and]
    split_ifs <;> simp
  · intro k _ hk
    by_cases h1 : k.val < 128
    · refine (congrArg (fun u : EReal => _ * u) ((hs.at h l hd ⟨k.val, h1⟩).trans (if_neg fun q => hk (Fin.ext q.1)))).trans ?_
      exact mul_zero _
    · by_cases h2 : k.val < 256
      · have := mid ⟨k.val - 128, by omega⟩
        have ek : (⟨128 + (⟨k.val - 128, by omega⟩ : Fin 128).val, by omega⟩ : Fin 384) = k := Fin.ext (by show 128 + (k.val - 128) = k.val; omega)
        rw [ek] at this
        rw [this, zero_mul]
      · have := high ⟨k.val - 256, by omega⟩
        have ek : (⟨256 + (⟨k.val - 256, by omega⟩ : Fin 128).val, by omega⟩ : Fin 384) = k := Fin.ext (by show 256 + (k.val - 256) = k.val; omega)
        rw [ek] at this
        rw [this, zero_mul]
  · intro hn
    exact absurd (Finset.mem_univ _) hn

/-- A point's queries. -/
theorem query_apply (hs : Placed fun i j => x6 (ix2 i j)) (h : Fin 16) (r : Fin 512) (l : Fin 128) : qhead (k0_pay4 x0 x1 x2) (sums x0 x1 x4 x5 x6 cr) h (ix4 0 0 r l)
    = qlane h l (prod (X (n + r.val)) (fun k => x1 (ix2 0 k)) fun k => x2 (ix2 k ⟨128 * (h.val / 2) + l.val, by omega⟩))
        (cum X (fun k => x1 (ix2 0 k)) (fun k => x4 (ix2 k ⟨h.val, by omega⟩)) (x5 (ix2 0 ⟨h.val, by omega⟩)) (n + r.val)) := by
  rw [qhead_apply]
  unfold qlane
  by_cases hd : Dat h l
  · rw [if_pos hd, if_pos hd, proj_apply]
    simp only [hX]
  · rw [if_neg hd, if_neg hd, sums_apply x0 x1 x4 x5 x6 cr X n hX r0 r1 r4 r5 hc hs h r l hd]
    split_ifs <;> first | rfl | omega

/-- A point's keys. -/
theorem key_apply (hs : Placed fun i j => x6 (ix2 i j)) (h : Fin 16) (r : Fin 512) (l : Fin 128) : khead (k0_pay4 x0 x1 x2) (sums x0 x1 x4 x5 x6 cr) h (ix4 0 0 r l)
    = klane h l (prod (X (n + r.val)) (fun k => x1 (ix2 0 k)) fun k => x2 (ix2 k ⟨1024 + (128 * (h.val / 2) + l.val), by omega⟩))
        (cum X (fun k => x1 (ix2 0 k)) (fun k => x4 (ix2 k ⟨h.val, by omega⟩)) (x5 (ix2 0 ⟨h.val, by omega⟩)) (n + r.val)) := by
  rw [khead_apply]
  unfold klane
  by_cases hd : Dat h l
  · rw [if_pos hd, if_pos hd, proj_apply]
    simp only [hX]
  · rw [if_neg hd, if_neg hd, sums_apply x0 x1 x4 x5 x6 cr X n hX r0 r1 r4 r5 hc hs h r l hd]
    split_ifs <;> first | rfl | omega

end point

end Cert.ProjIdeal.Rows

end
-- ==== Proof.ProjFirst.lean ====
/-
  What the projection kernel stores and carries at the first point of a sequence.
-/
module

public import proofs.«01_k».proof.Proof.ProjState

@[expose] public section

set_option maxRecDepth 65536

noncomputable section

namespace Cert.ProjIdeal.First

open Cert.ProjIdeal Cert.ProjIdeal.Gen Cert.ProjIdeal.Gen.kernelRun0_A Cert.ProjIdeal.State Idealize.ShloMosaic Idealize.ShloMosaic.TcCoe

/-- The running sums a sequence starts from. -/
theorem zero_ok (c : Dev nD) (arg12 : Memref sig .tc .vmem S8x128 .f32) : sl.v162 (F := Ideal) c arg12 = zero := by
  funext y
  unfold sl.v162
  rw [View.readCov_eq_canon']
  unfold sl.HS0_1
  refine (congrFun (View.canon_cons_unit_zero (S := S8x128) (by funext a; fin_cases a <;> rfl) _ _ _) _).trans ?_
  pointwise [k0_pay2, zero]

set_option maxHeartbeats 4000000 in
/-- What is stored in the query block. -/
theorem query (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S384x1024 .bf16) (harg8 : arg8.IsWhole) (arg9 : Memref sig .tc .vmem S1x16x512x128 .bf16) (harg9 : arg9.IsWhole) (arg10 : Memref sig .tc .vmem S1x16x512x128 .bf16) (harg10 : arg10.IsWhole) (arg11 : Memref sig .tc .vmem S1x1280x512 .bf16) (harg11 : arg11.IsWhole) (arg12 : Memref sig .tc .vmem S8x128 .f32) (harg12 : arg12.IsWhole) (hc0 : cond0_0 i) (x0 : Vec Ideal S1x512x1024 .f32) (x1 : Vec Ideal S1x1024 .f32) (x2 : Vec Ideal S1024x2048 .bf16) (x3 : Vec Ideal S1024x1024 .bf16) (x4 : Vec Ideal S1024x128 .bf16) (x5 : Vec Ideal S1x128 .f32) (x6 : Vec Ideal S384x1024 .bf16) (h : Fin 16) (r : Fin 512) (l : Fin 128) :
    out0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix4 0 h r l) = qhead (k0_pay4 x0 x1 x2) (sums x0 x1 x4 x5 x6 zero) h (ix4 0 0 r l) := by
  unfold out0_A_7
  rw [View.read_writes_junk_apply_eq_canon]
  have e : (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6).1 = pieces (qhead (k0_pay4 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x2048.size inb_S1024x2048_S1024x2048_0_0).toLoadRect (harg4.unread x2))) (sums (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg6.view (Rect.unit (s := S1024x128) ![0, 0] S1024x128.size inb_S1024x128_S1024x128_0_0).toLoadRect (harg6.unread x4)) (View.readAt (Elt Ideal) arg7.view (Rect.unit (s := S1x128) ![0, 0] S1x128.size inb_S1x128_S1x128_0_0).toLoadRect (harg7.unread x5)) (View.readAt (Elt Ideal) arg8.view (Rect.unit (s := S384x1024) ![0, 0] S384x1024.size inb_S384x1024_S384x1024_0_0).toLoadRect (harg8.unread x6)) (sl.v162 (F := Ideal) c arg12))) := by
    unfold kernelRun0_A
    rfl
  rw [e, full_ok harg2 (x := x0) (off := ![0, 0, 0]) (inb := inb_S1x512x1024_S1x512x1024_0_0_0), full_ok harg3 (x := x1) (off := ![0, 0]) (inb := inb_S1x1024_S1x1024_0_0), full_ok harg4 (x := x2) (off := ![0, 0]) (inb := inb_S1024x2048_S1024x2048_0_0), full_ok harg6 (x := x4) (off := ![0, 0]) (inb := inb_S1024x128_S1024x128_0_0), full_ok harg7 (x := x5) (off := ![0, 0]) (inb := inb_S1x128_S1x128_0_0), full_ok harg8 (x := x6) (off := ![0, 0]) (inb := inb_S384x1024_S384x1024_0_0), zero_ok c arg12]
  exact pieces_apply _ h r l

set_option maxHeartbeats 4000000 in
/-- What is stored in the key block. -/
theorem key (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S384x1024 .bf16) (harg8 : arg8.IsWhole) (arg9 : Memref sig .tc .vmem S1x16x512x128 .bf16) (harg9 : arg9.IsWhole) (arg10 : Memref sig .tc .vmem S1x16x512x128 .bf16) (harg10 : arg10.IsWhole) (arg11 : Memref sig .tc .vmem S1x1280x512 .bf16) (harg11 : arg11.IsWhole) (arg12 : Memref sig .tc .vmem S8x128 .f32) (harg12 : arg12.IsWhole) (hc0 : cond0_0 i) (x0 : Vec Ideal S1x512x1024 .f32) (x1 : Vec Ideal S1x1024 .f32) (x2 : Vec Ideal S1024x2048 .bf16) (x3 : Vec Ideal S1024x1024 .bf16) (x4 : Vec Ideal S1024x128 .bf16) (x5 : Vec Ideal S1x128 .f32) (x6 : Vec Ideal S384x1024 .bf16) (h : Fin 16) (r : Fin 512) (l : Fin 128) :
    out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix4 0 h r l) = khead (k0_pay4 x0 x1 x2) (sums x0 x1 x4 x5 x6 zero) h (ix4 0 0 r l) := by
  unfold out0_A_8
  rw [View.read_writes_junk_apply_eq_canon]
  have e : (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.1 = pieces (khead (k0_pay4 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x2048.size inb_S1024x2048_S1024x2048_0_0).toLoadRect (harg4.unread x2))) (sums (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg6.view (Rect.unit (s := S1024x128) ![0, 0] S1024x128.size inb_S1024x128_S1024x128_0_0).toLoadRect (harg6.unread x4)) (View.readAt (Elt Ideal) arg7.view (Rect.unit (s := S1x128) ![0, 0] S1x128.size inb_S1x128_S1x128_0_0).toLoadRect (harg7.unread x5)) (View.readAt (Elt Ideal) arg8.view (Rect.unit (s := S384x1024) ![0, 0] S384x1024.size inb_S384x1024_S384x1024_0_0).toLoadRect (harg8.unread x6)) (sl.v162 (F := Ideal) c arg12))) := by
    unfold kernelRun0_A
    rfl
  rw [e, full_ok harg2 (x := x0) (off := ![0, 0, 0]) (inb := inb_S1x512x1024_S1x512x1024_0_0_0), full_ok harg3 (x := x1) (off := ![0, 0]) (inb := inb_S1x1024_S1x1024_0_0), full_ok harg4 (x := x2) (off := ![0, 0]) (inb := inb_S1024x2048_S1024x2048_0_0), full_ok harg6 (x := x4) (off := ![0, 0]) (inb := inb_S1024x128_S1024x128_0_0), full_ok harg7 (x := x5) (off := ![0, 0]) (inb := inb_S1x128_S1x128_0_0), full_ok harg8 (x := x6) (off := ![0, 0]) (inb := inb_S384x1024_S384x1024_0_0), zero_ok c arg12]
  exact pieces_apply _ h r l

set_option maxHeartbeats 4000000 in
/-- What is stored in the value block. -/
theorem value (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S384x1024 .bf16) (harg8 : arg8.IsWhole) (arg9 : Memref sig .tc .vmem S1x16x512x128 .bf16) (harg9 : arg9.IsWhole) (arg10 : Memref sig .tc .vmem S1x16x512x128 .bf16) (harg10 : arg10.IsWhole) (arg11 : Memref sig .tc .vmem S1x1280x512 .bf16) (harg11 : arg11.IsWhole) (arg12 : Memref sig .tc .vmem S8x128 .f32) (harg12 : arg12.IsWhole) (hc0 : cond0_0 i) (x0 : Vec Ideal S1x512x1024 .f32) (x1 : Vec Ideal S1x1024 .f32) (x2 : Vec Ideal S1024x2048 .bf16) (x3 : Vec Ideal S1024x1024 .bf16) (x4 : Vec Ideal S1024x128 .bf16) (x5 : Vec Ideal S1x128 .f32) (x6 : Vec Ideal S384x1024 .bf16) (h : Fin 16) (r : Fin 80) (s : Fin 512) :
    out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 0 ⟨80 * h.val + r.val, by omega⟩ s) = vrow (k0_pay5 x0 x1 x3) h r s := by
  unfold out0_A_9
  rw [View.read_writes_junk_apply_eq_canon]
  have e : (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.2.1 = vUpTo (k0_pay5 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg5.view (Rect.unit (s := S1024x1024) ![0, 0] S1024x1024.size inb_S1024x1024_S1024x1024_0_0).toLoadRect (harg5.unread x3))) 16 (Nat.le_refl _) := by
    unfold kernelRun0_A
    rfl
  rw [e, full_ok harg2 (x := x0) (off := ![0, 0, 0]) (inb := inb_S1x512x1024_S1x512x1024_0_0_0), full_ok harg3 (x := x1) (off := ![0, 0]) (inb := inb_S1x1024_S1x1024_0_0), full_ok harg5 (x := x3) (off := ![0, 0]) (inb := inb_S1024x1024_S1024x1024_0_0)]
  exact vUpTo_apply _ s h r 16 (Nat.le_refl _) h.isLt

/-- What is left for the next point. -/
theorem left (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S384x1024 .bf16) (harg8 : arg8.IsWhole) (arg9 : Memref sig .tc .vmem S1x16x512x128 .bf16) (harg9 : arg9.IsWhole) (arg10 : Memref sig .tc .vmem S1x16x512x128 .bf16) (harg10 : arg10.IsWhole) (arg11 : Memref sig .tc .vmem S1x1280x512 .bf16) (harg11 : arg11.IsWhole) (arg12 : Memref sig .tc .vmem S8x128 .f32) (harg12 : arg12.IsWhole) (hc0 : cond0_0 i) (x0 : Vec Ideal S1x512x1024 .f32) (x1 : Vec Ideal S1x1024 .f32) (x2 : Vec Ideal S1024x2048 .bf16) (x3 : Vec Ideal S1024x1024 .bf16) (x4 : Vec Ideal S1024x128 .bf16) (x5 : Vec Ideal S1x128 .f32) (x6 : Vec Ideal S384x1024 .bf16) (r : Fin 8) (l : Fin 128) :
    sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix2 r l) = k0_pay41 (k0_pay39 (k0_pay3 x0 x1) x4 x5) zero (ix2 r l) := by
  unfold sout0_A_0
  rw [View.read_writes_junk_apply_eq_canon]
  unfold kernelRun0_A
  refine (congrFun (View.canon_cons_unit_zero (S := S8x128) (by funext a; fin_cases a <;> rfl) _ _ _) _).trans ?_
  show k0_pay41 (k0_pay39 (k0_pay3 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1))) (View.readAt (Elt Ideal) arg6.view (Rect.unit (s := S1024x128) ![0, 0] S1024x128.size inb_S1024x128_S1024x128_0_0).toLoadRect (harg6.unread x4)) (View.readAt (Elt Ideal) arg7.view (Rect.unit (s := S1x128) ![0, 0] S1x128.size inb_S1x128_S1x128_0_0).toLoadRect (harg7.unread x5))) (sl.v162 (F := Ideal) c arg12) (ix2 r l) = _
  rw [full_ok harg2 (x := x0) (off := ![0, 0, 0]) (inb := inb_S1x512x1024_S1x512x1024_0_0_0), full_ok harg3 (x := x1) (off := ![0, 0]) (inb := inb_S1x1024_S1x1024_0_0), full_ok harg6 (x := x4) (off := ![0, 0]) (inb := inb_S1024x128_S1024x128_0_0), full_ok harg7 (x := x5) (off := ![0, 0]) (inb := inb_S1x128_S1x128_0_0), zero_ok c arg12]

end Cert.ProjIdeal.First

end
-- ==== Proof.ProjNext.lean ====
/-
  What the projection kernel stores and carries at a later point of a sequence.
-/
module

public import proofs.«01_k».proof.Proof.ProjState

@[expose] public section

set_option maxRecDepth 65536

noncomputable section

namespace Cert.ProjIdeal.Next

open Cert.ProjIdeal Cert.ProjIdeal.Gen Cert.ProjIdeal.Gen.kernelRun0_B Cert.ProjIdeal.State Idealize.ShloMosaic Idealize.ShloMosaic.TcCoe

set_option maxHeartbeats 4000000 in
/-- What is stored in the query block. -/
theorem query (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S384x1024 .bf16) (harg8 : arg8.IsWhole) (arg9 : Memref sig .tc .vmem S1x16x512x128 .bf16) (harg9 : arg9.IsWhole) (arg10 : Memref sig .tc .vmem S1x16x512x128 .bf16) (harg10 : arg10.IsWhole) (arg11 : Memref sig .tc .vmem S1x1280x512 .bf16) (harg11 : arg11.IsWhole) (arg12 : Memref sig .tc .vmem S8x128 .f32) (harg12 : arg12.IsWhole) (hc0 : ¬cond0_0 i) (x0 : Vec Ideal S1x512x1024 .f32) (x1 : Vec Ideal S1x1024 .f32) (x2 : Vec Ideal S1024x2048 .bf16) (x3 : Vec Ideal S1024x1024 .bf16) (x4 : Vec Ideal S1024x128 .bf16) (x5 : Vec Ideal S1x128 .f32) (x6 : Vec Ideal S384x1024 .bf16) (xs0 : Vec Ideal S8x128 .f32) (h : Fin 16) (r : Fin 512) (l : Fin 128) :
    out0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 (ix4 0 h r l) = qhead (k0_pay4 x0 x1 x2) (sums x0 x1 x4 x5 x6 (top xs0)) h (ix4 0 0 r l) := by
  unfold out0_B_7
  rw [View.read_writes_junk_apply_eq_canon]
  have e : (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0).1 = pieces (qhead (k0_pay4 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x2048.size inb_S1024x2048_S1024x2048_0_0).toLoadRect (harg4.unread x2))) (sums (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg6.view (Rect.unit (s := S1024x128) ![0, 0] S1024x128.size inb_S1024x128_S1024x128_0_0).toLoadRect (harg6.unread x4)) (View.readAt (Elt Ideal) arg7.view (Rect.unit (s := S1x128) ![0, 0] S1x128.size inb_S1x128_S1x128_0_0).toLoadRect (harg7.unread x5)) (View.readAt (Elt Ideal) arg8.view (Rect.unit (s := S384x1024) ![0, 0] S384x1024.size inb_S384x1024_S384x1024_0_0).toLoadRect (harg8.unread x6)) (View.readAt (Elt Ideal) arg12.view (Rect.unit (s := S8x128) ![0, 0] S1x128.size inb_S8x128_S1x128_0_0).toLoadRect (harg12.unread xs0)))) := by
    unfold kernelRun0_B
    rfl
  rw [e, full_ok harg2 (x := x0) (off := ![0, 0, 0]) (inb := inb_S1x512x1024_S1x512x1024_0_0_0), full_ok harg3 (x := x1) (off := ![0, 0]) (inb := inb_S1x1024_S1x1024_0_0), full_ok harg4 (x := x2) (off := ![0, 0]) (inb := inb_S1024x2048_S1024x2048_0_0), full_ok harg6 (x := x4) (off := ![0, 0]) (inb := inb_S1024x128_S1024x128_0_0), full_ok harg7 (x := x5) (off := ![0, 0]) (inb := inb_S1x128_S1x128_0_0), full_ok harg8 (x := x6) (off := ![0, 0]) (inb := inb_S384x1024_S384x1024_0_0), top_ok arg12 harg12 xs0]
  exact pieces_apply _ h r l

set_option maxHeartbeats 4000000 in
/-- What is stored in the key block. -/
theorem key (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S384x1024 .bf16) (harg8 : arg8.IsWhole) (arg9 : Memref sig .tc .vmem S1x16x512x128 .bf16) (harg9 : arg9.IsWhole) (arg10 : Memref sig .tc .vmem S1x16x512x128 .bf16) (harg10 : arg10.IsWhole) (arg11 : Memref sig .tc .vmem S1x1280x512 .bf16) (harg11 : arg11.IsWhole) (arg12 : Memref sig .tc .vmem S8x128 .f32) (harg12 : arg12.IsWhole) (hc0 : ¬cond0_0 i) (x0 : Vec Ideal S1x512x1024 .f32) (x1 : Vec Ideal S1x1024 .f32) (x2 : Vec Ideal S1024x2048 .bf16) (x3 : Vec Ideal S1024x1024 .bf16) (x4 : Vec Ideal S1024x128 .bf16) (x5 : Vec Ideal S1x128 .f32) (x6 : Vec Ideal S384x1024 .bf16) (xs0 : Vec Ideal S8x128 .f32) (h : Fin 16) (r : Fin 512) (l : Fin 128) :
    out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 (ix4 0 h r l) = khead (k0_pay4 x0 x1 x2) (sums x0 x1 x4 x5 x6 (top xs0)) h (ix4 0 0 r l) := by
  unfold out0_B_8
  rw [View.read_writes_junk_apply_eq_canon]
  have e : (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0).2.1 = pieces (khead (k0_pay4 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x2048.size inb_S1024x2048_S1024x2048_0_0).toLoadRect (harg4.unread x2))) (sums (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg6.view (Rect.unit (s := S1024x128) ![0, 0] S1024x128.size inb_S1024x128_S1024x128_0_0).toLoadRect (harg6.unread x4)) (View.readAt (Elt Ideal) arg7.view (Rect.unit (s := S1x128) ![0, 0] S1x128.size inb_S1x128_S1x128_0_0).toLoadRect (harg7.unread x5)) (View.readAt (Elt Ideal) arg8.view (Rect.unit (s := S384x1024) ![0, 0] S384x1024.size inb_S384x1024_S384x1024_0_0).toLoadRect (harg8.unread x6)) (View.readAt (Elt Ideal) arg12.view (Rect.unit (s := S8x128) ![0, 0] S1x128.size inb_S8x128_S1x128_0_0).toLoadRect (harg12.unread xs0)))) := by
    unfold kernelRun0_B
    rfl
  rw [e, full_ok harg2 (x := x0) (off := ![0, 0, 0]) (inb := inb_S1x512x1024_S1x512x1024_0_0_0), full_ok harg3 (x := x1) (off := ![0, 0]) (inb := inb_S1x1024_S1x1024_0_0), full_ok harg4 (x := x2) (off := ![0, 0]) (inb := inb_S1024x2048_S1024x2048_0_0), full_ok harg6 (x := x4) (off := ![0, 0]) (inb := inb_S1024x128_S1024x128_0_0), full_ok harg7 (x := x5) (off := ![0, 0]) (inb := inb_S1x128_S1x128_0_0), full_ok harg8 (x := x6) (off := ![0, 0]) (inb := inb_S384x1024_S384x1024_0_0), top_ok arg12 harg12 xs0]
  exact pieces_apply _ h r l

set_option maxHeartbeats 4000000 in
/-- What is stored in the value block. -/
theorem value (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S384x1024 .bf16) (harg8 : arg8.IsWhole) (arg9 : Memref sig .tc .vmem S1x16x512x128 .bf16) (harg9 : arg9.IsWhole) (arg10 : Memref sig .tc .vmem S1x16x512x128 .bf16) (harg10 : arg10.IsWhole) (arg11 : Memref sig .tc .vmem S1x1280x512 .bf16) (harg11 : arg11.IsWhole) (arg12 : Memref sig .tc .vmem S8x128 .f32) (harg12 : arg12.IsWhole) (hc0 : ¬cond0_0 i) (x0 : Vec Ideal S1x512x1024 .f32) (x1 : Vec Ideal S1x1024 .f32) (x2 : Vec Ideal S1024x2048 .bf16) (x3 : Vec Ideal S1024x1024 .bf16) (x4 : Vec Ideal S1024x128 .bf16) (x5 : Vec Ideal S1x128 .f32) (x6 : Vec Ideal S384x1024 .bf16) (xs0 : Vec Ideal S8x128 .f32) (h : Fin 16) (r : Fin 80) (s : Fin 512) :
    out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 (ix3 0 ⟨80 * h.val + r.val, by omega⟩ s) = vrow (k0_pay5 x0 x1 x3) h r s := by
  unfold out0_B_9
  rw [View.read_writes_junk_apply_eq_canon]
  have e : (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0).2.2.1 = vUpTo (k0_pay5 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg5.view (Rect.unit (s := S1024x1024) ![0, 0] S1024x1024.size inb_S1024x1024_S1024x1024_0_0).toLoadRect (harg5.unread x3))) 16 (Nat.le_refl _) := by
    unfold kernelRun0_B
    rfl
  rw [e, full_ok harg2 (x := x0) (off := ![0, 0, 0]) (inb := inb_S1x512x1024_S1x512x1024_0_0_0), full_ok harg3 (x := x1) (off := ![0, 0]) (inb := inb_S1x1024_S1x1024_0_0), full_ok harg5 (x := x3) (off := ![0, 0]) (inb := inb_S1024x1024_S1024x1024_0_0)]
  exact vUpTo_apply _ s h r 16 (Nat.le_refl _) h.isLt

/-- What is left for the next point. -/
theorem left (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S384x1024 .bf16) (harg8 : arg8.IsWhole) (arg9 : Memref sig .tc .vmem S1x16x512x128 .bf16) (harg9 : arg9.IsWhole) (arg10 : Memref sig .tc .vmem S1x16x512x128 .bf16) (harg10 : arg10.IsWhole) (arg11 : Memref sig .tc .vmem S1x1280x512 .bf16) (harg11 : arg11.IsWhole) (arg12 : Memref sig .tc .vmem S8x128 .f32) (harg12 : arg12.IsWhole) (hc0 : ¬cond0_0 i) (x0 : Vec Ideal S1x512x1024 .f32) (x1 : Vec Ideal S1x1024 .f32) (x2 : Vec Ideal S1024x2048 .bf16) (x3 : Vec Ideal S1024x1024 .bf16) (x4 : Vec Ideal S1024x128 .bf16) (x5 : Vec Ideal S1x128 .f32) (x6 : Vec Ideal S384x1024 .bf16) (xs0 : Vec Ideal S8x128 .f32) (r : Fin 8) (l : Fin 128) :
    sout0_B_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 (ix2 r l) = k0_pay41 (k0_pay39 (k0_pay3 x0 x1) x4 x5) (top xs0) (ix2 r l) := by
  unfold sout0_B_0
  rw [View.read_writes_junk_apply_eq_canon]
  unfold kernelRun0_B
  refine (congrFun (View.canon_cons_unit_zero (S := S8x128) (by funext a; fin_cases a <;> rfl) _ _ _) _).trans ?_
  show k0_pay41 (k0_pay39 (k0_pay3 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1))) (View.readAt (Elt Ideal) arg6.view (Rect.unit (s := S1024x128) ![0, 0] S1024x128.size inb_S1024x128_S1024x128_0_0).toLoadRect (harg6.unread x4)) (View.readAt (Elt Ideal) arg7.view (Rect.unit (s := S1x128) ![0, 0] S1x128.size inb_S1x128_S1x128_0_0).toLoadRect (harg7.unread x5))) (View.readAt (Elt Ideal) arg12.view (Rect.unit (s := S8x128) ![0, 0] S1x128.size inb_S8x128_S1x128_0_0).toLoadRect (harg12.unread xs0)) (ix2 r l) = _
  rw [full_ok harg2 (x := x0) (off := ![0, 0, 0]) (inb := inb_S1x512x1024_S1x512x1024_0_0_0), full_ok harg3 (x := x1) (off := ![0, 0]) (inb := inb_S1x1024_S1x1024_0_0), full_ok harg6 (x := x4) (off := ![0, 0]) (inb := inb_S1024x128_S1024x128_0_0), full_ok harg7 (x := x5) (off := ![0, 0]) (inb := inb_S1x128_S1x128_0_0), top_ok arg12 harg12 xs0]

end Cert.ProjIdeal.Next

end
-- ==== Proof.ProjScatter.lean ====
/-
  The two arrays the projection kernel widens to 128 lanes before its call: the gates' matrix and bias,
  set into zeros at the first 16 lanes.
-/
module

public import proofs.«01_k».proof.Proof.ProjState

public import Idealize.ShloMosaic.Lib.Routing.OpsSet

@[expose] public section

noncomputable section

namespace Cert.ProjIdeal.Wide

open Cert.ProjIdeal Cert.ProjIdeal.Gen Idealize.ShloMosaic

/-- Where an update lands when every start is zero. -/
theorem lands {s si u : Shape} (d : ScatterDims s si u) (idx : IVec si 32) (h0 : ∀ i, idx i = 0#32) (j : u.Idx) (q : s.Idx) (hw : ∀ a, d.window j a = (q a).val) :
    d.resultIdx? j idx = some q := by
  have hs : ∀ a, d.start j idx a = 0 := fun a => by
    unfold ScatterDims.start
    split_ifs
    · rw [h0]; rfl
    · rfl
  unfold ScatterDims.resultIdx?
  rw [dif_pos (fun a => by rw [hs, hw]; have := (q a).isLt; omega)]
  refine congrArg some (funext fun a => Fin.ext ?_)
  show (d.start j idx a + d.window j a).toNat = (q a).val
  rw [hs, hw]
  omega

/-- The matrix's updates. -/
theorem lands_matrix (idx : IVec S1 32) (h0 : ∀ i, idx i = 0#32) (k : Fin 1024) (h : Fin 16) :
    scatter_S1024x128_S1_S1024x16_01_n_1_0.resultIdx? (ix2 k h) idx = some (ix2 k ⟨h.val, by omega⟩) := by
  refine lands _ idx h0 _ _ fun a => ?_
  match a with
  | ⟨0, _⟩ => rfl
  | ⟨1, _⟩ => rfl

/-- The bias's updates. -/
theorem lands_bias (idx : IVec S2 32) (h0 : ∀ i, idx i = 0#32) (h : Fin 16) :
    scatter_S1x128_S2_S16_0_0_01_0.resultIdx? (ix1 h) idx = some (ix2 0 ⟨h.val, by omega⟩) := by
  refine lands _ idx h0 _ _ fun a => ?_
  match a with
  | ⟨0, _⟩ => rfl
  | ⟨1, _⟩ => rfl

/-- The widened matrix. -/
theorem matrix_apply {α : Type} (x : S1024x128.Idx → α) (idx : IVec S1 32) (h0 : ∀ i, idx i = 0#32) (u : S1024x16.Idx → α) (k : Fin 1024) (a : Fin 128) :
    Host.scatter scatter_S1024x128_S1_S1024x16_01_n_1_0 (fun _ b => b) x idx u (ix2 k a) = if h : a.val < 16 then u (ix2 k ⟨a.val, h⟩) else x (ix2 k a) := by
  split_ifs with h
  · refine Routing.scatter_set_hit _ x idx u (ix2 k a) _ (fun j hj => ?_) (ix2 k ⟨a.val, h⟩) (lands_matrix idx h0 k ⟨a.val, h⟩)
    idx_vars j
    rw [lands_matrix idx h0] at hj
    have e := Option.some.inj hj
    have e0 : j0 = k := congrFun e 0
    have e1 : j1.val = a.val := congrArg Fin.val (congrFun e 1)
    subst e0
    exact congrArg (fun z => u (ix2 j0 z)) (Fin.ext e1)
  · refine Routing.scatter_set_miss _ x idx u (ix2 k a) fun j hj => ?_
    idx_vars j
    rw [lands_matrix idx h0] at hj
    have e1 : j1.val = a.val := congrArg Fin.val (congrFun (Option.some.inj hj) 1)
    omega

/-- The widened bias. -/
theorem bias_apply {α : Type} (x : S1x128.Idx → α) (idx : IVec S2 32) (h0 : ∀ i, idx i = 0#32) (u : S16.Idx → α) (a : Fin 128) :
    Host.scatter scatter_S1x128_S2_S16_0_0_01_0 (fun _ b => b) x idx u (ix2 0 a) = if h : a.val < 16 then u (ix1 ⟨a.val, h⟩) else x (ix2 0 a) := by
  split_ifs with h
  · refine Routing.scatter_set_hit _ x idx u (ix2 0 a) _ (fun j hj => ?_) (ix1 ⟨a.val, h⟩) (lands_bias idx h0 ⟨a.val, h⟩)
    idx_vars j
    rw [lands_bias idx h0] at hj
    have e1 : j0.val = a.val := congrArg Fin.val (congrFun (Option.some.inj hj) 1)
    exact congrArg (fun z => u (ix1 z)) (Fin.ext e1)
  · refine Routing.scatter_set_miss _ x idx u (ix2 0 a) fun j hj => ?_
    idx_vars j
    rw [lands_bias idx h0] at hj
    have e1 : j0.val = a.val := congrArg Fin.val (congrFun (Option.some.inj hj) 1)
    omega

end Cert.ProjIdeal.Wide

end
-- ==== Proof.ProjKernel.lean ====
/-
  The projection kernel's three result arrays: every grid point stores 512 positions of one sequence, its
  running sums starting from what the point before left.
-/
module

public import proofs.«01_k».proof.Proof.ProjRows
public import proofs.«01_k».proof.Proof.ProjFirst
public import proofs.«01_k».proof.Proof.ProjNext
public import proofs.«01_k».proof.Proof.ProjScatter
public import proofs.«01_k».proof.Proof.Gen.ProjIdeal.Value

@[expose] public section

set_option maxRecDepth 65536

noncomputable section

namespace Cert.ProjIdeal.Rows

open Cert.ProjIdeal Cert.ProjIdeal.Gen Cert.ProjIdeal.State Cert.Proj.Spec Cert.Conv.Spec Cert.Ffn.Spec Idealize.ShloMosaic Idealize.ShloMosaic.TcCoe Idealize.SL.Sem
open Idealize.ShloMosaic.Pipeline (Dat)
open scoped BigOperators

variable (m : (ℓ : Loc nD τ sig) → Buf (Elt Ideal) ℓ)

/-- The block each grid point reads or writes of every array. -/
theorem idx : ∀ t : Fin cfg0.N, win0_0.index t = ![t.val / 8, t.val % 8, 0] ∧ win0_1.index t = ![0, 0] ∧ win0_2.index t = ![0, 0] ∧ win0_3.index t = ![0, 0]
    ∧ win0_4.index t = ![0, 0] ∧ win0_5.index t = ![0, 0] ∧ win0_6.index t = ![0, 0]
    ∧ win0_7.index t = ![t.val / 8, 0, t.val % 8, 0] ∧ win0_8.index t = ![t.val / 8, 0, t.val % 8, 0] ∧ win0_9.index t = ![t.val / 8, 0, t.val % 8] :=
  (by decide +kernel : ∀ t : Fin grid0.N, _)

/-- A grid point's sequence. -/
def bat (t : Fin cfg0.N) : Fin 16 := ⟨t.val / 8, by have h : t.val < 128 := t.isLt; omega⟩

/-- A sequence, over the arrays the windows read. -/
def sq (c : Dev nD) (b : Fin 16) : ℕ → Fin 1024 → EReal := seq fun s k => V m c main_arg0 (ix3 b s k)

/-- The gain. -/
def gn (c : Dev nD) (k : Fin 1024) : EReal := V m c main_v15 (ix2 0 k)

/-- A lane's column of the gates. -/
def gw (c : Dev nD) (a : Fin 128) (k : Fin 1024) : EReal := V m c main_v9 (ix2 k a)

/-- A lane's bias. -/
def gb (c : Dev nD) (a : Fin 128) : EReal := V m c main_v14 (ix2 0 a)

/-- The rows a point's block holds. -/
theorem iblk0 (c : Dev nD) (t : Fin cfg0.N) (r : Fin 512) (k : Fin 1024) : iblk m c 0 t (ix3 0 r k) = sq m c (bat t) (512 * (t.val % 8) + r.val) k := by
  have e : (bat t).val = t.val / 8 := rfl
  refine Eq.trans ?_ (congrFun (seq_apply (fun s k => V m c main_arg0 (ix3 (bat t) s k)) ⟨512 * (t.val % 8) + r.val, by omega⟩) k).symm
  blk_ext [iblk, idx t, e]

/-- The gain is read whole. -/
theorem iblk1 (c : Dev nD) (t : Fin cfg0.N) (k : Fin 1024) : iblk m c 1 t (ix2 0 k) = gn m c k := by
  unfold gn; blk_ext [iblk, idx t]

/-- The queries' and keys' matrix is read whole. -/
theorem iblk2 (c : Dev nD) (t : Fin cfg0.N) (k : Fin 1024) (j : Fin 2048) : iblk m c 2 t (ix2 k j) = V m c main_v1 (ix2 k j) := by
  blk_ext [iblk, idx t]

/-- The values' matrix is read whole. -/
theorem iblk3 (c : Dev nD) (t : Fin cfg0.N) (j k : Fin 1024) : iblk m c 3 t (ix2 j k) = V m c main_v4 (ix2 j k) := by
  blk_ext [iblk, idx t]

/-- The gates' columns are read whole. -/
theorem iblk4 (c : Dev nD) (t : Fin cfg0.N) (k : Fin 1024) (a : Fin 128) : iblk m c 4 t (ix2 k a) = gw m c a k := by
  unfold gw; blk_ext [iblk, idx t]

/-- The gates' bias is read whole. -/
theorem iblk5 (c : Dev nD) (t : Fin cfg0.N) (a : Fin 128) : iblk m c 5 t (ix2 0 a) = gb m c a := by
  unfold gb; blk_ext [iblk, idx t]

/-- The selector is read whole. -/
theorem iblk6 (c : Dev nD) (t : Fin cfg0.N) (i : Fin 384) (j : Fin 1024) : iblk m c 6 t (ix2 i j) = V m c main_arg4 (ix2 i j) := by
  blk_ext [iblk, idx t]

section real

variable (c : Dev nD) (r0 : ∀ b s k, Real' (V m c main_arg0 (ix3 b s k))) (r1 : ∀ k, Real' (gn m c k)) (r4 : ∀ a k, Real' (gw m c a k)) (r5 : ∀ a, Real' (gb m c a))

include r0 in
/-- A sequence of real numbers. -/
theorem sq_real (b : Fin 16) (s : ℕ) (k : Fin 1024) : Real' (sq m c b s k) := by
  unfold sq seq
  split_ifs
  · exact r0 b _ k
  · exact Real'.zero

include r0 r1 r4 r5

/-- What a point leaves, when it starts from the sequence's running sums. -/
theorem left_at (t : Fin cfg0.N) (cr : Vec Ideal S1x128 .f32) (hc : ∀ a, cr (ix2 0 a) = run (sq m c (bat t)) (gn m c) (gw m c a) (gb m c a) (512 * (t.val % 8)))
    (r : Fin 8) (a : Fin 128) : k0_pay41 (k0_pay39 (k0_pay3 (iblk m c 0 t) (iblk m c 1 t)) (iblk m c 4 t) (iblk m c 5 t)) cr (ix2 r a)
      = run (sq m c (bat t)) (gn m c) (gw m c a) (gb m c a) (512 * (t.val % 8) + 512) := by
  refine (left_apply (iblk m c 0 t) (iblk m c 1 t) (iblk m c 4 t) (iblk m c 5 t) cr (sq m c (bat t)) (512 * (t.val % 8)) (iblk0 m c t) (sq_real m c r0 (bat t))
    (fun k => by rw [iblk1]; exact r1 k) (fun k a => by rw [iblk4]; exact r4 a k) (fun a => by rw [iblk5]; exact r5 a) (fun a => ?_) r a).trans ?_
  · simp only [runs, iblk1, iblk4, iblk5]; exact hc a
  · simp only [runs, iblk1, iblk4, iblk5]

/-- A point's queries. -/
theorem query_at (hs : Placed fun i j => V m c main_arg4 (ix2 i j)) (t : Fin cfg0.N) (cr : Vec Ideal S1x128 .f32)
    (hc : ∀ a, cr (ix2 0 a) = run (sq m c (bat t)) (gn m c) (gw m c a) (gb m c a) (512 * (t.val % 8))) (h : Fin 16) (r : Fin 512) (l : Fin 128) :
    qhead (k0_pay4 (iblk m c 0 t) (iblk m c 1 t) (iblk m c 2 t)) (sums (iblk m c 0 t) (iblk m c 1 t) (iblk m c 4 t) (iblk m c 5 t) (iblk m c 6 t) cr) h (ix4 0 0 r l)
      = qlane h l (prod (sq m c (bat t) (512 * (t.val % 8) + r.val)) (gn m c) fun k => V m c main_v1 (ix2 k ⟨128 * (h.val / 2) + l.val, by omega⟩))
          (cum (sq m c (bat t)) (gn m c) (gw m c ⟨h.val, by omega⟩) (gb m c ⟨h.val, by omega⟩) (512 * (t.val % 8) + r.val)) := by
  refine (query_apply (iblk m c 0 t) (iblk m c 1 t) (iblk m c 2 t) (iblk m c 4 t) (iblk m c 5 t) (iblk m c 6 t) cr (sq m c (bat t)) (512 * (t.val % 8)) (iblk0 m c t) (sq_real m c r0 (bat t))
    (fun k => by rw [iblk1]; exact r1 k) (fun k a => by rw [iblk4]; exact r4 a k) (fun a => by rw [iblk5]; exact r5 a) (fun a => ?_) ?_ h r l).trans ?_
  · simp only [runs, iblk1, iblk4, iblk5]; exact hc a
  · simp only [iblk6]; exact hs
  · simp only [iblk1, iblk2, iblk4, iblk5]

/-- A point's keys. -/
theorem key_at (hs : Placed fun i j => V m c main_arg4 (ix2 i j)) (t : Fin cfg0.N) (cr : Vec Ideal S1x128 .f32)
    (hc : ∀ a, cr (ix2 0 a) = run (sq m c (bat t)) (gn m c) (gw m c a) (gb m c a) (512 * (t.val % 8))) (h : Fin 16) (r : Fin 512) (l : Fin 128) :
    khead (k0_pay4 (iblk m c 0 t) (iblk m c 1 t) (iblk m c 2 t)) (sums (iblk m c 0 t) (iblk m c 1 t) (iblk m c 4 t) (iblk m c 5 t) (iblk m c 6 t) cr) h (ix4 0 0 r l)
      = klane h l (prod (sq m c (bat t) (512 * (t.val % 8) + r.val)) (gn m c) fun k => V m c main_v1 (ix2 k ⟨1024 + (128 * (h.val / 2) + l.val), by omega⟩))
          (cum (sq m c (bat t)) (gn m c) (gw m c ⟨h.val, by omega⟩) (gb m c ⟨h.val, by omega⟩) (512 * (t.val % 8) + r.val)) := by
  refine (key_apply (iblk m c 0 t) (iblk m c 1 t) (iblk m c 2 t) (iblk m c 4 t) (iblk m c 5 t) (iblk m c 6 t) cr (sq m c (bat t)) (512 * (t.val % 8)) (iblk0 m c t) (sq_real m c r0 (bat t))
    (fun k => by rw [iblk1]; exact r1 k) (fun k a => by rw [iblk4]; exact r4 a k) (fun a => by rw [iblk5]; exact r5 a) (fun a => ?_) ?_ h r l).trans ?_
  · simp only [runs, iblk1, iblk4, iblk5]; exact hc a
  · simp only [iblk6]; exact hs
  · simp only [iblk1, iblk2, iblk4, iblk5]

/-- A sequence's first point starts from zero. -/
theorem start_at (t : Fin cfg0.N) (h0 : t.val % 8 = 0) (a : Fin 128) : zero (ix2 0 a) = run (sq m c (bat t)) (gn m c) (gw m c a) (gb m c a) (512 * (t.val % 8)) := by
  rw [h0]
  exact (Finset.sum_range_zero fun i => gate (sq m c (bat t) i) (gn m c) (gw m c a) (gb m c a)).symm

/-- What a point leaves for the next: the running sums so far. -/
theorem carried (t : Fin cfg0.N) : ∀ (r : Fin 8) (a : Fin 128),
    (outsAt0 m c t.val t.isLt).2.2.2 (ix2 r a) = run (sq m c (bat t)) (gn m c) (gw m c a) (gb m c a) (512 * (t.val % 8) + 512) := by
  obtain ⟨n, hn⟩ := t
  induction n with
  | zero =>
    intro r a
    have h0 : (⟨0, hn⟩ : Fin cfg0.N).val % 8 = 0 := rfl
    rw [outsAt0_A m c ⟨0, hn⟩ h0]
    dsimp only
    refine (First.left c _ _ _ _ _ _ _ _ _ _ _ _ _ _ _ _ _ _ _ _ _ _ _ _ _ _ _ _ _ _ _ r a).trans ?_
    exact left_at m c r0 r1 r4 r5 ⟨0, hn⟩ zero (start_at m c r0 r1 r4 r5 ⟨0, hn⟩ h0) r a
  | succ n ih =>
    intro r a
    by_cases h0 : (n + 1) % 8 = 0
    · rw [outsAt0_A m c ⟨n + 1, hn⟩ h0]
      dsimp only
      refine (First.left c _ _ _ _ _ _ _ _ _ _ _ _ _ _ _ _ _ _ _ _ _ _ _ _ _ _ _ _ _ _ _ r a).trans ?_
      exact left_at m c r0 r1 r4 r5 ⟨n + 1, hn⟩ zero (start_at m c r0 r1 r4 r5 ⟨n + 1, hn⟩ h0) r a
    · have hl : n < cfg0.N := Nat.lt_of_succ_lt hn
      have hb : bat ⟨n, hl⟩ = bat ⟨n + 1, hn⟩ := Fin.ext (by show n / 8 = (n + 1) / 8; omega)
      rw [outsAt0_B m c ⟨n + 1, hn⟩ h0]
      dsimp only
      refine (Next.left c _ _ _ _ _ _ _ _ _ _ _ _ _ _ _ _ _ _ _ _ _ _ _ _ _ _ _ _ _ _ _ _ r a).trans ?_
      refine left_at m c r0 r1 r4 r5 ⟨n + 1, hn⟩ _ (fun a => ?_) r a
      refine (ih hl 0 a).trans ?_
      rw [hb]
      exact congrArg (fun z => run (sq m c (bat ⟨n + 1, hn⟩)) (gn m c) (gw m c a) (gb m c a) z) (show 512 * (n % 8) + 512 = 512 * ((n + 1) % 8) by omega)

/-- A later point starts from the running sums. -/
theorem next_at (t : Fin cfg0.N) (h0 : ¬t.val % 8 = 0) (a : Fin 128) :
    top (outsAt0 m c (t.val - 1) (Nat.lt_of_le_of_lt (Nat.sub_le _ _) t.isLt)).2.2.2 (ix2 0 a) = run (sq m c (bat t)) (gn m c) (gw m c a) (gb m c a) (512 * (t.val % 8)) := by
  have hb : bat ⟨t.val - 1, Nat.lt_of_le_of_lt (Nat.sub_le _ _) t.isLt⟩ = bat t := Fin.ext (by show (t.val - 1) / 8 = t.val / 8; omega)
  have hs : 512 * ((t.val - 1) % 8) + 512 = 512 * (t.val % 8) := by omega
  refine (carried m c r0 r1 r4 r5 ⟨t.val - 1, Nat.lt_of_le_of_lt (Nat.sub_le _ _) t.isLt⟩ 0 a).trans ?_
  rw [hb]
  show run _ _ _ _ (512 * ((t.val - 1) % 8) + 512) = _
  rw [hs]

/-- The queries a point stores. -/
theorem query_point (hs : Placed fun i j => V m c main_arg4 (ix2 i j)) (t : Fin cfg0.N) (h : Fin 16) (r : Fin 512) (l : Fin 128) : (outsAt0 m c t.val t.isLt).1 (ix4 0 h r l)
      = qlane h l (prod (sq m c (bat t) (512 * (t.val % 8) + r.val)) (gn m c) fun k => V m c main_v1 (ix2 k ⟨128 * (h.val / 2) + l.val, by omega⟩))
          (cum (sq m c (bat t)) (gn m c) (gw m c ⟨h.val, by omega⟩) (gb m c ⟨h.val, by omega⟩) (512 * (t.val % 8) + r.val)) := by
  by_cases h0 : t.val % 8 = 0
  · rw [outsAt0_A m c t h0]
    dsimp only
    exact (First.query c _ _ _ _ _ _ _ _ _ _ _ _ _ _ _ _ _ _ _ _ _ _ _ _ _ _ _ _ _ _ _ h r l).trans (query_at m c r0 r1 r4 r5 hs t zero (start_at m c r0 r1 r4 r5 t h0) h r l)
  · rw [outsAt0_B m c t h0]
    dsimp only
    exact (Next.query c _ _ _ _ _ _ _ _ _ _ _ _ _ _ _ _ _ _ _ _ _ _ _ _ _ _ _ _ _ _ _ _ h r l).trans (query_at m c r0 r1 r4 r5 hs t _ (next_at m c r0 r1 r4 r5 t h0) h r l)

/-- The keys a point stores. -/
theorem key_point (hs : Placed fun i j => V m c main_arg4 (ix2 i j)) (t : Fin cfg0.N) (h : Fin 16) (r : Fin 512) (l : Fin 128) : (outsAt0 m c t.val t.isLt).2.1 (ix4 0 h r l)
      = klane h l (prod (sq m c (bat t) (512 * (t.val % 8) + r.val)) (gn m c) fun k => V m c main_v1 (ix2 k ⟨1024 + (128 * (h.val / 2) + l.val), by omega⟩))
          (cum (sq m c (bat t)) (gn m c) (gw m c ⟨h.val, by omega⟩) (gb m c ⟨h.val, by omega⟩) (512 * (t.val % 8) + r.val)) := by
  by_cases h0 : t.val % 8 = 0
  · rw [outsAt0_A m c t h0]
    dsimp only
    exact (First.key c _ _ _ _ _ _ _ _ _ _ _ _ _ _ _ _ _ _ _ _ _ _ _ _ _ _ _ _ _ _ _ h r l).trans (key_at m c r0 r1 r4 r5 hs t zero (start_at m c r0 r1 r4 r5 t h0) h r l)
  · rw [outsAt0_B m c t h0]
    dsimp only
    exact (Next.key c _ _ _ _ _ _ _ _ _ _ _ _ _ _ _ _ _ _ _ _ _ _ _ _ _ _ _ _ _ _ _ _ h r l).trans (key_at m c r0 r1 r4 r5 hs t _ (next_at m c r0 r1 r4 r5 t h0) h r l)

end real

/-- A head's value row, over the arrays the windows read. -/
def vals (c : Dev nD) (b : Fin 16) (h : Fin 16) (r : Fin 80) (s : ℕ) : EReal :=
  if hr : r.val < 64 then prod (sq m c b s) (gn m c) fun k => V m c main_v4 (ix2 ⟨64 * h.val + r.val, by omega⟩ k) else 1

/-- The values a point stores. -/
theorem value_point (c : Dev nD) (t : Fin cfg0.N) (h : Fin 16) (r : Fin 80) (s : Fin 512) : (outsAt0 m c t.val t.isLt).2.2.1 (ix3 0 ⟨80 * h.val + r.val, by omega⟩ s)
      = vals m c (bat t) h r (512 * (t.val % 8) + s.val) := by
  have fin : vrow (k0_pay5 (iblk m c 0 t) (iblk m c 1 t) (iblk m c 3 t)) h r s = vals m c (bat t) h r (512 * (t.val % 8) + s.val) := by
    rw [vrow_apply]
    unfold vals
    split_ifs with hr
    · rw [val_apply]
      simp only [iblk0, iblk1, iblk3]
    · rfl
  by_cases h0 : t.val % 8 = 0
  · rw [outsAt0_A m c t h0]
    dsimp only
    exact (First.value c _ _ _ _ _ _ _ _ _ _ _ _ _ _ _ _ _ _ _ _ _ _ _ _ _ _ _ _ _ _ _ h r s).trans fin
  · rw [outsAt0_B m c t h0]
    dsimp only
    exact (Next.value c _ _ _ _ _ _ _ _ _ _ _ _ _ _ _ _ _ _ _ _ _ _ _ _ _ _ _ _ _ _ _ _ h r s).trans fin

/-- The queries over the arrays the windows read. -/
def Gq (c : Dev nD) : Vec Ideal S16x16x4096x128 .bf16 := fun i =>
  qlane (i 1) (i 3) (prod (sq m c (i 0) (i 2).val) (gn m c) fun k => V m c main_v1 (ix2 k ⟨128 * ((i 1).val / 2) + (i 3).val, by have h1 : (i 1).val < 16 := (i 1).isLt; have h3 : (i 3).val < 128 := (i 3).isLt; omega⟩))
    (cum (sq m c (i 0)) (gn m c) (gw m c ⟨(i 1).val, by have h1 : (i 1).val < 16 := (i 1).isLt; omega⟩) (gb m c ⟨(i 1).val, by have h1 : (i 1).val < 16 := (i 1).isLt; omega⟩) (i 2).val)

/-- The keys. -/
def Gk (c : Dev nD) : Vec Ideal S16x16x4096x128 .bf16 := fun i =>
  klane (i 1) (i 3) (prod (sq m c (i 0) (i 2).val) (gn m c) fun k => V m c main_v1 (ix2 k ⟨1024 + (128 * ((i 1).val / 2) + (i 3).val), by have h1 : (i 1).val < 16 := (i 1).isLt; have h3 : (i 3).val < 128 := (i 3).isLt; omega⟩))
    (cum (sq m c (i 0)) (gn m c) (gw m c ⟨(i 1).val, by have h1 : (i 1).val < 16 := (i 1).isLt; omega⟩) (gb m c ⟨(i 1).val, by have h1 : (i 1).val < 16 := (i 1).isLt; omega⟩) (i 2).val)

/-- The values. -/
def Gv (c : Dev nD) : Vec Ideal S16x1280x4096 .bf16 := fun i =>
  vals m c (i 0) ⟨(i 1).val / 80, Nat.div_lt_of_lt_mul (i 1).isLt⟩ ⟨(i 1).val % 80, Nat.mod_lt _ (by decide)⟩ (i 2).val

/-- They, at a head's row. -/
theorem Gv_row (c : Dev nD) (b h : Fin 16) (r : Fin 80) (s : Fin 4096) : Gv m c (ix3 b ⟨80 * h.val + r.val, by omega⟩ s) = vals m c b h r s.val := by
  have h1 : ∀ q, (⟨(80 * h.val + r.val) / 80, q⟩ : Fin 16) = h := fun q => Fin.ext (by show (80 * h.val + r.val) / 80 = h.val; omega)
  have h2 : ∀ q, (⟨(80 * h.val + r.val) % 80, q⟩ : Fin 80) = r := fun q => Fin.ext (by show (80 * h.val + r.val) % 80 = r.val; omega)
  exact congrArg₂ (fun h r => vals m c b h r s.val) (h1 _) (h2 _)

/-- Every row is one of a head. -/
theorem exists_row (y : Fin 1280) : ∃ (h : Fin 16) (r : Fin 80), y = ⟨80 * h.val + r.val, by omega⟩ :=
  ⟨⟨y.val / 80, by omega⟩, ⟨y.val % 80, by omega⟩, Fin.ext (Nat.div_add_mod _ _).symm⟩

section final

variable (c : Dev nD) (r0 : ∀ b s k, Real' (V m c main_arg0 (ix3 b s k))) (r1 : ∀ k, Real' (gn m c k)) (r4 : ∀ a k, Real' (gw m c a k)) (r5 : ∀ a, Real' (gb m c a))
  (hs : Placed fun i j => V m c main_arg4 (ix2 i j))

include r0 r1 r4 r5 hs

/-- The queries after the run. -/
theorem final_q : (dats m 0 c).arrAt 7 cfg0.N = Gq m c := by
  refine (dats m 0 c).arrAt_eq_of_covers 7 _ (by decide +kernel) fun t hf y => ?_
  blk_simp
  rw [after0_7]
  idx_vars y
  have ht : t.val < 128 := t.isLt
  have h0 : y0 = 0 := Subsingleton.elim _ _
  subst h0
  have eb : (bat t).val = t.val / 8 := rfl
  have e : ((View.whole main_v16_0).slice (win0_7.rect t)).emb (ix4 0 y1 y2 y3) = ix4 (bat t) y1 ⟨512 * (t.val % 8) + y2.val, by omega⟩ y3 := by
    blk_ext [idx t, eb]
  rw [e]
  exact query_point m c r0 r1 r4 r5 hs t y1 y2 y3

/-- The keys after the run. -/
theorem final_k : (dats m 0 c).arrAt 8 cfg0.N = Gk m c := by
  refine (dats m 0 c).arrAt_eq_of_covers 8 _ (by decide +kernel) fun t hf y => ?_
  blk_simp
  rw [after0_8]
  idx_vars y
  have ht : t.val < 128 := t.isLt
  have h0 : y0 = 0 := Subsingleton.elim _ _
  subst h0
  have eb : (bat t).val = t.val / 8 := rfl
  have e : ((View.whole main_v16_1).slice (win0_8.rect t)).emb (ix4 0 y1 y2 y3) = ix4 (bat t) y1 ⟨512 * (t.val % 8) + y2.val, by omega⟩ y3 := by
    blk_ext [idx t, eb]
  rw [e]
  exact key_point m c r0 r1 r4 r5 hs t y1 y2 y3

end final

/-- The values after the run. -/
theorem final_v (c : Dev nD) : (dats m 0 c).arrAt 9 cfg0.N = Gv m c := by
  refine (dats m 0 c).arrAt_eq_of_covers 9 _ (by decide +kernel) fun t hf y => ?_
  blk_simp
  rw [after0_9]
  idx_vars y
  have ht : t.val < 128 := t.isLt
  have h0 : y0 = 0 := Subsingleton.elim _ _
  subst h0
  obtain ⟨h, r, rfl⟩ := exists_row y1
  have eb : (bat t).val = t.val / 8 := rfl
  have e : ((View.whole main_v16_2).slice (win0_9.rect t)).emb (ix3 0 ⟨80 * h.val + r.val, by omega⟩ y2) = ix3 (bat t) ⟨80 * h.val + r.val, by omega⟩ ⟨512 * (t.val % 8) + y2.val, by omega⟩ := by
    blk_ext [idx t, eb]
  rw [e, Gv_row]
  exact value_point m c t h r y2

end Cert.ProjIdeal.Rows

end
-- ==== Proof.ProjReads.lean ====
/-
  The arrays the projection kernel's windows read, in terms of those the call is given.
-/
module

public import proofs.«01_k».proof.Proof.ProjScatter
public import proofs.«01_k».proof.Proof.Gen.ProjIdeal.Value

@[expose] public section

set_option maxRecDepth 65536

noncomputable section

namespace Cert.ProjIdeal.Rows

open Cert.ProjIdeal Cert.ProjIdeal.Gen Cert.ProjIdeal.State Cert.Proj.Spec Cert.Conv.Spec Cert.Ffn.Spec Idealize.ShloMosaic Idealize.ShloMosaic.TcCoe Idealize.SL.Sem
open Idealize.ShloMosaic.Pipeline (Dat)
open scoped BigOperators

variable (m : (ℓ : Loc nD τ sig) → Buf (Elt Ideal) ℓ)

/-- The sequences are read as given. -/
theorem V0 (c : Dev nD) (b : Fin 16) (s : Fin 4096) (k : Fin 1024) : V m c main_arg0 (ix3 b s k) = m ((c : Thread nD τ).loc main_arg0) (ix3 b s k) := by
  entry_read; rfl

/-- The gain, as a row. -/
theorem V1 (c : Dev nD) (k : Fin 1024) : V m c main_v15 (ix2 0 k) = m ((c : Thread nD τ).loc main_arg1) (ix1 k) := by
  entry_read; pointwise

/-- The queries' and keys' columns. -/
theorem V2 (c : Dev nD) (k : Fin 1024) (j : Fin 2048) : V m c main_v1 (ix2 k j) = m ((c : Thread nD τ).loc main_arg2) (ix2 k ⟨j.val, by omega⟩) := by
  entry_read; pointwise

/-- The values' columns, as rows. -/
theorem V3 (c : Dev nD) (k j : Fin 1024) : V m c main_v4 (ix2 j k) = m ((c : Thread nD τ).loc main_arg2) (ix2 k ⟨2048 + j.val, by omega⟩) := by
  entry_read; pointwise

/-- The gates' columns, and zeros. -/
theorem V4 (c : Dev nD) (k : Fin 1024) (a : Fin 128) : V m c main_v9 (ix2 k a)
    = if h : a.val < 16 then m ((c : Thread nD τ).loc main_arg2) (ix2 k (gateCol ⟨a.val, h⟩)) else (0 : EReal) := by
  entry_read
  rw [show ∀ z : FVec Ideal S1024x128 .f32, truncf .bf16 z bitsLt_bf16_f32 (ix2 k a) = z (ix2 k a) from fun _ => rfl, Wide.matrix_apply _ (broadcastInDim S1 ![] bcast_S_S1 (constantI S_ 32 0#32)) (fun _ => rfl)]
  split_ifs with h
  · pointwise [gateCol]
  · pointwise

/-- The biases start at zero. -/
theorem places (i : S2.Idx) : concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32 := by
  idx_vars i
  match i0 with
  | ⟨0, _⟩ => rfl
  | ⟨1, _⟩ => rfl

/-- The gates' biases, and zeros. -/
theorem V5 (c : Dev nD) (a : Fin 128) : V m c main_v14 (ix2 0 a)
    = if h : a.val < 16 then m ((c : Thread nD τ).loc main_arg3) (ix1 ⟨a.val, h⟩) else (0 : EReal) := by
  entry_read
  rw [Wide.bias_apply _ _ places]
  split_ifs with h
  · rfl
  · pointwise

/-- The placing array is read as given. -/
theorem V6 (c : Dev nD) (i : Fin 384) (j : Fin 1024) : V m c main_arg4 (ix2 i j) = m ((c : Thread nD τ).loc main_arg4) (ix2 i j) := by
  entry_read; rfl

end Cert.ProjIdeal.Rows

end
-- ==== Proof.ProjResult.lean ====
/-
  The projection kernel's three results over the arrays the call is given.
-/
module

public import proofs.«01_k».proof.Proof.ProjKernel
public import proofs.«01_k».proof.Proof.ProjReads

@[expose] public section

set_option maxRecDepth 16384

noncomputable section

namespace Cert.ProjIdeal.Rows

open Cert.ProjIdeal Cert.ProjIdeal.Gen Cert.ProjIdeal.State Cert.Proj.Spec Cert.Conv.Spec Cert.Ffn.Spec Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- A sequence the call is given. -/
abbrev givenX (b : Fin 16) : ℕ → Fin 1024 → EReal := seq fun s k => m ((c : Thread nD τ).loc main_arg0) (ix3 b s k)

/-- The gain it is given. -/
abbrev givenG (k : Fin 1024) : EReal := m ((c : Thread nD τ).loc main_arg1) (ix1 k)

/-- The projection matrix it is given. -/
abbrev givenW (k : Fin 1024) (j : Fin 3088) : EReal := m ((c : Thread nD τ).loc main_arg2) (ix2 k j)

/-- The biases it is given. -/
abbrev givenB (h : Fin 16) : EReal := m ((c : Thread nD τ).loc main_arg3) (ix1 h)

/-- The sequences are those given. -/
theorem sq_given (b : Fin 16) : sq m c b = givenX m c b := by
  exact congrArg (fun f => seq f) (funext fun s => funext fun k => V0 m c b s k)

/-- The gain is the one given. -/
theorem gn_given : gn m c = givenG m c := funext fun k => V1 m c k

/-- A head's column of the gates is the one given. -/
theorem gw_given (h : Fin 16) : gw m c ⟨h.val, by omega⟩ = fun k => givenW m c k (gateCol h) :=
  funext fun k => (V4 m c k _).trans (dif_pos h.isLt)

/-- A head's bias is the one given. -/
theorem gb_given (h : Fin 16) : gb m c ⟨h.val, by omega⟩ = givenB m c h := (V5 m c _).trans (dif_pos h.isLt)

/-- The queries' columns are those given. -/
theorem wq_given (h : Fin 16) (l : Fin 128) : (fun k => V m c main_v1 (ix2 k ⟨128 * (h.val / 2) + l.val, by omega⟩)) = fun k => givenW m c k (colAt 0 (by decide) (pairCol h l)) :=
  funext fun k => (V2 m c k _).trans (congrArg (fun j => givenW m c k j) (Fin.ext (by show 128 * (h.val / 2) + l.val = 0 + (128 * (h.val / 2) + l.val); omega)))

/-- The keys' columns are those given. -/
theorem wk_given (h : Fin 16) (l : Fin 128) :
    (fun k => V m c main_v1 (ix2 k ⟨1024 + (128 * (h.val / 2) + l.val), by omega⟩)) = fun k => givenW m c k (colAt 1024 (by decide) (pairCol h l)) :=
  funext fun k => V2 m c k _

section real

variable (r0 : ∀ b s k, Real' (m ((c : Thread nD τ).loc main_arg0) (ix3 b s k))) (r1 : ∀ k, Real' (givenG m c k)) (r2 : ∀ k h, Real' (givenW m c k (gateCol h))) (r3 : ∀ h, Real' (givenB m c h))
  (hs : Placed fun i j => m ((c : Thread nD τ).loc main_arg4) (ix2 i j))

include r2 in
/-- The widened columns are real. -/
theorem gw_real (a : Fin 128) (k : Fin 1024) : Real' (gw m c a k) := by
  unfold gw
  rw [V4]
  split_ifs with h
  · exact r2 k ⟨a.val, h⟩
  · exact Real'.zero

include r3 in
/-- The widened biases are real. -/
theorem gb_real (a : Fin 128) : Real' (gb m c a) := by
  unfold gb
  rw [V5]
  split_ifs
  · exact r3 _
  · exact Real'.zero

include r0 r1 r2 r3 hs

/-- The queries. -/
theorem q_apply (b h : Fin 16) (s : Fin 4096) (l : Fin 128) : (dats m 0 c).arrAt 7 cfg0.N (ix4 b h s l)
    = qEntry (givenX m c b) (givenG m c) (givenW m c) (givenB m c) h s.val l := by
  rw [final_q m c (fun b s k => by rw [V0]; exact r0 b s k) (fun k => by rw [gn_given]; exact r1 k) (gw_real m c r2) (gb_real m c r3) (fun a t l => (V6 m c _ _).trans (hs a t l))]
  show qlane h l (prod (sq m c b s.val) (gn m c) fun k => V m c main_v1 (ix2 k ⟨128 * (h.val / 2) + l.val, _⟩)) (cum (sq m c b) (gn m c) (gw m c ⟨h.val, _⟩) (gb m c ⟨h.val, _⟩) s.val) = _
  rw [wq_given, sq_given, gn_given, gw_given, gb_given]
  rfl

/-- The keys. -/
theorem k_apply (b h : Fin 16) (s : Fin 4096) (l : Fin 128) : (dats m 0 c).arrAt 8 cfg0.N (ix4 b h s l)
    = kEntry (givenX m c b) (givenG m c) (givenW m c) (givenB m c) h s.val l := by
  rw [final_k m c (fun b s k => by rw [V0]; exact r0 b s k) (fun k => by rw [gn_given]; exact r1 k) (gw_real m c r2) (gb_real m c r3) (fun a t l => (V6 m c _ _).trans (hs a t l))]
  show klane h l (prod (sq m c b s.val) (gn m c) fun k => V m c main_v1 (ix2 k ⟨1024 + (128 * (h.val / 2) + l.val), _⟩)) (cum (sq m c b) (gn m c) (gw m c ⟨h.val, _⟩) (gb m c ⟨h.val, _⟩) s.val) = _
  rw [wk_given, sq_given, gn_given, gw_given, gb_given]
  rfl

end real

/-- The values. -/
theorem v_apply (b h : Fin 16) (r : Fin 80) (s : Fin 4096) : (dats m 0 c).arrAt 9 cfg0.N (ix3 b ⟨80 * h.val + r.val, by omega⟩ s)
    = vEntry (givenX m c b) (givenG m c) (givenW m c) h r s.val := by
  rw [final_v, Gv_row]
  unfold vals vEntry
  rw [sq_given, gn_given]
  split_ifs
  · exact congrArg (fun w => prod (givenX m c b s.val) (givenG m c) w) (funext fun k => V3 m c k _)
  · rfl

end Cert.ProjIdeal.Rows

end
-- ==== Proof.ProjSide.lean ====
/-
  How the projections' reference lays a head's 64 numbers and 64 further lanes side by side: the first head of a pair has its
  numbers first, the second has them last.
-/
module

public import proofs.«01_k».proof.Proof.ProjSpec
public import proofs.«01_k».proof.Proof.Gen.ProjRefIdeal.Read
public import Idealize.ShloMosaic.Lib.KernelVsHost
public import Idealize.ShloMosaic.Lib.Pipeline.Value

@[expose] public section

set_option maxRecDepth 16384

noncomputable section

namespace Cert.ProjRefIdeal.Rows

open Cert.ProjRefIdeal Cert.ProjRefIdeal.Gen Cert.ProjRefIdeal.Read Cert.Proj.Spec Idealize.ShloMosaic Idealize.ShloMosaic.TcCoe Idealize.SL.Sem

/-- The lower half of a block's lanes is the first of the two arrays laid end to end. -/
theorem ends_low (p q : FVec Ideal S16x4096x8x1x64 .f32) (b : Fin 16) (s : Fin 4096) (t : Fin 8) (u : Fin 1) (l : Fin 128) (hl : l.val < 64) :
    concatenate S16x4096x8x1x128 4 [⟨S16x4096x8x1x64, p⟩, ⟨S16x4096x8x1x64, q⟩] concatenates_S16x4096x8x1x64_S16x4096x8x1x64_S16x4096x8x1x128_d4 (ix5 b s t u l)
      = p (ix5 b s t u ⟨l.val, hl⟩) := by
  refine concatenate_apply_piece (t := S16x4096x8x1x128) 4 [⟨S16x4096x8x1x64, p⟩, ⟨S16x4096x8x1x64, q⟩] _ (ix5 b s t u l) 0 (show 0 < 2 by decide) S16x4096x8x1x64 p rfl rfl 0 rfl (ix5 b s t u ⟨l.val, hl⟩) (fun a ha => ?_) ?_
  · match a with
    | ⟨0, _⟩ => rfl
    | ⟨1, _⟩ => rfl
    | ⟨2, _⟩ => rfl
    | ⟨3, _⟩ => rfl
    | ⟨4, _⟩ => exact absurd rfl ha
  · show 0 + l.val = l.val
    omega

/-- The upper half is the second. -/
theorem ends_high (p q : FVec Ideal S16x4096x8x1x64 .f32) (b : Fin 16) (s : Fin 4096) (t : Fin 8) (u : Fin 1) (l : Fin 128) (hl : 64 ≤ l.val) :
    concatenate S16x4096x8x1x128 4 [⟨S16x4096x8x1x64, p⟩, ⟨S16x4096x8x1x64, q⟩] concatenates_S16x4096x8x1x64_S16x4096x8x1x64_S16x4096x8x1x128_d4 (ix5 b s t u l)
      = q (ix5 b s t u ⟨l.val - 64, by omega⟩) := by
  refine concatenate_apply_piece (t := S16x4096x8x1x128) 4 [⟨S16x4096x8x1x64, p⟩, ⟨S16x4096x8x1x64, q⟩] _ (ix5 b s t u l) 1 (show 1 < 2 by decide) S16x4096x8x1x64 q rfl rfl 64 rfl (ix5 b s t u ⟨l.val - 64, by omega⟩) (fun a ha => ?_) ?_
  · match a with
    | ⟨0, _⟩ => rfl
    | ⟨1, _⟩ => rfl
    | ⟨2, _⟩ => rfl
    | ⟨3, _⟩ => rfl
    | ⟨4, _⟩ => exact absurd rfl ha
  · show 64 + (l.val - 64) = l.val
    omega

/-- A pair's first head is the first of the two arrays laid above each other. -/
theorem pair_first (p q : FVec Ideal S16x4096x8x1x128 .f32) (b : Fin 16) (s : Fin 4096) (t : Fin 8) (u : Fin 2) (l : Fin 128) (hu : u.val = 0) :
    concatenate S16x4096x8x2x128 3 [⟨S16x4096x8x1x128, p⟩, ⟨S16x4096x8x1x128, q⟩] concatenates_S16x4096x8x1x128_S16x4096x8x1x128_S16x4096x8x2x128_d3 (ix5 b s t u l)
      = p (ix5 b s t 0 l) := by
  refine concatenate_apply_piece (t := S16x4096x8x2x128) 3 [⟨S16x4096x8x1x128, p⟩, ⟨S16x4096x8x1x128, q⟩] _ (ix5 b s t u l) 0 (show 0 < 2 by decide) S16x4096x8x1x128 p rfl rfl 0 rfl (ix5 b s t 0 l) (fun a ha => ?_) ?_
  · match a with
    | ⟨0, _⟩ => rfl
    | ⟨1, _⟩ => rfl
    | ⟨2, _⟩ => rfl
    | ⟨3, _⟩ => exact absurd rfl ha
    | ⟨4, _⟩ => rfl
  · show 0 + 0 = u.val
    omega

/-- A pair's second head is the second. -/
theorem pair_second (p q : FVec Ideal S16x4096x8x1x128 .f32) (b : Fin 16) (s : Fin 4096) (t : Fin 8) (u : Fin 2) (l : Fin 128) (hu : u.val = 1) :
    concatenate S16x4096x8x2x128 3 [⟨S16x4096x8x1x128, p⟩, ⟨S16x4096x8x1x128, q⟩] concatenates_S16x4096x8x1x128_S16x4096x8x1x128_S16x4096x8x2x128_d3 (ix5 b s t u l)
      = q (ix5 b s t 0 l) := by
  refine concatenate_apply_piece (t := S16x4096x8x2x128) 3 [⟨S16x4096x8x1x128, p⟩, ⟨S16x4096x8x1x128, q⟩] _ (ix5 b s t u l) 1 (show 1 < 2 by decide) S16x4096x8x1x128 q rfl rfl 1 rfl (ix5 b s t 0 l) (fun a ha => ?_) ?_
  · match a with
    | ⟨0, _⟩ => rfl
    | ⟨1, _⟩ => rfl
    | ⟨2, _⟩ => rfl
    | ⟨3, _⟩ => exact absurd rfl ha
    | ⟨4, _⟩ => rfl
  · show 1 + 0 = u.val
    omega

/-- The numbers and the further lanes, side by side. -/
def side (n : FVec Ideal S16x4096x1024 .f32) (e : FVec Ideal S16x4096x16x64 .f32) : FVec Ideal S16x16x4096x128 .f32 :=
  transpose S16x16x4096x128 [0, 2, 1, 3] (shapeCast S16x4096x16x128 (concatenate S16x4096x8x2x128 3
    [⟨S16x4096x8x1x128, concatenate S16x4096x8x1x128 4
        [⟨S16x4096x8x1x64, extractStridedSlice S16x4096x8x1x64 ![0, 0, 0, 0, 0] (shapeCast S16x4096x8x2x64 n shapeCasts_S16x4096x1024_S16x4096x8x2x64) slices_S16x4096x8x2x64_S16x4096x8x1x64_0_0_0_0_0⟩,
         ⟨S16x4096x8x1x64, extractStridedSlice S16x4096x8x1x64 ![0, 0, 0, 0, 0] (shapeCast S16x4096x8x2x64 e shapeCasts_S16x4096x16x64_S16x4096x8x2x64) slices_S16x4096x8x2x64_S16x4096x8x1x64_0_0_0_0_0⟩]
        concatenates_S16x4096x8x1x64_S16x4096x8x1x64_S16x4096x8x1x128_d4⟩,
     ⟨S16x4096x8x1x128, concatenate S16x4096x8x1x128 4
        [⟨S16x4096x8x1x64, extractStridedSlice S16x4096x8x1x64 ![0, 0, 0, 1, 0] (shapeCast S16x4096x8x2x64 e shapeCasts_S16x4096x16x64_S16x4096x8x2x64) slices_S16x4096x8x2x64_S16x4096x8x1x64_0_0_0_1_0⟩,
         ⟨S16x4096x8x1x64, extractStridedSlice S16x4096x8x1x64 ![0, 0, 0, 1, 0] (shapeCast S16x4096x8x2x64 n shapeCasts_S16x4096x1024_S16x4096x8x2x64) slices_S16x4096x8x2x64_S16x4096x8x1x64_0_0_0_1_0⟩]
        concatenates_S16x4096x8x1x64_S16x4096x8x1x64_S16x4096x8x1x128_d4⟩]
    concatenates_S16x4096x8x1x128_S16x4096x8x1x128_S16x4096x8x2x128_d3) shapeCasts_S16x4096x8x2x128_S16x4096x16x128) transposes_S16x4096x16x128_S16x16x4096x128_0_2_1_3

/-- The numbers by pair and head. -/
theorem numbers_apply (n : FVec Ideal S16x4096x1024 .f32) (b : Fin 16) (s : Fin 4096) (t : Fin 8) (u : Fin 2) (l : Fin 64) (k : Fin 1024) (hk : k.val = 128 * t.val + 64 * u.val + l.val) :
    shapeCast S16x4096x8x2x64 n shapeCasts_S16x4096x1024_S16x4096x8x2x64 (ix5 b s t u l) = n (ix3 b s k) := by
  refine shapeCast_apply _ _ _ (ix3 b s k) ?_
  refine (Shape.rowMajor_val_three (d := ![16, 4096, 1024]) _).trans ((Shape.rowMajor_val_five (d := ![16, 4096, 8, 2, 64]) _).trans ?_).symm
  show (((b.val * 4096 + s.val) * 8 + t.val) * 2 + u.val) * 64 + l.val = (b.val * 4096 + s.val) * 1024 + k.val
  omega

/-- The further lanes by pair and head. -/
theorem further_apply (e : FVec Ideal S16x4096x16x64 .f32) (b : Fin 16) (s : Fin 4096) (t : Fin 8) (u : Fin 2) (l : Fin 64) (h : Fin 16) (hh : h.val = 2 * t.val + u.val) :
    shapeCast S16x4096x8x2x64 e shapeCasts_S16x4096x16x64_S16x4096x8x2x64 (ix5 b s t u l) = e (ix4 b s h l) := by
  refine shapeCast_apply _ _ _ (ix4 b s h l) ?_
  refine (Shape.rowMajor_val_four (d := ![16, 4096, 16, 64]) _).trans ((Shape.rowMajor_val_five (d := ![16, 4096, 8, 2, 64]) _).trans ?_).symm
  show (((b.val * 4096 + s.val) * 8 + t.val) * 2 + u.val) * 64 + l.val = ((b.val * 4096 + s.val) * 16 + h.val) * 64 + l.val
  omega

/-- The first head of each pair, cut out. -/
theorem cut_first (p : FVec Ideal S16x4096x8x2x64 .f32) (b : Fin 16) (s : Fin 4096) (t : Fin 8) (u : Fin 1) (l : Fin 64) :
    extractStridedSlice S16x4096x8x1x64 ![0, 0, 0, 0, 0] p slices_S16x4096x8x2x64_S16x4096x8x1x64_0_0_0_0_0 (ix5 b s t u l) = p (ix5 b s t 0 l) := by
  refine extractStridedSlice_apply _ _ _ _ (ix5 b s t 0 l) fun a => ?_
  match a with
  | ⟨0, _⟩ => show b.val = 0 + b.val; omega
  | ⟨1, _⟩ => show s.val = 0 + s.val; omega
  | ⟨2, _⟩ => show t.val = 0 + t.val; omega
  | ⟨3, _⟩ => show 0 = 0 + u.val; omega
  | ⟨4, _⟩ => show l.val = 0 + l.val; omega

/-- The second head of each pair, cut out. -/
theorem cut_second (p : FVec Ideal S16x4096x8x2x64 .f32) (b : Fin 16) (s : Fin 4096) (t : Fin 8) (u : Fin 1) (l : Fin 64) :
    extractStridedSlice S16x4096x8x1x64 ![0, 0, 0, 1, 0] p slices_S16x4096x8x2x64_S16x4096x8x1x64_0_0_0_1_0 (ix5 b s t u l) = p (ix5 b s t 1 l) := by
  refine extractStridedSlice_apply _ _ _ _ (ix5 b s t 1 l) fun a => ?_
  match a with
  | ⟨0, _⟩ => show b.val = 0 + b.val; omega
  | ⟨1, _⟩ => show s.val = 0 + s.val; omega
  | ⟨2, _⟩ => show t.val = 0 + t.val; omega
  | ⟨3, _⟩ => show 1 = 1 + u.val; omega
  | ⟨4, _⟩ => show l.val = 0 + l.val; omega

/-- The number of a further lane is below 64. -/
theorem ex_lt (h : Fin 16) (l : Fin 128) (hd : ¬Dat h l) : ex h l < 64 := by
  unfold Dat at hd
  unfold ex
  split at hd
  · rw [if_pos ‹_›]; omega
  · rw [if_neg ‹_›]; omega

/-- Heads back from pairs. -/
theorem heads_apply (p : FVec Ideal S16x4096x8x2x128 .f32) (b h : Fin 16) (s : Fin 4096) (l : Fin 128) :
    transpose S16x16x4096x128 [0, 2, 1, 3] (shapeCast S16x4096x16x128 p shapeCasts_S16x4096x8x2x128_S16x4096x16x128) transposes_S16x4096x16x128_S16x16x4096x128_0_2_1_3 (ix4 b h s l)
      = p (ix5 b s ⟨h.val / 2, by omega⟩ ⟨h.val % 2, by omega⟩ l) := by
  refine (transpose_apply _ _ _ _ (ix4 b s h l) fun a => ?_).trans (shapeCast_apply _ _ _ (ix5 b s ⟨h.val / 2, by omega⟩ ⟨h.val % 2, by omega⟩ l) ?_)
  · match a with
    | ⟨0, _⟩ => rfl
    | ⟨1, _⟩ => rfl
    | ⟨2, _⟩ => rfl
    | ⟨3, _⟩ => rfl
  · refine (Shape.rowMajor_val_five (d := ![16, 4096, 8, 2, 128]) _).trans ((Shape.rowMajor_val_four (d := ![16, 4096, 16, 128]) _).trans ?_).symm
    show ((b.val * 4096 + s.val) * 16 + h.val) * 128 + l.val = (((b.val * 4096 + s.val) * 8 + h.val / 2) * 2 + h.val % 2) * 128 + l.val
    omega

/-- A head's block: its numbers in its own lanes, the further lanes in the others. -/
theorem side_apply (n : FVec Ideal S16x4096x1024 .f32) (e : FVec Ideal S16x4096x16x64 .f32) (b h : Fin 16) (s : Fin 4096) (l : Fin 128) :
    side n e (ix4 b h s l) = if hd : Dat h l then n (ix3 b s (pairCol h l)) else e (ix4 b s h ⟨ex h l, ex_lt h l hd⟩) := by
  unfold side
  rw [heads_apply]
  by_cases hh : h.val % 2 = 0
  · rw [pair_first _ _ _ _ _ _ _ hh]
    by_cases hl : l.val < 64
    · rw [ends_low _ _ _ _ _ _ _ hl, cut_first, dif_pos (show Dat h l by unfold Dat; rw [if_pos hh]; exact hl)]
      exact numbers_apply n b s _ _ _ _ (show 128 * (h.val / 2) + l.val = 128 * (h.val / 2) + 64 * 0 + l.val by omega)
    · rw [ends_high _ _ _ _ _ _ _ (by omega), cut_first, dif_neg (show ¬Dat h l by unfold Dat; rw [if_pos hh]; exact hl)]
      refine (further_apply e b s _ _ _ h (show h.val = 2 * (h.val / 2) + 0 by omega)).trans (congrArg (fun z => e (ix4 b s h z)) (Fin.ext ?_))
      show l.val - 64 = ex h l
      unfold ex
      rw [if_pos hh]
  · rw [pair_second _ _ _ _ _ _ _ (show h.val % 2 = 1 by omega)]
    by_cases hl : l.val < 64
    · rw [ends_low _ _ _ _ _ _ _ hl, cut_second, dif_neg (show ¬Dat h l by unfold Dat; rw [if_neg hh]; omega)]
      refine (further_apply e b s _ _ _ h (show h.val = 2 * (h.val / 2) + 1 by omega)).trans (congrArg (fun z => e (ix4 b s h z)) (Fin.ext ?_))
      show l.val = ex h l
      unfold ex
      rw [if_neg hh]
    · rw [ends_high _ _ _ _ _ _ _ (by omega), cut_second, dif_pos (show Dat h l by unfold Dat; rw [if_neg hh]; omega)]
      exact numbers_apply n b s _ _ _ _ (show 128 * (h.val / 2) + l.val = 128 * (h.val / 2) + 64 * 1 + (l.val - 64) by omega)

variable (x : Vec Ideal S16x4096x1024 .f32) (g : Vec Ideal S1024 .f32) (w : Vec Ideal S1024x3088 .f32) (f : Vec Ideal S16 .f32)

/-- The queries are laid so. -/
theorem queries_side : val_main_v50 (F := Ideal) x g w f = side (val_main_v39 (F := Ideal) x g w) (val_main_v32 (F := Ideal) x g w f) := rfl

/-- The keys are laid so. -/
theorem keys_side : val_main_v62 (F := Ideal) x g w f = side (val_main_v51 (F := Ideal) x g w) (val_main_v36 (F := Ideal) x g w f) := rfl

/-- The ends of a value block. -/
theorem rows_low (p : FVec Ideal S16x16x64x4096 .f32) (q : FVec Ideal S16x16x16x4096 .f32) (b h : Fin 16) (r : Fin 80) (s : Fin 4096) (hr : r.val < 64) :
    concatenate S16x16x80x4096 2 [⟨S16x16x64x4096, p⟩, ⟨S16x16x16x4096, q⟩] concatenates_S16x16x64x4096_S16x16x16x4096_S16x16x80x4096_d2 (ix4 b h r s) = p (ix4 b h ⟨r.val, hr⟩ s) := by
  refine concatenate_apply_piece (t := S16x16x80x4096) 2 [⟨S16x16x64x4096, p⟩, ⟨S16x16x16x4096, q⟩] _ (ix4 b h r s) 0 (show 0 < 2 by decide) S16x16x64x4096 p rfl rfl 0 rfl (ix4 b h ⟨r.val, hr⟩ s) (fun a ha => ?_) ?_
  · match a with
    | ⟨0, _⟩ => rfl
    | ⟨1, _⟩ => rfl
    | ⟨2, _⟩ => exact absurd rfl ha
    | ⟨3, _⟩ => rfl
  · show 0 + r.val = r.val
    omega

/-- The rows after the 64th. -/
theorem rows_high (p : FVec Ideal S16x16x64x4096 .f32) (q : FVec Ideal S16x16x16x4096 .f32) (b h : Fin 16) (r : Fin 80) (s : Fin 4096) (hr : 64 ≤ r.val) :
    concatenate S16x16x80x4096 2 [⟨S16x16x64x4096, p⟩, ⟨S16x16x16x4096, q⟩] concatenates_S16x16x64x4096_S16x16x16x4096_S16x16x80x4096_d2 (ix4 b h r s) = q (ix4 b h ⟨r.val - 64, by omega⟩ s) := by
  refine concatenate_apply_piece (t := S16x16x80x4096) 2 [⟨S16x16x64x4096, p⟩, ⟨S16x16x16x4096, q⟩] _ (ix4 b h r s) 1 (show 1 < 2 by decide) S16x16x16x4096 q rfl rfl 64 rfl (ix4 b h ⟨r.val - 64, by omega⟩ s) (fun a ha => ?_) ?_
  · match a with
    | ⟨0, _⟩ => rfl
    | ⟨1, _⟩ => rfl
    | ⟨2, _⟩ => exact absurd rfl ha
    | ⟨3, _⟩ => rfl
  · show 64 + (r.val - 64) = r.val
    omega

/-- A value row by head and number. -/
theorem block_apply (p : FVec Ideal S16x16x80x4096 .f32) (b h : Fin 16) (r : Fin 80) (s : Fin 4096) :
    shapeCast S16x1280x4096 p shapeCasts_S16x16x80x4096_S16x1280x4096 (ix3 b ⟨80 * h.val + r.val, by omega⟩ s) = p (ix4 b h r s) := by
  refine shapeCast_apply _ _ _ (ix4 b h r s) ?_
  refine (Shape.rowMajor_val_four (d := ![16, 16, 80, 4096]) _).trans ((Shape.rowMajor_val_three (d := ![16, 1280, 4096]) _).trans ?_).symm
  show (b.val * 1280 + (80 * h.val + r.val)) * 4096 + s.val = ((b.val * 16 + h.val) * 80 + r.val) * 4096 + s.val
  omega

/-- The values by head, turned over. -/
theorem turned_apply (p : FVec Ideal S16x4096x1024 .f32) (b h : Fin 16) (r : Fin 64) (s : Fin 4096) :
    transpose S16x16x64x4096 [0, 2, 3, 1] (shapeCast S16x4096x16x64 p shapeCasts_S16x4096x1024_S16x4096x16x64) transposes_S16x4096x16x64_S16x16x64x4096_0_2_3_1 (ix4 b h r s)
      = p (ix3 b s ⟨64 * h.val + r.val, by omega⟩) := by
  refine (transpose_apply _ _ _ _ (ix4 b s h r) fun a => ?_).trans (shapeCast_apply _ _ _ (ix3 b s ⟨64 * h.val + r.val, by omega⟩) ?_)
  · match a with
    | ⟨0, _⟩ => rfl
    | ⟨1, _⟩ => rfl
    | ⟨2, _⟩ => rfl
    | ⟨3, _⟩ => rfl
  · refine (Shape.rowMajor_val_three (d := ![16, 4096, 1024]) _).trans ((Shape.rowMajor_val_four (d := ![16, 4096, 16, 64]) _).trans ?_).symm
    show ((b.val * 4096 + s.val) * 16 + h.val) * 64 + r.val = (b.val * 4096 + s.val) * 1024 + (64 * h.val + r.val)
    omega

end Cert.ProjRefIdeal.Rows

end
-- ==== Proof.ProjRef.lean ====
/-
  The reference of the projections before the attention, entry by entry: the same functions of a sequence as the kernel's results.
-/
module

public import proofs.«01_k».proof.Proof.ProjSide

@[expose] public section

set_option maxRecDepth 16384

noncomputable section

namespace Cert.ProjRefIdeal.Rows

open Cert.ProjRefIdeal Cert.ProjRefIdeal.Gen Cert.ProjRefIdeal.Read Cert.Proj.Spec Cert.Conv.Spec Cert.Ffn.Spec Idealize.ShloMosaic Idealize.ShloMosaic.TcCoe Idealize.SL.Sem
open scoped BigOperators

/-- Adding up a list of places from a first number. -/
theorem fold_sum {N : ℕ} (f : EReal → Fin N → EReal) (H : ℕ → EReal) (hf : ∀ r n, f r n = r + H n.val) (v : EReal) :
    (List.finRange N).foldl f v = v + ∑ n ∈ Finset.range N, H n := by
  have e : ∀ (l : List (Fin N)) (v : EReal), l.foldl f v = v + (l.map fun n => H n.val).sum := fun l => by
    induction l with
    | nil => intro v; simp
    | cons a l ih => intro v; rw [List.foldl_cons, ih, hf, List.map_cons, List.sum_cons, add_assoc]
  rw [e, ← List.ofFn_eq_map, List.sum_ofFn, Finset.sum_range]

/-- A window's places before the sequence add nothing. -/
theorem window_sum (G : ℕ → EReal) (s : ℕ) (hs : s < 4096) :
    ∑ n ∈ Finset.range 4096, (if 4095 ≤ s + n then G (s + n - 4095) else 0) = ∑ n ∈ Finset.range (s + 1), G n := by
  rw [show 4096 = (4095 - s) + (s + 1) by omega, Finset.sum_range_add, Finset.sum_eq_zero, zero_add]
  · refine Finset.sum_congr rfl fun n _ => ?_
    rw [if_pos (by omega)]
    exact congrArg G (by omega)
  · intro n hn
    rw [if_neg (by have := Finset.mem_range.1 hn; omega)]

/-- The window's shape. -/
abbrev Win : Shape := ⟨3, ![1, 4096, 1]⟩

/-- Its number of places. -/
theorem win_len : Win.numel = 4096 := rfl

/-- A place of the window. -/
theorem win_symm (n : Fin Win.numel) : Win.rowMajor.symm n = ix3 (0 : Fin 1) (n.cast win_len) (0 : Fin 1) := by
  rw [Equiv.symm_apply_eq]
  refine Fin.ext ((Shape.rowMajor_val_three (d := ![1, 4096, 1]) _).trans ?_).symm
  show (0 * 4096 + n.val) * 1 + 0 = n.val
  omega

/-- The running sums of the sequence. -/
theorem sums_apply (p : FVec Ideal S16x4096x16 .f32) (z : FVec Ideal S_ .f32) (hz : ∀ y, z y = 0) (b : Fin 16) (s : Fin 4096) (h : Fin 16) (G : ℕ → EReal) (hp : ∀ t : Fin 4096, p (ix3 b t h) = G t.val) :
    Host.reduceWindowAdd ![1, 4096, 1] ![1, 1, 1] ![0, 4095, 0] ![0, 0, 0] p z reduceWindows_S16x4096x16_S16x4096x16_w1s1p0_0_w4096s1p4095_0_w1s1p0_0 h_S_ (ix3 b s h)
      = ∑ n ∈ Finset.range (s.val + 1), G n := by
  unfold Host.reduceWindowAdd
  rw [Ideal.hostReduceWindowAdd_def]
  unfold Ideal.hostReduceWindowAdd Host.reduceWindow
  refine (fold_sum _ (fun n => if 4095 ≤ s.val + n then G (s.val + n - 4095) else 0) (fun r n => ?_) _).trans ?_
  · have w0 : (Win.rowMajor.symm n 0).val = 0 := by rw [win_symm]; rfl
    have w1 : (Win.rowMajor.symm n 1).val = n.val := by rw [win_symm]; rfl
    have w2 : (Win.rowMajor.symm n 2).val = 0 := by rw [win_symm]; rfl
    have hn : n.val < 4096 := (n.cast win_len).isLt
    refine congrArg (fun q : EReal => r + q) ?_
    dsimp only
    split
    · next hin =>
      have h1 := (hin 1).1
      change 4095 ≤ s.val * 1 + (Win.rowMajor.symm n 1).val at h1
      rw [w1] at h1
      rw [if_pos (by omega)]
      refine (congrArg p (funext fun a => Fin.ext ?_)).trans (hp ⟨s.val + n.val - 4095, by omega⟩)
      match a with
      | ⟨0, _⟩ => show b.val * 1 + (Win.rowMajor.symm n 0).val - 0 = b.val; rw [w0]; omega
      | ⟨1, _⟩ => show s.val * 1 + (Win.rowMajor.symm n 1).val - 4095 = s.val + n.val - 4095; rw [w1]; omega
      | ⟨2, _⟩ => show h.val * 1 + (Win.rowMajor.symm n 2).val - 0 = h.val; rw [w2]; omega
    · next hin =>
      rw [if_neg fun hle => hin fun a => by
        match a with
        | ⟨0, _⟩ => show 0 ≤ b.val * 1 + (Win.rowMajor.symm n 0).val ∧ b.val * 1 + (Win.rowMajor.symm n 0).val - 0 < 16; rw [w0]; omega
        | ⟨1, _⟩ => show 4095 ≤ s.val * 1 + (Win.rowMajor.symm n 1).val ∧ s.val * 1 + (Win.rowMajor.symm n 1).val - 4095 < 4096; rw [w1]; omega
        | ⟨2, _⟩ => show 0 ≤ h.val * 1 + (Win.rowMajor.symm n 2).val ∧ h.val * 1 + (Win.rowMajor.symm n 2).val - 0 < 16; rw [w2]; omega]
      exact hz _
  · refine (congrArg₂ (fun p q : EReal => p + q) (hz _) (window_sum G s.val s.isLt)).trans (zero_add _)

variable (x : Vec Ideal S16x4096x1024 .f32) (g : Vec Ideal S1024 .f32) (w : Vec Ideal S1024x3088 .f32) (f : Vec Ideal S16 .f32)

/-- The normalised row. -/
theorem norm_apply (b : Fin 16) (s : Fin 4096) (k : Fin 1024) :
    val_main_v12 (F := Ideal) x g (ix3 b s k) = rmsRow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0,
    val_main_cst, val_main_cst_0, val_main_cst_1, rmsRow]

/-- The products of the normalised rows. -/
theorem prod_apply (b : Fin 16) (s : Fin 4096) (j : Fin 3088) :
    val_main_v13 (F := Ideal) x g w (ix3 b s j) = prod (fun k => x (ix3 b s k)) (fun k => g (ix1 k)) (fun k => w (ix2 k j)) := by
  rw [val_main_v13_apply]
  unfold prod
  refine Finset.sum_congr rfl fun k _ => ?_
  refine congrArg₂ (fun p q : EReal => p * q) ((congrArg (val_main_v12 (F := Ideal) x g) (funext fun a => ?_)).trans (norm_apply x g b s k)) (congrArg w (funext fun a => ?_))
  · match a with
    | ⟨0, _⟩ => rfl
    | ⟨1, _⟩ => rfl
    | ⟨2, _⟩ => rfl
  · match a with
    | ⟨0, _⟩ => rfl
    | ⟨1, _⟩ => rfl

/-- A gate's argument. -/
theorem arg_apply (b : Fin 16) (s : Fin 4096) (h : Fin 16) :
    val_main_v17 (F := Ideal) x g w f (ix3 b s h) = prod (fun k => x (ix3 b s k)) (fun k => g (ix1 k)) (fun k => w (ix2 k (gateCol h))) + f (ix1 h) := by
  rw [← prod_apply]
  unfold val_main_v17 val_main_v16 val_main_v15 val_main_v14
  generalize val_main_v13 (F := Ideal) x g w = p
  have e : extractStridedSlice S16x4096x16 ![0, 0, 3072] p slices_S16x4096x3088_S16x4096x16_0_0_3072 (ix3 b s h) = p (ix3 b s (gateCol h)) := by
    refine extractStridedSlice_apply _ _ _ _ (ix3 b s (gateCol h)) fun a => ?_
    match a with
    | ⟨0, _⟩ => show b.val = 0 + b.val; omega
    | ⟨1, _⟩ => show s.val = 0 + s.val; omega
    | ⟨2, _⟩ => rfl
  rw [← e]
  pointwise []

/-- A gate's logarithm. -/
theorem log_apply (b : Fin 16) (s : Fin 4096) (h : Fin 16) (hr : Real' (prod (fun k => x (ix3 b s k)) (fun k => g (ix1 k)) (fun k => w (ix2 k (gateCol h))) + f (ix1 h))) :
    val_main_v18 (F := Ideal) x g w f (ix3 b s h) = gate (fun k => x (ix3 b s k)) (fun k => g (ix1 k)) (fun k => w (ix2 k (gateCol h))) (f (ix1 h)) := by
  rw [← arg_apply] at hr
  unfold gate
  rw [← arg_apply, ← softplus_neg hr]
  unfold val_main_v18 val_main_call0_v1 val_main_call0_call0_v11 val_main_call0_call0_v10 val_main_call0_call0_v9 val_main_call0_call0_v8 val_main_call0_call0_v7 val_main_call0_call0_v6 val_main_call0_call0_v5
    val_main_call0_call0_v4 val_main_call0_call0_v3 val_main_call0_call0_v2 val_main_call0_call0_v1 val_main_call0_call0_v0 val_main_call0_v0 val_main_call0_call0_cst
  generalize val_main_v17 (F := Ideal) x g w f = p
  rw [← Ideal.ofBits_zero_f32]
  show -(Scalar.select (Ideal.cmp .une (-p (ix3 b s h) - Ideal.ofBits .f32 0x00000000#32) (-p (ix3 b s h) - Ideal.ofBits .f32 0x00000000#32)) _ _ : EReal) = _
  rw [show ∀ z : EReal, Ideal.cmp .une z z = 0#1 from fun z => by simp [Ideal.cmp]]
  rfl

/-- The scaled running sum. -/
theorem cum_apply (b : Fin 16) (s : Fin 4096) (h : Fin 16)
    (hr : ∀ s, Real' (prod (fun k => x (ix3 b s k)) (fun k => g (ix1 k)) (fun k => w (ix2 k (gateCol h))) + f (ix1 h))) :
    val_main_v21 (F := Ideal) x g w f (ix3 b s h) = cum (seq fun s k => x (ix3 b s k)) (fun k => g (ix1 k)) (fun k => w (ix2 k (gateCol h))) (f (ix1 h)) s.val := by
  have e : val_main_v19 (F := Ideal) x g w f (ix3 b s h) = run (seq fun s k => x (ix3 b s k)) (fun k => g (ix1 k)) (fun k => w (ix2 k (gateCol h))) (f (ix1 h)) (s.val + 1) := by
    unfold val_main_v19 run
    refine sums_apply _ _ (fun y => ?_) b s h _ fun t => ?_
    · unfold val_main_call1_call0_v0 val_main_call1_call0_cst
      exact Ideal.ofBits_zero_f32
    · rw [seq_apply (fun s k => x (ix3 b s k)) t]
      exact log_apply x g w f b t h (hr t)
  unfold cum
  rw [← e]
  unfold val_main_v21 val_main_v20 val_main_cst_2
  generalize val_main_v19 (F := Ideal) x g w f = p
  rfl

/-- A choice by a bit. -/
theorem choice {α : Type} {c : BitVec 1} {p : Prop} [Decidable p] (h : c = 1#1 ↔ p) (a b : α) : Scalar.select c a b = if p then a else b := by
  by_cases hp : p
  · exact (if_pos (h.2 hp)).trans (if_pos hp).symm
  · exact (if_neg fun hc => hp (h.1 hc)).trans (if_neg hp).symm

/-- Lane 0. -/
theorem bit_0 : ∀ l : Fin 64, IntOp.cmpi .eq (BitVec.ofNat 32 l.val) 0#32 = 1#1 ↔ l.val = 0 := by decide
/-- Lane 3. -/
theorem bit_3 : ∀ l : Fin 64, IntOp.cmpi .eq (BitVec.ofNat 32 l.val) 3#32 = 1#1 ↔ l.val = 3 := by decide
/-- The first three lanes. -/
theorem bit_lt3 : ∀ l : Fin 64, IntOp.cmpi .slt (BitVec.ofNat 32 l.val) 3#32 = 1#1 ↔ l.val < 3 := by decide
/-- The first six lanes. -/
theorem bit_lt6 : ∀ l : Fin 64, IntOp.cmpi .slt (BitVec.ofNat 32 l.val) 6#32 = 1#1 ↔ l.val < 6 := by decide

/-- The queries' further lanes. -/
theorem qfurther (b : Fin 16) (s : Fin 4096) (h : Fin 16) (l : Fin 64) :
    val_main_v32 (F := Ideal) x g w f (ix4 b s h l)
      = if l.val = 0 then val_main_v21 (F := Ideal) x g w f (ix3 b s h) else if l.val < 3 then 0 else if l.val < 6 then Ideal.ofBits .f32 0xBF800000#32 else 0 := by
  rw [← choice (bit_lt6 l), ← choice (bit_lt3 l), ← choice (bit_0 l), ← Ideal.ofBits_zero_f32]
  unfold val_main_v32 val_main_call4_v3 val_main_call4_v2 val_main_call4_v1 val_main_call4_v0 val_main_v31 val_main_call3_v0 val_main_cst_7 val_main_v30 val_main_call2_v1 val_main_call2_v0 val_main_cst_6 val_main_cst_5
    val_main_v29 val_main_v28 val_main_v27 val_main_c_4 val_main_v26 val_main_v25 val_main_c_3 val_main_v24 val_main_v23 val_main_c val_main_v22
  generalize val_main_v21 (F := Ideal) x g w f = p
  pointwise []
  simp only [id_eq]
  pointwise []

/-- The keys' further lanes. -/
theorem kfurther (b : Fin 16) (s : Fin 4096) (h : Fin 16) (l : Fin 64) :
    val_main_v36 (F := Ideal) x g w f (ix4 b s h l)
      = if l.val < 3 then 1 else if l.val = 3 then val_main_v21 (F := Ideal) x g w f (ix3 b s h) else 0 := by
  rw [← choice (bit_3 l), ← choice (bit_lt3 l), ← Ideal.ofBits_zero_f32, ← Ideal.ofBits_one_f32]
  unfold val_main_v36 val_main_call6_v2 val_main_call6_v1 val_main_call6_v0 val_main_cst_10 val_main_v35 val_main_call5_v3 val_main_call5_v2 val_main_call5_v1 val_main_call5_v0 val_main_cst_9
    val_main_v34 val_main_v33 val_main_c_8 val_main_v29 val_main_v26 val_main_v25 val_main_c_3 val_main_v22
  generalize val_main_v21 (F := Ideal) x g w f = p
  pointwise []
  simp only [id_eq]
  pointwise []

/-- The queries, keys and values of the products. -/
theorem third_apply (o : ℕ) (ho : o ≤ 2064) (p : FVec Ideal S16x4096x3088 .f32) (hs : S16x4096x3088.Slices ![0, 0, o] S16x4096x1024) (b : Fin 16) (s : Fin 4096) (k : Fin 1024) :
    extractStridedSlice S16x4096x1024 ![0, 0, o] p hs (ix3 b s k) = p (ix3 b s (colAt o ho k)) := by
  refine extractStridedSlice_apply _ _ _ _ (ix3 b s (colAt o ho k)) fun a => ?_
  match a with
  | ⟨0, _⟩ => show b.val = 0 + b.val; omega
  | ⟨1, _⟩ => show s.val = 0 + s.val; omega
  | ⟨2, _⟩ => rfl

/-- The last rounding changes nothing. -/
theorem narrow {s : Shape} (p : FVec Ideal s .f32) (y) : (truncf .bf16 p bitsLt_bf16_f32 : FVec Ideal s .bf16) y = p y := rfl

/-- The queries. -/
theorem q_apply (b h : Fin 16) (s : Fin 4096) (l : Fin 128)
    (hr : ∀ s, Real' (prod (fun k => x (ix3 b s k)) (fun k => g (ix1 k)) (fun k => w (ix2 k (gateCol h))) + f (ix1 h))) :
    val_main_v69 (F := Ideal) x g w f (ix4 b h s l) = qEntry (seq fun s k => x (ix3 b s k)) (fun k => g (ix1 k)) (fun k j => w (ix2 k j)) (fun h => f (ix1 h)) h s.val l := by
  unfold qEntry qlane
  rw [seq_apply (fun s k => x (ix3 b s k)) s, ← cum_apply x g w f b s h hr, ← prod_apply]
  unfold val_main_v69
  rw [narrow]
  rw [queries_side, side_apply]
  by_cases hd : Dat h l
  · rw [dif_pos hd, if_pos hd, ← third_apply 0 (by decide) (val_main_v13 (F := Ideal) x g w) slices_S16x4096x3088_S16x4096x1024_0_0_0]
    unfold val_main_v39 val_main_v38 val_main_cst_11 val_main_v37
    generalize val_main_v13 (F := Ideal) x g w = p
    rfl
  · rw [dif_neg hd, if_neg hd]
    exact qfurther x g w f b s h _

/-- The keys. -/
theorem k_apply (b h : Fin 16) (s : Fin 4096) (l : Fin 128)
    (hr : ∀ s, Real' (prod (fun k => x (ix3 b s k)) (fun k => g (ix1 k)) (fun k => w (ix2 k (gateCol h))) + f (ix1 h))) :
    val_main_v70 (F := Ideal) x g w f (ix4 b h s l) = kEntry (seq fun s k => x (ix3 b s k)) (fun k => g (ix1 k)) (fun k j => w (ix2 k j)) (fun h => f (ix1 h)) h s.val l := by
  unfold kEntry klane
  rw [seq_apply (fun s k => x (ix3 b s k)) s, ← cum_apply x g w f b s h hr, ← prod_apply]
  unfold val_main_v70
  rw [narrow]
  rw [keys_side, side_apply]
  by_cases hd : Dat h l
  · rw [dif_pos hd, if_pos hd]
    exact third_apply 1024 (by decide) _ _ b s _
  · rw [dif_neg hd, if_neg hd]
    exact kfurther x g w f b s h _

/-- The values. -/
theorem v_apply (b h : Fin 16) (r : Fin 80) (s : Fin 4096) :
    val_main_v71 (F := Ideal) x g w (ix3 b ⟨80 * h.val + r.val, by omega⟩ s) = vEntry (seq fun s k => x (ix3 b s k)) (fun k => g (ix1 k)) (fun k j => w (ix2 k j)) h r s.val := by
  unfold vEntry
  unfold val_main_v71
  rw [narrow]
  unfold val_main_v68
  rw [block_apply]
  unfold val_main_v67
  by_cases hr : r.val < 64
  · rw [rows_low _ _ _ _ _ _ hr, dif_pos hr, seq_apply (fun s k => x (ix3 b s k)) s, ← prod_apply]
    unfold val_main_v65 val_main_v64 val_main_v63
    rw [turned_apply]
    exact third_apply 2048 (by decide) _ _ b s _
  · rw [rows_high _ _ _ _ _ _ (by omega), dif_neg hr]
    unfold val_main_v66 val_main_cst_12
    exact Ideal.ofBits_one_f32

end Cert.ProjRefIdeal.Rows

end
-- ==== Proof.ProjPre.lean ====
/-
  What the precondition of the projections says entry by entry: finite inputs, and the selector's first rows
  place a pair's two running sums in its lanes.
-/
module

public import proofs.«01_k».proof.Pre_proj_inputs
public import proofs.«01_k».proof.Proof.ProjSpec
public import Idealize.ShloMosaic.PureOps.Ideal
public import Idealize.ShloMosaic.Lib.Pointwise
public import Idealize.ShloMosaic.Lib.WordCmp
public import Idealize.ShloMosaic.Lib.Pipeline.Value

@[expose] public section

set_option maxRecDepth 16384

noncomputable section

namespace Cert.Pre_proj_inputs

open Idealize.ShloMosaic Cert.Proj.Spec

/-- The precondition's side conditions on shapes. -/
instance facts : Facts where
  bcast_S128_S128x1x1_0 := by decide
  bcast_S8_S1x8x1_1 := by decide
  bcast_S128_S1x1x128_2 := by decide
  bcast_S_S1x8x1 := by decide
  bcast_S128x1x1_S128x8x1_0_1_2 := by decide
  bcast_S1x8x1_S128x8x1_0_1_2 := by decide
  bcast_S_S1x1x128 := by decide
  bcast_S128x8x1_S128x8x128_0_1_2 := by decide
  bcast_S1x1x128_S128x8x128_0_1_2 := by decide
  slices_S384x1024_S128x1024_0_0 := by decide
  shapeCasts_S128x1024_S128x8x128 := by decide
  bcast_S_S128x8x128 := by decide
  bitsLt_bf16_f32 := by decide
  bcast_S_S16x4096x1024 := by decide
  bcast_S_S1024 := by decide
  slices_S1024x3088_S1024x16_0_3072 := by decide
  bcast_S_S1024x16 := by decide
  bcast_S_S16 := by decide

/-- The bound the absolute values are compared with is infinity. -/
theorem infinity : Ideal.ofBits .f32 0x7F800000#32 = ⊤ := by
  simp [Ideal.ofBits, Ideal.ieee]

/-- A number whose absolute value is below infinity is real. -/
theorem real_of_cmp (z : EReal) (h : Ideal.cmp .olt (max z (-z)) (Ideal.ofBits .f32 0x7F800000#32) = 1#1) : Real' z := by
  rw [infinity] at h
  have h' : max z (-z) < ⊤ := of_decide_eq_true ((WordCmp.ofBool_eq_one_iff _).mp h)
  refine real_of ⟨?_, ?_⟩
  · rintro rfl; simp at h'
  · rintro rfl; simp at h'

variable (x : FVec Ideal S16x4096x1024 .f32) (g : FVec Ideal S1024 .f32) (w : FVec Ideal S1024x3088 .f32) (f : FVec Ideal S16 .f32) (sel : FVec Ideal S384x1024 .bf16)

/-- The rows are finite. -/
theorem rows (h : (fn (F := Ideal) x g w f sel).1 = fun _ => 1#1) (y) : Real' (x y) := real_of_cmp _ (congrFun h y)

/-- The scale is finite. -/
theorem scale (h : (fn (F := Ideal) x g w f sel).2.1 = fun _ => 1#1) (y) : Real' (g y) := real_of_cmp _ (congrFun h y)

/-- The gates' weights are finite. -/
theorem weights (h : (fn (F := Ideal) x g w f sel).2.2.1 = fun _ => 1#1) (k : Fin 1024) (a : Fin 16) : Real' (w (ix2 k (gateCol a))) := by
  have e : extractStridedSlice S1024x16 ![0, 3072] w facts.slices_S1024x3088_S1024x16_0_3072 (ix2 k a) = w (ix2 k (gateCol a)) := by
    refine extractStridedSlice_apply _ _ _ _ (ix2 k (gateCol a)) fun c => ?_
    match c with
    | ⟨0, _⟩ => show k.val = 0 + k.val; omega
    | ⟨1, _⟩ => rfl
  rw [← e]
  exact real_of_cmp _ (congrFun h (ix2 k a))

/-- The gates' bias is finite. -/
theorem bias (h : (fn (F := Ideal) x g w f sel).2.2.2.1 = fun _ => 1#1) (y) : Real' (f y) := real_of_cmp _ (congrFun h y)

/-- The bit of a place of the selector. -/
def bit (a t l : ℕ) : BitVec 1 :=
  IntOp.ori
    (IntOp.andi (IntOp.cmpi .eq (BitVec.ofNat 32 a) (IntOp.muli 2#32 (BitVec.ofNat 32 t)))
      (IntOp.ori (IntOp.cmpi .eq (BitVec.ofNat 32 l) 64#32) (IntOp.cmpi .eq (BitVec.ofNat 32 l) 67#32)))
    (IntOp.andi (IntOp.cmpi .eq (BitVec.ofNat 32 a) (IntOp.addi (IntOp.muli 2#32 (BitVec.ofNat 32 t)) 1#32))
      (IntOp.ori (IntOp.cmpi .eq (BitVec.ofNat 32 l) 0#32) (IntOp.cmpi .eq (BitVec.ofNat 32 l) 3#32)))

/-- Two bits' disjunction. -/
theorem or_one : ∀ p q : BitVec 1, IntOp.ori p q = 1#1 ↔ (p = 1#1 ∨ q = 1#1) := by decide

/-- Two bits' conjunction. -/
theorem and_one : ∀ p q : BitVec 1, IntOp.andi p q = 1#1 ↔ (p = 1#1 ∧ q = 1#1) := by decide

/-- The comparison of small numbers. -/
theorem eq_one {a c : ℕ} (ha : a < 1000) (hc : c < 1000) : IntOp.cmpi .eq (BitVec.ofNat 32 a) (BitVec.ofNat 32 c) = 1#1 ↔ a = c := by
  refine (WordCmp.ofBool_eq_one_iff _).trans ?_
  refine (beq_iff_eq).trans ⟨fun h => ?_, fun h => by rw [h]⟩
  have e := congrArg BitVec.toNat h
  rw [BitVec.toNat_ofNat, BitVec.toNat_ofNat] at e
  omega

/-- It says what its name says. -/
theorem bit_one (a : Fin 128) (t : Fin 8) (l : Fin 128) :
    bit a.val t.val l.val = 1#1 ↔ (a.val = 2 * t.val ∧ (l.val = 64 ∨ l.val = 67)) ∨ (a.val = 2 * t.val + 1 ∧ (l.val = 0 ∨ l.val = 3)) := by
  unfold bit
  rw [show IntOp.muli 2#32 (BitVec.ofNat 32 t.val) = BitVec.ofNat 32 (2 * t.val) from by revert t; decide,
    show IntOp.addi (BitVec.ofNat 32 (2 * t.val)) 1#32 = BitVec.ofNat 32 (2 * t.val + 1) from by revert t; decide]
  rw [or_one, and_one, and_one, or_one, or_one, eq_one (by omega) (by omega), eq_one (by omega) (by omega), eq_one (by omega) (by omega), eq_one (by omega) (by omega),
    eq_one (by omega) (by omega), eq_one (by omega) (by omega)]

/-- The selector's first rows, by pair and lane. -/
theorem head_apply (a : Fin 128) (t : Fin 8) (l : Fin 128) :
    shapeCast S128x8x128 (extractStridedSlice S128x1024 ![0, 0] sel facts.slices_S384x1024_S128x1024_0_0) facts.shapeCasts_S128x1024_S128x8x128 (ix3 a t l)
      = sel (ix2 ⟨a.val, by omega⟩ ⟨128 * t.val + l.val, by omega⟩) := by
  refine (shapeCast_apply _ _ _ (ix2 a ⟨128 * t.val + l.val, by omega⟩) ?_).trans (extractStridedSlice_apply _ _ _ _ _ fun c => ?_)
  · refine (Shape.rowMajor_val_two (d := ![128, 1024]) _).trans ((Shape.rowMajor_val_three (d := ![128, 8, 128]) _).trans ?_).symm
    show (a.val * 8 + t.val) * 128 + l.val = a.val * 1024 + (128 * t.val + l.val)
    omega
  · match c with
    | ⟨0, _⟩ => show a.val = 0 + a.val; omega
    | ⟨1, _⟩ => show 128 * t.val + l.val = 0 + (128 * t.val + l.val); omega

/-- The selector's first rows place the running sums. -/
theorem placed (h : (fn (F := Ideal) x g w f sel).2.2.2.2 = fun _ => 1#1) : Placed fun i j => sel (ix2 i j) := fun a t l => by
  have e : Ideal.cmp .oeq (shapeCast S128x8x128 (extractStridedSlice S128x1024 ![0, 0] sel facts.slices_S384x1024_S128x1024_0_0) facts.shapeCasts_S128x1024_S128x8x128 (ix3 a t l))
      (if bit a.val t.val l.val = 1#1 then Ideal.ofBits .f32 0x3F800000#32 else Ideal.ofBits .f32 0x00000000#32) = 1#1 := congrFun h (ix3 a t l)
  rw [head_apply, Ideal.ofBits_one_f32, Ideal.ofBits_zero_f32] at e
  have e' := of_decide_eq_true ((WordCmp.ofBool_eq_one_iff _).mp e)
  refine e'.trans ?_
  simp only [bit_one]

end Cert.Pre_proj_inputs
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnKernel
public import proofs.«01_k».proof.Proof.FfnRef
public import proofs.«01_k».proof.Proof.Gen.Flash
public import proofs.«01_k».proof.Proof.Gen.Flash.Skeleton
public import proofs.«01_k».proof.Proof.Gen.Flash.Launch
public import proofs.«01_k».proof.Proof.Gen.Flash.Points
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Launch
public import proofs.«01_k».proof.Proof.Gen.FlashIdeal.Points
public import proofs.«01_k».proof.Proof.Gen.FlashIdeal.Frame
public import proofs.«01_k».proof.Proof.Gen.FlashRefIdeal
public import proofs.«01_k».proof.Proof.Gen.FlashIdeal.Value
public import proofs.«01_k».proof.Proof.Gen.FlashRefIdeal.Run
public import proofs.«01_k».proof.Proof.Gen.FlashRefIdeal.Read
public import proofs.«01_k».proof.Proof.FlashKernel
public import proofs.«01_k».proof.Proof.FlashRef
public import proofs.«01_k».proof.Proof.FlashPre
public import proofs.«01_k».proof.Proof.Gen.FfnPlain
public import proofs.«01_k».proof.Proof.Gen.FfnPlain.Skeleton
public import proofs.«01_k».proof.Proof.Gen.FfnPlain.Launch
public import proofs.«01_k».proof.Proof.Gen.FfnPlain.Points
public import proofs.«01_k».proof.Proof.Gen.FfnPlain.Frame
public import proofs.«01_k».proof.Proof.Gen.FfnPlainIdeal
public import proofs.«01_k».proof.Proof.Gen.FfnPlainIdeal.Skeleton
public import proofs.«01_k».proof.Proof.Gen.FfnPlainIdeal.Launch
public import proofs.«01_k».proof.Proof.Gen.FfnPlainIdeal.Points
public import proofs.«01_k».proof.Proof.Gen.FfnPlainIdeal.Frame
public import proofs.«01_k».proof.Proof.Gen.FfnPlainIdeal.Value
public import proofs.«01_k».proof.Proof.Gen.FfnPlainRefIdeal
public import proofs.«01_k».proof.Proof.Gen.FfnPlainRefIdeal.Run
public import proofs.«01_k».proof.Proof.Gen.FfnPlainRefIdeal.Read
public import proofs.«01_k».proof.Proof.Gen.FfnAttn
public import proofs.«01_k».proof.Proof.Gen.FfnAttn.Skeleton
public import proofs.«01_k».proof.Proof.Gen.FfnAttn.Launch
public import proofs.«01_k».proof.Proof.Gen.FfnAttn.Points
public import proofs.«01_k».proof.Proof.Gen.FfnAttn.Frame
public import proofs.«01_k».proof.Proof.Gen.FfnAttnIdeal
public import proofs.«01_k».proof.Proof.Gen.FfnAttnIdeal.Skeleton
public import proofs.«01_k».proof.Proof.Gen.FfnAttnIdeal.Launch
public import proofs.«01_k».proof.Proof.Gen.FfnAttnIdeal.Points
public import proofs.«01_k».proof.Proof.Gen.FfnAttnIdeal.Frame
public import proofs.«01_k».proof.Proof.Gen.FfnAttnIdeal.Value
public import proofs.«01_k».proof.Proof.Gen.FfnAttnRefIdeal
public import proofs.«01_k».proof.Proof.Gen.FfnAttnRefIdeal.Run
public import proofs.«01_k».proof.Proof.Gen.FfnAttnRefIdeal.Read
public import proofs.«01_k».proof.Proof.FfnPlainKernel
public import proofs.«01_k».proof.Proof.FfnPlainRef
public import proofs.«01_k».proof.Proof.FfnAttnKernel
public import proofs.«01_k».proof.Proof.FfnAttnRef
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.ConvKernel
public import proofs.«01_k».proof.Proof.ConvRef
public import proofs.«01_k».proof.Proof.PoolKernel
public import proofs.«01_k».proof.Proof.PoolRef
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.ProjResult
public import proofs.«01_k».proof.Proof.ProjRef
public import proofs.«01_k».proof.Proof.ProjPre
public import Idealize.ShloMosaic.Adequacy
public import Idealize.ShloMosaic.Init
public import Idealize.ShloMosaic.Lib.Quiescent

@[expose] public section

noncomputable section

namespace Cert.Proof

open Idealize.ShloMosaic Idealize.SL.Sem Cert.Ffn

/-- The reference of the feed-forward layer terminates and leaves its arguments as they were. -/
theorem ffn_reference_frame : Cert.quiescent_FfnRefIdeal := fun m ρ _ =>
  (θ_run _ _ _).mono (fun r h => ⟨fun c => (h c).2, sem_eq_zero_of_no_sems (by decide) r.2⟩)
    (Cert.FfnRefIdeal.Value.run m ρ)

/-- Kernel and reference of the feed-forward layer leave the same array. -/
theorem ffn_algebraic : Cert.algebraic_FfnIdeal_FfnRefIdeal := fun m ρ m' ρ' _ hag =>
  ⟨fun c => (Cert.FfnIdeal.Gen.dats m 0 c).arrAt 6 Cert.FfnIdeal.cfg0.N, Cert.FfnIdeal.Value.run_blocks m ρ,
    (θ_run _ _ _).mono (fun _ h c => ⟨(h c).1.trans (by
      rw [Cert.FfnRefIdeal.Read.val_main_v34_eq, (hag c).1, (hag c).2.1, (hag c).2.2.1, (hag c).2.2.2.1, (hag c).2.2.2.2.1, (hag c).2.2.2.2.2]
      funext i
      obtain ⟨n, k, rfl⟩ : ∃ (n : Fin 65536) (k : Fin 1024), i = ix2 n k := ⟨i 0, i 1, eq_ix2 i⟩
      exact (Cert.FfnRefIdeal.Rows.result_apply _ _ _ _ _ _ n k).trans (Cert.FfnIdeal.Rows.final_apply m c n k).symm), (h c).2⟩)
    (Cert.FfnRefIdeal.Value.run m' ρ')⟩

/-- The reference of the attention terminates and leaves its arguments as they were. -/
theorem flash_reference_frame : Cert.quiescent_FlashRefIdeal := fun m ρ _ =>
  (θ_run _ _ _).mono (fun r h => ⟨fun c => (h c).2, sem_eq_zero_of_no_sems (by decide) r.2⟩)
    (Cert.FlashRefIdeal.Value.run m ρ)

/-- Kernel and reference of the attention leave the same array. -/
theorem flash_algebraic : Cert.algebraic_FlashIdeal_FlashRefIdeal_pre_flash_inputs := fun m ρ m' ρ' hpre hag =>
  ⟨fun c => (Cert.FlashIdeal.Gen.dats m 0 c).arrAt 3 Cert.FlashIdeal.cfg0.N, Cert.FlashIdeal.Value.run_blocks m ρ,
    (θ_run _ _ _).mono (fun _ h c => ⟨(h c).1.trans (by
      rw [Cert.FlashRefIdeal.Read.val_main_v26_eq, (hag c).1, (hag c).2.1, (hag c).2.2]
      refine Eq.trans ?_ (Cert.FlashIdeal.Rows.final m c (Cert.Pre_flash_inputs.queries _ _ _ (hpre c).1) (Cert.Pre_flash_inputs.keys _ _ _ (hpre c).2.1)
        (Cert.Pre_flash_inputs.ones _ _ _ (hpre c).2.2)).symm
      funext y
      obtain ⟨b, n, i, rfl⟩ : ∃ (b : Fin 16) (n : Fin 1024) (i : Fin 4096), y = ix3 b n i := ⟨y 0, y 1, y 2, eq_ix3 y⟩
      exact Cert.FlashRefIdeal.Rows.result_apply _ _ _ b n i), (h c).2⟩)
    (Cert.FlashRefIdeal.Value.run m' ρ')⟩

/-- The reference of the feed-forward layer without the last normalisation terminates and leaves its arguments as they were. -/
theorem ffn_plain_reference_frame : Cert.quiescent_FfnPlainRefIdeal := fun m ρ _ =>
  (θ_run _ _ _).mono (fun r h => ⟨fun c => (h c).2, sem_eq_zero_of_no_sems (by decide) r.2⟩)
    (Cert.FfnPlainRefIdeal.Value.run m ρ)

/-- Kernel and reference of the feed-forward layer without the last normalisation leave the same array. -/
theorem ffn_plain_algebraic : Cert.algebraic_FfnPlainIdeal_FfnPlainRefIdeal := fun m ρ m' ρ' _ hag =>
  ⟨fun c => (Cert.FfnPlainIdeal.Gen.dats m 0 c).arrAt 5 Cert.FfnPlainIdeal.cfg0.N, Cert.FfnPlainIdeal.Value.run_blocks m ρ,
    (θ_run _ _ _).mono (fun _ h c => ⟨(h c).1.trans (by
      rw [Cert.FfnPlainRefIdeal.Read.val_main_v21_eq, (hag c).1, (hag c).2.1, (hag c).2.2.1, (hag c).2.2.2.1, (hag c).2.2.2.2]
      funext i
      obtain ⟨n, k, rfl⟩ : ∃ (n : Fin 65536) (k : Fin 1024), i = ix2 n k := ⟨i 0, i 1, eq_ix2 i⟩
      exact (Cert.FfnPlainRefIdeal.Rows.result_apply _ _ _ _ _ n k).trans (Cert.FfnPlainIdeal.Rows.final_apply m c n k).symm), (h c).2⟩)
    (Cert.FfnPlainRefIdeal.Value.run m' ρ')⟩

/-- The reference of the feed-forward layer after the attention's output product terminates and leaves its arguments as they were. -/
theorem ffn_attn_reference_frame : Cert.quiescent_FfnAttnRefIdeal := fun m ρ _ =>
  (θ_run _ _ _).mono (fun r h => ⟨fun c => (h c).2, sem_eq_zero_of_no_sems (by decide) r.2⟩)
    (Cert.FfnAttnRefIdeal.Value.run m ρ)

/-- Kernel and reference of the feed-forward layer after the attention's output product leave the same array. -/
theorem ffn_attn_algebraic : Cert.algebraic_FfnAttnIdeal_FfnAttnRefIdeal := fun m ρ m' ρ' _ hag =>
  ⟨fun c => (Cert.FfnAttnIdeal.Gen.dats m 0 c).arrAt 7 Cert.FfnAttnIdeal.cfg0.N, Cert.FfnAttnIdeal.Value.run_blocks m ρ,
    (θ_run _ _ _).mono (fun _ h c => ⟨(h c).1.trans (by
      rw [Cert.FfnAttnRefIdeal.Read.val_main_v25_eq, (hag c).1, (hag c).2.1, (hag c).2.2.1, (hag c).2.2.2.1, (hag c).2.2.2.2.1, (hag c).2.2.2.2.2.1, (hag c).2.2.2.2.2.2]
      funext i
      obtain ⟨n, k, rfl⟩ : ∃ (n : Fin 65536) (k : Fin 1024), i = ix2 n k := ⟨i 0, i 1, eq_ix2 i⟩
      exact (Cert.FfnAttnRefIdeal.Rows.result_apply _ _ _ _ _ _ _ n k).trans (Cert.FfnAttnIdeal.Rows.final_apply m c n k).symm), (h c).2⟩)
    (Cert.FfnAttnRefIdeal.Value.run m' ρ')⟩

/-- The reference of the convolution mixer terminates and leaves its arguments as they were. -/
theorem conv_reference_frame : Cert.quiescent_ConvRefIdeal := fun m ρ _ =>
  (θ_run _ _ _).mono (fun r h => ⟨fun c => (h c).2, sem_eq_zero_of_no_sems (by decide) r.2⟩)
    (Cert.ConvRefIdeal.Value.run m ρ)

/-- Kernel and reference of the convolution mixer leave the same array. -/
theorem conv_algebraic : Cert.algebraic_ConvIdeal_ConvRefIdeal := fun m ρ m' ρ' _ hag =>
  ⟨fun c => (Cert.ConvIdeal.Gen.dats m 0 c).arrAt 9 Cert.ConvIdeal.cfg0.N, Cert.ConvIdeal.Value.run_blocks m ρ,
    (θ_run _ _ _).mono (fun _ h c => ⟨(h c).1.trans (by
      have e0 : StableHlo.launchContents m' c (Proc.tc.devRef Cert.ConvRefIdeal.main_arg0) = _ := (hag c).1
      have e1 : StableHlo.launchContents m' c (Proc.tc.devRef Cert.ConvRefIdeal.main_arg1) = _ := (hag c).2.1
      have e2 : StableHlo.launchContents m' c (Proc.tc.devRef Cert.ConvRefIdeal.main_arg2) = _ := (hag c).2.2.1
      have e3 : StableHlo.launchContents m' c (Proc.tc.devRef Cert.ConvRefIdeal.main_arg3) = _ := (hag c).2.2.2.1
      have e4 : StableHlo.launchContents m' c (Proc.tc.devRef Cert.ConvRefIdeal.main_arg4) = _ := (hag c).2.2.2.2.1
      have e5 : StableHlo.launchContents m' c (Proc.tc.devRef Cert.ConvRefIdeal.main_arg5) = _ := (hag c).2.2.2.2.2.1
      have e6 : StableHlo.launchContents m' c (Proc.tc.devRef Cert.ConvRefIdeal.main_arg6) = _ := (hag c).2.2.2.2.2.2.1
      have e7 : StableHlo.launchContents m' c (Proc.tc.devRef Cert.ConvRefIdeal.main_arg7) = _ := (hag c).2.2.2.2.2.2.2.1
      have e8 : StableHlo.launchContents m' c (Proc.tc.devRef Cert.ConvRefIdeal.main_arg8) = _ := (hag c).2.2.2.2.2.2.2.2
      rw [Cert.ConvRefIdeal.Read.val_main_v272_eq, e0, e1, e2, e3, e4, e5, e6, e7, e8]
      funext i
      obtain ⟨b, s, k, rfl⟩ : ∃ (b : Fin 16) (s : Fin 4096) (k : Fin 1024), i = ix3 b s k := ⟨i 0, i 1, i 2, eq_ix3 i⟩
      exact (Cert.ConvRefIdeal.Rows.result_apply _ _ _ _ _ _ _ _ _ b s k).trans (Cert.ConvIdeal.Rows.final_apply m c b s k).symm), (h c).2⟩)
    (Cert.ConvRefIdeal.Value.run m' ρ')⟩

/-- The reference of the pooling mixer terminates and leaves its arguments as they were. -/
theorem pool_reference_frame : Cert.quiescent_PoolRefIdeal := fun m ρ _ =>
  (θ_run _ _ _).mono (fun r h => ⟨fun c => (h c).2, sem_eq_zero_of_no_sems (by decide) r.2⟩)
    (Cert.PoolRefIdeal.Value.run m ρ)

/-- Kernel and reference of the pooling mixer leave the same array. -/
theorem pool_algebraic : Cert.algebraic_PoolIdeal_PoolRefIdeal := fun m ρ m' ρ' _ hag =>
  ⟨fun c => (Cert.PoolIdeal.Gen.dats m 0 c).arrAt 4 Cert.PoolIdeal.cfg0.N, Cert.PoolIdeal.Value.run_blocks m ρ,
    (θ_run _ _ _).mono (fun _ h c => ⟨(h c).1.trans (by
      rw [Cert.PoolRefIdeal.Read.val_main_v125_eq, (hag c).1, (hag c).2.1, (hag c).2.2.1, (hag c).2.2.2]
      funext i
      obtain ⟨b, s, k, rfl⟩ : ∃ (b : Fin 16) (s : Fin 4096) (k : Fin 1024), i = ix3 b s k := ⟨i 0, i 1, i 2, eq_ix3 i⟩
      obtain ⟨q, j, rfl⟩ := Cert.Pool.Spec.exists_col k
      exact (Cert.PoolRefIdeal.Rows.result_apply _ _ _ _ b s q j).trans (Cert.PoolIdeal.Rows.final_apply m c b s q j).symm), (h c).2⟩)
    (Cert.PoolRefIdeal.Value.run m' ρ')⟩

/-- The reference of the projections terminates and leaves its arguments as they were. -/
theorem proj_reference_frame : Cert.quiescent_ProjRefIdeal := fun m ρ _ =>
  (θ_run _ _ _).mono (fun r h => ⟨fun c => (h c).2.2.2, sem_eq_zero_of_no_sems (by decide) r.2⟩)
    (Cert.ProjRefIdeal.Value.run m ρ)

/-- Kernel and reference of the projections leave the same three arrays. -/
theorem proj_algebraic : Cert.algebraic_ProjIdeal_ProjRefIdeal_pre_proj_inputs := fun m ρ m' ρ' hpre hag =>
  have r0 := fun c (b : Fin 16) (s : Fin 4096) (k : Fin 1024) => Cert.Pre_proj_inputs.rows _ _ _ _ _ (hpre c).1 (ix3 b s k)
  have r1 := fun c (k : Fin 1024) => Cert.Pre_proj_inputs.scale _ _ _ _ _ (hpre c).2.1 (ix1 k)
  have r2 := fun c (k : Fin 1024) (n : Fin 16) => Cert.Pre_proj_inputs.weights _ _ _ _ _ (hpre c).2.2.1 k n
  have r3 := fun c (h : Fin 16) => Cert.Pre_proj_inputs.bias _ _ _ _ _ (hpre c).2.2.2.1 (ix1 h)
  have hs := fun c => Cert.Pre_proj_inputs.placed _ _ _ _ _ (hpre c).2.2.2.2
  ⟨fun c => (Cert.ProjIdeal.Gen.dats m 0 c).arrAt 7 Cert.ProjIdeal.cfg0.N, fun c => (Cert.ProjIdeal.Gen.dats m 0 c).arrAt 8 Cert.ProjIdeal.cfg0.N,
    fun c => (Cert.ProjIdeal.Gen.dats m 0 c).arrAt 9 Cert.ProjIdeal.cfg0.N, Cert.ProjIdeal.Value.run_blocks m ρ,
    (θ_run _ _ _).mono (fun _ h c => ⟨(h c).1.trans (by
      rw [Cert.ProjRefIdeal.Read.val_main_v69_eq, (hag c).1, (hag c).2.1, (hag c).2.2.1, (hag c).2.2.2.1]
      funext i
      obtain ⟨b, n, s, l, rfl⟩ : ∃ (b n : Fin 16) (s : Fin 4096) (l : Fin 128), i = ix4 b n s l := ⟨i 0, i 1, i 2, i 3, eq_ix4 i⟩
      exact (Cert.ProjRefIdeal.Rows.q_apply _ _ _ _ b n s l fun s => (Cert.Proj.Spec.prod_real (r0 c b s) (r1 c) fun k => r2 c k n).add (r3 c n)).trans
        (Cert.ProjIdeal.Rows.q_apply m c (r0 c) (r1 c) (r2 c) (r3 c) (hs c) b n s l).symm), (h c).2.1.trans (by
      rw [Cert.ProjRefIdeal.Read.val_main_v70_eq, (hag c).1, (hag c).2.1, (hag c).2.2.1, (hag c).2.2.2.1]
      funext i
      obtain ⟨b, n, s, l, rfl⟩ : ∃ (b n : Fin 16) (s : Fin 4096) (l : Fin 128), i = ix4 b n s l := ⟨i 0, i 1, i 2, i 3, eq_ix4 i⟩
      exact (Cert.ProjRefIdeal.Rows.k_apply _ _ _ _ b n s l fun s => (Cert.Proj.Spec.prod_real (r0 c b s) (r1 c) fun k => r2 c k n).add (r3 c n)).trans
        (Cert.ProjIdeal.Rows.k_apply m c (r0 c) (r1 c) (r2 c) (r3 c) (hs c) b n s l).symm), (h c).2.2.1.trans ((Cert.ProjRefIdeal.Read.val_main_v71_eq _ _ _).trans (by
      rw [(hag c).1, (hag c).2.1, (hag c).2.2.1]
      funext i
      obtain ⟨b, y, s, rfl⟩ : ∃ (b : Fin 16) (y : Fin 1280) (s : Fin 4096), i = ix3 b y s := ⟨i 0, i 1, i 2, eq_ix3 i⟩
      obtain ⟨n, r, rfl⟩ := Cert.ProjIdeal.Rows.exists_row y
      exact (Cert.ProjRefIdeal.Rows.v_apply _ _ _ b n r s).trans (Cert.ProjIdeal.Rows.v_apply m c b n r s).symm)), (h c).2.2.2⟩)
    (Cert.ProjRefIdeal.Value.run m' ρ')⟩

/-- Everything the definitions claim. -/
theorem claim : Cert.Claim := ⟨Cert.Ffn.Gen.facts, Cert.FfnIdeal.Gen.facts, Cert.FfnRefIdeal.Gen.facts,
  Cert.Flash.Gen.facts, Cert.FlashIdeal.Gen.facts, Cert.FlashRefIdeal.Gen.facts,
  Cert.FfnPlain.Gen.facts, Cert.FfnPlainIdeal.Gen.facts, Cert.FfnPlainRefIdeal.Gen.facts,
  Cert.FfnAttn.Gen.facts, Cert.FfnAttnIdeal.Gen.facts, Cert.FfnAttnRefIdeal.Gen.facts,
  Cert.Conv.Gen.facts, Cert.ConvIdeal.Gen.facts, Cert.ConvRefIdeal.Gen.facts,
  Cert.Pool.Gen.facts, Cert.PoolIdeal.Gen.facts, Cert.PoolRefIdeal.Gen.facts,
  Cert.Proj.Gen.facts, Cert.ProjIdeal.Gen.facts, Cert.ProjRefIdeal.Gen.facts, Cert.Pre_flash_inputs.facts, Cert.Pre_proj_inputs.facts,
  fun m ρ _ => Cert.Ffn.Gen.frame m ρ,
  fun m ρ _ => Cert.FfnIdeal.Gen.frame m ρ,
  ffn_reference_frame,
  fun m ρ _ => Cert.Flash.Gen.frame m ρ,
  fun m ρ _ => Cert.FlashIdeal.Gen.frame m ρ,
  fun m ρ _ => Cert.FlashIdeal.Gen.frame m ρ,
  flash_reference_frame,
  fun m ρ _ => flash_reference_frame m ρ trivial,
  fun m ρ _ => Cert.FfnPlain.Gen.frame m ρ,
  fun m ρ _ => Cert.FfnPlainIdeal.Gen.frame m ρ,
  ffn_plain_reference_frame,
  fun m ρ _ => Cert.FfnAttn.Gen.frame m ρ,
  fun m ρ _ => Cert.FfnAttnIdeal.Gen.frame m ρ,
  ffn_attn_reference_frame,
  fun m ρ _ => Cert.Conv.Gen.frame m ρ,
  fun m ρ _ => Cert.ConvIdeal.Gen.frame m ρ,
  conv_reference_frame,
  fun m ρ _ => Cert.Pool.Gen.frame m ρ,
  fun m ρ _ => Cert.PoolIdeal.Gen.frame m ρ,
  pool_reference_frame,
  fun m ρ _ => Cert.Proj.Gen.frame m ρ,
  fun m ρ _ => Cert.ProjIdeal.Gen.frame m ρ,
  fun m ρ _ => Cert.ProjIdeal.Gen.frame m ρ,
  proj_reference_frame,
  fun m ρ _ => proj_reference_frame m ρ trivial,
  trivial, ffn_algebraic, trivial, flash_algebraic, trivial, ffn_plain_algebraic, trivial, ffn_attn_algebraic, trivial, conv_algebraic,
  trivial, pool_algebraic, trivial, proj_algebraic⟩

end Cert.Proof

end
